-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_below_inf [hPre_below_inf : Cert.Pre_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf [hPre_below_inf : Cert.Pre_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_below_inf [hKernelIdeal : Cert.KernelIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_below_inf [hReferenceIdeal : Cert.ReferenceIdeal.Facts] [hPre_below_inf : Cert.Pre_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_below_inf [hKernelIdeal : Cert.KernelIdeal.Facts] [hReferenceIdeal : Cert.ReferenceIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_below_inf : Cert.Pre_below_inf.Facts),
    quiescent_Kernel (hKernel := hKernel) (hPre_in_range := hPre_in_range)
    ∧ quiescent_KernelIdeal (hKernelIdeal := hKernelIdeal) (hPre_in_range := hPre_in_range)
    ∧ quiescent_KernelIdeal_pre_below_inf (hKernelIdeal := hKernelIdeal) (hPre_below_inf := hPre_below_inf)
    ∧ quiescent_ReferenceIdeal (hReferenceIdeal := hReferenceIdeal)
    ∧ quiescent_ReferenceIdeal_pre_below_inf (hReferenceIdeal := hReferenceIdeal) (hPre_below_inf := hPre_below_inf)
    ∧ preserves_Kernel_KernelIdeal
    ∧ algebraic_KernelIdeal_ReferenceIdeal_pre_below_inf (hKernelIdeal := hKernelIdeal) (hReferenceIdeal := hReferenceIdeal) (hPre_below_inf := hPre_below_inf)
-- ==== Pre_below_inf.lean ====
abbrev S32x512 : Shape := ⟨2, ![32, 512]⟩
abbrev S8192x8192 : Shape := ⟨2, ![8192, 8192]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S32x512 32) (main_arg1 : IVec S32x512 32) (main_arg2 : FVec F S8192x8192 .f32) : IVec S_ 1 :=
  let main_c : IVec S_ 32 := constantI S_ 32 0#32
  let main_v0 : IVec S32x512 32 := broadcastInDim S32x512 ![] bcast_S_S32x512 main_c
  let main_v1 : IVec S32x512 1 := cmpi .sge main_arg0 main_v0
  let main_c_0 : IVec S_ 32 := constantI S_ 32 8192#32
  let main_v2 : IVec S32x512 32 := broadcastInDim S32x512 ![] bcast_S_S32x512 main_c_0
  let main_v3 : IVec S32x512 1 := cmpi .slt main_arg0 main_v2
  let main_v4 : IVec S32x512 1 := andi main_v1 main_v3
  let main_c_1 : IVec S_ 1 := constantI S_ 1 1#1
  let main_v5 : IVec S_ 1 := (fun x v => Host.reduce IntOp.andi x v reducesTo_S32x512_S_d0_1 h_S_) main_v4 main_c_1
  let main_c_2 : IVec S_ 32 := constantI S_ 32 0#32
  let main_v6 : IVec S32x512 32 := broadcastInDim S32x512 ![] bcast_S_S32x512 main_c_2
  let main_v7 : IVec S32x512 1 := cmpi .sge main_arg1 main_v6
  let main_c_3 : IVec S_ 32 := constantI S_ 32 8192#32
  let main_v8 : IVec S32x512 32 := broadcastInDim S32x512 ![] bcast_S_S32x512 main_c_3
  let main_v9 : IVec S32x512 1 := cmpi .slt main_arg1 main_v8
  let main_v10 : IVec S32x512 1 := andi main_v7 main_v9
  let main_c_4 : IVec S_ 1 := constantI S_ 1 1#1
  let main_v11 : IVec S_ 1 := (fun x v => Host.reduce IntOp.andi x v reducesTo_S32x512_S_d0_1 h_S_) main_v10 main_c_4
  let main_v12 : IVec S_ 1 := andi main_v5 main_v11
  let main_cst : FVec F S_ .f32 := constant S_ .f32 0x7F800000#32
  let main_v13 : FVec F S8192x8192 .f32 := broadcastInDim S8192x8192 ![] bcast_S_S8192x8192 main_cst
  let main_v14 : IVec S8192x8192 1 := cmpf .olt main_arg2 main_v13
  let main_c_5 : IVec S_ 1 := constantI S_ 1 1#1
  let main_v15 : IVec S_ 1 := (fun x v => Host.reduce IntOp.andi x v reducesTo_S8192x8192_S_d0_1 h_S_) main_v14 main_c_5
  fn_part1 (F := F) main_v12 main_v15
-- ==== Pre_in_range.lean ====
abbrev S32x512 : Shape := ⟨2, ![32, 512]⟩
abbrev S8192x8192 : Shape := ⟨2, ![8192, 8192]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel

variable [Facts]

def fn {F : FTy → Type} [FloatOps F] (main_arg0 : IVec S32x512 32) (main_arg1 : IVec S32x512 32) (main_arg2 : FVec F S8192x8192 .f32) : IVec S_ 1 :=
  let main_c : IVec S_ 32 := constantI S_ 32 0#32
  let main_v0 : IVec S32x512 32 := broadcastInDim S32x512 ![] bcast_S_S32x512 main_c
  let main_v1 : IVec S32x512 1 := cmpi .sge main_arg0 main_v0
  let main_c_0 : IVec S_ 32 := constantI S_ 32 8192#32
  let main_v2 : IVec S32x512 32 := broadcastInDim S32x512 ![] bcast_S_S32x512 main_c_0
  let main_v3 : IVec S32x512 1 := cmpi .slt main_arg0 main_v2
  let main_v4 : IVec S32x512 1 := andi main_v1 main_v3
  let main_c_1 : IVec S_ 1 := constantI S_ 1 1#1
  let main_v5 : IVec S_ 1 := (fun x v => Host.reduce IntOp.andi x v reducesTo_S32x512_S_d0_1 h_S_) main_v4 main_c_1
  let main_c_2 : IVec S_ 32 := constantI S_ 32 0#32
  let main_v6 : IVec S32x512 32 := broadcastInDim S32x512 ![] bcast_S_S32x512 main_c_2
  let main_v7 : IVec S32x512 1 := cmpi .sge main_arg1 main_v6
  let main_c_3 : IVec S_ 32 := constantI S_ 32 8192#32
  let main_v8 : IVec S32x512 32 := broadcastInDim S32x512 ![] bcast_S_S32x512 main_c_3
  let main_v9 : IVec S32x512 1 := cmpi .slt main_arg1 main_v8
  let main_v10 : IVec S32x512 1 := andi main_v7 main_v9
  let main_c_4 : IVec S_ 1 := constantI S_ 1 1#1
  let main_v11 : IVec S_ 1 := (fun x v => Host.reduce IntOp.andi x v reducesTo_S32x512_S_d0_1 h_S_) main_v10 main_c_4
  let main_v12 : IVec S_ 1 := andi main_v5 main_v11
  main_v12
-- ==== Kernel.lean ====
abbrev S32x512 : Shape := ⟨2, ![32, 512]⟩
abbrev S8192x8192 : Shape := ⟨2, ![8192, 8192]⟩
abbrev S16384 : Shape := ⟨1, ![16384]⟩
abbrev S16384x8192 : Shape := ⟨2, ![16384, 8192]⟩
abbrev S1x1 : Shape := ⟨2, ![1, 1]⟩
abbrev S256x8192 : Shape := ⟨2, ![256, 8192]⟩
abbrev S96x8x8192 : Shape := ⟨3, ![96, 8, 8192]⟩
abbrev S96 : Shape := ⟨1, ![96]⟩
abbrev S8x32 : Shape := ⟨2, ![8, 32]⟩
abbrev S8x128 : Shape := ⟨2, ![8, 128]⟩
abbrev S1 : Shape := ⟨1, ![1]⟩
abbrev S_ : Shape := ⟨0, ![]⟩
abbrev S1x1x8192 : Shape := ⟨3, ![1, 1, 8192]⟩
abbrev S1x8192 : Shape := ⟨2, ![1, 8192]⟩
abbrev S8x8192 : Shape := ⟨2, ![8, 8192]⟩
abbrev S8x1 : Shape := ⟨2, ![8, 1]⟩
abbrev S1x8x8192 : Shape := ⟨3, ![1, 8, 8192]⟩
abbrev S8x4096 : Shape := ⟨2, ![8, 4096]⟩
abbrev S8x2048 : Shape := ⟨2, ![8, 2048]⟩
abbrev S8x1024 : Shape := ⟨2, ![8, 1024]⟩
abbrev S8x512 : Shape := ⟨2, ![8, 512]⟩
abbrev S8x256 : Shape := ⟨2, ![8, 256]⟩
abbrev S8 : Shape := ⟨1, ![8]⟩
abbrev S1x8x32 : Shape := ⟨3, ![1, 8, 32]⟩
abbrev S1x1x1 : Shape := ⟨3, ![1, 1, 1]⟩
abbrev S1x8x128 : Shape := ⟨3, ![1, 8, 128]⟩

abbrev nBuf : Space → Nat
  | .hbm => 6
  | .vmem => 6
  | .smem => 2
  | _ => 0

abbrev bufTy : (tb : Table) → Fin (tcTables nBuf tb) → BufTy
  | .hbm, ⟨0, _⟩ => ⟨S32x512, .i32⟩
  | .hbm, ⟨1, _⟩ => ⟨S32x512, .i32⟩
  | .hbm, ⟨2, _⟩ => ⟨S8192x8192, .f32⟩
  | .hbm, ⟨3, _⟩ => ⟨S16384x8192, .f32⟩
  | .hbm, ⟨4, _⟩ => ⟨S1x1, .f32⟩
  | .hbm, ⟨5, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S1x1, .f32⟩
  | .local _ .vmem, ⟨3, _⟩ => ⟨S96x8x8192, .f32⟩
  | .local _ .vmem, ⟨4, _⟩ => ⟨S8x32, .f32⟩
  | .local _ .vmem, ⟨5, _⟩ => ⟨S8x128, .f32⟩
  | .local _ .smem, ⟨0, _⟩ => ⟨S16384, .i32⟩
  | .local _ .smem, ⟨1, _⟩ => ⟨S16384, .i32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v5382 : BitVec 32) : Fin 2 → Nat :=
  let c0_i32_2367 : BitVec 32 := 0#32
  ![v5382.toNat, 0]

def k0_chk1 (i : grid0.Coords) (v5382 : BitVec 32) : Prop :=
  (∀ (k0_h1 : k0_cond1 i = 1#1), ∀ a, (k0_off1 v5382) a + S1x8192.size a ≤ S8192x8192.size a)
theorem k0_off1_inb : ∀ (i : grid0.Coords) (v5382 : BitVec 32) (k0_hw1 : k0_chk1 i v5382), ∀ (k0_h1 : k0_cond1 i = 1#1), ∀ a, (k0_off1 v5382) a + S1x8192.size a ≤ S8192x8192.size a := fun i v5382 k0_hw1 k0_h1 => k0_hw1 k0_h1

def k0_off2 (v5388 : BitVec 32) : Fin 2 → Nat :=
  let c0_i32_2372 : BitVec 32 := 0#32
  ![v5388.toNat, 0]

def k0_chk2 (i : grid0.Coords) (v5388 : BitVec 32) : Prop :=
  (∀ (k0_h1 : k0_cond1 i = 1#1), ∀ a, (k0_off2 v5388) a + S1x8192.size a ≤ S8192x8192.size a)
theorem k0_off2_inb : ∀ (i : grid0.Coords) (v5388 : BitVec 32) (k0_hw2 : k0_chk2 i v5388), ∀ (k0_h1 : k0_cond1 i = 1#1), ∀ a, (k0_off2 v5388) a + S1x8192.size a ≤ S8192x8192.size a := fun i v5388 k0_hw2 k0_h1 => k0_hw2 k0_h1

def k0_off3 (v5394 : BitVec 32) : Fin 2 → Nat :=
  let c0_i32_2377 : BitVec 32 := 0#32
  ![v5394.toNat, 0]

def k0_chk3 (i : grid0.Coords) (v5394 : BitVec 32) : Prop :=
  (∀ (k0_h1 : k0_cond1 i = 1#1), ∀ a, (k0_off3 v5394) a + S1x8192.size a ≤ S8192x8192.size a)
theorem k0_off3_inb : ∀ (i : grid0.Coords) (v5394 : BitVec 32) (k0_hw3 : k0_chk3 i v5394), ∀ (k0_h1 : k0_cond1 i = 1#1), ∀ a, (k0_off3 v5394) a + S1x8192.size a ≤ S8192x8192.size a := fun i v5394 k0_hw3 k0_h1 => k0_hw3 k0_h1

def k0_off4 (v5400 : BitVec 32) : Fin 2 → Nat :=
  let c0_i32_2382 : BitVec 32 := 0#32
  ![v5400.toNat, 0]

def k0_chk4 (i : grid0.Coords) (v5400 : BitVec 32) : Prop :=
  (∀ (k0_h1 : k0_cond1 i = 1#1), ∀ a, (k0_off4 v5400) a + S1x8192.size a ≤ S8192x8192.size a)
theorem k0_off4_inb : ∀ (i : grid0.Coords) (v5400 : BitVec 32) (k0_hw4 : k0_chk4 i v5400), ∀ (k0_h1 : k0_cond1 i = 1#1), ∀ a, (k0_off4 v5400) a + S1x8192.size a ≤ S8192x8192.size a := fun i v5400 k0_hw4 k0_h1 => k0_hw4 k0_h1

def k0_off5 (v5406 : BitVec 32) : Fin 2 → Nat :=
  let c0_i32_2387 : BitVec 32 := 0#32
  ![v5406.toNat, 0]

def k0_chk5 (i : grid0.Coords) (v5406 : BitVec 32) : Prop :=
  (∀ (k0_h1 : k0_cond1 i = 1#1), ∀ a, (k0_off5 v5406) a + S1x8192.size a ≤ S8192x8192.size a)
theorem k0_off5_inb : ∀ (i : grid0.Coords) (v5406 : BitVec 32) (k0_hw5 : k0_chk5 i v5406), ∀ (k0_h1 : k0_cond1 i = 1#1), ∀ a, (k0_off5 v5406) a + S1x8192.size a ≤ S8192x8192.size a := fun i v5406 k0_hw5 k0_h1 => k0_hw5 k0_h1

def k0_off6 (v5412 : BitVec 32) : Fin 2 → Nat :=
  let c0_i32_2392 : BitVec 32 := 0#32
  ![v5412.toNat, 0]

def k0_chk6 (i : grid0.Coords) (v5412 : BitVec 32) : Prop :=
  (∀ (k0_h1 : k0_cond1 i = 1#1), ∀ a, (k0_off6 v5412) a + S1x8192.size a ≤ S8192x8192.size a)
theorem k0_off6_inb : ∀ (i : grid0.Coords) (v5412 : BitVec 32) (k0_hw6 : k0_chk6 i v5412), ∀ (k0_h1 : k0_cond1 i = 1#1), ∀ a, (k0_off6 v5412) a + S1x8192.size a ≤ S8192x8192.size a := fun i v5412 k0_hw6 k0_h1 => k0_hw6 k0_h1

def k0_off7 (v5418 : BitVec 32) : Fin 2 → Nat :=
  let c0_i32_2397 : BitVec 32 := 0#32
  ![v5418.toNat, 0]

def k0_chk7 (i : grid0.Coords) (v5418 : BitVec 32) : Prop :=
  (∀ (k0_h1 : k0_cond1 i = 1#1), ∀ a, (k0_off7 v5418) a + S1x8192.size a ≤ S8192x8192.size a)
theorem k0_off7_inb : ∀ (i : grid0.Coords) (v5418 : BitVec 32) (k0_hw7 : k0_chk7 i v5418), ∀ (k0_h1 : k0_cond1 i = 1#1), ∀ a, (k0_off7 v5418) a + S1x8192.size a ≤ S8192x8192.size a := fun i v5418 k0_hw7 k0_h1 => k0_hw7 k0_h1

def k0_off8 (v5424 : BitVec 32) : Fin 2 → Nat :=
  let c0_i32_2402 : BitVec 32 := 0#32
  ![v5424.toNat, 0]

def k0_chk8 (i : grid0.Coords) (v5424 : BitVec 32) : Prop :=
  (∀ (k0_h1 : k0_cond1 i = 1#1), ∀ a, (k0_off8 v5424) a + S1x8192.size a ≤ S8192x8192.size a)
theorem k0_off8_inb : ∀ (i : grid0.Coords) (v5424 : BitVec 32) (k0_hw8 : k0_chk8 i v5424), ∀ (k0_h1 : k0_cond1 i = 1#1), ∀ a, (k0_off8 v5424) a + S1x8192.size a ≤ S8192x8192.size a := fun i v5424 k0_hw8 k0_h1 => k0_hw8 k0_h1

def k0_off9 (v5430 : BitVec 32) : Fin 2 → Nat :=
  let c0_i32_2408 : BitVec 32 := 0#32
  ![v5430.toNat, 0]

def k0_chk9 (i : grid0.Coords) (v5430 : BitVec 32) : Prop :=
  (∀ (k0_h1 : k0_cond1 i = 1#1), ∀ a, (k0_off9 v5430) a + S1x8192.size a ≤ S8192x8192.size a)
theorem k0_off9_inb : ∀ (i : grid0.Coords) (v5430 : BitVec 32) (k0_hw9 : k0_chk9 i v5430), ∀ (k0_h1 : k0_cond1 i = 1#1), ∀ a, (k0_off9 v5430) a + S1x8192.size a ≤ S8192x8192.size a := fun i v5430 k0_hw9 k0_h1 => k0_hw9 k0_h1

def k0_off10 (v5436 : BitVec 32) : Fin 2 → Nat :=
  let c0_i32_2413 : BitVec 32 := 0#32
  ![v5436.toNat, 0]

def k0_chk10 (i : grid0.Coords) (v5436 : BitVec 32) : Prop :=
  (∀ (k0_h1 : k0_cond1 i = 1#1), ∀ a, (k0_off10 v5436) a + S1x8192.size a ≤ S8192x8192.size a)
theorem k0_off10_inb : ∀ (i : grid0.Coords) (v5436 : BitVec 32) (k0_hw10 : k0_chk10 i v5436), ∀ (k0_h1 : k0_cond1 i = 1#1), ∀ a, (k0_off10 v5436) a + S1x8192.size a ≤ S8192x8192.size a := fun i v5436 k0_hw10 k0_h1 => k0_hw10 k0_h1

def k0_off11 (v5442 : BitVec 32) : Fin 2 → Nat :=
  let c0_i32_2418 : BitVec 32 := 0#32
  ![v5442.toNat, 0]

def k0_chk11 (i : grid0.Coords) (v5442 : BitVec 32) : Prop :=
  (∀ (k0_h1 : k0_cond1 i = 1#1), ∀ a, (k0_off11 v5442) a + S1x8192.size a ≤ S8192x8192.size a)
theorem k0_off11_inb : ∀ (i : grid0.Coords) (v5442 : BitVec 32) (k0_hw11 : k0_chk11 i v5442), ∀ (k0_h1 : k0_cond1 i = 1#1), ∀ a, (k0_off11 v5442) a + S1x8192.size a ≤ S8192x8192.size a := fun i v5442 k0_hw11 k0_h1 => k0_hw11 k0_h1

def k0_off12 (v5448 : BitVec 32) : Fin 2 → Nat :=
  let c0_i32_2423 : BitVec 32 := 0#32
  ![v5448.toNat, 0]

def k0_chk12 (i : grid0.Coords) (v5448 : BitVec 32) : Prop :=
  (∀ (k0_h1 : k0_cond1 i = 1#1), ∀ a, (k0_off12 v5448) a + S1x8192.size a ≤ S8192x8192.size a)
theorem k0_off12_inb : ∀ (i : grid0.Coords) (v5448 : BitVec 32) (k0_hw12 : k0_chk12 i v5448), ∀ (k0_h1 : k0_cond1 i = 1#1), ∀ a, (k0_off12 v5448) a + S1x8192.size a ≤ S8192x8192.size a := fun i v5448 k0_hw12 k0_h1 => k0_hw12 k0_h1

def k0_off13 (v5454 : BitVec 32) : Fin 2 → Nat :=
  let c0_i32_2428 : BitVec 32 := 0#32
  ![v5454.toNat, 0]

def k0_chk13 (i : grid0.Coords) (v5454 : BitVec 32) : Prop :=
  (∀ (k0_h1 : k0_cond1 i = 1#1), ∀ a, (k0_off13 v5454) a + S1x8192.size a ≤ S8192x8192.size a)
theorem k0_off13_inb : ∀ (i : grid0.Coords) (v5454 : BitVec 32) (k0_hw13 : k0_chk13 i v5454), ∀ (k0_h1 : k0_cond1 i = 1#1), ∀ a, (k0_off13 v5454) a + S1x8192.size a ≤ S8192x8192.size a := fun i v5454 k0_hw13 k0_h1 => k0_hw13 k0_h1

def k0_off14 (v5460 : BitVec 32) : Fin 2 → Nat :=
  let c0_i32_2433 : BitVec 32 := 0#32
  ![v5460.toNat, 0]

def k0_chk14 (i : grid0.Coords) (v5460 : BitVec 32) : Prop :=
  (∀ (k0_h1 : k0_cond1 i = 1#1), ∀ a, (k0_off14 v5460) a + S1x8192.size a ≤ S8192x8192.size a)
theorem k0_off14_inb : ∀ (i : grid0.Coords) (v5460 : BitVec 32) (k0_hw14 : k0_chk14 i v5460), ∀ (k0_h1 : k0_cond1 i = 1#1), ∀ a, (k0_off14 v5460) a + S1x8192.size a ≤ S8192x8192.size a := fun i v5460 k0_hw14 k0_h1 => k0_hw14 k0_h1

def k0_off15 (v5466 : BitVec 32) : Fin 2 → Nat :=
  let c0_i32_2438 : BitVec 32 := 0#32
  ![v5466.toNat, 0]

def k0_chk15 (i : grid0.Coords) (v5466 : BitVec 32) : Prop :=
  (∀ (k0_h1 : k0_cond1 i = 1#1), ∀ a, (k0_off15 v5466) a + S1x8192.size a ≤ S8192x8192.size a)
theorem k0_off15_inb : ∀ (i : grid0.Coords) (v5466 : BitVec 32) (k0_hw15 : k0_chk15 i v5466), ∀ (k0_h1 : k0_cond1 i = 1#1), ∀ a, (k0_off15 v5466) a + S1x8192.size a ≤ S8192x8192.size a := fun i v5466 k0_hw15 k0_h1 => k0_hw15 k0_h1

def k0_off16 (v5472 : BitVec 32) : Fin 2 → Nat :=
  let c0_i32_2443 : BitVec 32 := 0#32
  ![v5472.toNat, 0]

def k0_chk16 (i : grid0.Coords) (v5472 : BitVec 32) : Prop :=
  (∀ (k0_h1 : k0_cond1 i = 1#1), ∀ a, (k0_off16 v5472) a + S1x8192.size a ≤ S8192x8192.size a)
theorem k0_off16_inb : ∀ (i : grid0.Coords) (v5472 : BitVec 32) (k0_hw16 : k0_chk16 i v5472), ∀ (k0_h1 : k0_cond1 i = 1#1), ∀ a, (k0_off16 v5472) a + S1x8192.size a ≤ S8192x8192.size a := fun i v5472 k0_hw16 k0_h1 => k0_hw16 k0_h1

def k0_off17 (v5478 : BitVec 32) : Fin 2 → Nat :=
  let c0_i32_2449 : BitVec 32 := 0#32
  ![v5478.toNat, 0]

def k0_chk17 (i : grid0.Coords) (v5478 : BitVec 32) : Prop :=
  (∀ (k0_h1 : k0_cond1 i = 1#1), ∀ a, (k0_off17 v5478) a + S1x8192.size a ≤ S8192x8192.size a)
theorem k0_off17_inb : ∀ (i : grid0.Coords) (v5478 : BitVec 32) (k0_hw17 : k0_chk17 i v5478), ∀ (k0_h1 : k0_cond1 i = 1#1), ∀ a, (k0_off17 v5478) a + S1x8192.size a ≤ S8192x8192.size a := fun i v5478 k0_hw17 k0_h1 => k0_hw17 k0_h1

def k0_off18 (v5484 : BitVec 32) : Fin 2 → Nat :=
  let c0_i32_2454 : BitVec 32 := 0#32
  ![v5484.toNat, 0]

def k0_chk18 (i : grid0.Coords) (v5484 : BitVec 32) : Prop :=
  (∀ (k0_h1 : k0_cond1 i = 1#1), ∀ a, (k0_off18 v5484) a + S1x8192.size a ≤ S8192x8192.size a)
theorem k0_off18_inb : ∀ (i : grid0.Coords) (v5484 : BitVec 32) (k0_hw18 : k0_chk18 i v5484), ∀ (k0_h1 : k0_cond1 i = 1#1), ∀ a, (k0_off18 v5484) a + S1x8192.size a ≤ S8192x8192.size a := fun i v5484 k0_hw18 k0_h1 => k0_hw18 k0_h1

def k0_off19 (v5490 : BitVec 32) : Fin 2 → Nat :=
  let c0_i32_2459 : BitVec 32 := 0#32
  ![v5490.toNat, 0]

def k0_chk19 (i : grid0.Coords) (v5490 : BitVec 32) : Prop :=
  (∀ (k0_h1 : k0_cond1 i = 1#1), ∀ a, (k0_off19 v5490) a + S1x8192.size a ≤ S8192x8192.size a)
theorem k0_off19_inb : ∀ (i : grid0.Coords) (v5490 : BitVec 32) (k0_hw19 : k0_chk19 i v5490), ∀ (k0_h1 : k0_cond1 i = 1#1), ∀ a, (k0_off19 v5490) a + S1x8192.size a ≤ S8192x8192.size a := fun i v5490 k0_hw19 k0_h1 => k0_hw19 k0_h1

def k0_off20 (v5496 : BitVec 32) : Fin 2 → Nat :=
  let c0_i32_2464 : BitVec 32 := 0#32
  ![v5496.toNat, 0]

def k0_chk20 (i : grid0.Coords) (v5496 : BitVec 32) : Prop :=
  (∀ (k0_h1 : k0_cond1 i = 1#1), ∀ a, (k0_off20 v5496) a + S1x8192.size a ≤ S8192x8192.size a)
theorem k0_off20_inb : ∀ (i : grid0.Coords) (v5496 : BitVec 32) (k0_hw20 : k0_chk20 i v5496), ∀ (k0_h1 : k0_cond1 i = 1#1), ∀ a, (k0_off20 v5496) a + S1x8192.size a ≤ S8192x8192.size a := fun i v5496 k0_hw20 k0_h1 => k0_hw20 k0_h1

def k0_off21 (v5502 : BitVec 32) : Fin 2 → Nat :=
  let c0_i32_2469 : BitVec 32 := 0#32
  ![v5502.toNat, 0]

def k0_chk21 (i : grid0.Coords) (v5502 : BitVec 32) : Prop :=
  (∀ (k0_h1 : k0_cond1 i = 1#1), ∀ a, (k0_off21 v5502) a + S1x8192.size a ≤ S8192x8192.size a)
theorem k0_off21_inb : ∀ (i : grid0.Coords) (v5502 : BitVec 32) (k0_hw21 : k0_chk21 i v5502), ∀ (k0_h1 : k0_cond1 i = 1#1), ∀ a, (k0_off21 v5502) a + S1x8192.size a ≤ S8192x8192.size a := fun i v5502 k0_hw21 k0_h1 => k0_hw21 k0_h1

def k0_off22 (v5508 : BitVec 32) : Fin 2 → Nat :=
  let c0_i32_2474 : BitVec 32 := 0#32
  ![v5508.toNat, 0]

def k0_chk22 (i : grid0.Coords) (v5508 : BitVec 32) : Prop :=
  (∀ (k0_h1 : k0_cond1 i = 1#1), ∀ a, (k0_off22 v5508) a + S1x8192.size a ≤ S8192x8192.size a)
theorem k0_off22_inb : ∀ (i : grid0.Coords) (v5508 : BitVec 32) (k0_hw22 : k0_chk22 i v5508), ∀ (k0_h1 : k0_cond1 i = 1#1), ∀ a, (k0_off22 v5508) a + S1x8192.size a ≤ S8192x8192.size a := fun i v5508 k0_hw22 k0_h1 => k0_hw22 k0_h1

def k0_off23 (v5514 : BitVec 32) : Fin 2 → Nat :=
  let c0_i32_2479 : BitVec 32 := 0#32
  ![v5514.toNat, 0]

def k0_chk23 (i : grid0.Coords) (v5514 : BitVec 32) : Prop :=
  (∀ (k0_h1 : k0_cond1 i = 1#1), ∀ a, (k0_off23 v5514) a + S1x8192.size a ≤ S8192x8192.size a)
theorem k0_off23_inb : ∀ (i : grid0.Coords) (v5514 : BitVec 32) (k0_hw23 : k0_chk23 i v5514), ∀ (k0_h1 : k0_cond1 i = 1#1), ∀ a, (k0_off23 v5514) a + S1x8192.size a ≤ S8192x8192.size a := fun i v5514 k0_hw23 k0_h1 => k0_hw23 k0_h1

def k0_off24 (v5520 : BitVec 32) : Fin 2 → Nat :=
  let c0_i32_2484 : BitVec 32 := 0#32
  ![v5520.toNat, 0]

def k0_chk24 (i : grid0.Coords) (v5520 : BitVec 32) : Prop :=
  (∀ (k0_h1 : k0_cond1 i = 1#1), ∀ a, (k0_off24 v5520) a + S1x8192.size a ≤ S8192x8192.size a)
theorem k0_off24_inb : ∀ (i : grid0.Coords) (v5520 : BitVec 32) (k0_hw24 : k0_chk24 i v5520), ∀ (k0_h1 : k0_cond1 i = 1#1), ∀ a, (k0_off24 v5520) a + S1x8192.size a ≤ S8192x8192.size a := fun i v5520 k0_hw24 k0_h1 => k0_hw24 k0_h1

def k0_off25 (v5526 : BitVec 32) : Fin 2 → Nat :=
  let c0_i32_2490 : BitVec 32 := 0#32
  ![v5526.toNat, 0]

def k0_chk25 (i : grid0.Coords) (v5526 : BitVec 32) : Prop :=
  (∀ (k0_h1 : k0_cond1 i = 1#1), ∀ a, (k0_off25 v5526) a + S1x8192.size a ≤ S8192x8192.size a)
theorem k0_off25_inb : ∀ (i : grid0.Coords) (v5526 : BitVec 32) (k0_hw25 : k0_chk25 i v5526), ∀ (k0_h1 : k0_cond1 i = 1#1), ∀ a, (k0_off25 v5526) a + S1x8192.size a ≤ S8192x8192.size a := fun i v5526 k0_hw25 k0_h1 => k0_hw25 k0_h1

def k0_off26 (v5532 : BitVec 32) : Fin 2 → Nat :=
  let c0_i32_2495 : BitVec 32 := 0#32
  ![v5532.toNat, 0]

def k0_chk26 (i : grid0.Coords) (v5532 : BitVec 32) : Prop :=
  (∀ (k0_h1 : k0_cond1 i = 1#1), ∀ a, (k0_off26 v5532) a + S1x8192.size a ≤ S8192x8192.size a)
theorem k0_off26_inb : ∀ (i : grid0.Coords) (v5532 : BitVec 32) (k0_hw26 : k0_chk26 i v5532), ∀ (k0_h1 : k0_cond1 i = 1#1), ∀ a, (k0_off26 v5532) a + S1x8192.size a ≤ S8192x8192.size a := fun i v5532 k0_hw26 k0_h1 => k0_hw26 k0_h1

def k0_off27 (v5538 : BitVec 32) : Fin 2 → Nat :=
  let c0_i32_2500 : BitVec 32 := 0#32
  ![v5538.toNat, 0]

def k0_chk27 (i : grid0.Coords) (v5538 : BitVec 32) : Prop :=
  (∀ (k0_h1 : k0_cond1 i = 1#1), ∀ a, (k0_off27 v5538) a + S1x8192.size a ≤ S8192x8192.size a)
theorem k0_off27_inb : ∀ (i : grid0.Coords) (v5538 : BitVec 32) (k0_hw27 : k0_chk27 i v5538), ∀ (k0_h1 : k0_cond1 i = 1#1), ∀ a, (k0_off27 v5538) a + S1x8192.size a ≤ S8192x8192.size a := fun i v5538 k0_hw27 k0_h1 => k0_hw27 k0_h1

def k0_off28 (v5544 : BitVec 32) : Fin 2 → Nat :=
  let c0_i32_2505 : BitVec 32 := 0#32
  ![v5544.toNat, 0]

def k0_chk28 (i : grid0.Coords) (v5544 : BitVec 32) : Prop :=
  (∀ (k0_h1 : k0_cond1 i = 1#1), ∀ a, (k0_off28 v5544) a + S1x8192.size a ≤ S8192x8192.size a)
theorem k0_off28_inb : ∀ (i : grid0.Coords) (v5544 : BitVec 32) (k0_hw28 : k0_chk28 i v5544), ∀ (k0_h1 : k0_cond1 i = 1#1), ∀ a, (k0_off28 v5544) a + S1x8192.size a ≤ S8192x8192.size a := fun i v5544 k0_hw28 k0_h1 => k0_hw28 k0_h1

def k0_off29 (v5550 : BitVec 32) : Fin 2 → Nat :=
  let c0_i32_2510 : BitVec 32 := 0#32
  ![v5550.toNat, 0]

def k0_chk29 (i : grid0.Coords) (v5550 : BitVec 32) : Prop :=
  (∀ (k0_h1 : k0_cond1 i = 1#1), ∀ a, (k0_off29 v5550) a + S1x8192.size a ≤ S8192x8192.size a)
theorem k0_off29_inb : ∀ (i : grid0.Coords) (v5550 : BitVec 32) (k0_hw29 : k0_chk29 i v5550), ∀ (k0_h1 : k0_cond1 i = 1#1), ∀ a, (k0_off29 v5550) a + S1x8192.size a ≤ S8192x8192.size a := fun i v5550 k0_hw29 k0_h1 => k0_hw29 k0_h1

def k0_off30 (v5556 : BitVec 32) : Fin 2 → Nat :=
  let c0_i32_2515 : BitVec 32 := 0#32
  ![v5556.toNat, 0]

def k0_chk30 (i : grid0.Coords) (v5556 : BitVec 32) : Prop :=
  (∀ (k0_h1 : k0_cond1 i = 1#1), ∀ a, (k0_off30 v5556) a + S1x8192.size a ≤ S8192x8192.size a)
theorem k0_off30_inb : ∀ (i : grid0.Coords) (v5556 : BitVec 32) (k0_hw30 : k0_chk30 i v5556), ∀ (k0_h1 : k0_cond1 i = 1#1), ∀ a, (k0_off30 v5556) a + S1x8192.size a ≤ S8192x8192.size a := fun i v5556 k0_hw30 k0_h1 => k0_hw30 k0_h1

def k0_off31 (v5562 : BitVec 32) : Fin 2 → Nat :=
  let c0_i32_2520 : BitVec 32 := 0#32
  ![v5562.toNat, 0]

def k0_chk31 (i : grid0.Coords) (v5562 : BitVec 32) : Prop :=
  (∀ (k0_h1 : k0_cond1 i = 1#1), ∀ a, (k0_off31 v5562) a + S1x8192.size a ≤ S8192x8192.size a)
theorem k0_off31_inb : ∀ (i : grid0.Coords) (v5562 : BitVec 32) (k0_hw31 : k0_chk31 i v5562), ∀ (k0_h1 : k0_cond1 i = 1#1), ∀ a, (k0_off31 v5562) a + S1x8192.size a ≤ S8192x8192.size a := fun i v5562 k0_hw31 k0_h1 => k0_hw31 k0_h1

def k0_off32 (v5568 : BitVec 32) : Fin 2 → Nat :=
  let c0_i32_2525 : BitVec 32 := 0#32
  ![v5568.toNat, 0]

def k0_chk32 (i : grid0.Coords) (v5568 : BitVec 32) : Prop :=
  (∀ (k0_h1 : k0_cond1 i = 1#1), ∀ a, (k0_off32 v5568) a + S1x8192.size a ≤ S8192x8192.size a)
theorem k0_off32_inb : ∀ (i : grid0.Coords) (v5568 : BitVec 32) (k0_hw32 : k0_chk32 i v5568), ∀ (k0_h1 : k0_cond1 i = 1#1), ∀ a, (k0_off32 v5568) a + S1x8192.size a ≤ S8192x8192.size a := fun i v5568 k0_hw32 k0_h1 => k0_hw32 k0_h1

def k0_off33 (v5574 : BitVec 32) : Fin 2 → Nat :=
  let c0_i32_2531 : BitVec 32 := 0#32
  ![v5574.toNat, 0]

def k0_chk33 (i : grid0.Coords) (v5574 : BitVec 32) : Prop :=
  (∀ (k0_h1 : k0_cond1 i = 1#1), ∀ a, (k0_off33 v5574) a + S1x8192.size a ≤ S8192x8192.size a)
theorem k0_off33_inb : ∀ (i : grid0.Coords) (v5574 : BitVec 32) (k0_hw33 : k0_chk33 i v5574), ∀ (k0_h1 : k0_cond1 i = 1#1), ∀ a, (k0_off33 v5574) a + S1x8192.size a ≤ S8192x8192.size a := fun i v5574 k0_hw33 k0_h1 => k0_hw33 k0_h1

def k0_off34 (v5580 : BitVec 32) : Fin 2 → Nat :=
  let c0_i32_2536 : BitVec 32 := 0#32
  ![v5580.toNat, 0]

def k0_chk34 (i : grid0.Coords) (v5580 : BitVec 32) : Prop :=
  (∀ (k0_h1 : k0_cond1 i = 1#1), ∀ a, (k0_off34 v5580) a + S1x8192.size a ≤ S8192x8192.size a)
theorem k0_off34_inb : ∀ (i : grid0.Coords) (v5580 : BitVec 32) (k0_hw34 : k0_chk34 i v5580), ∀ (k0_h1 : k0_cond1 i = 1#1), ∀ a, (k0_off34 v5580) a + S1x8192.size a ≤ S8192x8192.size a := fun i v5580 k0_hw34 k0_h1 => k0_hw34 k0_h1

def k0_off35 (v5586 : BitVec 32) : Fin 2 → Nat :=
  let c0_i32_2541 : BitVec 32 := 0#32
  ![v5586.toNat, 0]

def k0_chk35 (i : grid0.Coords) (v5586 : BitVec 32) : Prop :=
  (∀ (k0_h1 : k0_cond1 i = 1#1), ∀ a, (k0_off35 v5586) a + S1x8192.size a ≤ S8192x8192.size a)
theorem k0_off35_inb : ∀ (i : grid0.Coords) (v5586 : BitVec 32) (k0_hw35 : k0_chk35 i v5586), ∀ (k0_h1 : k0_cond1 i = 1#1), ∀ a, (k0_off35 v5586) a + S1x8192.size a ≤ S8192x8192.size a := fun i v5586 k0_hw35 k0_h1 => k0_hw35 k0_h1

def k0_off36 (v5592 : BitVec 32) : Fin 2 → Nat :=
  let c0_i32_2546 : BitVec 32 := 0#32
  ![v5592.toNat, 0]

def k0_chk36 (i : grid0.Coords) (v5592 : BitVec 32) : Prop :=
  (∀ (k0_h1 : k0_cond1 i = 1#1), ∀ a, (k0_off36 v5592) a + S1x8192.size a ≤ S8192x8192.size a)
theorem k0_off36_inb : ∀ (i : grid0.Coords) (v5592 : BitVec 32) (k0_hw36 : k0_chk36 i v5592), ∀ (k0_h1 : k0_cond1 i = 1#1), ∀ a, (k0_off36 v5592) a + S1x8192.size a ≤ S8192x8192.size a := fun i v5592 k0_hw36 k0_h1 => k0_hw36 k0_h1

def k0_off37 (v5598 : BitVec 32) : Fin 2 → Nat :=
  let c0_i32_2551 : BitVec 32 := 0#32
  ![v5598.toNat, 0]

def k0_chk37 (i : grid0.Coords) (v5598 : BitVec 32) : Prop :=
  (∀ (k0_h1 : k0_cond1 i = 1#1), ∀ a, (k0_off37 v5598) a + S1x8192.size a ≤ S8192x8192.size a)
theorem k0_off37_inb : ∀ (i : grid0.Coords) (v5598 : BitVec 32) (k0_hw37 : k0_chk37 i v5598), ∀ (k0_h1 : k0_cond1 i = 1#1), ∀ a, (k0_off37 v5598) a + S1x8192.size a ≤ S8192x8192.size a := fun i v5598 k0_hw37 k0_h1 => k0_hw37 k0_h1

def k0_off38 (v5604 : BitVec 32) : Fin 2 → Nat :=
  let c0_i32_2556 : BitVec 32 := 0#32
  ![v5604.toNat, 0]

def k0_chk38 (i : grid0.Coords) (v5604 : BitVec 32) : Prop :=
  (∀ (k0_h1 : k0_cond1 i = 1#1), ∀ a, (k0_off38 v5604) a + S1x8192.size a ≤ S8192x8192.size a)
theorem k0_off38_inb : ∀ (i : grid0.Coords) (v5604 : BitVec 32) (k0_hw38 : k0_chk38 i v5604), ∀ (k0_h1 : k0_cond1 i = 1#1), ∀ a, (k0_off38 v5604) a + S1x8192.size a ≤ S8192x8192.size a := fun i v5604 k0_hw38 k0_h1 => k0_hw38 k0_h1

def k0_off39 (v5610 : BitVec 32) : Fin 2 → Nat :=
  let c0_i32_2561 : BitVec 32 := 0#32
  ![v5610.toNat, 0]

def k0_chk39 (i : grid0.Coords) (v5610 : BitVec 32) : Prop :=
  (∀ (k0_h1 : k0_cond1 i = 1#1), ∀ a, (k0_off39 v5610) a + S1x8192.size a ≤ S8192x8192.size a)
theorem k0_off39_inb : ∀ (i : grid0.Coords) (v5610 : BitVec 32) (k0_hw39 : k0_chk39 i v5610), ∀ (k0_h1 : k0_cond1 i = 1#1), ∀ a, (k0_off39 v5610) a + S1x8192.size a ≤ S8192x8192.size a := fun i v5610 k0_hw39 k0_h1 => k0_hw39 k0_h1

def k0_off40 (v5616 : BitVec 32) : Fin 2 → Nat :=
  let c0_i32_2566 : BitVec 32 := 0#32
  ![v5616.toNat, 0]

def k0_chk40 (i : grid0.Coords) (v5616 : BitVec 32) : Prop :=
  (∀ (k0_h1 : k0_cond1 i = 1#1), ∀ a, (k0_off40 v5616) a + S1x8192.size a ≤ S8192x8192.size a)
theorem k0_off40_inb : ∀ (i : grid0.Coords) (v5616 : BitVec 32) (k0_hw40 : k0_chk40 i v5616), ∀ (k0_h1 : k0_cond1 i = 1#1), ∀ a, (k0_off40 v5616) a + S1x8192.size a ≤ S8192x8192.size a := fun i v5616 k0_hw40 k0_h1 => k0_hw40 k0_h1

def k0_off41 (v5622 : BitVec 32) : Fin 2 → Nat :=
  let c0_i32_2572 : BitVec 32 := 0#32
  ![v5622.toNat, 0]

def k0_chk41 (i : grid0.Coords) (v5622 : BitVec 32) : Prop :=
  (∀ (k0_h1 : k0_cond1 i = 1#1), ∀ a, (k0_off41 v5622) a + S1x8192.size a ≤ S8192x8192.size a)
theorem k0_off41_inb : ∀ (i : grid0.Coords) (v5622 : BitVec 32) (k0_hw41 : k0_chk41 i v5622), ∀ (k0_h1 : k0_cond1 i = 1#1), ∀ a, (k0_off41 v5622) a + S1x8192.size a ≤ S8192x8192.size a := fun i v5622 k0_hw41 k0_h1 => k0_hw41 k0_h1

def k0_off42 (v5628 : BitVec 32) : Fin 2 → Nat :=
  let c0_i32_2577 : BitVec 32 := 0#32
  ![v5628.toNat, 0]

def k0_chk42 (i : grid0.Coords) (v5628 : BitVec 32) : Prop :=
  (∀ (k0_h1 : k0_cond1 i = 1#1), ∀ a, (k0_off42 v5628) a + S1x8192.size a ≤ S8192x8192.size a)
theorem k0_off42_inb : ∀ (i : grid0.Coords) (v5628 : BitVec 32) (k0_hw42 : k0_chk42 i v5628), ∀ (k0_h1 : k0_cond1 i = 1#1), ∀ a, (k0_off42 v5628) a + S1x8192.size a ≤ S8192x8192.size a := fun i v5628 k0_hw42 k0_h1 => k0_hw42 k0_h1

def k0_off43 (v5634 : BitVec 32) : Fin 2 → Nat :=
  let c0_i32_2582 : BitVec 32 := 0#32
  ![v5634.toNat, 0]

def k0_chk43 (i : grid0.Coords) (v5634 : BitVec 32) : Prop :=
  (∀ (k0_h1 : k0_cond1 i = 1#1), ∀ a, (k0_off43 v5634) a + S1x8192.size a ≤ S8192x8192.size a)
theorem k0_off43_inb : ∀ (i : grid0.Coords) (v5634 : BitVec 32) (k0_hw43 : k0_chk43 i v5634), ∀ (k0_h1 : k0_cond1 i = 1#1), ∀ a, (k0_off43 v5634) a + S1x8192.size a ≤ S8192x8192.size a := fun i v5634 k0_hw43 k0_h1 => k0_hw43 k0_h1

def k0_off44 (v5640 : BitVec 32) : Fin 2 → Nat :=
  let c0_i32_2587 : BitVec 32 := 0#32
  ![v5640.toNat, 0]

def k0_chk44 (i : grid0.Coords) (v5640 : BitVec 32) : Prop :=
  (∀ (k0_h1 : k0_cond1 i = 1#1), ∀ a, (k0_off44 v5640) a + S1x8192.size a ≤ S8192x8192.size a)
theorem k0_off44_inb : ∀ (i : grid0.Coords) (v5640 : BitVec 32) (k0_hw44 : k0_chk44 i v5640), ∀ (k0_h1 : k0_cond1 i = 1#1), ∀ a, (k0_off44 v5640) a + S1x8192.size a ≤ S8192x8192.size a := fun i v5640 k0_hw44 k0_h1 => k0_hw44 k0_h1

def k0_off45 (v5646 : BitVec 32) : Fin 2 → Nat :=
  let c0_i32_2592 : BitVec 32 := 0#32
  ![v5646.toNat, 0]

def k0_chk45 (i : grid0.Coords) (v5646 : BitVec 32) : Prop :=
  (∀ (k0_h1 : k0_cond1 i = 1#1), ∀ a, (k0_off45 v5646) a + S1x8192.size a ≤ S8192x8192.size a)
theorem k0_off45_inb : ∀ (i : grid0.Coords) (v5646 : BitVec 32) (k0_hw45 : k0_chk45 i v5646), ∀ (k0_h1 : k0_cond1 i = 1#1), ∀ a, (k0_off45 v5646) a + S1x8192.size a ≤ S8192x8192.size a := fun i v5646 k0_hw45 k0_h1 => k0_hw45 k0_h1

def k0_off46 (v5652 : BitVec 32) : Fin 2 → Nat :=
  let c0_i32_2597 : BitVec 32 := 0#32
  ![v5652.toNat, 0]

def k0_chk46 (i : grid0.Coords) (v5652 : BitVec 32) : Prop :=
  (∀ (k0_h1 : k0_cond1 i = 1#1), ∀ a, (k0_off46 v5652) a + S1x8192.size a ≤ S8192x8192.size a)
theorem k0_off46_inb : ∀ (i : grid0.Coords) (v5652 : BitVec 32) (k0_hw46 : k0_chk46 i v5652), ∀ (k0_h1 : k0_cond1 i = 1#1), ∀ a, (k0_off46 v5652) a + S1x8192.size a ≤ S8192x8192.size a := fun i v5652 k0_hw46 k0_h1 => k0_hw46 k0_h1

def k0_off47 (v5658 : BitVec 32) : Fin 2 → Nat :=
  let c0_i32_2602 : BitVec 32 := 0#32
  ![v5658.toNat, 0]

def k0_chk47 (i : grid0.Coords) (v5658 : BitVec 32) : Prop :=
  (∀ (k0_h1 : k0_cond1 i = 1#1), ∀ a, (k0_off47 v5658) a + S1x8192.size a ≤ S8192x8192.size a)
theorem k0_off47_inb : ∀ (i : grid0.Coords) (v5658 : BitVec 32) (k0_hw47 : k0_chk47 i v5658), ∀ (k0_h1 : k0_cond1 i = 1#1), ∀ a, (k0_off47 v5658) a + S1x8192.size a ≤ S8192x8192.size a := fun i v5658 k0_hw47 k0_h1 => k0_hw47 k0_h1

def k0_off48 (v5664 : BitVec 32) : Fin 2 → Nat :=
  let c0_i32_2607 : BitVec 32 := 0#32
  ![v5664.toNat, 0]

def k0_chk48 (i : grid0.Coords) (v5664 : BitVec 32) : Prop :=
  (∀ (k0_h1 : k0_cond1 i = 1#1), ∀ a, (k0_off48 v5664) a + S1x8192.size a ≤ S8192x8192.size a)
theorem k0_off48_inb : ∀ (i : grid0.Coords) (v5664 : BitVec 32) (k0_hw48 : k0_chk48 i v5664), ∀ (k0_h1 : k0_cond1 i = 1#1), ∀ a, (k0_off48 v5664) a + S1x8192.size a ≤ S8192x8192.size a := fun i v5664 k0_hw48 k0_h1 => k0_hw48 k0_h1

def k0_off49 (v5670 : BitVec 32) : Fin 2 → Nat :=
  let c0_i32_2613 : BitVec 32 := 0#32
  ![v5670.toNat, 0]

def k0_chk49 (i : grid0.Coords) (v5670 : BitVec 32) : Prop :=
  (∀ (k0_h1 : k0_cond1 i = 1#1), ∀ a, (k0_off49 v5670) a + S1x8192.size a ≤ S8192x8192.size a)
theorem k0_off49_inb : ∀ (i : grid0.Coords) (v5670 : BitVec 32) (k0_hw49 : k0_chk49 i v5670), ∀ (k0_h1 : k0_cond1 i = 1#1), ∀ a, (k0_off49 v5670) a + S1x8192.size a ≤ S8192x8192.size a := fun i v5670 k0_hw49 k0_h1 => k0_hw49 k0_h1

def k0_off50 (v5676 : BitVec 32) : Fin 2 → Nat :=
  let c0_i32_2618 : BitVec 32 := 0#32
  ![v5676.toNat, 0]

def k0_chk50 (i : grid0.Coords) (v5676 : BitVec 32) : Prop :=
  (∀ (k0_h1 : k0_cond1 i = 1#1), ∀ a, (k0_off50 v5676) a + S1x8192.size a ≤ S8192x8192.size a)
theorem k0_off50_inb : ∀ (i : grid0.Coords) (v5676 : BitVec 32) (k0_hw50 : k0_chk50 i v5676), ∀ (k0_h1 : k0_cond1 i = 1#1), ∀ a, (k0_off50 v5676) a + S1x8192.size a ≤ S8192x8192.size a := fun i v5676 k0_hw50 k0_h1 => k0_hw50 k0_h1

def k0_off51 (v5682 : BitVec 32) : Fin 2 → Nat :=
  let c0_i32_2623 : BitVec 32 := 0#32
  ![v5682.toNat, 0]

def k0_chk51 (i : grid0.Coords) (v5682 : BitVec 32) : Prop :=
  (∀ (k0_h1 : k0_cond1 i = 1#1), ∀ a, (k0_off51 v5682) a + S1x8192.size a ≤ S8192x8192.size a)
theorem k0_off51_inb : ∀ (i : grid0.Coords) (v5682 : BitVec 32) (k0_hw51 : k0_chk51 i v5682), ∀ (k0_h1 : k0_cond1 i = 1#1), ∀ a, (k0_off51 v5682) a + S1x8192.size a ≤ S8192x8192.size a := fun i v5682 k0_hw51 k0_h1 => k0_hw51 k0_h1

def k0_off52 (v5688 : BitVec 32) : Fin 2 → Nat :=
  let c0_i32_2628 : BitVec 32 := 0#32
  ![v5688.toNat, 0]

def k0_chk52 (i : grid0.Coords) (v5688 : BitVec 32) : Prop :=
  (∀ (k0_h1 : k0_cond1 i = 1#1), ∀ a, (k0_off52 v5688) a + S1x8192.size a ≤ S8192x8192.size a)
theorem k0_off52_inb : ∀ (i : grid0.Coords) (v5688 : BitVec 32) (k0_hw52 : k0_chk52 i v5688), ∀ (k0_h1 : k0_cond1 i = 1#1), ∀ a, (k0_off52 v5688) a + S1x8192.size a ≤ S8192x8192.size a := fun i v5688 k0_hw52 k0_h1 => k0_hw52 k0_h1

def k0_off53 (v5694 : BitVec 32) : Fin 2 → Nat :=
  let c0_i32_2633 : BitVec 32 := 0#32
  ![v5694.toNat, 0]

def k0_chk53 (i : grid0.Coords) (v5694 : BitVec 32) : Prop :=
  (∀ (k0_h1 : k0_cond1 i = 1#1), ∀ a, (k0_off53 v5694) a + S1x8192.size a ≤ S8192x8192.size a)
theorem k0_off53_inb : ∀ (i : grid0.Coords) (v5694 : BitVec 32) (k0_hw53 : k0_chk53 i v5694), ∀ (k0_h1 : k0_cond1 i = 1#1), ∀ a, (k0_off53 v5694) a + S1x8192.size a ≤ S8192x8192.size a := fun i v5694 k0_hw53 k0_h1 => k0_hw53 k0_h1

def k0_off54 (v5700 : BitVec 32) : Fin 2 → Nat :=
  let c0_i32_2638 : BitVec 32 := 0#32
  ![v5700.toNat, 0]

def k0_chk54 (i : grid0.Coords) (v5700 : BitVec 32) : Prop :=
  (∀ (k0_h1 : k0_cond1 i = 1#1), ∀ a, (k0_off54 v5700) a + S1x8192.size a ≤ S8192x8192.size a)
theorem k0_off54_inb : ∀ (i : grid0.Coords) (v5700 : BitVec 32) (k0_hw54 : k0_chk54 i v5700), ∀ (k0_h1 : k0_cond1 i = 1#1), ∀ a, (k0_off54 v5700) a + S1x8192.size a ≤ S8192x8192.size a := fun i v5700 k0_hw54 k0_h1 => k0_hw54 k0_h1

def k0_off55 (v5706 : BitVec 32) : Fin 2 → Nat :=
  let c0_i32_2643 : BitVec 32 := 0#32
  ![v5706.toNat, 0]

def k0_chk55 (i : grid0.Coords) (v5706 : BitVec 32) : Prop :=
  (∀ (k0_h1 : k0_cond1 i = 1#1), ∀ a, (k0_off55 v5706) a + S1x8192.size a ≤ S8192x8192.size a)
theorem k0_off55_inb : ∀ (i : grid0.Coords) (v5706 : BitVec 32) (k0_hw55 : k0_chk55 i v5706), ∀ (k0_h1 : k0_cond1 i = 1#1), ∀ a, (k0_off55 v5706) a + S1x8192.size a ≤ S8192x8192.size a := fun i v5706 k0_hw55 k0_h1 => k0_hw55 k0_h1

def k0_off56 (v5712 : BitVec 32) : Fin 2 → Nat :=
  let c0_i32_2648 : BitVec 32 := 0#32
  ![v5712.toNat, 0]

def k0_chk56 (i : grid0.Coords) (v5712 : BitVec 32) : Prop :=
  (∀ (k0_h1 : k0_cond1 i = 1#1), ∀ a, (k0_off56 v5712) a + S1x8192.size a ≤ S8192x8192.size a)
theorem k0_off56_inb : ∀ (i : grid0.Coords) (v5712 : BitVec 32) (k0_hw56 : k0_chk56 i v5712), ∀ (k0_h1 : k0_cond1 i = 1#1), ∀ a, (k0_off56 v5712) a + S1x8192.size a ≤ S8192x8192.size a := fun i v5712 k0_hw56 k0_h1 => k0_hw56 k0_h1

def k0_off57 (v5718 : BitVec 32) : Fin 2 → Nat :=
  let c0_i32_2654 : BitVec 32 := 0#32
  ![v5718.toNat, 0]

def k0_chk57 (i : grid0.Coords) (v5718 : BitVec 32) : Prop :=
  (∀ (k0_h1 : k0_cond1 i = 1#1), ∀ a, (k0_off57 v5718) a + S1x8192.size a ≤ S8192x8192.size a)
theorem k0_off57_inb : ∀ (i : grid0.Coords) (v5718 : BitVec 32) (k0_hw57 : k0_chk57 i v5718), ∀ (k0_h1 : k0_cond1 i = 1#1), ∀ a, (k0_off57 v5718) a + S1x8192.size a ≤ S8192x8192.size a := fun i v5718 k0_hw57 k0_h1 => k0_hw57 k0_h1

def k0_off58 (v5724 : BitVec 32) : Fin 2 → Nat :=
  let c0_i32_2659 : BitVec 32 := 0#32
  ![v5724.toNat, 0]

def k0_chk58 (i : grid0.Coords) (v5724 : BitVec 32) : Prop :=
  (∀ (k0_h1 : k0_cond1 i = 1#1), ∀ a, (k0_off58 v5724) a + S1x8192.size a ≤ S8192x8192.size a)
theorem k0_off58_inb : ∀ (i : grid0.Coords) (v5724 : BitVec 32) (k0_hw58 : k0_chk58 i v5724), ∀ (k0_h1 : k0_cond1 i = 1#1), ∀ a, (k0_off58 v5724) a + S1x8192.size a ≤ S8192x8192.size a := fun i v5724 k0_hw58 k0_h1 => k0_hw58 k0_h1

def k0_off59 (v5730 : BitVec 32) : Fin 2 → Nat :=
  let c0_i32_2664 : BitVec 32 := 0#32
  ![v5730.toNat, 0]

def k0_chk59 (i : grid0.Coords) (v5730 : BitVec 32) : Prop :=
  (∀ (k0_h1 : k0_cond1 i = 1#1), ∀ a, (k0_off59 v5730) a + S1x8192.size a ≤ S8192x8192.size a)
theorem k0_off59_inb : ∀ (i : grid0.Coords) (v5730 : BitVec 32) (k0_hw59 : k0_chk59 i v5730), ∀ (k0_h1 : k0_cond1 i = 1#1), ∀ a, (k0_off59 v5730) a + S1x8192.size a ≤ S8192x8192.size a := fun i v5730 k0_hw59 k0_h1 => k0_hw59 k0_h1

def k0_off60 (v5736 : BitVec 32) : Fin 2 → Nat :=
  let c0_i32_2669 : BitVec 32 := 0#32
  ![v5736.toNat, 0]

def k0_chk60 (i : grid0.Coords) (v5736 : BitVec 32) : Prop :=
  (∀ (k0_h1 : k0_cond1 i = 1#1), ∀ a, (k0_off60 v5736) a + S1x8192.size a ≤ S8192x8192.size a)
theorem k0_off60_inb : ∀ (i : grid0.Coords) (v5736 : BitVec 32) (k0_hw60 : k0_chk60 i v5736), ∀ (k0_h1 : k0_cond1 i = 1#1), ∀ a, (k0_off60 v5736) a + S1x8192.size a ≤ S8192x8192.size a := fun i v5736 k0_hw60 k0_h1 => k0_hw60 k0_h1

def k0_off61 (v5742 : BitVec 32) : Fin 2 → Nat :=
  let c0_i32_2674 : BitVec 32 := 0#32
  ![v5742.toNat, 0]

def k0_chk61 (i : grid0.Coords) (v5742 : BitVec 32) : Prop :=
  (∀ (k0_h1 : k0_cond1 i = 1#1), ∀ a, (k0_off61 v5742) a + S1x8192.size a ≤ S8192x8192.size a)
theorem k0_off61_inb : ∀ (i : grid0.Coords) (v5742 : BitVec 32) (k0_hw61 : k0_chk61 i v5742), ∀ (k0_h1 : k0_cond1 i = 1#1), ∀ a, (k0_off61 v5742) a + S1x8192.size a ≤ S8192x8192.size a := fun i v5742 k0_hw61 k0_h1 => k0_hw61 k0_h1

def k0_off62 (v5748 : BitVec 32) : Fin 2 → Nat :=
  let c0_i32_2679 : BitVec 32 := 0#32
  ![v5748.toNat, 0]

def k0_chk62 (i : grid0.Coords) (v5748 : BitVec 32) : Prop :=
  (∀ (k0_h1 : k0_cond1 i = 1#1), ∀ a, (k0_off62 v5748) a + S1x8192.size a ≤ S8192x8192.size a)
theorem k0_off62_inb : ∀ (i : grid0.Coords) (v5748 : BitVec 32) (k0_hw62 : k0_chk62 i v5748), ∀ (k0_h1 : k0_cond1 i = 1#1), ∀ a, (k0_off62 v5748) a + S1x8192.size a ≤ S8192x8192.size a := fun i v5748 k0_hw62 k0_h1 => k0_hw62 k0_h1

def k0_off63 (v5754 : BitVec 32) : Fin 2 → Nat :=
  let c0_i32_2684 : BitVec 32 := 0#32
  ![v5754.toNat, 0]

def k0_chk63 (i : grid0.Coords) (v5754 : BitVec 32) : Prop :=
  (∀ (k0_h1 : k0_cond1 i = 1#1), ∀ a, (k0_off63 v5754) a + S1x8192.size a ≤ S8192x8192.size a)
theorem k0_off63_inb : ∀ (i : grid0.Coords) (v5754 : BitVec 32) (k0_hw63 : k0_chk63 i v5754), ∀ (k0_h1 : k0_cond1 i = 1#1), ∀ a, (k0_off63 v5754) a + S1x8192.size a ≤ S8192x8192.size a := fun i v5754 k0_hw63 k0_h1 => k0_hw63 k0_h1

def k0_off64 (v5760 : BitVec 32) : Fin 2 → Nat :=
  let c0_i32_2689 : BitVec 32 := 0#32
  ![v5760.toNat, 0]

def k0_chk64 (i : grid0.Coords) (v5760 : BitVec 32) : Prop :=
  (∀ (k0_h1 : k0_cond1 i = 1#1), ∀ a, (k0_off64 v5760) a + S1x8192.size a ≤ S8192x8192.size a)
theorem k0_off64_inb : ∀ (i : grid0.Coords) (v5760 : BitVec 32) (k0_hw64 : k0_chk64 i v5760), ∀ (k0_h1 : k0_cond1 i = 1#1), ∀ a, (k0_off64 v5760) a + S1x8192.size a ≤ S8192x8192.size a := fun i v5760 k0_hw64 k0_h1 => k0_hw64 k0_h1

def k0_off65 (v5766 : BitVec 32) : Fin 2 → Nat :=
  let c0_i32_2695 : BitVec 32 := 0#32
  ![v5766.toNat, 0]

def k0_chk65 (i : grid0.Coords) (v5766 : BitVec 32) : Prop :=
  (∀ (k0_h1 : k0_cond1 i = 1#1), ∀ a, (k0_off65 v5766) a + S1x8192.size a ≤ S8192x8192.size a)
theorem k0_off65_inb : ∀ (i : grid0.Coords) (v5766 : BitVec 32) (k0_hw65 : k0_chk65 i v5766), ∀ (k0_h1 : k0_cond1 i = 1#1), ∀ a, (k0_off65 v5766) a + S1x8192.size a ≤ S8192x8192.size a := fun i v5766 k0_hw65 k0_h1 => k0_hw65 k0_h1

def k0_off66 (v5772 : BitVec 32) : Fin 2 → Nat :=
  let c0_i32_2700 : BitVec 32 := 0#32
  ![v5772.toNat, 0]

def k0_chk66 (i : grid0.Coords) (v5772 : BitVec 32) : Prop :=
  (∀ (k0_h1 : k0_cond1 i = 1#1), ∀ a, (k0_off66 v5772) a + S1x8192.size a ≤ S8192x8192.size a)
theorem k0_off66_inb : ∀ (i : grid0.Coords) (v5772 : BitVec 32) (k0_hw66 : k0_chk66 i v5772), ∀ (k0_h1 : k0_cond1 i = 1#1), ∀ a, (k0_off66 v5772) a + S1x8192.size a ≤ S8192x8192.size a := fun i v5772 k0_hw66 k0_h1 => k0_hw66 k0_h1

def k0_off67 (v5778 : BitVec 32) : Fin 2 → Nat :=
  let c0_i32_2705 : BitVec 32 := 0#32
  ![v5778.toNat, 0]

def k0_chk67 (i : grid0.Coords) (v5778 : BitVec 32) : Prop :=
  (∀ (k0_h1 : k0_cond1 i = 1#1), ∀ a, (k0_off67 v5778) a + S1x8192.size a ≤ S8192x8192.size a)
theorem k0_off67_inb : ∀ (i : grid0.Coords) (v5778 : BitVec 32) (k0_hw67 : k0_chk67 i v5778), ∀ (k0_h1 : k0_cond1 i = 1#1), ∀ a, (k0_off67 v5778) a + S1x8192.size a ≤ S8192x8192.size a := fun i v5778 k0_hw67 k0_h1 => k0_hw67 k0_h1

def k0_off68 (v5784 : BitVec 32) : Fin 2 → Nat :=
  let c0_i32_2710 : BitVec 32 := 0#32
  ![v5784.toNat, 0]

def k0_chk68 (i : grid0.Coords) (v5784 : BitVec 32) : Prop :=
  (∀ (k0_h1 : k0_cond1 i = 1#1), ∀ a, (k0_off68 v5784) a + S1x8192.size a ≤ S8192x8192.size a)
theorem k0_off68_inb : ∀ (i : grid0.Coords) (v5784 : BitVec 32) (k0_hw68 : k0_chk68 i v5784), ∀ (k0_h1 : k0_cond1 i = 1#1), ∀ a, (k0_off68 v5784) a + S1x8192.size a ≤ S8192x8192.size a := fun i v5784 k0_hw68 k0_h1 => k0_hw68 k0_h1

def k0_off69 (v5790 : BitVec 32) : Fin 2 → Nat :=
  let c0_i32_2715 : BitVec 32 := 0#32
  ![v5790.toNat, 0]

def k0_chk69 (i : grid0.Coords) (v5790 : BitVec 32) : Prop :=
  (∀ (k0_h1 : k0_cond1 i = 1#1), ∀ a, (k0_off69 v5790) a + S1x8192.size a ≤ S8192x8192.size a)
theorem k0_off69_inb : ∀ (i : grid0.Coords) (v5790 : BitVec 32) (k0_hw69 : k0_chk69 i v5790), ∀ (k0_h1 : k0_cond1 i = 1#1), ∀ a, (k0_off69 v5790) a + S1x8192.size a ≤ S8192x8192.size a := fun i v5790 k0_hw69 k0_h1 => k0_hw69 k0_h1

def k0_off70 (v5796 : BitVec 32) : Fin 2 → Nat :=
  let c0_i32_2720 : BitVec 32 := 0#32
  ![v5796.toNat, 0]

def k0_chk70 (i : grid0.Coords) (v5796 : BitVec 32) : Prop :=
  (∀ (k0_h1 : k0_cond1 i = 1#1), ∀ a, (k0_off70 v5796) a + S1x8192.size a ≤ S8192x8192.size a)
theorem k0_off70_inb : ∀ (i : grid0.Coords) (v5796 : BitVec 32) (k0_hw70 : k0_chk70 i v5796), ∀ (k0_h1 : k0_cond1 i = 1#1), ∀ a, (k0_off70 v5796) a + S1x8192.size a ≤ S8192x8192.size a := fun i v5796 k0_hw70 k0_h1 => k0_hw70 k0_h1

def k0_off71 (v5802 : BitVec 32) : Fin 2 → Nat :=
  let c0_i32_2725 : BitVec 32 := 0#32
  ![v5802.toNat, 0]

def k0_chk71 (i : grid0.Coords) (v5802 : BitVec 32) : Prop :=
  (∀ (k0_h1 : k0_cond1 i = 1#1), ∀ a, (k0_off71 v5802) a + S1x8192.size a ≤ S8192x8192.size a)
theorem k0_off71_inb : ∀ (i : grid0.Coords) (v5802 : BitVec 32) (k0_hw71 : k0_chk71 i v5802), ∀ (k0_h1 : k0_cond1 i = 1#1), ∀ a, (k0_off71 v5802) a + S1x8192.size a ≤ S8192x8192.size a := fun i v5802 k0_hw71 k0_h1 => k0_hw71 k0_h1

def k0_off72 (v5808 : BitVec 32) : Fin 2 → Nat :=
  let c0_i32_2730 : BitVec 32 := 0#32
  ![v5808.toNat, 0]

def k0_chk72 (i : grid0.Coords) (v5808 : BitVec 32) : Prop :=
  (∀ (k0_h1 : k0_cond1 i = 1#1), ∀ a, (k0_off72 v5808) a + S1x8192.size a ≤ S8192x8192.size a)
theorem k0_off72_inb : ∀ (i : grid0.Coords) (v5808 : BitVec 32) (k0_hw72 : k0_chk72 i v5808), ∀ (k0_h1 : k0_cond1 i = 1#1), ∀ a, (k0_off72 v5808) a + S1x8192.size a ≤ S8192x8192.size a := fun i v5808 k0_hw72 k0_h1 => k0_hw72 k0_h1

def k0_off73 (v5814 : BitVec 32) : Fin 2 → Nat :=
  let c0_i32_2736 : BitVec 32 := 0#32
  ![v5814.toNat, 0]

def k0_chk73 (i : grid0.Coords) (v5814 : BitVec 32) : Prop :=
  (∀ (k0_h1 : k0_cond1 i = 1#1), ∀ a, (k0_off73 v5814) a + S1x8192.size a ≤ S8192x8192.size a)
theorem k0_off73_inb : ∀ (i : grid0.Coords) (v5814 : BitVec 32) (k0_hw73 : k0_chk73 i v5814), ∀ (k0_h1 : k0_cond1 i = 1#1), ∀ a, (k0_off73 v5814) a + S1x8192.size a ≤ S8192x8192.size a := fun i v5814 k0_hw73 k0_h1 => k0_hw73 k0_h1

def k0_off74 (v5820 : BitVec 32) : Fin 2 → Nat :=
  let c0_i32_2741 : BitVec 32 := 0#32
  ![v5820.toNat, 0]

def k0_chk74 (i : grid0.Coords) (v5820 : BitVec 32) : Prop :=
  (∀ (k0_h1 : k0_cond1 i = 1#1), ∀ a, (k0_off74 v5820) a + S1x8192.size a ≤ S8192x8192.size a)
theorem k0_off74_inb : ∀ (i : grid0.Coords) (v5820 : BitVec 32) (k0_hw74 : k0_chk74 i v5820), ∀ (k0_h1 : k0_cond1 i = 1#1), ∀ a, (k0_off74 v5820) a + S1x8192.size a ≤ S8192x8192.size a := fun i v5820 k0_hw74 k0_h1 => k0_hw74 k0_h1

def k0_off75 (v5826 : BitVec 32) : Fin 2 → Nat :=
  let c0_i32_2746 : BitVec 32 := 0#32
  ![v5826.toNat, 0]

def k0_chk75 (i : grid0.Coords) (v5826 : BitVec 32) : Prop :=
  (∀ (k0_h1 : k0_cond1 i = 1#1), ∀ a, (k0_off75 v5826) a + S1x8192.size a ≤ S8192x8192.size a)
theorem k0_off75_inb : ∀ (i : grid0.Coords) (v5826 : BitVec 32) (k0_hw75 : k0_chk75 i v5826), ∀ (k0_h1 : k0_cond1 i = 1#1), ∀ a, (k0_off75 v5826) a + S1x8192.size a ≤ S8192x8192.size a := fun i v5826 k0_hw75 k0_h1 => k0_hw75 k0_h1

def k0_off76 (v5832 : BitVec 32) : Fin 2 → Nat :=
  let c0_i32_2751 : BitVec 32 := 0#32
  ![v5832.toNat, 0]

def k0_chk76 (i : grid0.Coords) (v5832 : BitVec 32) : Prop :=
  (∀ (k0_h1 : k0_cond1 i = 1#1), ∀ a, (k0_off76 v5832) a + S1x8192.size a ≤ S8192x8192.size a)
theorem k0_off76_inb : ∀ (i : grid0.Coords) (v5832 : BitVec 32) (k0_hw76 : k0_chk76 i v5832), ∀ (k0_h1 : k0_cond1 i = 1#1), ∀ a, (k0_off76 v5832) a + S1x8192.size a ≤ S8192x8192.size a := fun i v5832 k0_hw76 k0_h1 => k0_hw76 k0_h1

def k0_off77 (v5838 : BitVec 32) : Fin 2 → Nat :=
  let c0_i32_2756 : BitVec 32 := 0#32
  ![v5838.toNat, 0]

def k0_chk77 (i : grid0.Coords) (v5838 : BitVec 32) : Prop :=
  (∀ (k0_h1 : k0_cond1 i = 1#1), ∀ a, (k0_off77 v5838) a + S1x8192.size a ≤ S8192x8192.size a)
theorem k0_off77_inb : ∀ (i : grid0.Coords) (v5838 : BitVec 32) (k0_hw77 : k0_chk77 i v5838), ∀ (k0_h1 : k0_cond1 i = 1#1), ∀ a, (k0_off77 v5838) a + S1x8192.size a ≤ S8192x8192.size a := fun i v5838 k0_hw77 k0_h1 => k0_hw77 k0_h1

def k0_off78 (v5844 : BitVec 32) : Fin 2 → Nat :=
  let c0_i32_2761 : BitVec 32 := 0#32
  ![v5844.toNat, 0]

def k0_chk78 (i : grid0.Coords) (v5844 : BitVec 32) : Prop :=
  (∀ (k0_h1 : k0_cond1 i = 1#1), ∀ a, (k0_off78 v5844) a + S1x8192.size a ≤ S8192x8192.size a)
theorem k0_off78_inb : ∀ (i : grid0.Coords) (v5844 : BitVec 32) (k0_hw78 : k0_chk78 i v5844), ∀ (k0_h1 : k0_cond1 i = 1#1), ∀ a, (k0_off78 v5844) a + S1x8192.size a ≤ S8192x8192.size a := fun i v5844 k0_hw78 k0_h1 => k0_hw78 k0_h1

def k0_off79 (v5850 : BitVec 32) : Fin 2 → Nat :=
  let c0_i32_2766 : BitVec 32 := 0#32
  ![v5850.toNat, 0]

def k0_chk79 (i : grid0.Coords) (v5850 : BitVec 32) : Prop :=
  (∀ (k0_h1 : k0_cond1 i = 1#1), ∀ a, (k0_off79 v5850) a + S1x8192.size a ≤ S8192x8192.size a)
theorem k0_off79_inb : ∀ (i : grid0.Coords) (v5850 : BitVec 32) (k0_hw79 : k0_chk79 i v5850), ∀ (k0_h1 : k0_cond1 i = 1#1), ∀ a, (k0_off79 v5850) a + S1x8192.size a ≤ S8192x8192.size a := fun i v5850 k0_hw79 k0_h1 => k0_hw79 k0_h1

def k0_off80 (v5856 : BitVec 32) : Fin 2 → Nat :=
  let c0_i32_2771 : BitVec 32 := 0#32
  ![v5856.toNat, 0]

def k0_chk80 (i : grid0.Coords) (v5856 : BitVec 32) : Prop :=
  (∀ (k0_h1 : k0_cond1 i = 1#1), ∀ a, (k0_off80 v5856) a + S1x8192.size a ≤ S8192x8192.size a)
theorem k0_off80_inb : ∀ (i : grid0.Coords) (v5856 : BitVec 32) (k0_hw80 : k0_chk80 i v5856), ∀ (k0_h1 : k0_cond1 i = 1#1), ∀ a, (k0_off80 v5856) a + S1x8192.size a ≤ S8192x8192.size a := fun i v5856 k0_hw80 k0_h1 => k0_hw80 k0_h1

def k0_off81 (v5862 : BitVec 32) : Fin 2 → Nat :=
  let c0_i32_2777 : BitVec 32 := 0#32
  ![v5862.toNat, 0]

def k0_chk81 (i : grid0.Coords) (v5862 : BitVec 32) : Prop :=
  (∀ (k0_h1 : k0_cond1 i = 1#1), ∀ a, (k0_off81 v5862) a + S1x8192.size a ≤ S8192x8192.size a)
theorem k0_off81_inb : ∀ (i : grid0.Coords) (v5862 : BitVec 32) (k0_hw81 : k0_chk81 i v5862), ∀ (k0_h1 : k0_cond1 i = 1#1), ∀ a, (k0_off81 v5862) a + S1x8192.size a ≤ S8192x8192.size a := fun i v5862 k0_hw81 k0_h1 => k0_hw81 k0_h1

def k0_off82 (v5868 : BitVec 32) : Fin 2 → Nat :=
  let c0_i32_2782 : BitVec 32 := 0#32
  ![v5868.toNat, 0]

def k0_chk82 (i : grid0.Coords) (v5868 : BitVec 32) : Prop :=
  (∀ (k0_h1 : k0_cond1 i = 1#1), ∀ a, (k0_off82 v5868) a + S1x8192.size a ≤ S8192x8192.size a)
theorem k0_off82_inb : ∀ (i : grid0.Coords) (v5868 : BitVec 32) (k0_hw82 : k0_chk82 i v5868), ∀ (k0_h1 : k0_cond1 i = 1#1), ∀ a, (k0_off82 v5868) a + S1x8192.size a ≤ S8192x8192.size a := fun i v5868 k0_hw82 k0_h1 => k0_hw82 k0_h1

def k0_off83 (v5874 : BitVec 32) : Fin 2 → Nat :=
  let c0_i32_2787 : BitVec 32 := 0#32
  ![v5874.toNat, 0]

def k0_chk83 (i : grid0.Coords) (v5874 : BitVec 32) : Prop :=
  (∀ (k0_h1 : k0_cond1 i = 1#1), ∀ a, (k0_off83 v5874) a + S1x8192.size a ≤ S8192x8192.size a)
theorem k0_off83_inb : ∀ (i : grid0.Coords) (v5874 : BitVec 32) (k0_hw83 : k0_chk83 i v5874), ∀ (k0_h1 : k0_cond1 i = 1#1), ∀ a, (k0_off83 v5874) a + S1x8192.size a ≤ S8192x8192.size a := fun i v5874 k0_hw83 k0_h1 => k0_hw83 k0_h1

def k0_off84 (v5880 : BitVec 32) : Fin 2 → Nat :=
  let c0_i32_2792 : BitVec 32 := 0#32
  ![v5880.toNat, 0]

def k0_chk84 (i : grid0.Coords) (v5880 : BitVec 32) : Prop :=
  (∀ (k0_h1 : k0_cond1 i = 1#1), ∀ a, (k0_off84 v5880) a + S1x8192.size a ≤ S8192x8192.size a)
theorem k0_off84_inb : ∀ (i : grid0.Coords) (v5880 : BitVec 32) (k0_hw84 : k0_chk84 i v5880), ∀ (k0_h1 : k0_cond1 i = 1#1), ∀ a, (k0_off84 v5880) a + S1x8192.size a ≤ S8192x8192.size a := fun i v5880 k0_hw84 k0_h1 => k0_hw84 k0_h1

def k0_off85 (v5886 : BitVec 32) : Fin 2 → Nat :=
  let c0_i32_2797 : BitVec 32 := 0#32
  ![v5886.toNat, 0]

def k0_chk85 (i : grid0.Coords) (v5886 : BitVec 32) : Prop :=
  (∀ (k0_h1 : k0_cond1 i = 1#1), ∀ a, (k0_off85 v5886) a + S1x8192.size a ≤ S8192x8192.size a)
theorem k0_off85_inb : ∀ (i : grid0.Coords) (v5886 : BitVec 32) (k0_hw85 : k0_chk85 i v5886), ∀ (k0_h1 : k0_cond1 i = 1#1), ∀ a, (k0_off85 v5886) a + S1x8192.size a ≤ S8192x8192.size a := fun i v5886 k0_hw85 k0_h1 => k0_hw85 k0_h1

def k0_off86 (v5892 : BitVec 32) : Fin 2 → Nat :=
  let c0_i32_2802 : BitVec 32 := 0#32
  ![v5892.toNat, 0]

def k0_chk86 (i : grid0.Coords) (v5892 : BitVec 32) : Prop :=
  (∀ (k0_h1 : k0_cond1 i = 1#1), ∀ a, (k0_off86 v5892) a + S1x8192.size a ≤ S8192x8192.size a)
theorem k0_off86_inb : ∀ (i : grid0.Coords) (v5892 : BitVec 32) (k0_hw86 : k0_chk86 i v5892), ∀ (k0_h1 : k0_cond1 i = 1#1), ∀ a, (k0_off86 v5892) a + S1x8192.size a ≤ S8192x8192.size a := fun i v5892 k0_hw86 k0_h1 => k0_hw86 k0_h1

def k0_off87 (v5898 : BitVec 32) : Fin 2 → Nat :=
  let c0_i32_2807 : BitVec 32 := 0#32
  ![v5898.toNat, 0]

def k0_chk87 (i : grid0.Coords) (v5898 : BitVec 32) : Prop :=
  (∀ (k0_h1 : k0_cond1 i = 1#1), ∀ a, (k0_off87 v5898) a + S1x8192.size a ≤ S8192x8192.size a)
theorem k0_off87_inb : ∀ (i : grid0.Coords) (v5898 : BitVec 32) (k0_hw87 : k0_chk87 i v5898), ∀ (k0_h1 : k0_cond1 i = 1#1), ∀ a, (k0_off87 v5898) a + S1x8192.size a ≤ S8192x8192.size a := fun i v5898 k0_hw87 k0_h1 => k0_hw87 k0_h1

def k0_off88 (v5904 : BitVec 32) : Fin 2 → Nat :=
  let c0_i32_2812 : BitVec 32 := 0#32
  ![v5904.toNat, 0]

def k0_chk88 (i : grid0.Coords) (v5904 : BitVec 32) : Prop :=
  (∀ (k0_h1 : k0_cond1 i = 1#1), ∀ a, (k0_off88 v5904) a + S1x8192.size a ≤ S8192x8192.size a)
theorem k0_off88_inb : ∀ (i : grid0.Coords) (v5904 : BitVec 32) (k0_hw88 : k0_chk88 i v5904), ∀ (k0_h1 : k0_cond1 i = 1#1), ∀ a, (k0_off88 v5904) a + S1x8192.size a ≤ S8192x8192.size a := fun i v5904 k0_hw88 k0_h1 => k0_hw88 k0_h1

def k0_off89 (v5910 : BitVec 32) : Fin 2 → Nat :=
  let c0_i32_2818 : BitVec 32 := 0#32
  ![v5910.toNat, 0]

def k0_chk89 (i : grid0.Coords) (v5910 : BitVec 32) : Prop :=
  (∀ (k0_h1 : k0_cond1 i = 1#1), ∀ a, (k0_off89 v5910) a + S1x8192.size a ≤ S8192x8192.size a)
theorem k0_off89_inb : ∀ (i : grid0.Coords) (v5910 : BitVec 32) (k0_hw89 : k0_chk89 i v5910), ∀ (k0_h1 : k0_cond1 i = 1#1), ∀ a, (k0_off89 v5910) a + S1x8192.size a ≤ S8192x8192.size a := fun i v5910 k0_hw89 k0_h1 => k0_hw89 k0_h1

def k0_off90 (v5916 : BitVec 32) : Fin 2 → Nat :=
  let c0_i32_2823 : BitVec 32 := 0#32
  ![v5916.toNat, 0]

def k0_chk90 (i : grid0.Coords) (v5916 : BitVec 32) : Prop :=
  (∀ (k0_h1 : k0_cond1 i = 1#1), ∀ a, (k0_off90 v5916) a + S1x8192.size a ≤ S8192x8192.size a)
theorem k0_off90_inb : ∀ (i : grid0.Coords) (v5916 : BitVec 32) (k0_hw90 : k0_chk90 i v5916), ∀ (k0_h1 : k0_cond1 i = 1#1), ∀ a, (k0_off90 v5916) a + S1x8192.size a ≤ S8192x8192.size a := fun i v5916 k0_hw90 k0_h1 => k0_hw90 k0_h1

def k0_off91 (v5922 : BitVec 32) : Fin 2 → Nat :=
  let c0_i32_2828 : BitVec 32 := 0#32
  ![v5922.toNat, 0]

def k0_chk91 (i : grid0.Coords) (v5922 : BitVec 32) : Prop :=
  (∀ (k0_h1 : k0_cond1 i = 1#1), ∀ a, (k0_off91 v5922) a + S1x8192.size a ≤ S8192x8192.size a)
theorem k0_off91_inb : ∀ (i : grid0.Coords) (v5922 : BitVec 32) (k0_hw91 : k0_chk91 i v5922), ∀ (k0_h1 : k0_cond1 i = 1#1), ∀ a, (k0_off91 v5922) a + S1x8192.size a ≤ S8192x8192.size a := fun i v5922 k0_hw91 k0_h1 => k0_hw91 k0_h1

def k0_off92 (v5928 : BitVec 32) : Fin 2 → Nat :=
  let c0_i32_2833 : BitVec 32 := 0#32
  ![v5928.toNat, 0]

def k0_chk92 (i : grid0.Coords) (v5928 : BitVec 32) : Prop :=
  (∀ (k0_h1 : k0_cond1 i = 1#1), ∀ a, (k0_off92 v5928) a + S1x8192.size a ≤ S8192x8192.size a)
theorem k0_off92_inb : ∀ (i : grid0.Coords) (v5928 : BitVec 32) (k0_hw92 : k0_chk92 i v5928), ∀ (k0_h1 : k0_cond1 i = 1#1), ∀ a, (k0_off92 v5928) a + S1x8192.size a ≤ S8192x8192.size a := fun i v5928 k0_hw92 k0_h1 => k0_hw92 k0_h1

def k0_off93 (v5934 : BitVec 32) : Fin 2 → Nat :=
  let c0_i32_2838 : BitVec 32 := 0#32
  ![v5934.toNat, 0]

def k0_chk93 (i : grid0.Coords) (v5934 : BitVec 32) : Prop :=
  (∀ (k0_h1 : k0_cond1 i = 1#1), ∀ a, (k0_off93 v5934) a + S1x8192.size a ≤ S8192x8192.size a)
theorem k0_off93_inb : ∀ (i : grid0.Coords) (v5934 : BitVec 32) (k0_hw93 : k0_chk93 i v5934), ∀ (k0_h1 : k0_cond1 i = 1#1), ∀ a, (k0_off93 v5934) a + S1x8192.size a ≤ S8192x8192.size a := fun i v5934 k0_hw93 k0_h1 => k0_hw93 k0_h1

def k0_off94 (v5940 : BitVec 32) : Fin 2 → Nat :=
  let c0_i32_2843 : BitVec 32 := 0#32
  ![v5940.toNat, 0]

def k0_chk94 (i : grid0.Coords) (v5940 : BitVec 32) : Prop :=
  (∀ (k0_h1 : k0_cond1 i = 1#1), ∀ a, (k0_off94 v5940) a + S1x8192.size a ≤ S8192x8192.size a)
theorem k0_off94_inb : ∀ (i : grid0.Coords) (v5940 : BitVec 32) (k0_hw94 : k0_chk94 i v5940), ∀ (k0_h1 : k0_cond1 i = 1#1), ∀ a, (k0_off94 v5940) a + S1x8192.size a ≤ S8192x8192.size a := fun i v5940 k0_hw94 k0_h1 => k0_hw94 k0_h1

def k0_off95 (v5946 : BitVec 32) : Fin 2 → Nat :=
  let c0_i32_2848 : BitVec 32 := 0#32
  ![v5946.toNat, 0]

def k0_chk95 (i : grid0.Coords) (v5946 : BitVec 32) : Prop :=
  (∀ (k0_h1 : k0_cond1 i = 1#1), ∀ a, (k0_off95 v5946) a + S1x8192.size a ≤ S8192x8192.size a)
theorem k0_off95_inb : ∀ (i : grid0.Coords) (v5946 : BitVec 32) (k0_hw95 : k0_chk95 i v5946), ∀ (k0_h1 : k0_cond1 i = 1#1), ∀ a, (k0_off95 v5946) a + S1x8192.size a ≤ S8192x8192.size a := fun i v5946 k0_hw95 k0_h1 => k0_hw95 k0_h1

def k0_off96 (v5952 : BitVec 32) : Fin 2 → Nat :=
  let c0_i32_2853 : BitVec 32 := 0#32
  ![v5952.toNat, 0]

def k0_chk96 (i : grid0.Coords) (v5952 : BitVec 32) : Prop :=
  (∀ (k0_h1 : k0_cond1 i = 1#1), ∀ a, (k0_off96 v5952) a + S1x8192.size a ≤ S8192x8192.size a)
theorem k0_off96_inb : ∀ (i : grid0.Coords) (v5952 : BitVec 32) (k0_hw96 : k0_chk96 i v5952), ∀ (k0_h1 : k0_cond1 i = 1#1), ∀ a, (k0_off96 v5952) a + S1x8192.size a ≤ S8192x8192.size a := fun i v5952 k0_hw96 k0_h1 => k0_hw96 k0_h1

def k0_off97 (v5958 : BitVec 32) : Fin 2 → Nat :=
  let c0_i32_2859 : BitVec 32 := 0#32
  ![v5958.toNat, 0]

def k0_chk97 (i : grid0.Coords) (v5958 : BitVec 32) : Prop :=
  (∀ (k0_h1 : k0_cond1 i = 1#1), ∀ a, (k0_off97 v5958) a + S1x8192.size a ≤ S8192x8192.size a)
theorem k0_off97_inb : ∀ (i : grid0.Coords) (v5958 : BitVec 32) (k0_hw97 : k0_chk97 i v5958), ∀ (k0_h1 : k0_cond1 i = 1#1), ∀ a, (k0_off97 v5958) a + S1x8192.size a ≤ S8192x8192.size a := fun i v5958 k0_hw97 k0_h1 => k0_hw97 k0_h1

def k0_off98 (v5964 : BitVec 32) : Fin 2 → Nat :=
  let c0_i32_2864 : BitVec 32 := 0#32
  ![v5964.toNat, 0]

def k0_chk98 (i : grid0.Coords) (v5964 : BitVec 32) : Prop :=
  (∀ (k0_h1 : k0_cond1 i = 1#1), ∀ a, (k0_off98 v5964) a + S1x8192.size a ≤ S8192x8192.size a)
theorem k0_off98_inb : ∀ (i : grid0.Coords) (v5964 : BitVec 32) (k0_hw98 : k0_chk98 i v5964), ∀ (k0_h1 : k0_cond1 i = 1#1), ∀ a, (k0_off98 v5964) a + S1x8192.size a ≤ S8192x8192.size a := fun i v5964 k0_hw98 k0_h1 => k0_hw98 k0_h1

def k0_off99 (v5970 : BitVec 32) : Fin 2 → Nat :=
  let c0_i32_2869 : BitVec 32 := 0#32
  ![v5970.toNat, 0]

def k0_chk99 (i : grid0.Coords) (v5970 : BitVec 32) : Prop :=
  (∀ (k0_h1 : k0_cond1 i = 1#1), ∀ a, (k0_off99 v5970) a + S1x8192.size a ≤ S8192x8192.size a)
theorem k0_off99_inb : ∀ (i : grid0.Coords) (v5970 : BitVec 32) (k0_hw99 : k0_chk99 i v5970), ∀ (k0_h1 : k0_cond1 i = 1#1), ∀ a, (k0_off99 v5970) a + S1x8192.size a ≤ S8192x8192.size a := fun i v5970 k0_hw99 k0_h1 => k0_hw99 k0_h1

def k0_off100 (v5976 : BitVec 32) : Fin 2 → Nat :=
  let c0_i32_2874 : BitVec 32 := 0#32
  ![v5976.toNat, 0]

def k0_chk100 (i : grid0.Coords) (v5976 : BitVec 32) : Prop :=
  (∀ (k0_h1 : k0_cond1 i = 1#1), ∀ a, (k0_off100 v5976) a + S1x8192.size a ≤ S8192x8192.size a)
theorem k0_off100_inb : ∀ (i : grid0.Coords) (v5976 : BitVec 32) (k0_hw100 : k0_chk100 i v5976), ∀ (k0_h1 : k0_cond1 i = 1#1), ∀ a, (k0_off100 v5976) a + S1x8192.size a ≤ S8192x8192.size a := fun i v5976 k0_hw100 k0_h1 => k0_hw100 k0_h1

def k0_off101 (v5982 : BitVec 32) : Fin 2 → Nat :=
  let c0_i32_2879 : BitVec 32 := 0#32
  ![v5982.toNat, 0]

def k0_chk101 (i : grid0.Coords) (v5982 : BitVec 32) : Prop :=
  (∀ (k0_h1 : k0_cond1 i = 1#1), ∀ a, (k0_off101 v5982) a + S1x8192.size a ≤ S8192x8192.size a)
theorem k0_off101_inb : ∀ (i : grid0.Coords) (v5982 : BitVec 32) (k0_hw101 : k0_chk101 i v5982), ∀ (k0_h1 : k0_cond1 i = 1#1), ∀ a, (k0_off101 v5982) a + S1x8192.size a ≤ S8192x8192.size a := fun i v5982 k0_hw101 k0_h1 => k0_hw101 k0_h1

def k0_off102 (v5988 : BitVec 32) : Fin 2 → Nat :=
  let c0_i32_2884 : BitVec 32 := 0#32
  ![v5988.toNat, 0]

def k0_chk102 (i : grid0.Coords) (v5988 : BitVec 32) : Prop :=
  (∀ (k0_h1 : k0_cond1 i = 1#1), ∀ a, (k0_off102 v5988) a + S1x8192.size a ≤ S8192x8192.size a)
theorem k0_off102_inb : ∀ (i : grid0.Coords) (v5988 : BitVec 32) (k0_hw102 : k0_chk102 i v5988), ∀ (k0_h1 : k0_cond1 i = 1#1), ∀ a, (k0_off102 v5988) a + S1x8192.size a ≤ S8192x8192.size a := fun i v5988 k0_hw102 k0_h1 => k0_hw102 k0_h1

def k0_off103 (v5994 : BitVec 32) : Fin 2 → Nat :=
  let c0_i32_2889 : BitVec 32 := 0#32
  ![v5994.toNat, 0]

def k0_chk103 (i : grid0.Coords) (v5994 : BitVec 32) : Prop :=
  (∀ (k0_h1 : k0_cond1 i = 1#1), ∀ a, (k0_off103 v5994) a + S1x8192.size a ≤ S8192x8192.size a)
theorem k0_off103_inb : ∀ (i : grid0.Coords) (v5994 : BitVec 32) (k0_hw103 : k0_chk103 i v5994), ∀ (k0_h1 : k0_cond1 i = 1#1), ∀ a, (k0_off103 v5994) a + S1x8192.size a ≤ S8192x8192.size a := fun i v5994 k0_hw103 k0_h1 => k0_hw103 k0_h1

def k0_off104 (v6000 : BitVec 32) : Fin 2 → Nat :=
  let c0_i32_2894 : BitVec 32 := 0#32
  ![v6000.toNat, 0]

def k0_chk104 (i : grid0.Coords) (v6000 : BitVec 32) : Prop :=
  (∀ (k0_h1 : k0_cond1 i = 1#1), ∀ a, (k0_off104 v6000) a + S1x8192.size a ≤ S8192x8192.size a)
theorem k0_off104_inb : ∀ (i : grid0.Coords) (v6000 : BitVec 32) (k0_hw104 : k0_chk104 i v6000), ∀ (k0_h1 : k0_cond1 i = 1#1), ∀ a, (k0_off104 v6000) a + S1x8192.size a ≤ S8192x8192.size a := fun i v6000 k0_hw104 k0_h1 => k0_hw104 k0_h1

def k0_off105 (v6006 : BitVec 32) : Fin 2 → Nat :=
  let c0_i32_2900 : BitVec 32 := 0#32
  ![v6006.toNat, 0]

def k0_chk105 (i : grid0.Coords) (v6006 : BitVec 32) : Prop :=
  (∀ (k0_h1 : k0_cond1 i = 1#1), ∀ a, (k0_off105 v6006) a + S1x8192.size a ≤ S8192x8192.size a)
theorem k0_off105_inb : ∀ (i : grid0.Coords) (v6006 : BitVec 32) (k0_hw105 : k0_chk105 i v6006), ∀ (k0_h1 : k0_cond1 i = 1#1), ∀ a, (k0_off105 v6006) a + S1x8192.size a ≤ S8192x8192.size a := fun i v6006 k0_hw105 k0_h1 => k0_hw105 k0_h1

def k0_off106 (v6012 : BitVec 32) : Fin 2 → Nat :=
  let c0_i32_2905 : BitVec 32 := 0#32
  ![v6012.toNat, 0]

def k0_chk106 (i : grid0.Coords) (v6012 : BitVec 32) : Prop :=
  (∀ (k0_h1 : k0_cond1 i = 1#1), ∀ a, (k0_off106 v6012) a + S1x8192.size a ≤ S8192x8192.size a)
theorem k0_off106_inb : ∀ (i : grid0.Coords) (v6012 : BitVec 32) (k0_hw106 : k0_chk106 i v6012), ∀ (k0_h1 : k0_cond1 i = 1#1), ∀ a, (k0_off106 v6012) a + S1x8192.size a ≤ S8192x8192.size a := fun i v6012 k0_hw106 k0_h1 => k0_hw106 k0_h1

def k0_off107 (v6018 : BitVec 32) : Fin 2 → Nat :=
  let c0_i32_2910 : BitVec 32 := 0#32
  ![v6018.toNat, 0]

def k0_chk107 (i : grid0.Coords) (v6018 : BitVec 32) : Prop :=
  (∀ (k0_h1 : k0_cond1 i = 1#1), ∀ a, (k0_off107 v6018) a + S1x8192.size a ≤ S8192x8192.size a)
theorem k0_off107_inb : ∀ (i : grid0.Coords) (v6018 : BitVec 32) (k0_hw107 : k0_chk107 i v6018), ∀ (k0_h1 : k0_cond1 i = 1#1), ∀ a, (k0_off107 v6018) a + S1x8192.size a ≤ S8192x8192.size a := fun i v6018 k0_hw107 k0_h1 => k0_hw107 k0_h1

def k0_off108 (v6024 : BitVec 32) : Fin 2 → Nat :=
  let c0_i32_2915 : BitVec 32 := 0#32
  ![v6024.toNat, 0]

def k0_chk108 (i : grid0.Coords) (v6024 : BitVec 32) : Prop :=
  (∀ (k0_h1 : k0_cond1 i = 1#1), ∀ a, (k0_off108 v6024) a + S1x8192.size a ≤ S8192x8192.size a)
theorem k0_off108_inb : ∀ (i : grid0.Coords) (v6024 : BitVec 32) (k0_hw108 : k0_chk108 i v6024), ∀ (k0_h1 : k0_cond1 i = 1#1), ∀ a, (k0_off108 v6024) a + S1x8192.size a ≤ S8192x8192.size a := fun i v6024 k0_hw108 k0_h1 => k0_hw108 k0_h1

def k0_off109 (v6030 : BitVec 32) : Fin 2 → Nat :=
  let c0_i32_2920 : BitVec 32 := 0#32
  ![v6030.toNat, 0]

def k0_chk109 (i : grid0.Coords) (v6030 : BitVec 32) : Prop :=
  (∀ (k0_h1 : k0_cond1 i = 1#1), ∀ a, (k0_off109 v6030) a + S1x8192.size a ≤ S8192x8192.size a)
theorem k0_off109_inb : ∀ (i : grid0.Coords) (v6030 : BitVec 32) (k0_hw109 : k0_chk109 i v6030), ∀ (k0_h1 : k0_cond1 i = 1#1), ∀ a, (k0_off109 v6030) a + S1x8192.size a ≤ S8192x8192.size a := fun i v6030 k0_hw109 k0_h1 => k0_hw109 k0_h1

def k0_off110 (v6036 : BitVec 32) : Fin 2 → Nat :=
  let c0_i32_2925 : BitVec 32 := 0#32
  ![v6036.toNat, 0]

def k0_chk110 (i : grid0.Coords) (v6036 : BitVec 32) : Prop :=
  (∀ (k0_h1 : k0_cond1 i = 1#1), ∀ a, (k0_off110 v6036) a + S1x8192.size a ≤ S8192x8192.size a)
theorem k0_off110_inb : ∀ (i : grid0.Coords) (v6036 : BitVec 32) (k0_hw110 : k0_chk110 i v6036), ∀ (k0_h1 : k0_cond1 i = 1#1), ∀ a, (k0_off110 v6036) a + S1x8192.size a ≤ S8192x8192.size a := fun i v6036 k0_hw110 k0_h1 => k0_hw110 k0_h1

def k0_off111 (v6042 : BitVec 32) : Fin 2 → Nat :=
  let c0_i32_2930 : BitVec 32 := 0#32
  ![v6042.toNat, 0]

def k0_chk111 (i : grid0.Coords) (v6042 : BitVec 32) : Prop :=
  (∀ (k0_h1 : k0_cond1 i = 1#1), ∀ a, (k0_off111 v6042) a + S1x8192.size a ≤ S8192x8192.size a)
theorem k0_off111_inb : ∀ (i : grid0.Coords) (v6042 : BitVec 32) (k0_hw111 : k0_chk111 i v6042), ∀ (k0_h1 : k0_cond1 i = 1#1), ∀ a, (k0_off111 v6042) a + S1x8192.size a ≤ S8192x8192.size a := fun i v6042 k0_hw111 k0_h1 => k0_hw111 k0_h1

def k0_off112 (v6048 : BitVec 32) : Fin 2 → Nat :=
  let c0_i32_2935 : BitVec 32 := 0#32
  ![v6048.toNat, 0]

def k0_chk112 (i : grid0.Coords) (v6048 : BitVec 32) : Prop :=
  (∀ (k0_h1 : k0_cond1 i = 1#1), ∀ a, (k0_off112 v6048) a + S1x8192.size a ≤ S8192x8192.size a)
theorem k0_off112_inb : ∀ (i : grid0.Coords) (v6048 : BitVec 32) (k0_hw112 : k0_chk112 i v6048), ∀ (k0_h1 : k0_cond1 i = 1#1), ∀ a, (k0_off112 v6048) a + S1x8192.size a ≤ S8192x8192.size a := fun i v6048 k0_hw112 k0_h1 => k0_hw112 k0_h1

def k0_off113 (v6054 : BitVec 32) : Fin 2 → Nat :=
  let c0_i32_2941 : BitVec 32 := 0#32
  ![v6054.toNat, 0]

def k0_chk113 (i : grid0.Coords) (v6054 : BitVec 32) : Prop :=
  (∀ (k0_h1 : k0_cond1 i = 1#1), ∀ a, (k0_off113 v6054) a + S1x8192.size a ≤ S8192x8192.size a)
theorem k0_off113_inb : ∀ (i : grid0.Coords) (v6054 : BitVec 32) (k0_hw113 : k0_chk113 i v6054), ∀ (k0_h1 : k0_cond1 i = 1#1), ∀ a, (k0_off113 v6054) a + S1x8192.size a ≤ S8192x8192.size a := fun i v6054 k0_hw113 k0_h1 => k0_hw113 k0_h1

def k0_off114 (v6060 : BitVec 32) : Fin 2 → Nat :=
  let c0_i32_2946 : BitVec 32 := 0#32
  ![v6060.toNat, 0]

def k0_chk114 (i : grid0.Coords) (v6060 : BitVec 32) : Prop :=
  (∀ (k0_h1 : k0_cond1 i = 1#1), ∀ a, (k0_off114 v6060) a + S1x8192.size a ≤ S8192x8192.size a)
theorem k0_off114_inb : ∀ (i : grid0.Coords) (v6060 : BitVec 32) (k0_hw114 : k0_chk114 i v6060), ∀ (k0_h1 : k0_cond1 i = 1#1), ∀ a, (k0_off114 v6060) a + S1x8192.size a ≤ S8192x8192.size a := fun i v6060 k0_hw114 k0_h1 => k0_hw114 k0_h1

def k0_off115 (v6066 : BitVec 32) : Fin 2 → Nat :=
  let c0_i32_2951 : BitVec 32 := 0#32
  ![v6066.toNat, 0]

def k0_chk115 (i : grid0.Coords) (v6066 : BitVec 32) : Prop :=
  (∀ (k0_h1 : k0_cond1 i = 1#1), ∀ a, (k0_off115 v6066) a + S1x8192.size a ≤ S8192x8192.size a)
theorem k0_off115_inb : ∀ (i : grid0.Coords) (v6066 : BitVec 32) (k0_hw115 : k0_chk115 i v6066), ∀ (k0_h1 : k0_cond1 i = 1#1), ∀ a, (k0_off115 v6066) a + S1x8192.size a ≤ S8192x8192.size a := fun i v6066 k0_hw115 k0_h1 => k0_hw115 k0_h1

def k0_off116 (v6072 : BitVec 32) : Fin 2 → Nat :=
  let c0_i32_2956 : BitVec 32 := 0#32
  ![v6072.toNat, 0]

def k0_chk116 (i : grid0.Coords) (v6072 : BitVec 32) : Prop :=
  (∀ (k0_h1 : k0_cond1 i = 1#1), ∀ a, (k0_off116 v6072) a + S1x8192.size a ≤ S8192x8192.size a)
theorem k0_off116_inb : ∀ (i : grid0.Coords) (v6072 : BitVec 32) (k0_hw116 : k0_chk116 i v6072), ∀ (k0_h1 : k0_cond1 i = 1#1), ∀ a, (k0_off116 v6072) a + S1x8192.size a ≤ S8192x8192.size a := fun i v6072 k0_hw116 k0_h1 => k0_hw116 k0_h1

def k0_off117 (v6078 : BitVec 32) : Fin 2 → Nat :=
  let c0_i32_2961 : BitVec 32 := 0#32
  ![v6078.toNat, 0]

def k0_chk117 (i : grid0.Coords) (v6078 : BitVec 32) : Prop :=
  (∀ (k0_h1 : k0_cond1 i = 1#1), ∀ a, (k0_off117 v6078) a + S1x8192.size a ≤ S8192x8192.size a)
theorem k0_off117_inb : ∀ (i : grid0.Coords) (v6078 : BitVec 32) (k0_hw117 : k0_chk117 i v6078), ∀ (k0_h1 : k0_cond1 i = 1#1), ∀ a, (k0_off117 v6078) a + S1x8192.size a ≤ S8192x8192.size a := fun i v6078 k0_hw117 k0_h1 => k0_hw117 k0_h1

def k0_off118 (v6084 : BitVec 32) : Fin 2 → Nat :=
  let c0_i32_2966 : BitVec 32 := 0#32
  ![v6084.toNat, 0]

def k0_chk118 (i : grid0.Coords) (v6084 : BitVec 32) : Prop :=
  (∀ (k0_h1 : k0_cond1 i = 1#1), ∀ a, (k0_off118 v6084) a + S1x8192.size a ≤ S8192x8192.size a)
theorem k0_off118_inb : ∀ (i : grid0.Coords) (v6084 : BitVec 32) (k0_hw118 : k0_chk118 i v6084), ∀ (k0_h1 : k0_cond1 i = 1#1), ∀ a, (k0_off118 v6084) a + S1x8192.size a ≤ S8192x8192.size a := fun i v6084 k0_hw118 k0_h1 => k0_hw118 k0_h1

def k0_off119 (v6090 : BitVec 32) : Fin 2 → Nat :=
  let c0_i32_2971 : BitVec 32 := 0#32
  ![v6090.toNat, 0]

def k0_chk119 (i : grid0.Coords) (v6090 : BitVec 32) : Prop :=
  (∀ (k0_h1 : k0_cond1 i = 1#1), ∀ a, (k0_off119 v6090) a + S1x8192.size a ≤ S8192x8192.size a)
theorem k0_off119_inb : ∀ (i : grid0.Coords) (v6090 : BitVec 32) (k0_hw119 : k0_chk119 i v6090), ∀ (k0_h1 : k0_cond1 i = 1#1), ∀ a, (k0_off119 v6090) a + S1x8192.size a ≤ S8192x8192.size a := fun i v6090 k0_hw119 k0_h1 => k0_hw119 k0_h1

def k0_off120 (v6096 : BitVec 32) : Fin 2 → Nat :=
  let c0_i32_2976 : BitVec 32 := 0#32
  ![v6096.toNat, 0]

def k0_chk120 (i : grid0.Coords) (v6096 : BitVec 32) : Prop :=
  (∀ (k0_h1 : k0_cond1 i = 1#1), ∀ a, (k0_off120 v6096) a + S1x8192.size a ≤ S8192x8192.size a)
theorem k0_off120_inb : ∀ (i : grid0.Coords) (v6096 : BitVec 32) (k0_hw120 : k0_chk120 i v6096), ∀ (k0_h1 : k0_cond1 i = 1#1), ∀ a, (k0_off120 v6096) a + S1x8192.size a ≤ S8192x8192.size a := fun i v6096 k0_hw120 k0_h1 => k0_hw120 k0_h1

def k0_off121 (v6102 : BitVec 32) : Fin 2 → Nat :=
  let c0_i32_2982 : BitVec 32 := 0#32
  ![v6102.toNat, 0]

def k0_chk121 (i : grid0.Coords) (v6102 : BitVec 32) : Prop :=
  (∀ (k0_h1 : k0_cond1 i = 1#1), ∀ a, (k0_off121 v6102) a + S1x8192.size a ≤ S8192x8192.size a)
theorem k0_off121_inb : ∀ (i : grid0.Coords) (v6102 : BitVec 32) (k0_hw121 : k0_chk121 i v6102), ∀ (k0_h1 : k0_cond1 i = 1#1), ∀ a, (k0_off121 v6102) a + S1x8192.size a ≤ S8192x8192.size a := fun i v6102 k0_hw121 k0_h1 => k0_hw121 k0_h1

def k0_off122 (v6108 : BitVec 32) : Fin 2 → Nat :=
  let c0_i32_2987 : BitVec 32 := 0#32
  ![v6108.toNat, 0]

def k0_chk122 (i : grid0.Coords) (v6108 : BitVec 32) : Prop :=
  (∀ (k0_h1 : k0_cond1 i = 1#1), ∀ a, (k0_off122 v6108) a + S1x8192.size a ≤ S8192x8192.size a)
theorem k0_off122_inb : ∀ (i : grid0.Coords) (v6108 : BitVec 32) (k0_hw122 : k0_chk122 i v6108), ∀ (k0_h1 : k0_cond1 i = 1#1), ∀ a, (k0_off122 v6108) a + S1x8192.size a ≤ S8192x8192.size a := fun i v6108 k0_hw122 k0_h1 => k0_hw122 k0_h1

def k0_off123 (v6114 : BitVec 32) : Fin 2 → Nat :=
  let c0_i32_2992 : BitVec 32 := 0#32
  ![v6114.toNat, 0]

def k0_chk123 (i : grid0.Coords) (v6114 : BitVec 32) : Prop :=
  (∀ (k0_h1 : k0_cond1 i = 1#1), ∀ a, (k0_off123 v6114) a + S1x8192.size a ≤ S8192x8192.size a)
theorem k0_off123_inb : ∀ (i : grid0.Coords) (v6114 : BitVec 32) (k0_hw123 : k0_chk123 i v6114), ∀ (k0_h1 : k0_cond1 i = 1#1), ∀ a, (k0_off123 v6114) a + S1x8192.size a ≤ S8192x8192.size a := fun i v6114 k0_hw123 k0_h1 => k0_hw123 k0_h1

def k0_off124 (v6120 : BitVec 32) : Fin 2 → Nat :=
  let c0_i32_2997 : BitVec 32 := 0#32
  ![v6120.toNat, 0]

def k0_chk124 (i : grid0.Coords) (v6120 : BitVec 32) : Prop :=
  (∀ (k0_h1 : k0_cond1 i = 1#1), ∀ a, (k0_off124 v6120) a + S1x8192.size a ≤ S8192x8192.size a)
theorem k0_off124_inb : ∀ (i : grid0.Coords) (v6120 : BitVec 32) (k0_hw124 : k0_chk124 i v6120), ∀ (k0_h1 : k0_cond1 i = 1#1), ∀ a, (k0_off124 v6120) a + S1x8192.size a ≤ S8192x8192.size a := fun i v6120 k0_hw124 k0_h1 => k0_hw124 k0_h1

def k0_off125 (v6126 : BitVec 32) : Fin 2 → Nat :=
  let c0_i32_3002 : BitVec 32 := 0#32
  ![v6126.toNat, 0]

def k0_chk125 (i : grid0.Coords) (v6126 : BitVec 32) : Prop :=
  (∀ (k0_h1 : k0_cond1 i = 1#1), ∀ a, (k0_off125 v6126) a + S1x8192.size a ≤ S8192x8192.size a)
theorem k0_off125_inb : ∀ (i : grid0.Coords) (v6126 : BitVec 32) (k0_hw125 : k0_chk125 i v6126), ∀ (k0_h1 : k0_cond1 i = 1#1), ∀ a, (k0_off125 v6126) a + S1x8192.size a ≤ S8192x8192.size a := fun i v6126 k0_hw125 k0_h1 => k0_hw125 k0_h1

def k0_off126 (v6132 : BitVec 32) : Fin 2 → Nat :=
  let c0_i32_3007 : BitVec 32 := 0#32
  ![v6132.toNat, 0]

def k0_chk126 (i : grid0.Coords) (v6132 : BitVec 32) : Prop :=
  (∀ (k0_h1 : k0_cond1 i = 1#1), ∀ a, (k0_off126 v6132) a + S1x8192.size a ≤ S8192x8192.size a)
theorem k0_off126_inb : ∀ (i : grid0.Coords) (v6132 : BitVec 32) (k0_hw126 : k0_chk126 i v6132), ∀ (k0_h1 : k0_cond1 i = 1#1), ∀ a, (k0_off126 v6132) a + S1x8192.size a ≤ S8192x8192.size a := fun i v6132 k0_hw126 k0_h1 => k0_hw126 k0_h1

def k0_off127 (v6138 : BitVec 32) : Fin 2 → Nat :=
  let c0_i32_3012 : BitVec 32 := 0#32
  ![v6138.toNat, 0]

def k0_chk127 (i : grid0.Coords) (v6138 : BitVec 32) : Prop :=
  (∀ (k0_h1 : k0_cond1 i = 1#1), ∀ a, (k0_off127 v6138) a + S1x8192.size a ≤ S8192x8192.size a)
theorem k0_off127_inb : ∀ (i : grid0.Coords) (v6138 : BitVec 32) (k0_hw127 : k0_chk127 i v6138), ∀ (k0_h1 : k0_cond1 i = 1#1), ∀ a, (k0_off127 v6138) a + S1x8192.size a ≤ S8192x8192.size a := fun i v6138 k0_hw127 k0_h1 => k0_hw127 k0_h1

def k0_off128 (v6144 : BitVec 32) : Fin 2 → Nat :=
  let c0_i32_3017 : BitVec 32 := 0#32
  ![v6144.toNat, 0]

def k0_chk128 (i : grid0.Coords) (v6144 : BitVec 32) : Prop :=
  (∀ (k0_h1 : k0_cond1 i = 1#1), ∀ a, (k0_off128 v6144) a + S1x8192.size a ≤ S8192x8192.size a)
theorem k0_off128_inb : ∀ (i : grid0.Coords) (v6144 : BitVec 32) (k0_hw128 : k0_chk128 i v6144), ∀ (k0_h1 : k0_cond1 i = 1#1), ∀ a, (k0_off128 v6144) a + S1x8192.size a ≤ S8192x8192.size a := fun i v6144 k0_hw128 k0_h1 => k0_hw128 k0_h1

def k0_off129 (v6150 : BitVec 32) : Fin 2 → Nat :=
  let c0_i32_3023 : BitVec 32 := 0#32
  ![v6150.toNat, 0]

def k0_chk129 (i : grid0.Coords) (v6150 : BitVec 32) : Prop :=
  (∀ (k0_h1 : k0_cond1 i = 1#1), ∀ a, (k0_off129 v6150) a + S1x8192.size a ≤ S8192x8192.size a)
theorem k0_off129_inb : ∀ (i : grid0.Coords) (v6150 : BitVec 32) (k0_hw129 : k0_chk129 i v6150), ∀ (k0_h1 : k0_cond1 i = 1#1), ∀ a, (k0_off129 v6150) a + S1x8192.size a ≤ S8192x8192.size a := fun i v6150 k0_hw129 k0_h1 => k0_hw129 k0_h1

def k0_off130 (v6156 : BitVec 32) : Fin 2 → Nat :=
  let c0_i32_3028 : BitVec 32 := 0#32
  ![v6156.toNat, 0]

def k0_chk130 (i : grid0.Coords) (v6156 : BitVec 32) : Prop :=
  (∀ (k0_h1 : k0_cond1 i = 1#1), ∀ a, (k0_off130 v6156) a + S1x8192.size a ≤ S8192x8192.size a)
theorem k0_off130_inb : ∀ (i : grid0.Coords) (v6156 : BitVec 32) (k0_hw130 : k0_chk130 i v6156), ∀ (k0_h1 : k0_cond1 i = 1#1), ∀ a, (k0_off130 v6156) a + S1x8192.size a ≤ S8192x8192.size a := fun i v6156 k0_hw130 k0_h1 => k0_hw130 k0_h1

def k0_off131 (v6162 : BitVec 32) : Fin 2 → Nat :=
  let c0_i32_3033 : BitVec 32 := 0#32
  ![v6162.toNat, 0]

def k0_chk131 (i : grid0.Coords) (v6162 : BitVec 32) : Prop :=
  (∀ (k0_h1 : k0_cond1 i = 1#1), ∀ a, (k0_off131 v6162) a + S1x8192.size a ≤ S8192x8192.size a)
theorem k0_off131_inb : ∀ (i : grid0.Coords) (v6162 : BitVec 32) (k0_hw131 : k0_chk131 i v6162), ∀ (k0_h1 : k0_cond1 i = 1#1), ∀ a, (k0_off131 v6162) a + S1x8192.size a ≤ S8192x8192.size a := fun i v6162 k0_hw131 k0_h1 => k0_hw131 k0_h1

def k0_off132 (v6168 : BitVec 32) : Fin 2 → Nat :=
  let c0_i32_3038 : BitVec 32 := 0#32
  ![v6168.toNat, 0]

def k0_chk132 (i : grid0.Coords) (v6168 : BitVec 32) : Prop :=
  (∀ (k0_h1 : k0_cond1 i = 1#1), ∀ a, (k0_off132 v6168) a + S1x8192.size a ≤ S8192x8192.size a)
theorem k0_off132_inb : ∀ (i : grid0.Coords) (v6168 : BitVec 32) (k0_hw132 : k0_chk132 i v6168), ∀ (k0_h1 : k0_cond1 i = 1#1), ∀ a, (k0_off132 v6168) a + S1x8192.size a ≤ S8192x8192.size a := fun i v6168 k0_hw132 k0_h1 => k0_hw132 k0_h1

def k0_off133 (v6174 : BitVec 32) : Fin 2 → Nat :=
  let c0_i32_3043 : BitVec 32 := 0#32
  ![v6174.toNat, 0]

def k0_chk133 (i : grid0.Coords) (v6174 : BitVec 32) : Prop :=
  (∀ (k0_h1 : k0_cond1 i = 1#1), ∀ a, (k0_off133 v6174) a + S1x8192.size a ≤ S8192x8192.size a)
theorem k0_off133_inb : ∀ (i : grid0.Coords) (v6174 : BitVec 32) (k0_hw133 : k0_chk133 i v6174), ∀ (k0_h1 : k0_cond1 i = 1#1), ∀ a, (k0_off133 v6174) a + S1x8192.size a ≤ S8192x8192.size a := fun i v6174 k0_hw133 k0_h1 => k0_hw133 k0_h1

def k0_off134 (v6180 : BitVec 32) : Fin 2 → Nat :=
  let c0_i32_3048 : BitVec 32 := 0#32
  ![v6180.toNat, 0]

def k0_chk134 (i : grid0.Coords) (v6180 : BitVec 32) : Prop :=
  (∀ (k0_h1 : k0_cond1 i = 1#1), ∀ a, (k0_off134 v6180) a + S1x8192.size a ≤ S8192x8192.size a)
theorem k0_off134_inb : ∀ (i : grid0.Coords) (v6180 : BitVec 32) (k0_hw134 : k0_chk134 i v6180), ∀ (k0_h1 : k0_cond1 i = 1#1), ∀ a, (k0_off134 v6180) a + S1x8192.size a ≤ S8192x8192.size a := fun i v6180 k0_hw134 k0_h1 => k0_hw134 k0_h1

def k0_off135 (v6186 : BitVec 32) : Fin 2 → Nat :=
  let c0_i32_3053 : BitVec 32 := 0#32
  ![v6186.toNat, 0]

def k0_chk135 (i : grid0.Coords) (v6186 : BitVec 32) : Prop :=
  (∀ (k0_h1 : k0_cond1 i = 1#1), ∀ a, (k0_off135 v6186) a + S1x8192.size a ≤ S8192x8192.size a)
theorem k0_off135_inb : ∀ (i : grid0.Coords) (v6186 : BitVec 32) (k0_hw135 : k0_chk135 i v6186), ∀ (k0_h1 : k0_cond1 i = 1#1), ∀ a, (k0_off135 v6186) a + S1x8192.size a ≤ S8192x8192.size a := fun i v6186 k0_hw135 k0_h1 => k0_hw135 k0_h1

def k0_off136 (v6192 : BitVec 32) : Fin 2 → Nat :=
  let c0_i32_3058 : BitVec 32 := 0#32
  ![v6192.toNat, 0]

def k0_chk136 (i : grid0.Coords) (v6192 : BitVec 32) : Prop :=
  (∀ (k0_h1 : k0_cond1 i = 1#1), ∀ a, (k0_off136 v6192) a + S1x8192.size a ≤ S8192x8192.size a)
theorem k0_off136_inb : ∀ (i : grid0.Coords) (v6192 : BitVec 32) (k0_hw136 : k0_chk136 i v6192), ∀ (k0_h1 : k0_cond1 i = 1#1), ∀ a, (k0_off136 v6192) a + S1x8192.size a ≤ S8192x8192.size a := fun i v6192 k0_hw136 k0_h1 => k0_hw136 k0_h1

def k0_off137 (v6198 : BitVec 32) : Fin 2 → Nat :=
  let c0_i32_3064 : BitVec 32 := 0#32
  ![v6198.toNat, 0]

def k0_chk137 (i : grid0.Coords) (v6198 : BitVec 32) : Prop :=
  (∀ (k0_h1 : k0_cond1 i = 1#1), ∀ a, (k0_off137 v6198) a + S1x8192.size a ≤ S8192x8192.size a)
theorem k0_off137_inb : ∀ (i : grid0.Coords) (v6198 : BitVec 32) (k0_hw137 : k0_chk137 i v6198), ∀ (k0_h1 : k0_cond1 i = 1#1), ∀ a, (k0_off137 v6198) a + S1x8192.size a ≤ S8192x8192.size a := fun i v6198 k0_hw137 k0_h1 => k0_hw137 k0_h1

def k0_off138 (v6204 : BitVec 32) : Fin 2 → Nat :=
  let c0_i32_3069 : BitVec 32 := 0#32
  ![v6204.toNat, 0]

def k0_chk138 (i : grid0.Coords) (v6204 : BitVec 32) : Prop :=
  (∀ (k0_h1 : k0_cond1 i = 1#1), ∀ a, (k0_off138 v6204) a + S1x8192.size a ≤ S8192x8192.size a)
theorem k0_off138_inb : ∀ (i : grid0.Coords) (v6204 : BitVec 32) (k0_hw138 : k0_chk138 i v6204), ∀ (k0_h1 : k0_cond1 i = 1#1), ∀ a, (k0_off138 v6204) a + S1x8192.size a ≤ S8192x8192.size a := fun i v6204 k0_hw138 k0_h1 => k0_hw138 k0_h1

def k0_off139 (v6210 : BitVec 32) : Fin 2 → Nat :=
  let c0_i32_3074 : BitVec 32 := 0#32
  ![v6210.toNat, 0]

def k0_chk139 (i : grid0.Coords) (v6210 : BitVec 32) : Prop :=
  (∀ (k0_h1 : k0_cond1 i = 1#1), ∀ a, (k0_off139 v6210) a + S1x8192.size a ≤ S8192x8192.size a)
theorem k0_off139_inb : ∀ (i : grid0.Coords) (v6210 : BitVec 32) (k0_hw139 : k0_chk139 i v6210), ∀ (k0_h1 : k0_cond1 i = 1#1), ∀ a, (k0_off139 v6210) a + S1x8192.size a ≤ S8192x8192.size a := fun i v6210 k0_hw139 k0_h1 => k0_hw139 k0_h1

def k0_off140 (v6216 : BitVec 32) : Fin 2 → Nat :=
  let c0_i32_3079 : BitVec 32 := 0#32
  ![v6216.toNat, 0]

def k0_chk140 (i : grid0.Coords) (v6216 : BitVec 32) : Prop :=
  (∀ (k0_h1 : k0_cond1 i = 1#1), ∀ a, (k0_off140 v6216) a + S1x8192.size a ≤ S8192x8192.size a)
theorem k0_off140_inb : ∀ (i : grid0.Coords) (v6216 : BitVec 32) (k0_hw140 : k0_chk140 i v6216), ∀ (k0_h1 : k0_cond1 i = 1#1), ∀ a, (k0_off140 v6216) a + S1x8192.size a ≤ S8192x8192.size a := fun i v6216 k0_hw140 k0_h1 => k0_hw140 k0_h1

def k0_off141 (v6222 : BitVec 32) : Fin 2 → Nat :=
  let c0_i32_3084 : BitVec 32 := 0#32
  ![v6222.toNat, 0]

def k0_chk141 (i : grid0.Coords) (v6222 : BitVec 32) : Prop :=
  (∀ (k0_h1 : k0_cond1 i = 1#1), ∀ a, (k0_off141 v6222) a + S1x8192.size a ≤ S8192x8192.size a)
theorem k0_off141_inb : ∀ (i : grid0.Coords) (v6222 : BitVec 32) (k0_hw141 : k0_chk141 i v6222), ∀ (k0_h1 : k0_cond1 i = 1#1), ∀ a, (k0_off141 v6222) a + S1x8192.size a ≤ S8192x8192.size a := fun i v6222 k0_hw141 k0_h1 => k0_hw141 k0_h1

def k0_off142 (v6228 : BitVec 32) : Fin 2 → Nat :=
  let c0_i32_3089 : BitVec 32 := 0#32
  ![v6228.toNat, 0]

def k0_chk142 (i : grid0.Coords) (v6228 : BitVec 32) : Prop :=
  (∀ (k0_h1 : k0_cond1 i = 1#1), ∀ a, (k0_off142 v6228) a + S1x8192.size a ≤ S8192x8192.size a)
theorem k0_off142_inb : ∀ (i : grid0.Coords) (v6228 : BitVec 32) (k0_hw142 : k0_chk142 i v6228), ∀ (k0_h1 : k0_cond1 i = 1#1), ∀ a, (k0_off142 v6228) a + S1x8192.size a ≤ S8192x8192.size a := fun i v6228 k0_hw142 k0_h1 => k0_hw142 k0_h1

def k0_off143 (v6234 : BitVec 32) : Fin 2 → Nat :=
  let c0_i32_3094 : BitVec 32 := 0#32
  ![v6234.toNat, 0]

def k0_chk143 (i : grid0.Coords) (v6234 : BitVec 32) : Prop :=
  (∀ (k0_h1 : k0_cond1 i = 1#1), ∀ a, (k0_off143 v6234) a + S1x8192.size a ≤ S8192x8192.size a)
theorem k0_off143_inb : ∀ (i : grid0.Coords) (v6234 : BitVec 32) (k0_hw143 : k0_chk143 i v6234), ∀ (k0_h1 : k0_cond1 i = 1#1), ∀ a, (k0_off143 v6234) a + S1x8192.size a ≤ S8192x8192.size a := fun i v6234 k0_hw143 k0_h1 => k0_hw143 k0_h1

def k0_off144 (v6240 : BitVec 32) : Fin 2 → Nat :=
  let c0_i32_3099 : BitVec 32 := 0#32
  ![v6240.toNat, 0]

def k0_chk144 (i : grid0.Coords) (v6240 : BitVec 32) : Prop :=
  (∀ (k0_h1 : k0_cond1 i = 1#1), ∀ a, (k0_off144 v6240) a + S1x8192.size a ≤ S8192x8192.size a)
theorem k0_off144_inb : ∀ (i : grid0.Coords) (v6240 : BitVec 32) (k0_hw144 : k0_chk144 i v6240), ∀ (k0_h1 : k0_cond1 i = 1#1), ∀ a, (k0_off144 v6240) a + S1x8192.size a ≤ S8192x8192.size a := fun i v6240 k0_hw144 k0_h1 => k0_hw144 k0_h1

def k0_off145 (v6246 : BitVec 32) : Fin 2 → Nat :=
  let c0_i32_3105 : BitVec 32 := 0#32
  ![v6246.toNat, 0]

def k0_chk145 (i : grid0.Coords) (v6246 : BitVec 32) : Prop :=
  (∀ (k0_h1 : k0_cond1 i = 1#1), ∀ a, (k0_off145 v6246) a + S1x8192.size a ≤ S8192x8192.size a)
theorem k0_off145_inb : ∀ (i : grid0.Coords) (v6246 : BitVec 32) (k0_hw145 : k0_chk145 i v6246), ∀ (k0_h1 : k0_cond1 i = 1#1), ∀ a, (k0_off145 v6246) a + S1x8192.size a ≤ S8192x8192.size a := fun i v6246 k0_hw145 k0_h1 => k0_hw145 k0_h1

def k0_off146 (v6252 : BitVec 32) : Fin 2 → Nat :=
  let c0_i32_3110 : BitVec 32 := 0#32
  ![v6252.toNat, 0]

def k0_chk146 (i : grid0.Coords) (v6252 : BitVec 32) : Prop :=
  (∀ (k0_h1 : k0_cond1 i = 1#1), ∀ a, (k0_off146 v6252) a + S1x8192.size a ≤ S8192x8192.size a)
theorem k0_off146_inb : ∀ (i : grid0.Coords) (v6252 : BitVec 32) (k0_hw146 : k0_chk146 i v6252), ∀ (k0_h1 : k0_cond1 i = 1#1), ∀ a, (k0_off146 v6252) a + S1x8192.size a ≤ S8192x8192.size a := fun i v6252 k0_hw146 k0_h1 => k0_hw146 k0_h1

def k0_off147 (v6258 : BitVec 32) : Fin 2 → Nat :=
  let c0_i32_3115 : BitVec 32 := 0#32
  ![v6258.toNat, 0]

def k0_chk147 (i : grid0.Coords) (v6258 : BitVec 32) : Prop :=
  (∀ (k0_h1 : k0_cond1 i = 1#1), ∀ a, (k0_off147 v6258) a + S1x8192.size a ≤ S8192x8192.size a)
theorem k0_off147_inb : ∀ (i : grid0.Coords) (v6258 : BitVec 32) (k0_hw147 : k0_chk147 i v6258), ∀ (k0_h1 : k0_cond1 i = 1#1), ∀ a, (k0_off147 v6258) a + S1x8192.size a ≤ S8192x8192.size a := fun i v6258 k0_hw147 k0_h1 => k0_hw147 k0_h1

def k0_off148 (v6264 : BitVec 32) : Fin 2 → Nat :=
  let c0_i32_3120 : BitVec 32 := 0#32
  ![v6264.toNat, 0]

def k0_chk148 (i : grid0.Coords) (v6264 : BitVec 32) : Prop :=
  (∀ (k0_h1 : k0_cond1 i = 1#1), ∀ a, (k0_off148 v6264) a + S1x8192.size a ≤ S8192x8192.size a)
theorem k0_off148_inb : ∀ (i : grid0.Coords) (v6264 : BitVec 32) (k0_hw148 : k0_chk148 i v6264), ∀ (k0_h1 : k0_cond1 i = 1#1), ∀ a, (k0_off148 v6264) a + S1x8192.size a ≤ S8192x8192.size a := fun i v6264 k0_hw148 k0_h1 => k0_hw148 k0_h1

def k0_off149 (v6270 : BitVec 32) : Fin 2 → Nat :=
  let c0_i32_3125 : BitVec 32 := 0#32
  ![v6270.toNat, 0]

def k0_chk149 (i : grid0.Coords) (v6270 : BitVec 32) : Prop :=
  (∀ (k0_h1 : k0_cond1 i = 1#1), ∀ a, (k0_off149 v6270) a + S1x8192.size a ≤ S8192x8192.size a)
theorem k0_off149_inb : ∀ (i : grid0.Coords) (v6270 : BitVec 32) (k0_hw149 : k0_chk149 i v6270), ∀ (k0_h1 : k0_cond1 i = 1#1), ∀ a, (k0_off149 v6270) a + S1x8192.size a ≤ S8192x8192.size a := fun i v6270 k0_hw149 k0_h1 => k0_hw149 k0_h1

def k0_off150 (v6276 : BitVec 32) : Fin 2 → Nat :=
  let c0_i32_3130 : BitVec 32 := 0#32
  ![v6276.toNat, 0]

def k0_chk150 (i : grid0.Coords) (v6276 : BitVec 32) : Prop :=
  (∀ (k0_h1 : k0_cond1 i = 1#1), ∀ a, (k0_off150 v6276) a + S1x8192.size a ≤ S8192x8192.size a)
theorem k0_off150_inb : ∀ (i : grid0.Coords) (v6276 : BitVec 32) (k0_hw150 : k0_chk150 i v6276), ∀ (k0_h1 : k0_cond1 i = 1#1), ∀ a, (k0_off150 v6276) a + S1x8192.size a ≤ S8192x8192.size a := fun i v6276 k0_hw150 k0_h1 => k0_hw150 k0_h1

def k0_off151 (v6282 : BitVec 32) : Fin 2 → Nat :=
  let c0_i32_3135 : BitVec 32 := 0#32
  ![v6282.toNat, 0]

def k0_chk151 (i : grid0.Coords) (v6282 : BitVec 32) : Prop :=
  (∀ (k0_h1 : k0_cond1 i = 1#1), ∀ a, (k0_off151 v6282) a + S1x8192.size a ≤ S8192x8192.size a)
theorem k0_off151_inb : ∀ (i : grid0.Coords) (v6282 : BitVec 32) (k0_hw151 : k0_chk151 i v6282), ∀ (k0_h1 : k0_cond1 i = 1#1), ∀ a, (k0_off151 v6282) a + S1x8192.size a ≤ S8192x8192.size a := fun i v6282 k0_hw151 k0_h1 => k0_hw151 k0_h1

def k0_off152 (v6288 : BitVec 32) : Fin 2 → Nat :=
  let c0_i32_3140 : BitVec 32 := 0#32
  ![v6288.toNat, 0]

def k0_chk152 (i : grid0.Coords) (v6288 : BitVec 32) : Prop :=
  (∀ (k0_h1 : k0_cond1 i = 1#1), ∀ a, (k0_off152 v6288) a + S1x8192.size a ≤ S8192x8192.size a)
theorem k0_off152_inb : ∀ (i : grid0.Coords) (v6288 : BitVec 32) (k0_hw152 : k0_chk152 i v6288), ∀ (k0_h1 : k0_cond1 i = 1#1), ∀ a, (k0_off152 v6288) a + S1x8192.size a ≤ S8192x8192.size a := fun i v6288 k0_hw152 k0_h1 => k0_hw152 k0_h1

def k0_off153 (v6294 : BitVec 32) : Fin 2 → Nat :=
  let c0_i32_3146 : BitVec 32 := 0#32
  ![v6294.toNat, 0]

def k0_chk153 (i : grid0.Coords) (v6294 : BitVec 32) : Prop :=
  (∀ (k0_h1 : k0_cond1 i = 1#1), ∀ a, (k0_off153 v6294) a + S1x8192.size a ≤ S8192x8192.size a)
theorem k0_off153_inb : ∀ (i : grid0.Coords) (v6294 : BitVec 32) (k0_hw153 : k0_chk153 i v6294), ∀ (k0_h1 : k0_cond1 i = 1#1), ∀ a, (k0_off153 v6294) a + S1x8192.size a ≤ S8192x8192.size a := fun i v6294 k0_hw153 k0_h1 => k0_hw153 k0_h1

def k0_off154 (v6300 : BitVec 32) : Fin 2 → Nat :=
  let c0_i32_3151 : BitVec 32 := 0#32
  ![v6300.toNat, 0]

def k0_chk154 (i : grid0.Coords) (v6300 : BitVec 32) : Prop :=
  (∀ (k0_h1 : k0_cond1 i = 1#1), ∀ a, (k0_off154 v6300) a + S1x8192.size a ≤ S8192x8192.size a)
theorem k0_off154_inb : ∀ (i : grid0.Coords) (v6300 : BitVec 32) (k0_hw154 : k0_chk154 i v6300), ∀ (k0_h1 : k0_cond1 i = 1#1), ∀ a, (k0_off154 v6300) a + S1x8192.size a ≤ S8192x8192.size a := fun i v6300 k0_hw154 k0_h1 => k0_hw154 k0_h1

def k0_off155 (v6306 : BitVec 32) : Fin 2 → Nat :=
  let c0_i32_3156 : BitVec 32 := 0#32
  ![v6306.toNat, 0]

def k0_chk155 (i : grid0.Coords) (v6306 : BitVec 32) : Prop :=
  (∀ (k0_h1 : k0_cond1 i = 1#1), ∀ a, (k0_off155 v6306) a + S1x8192.size a ≤ S8192x8192.size a)
theorem k0_off155_inb : ∀ (i : grid0.Coords) (v6306 : BitVec 32) (k0_hw155 : k0_chk155 i v6306), ∀ (k0_h1 : k0_cond1 i = 1#1), ∀ a, (k0_off155 v6306) a + S1x8192.size a ≤ S8192x8192.size a := fun i v6306 k0_hw155 k0_h1 => k0_hw155 k0_h1

def k0_off156 (v6312 : BitVec 32) : Fin 2 → Nat :=
  let c0_i32_3161 : BitVec 32 := 0#32
  ![v6312.toNat, 0]

def k0_chk156 (i : grid0.Coords) (v6312 : BitVec 32) : Prop :=
  (∀ (k0_h1 : k0_cond1 i = 1#1), ∀ a, (k0_off156 v6312) a + S1x8192.size a ≤ S8192x8192.size a)
theorem k0_off156_inb : ∀ (i : grid0.Coords) (v6312 : BitVec 32) (k0_hw156 : k0_chk156 i v6312), ∀ (k0_h1 : k0_cond1 i = 1#1), ∀ a, (k0_off156 v6312) a + S1x8192.size a ≤ S8192x8192.size a := fun i v6312 k0_hw156 k0_h1 => k0_hw156 k0_h1

def k0_off157 (v6318 : BitVec 32) : Fin 2 → Nat :=
  let c0_i32_3166 : BitVec 32 := 0#32
  ![v6318.toNat, 0]

def k0_chk157 (i : grid0.Coords) (v6318 : BitVec 32) : Prop :=
  (∀ (k0_h1 : k0_cond1 i = 1#1), ∀ a, (k0_off157 v6318) a + S1x8192.size a ≤ S8192x8192.size a)
theorem k0_off157_inb : ∀ (i : grid0.Coords) (v6318 : BitVec 32) (k0_hw157 : k0_chk157 i v6318), ∀ (k0_h1 : k0_cond1 i = 1#1), ∀ a, (k0_off157 v6318) a + S1x8192.size a ≤ S8192x8192.size a := fun i v6318 k0_hw157 k0_h1 => k0_hw157 k0_h1

def k0_off158 (v6324 : BitVec 32) : Fin 2 → Nat :=
  let c0_i32_3171 : BitVec 32 := 0#32
  ![v6324.toNat, 0]

def k0_chk158 (i : grid0.Coords) (v6324 : BitVec 32) : Prop :=
  (∀ (k0_h1 : k0_cond1 i = 1#1), ∀ a, (k0_off158 v6324) a + S1x8192.size a ≤ S8192x8192.size a)
theorem k0_off158_inb : ∀ (i : grid0.Coords) (v6324 : BitVec 32) (k0_hw158 : k0_chk158 i v6324), ∀ (k0_h1 : k0_cond1 i = 1#1), ∀ a, (k0_off158 v6324) a + S1x8192.size a ≤ S8192x8192.size a := fun i v6324 k0_hw158 k0_h1 => k0_hw158 k0_h1

def k0_off159 (v6330 : BitVec 32) : Fin 2 → Nat :=
  let c0_i32_3176 : BitVec 32 := 0#32
  ![v6330.toNat, 0]

def k0_chk159 (i : grid0.Coords) (v6330 : BitVec 32) : Prop :=
  (∀ (k0_h1 : k0_cond1 i = 1#1), ∀ a, (k0_off159 v6330) a + S1x8192.size a ≤ S8192x8192.size a)
theorem k0_off159_inb : ∀ (i : grid0.Coords) (v6330 : BitVec 32) (k0_hw159 : k0_chk159 i v6330), ∀ (k0_h1 : k0_cond1 i = 1#1), ∀ a, (k0_off159 v6330) a + S1x8192.size a ≤ S8192x8192.size a := fun i v6330 k0_hw159 k0_h1 => k0_hw159 k0_h1

def k0_off160 (v6336 : BitVec 32) : Fin 2 → Nat :=
  let c0_i32_3181 : BitVec 32 := 0#32
  ![v6336.toNat, 0]

def k0_chk160 (i : grid0.Coords) (v6336 : BitVec 32) : Prop :=
  (∀ (k0_h1 : k0_cond1 i = 1#1), ∀ a, (k0_off160 v6336) a + S1x8192.size a ≤ S8192x8192.size a)
theorem k0_off160_inb : ∀ (i : grid0.Coords) (v6336 : BitVec 32) (k0_hw160 : k0_chk160 i v6336), ∀ (k0_h1 : k0_cond1 i = 1#1), ∀ a, (k0_off160 v6336) a + S1x8192.size a ≤ S8192x8192.size a := fun i v6336 k0_hw160 k0_h1 => k0_hw160 k0_h1

def k0_off161 (v6342 : BitVec 32) : Fin 2 → Nat :=
  let c0_i32_3187 : BitVec 32 := 0#32
  ![v6342.toNat, 0]

def k0_chk161 (i : grid0.Coords) (v6342 : BitVec 32) : Prop :=
  (∀ (k0_h1 : k0_cond1 i = 1#1), ∀ a, (k0_off161 v6342) a + S1x8192.size a ≤ S8192x8192.size a)
theorem k0_off161_inb : ∀ (i : grid0.Coords) (v6342 : BitVec 32) (k0_hw161 : k0_chk161 i v6342), ∀ (k0_h1 : k0_cond1 i = 1#1), ∀ a, (k0_off161 v6342) a + S1x8192.size a ≤ S8192x8192.size a := fun i v6342 k0_hw161 k0_h1 => k0_hw161 k0_h1

def k0_off162 (v6348 : BitVec 32) : Fin 2 → Nat :=
  let c0_i32_3192 : BitVec 32 := 0#32
  ![v6348.toNat, 0]

def k0_chk162 (i : grid0.Coords) (v6348 : BitVec 32) : Prop :=
  (∀ (k0_h1 : k0_cond1 i = 1#1), ∀ a, (k0_off162 v6348) a + S1x8192.size a ≤ S8192x8192.size a)
theorem k0_off162_inb : ∀ (i : grid0.Coords) (v6348 : BitVec 32) (k0_hw162 : k0_chk162 i v6348), ∀ (k0_h1 : k0_cond1 i = 1#1), ∀ a, (k0_off162 v6348) a + S1x8192.size a ≤ S8192x8192.size a := fun i v6348 k0_hw162 k0_h1 => k0_hw162 k0_h1

def k0_off163 (v6354 : BitVec 32) : Fin 2 → Nat :=
  let c0_i32_3197 : BitVec 32 := 0#32
  ![v6354.toNat, 0]

def k0_chk163 (i : grid0.Coords) (v6354 : BitVec 32) : Prop :=
  (∀ (k0_h1 : k0_cond1 i = 1#1), ∀ a, (k0_off163 v6354) a + S1x8192.size a ≤ S8192x8192.size a)
theorem k0_off163_inb : ∀ (i : grid0.Coords) (v6354 : BitVec 32) (k0_hw163 : k0_chk163 i v6354), ∀ (k0_h1 : k0_cond1 i = 1#1), ∀ a, (k0_off163 v6354) a + S1x8192.size a ≤ S8192x8192.size a := fun i v6354 k0_hw163 k0_h1 => k0_hw163 k0_h1

def k0_off164 (v6360 : BitVec 32) : Fin 2 → Nat :=
  let c0_i32_3202 : BitVec 32 := 0#32
  ![v6360.toNat, 0]

def k0_chk164 (i : grid0.Coords) (v6360 : BitVec 32) : Prop :=
  (∀ (k0_h1 : k0_cond1 i = 1#1), ∀ a, (k0_off164 v6360) a + S1x8192.size a ≤ S8192x8192.size a)
theorem k0_off164_inb : ∀ (i : grid0.Coords) (v6360 : BitVec 32) (k0_hw164 : k0_chk164 i v6360), ∀ (k0_h1 : k0_cond1 i = 1#1), ∀ a, (k0_off164 v6360) a + S1x8192.size a ≤ S8192x8192.size a := fun i v6360 k0_hw164 k0_h1 => k0_hw164 k0_h1

def k0_off165 (v6366 : BitVec 32) : Fin 2 → Nat :=
  let c0_i32_3207 : BitVec 32 := 0#32
  ![v6366.toNat, 0]

def k0_chk165 (i : grid0.Coords) (v6366 : BitVec 32) : Prop :=
  (∀ (k0_h1 : k0_cond1 i = 1#1), ∀ a, (k0_off165 v6366) a + S1x8192.size a ≤ S8192x8192.size a)
theorem k0_off165_inb : ∀ (i : grid0.Coords) (v6366 : BitVec 32) (k0_hw165 : k0_chk165 i v6366), ∀ (k0_h1 : k0_cond1 i = 1#1), ∀ a, (k0_off165 v6366) a + S1x8192.size a ≤ S8192x8192.size a := fun i v6366 k0_hw165 k0_h1 => k0_hw165 k0_h1

def k0_off166 (v6372 : BitVec 32) : Fin 2 → Nat :=
  let c0_i32_3212 : BitVec 32 := 0#32
  ![v6372.toNat, 0]

def k0_chk166 (i : grid0.Coords) (v6372 : BitVec 32) : Prop :=
  (∀ (k0_h1 : k0_cond1 i = 1#1), ∀ a, (k0_off166 v6372) a + S1x8192.size a ≤ S8192x8192.size a)
theorem k0_off166_inb : ∀ (i : grid0.Coords) (v6372 : BitVec 32) (k0_hw166 : k0_chk166 i v6372), ∀ (k0_h1 : k0_cond1 i = 1#1), ∀ a, (k0_off166 v6372) a + S1x8192.size a ≤ S8192x8192.size a := fun i v6372 k0_hw166 k0_h1 => k0_hw166 k0_h1

def k0_off167 (v6378 : BitVec 32) : Fin 2 → Nat :=
  let c0_i32_3217 : BitVec 32 := 0#32
  ![v6378.toNat, 0]

def k0_chk167 (i : grid0.Coords) (v6378 : BitVec 32) : Prop :=
  (∀ (k0_h1 : k0_cond1 i = 1#1), ∀ a, (k0_off167 v6378) a + S1x8192.size a ≤ S8192x8192.size a)
theorem k0_off167_inb : ∀ (i : grid0.Coords) (v6378 : BitVec 32) (k0_hw167 : k0_chk167 i v6378), ∀ (k0_h1 : k0_cond1 i = 1#1), ∀ a, (k0_off167 v6378) a + S1x8192.size a ≤ S8192x8192.size a := fun i v6378 k0_hw167 k0_h1 => k0_hw167 k0_h1

def k0_off168 (v6384 : BitVec 32) : Fin 2 → Nat :=
  let c0_i32_3222 : BitVec 32 := 0#32
  ![v6384.toNat, 0]

def k0_chk168 (i : grid0.Coords) (v6384 : BitVec 32) : Prop :=
  (∀ (k0_h1 : k0_cond1 i = 1#1), ∀ a, (k0_off168 v6384) a + S1x8192.size a ≤ S8192x8192.size a)
theorem k0_off168_inb : ∀ (i : grid0.Coords) (v6384 : BitVec 32) (k0_hw168 : k0_chk168 i v6384), ∀ (k0_h1 : k0_cond1 i = 1#1), ∀ a, (k0_off168 v6384) a + S1x8192.size a ≤ S8192x8192.size a := fun i v6384 k0_hw168 k0_h1 => k0_hw168 k0_h1

def k0_off169 (v6390 : BitVec 32) : Fin 2 → Nat :=
  let c0_i32_3228 : BitVec 32 := 0#32
  ![v6390.toNat, 0]

def k0_chk169 (i : grid0.Coords) (v6390 : BitVec 32) : Prop :=
  (∀ (k0_h1 : k0_cond1 i = 1#1), ∀ a, (k0_off169 v6390) a + S1x8192.size a ≤ S8192x8192.size a)
theorem k0_off169_inb : ∀ (i : grid0.Coords) (v6390 : BitVec 32) (k0_hw169 : k0_chk169 i v6390), ∀ (k0_h1 : k0_cond1 i = 1#1), ∀ a, (k0_off169 v6390) a + S1x8192.size a ≤ S8192x8192.size a := fun i v6390 k0_hw169 k0_h1 => k0_hw169 k0_h1

def k0_off170 (v6396 : BitVec 32) : Fin 2 → Nat :=
  let c0_i32_3233 : BitVec 32 := 0#32
  ![v6396.toNat, 0]

def k0_chk170 (i : grid0.Coords) (v6396 : BitVec 32) : Prop :=
  (∀ (k0_h1 : k0_cond1 i = 1#1), ∀ a, (k0_off170 v6396) a + S1x8192.size a ≤ S8192x8192.size a)
theorem k0_off170_inb : ∀ (i : grid0.Coords) (v6396 : BitVec 32) (k0_hw170 : k0_chk170 i v6396), ∀ (k0_h1 : k0_cond1 i = 1#1), ∀ a, (k0_off170 v6396) a + S1x8192.size a ≤ S8192x8192.size a := fun i v6396 k0_hw170 k0_h1 => k0_hw170 k0_h1

def k0_off171 (v6402 : BitVec 32) : Fin 2 → Nat :=
  let c0_i32_3238 : BitVec 32 := 0#32
  ![v6402.toNat, 0]

def k0_chk171 (i : grid0.Coords) (v6402 : BitVec 32) : Prop :=
  (∀ (k0_h1 : k0_cond1 i = 1#1), ∀ a, (k0_off171 v6402) a + S1x8192.size a ≤ S8192x8192.size a)
theorem k0_off171_inb : ∀ (i : grid0.Coords) (v6402 : BitVec 32) (k0_hw171 : k0_chk171 i v6402), ∀ (k0_h1 : k0_cond1 i = 1#1), ∀ a, (k0_off171 v6402) a + S1x8192.size a ≤ S8192x8192.size a := fun i v6402 k0_hw171 k0_h1 => k0_hw171 k0_h1

def k0_off172 (v6408 : BitVec 32) : Fin 2 → Nat :=
  let c0_i32_3243 : BitVec 32 := 0#32
  ![v6408.toNat, 0]

def k0_chk172 (i : grid0.Coords) (v6408 : BitVec 32) : Prop :=
  (∀ (k0_h1 : k0_cond1 i = 1#1), ∀ a, (k0_off172 v6408) a + S1x8192.size a ≤ S8192x8192.size a)
theorem k0_off172_inb : ∀ (i : grid0.Coords) (v6408 : BitVec 32) (k0_hw172 : k0_chk172 i v6408), ∀ (k0_h1 : k0_cond1 i = 1#1), ∀ a, (k0_off172 v6408) a + S1x8192.size a ≤ S8192x8192.size a := fun i v6408 k0_hw172 k0_h1 => k0_hw172 k0_h1

def k0_off173 (v6414 : BitVec 32) : Fin 2 → Nat :=
  let c0_i32_3248 : BitVec 32 := 0#32
  ![v6414.toNat, 0]

def k0_chk173 (i : grid0.Coords) (v6414 : BitVec 32) : Prop :=
  (∀ (k0_h1 : k0_cond1 i = 1#1), ∀ a, (k0_off173 v6414) a + S1x8192.size a ≤ S8192x8192.size a)
theorem k0_off173_inb : ∀ (i : grid0.Coords) (v6414 : BitVec 32) (k0_hw173 : k0_chk173 i v6414), ∀ (k0_h1 : k0_cond1 i = 1#1), ∀ a, (k0_off173 v6414) a + S1x8192.size a ≤ S8192x8192.size a := fun i v6414 k0_hw173 k0_h1 => k0_hw173 k0_h1

def k0_off174 (v6420 : BitVec 32) : Fin 2 → Nat :=
  let c0_i32_3253 : BitVec 32 := 0#32
  ![v6420.toNat, 0]

def k0_chk174 (i : grid0.Coords) (v6420 : BitVec 32) : Prop :=
  (∀ (k0_h1 : k0_cond1 i = 1#1), ∀ a, (k0_off174 v6420) a + S1x8192.size a ≤ S8192x8192.size a)
theorem k0_off174_inb : ∀ (i : grid0.Coords) (v6420 : BitVec 32) (k0_hw174 : k0_chk174 i v6420), ∀ (k0_h1 : k0_cond1 i = 1#1), ∀ a, (k0_off174 v6420) a + S1x8192.size a ≤ S8192x8192.size a := fun i v6420 k0_hw174 k0_h1 => k0_hw174 k0_h1

def k0_off175 (v6426 : BitVec 32) : Fin 2 → Nat :=
  let c0_i32_3258 : BitVec 32 := 0#32
  ![v6426.toNat, 0]

def k0_chk175 (i : grid0.Coords) (v6426 : BitVec 32) : Prop :=
  (∀ (k0_h1 : k0_cond1 i = 1#1), ∀ a, (k0_off175 v6426) a + S1x8192.size a ≤ S8192x8192.size a)
theorem k0_off175_inb : ∀ (i : grid0.Coords) (v6426 : BitVec 32) (k0_hw175 : k0_chk175 i v6426), ∀ (k0_h1 : k0_cond1 i = 1#1), ∀ a, (k0_off175 v6426) a + S1x8192.size a ≤ S8192x8192.size a := fun i v6426 k0_hw175 k0_h1 => k0_hw175 k0_h1

def k0_off176 (v6432 : BitVec 32) : Fin 2 → Nat :=
  let c0_i32_3263 : BitVec 32 := 0#32
  ![v6432.toNat, 0]

def k0_chk176 (i : grid0.Coords) (v6432 : BitVec 32) : Prop :=
  (∀ (k0_h1 : k0_cond1 i = 1#1), ∀ a, (k0_off176 v6432) a + S1x8192.size a ≤ S8192x8192.size a)
theorem k0_off176_inb : ∀ (i : grid0.Coords) (v6432 : BitVec 32) (k0_hw176 : k0_chk176 i v6432), ∀ (k0_h1 : k0_cond1 i = 1#1), ∀ a, (k0_off176 v6432) a + S1x8192.size a ≤ S8192x8192.size a := fun i v6432 k0_hw176 k0_h1 => k0_hw176 k0_h1

def k0_off177 (v6438 : BitVec 32) : Fin 2 → Nat :=
  let c0_i32_3269 : BitVec 32 := 0#32
  ![v6438.toNat, 0]

def k0_chk177 (i : grid0.Coords) (v6438 : BitVec 32) : Prop :=
  (∀ (k0_h1 : k0_cond1 i = 1#1), ∀ a, (k0_off177 v6438) a + S1x8192.size a ≤ S8192x8192.size a)
theorem k0_off177_inb : ∀ (i : grid0.Coords) (v6438 : BitVec 32) (k0_hw177 : k0_chk177 i v6438), ∀ (k0_h1 : k0_cond1 i = 1#1), ∀ a, (k0_off177 v6438) a + S1x8192.size a ≤ S8192x8192.size a := fun i v6438 k0_hw177 k0_h1 => k0_hw177 k0_h1

def k0_off178 (v6444 : BitVec 32) : Fin 2 → Nat :=
  let c0_i32_3274 : BitVec 32 := 0#32
  ![v6444.toNat, 0]

def k0_chk178 (i : grid0.Coords) (v6444 : BitVec 32) : Prop :=
  (∀ (k0_h1 : k0_cond1 i = 1#1), ∀ a, (k0_off178 v6444) a + S1x8192.size a ≤ S8192x8192.size a)
theorem k0_off178_inb : ∀ (i : grid0.Coords) (v6444 : BitVec 32) (k0_hw178 : k0_chk178 i v6444), ∀ (k0_h1 : k0_cond1 i = 1#1), ∀ a, (k0_off178 v6444) a + S1x8192.size a ≤ S8192x8192.size a := fun i v6444 k0_hw178 k0_h1 => k0_hw178 k0_h1

def k0_off179 (v6450 : BitVec 32) : Fin 2 → Nat :=
  let c0_i32_3279 : BitVec 32 := 0#32
  ![v6450.toNat, 0]

def k0_chk179 (i : grid0.Coords) (v6450 : BitVec 32) : Prop :=
  (∀ (k0_h1 : k0_cond1 i = 1#1), ∀ a, (k0_off179 v6450) a + S1x8192.size a ≤ S8192x8192.size a)
theorem k0_off179_inb : ∀ (i : grid0.Coords) (v6450 : BitVec 32) (k0_hw179 : k0_chk179 i v6450), ∀ (k0_h1 : k0_cond1 i = 1#1), ∀ a, (k0_off179 v6450) a + S1x8192.size a ≤ S8192x8192.size a := fun i v6450 k0_hw179 k0_h1 => k0_hw179 k0_h1

def k0_off180 (v6456 : BitVec 32) : Fin 2 → Nat :=
  let c0_i32_3284 : BitVec 32 := 0#32
  ![v6456.toNat, 0]

def k0_chk180 (i : grid0.Coords) (v6456 : BitVec 32) : Prop :=
  (∀ (k0_h1 : k0_cond1 i = 1#1), ∀ a, (k0_off180 v6456) a + S1x8192.size a ≤ S8192x8192.size a)
theorem k0_off180_inb : ∀ (i : grid0.Coords) (v6456 : BitVec 32) (k0_hw180 : k0_chk180 i v6456), ∀ (k0_h1 : k0_cond1 i = 1#1), ∀ a, (k0_off180 v6456) a + S1x8192.size a ≤ S8192x8192.size a := fun i v6456 k0_hw180 k0_h1 => k0_hw180 k0_h1

def k0_off181 (v6462 : BitVec 32) : Fin 2 → Nat :=
  let c0_i32_3289 : BitVec 32 := 0#32
  ![v6462.toNat, 0]

def k0_chk181 (i : grid0.Coords) (v6462 : BitVec 32) : Prop :=
  (∀ (k0_h1 : k0_cond1 i = 1#1), ∀ a, (k0_off181 v6462) a + S1x8192.size a ≤ S8192x8192.size a)
theorem k0_off181_inb : ∀ (i : grid0.Coords) (v6462 : BitVec 32) (k0_hw181 : k0_chk181 i v6462), ∀ (k0_h1 : k0_cond1 i = 1#1), ∀ a, (k0_off181 v6462) a + S1x8192.size a ≤ S8192x8192.size a := fun i v6462 k0_hw181 k0_h1 => k0_hw181 k0_h1

def k0_off182 (v6468 : BitVec 32) : Fin 2 → Nat :=
  let c0_i32_3294 : BitVec 32 := 0#32
  ![v6468.toNat, 0]

def k0_chk182 (i : grid0.Coords) (v6468 : BitVec 32) : Prop :=
  (∀ (k0_h1 : k0_cond1 i = 1#1), ∀ a, (k0_off182 v6468) a + S1x8192.size a ≤ S8192x8192.size a)
theorem k0_off182_inb : ∀ (i : grid0.Coords) (v6468 : BitVec 32) (k0_hw182 : k0_chk182 i v6468), ∀ (k0_h1 : k0_cond1 i = 1#1), ∀ a, (k0_off182 v6468) a + S1x8192.size a ≤ S8192x8192.size a := fun i v6468 k0_hw182 k0_h1 => k0_hw182 k0_h1

def k0_off183 (v6474 : BitVec 32) : Fin 2 → Nat :=
  let c0_i32_3299 : BitVec 32 := 0#32
  ![v6474.toNat, 0]

def k0_chk183 (i : grid0.Coords) (v6474 : BitVec 32) : Prop :=
  (∀ (k0_h1 : k0_cond1 i = 1#1), ∀ a, (k0_off183 v6474) a + S1x8192.size a ≤ S8192x8192.size a)
theorem k0_off183_inb : ∀ (i : grid0.Coords) (v6474 : BitVec 32) (k0_hw183 : k0_chk183 i v6474), ∀ (k0_h1 : k0_cond1 i = 1#1), ∀ a, (k0_off183 v6474) a + S1x8192.size a ≤ S8192x8192.size a := fun i v6474 k0_hw183 k0_h1 => k0_hw183 k0_h1

def k0_off184 (v6480 : BitVec 32) : Fin 2 → Nat :=
  let c0_i32_3304 : BitVec 32 := 0#32
  ![v6480.toNat, 0]

def k0_chk184 (i : grid0.Coords) (v6480 : BitVec 32) : Prop :=
  (∀ (k0_h1 : k0_cond1 i = 1#1), ∀ a, (k0_off184 v6480) a + S1x8192.size a ≤ S8192x8192.size a)
theorem k0_off184_inb : ∀ (i : grid0.Coords) (v6480 : BitVec 32) (k0_hw184 : k0_chk184 i v6480), ∀ (k0_h1 : k0_cond1 i = 1#1), ∀ a, (k0_off184 v6480) a + S1x8192.size a ≤ S8192x8192.size a := fun i v6480 k0_hw184 k0_h1 => k0_hw184 k0_h1

def k0_off185 (v6486 : BitVec 32) : Fin 2 → Nat :=
  let c0_i32_3310 : BitVec 32 := 0#32
  ![v6486.toNat, 0]

def k0_chk185 (i : grid0.Coords) (v6486 : BitVec 32) : Prop :=
  (∀ (k0_h1 : k0_cond1 i = 1#1), ∀ a, (k0_off185 v6486) a + S1x8192.size a ≤ S8192x8192.size a)
theorem k0_off185_inb : ∀ (i : grid0.Coords) (v6486 : BitVec 32) (k0_hw185 : k0_chk185 i v6486), ∀ (k0_h1 : k0_cond1 i = 1#1), ∀ a, (k0_off185 v6486) a + S1x8192.size a ≤ S8192x8192.size a := fun i v6486 k0_hw185 k0_h1 => k0_hw185 k0_h1

def k0_off186 (v6492 : BitVec 32) : Fin 2 → Nat :=
  let c0_i32_3315 : BitVec 32 := 0#32
  ![v6492.toNat, 0]

def k0_chk186 (i : grid0.Coords) (v6492 : BitVec 32) : Prop :=
  (∀ (k0_h1 : k0_cond1 i = 1#1), ∀ a, (k0_off186 v6492) a + S1x8192.size a ≤ S8192x8192.size a)
theorem k0_off186_inb : ∀ (i : grid0.Coords) (v6492 : BitVec 32) (k0_hw186 : k0_chk186 i v6492), ∀ (k0_h1 : k0_cond1 i = 1#1), ∀ a, (k0_off186 v6492) a + S1x8192.size a ≤ S8192x8192.size a := fun i v6492 k0_hw186 k0_h1 => k0_hw186 k0_h1

def k0_off187 (v6498 : BitVec 32) : Fin 2 → Nat :=
  let c0_i32_3320 : BitVec 32 := 0#32
  ![v6498.toNat, 0]

def k0_chk187 (i : grid0.Coords) (v6498 : BitVec 32) : Prop :=
  (∀ (k0_h1 : k0_cond1 i = 1#1), ∀ a, (k0_off187 v6498) a + S1x8192.size a ≤ S8192x8192.size a)
theorem k0_off187_inb : ∀ (i : grid0.Coords) (v6498 : BitVec 32) (k0_hw187 : k0_chk187 i v6498), ∀ (k0_h1 : k0_cond1 i = 1#1), ∀ a, (k0_off187 v6498) a + S1x8192.size a ≤ S8192x8192.size a := fun i v6498 k0_hw187 k0_h1 => k0_hw187 k0_h1

def k0_off188 (v6504 : BitVec 32) : Fin 2 → Nat :=
  let c0_i32_3325 : BitVec 32 := 0#32
  ![v6504.toNat, 0]

def k0_chk188 (i : grid0.Coords) (v6504 : BitVec 32) : Prop :=
  (∀ (k0_h1 : k0_cond1 i = 1#1), ∀ a, (k0_off188 v6504) a + S1x8192.size a ≤ S8192x8192.size a)
theorem k0_off188_inb : ∀ (i : grid0.Coords) (v6504 : BitVec 32) (k0_hw188 : k0_chk188 i v6504), ∀ (k0_h1 : k0_cond1 i = 1#1), ∀ a, (k0_off188 v6504) a + S1x8192.size a ≤ S8192x8192.size a := fun i v6504 k0_hw188 k0_h1 => k0_hw188 k0_h1

def k0_off189 (v6510 : BitVec 32) : Fin 2 → Nat :=
  let c0_i32_3330 : BitVec 32 := 0#32
  ![v6510.toNat, 0]

def k0_chk189 (i : grid0.Coords) (v6510 : BitVec 32) : Prop :=
  (∀ (k0_h1 : k0_cond1 i = 1#1), ∀ a, (k0_off189 v6510) a + S1x8192.size a ≤ S8192x8192.size a)
theorem k0_off189_inb : ∀ (i : grid0.Coords) (v6510 : BitVec 32) (k0_hw189 : k0_chk189 i v6510), ∀ (k0_h1 : k0_cond1 i = 1#1), ∀ a, (k0_off189 v6510) a + S1x8192.size a ≤ S8192x8192.size a := fun i v6510 k0_hw189 k0_h1 => k0_hw189 k0_h1

def k0_off190 (v6516 : BitVec 32) : Fin 2 → Nat :=
  let c0_i32_3335 : BitVec 32 := 0#32
  ![v6516.toNat, 0]

def k0_chk190 (i : grid0.Coords) (v6516 : BitVec 32) : Prop :=
  (∀ (k0_h1 : k0_cond1 i = 1#1), ∀ a, (k0_off190 v6516) a + S1x8192.size a ≤ S8192x8192.size a)
theorem k0_off190_inb : ∀ (i : grid0.Coords) (v6516 : BitVec 32) (k0_hw190 : k0_chk190 i v6516), ∀ (k0_h1 : k0_cond1 i = 1#1), ∀ a, (k0_off190 v6516) a + S1x8192.size a ≤ S8192x8192.size a := fun i v6516 k0_hw190 k0_h1 => k0_hw190 k0_h1

def k0_off191 (v6522 : BitVec 32) : Fin 2 → Nat :=
  let c0_i32_3340 : BitVec 32 := 0#32
  ![v6522.toNat, 0]

def k0_chk191 (i : grid0.Coords) (v6522 : BitVec 32) : Prop :=
  (∀ (k0_h1 : k0_cond1 i = 1#1), ∀ a, (k0_off191 v6522) a + S1x8192.size a ≤ S8192x8192.size a)
theorem k0_off191_inb : ∀ (i : grid0.Coords) (v6522 : BitVec 32) (k0_hw191 : k0_chk191 i v6522), ∀ (k0_h1 : k0_cond1 i = 1#1), ∀ a, (k0_off191 v6522) a + S1x8192.size a ≤ S8192x8192.size a := fun i v6522 k0_hw191 k0_h1 => k0_hw191 k0_h1

def k0_off192 (v6528 : BitVec 32) : Fin 2 → Nat :=
  let c0_i32_3345 : BitVec 32 := 0#32
  ![v6528.toNat, 0]

def k0_chk192 (i : grid0.Coords) (v6528 : BitVec 32) : Prop :=
  (∀ (k0_h1 : k0_cond1 i = 1#1), ∀ a, (k0_off192 v6528) a + S1x8192.size a ≤ S8192x8192.size a)
theorem k0_off192_inb : ∀ (i : grid0.Coords) (v6528 : BitVec 32) (k0_hw192 : k0_chk192 i v6528), ∀ (k0_h1 : k0_cond1 i = 1#1), ∀ a, (k0_off192 v6528) a + S1x8192.size a ≤ S8192x8192.size a := fun i v6528 k0_hw192 k0_h1 => k0_hw192 k0_h1

def k0_off193 (v6534 : BitVec 32) : Fin 2 → Nat :=
  let c0_i32_3351 : BitVec 32 := 0#32
  ![v6534.toNat, 0]

def k0_chk193 (i : grid0.Coords) (v6534 : BitVec 32) : Prop :=
  (∀ (k0_h1 : k0_cond1 i = 1#1), ∀ a, (k0_off193 v6534) a + S1x8192.size a ≤ S8192x8192.size a)
theorem k0_off193_inb : ∀ (i : grid0.Coords) (v6534 : BitVec 32) (k0_hw193 : k0_chk193 i v6534), ∀ (k0_h1 : k0_cond1 i = 1#1), ∀ a, (k0_off193 v6534) a + S1x8192.size a ≤ S8192x8192.size a := fun i v6534 k0_hw193 k0_h1 => k0_hw193 k0_h1

def k0_off194 (v6540 : BitVec 32) : Fin 2 → Nat :=
  let c0_i32_3356 : BitVec 32 := 0#32
  ![v6540.toNat, 0]

def k0_chk194 (i : grid0.Coords) (v6540 : BitVec 32) : Prop :=
  (∀ (k0_h1 : k0_cond1 i = 1#1), ∀ a, (k0_off194 v6540) a + S1x8192.size a ≤ S8192x8192.size a)
theorem k0_off194_inb : ∀ (i : grid0.Coords) (v6540 : BitVec 32) (k0_hw194 : k0_chk194 i v6540), ∀ (k0_h1 : k0_cond1 i = 1#1), ∀ a, (k0_off194 v6540) a + S1x8192.size a ≤ S8192x8192.size a := fun i v6540 k0_hw194 k0_h1 => k0_hw194 k0_h1

def k0_off195 (v6546 : BitVec 32) : Fin 2 → Nat :=
  let c0_i32_3361 : BitVec 32 := 0#32
  ![v6546.toNat, 0]

def k0_chk195 (i : grid0.Coords) (v6546 : BitVec 32) : Prop :=
  (∀ (k0_h1 : k0_cond1 i = 1#1), ∀ a, (k0_off195 v6546) a + S1x8192.size a ≤ S8192x8192.size a)
theorem k0_off195_inb : ∀ (i : grid0.Coords) (v6546 : BitVec 32) (k0_hw195 : k0_chk195 i v6546), ∀ (k0_h1 : k0_cond1 i = 1#1), ∀ a, (k0_off195 v6546) a + S1x8192.size a ≤ S8192x8192.size a := fun i v6546 k0_hw195 k0_h1 => k0_hw195 k0_h1

def k0_off196 (v6552 : BitVec 32) : Fin 2 → Nat :=
  let c0_i32_3366 : BitVec 32 := 0#32
  ![v6552.toNat, 0]

def k0_chk196 (i : grid0.Coords) (v6552 : BitVec 32) : Prop :=
  (∀ (k0_h1 : k0_cond1 i = 1#1), ∀ a, (k0_off196 v6552) a + S1x8192.size a ≤ S8192x8192.size a)
theorem k0_off196_inb : ∀ (i : grid0.Coords) (v6552 : BitVec 32) (k0_hw196 : k0_chk196 i v6552), ∀ (k0_h1 : k0_cond1 i = 1#1), ∀ a, (k0_off196 v6552) a + S1x8192.size a ≤ S8192x8192.size a := fun i v6552 k0_hw196 k0_h1 => k0_hw196 k0_h1

def k0_off197 (v6558 : BitVec 32) : Fin 2 → Nat :=
  let c0_i32_3371 : BitVec 32 := 0#32
  ![v6558.toNat, 0]

def k0_chk197 (i : grid0.Coords) (v6558 : BitVec 32) : Prop :=
  (∀ (k0_h1 : k0_cond1 i = 1#1), ∀ a, (k0_off197 v6558) a + S1x8192.size a ≤ S8192x8192.size a)
theorem k0_off197_inb : ∀ (i : grid0.Coords) (v6558 : BitVec 32) (k0_hw197 : k0_chk197 i v6558), ∀ (k0_h1 : k0_cond1 i = 1#1), ∀ a, (k0_off197 v6558) a + S1x8192.size a ≤ S8192x8192.size a := fun i v6558 k0_hw197 k0_h1 => k0_hw197 k0_h1

def k0_off198 (v6564 : BitVec 32) : Fin 2 → Nat :=
  let c0_i32_3376 : BitVec 32 := 0#32
  ![v6564.toNat, 0]

def k0_chk198 (i : grid0.Coords) (v6564 : BitVec 32) : Prop :=
  (∀ (k0_h1 : k0_cond1 i = 1#1), ∀ a, (k0_off198 v6564) a + S1x8192.size a ≤ S8192x8192.size a)
theorem k0_off198_inb : ∀ (i : grid0.Coords) (v6564 : BitVec 32) (k0_hw198 : k0_chk198 i v6564), ∀ (k0_h1 : k0_cond1 i = 1#1), ∀ a, (k0_off198 v6564) a + S1x8192.size a ≤ S8192x8192.size a := fun i v6564 k0_hw198 k0_h1 => k0_hw198 k0_h1

def k0_off199 (v6570 : BitVec 32) : Fin 2 → Nat :=
  let c0_i32_3381 : BitVec 32 := 0#32
  ![v6570.toNat, 0]

def k0_chk199 (i : grid0.Coords) (v6570 : BitVec 32) : Prop :=
  (∀ (k0_h1 : k0_cond1 i = 1#1), ∀ a, (k0_off199 v6570) a + S1x8192.size a ≤ S8192x8192.size a)
theorem k0_off199_inb : ∀ (i : grid0.Coords) (v6570 : BitVec 32) (k0_hw199 : k0_chk199 i v6570), ∀ (k0_h1 : k0_cond1 i = 1#1), ∀ a, (k0_off199 v6570) a + S1x8192.size a ≤ S8192x8192.size a := fun i v6570 k0_hw199 k0_h1 => k0_hw199 k0_h1

def k0_off200 (v6576 : BitVec 32) : Fin 2 → Nat :=
  let c0_i32_3386 : BitVec 32 := 0#32
  ![v6576.toNat, 0]

def k0_chk200 (i : grid0.Coords) (v6576 : BitVec 32) : Prop :=
  (∀ (k0_h1 : k0_cond1 i = 1#1), ∀ a, (k0_off200 v6576) a + S1x8192.size a ≤ S8192x8192.size a)
theorem k0_off200_inb : ∀ (i : grid0.Coords) (v6576 : BitVec 32) (k0_hw200 : k0_chk200 i v6576), ∀ (k0_h1 : k0_cond1 i = 1#1), ∀ a, (k0_off200 v6576) a + S1x8192.size a ≤ S8192x8192.size a := fun i v6576 k0_hw200 k0_h1 => k0_hw200 k0_h1

def k0_off201 (v6582 : BitVec 32) : Fin 2 → Nat :=
  let c0_i32_3392 : BitVec 32 := 0#32
  ![v6582.toNat, 0]

def k0_chk201 (i : grid0.Coords) (v6582 : BitVec 32) : Prop :=
  (∀ (k0_h1 : k0_cond1 i = 1#1), ∀ a, (k0_off201 v6582) a + S1x8192.size a ≤ S8192x8192.size a)
theorem k0_off201_inb : ∀ (i : grid0.Coords) (v6582 : BitVec 32) (k0_hw201 : k0_chk201 i v6582), ∀ (k0_h1 : k0_cond1 i = 1#1), ∀ a, (k0_off201 v6582) a + S1x8192.size a ≤ S8192x8192.size a := fun i v6582 k0_hw201 k0_h1 => k0_hw201 k0_h1

def k0_off202 (v6588 : BitVec 32) : Fin 2 → Nat :=
  let c0_i32_3397 : BitVec 32 := 0#32
  ![v6588.toNat, 0]

def k0_chk202 (i : grid0.Coords) (v6588 : BitVec 32) : Prop :=
  (∀ (k0_h1 : k0_cond1 i = 1#1), ∀ a, (k0_off202 v6588) a + S1x8192.size a ≤ S8192x8192.size a)
theorem k0_off202_inb : ∀ (i : grid0.Coords) (v6588 : BitVec 32) (k0_hw202 : k0_chk202 i v6588), ∀ (k0_h1 : k0_cond1 i = 1#1), ∀ a, (k0_off202 v6588) a + S1x8192.size a ≤ S8192x8192.size a := fun i v6588 k0_hw202 k0_h1 => k0_hw202 k0_h1

def k0_off203 (v6594 : BitVec 32) : Fin 2 → Nat :=
  let c0_i32_3402 : BitVec 32 := 0#32
  ![v6594.toNat, 0]

def k0_chk203 (i : grid0.Coords) (v6594 : BitVec 32) : Prop :=
  (∀ (k0_h1 : k0_cond1 i = 1#1), ∀ a, (k0_off203 v6594) a + S1x8192.size a ≤ S8192x8192.size a)
theorem k0_off203_inb : ∀ (i : grid0.Coords) (v6594 : BitVec 32) (k0_hw203 : k0_chk203 i v6594), ∀ (k0_h1 : k0_cond1 i = 1#1), ∀ a, (k0_off203 v6594) a + S1x8192.size a ≤ S8192x8192.size a := fun i v6594 k0_hw203 k0_h1 => k0_hw203 k0_h1

def k0_off204 (v6600 : BitVec 32) : Fin 2 → Nat :=
  let c0_i32_3407 : BitVec 32 := 0#32
  ![v6600.toNat, 0]

def k0_chk204 (i : grid0.Coords) (v6600 : BitVec 32) : Prop :=
  (∀ (k0_h1 : k0_cond1 i = 1#1), ∀ a, (k0_off204 v6600) a + S1x8192.size a ≤ S8192x8192.size a)
theorem k0_off204_inb : ∀ (i : grid0.Coords) (v6600 : BitVec 32) (k0_hw204 : k0_chk204 i v6600), ∀ (k0_h1 : k0_cond1 i = 1#1), ∀ a, (k0_off204 v6600) a + S1x8192.size a ≤ S8192x8192.size a := fun i v6600 k0_hw204 k0_h1 => k0_hw204 k0_h1

def k0_off205 (v6606 : BitVec 32) : Fin 2 → Nat :=
  let c0_i32_3412 : BitVec 32 := 0#32
  ![v6606.toNat, 0]

def k0_chk205 (i : grid0.Coords) (v6606 : BitVec 32) : Prop :=
  (∀ (k0_h1 : k0_cond1 i = 1#1), ∀ a, (k0_off205 v6606) a + S1x8192.size a ≤ S8192x8192.size a)
theorem k0_off205_inb : ∀ (i : grid0.Coords) (v6606 : BitVec 32) (k0_hw205 : k0_chk205 i v6606), ∀ (k0_h1 : k0_cond1 i = 1#1), ∀ a, (k0_off205 v6606) a + S1x8192.size a ≤ S8192x8192.size a := fun i v6606 k0_hw205 k0_h1 => k0_hw205 k0_h1

def k0_off206 (v6612 : BitVec 32) : Fin 2 → Nat :=
  let c0_i32_3417 : BitVec 32 := 0#32
  ![v6612.toNat, 0]

def k0_chk206 (i : grid0.Coords) (v6612 : BitVec 32) : Prop :=
  (∀ (k0_h1 : k0_cond1 i = 1#1), ∀ a, (k0_off206 v6612) a + S1x8192.size a ≤ S8192x8192.size a)
theorem k0_off206_inb : ∀ (i : grid0.Coords) (v6612 : BitVec 32) (k0_hw206 : k0_chk206 i v6612), ∀ (k0_h1 : k0_cond1 i = 1#1), ∀ a, (k0_off206 v6612) a + S1x8192.size a ≤ S8192x8192.size a := fun i v6612 k0_hw206 k0_h1 => k0_hw206 k0_h1

def k0_off207 (v6618 : BitVec 32) : Fin 2 → Nat :=
  let c0_i32_3422 : BitVec 32 := 0#32
  ![v6618.toNat, 0]

def k0_chk207 (i : grid0.Coords) (v6618 : BitVec 32) : Prop :=
  (∀ (k0_h1 : k0_cond1 i = 1#1), ∀ a, (k0_off207 v6618) a + S1x8192.size a ≤ S8192x8192.size a)
theorem k0_off207_inb : ∀ (i : grid0.Coords) (v6618 : BitVec 32) (k0_hw207 : k0_chk207 i v6618), ∀ (k0_h1 : k0_cond1 i = 1#1), ∀ a, (k0_off207 v6618) a + S1x8192.size a ≤ S8192x8192.size a := fun i v6618 k0_hw207 k0_h1 => k0_hw207 k0_h1

def k0_off208 (v6624 : BitVec 32) : Fin 2 → Nat :=
  let c0_i32_3427 : BitVec 32 := 0#32
  ![v6624.toNat, 0]

def k0_chk208 (i : grid0.Coords) (v6624 : BitVec 32) : Prop :=
  (∀ (k0_h1 : k0_cond1 i = 1#1), ∀ a, (k0_off208 v6624) a + S1x8192.size a ≤ S8192x8192.size a)
theorem k0_off208_inb : ∀ (i : grid0.Coords) (v6624 : BitVec 32) (k0_hw208 : k0_chk208 i v6624), ∀ (k0_h1 : k0_cond1 i = 1#1), ∀ a, (k0_off208 v6624) a + S1x8192.size a ≤ S8192x8192.size a := fun i v6624 k0_hw208 k0_h1 => k0_hw208 k0_h1

def k0_off209 (v6630 : BitVec 32) : Fin 2 → Nat :=
  let c0_i32_3433 : BitVec 32 := 0#32
  ![v6630.toNat, 0]

def k0_chk209 (i : grid0.Coords) (v6630 : BitVec 32) : Prop :=
  (∀ (k0_h1 : k0_cond1 i = 1#1), ∀ a, (k0_off209 v6630) a + S1x8192.size a ≤ S8192x8192.size a)
theorem k0_off209_inb : ∀ (i : grid0.Coords) (v6630 : BitVec 32) (k0_hw209 : k0_chk209 i v6630), ∀ (k0_h1 : k0_cond1 i = 1#1), ∀ a, (k0_off209 v6630) a + S1x8192.size a ≤ S8192x8192.size a := fun i v6630 k0_hw209 k0_h1 => k0_hw209 k0_h1

def k0_off210 (v6636 : BitVec 32) : Fin 2 → Nat :=
  let c0_i32_3438 : BitVec 32 := 0#32
  ![v6636.toNat, 0]

def k0_chk210 (i : grid0.Coords) (v6636 : BitVec 32) : Prop :=
  (∀ (k0_h1 : k0_cond1 i = 1#1), ∀ a, (k0_off210 v6636) a + S1x8192.size a ≤ S8192x8192.size a)
theorem k0_off210_inb : ∀ (i : grid0.Coords) (v6636 : BitVec 32) (k0_hw210 : k0_chk210 i v6636), ∀ (k0_h1 : k0_cond1 i = 1#1), ∀ a, (k0_off210 v6636) a + S1x8192.size a ≤ S8192x8192.size a := fun i v6636 k0_hw210 k0_h1 => k0_hw210 k0_h1

def k0_off211 (v6642 : BitVec 32) : Fin 2 → Nat :=
  let c0_i32_3443 : BitVec 32 := 0#32
  ![v6642.toNat, 0]

def k0_chk211 (i : grid0.Coords) (v6642 : BitVec 32) : Prop :=
  (∀ (k0_h1 : k0_cond1 i = 1#1), ∀ a, (k0_off211 v6642) a + S1x8192.size a ≤ S8192x8192.size a)
theorem k0_off211_inb : ∀ (i : grid0.Coords) (v6642 : BitVec 32) (k0_hw211 : k0_chk211 i v6642), ∀ (k0_h1 : k0_cond1 i = 1#1), ∀ a, (k0_off211 v6642) a + S1x8192.size a ≤ S8192x8192.size a := fun i v6642 k0_hw211 k0_h1 => k0_hw211 k0_h1

def k0_off212 (v6648 : BitVec 32) : Fin 2 → Nat :=
  let c0_i32_3448 : BitVec 32 := 0#32
  ![v6648.toNat, 0]

def k0_chk212 (i : grid0.Coords) (v6648 : BitVec 32) : Prop :=
  (∀ (k0_h1 : k0_cond1 i = 1#1), ∀ a, (k0_off212 v6648) a + S1x8192.size a ≤ S8192x8192.size a)
theorem k0_off212_inb : ∀ (i : grid0.Coords) (v6648 : BitVec 32) (k0_hw212 : k0_chk212 i v6648), ∀ (k0_h1 : k0_cond1 i = 1#1), ∀ a, (k0_off212 v6648) a + S1x8192.size a ≤ S8192x8192.size a := fun i v6648 k0_hw212 k0_h1 => k0_hw212 k0_h1

def k0_off213 (v6654 : BitVec 32) : Fin 2 → Nat :=
  let c0_i32_3453 : BitVec 32 := 0#32
  ![v6654.toNat, 0]

def k0_chk213 (i : grid0.Coords) (v6654 : BitVec 32) : Prop :=
  (∀ (k0_h1 : k0_cond1 i = 1#1), ∀ a, (k0_off213 v6654) a + S1x8192.size a ≤ S8192x8192.size a)
theorem k0_off213_inb : ∀ (i : grid0.Coords) (v6654 : BitVec 32) (k0_hw213 : k0_chk213 i v6654), ∀ (k0_h1 : k0_cond1 i = 1#1), ∀ a, (k0_off213 v6654) a + S1x8192.size a ≤ S8192x8192.size a := fun i v6654 k0_hw213 k0_h1 => k0_hw213 k0_h1

def k0_off214 (v6660 : BitVec 32) : Fin 2 → Nat :=
  let c0_i32_3458 : BitVec 32 := 0#32
  ![v6660.toNat, 0]

def k0_chk214 (i : grid0.Coords) (v6660 : BitVec 32) : Prop :=
  (∀ (k0_h1 : k0_cond1 i = 1#1), ∀ a, (k0_off214 v6660) a + S1x8192.size a ≤ S8192x8192.size a)
theorem k0_off214_inb : ∀ (i : grid0.Coords) (v6660 : BitVec 32) (k0_hw214 : k0_chk214 i v6660), ∀ (k0_h1 : k0_cond1 i = 1#1), ∀ a, (k0_off214 v6660) a + S1x8192.size a ≤ S8192x8192.size a := fun i v6660 k0_hw214 k0_h1 => k0_hw214 k0_h1

def k0_off215 (v6666 : BitVec 32) : Fin 2 → Nat :=
  let c0_i32_3463 : BitVec 32 := 0#32
  ![v6666.toNat, 0]

def k0_chk215 (i : grid0.Coords) (v6666 : BitVec 32) : Prop :=
  (∀ (k0_h1 : k0_cond1 i = 1#1), ∀ a, (k0_off215 v6666) a + S1x8192.size a ≤ S8192x8192.size a)
theorem k0_off215_inb : ∀ (i : grid0.Coords) (v6666 : BitVec 32) (k0_hw215 : k0_chk215 i v6666), ∀ (k0_h1 : k0_cond1 i = 1#1), ∀ a, (k0_off215 v6666) a + S1x8192.size a ≤ S8192x8192.size a := fun i v6666 k0_hw215 k0_h1 => k0_hw215 k0_h1

def k0_off216 (v6672 : BitVec 32) : Fin 2 → Nat :=
  let c0_i32_3468 : BitVec 32 := 0#32
  ![v6672.toNat, 0]

def k0_chk216 (i : grid0.Coords) (v6672 : BitVec 32) : Prop :=
  (∀ (k0_h1 : k0_cond1 i = 1#1), ∀ a, (k0_off216 v6672) a + S1x8192.size a ≤ S8192x8192.size a)
theorem k0_off216_inb : ∀ (i : grid0.Coords) (v6672 : BitVec 32) (k0_hw216 : k0_chk216 i v6672), ∀ (k0_h1 : k0_cond1 i = 1#1), ∀ a, (k0_off216 v6672) a + S1x8192.size a ≤ S8192x8192.size a := fun i v6672 k0_hw216 k0_h1 => k0_hw216 k0_h1

def k0_off217 (v6678 : BitVec 32) : Fin 2 → Nat :=
  let c0_i32_3474 : BitVec 32 := 0#32
  ![v6678.toNat, 0]

def k0_chk217 (i : grid0.Coords) (v6678 : BitVec 32) : Prop :=
  (∀ (k0_h1 : k0_cond1 i = 1#1), ∀ a, (k0_off217 v6678) a + S1x8192.size a ≤ S8192x8192.size a)
theorem k0_off217_inb : ∀ (i : grid0.Coords) (v6678 : BitVec 32) (k0_hw217 : k0_chk217 i v6678), ∀ (k0_h1 : k0_cond1 i = 1#1), ∀ a, (k0_off217 v6678) a + S1x8192.size a ≤ S8192x8192.size a := fun i v6678 k0_hw217 k0_h1 => k0_hw217 k0_h1

def k0_off218 (v6684 : BitVec 32) : Fin 2 → Nat :=
  let c0_i32_3479 : BitVec 32 := 0#32
  ![v6684.toNat, 0]

def k0_chk218 (i : grid0.Coords) (v6684 : BitVec 32) : Prop :=
  (∀ (k0_h1 : k0_cond1 i = 1#1), ∀ a, (k0_off218 v6684) a + S1x8192.size a ≤ S8192x8192.size a)
theorem k0_off218_inb : ∀ (i : grid0.Coords) (v6684 : BitVec 32) (k0_hw218 : k0_chk218 i v6684), ∀ (k0_h1 : k0_cond1 i = 1#1), ∀ a, (k0_off218 v6684) a + S1x8192.size a ≤ S8192x8192.size a := fun i v6684 k0_hw218 k0_h1 => k0_hw218 k0_h1

def k0_off219 (v6690 : BitVec 32) : Fin 2 → Nat :=
  let c0_i32_3484 : BitVec 32 := 0#32
  ![v6690.toNat, 0]

def k0_chk219 (i : grid0.Coords) (v6690 : BitVec 32) : Prop :=
  (∀ (k0_h1 : k0_cond1 i = 1#1), ∀ a, (k0_off219 v6690) a + S1x8192.size a ≤ S8192x8192.size a)
theorem k0_off219_inb : ∀ (i : grid0.Coords) (v6690 : BitVec 32) (k0_hw219 : k0_chk219 i v6690), ∀ (k0_h1 : k0_cond1 i = 1#1), ∀ a, (k0_off219 v6690) a + S1x8192.size a ≤ S8192x8192.size a := fun i v6690 k0_hw219 k0_h1 => k0_hw219 k0_h1

def k0_off220 (v6696 : BitVec 32) : Fin 2 → Nat :=
  let c0_i32_3489 : BitVec 32 := 0#32
  ![v6696.toNat, 0]

def k0_chk220 (i : grid0.Coords) (v6696 : BitVec 32) : Prop :=
  (∀ (k0_h1 : k0_cond1 i = 1#1), ∀ a, (k0_off220 v6696) a + S1x8192.size a ≤ S8192x8192.size a)
theorem k0_off220_inb : ∀ (i : grid0.Coords) (v6696 : BitVec 32) (k0_hw220 : k0_chk220 i v6696), ∀ (k0_h1 : k0_cond1 i = 1#1), ∀ a, (k0_off220 v6696) a + S1x8192.size a ≤ S8192x8192.size a := fun i v6696 k0_hw220 k0_h1 => k0_hw220 k0_h1

def k0_off221 (v6702 : BitVec 32) : Fin 2 → Nat :=
  let c0_i32_3494 : BitVec 32 := 0#32
  ![v6702.toNat, 0]

def k0_chk221 (i : grid0.Coords) (v6702 : BitVec 32) : Prop :=
  (∀ (k0_h1 : k0_cond1 i = 1#1), ∀ a, (k0_off221 v6702) a + S1x8192.size a ≤ S8192x8192.size a)
theorem k0_off221_inb : ∀ (i : grid0.Coords) (v6702 : BitVec 32) (k0_hw221 : k0_chk221 i v6702), ∀ (k0_h1 : k0_cond1 i = 1#1), ∀ a, (k0_off221 v6702) a + S1x8192.size a ≤ S8192x8192.size a := fun i v6702 k0_hw221 k0_h1 => k0_hw221 k0_h1

def k0_off222 (v6708 : BitVec 32) : Fin 2 → Nat :=
  let c0_i32_3499 : BitVec 32 := 0#32
  ![v6708.toNat, 0]

def k0_chk222 (i : grid0.Coords) (v6708 : BitVec 32) : Prop :=
  (∀ (k0_h1 : k0_cond1 i = 1#1), ∀ a, (k0_off222 v6708) a + S1x8192.size a ≤ S8192x8192.size a)
theorem k0_off222_inb : ∀ (i : grid0.Coords) (v6708 : BitVec 32) (k0_hw222 : k0_chk222 i v6708), ∀ (k0_h1 : k0_cond1 i = 1#1), ∀ a, (k0_off222 v6708) a + S1x8192.size a ≤ S8192x8192.size a := fun i v6708 k0_hw222 k0_h1 => k0_hw222 k0_h1

def k0_off223 (v6714 : BitVec 32) : Fin 2 → Nat :=
  let c0_i32_3504 : BitVec 32 := 0#32
  ![v6714.toNat, 0]

def k0_chk223 (i : grid0.Coords) (v6714 : BitVec 32) : Prop :=
  (∀ (k0_h1 : k0_cond1 i = 1#1), ∀ a, (k0_off223 v6714) a + S1x8192.size a ≤ S8192x8192.size a)
theorem k0_off223_inb : ∀ (i : grid0.Coords) (v6714 : BitVec 32) (k0_hw223 : k0_chk223 i v6714), ∀ (k0_h1 : k0_cond1 i = 1#1), ∀ a, (k0_off223 v6714) a + S1x8192.size a ≤ S8192x8192.size a := fun i v6714 k0_hw223 k0_h1 => k0_hw223 k0_h1

def k0_off224 (v6720 : BitVec 32) : Fin 2 → Nat :=
  let c0_i32_3509 : BitVec 32 := 0#32
  ![v6720.toNat, 0]

def k0_chk224 (i : grid0.Coords) (v6720 : BitVec 32) : Prop :=
  (∀ (k0_h1 : k0_cond1 i = 1#1), ∀ a, (k0_off224 v6720) a + S1x8192.size a ≤ S8192x8192.size a)
theorem k0_off224_inb : ∀ (i : grid0.Coords) (v6720 : BitVec 32) (k0_hw224 : k0_chk224 i v6720), ∀ (k0_h1 : k0_cond1 i = 1#1), ∀ a, (k0_off224 v6720) a + S1x8192.size a ≤ S8192x8192.size a := fun i v6720 k0_hw224 k0_h1 => k0_hw224 k0_h1

def k0_off225 (v6726 : BitVec 32) : Fin 2 → Nat :=
  let c0_i32_3515 : BitVec 32 := 0#32
  ![v6726.toNat, 0]

def k0_chk225 (i : grid0.Coords) (v6726 : BitVec 32) : Prop :=
  (∀ (k0_h1 : k0_cond1 i = 1#1), ∀ a, (k0_off225 v6726) a + S1x8192.size a ≤ S8192x8192.size a)
theorem k0_off225_inb : ∀ (i : grid0.Coords) (v6726 : BitVec 32) (k0_hw225 : k0_chk225 i v6726), ∀ (k0_h1 : k0_cond1 i = 1#1), ∀ a, (k0_off225 v6726) a + S1x8192.size a ≤ S8192x8192.size a := fun i v6726 k0_hw225 k0_h1 => k0_hw225 k0_h1

def k0_off226 (v6732 : BitVec 32) : Fin 2 → Nat :=
  let c0_i32_3520 : BitVec 32 := 0#32
  ![v6732.toNat, 0]

def k0_chk226 (i : grid0.Coords) (v6732 : BitVec 32) : Prop :=
  (∀ (k0_h1 : k0_cond1 i = 1#1), ∀ a, (k0_off226 v6732) a + S1x8192.size a ≤ S8192x8192.size a)
theorem k0_off226_inb : ∀ (i : grid0.Coords) (v6732 : BitVec 32) (k0_hw226 : k0_chk226 i v6732), ∀ (k0_h1 : k0_cond1 i = 1#1), ∀ a, (k0_off226 v6732) a + S1x8192.size a ≤ S8192x8192.size a := fun i v6732 k0_hw226 k0_h1 => k0_hw226 k0_h1

def k0_off227 (v6738 : BitVec 32) : Fin 2 → Nat :=
  let c0_i32_3525 : BitVec 32 := 0#32
  ![v6738.toNat, 0]

def k0_chk227 (i : grid0.Coords) (v6738 : BitVec 32) : Prop :=
  (∀ (k0_h1 : k0_cond1 i = 1#1), ∀ a, (k0_off227 v6738) a + S1x8192.size a ≤ S8192x8192.size a)
theorem k0_off227_inb : ∀ (i : grid0.Coords) (v6738 : BitVec 32) (k0_hw227 : k0_chk227 i v6738), ∀ (k0_h1 : k0_cond1 i = 1#1), ∀ a, (k0_off227 v6738) a + S1x8192.size a ≤ S8192x8192.size a := fun i v6738 k0_hw227 k0_h1 => k0_hw227 k0_h1

def k0_off228 (v6744 : BitVec 32) : Fin 2 → Nat :=
  let c0_i32_3530 : BitVec 32 := 0#32
  ![v6744.toNat, 0]

def k0_chk228 (i : grid0.Coords) (v6744 : BitVec 32) : Prop :=
  (∀ (k0_h1 : k0_cond1 i = 1#1), ∀ a, (k0_off228 v6744) a + S1x8192.size a ≤ S8192x8192.size a)
theorem k0_off228_inb : ∀ (i : grid0.Coords) (v6744 : BitVec 32) (k0_hw228 : k0_chk228 i v6744), ∀ (k0_h1 : k0_cond1 i = 1#1), ∀ a, (k0_off228 v6744) a + S1x8192.size a ≤ S8192x8192.size a := fun i v6744 k0_hw228 k0_h1 => k0_hw228 k0_h1

def k0_off229 (v6750 : BitVec 32) : Fin 2 → Nat :=
  let c0_i32_3535 : BitVec 32 := 0#32
  ![v6750.toNat, 0]

def k0_chk229 (i : grid0.Coords) (v6750 : BitVec 32) : Prop :=
  (∀ (k0_h1 : k0_cond1 i = 1#1), ∀ a, (k0_off229 v6750) a + S1x8192.size a ≤ S8192x8192.size a)
theorem k0_off229_inb : ∀ (i : grid0.Coords) (v6750 : BitVec 32) (k0_hw229 : k0_chk229 i v6750), ∀ (k0_h1 : k0_cond1 i = 1#1), ∀ a, (k0_off229 v6750) a + S1x8192.size a ≤ S8192x8192.size a := fun i v6750 k0_hw229 k0_h1 => k0_hw229 k0_h1

def k0_off230 (v6756 : BitVec 32) : Fin 2 → Nat :=
  let c0_i32_3540 : BitVec 32 := 0#32
  ![v6756.toNat, 0]

def k0_chk230 (i : grid0.Coords) (v6756 : BitVec 32) : Prop :=
  (∀ (k0_h1 : k0_cond1 i = 1#1), ∀ a, (k0_off230 v6756) a + S1x8192.size a ≤ S8192x8192.size a)
theorem k0_off230_inb : ∀ (i : grid0.Coords) (v6756 : BitVec 32) (k0_hw230 : k0_chk230 i v6756), ∀ (k0_h1 : k0_cond1 i = 1#1), ∀ a, (k0_off230 v6756) a + S1x8192.size a ≤ S8192x8192.size a := fun i v6756 k0_hw230 k0_h1 => k0_hw230 k0_h1

def k0_off231 (v6762 : BitVec 32) : Fin 2 → Nat :=
  let c0_i32_3545 : BitVec 32 := 0#32
  ![v6762.toNat, 0]

def k0_chk231 (i : grid0.Coords) (v6762 : BitVec 32) : Prop :=
  (∀ (k0_h1 : k0_cond1 i = 1#1), ∀ a, (k0_off231 v6762) a + S1x8192.size a ≤ S8192x8192.size a)
theorem k0_off231_inb : ∀ (i : grid0.Coords) (v6762 : BitVec 32) (k0_hw231 : k0_chk231 i v6762), ∀ (k0_h1 : k0_cond1 i = 1#1), ∀ a, (k0_off231 v6762) a + S1x8192.size a ≤ S8192x8192.size a := fun i v6762 k0_hw231 k0_h1 => k0_hw231 k0_h1

def k0_off232 (v6768 : BitVec 32) : Fin 2 → Nat :=
  let c0_i32_3550 : BitVec 32 := 0#32
  ![v6768.toNat, 0]

def k0_chk232 (i : grid0.Coords) (v6768 : BitVec 32) : Prop :=
  (∀ (k0_h1 : k0_cond1 i = 1#1), ∀ a, (k0_off232 v6768) a + S1x8192.size a ≤ S8192x8192.size a)
theorem k0_off232_inb : ∀ (i : grid0.Coords) (v6768 : BitVec 32) (k0_hw232 : k0_chk232 i v6768), ∀ (k0_h1 : k0_cond1 i = 1#1), ∀ a, (k0_off232 v6768) a + S1x8192.size a ≤ S8192x8192.size a := fun i v6768 k0_hw232 k0_h1 => k0_hw232 k0_h1

def k0_off233 (v6774 : BitVec 32) : Fin 2 → Nat :=
  let c0_i32_3556 : BitVec 32 := 0#32
  ![v6774.toNat, 0]

def k0_chk233 (i : grid0.Coords) (v6774 : BitVec 32) : Prop :=
  (∀ (k0_h1 : k0_cond1 i = 1#1), ∀ a, (k0_off233 v6774) a + S1x8192.size a ≤ S8192x8192.size a)
theorem k0_off233_inb : ∀ (i : grid0.Coords) (v6774 : BitVec 32) (k0_hw233 : k0_chk233 i v6774), ∀ (k0_h1 : k0_cond1 i = 1#1), ∀ a, (k0_off233 v6774) a + S1x8192.size a ≤ S8192x8192.size a := fun i v6774 k0_hw233 k0_h1 => k0_hw233 k0_h1

def k0_off234 (v6780 : BitVec 32) : Fin 2 → Nat :=
  let c0_i32_3561 : BitVec 32 := 0#32
  ![v6780.toNat, 0]

def k0_chk234 (i : grid0.Coords) (v6780 : BitVec 32) : Prop :=
  (∀ (k0_h1 : k0_cond1 i = 1#1), ∀ a, (k0_off234 v6780) a + S1x8192.size a ≤ S8192x8192.size a)
theorem k0_off234_inb : ∀ (i : grid0.Coords) (v6780 : BitVec 32) (k0_hw234 : k0_chk234 i v6780), ∀ (k0_h1 : k0_cond1 i = 1#1), ∀ a, (k0_off234 v6780) a + S1x8192.size a ≤ S8192x8192.size a := fun i v6780 k0_hw234 k0_h1 => k0_hw234 k0_h1

def k0_off235 (v6786 : BitVec 32) : Fin 2 → Nat :=
  let c0_i32_3566 : BitVec 32 := 0#32
  ![v6786.toNat, 0]

def k0_chk235 (i : grid0.Coords) (v6786 : BitVec 32) : Prop :=
  (∀ (k0_h1 : k0_cond1 i = 1#1), ∀ a, (k0_off235 v6786) a + S1x8192.size a ≤ S8192x8192.size a)
theorem k0_off235_inb : ∀ (i : grid0.Coords) (v6786 : BitVec 32) (k0_hw235 : k0_chk235 i v6786), ∀ (k0_h1 : k0_cond1 i = 1#1), ∀ a, (k0_off235 v6786) a + S1x8192.size a ≤ S8192x8192.size a := fun i v6786 k0_hw235 k0_h1 => k0_hw235 k0_h1

def k0_off236 (v6792 : BitVec 32) : Fin 2 → Nat :=
  let c0_i32_3571 : BitVec 32 := 0#32
  ![v6792.toNat, 0]

def k0_chk236 (i : grid0.Coords) (v6792 : BitVec 32) : Prop :=
  (∀ (k0_h1 : k0_cond1 i = 1#1), ∀ a, (k0_off236 v6792) a + S1x8192.size a ≤ S8192x8192.size a)
theorem k0_off236_inb : ∀ (i : grid0.Coords) (v6792 : BitVec 32) (k0_hw236 : k0_chk236 i v6792), ∀ (k0_h1 : k0_cond1 i = 1#1), ∀ a, (k0_off236 v6792) a + S1x8192.size a ≤ S8192x8192.size a := fun i v6792 k0_hw236 k0_h1 => k0_hw236 k0_h1

def k0_off237 (v6798 : BitVec 32) : Fin 2 → Nat :=
  let c0_i32_3576 : BitVec 32 := 0#32
  ![v6798.toNat, 0]

def k0_chk237 (i : grid0.Coords) (v6798 : BitVec 32) : Prop :=
  (∀ (k0_h1 : k0_cond1 i = 1#1), ∀ a, (k0_off237 v6798) a + S1x8192.size a ≤ S8192x8192.size a)
theorem k0_off237_inb : ∀ (i : grid0.Coords) (v6798 : BitVec 32) (k0_hw237 : k0_chk237 i v6798), ∀ (k0_h1 : k0_cond1 i = 1#1), ∀ a, (k0_off237 v6798) a + S1x8192.size a ≤ S8192x8192.size a := fun i v6798 k0_hw237 k0_h1 => k0_hw237 k0_h1

def k0_off238 (v6804 : BitVec 32) : Fin 2 → Nat :=
  let c0_i32_3581 : BitVec 32 := 0#32
  ![v6804.toNat, 0]

def k0_chk238 (i : grid0.Coords) (v6804 : BitVec 32) : Prop :=
  (∀ (k0_h1 : k0_cond1 i = 1#1), ∀ a, (k0_off238 v6804) a + S1x8192.size a ≤ S8192x8192.size a)
theorem k0_off238_inb : ∀ (i : grid0.Coords) (v6804 : BitVec 32) (k0_hw238 : k0_chk238 i v6804), ∀ (k0_h1 : k0_cond1 i = 1#1), ∀ a, (k0_off238 v6804) a + S1x8192.size a ≤ S8192x8192.size a := fun i v6804 k0_hw238 k0_h1 => k0_hw238 k0_h1

def k0_off239 (v6810 : BitVec 32) : Fin 2 → Nat :=
  let c0_i32_3586 : BitVec 32 := 0#32
  ![v6810.toNat, 0]

def k0_chk239 (i : grid0.Coords) (v6810 : BitVec 32) : Prop :=
  (∀ (k0_h1 : k0_cond1 i = 1#1), ∀ a, (k0_off239 v6810) a + S1x8192.size a ≤ S8192x8192.size a)
theorem k0_off239_inb : ∀ (i : grid0.Coords) (v6810 : BitVec 32) (k0_hw239 : k0_chk239 i v6810), ∀ (k0_h1 : k0_cond1 i = 1#1), ∀ a, (k0_off239 v6810) a + S1x8192.size a ≤ S8192x8192.size a := fun i v6810 k0_hw239 k0_h1 => k0_hw239 k0_h1

def k0_off240 (v6816 : BitVec 32) : Fin 2 → Nat :=
  let c0_i32_3591 : BitVec 32 := 0#32
  ![v6816.toNat, 0]

def k0_chk240 (i : grid0.Coords) (v6816 : BitVec 32) : Prop :=
  (∀ (k0_h1 : k0_cond1 i = 1#1), ∀ a, (k0_off240 v6816) a + S1x8192.size a ≤ S8192x8192.size a)
theorem k0_off240_inb : ∀ (i : grid0.Coords) (v6816 : BitVec 32) (k0_hw240 : k0_chk240 i v6816), ∀ (k0_h1 : k0_cond1 i = 1#1), ∀ a, (k0_off240 v6816) a + S1x8192.size a ≤ S8192x8192.size a := fun i v6816 k0_hw240 k0_h1 => k0_hw240 k0_h1

def k0_off241 (v6822 : BitVec 32) : Fin 2 → Nat :=
  let c0_i32_3597 : BitVec 32 := 0#32
  ![v6822.toNat, 0]

def k0_chk241 (i : grid0.Coords) (v6822 : BitVec 32) : Prop :=
  (∀ (k0_h1 : k0_cond1 i = 1#1), ∀ a, (k0_off241 v6822) a + S1x8192.size a ≤ S8192x8192.size a)
theorem k0_off241_inb : ∀ (i : grid0.Coords) (v6822 : BitVec 32) (k0_hw241 : k0_chk241 i v6822), ∀ (k0_h1 : k0_cond1 i = 1#1), ∀ a, (k0_off241 v6822) a + S1x8192.size a ≤ S8192x8192.size a := fun i v6822 k0_hw241 k0_h1 => k0_hw241 k0_h1

def k0_off242 (v6828 : BitVec 32) : Fin 2 → Nat :=
  let c0_i32_3602 : BitVec 32 := 0#32
  ![v6828.toNat, 0]

def k0_chk242 (i : grid0.Coords) (v6828 : BitVec 32) : Prop :=
  (∀ (k0_h1 : k0_cond1 i = 1#1), ∀ a, (k0_off242 v6828) a + S1x8192.size a ≤ S8192x8192.size a)
theorem k0_off242_inb : ∀ (i : grid0.Coords) (v6828 : BitVec 32) (k0_hw242 : k0_chk242 i v6828), ∀ (k0_h1 : k0_cond1 i = 1#1), ∀ a, (k0_off242 v6828) a + S1x8192.size a ≤ S8192x8192.size a := fun i v6828 k0_hw242 k0_h1 => k0_hw242 k0_h1

def k0_off243 (v6834 : BitVec 32) : Fin 2 → Nat :=
  let c0_i32_3607 : BitVec 32 := 0#32
  ![v6834.toNat, 0]

def k0_chk243 (i : grid0.Coords) (v6834 : BitVec 32) : Prop :=
  (∀ (k0_h1 : k0_cond1 i = 1#1), ∀ a, (k0_off243 v6834) a + S1x8192.size a ≤ S8192x8192.size a)
theorem k0_off243_inb : ∀ (i : grid0.Coords) (v6834 : BitVec 32) (k0_hw243 : k0_chk243 i v6834), ∀ (k0_h1 : k0_cond1 i = 1#1), ∀ a, (k0_off243 v6834) a + S1x8192.size a ≤ S8192x8192.size a := fun i v6834 k0_hw243 k0_h1 => k0_hw243 k0_h1

def k0_off244 (v6840 : BitVec 32) : Fin 2 → Nat :=
  let c0_i32_3612 : BitVec 32 := 0#32
  ![v6840.toNat, 0]

def k0_chk244 (i : grid0.Coords) (v6840 : BitVec 32) : Prop :=
  (∀ (k0_h1 : k0_cond1 i = 1#1), ∀ a, (k0_off244 v6840) a + S1x8192.size a ≤ S8192x8192.size a)
theorem k0_off244_inb : ∀ (i : grid0.Coords) (v6840 : BitVec 32) (k0_hw244 : k0_chk244 i v6840), ∀ (k0_h1 : k0_cond1 i = 1#1), ∀ a, (k0_off244 v6840) a + S1x8192.size a ≤ S8192x8192.size a := fun i v6840 k0_hw244 k0_h1 => k0_hw244 k0_h1

def k0_off245 (v6846 : BitVec 32) : Fin 2 → Nat :=
  let c0_i32_3617 : BitVec 32 := 0#32
  ![v6846.toNat, 0]

def k0_chk245 (i : grid0.Coords) (v6846 : BitVec 32) : Prop :=
  (∀ (k0_h1 : k0_cond1 i = 1#1), ∀ a, (k0_off245 v6846) a + S1x8192.size a ≤ S8192x8192.size a)
theorem k0_off245_inb : ∀ (i : grid0.Coords) (v6846 : BitVec 32) (k0_hw245 : k0_chk245 i v6846), ∀ (k0_h1 : k0_cond1 i = 1#1), ∀ a, (k0_off245 v6846) a + S1x8192.size a ≤ S8192x8192.size a := fun i v6846 k0_hw245 k0_h1 => k0_hw245 k0_h1

def k0_off246 (v6852 : BitVec 32) : Fin 2 → Nat :=
  let c0_i32_3622 : BitVec 32 := 0#32
  ![v6852.toNat, 0]

def k0_chk246 (i : grid0.Coords) (v6852 : BitVec 32) : Prop :=
  (∀ (k0_h1 : k0_cond1 i = 1#1), ∀ a, (k0_off246 v6852) a + S1x8192.size a ≤ S8192x8192.size a)
theorem k0_off246_inb : ∀ (i : grid0.Coords) (v6852 : BitVec 32) (k0_hw246 : k0_chk246 i v6852), ∀ (k0_h1 : k0_cond1 i = 1#1), ∀ a, (k0_off246 v6852) a + S1x8192.size a ≤ S8192x8192.size a := fun i v6852 k0_hw246 k0_h1 => k0_hw246 k0_h1

def k0_off247 (v6858 : BitVec 32) : Fin 2 → Nat :=
  let c0_i32_3627 : BitVec 32 := 0#32
  ![v6858.toNat, 0]

def k0_chk247 (i : grid0.Coords) (v6858 : BitVec 32) : Prop :=
  (∀ (k0_h1 : k0_cond1 i = 1#1), ∀ a, (k0_off247 v6858) a + S1x8192.size a ≤ S8192x8192.size a)
theorem k0_off247_inb : ∀ (i : grid0.Coords) (v6858 : BitVec 32) (k0_hw247 : k0_chk247 i v6858), ∀ (k0_h1 : k0_cond1 i = 1#1), ∀ a, (k0_off247 v6858) a + S1x8192.size a ≤ S8192x8192.size a := fun i v6858 k0_hw247 k0_h1 => k0_hw247 k0_h1

def k0_off248 (v6864 : BitVec 32) : Fin 2 → Nat :=
  let c0_i32_3632 : BitVec 32 := 0#32
  ![v6864.toNat, 0]

def k0_chk248 (i : grid0.Coords) (v6864 : BitVec 32) : Prop :=
  (∀ (k0_h1 : k0_cond1 i = 1#1), ∀ a, (k0_off248 v6864) a + S1x8192.size a ≤ S8192x8192.size a)
theorem k0_off248_inb : ∀ (i : grid0.Coords) (v6864 : BitVec 32) (k0_hw248 : k0_chk248 i v6864), ∀ (k0_h1 : k0_cond1 i = 1#1), ∀ a, (k0_off248 v6864) a + S1x8192.size a ≤ S8192x8192.size a := fun i v6864 k0_hw248 k0_h1 => k0_hw248 k0_h1

def k0_off249 (v6870 : BitVec 32) : Fin 2 → Nat :=
  let c0_i32_3638 : BitVec 32 := 0#32
  ![v6870.toNat, 0]

def k0_chk249 (i : grid0.Coords) (v6870 : BitVec 32) : Prop :=
  (∀ (k0_h1 : k0_cond1 i = 1#1), ∀ a, (k0_off249 v6870) a + S1x8192.size a ≤ S8192x8192.size a)
theorem k0_off249_inb : ∀ (i : grid0.Coords) (v6870 : BitVec 32) (k0_hw249 : k0_chk249 i v6870), ∀ (k0_h1 : k0_cond1 i = 1#1), ∀ a, (k0_off249 v6870) a + S1x8192.size a ≤ S8192x8192.size a := fun i v6870 k0_hw249 k0_h1 => k0_hw249 k0_h1

def k0_off250 (v6876 : BitVec 32) : Fin 2 → Nat :=
  let c0_i32_3643 : BitVec 32 := 0#32
  ![v6876.toNat, 0]

def k0_chk250 (i : grid0.Coords) (v6876 : BitVec 32) : Prop :=
  (∀ (k0_h1 : k0_cond1 i = 1#1), ∀ a, (k0_off250 v6876) a + S1x8192.size a ≤ S8192x8192.size a)
theorem k0_off250_inb : ∀ (i : grid0.Coords) (v6876 : BitVec 32) (k0_hw250 : k0_chk250 i v6876), ∀ (k0_h1 : k0_cond1 i = 1#1), ∀ a, (k0_off250 v6876) a + S1x8192.size a ≤ S8192x8192.size a := fun i v6876 k0_hw250 k0_h1 => k0_hw250 k0_h1

def k0_off251 (v6882 : BitVec 32) : Fin 2 → Nat :=
  let c0_i32_3648 : BitVec 32 := 0#32
  ![v6882.toNat, 0]

def k0_chk251 (i : grid0.Coords) (v6882 : BitVec 32) : Prop :=
  (∀ (k0_h1 : k0_cond1 i = 1#1), ∀ a, (k0_off251 v6882) a + S1x8192.size a ≤ S8192x8192.size a)
theorem k0_off251_inb : ∀ (i : grid0.Coords) (v6882 : BitVec 32) (k0_hw251 : k0_chk251 i v6882), ∀ (k0_h1 : k0_cond1 i = 1#1), ∀ a, (k0_off251 v6882) a + S1x8192.size a ≤ S8192x8192.size a := fun i v6882 k0_hw251 k0_h1 => k0_hw251 k0_h1

def k0_off252 (v6888 : BitVec 32) : Fin 2 → Nat :=
  let c0_i32_3653 : BitVec 32 := 0#32
  ![v6888.toNat, 0]

def k0_chk252 (i : grid0.Coords) (v6888 : BitVec 32) : Prop :=
  (∀ (k0_h1 : k0_cond1 i = 1#1), ∀ a, (k0_off252 v6888) a + S1x8192.size a ≤ S8192x8192.size a)
theorem k0_off252_inb : ∀ (i : grid0.Coords) (v6888 : BitVec 32) (k0_hw252 : k0_chk252 i v6888), ∀ (k0_h1 : k0_cond1 i = 1#1), ∀ a, (k0_off252 v6888) a + S1x8192.size a ≤ S8192x8192.size a := fun i v6888 k0_hw252 k0_h1 => k0_hw252 k0_h1

def k0_off253 (v6894 : BitVec 32) : Fin 2 → Nat :=
  let c0_i32_3658 : BitVec 32 := 0#32
  ![v6894.toNat, 0]

def k0_chk253 (i : grid0.Coords) (v6894 : BitVec 32) : Prop :=
  (∀ (k0_h1 : k0_cond1 i = 1#1), ∀ a, (k0_off253 v6894) a + S1x8192.size a ≤ S8192x8192.size a)
theorem k0_off253_inb : ∀ (i : grid0.Coords) (v6894 : BitVec 32) (k0_hw253 : k0_chk253 i v6894), ∀ (k0_h1 : k0_cond1 i = 1#1), ∀ a, (k0_off253 v6894) a + S1x8192.size a ≤ S8192x8192.size a := fun i v6894 k0_hw253 k0_h1 => k0_hw253 k0_h1

def k0_off254 (v6900 : BitVec 32) : Fin 2 → Nat :=
  let c0_i32_3663 : BitVec 32 := 0#32
  ![v6900.toNat, 0]

def k0_chk254 (i : grid0.Coords) (v6900 : BitVec 32) : Prop :=
  (∀ (k0_h1 : k0_cond1 i = 1#1), ∀ a, (k0_off254 v6900) a + S1x8192.size a ≤ S8192x8192.size a)
theorem k0_off254_inb : ∀ (i : grid0.Coords) (v6900 : BitVec 32) (k0_hw254 : k0_chk254 i v6900), ∀ (k0_h1 : k0_cond1 i = 1#1), ∀ a, (k0_off254 v6900) a + S1x8192.size a ≤ S8192x8192.size a := fun i v6900 k0_hw254 k0_h1 => k0_hw254 k0_h1

def k0_off255 (v6906 : BitVec 32) : Fin 2 → Nat :=
  let c0_i32_3668 : BitVec 32 := 0#32
  ![v6906.toNat, 0]

def k0_chk255 (i : grid0.Coords) (v6906 : BitVec 32) : Prop :=
  (∀ (k0_h1 : k0_cond1 i = 1#1), ∀ a, (k0_off255 v6906) a + S1x8192.size a ≤ S8192x8192.size a)
theorem k0_off255_inb : ∀ (i : grid0.Coords) (v6906 : BitVec 32) (k0_hw255 : k0_chk255 i v6906), ∀ (k0_h1 : k0_cond1 i = 1#1), ∀ a, (k0_off255 v6906) a + S1x8192.size a ≤ S8192x8192.size a := fun i v6906 k0_hw255 k0_h1 => k0_hw255 k0_h1

def k0_off256 (v6912 : BitVec 32) : Fin 2 → Nat :=
  let c0_i32_3673 : BitVec 32 := 0#32
  ![v6912.toNat, 0]

def k0_chk256 (i : grid0.Coords) (v6912 : BitVec 32) : Prop :=
  (∀ (k0_h1 : k0_cond1 i = 1#1), ∀ a, (k0_off256 v6912) a + S1x8192.size a ≤ S8192x8192.size a)
theorem k0_off256_inb : ∀ (i : grid0.Coords) (v6912 : BitVec 32) (k0_hw256 : k0_chk256 i v6912), ∀ (k0_h1 : k0_cond1 i = 1#1), ∀ a, (k0_off256 v6912) a + S1x8192.size a ≤ S8192x8192.size a := fun i v6912 k0_hw256 k0_h1 => k0_hw256 k0_h1

def k0_off257 (v6918 : BitVec 32) : Fin 2 → Nat :=
  let c0_i32_3678 : BitVec 32 := 0#32
  ![v6918.toNat, 0]

def k0_chk257 (i : grid0.Coords) (v6918 : BitVec 32) : Prop :=
  (∀ (k0_h1 : k0_cond1 i = 1#1), ∀ a, (k0_off257 v6918) a + S1x8192.size a ≤ S8192x8192.size a)
theorem k0_off257_inb : ∀ (i : grid0.Coords) (v6918 : BitVec 32) (k0_hw257 : k0_chk257 i v6918), ∀ (k0_h1 : k0_cond1 i = 1#1), ∀ a, (k0_off257 v6918) a + S1x8192.size a ≤ S8192x8192.size a := fun i v6918 k0_hw257 k0_h1 => k0_hw257 k0_h1

def k0_off258 (v6924 : BitVec 32) : Fin 2 → Nat :=
  let c0_i32_3683 : BitVec 32 := 0#32
  ![v6924.toNat, 0]

def k0_chk258 (i : grid0.Coords) (v6924 : BitVec 32) : Prop :=
  (∀ (k0_h1 : k0_cond1 i = 1#1), ∀ a, (k0_off258 v6924) a + S1x8192.size a ≤ S8192x8192.size a)
theorem k0_off258_inb : ∀ (i : grid0.Coords) (v6924 : BitVec 32) (k0_hw258 : k0_chk258 i v6924), ∀ (k0_h1 : k0_cond1 i = 1#1), ∀ a, (k0_off258 v6924) a + S1x8192.size a ≤ S8192x8192.size a := fun i v6924 k0_hw258 k0_h1 => k0_hw258 k0_h1

def k0_off259 (v6930 : BitVec 32) : Fin 2 → Nat :=
  let c0_i32_3688 : BitVec 32 := 0#32
  ![v6930.toNat, 0]

def k0_chk259 (i : grid0.Coords) (v6930 : BitVec 32) : Prop :=
  (∀ (k0_h1 : k0_cond1 i = 1#1), ∀ a, (k0_off259 v6930) a + S1x8192.size a ≤ S8192x8192.size a)
theorem k0_off259_inb : ∀ (i : grid0.Coords) (v6930 : BitVec 32) (k0_hw259 : k0_chk259 i v6930), ∀ (k0_h1 : k0_cond1 i = 1#1), ∀ a, (k0_off259 v6930) a + S1x8192.size a ≤ S8192x8192.size a := fun i v6930 k0_hw259 k0_h1 => k0_hw259 k0_h1

def k0_off260 (v6936 : BitVec 32) : Fin 2 → Nat :=
  let c0_i32_3693 : BitVec 32 := 0#32
  ![v6936.toNat, 0]

def k0_chk260 (i : grid0.Coords) (v6936 : BitVec 32) : Prop :=
  (∀ (k0_h1 : k0_cond1 i = 1#1), ∀ a, (k0_off260 v6936) a + S1x8192.size a ≤ S8192x8192.size a)
theorem k0_off260_inb : ∀ (i : grid0.Coords) (v6936 : BitVec 32) (k0_hw260 : k0_chk260 i v6936), ∀ (k0_h1 : k0_cond1 i = 1#1), ∀ a, (k0_off260 v6936) a + S1x8192.size a ≤ S8192x8192.size a := fun i v6936 k0_hw260 k0_h1 => k0_hw260 k0_h1

def k0_off261 (v6942 : BitVec 32) : Fin 2 → Nat :=
  let c0_i32_3698 : BitVec 32 := 0#32
  ![v6942.toNat, 0]

def k0_chk261 (i : grid0.Coords) (v6942 : BitVec 32) : Prop :=
  (∀ (k0_h1 : k0_cond1 i = 1#1), ∀ a, (k0_off261 v6942) a + S1x8192.size a ≤ S8192x8192.size a)
theorem k0_off261_inb : ∀ (i : grid0.Coords) (v6942 : BitVec 32) (k0_hw261 : k0_chk261 i v6942), ∀ (k0_h1 : k0_cond1 i = 1#1), ∀ a, (k0_off261 v6942) a + S1x8192.size a ≤ S8192x8192.size a := fun i v6942 k0_hw261 k0_h1 => k0_hw261 k0_h1

def k0_off262 (v6948 : BitVec 32) : Fin 2 → Nat :=
  let c0_i32_3703 : BitVec 32 := 0#32
  ![v6948.toNat, 0]

def k0_chk262 (i : grid0.Coords) (v6948 : BitVec 32) : Prop :=
  (∀ (k0_h1 : k0_cond1 i = 1#1), ∀ a, (k0_off262 v6948) a + S1x8192.size a ≤ S8192x8192.size a)
theorem k0_off262_inb : ∀ (i : grid0.Coords) (v6948 : BitVec 32) (k0_hw262 : k0_chk262 i v6948), ∀ (k0_h1 : k0_cond1 i = 1#1), ∀ a, (k0_off262 v6948) a + S1x8192.size a ≤ S8192x8192.size a := fun i v6948 k0_hw262 k0_h1 => k0_hw262 k0_h1

def k0_off263 (v6954 : BitVec 32) : Fin 2 → Nat :=
  let c0_i32_3708 : BitVec 32 := 0#32
  ![v6954.toNat, 0]

def k0_chk263 (i : grid0.Coords) (v6954 : BitVec 32) : Prop :=
  (∀ (k0_h1 : k0_cond1 i = 1#1), ∀ a, (k0_off263 v6954) a + S1x8192.size a ≤ S8192x8192.size a)
theorem k0_off263_inb : ∀ (i : grid0.Coords) (v6954 : BitVec 32) (k0_hw263 : k0_chk263 i v6954), ∀ (k0_h1 : k0_cond1 i = 1#1), ∀ a, (k0_off263 v6954) a + S1x8192.size a ≤ S8192x8192.size a := fun i v6954 k0_hw263 k0_h1 => k0_hw263 k0_h1

def k0_off264 (v6960 : BitVec 32) : Fin 2 → Nat :=
  let c0_i32_3713 : BitVec 32 := 0#32
  ![v6960.toNat, 0]

def k0_chk264 (i : grid0.Coords) (v6960 : BitVec 32) : Prop :=
  (∀ (k0_h1 : k0_cond1 i = 1#1), ∀ a, (k0_off264 v6960) a + S1x8192.size a ≤ S8192x8192.size a)
theorem k0_off264_inb : ∀ (i : grid0.Coords) (v6960 : BitVec 32) (k0_hw264 : k0_chk264 i v6960), ∀ (k0_h1 : k0_cond1 i = 1#1), ∀ a, (k0_off264 v6960) a + S1x8192.size a ≤ S8192x8192.size a := fun i v6960 k0_hw264 k0_h1 => k0_hw264 k0_h1

def k0_off265 (v6966 : BitVec 32) : Fin 2 → Nat :=
  let c0_i32_3717 : BitVec 32 := 0#32
  ![v6966.toNat, 0]

def k0_chk265 (i : grid0.Coords) (v6966 : BitVec 32) : Prop :=
  (∀ (k0_h1 : k0_cond1 i = 1#1), ∀ a, (k0_off265 v6966) a + S1x8192.size a ≤ S8192x8192.size a)
theorem k0_off265_inb : ∀ (i : grid0.Coords) (v6966 : BitVec 32) (k0_hw265 : k0_chk265 i v6966), ∀ (k0_h1 : k0_cond1 i = 1#1), ∀ a, (k0_off265 v6966) a + S1x8192.size a ≤ S8192x8192.size a := fun i v6966 k0_hw265 k0_h1 => k0_hw265 k0_h1

def k0_off266 (v6972 : BitVec 32) : Fin 2 → Nat :=
  let c0_i32_3722 : BitVec 32 := 0#32
  ![v6972.toNat, 0]

def k0_chk266 (i : grid0.Coords) (v6972 : BitVec 32) : Prop :=
  (∀ (k0_h1 : k0_cond1 i = 1#1), ∀ a, (k0_off266 v6972) a + S1x8192.size a ≤ S8192x8192.size a)
theorem k0_off266_inb : ∀ (i : grid0.Coords) (v6972 : BitVec 32) (k0_hw266 : k0_chk266 i v6972), ∀ (k0_h1 : k0_cond1 i = 1#1), ∀ a, (k0_off266 v6972) a + S1x8192.size a ≤ S8192x8192.size a := fun i v6972 k0_hw266 k0_h1 => k0_hw266 k0_h1

def k0_off267 (v6978 : BitVec 32) : Fin 2 → Nat :=
  let c0_i32_3727 : BitVec 32 := 0#32
  ![v6978.toNat, 0]

def k0_chk267 (i : grid0.Coords) (v6978 : BitVec 32) : Prop :=
  (∀ (k0_h1 : k0_cond1 i = 1#1), ∀ a, (k0_off267 v6978) a + S1x8192.size a ≤ S8192x8192.size a)
theorem k0_off267_inb : ∀ (i : grid0.Coords) (v6978 : BitVec 32) (k0_hw267 : k0_chk267 i v6978), ∀ (k0_h1 : k0_cond1 i = 1#1), ∀ a, (k0_off267 v6978) a + S1x8192.size a ≤ S8192x8192.size a := fun i v6978 k0_hw267 k0_h1 => k0_hw267 k0_h1

def k0_off268 (v6984 : BitVec 32) : Fin 2 → Nat :=
  let c0_i32_3732 : BitVec 32 := 0#32
  ![v6984.toNat, 0]

def k0_chk268 (i : grid0.Coords) (v6984 : BitVec 32) : Prop :=
  (∀ (k0_h1 : k0_cond1 i = 1#1), ∀ a, (k0_off268 v6984) a + S1x8192.size a ≤ S8192x8192.size a)
theorem k0_off268_inb : ∀ (i : grid0.Coords) (v6984 : BitVec 32) (k0_hw268 : k0_chk268 i v6984), ∀ (k0_h1 : k0_cond1 i = 1#1), ∀ a, (k0_off268 v6984) a + S1x8192.size a ≤ S8192x8192.size a := fun i v6984 k0_hw268 k0_h1 => k0_hw268 k0_h1

def k0_off269 (v6990 : BitVec 32) : Fin 2 → Nat :=
  let c0_i32_3737 : BitVec 32 := 0#32
  ![v6990.toNat, 0]

def k0_chk269 (i : grid0.Coords) (v6990 : BitVec 32) : Prop :=
  (∀ (k0_h1 : k0_cond1 i = 1#1), ∀ a, (k0_off269 v6990) a + S1x8192.size a ≤ S8192x8192.size a)
theorem k0_off269_inb : ∀ (i : grid0.Coords) (v6990 : BitVec 32) (k0_hw269 : k0_chk269 i v6990), ∀ (k0_h1 : k0_cond1 i = 1#1), ∀ a, (k0_off269 v6990) a + S1x8192.size a ≤ S8192x8192.size a := fun i v6990 k0_hw269 k0_h1 => k0_hw269 k0_h1

def k0_off270 (v6996 : BitVec 32) : Fin 2 → Nat :=
  let c0_i32_3742 : BitVec 32 := 0#32
  ![v6996.toNat, 0]

def k0_chk270 (i : grid0.Coords) (v6996 : BitVec 32) : Prop :=
  (∀ (k0_h1 : k0_cond1 i = 1#1), ∀ a, (k0_off270 v6996) a + S1x8192.size a ≤ S8192x8192.size a)
theorem k0_off270_inb : ∀ (i : grid0.Coords) (v6996 : BitVec 32) (k0_hw270 : k0_chk270 i v6996), ∀ (k0_h1 : k0_cond1 i = 1#1), ∀ a, (k0_off270 v6996) a + S1x8192.size a ≤ S8192x8192.size a := fun i v6996 k0_hw270 k0_h1 => k0_hw270 k0_h1

def k0_off271 (v7002 : BitVec 32) : Fin 2 → Nat :=
  let c0_i32_3747 : BitVec 32 := 0#32
  ![v7002.toNat, 0]

def k0_chk271 (i : grid0.Coords) (v7002 : BitVec 32) : Prop :=
  (∀ (k0_h1 : k0_cond1 i = 1#1), ∀ a, (k0_off271 v7002) a + S1x8192.size a ≤ S8192x8192.size a)
theorem k0_off271_inb : ∀ (i : grid0.Coords) (v7002 : BitVec 32) (k0_hw271 : k0_chk271 i v7002), ∀ (k0_h1 : k0_cond1 i = 1#1), ∀ a, (k0_off271 v7002) a + S1x8192.size a ≤ S8192x8192.size a := fun i v7002 k0_hw271 k0_h1 => k0_hw271 k0_h1

def k0_off272 (v7008 : BitVec 32) : Fin 2 → Nat :=
  let c0_i32_3752 : BitVec 32 := 0#32
  ![v7008.toNat, 0]

def k0_chk272 (i : grid0.Coords) (v7008 : BitVec 32) : Prop :=
  (∀ (k0_h1 : k0_cond1 i = 1#1), ∀ a, (k0_off272 v7008) a + S1x8192.size a ≤ S8192x8192.size a)
theorem k0_off272_inb : ∀ (i : grid0.Coords) (v7008 : BitVec 32) (k0_hw272 : k0_chk272 i v7008), ∀ (k0_h1 : k0_cond1 i = 1#1), ∀ a, (k0_off272 v7008) a + S1x8192.size a ≤ S8192x8192.size a := fun i v7008 k0_hw272 k0_h1 => k0_hw272 k0_h1

def k0_off273 (v7014 : BitVec 32) : Fin 2 → Nat :=
  let c0_i32_3756 : BitVec 32 := 0#32
  ![v7014.toNat, 0]

def k0_chk273 (i : grid0.Coords) (v7014 : BitVec 32) : Prop :=
  (∀ (k0_h1 : k0_cond1 i = 1#1), ∀ a, (k0_off273 v7014) a + S1x8192.size a ≤ S8192x8192.size a)
theorem k0_off273_inb : ∀ (i : grid0.Coords) (v7014 : BitVec 32) (k0_hw273 : k0_chk273 i v7014), ∀ (k0_h1 : k0_cond1 i = 1#1), ∀ a, (k0_off273 v7014) a + S1x8192.size a ≤ S8192x8192.size a := fun i v7014 k0_hw273 k0_h1 => k0_hw273 k0_h1

def k0_off274 (v7020 : BitVec 32) : Fin 2 → Nat :=
  let c0_i32_3761 : BitVec 32 := 0#32
  ![v7020.toNat, 0]

def k0_chk274 (i : grid0.Coords) (v7020 : BitVec 32) : Prop :=
  (∀ (k0_h1 : k0_cond1 i = 1#1), ∀ a, (k0_off274 v7020) a + S1x8192.size a ≤ S8192x8192.size a)
theorem k0_off274_inb : ∀ (i : grid0.Coords) (v7020 : BitVec 32) (k0_hw274 : k0_chk274 i v7020), ∀ (k0_h1 : k0_cond1 i = 1#1), ∀ a, (k0_off274 v7020) a + S1x8192.size a ≤ S8192x8192.size a := fun i v7020 k0_hw274 k0_h1 => k0_hw274 k0_h1

def k0_off275 (v7026 : BitVec 32) : Fin 2 → Nat :=
  let c0_i32_3766 : BitVec 32 := 0#32
  ![v7026.toNat, 0]

def k0_chk275 (i : grid0.Coords) (v7026 : BitVec 32) : Prop :=
  (∀ (k0_h1 : k0_cond1 i = 1#1), ∀ a, (k0_off275 v7026) a + S1x8192.size a ≤ S8192x8192.size a)
theorem k0_off275_inb : ∀ (i : grid0.Coords) (v7026 : BitVec 32) (k0_hw275 : k0_chk275 i v7026), ∀ (k0_h1 : k0_cond1 i = 1#1), ∀ a, (k0_off275 v7026) a + S1x8192.size a ≤ S8192x8192.size a := fun i v7026 k0_hw275 k0_h1 => k0_hw275 k0_h1

def k0_off276 (v7032 : BitVec 32) : Fin 2 → Nat :=
  let c0_i32_3771 : BitVec 32 := 0#32
  ![v7032.toNat, 0]

def k0_chk276 (i : grid0.Coords) (v7032 : BitVec 32) : Prop :=
  (∀ (k0_h1 : k0_cond1 i = 1#1), ∀ a, (k0_off276 v7032) a + S1x8192.size a ≤ S8192x8192.size a)
theorem k0_off276_inb : ∀ (i : grid0.Coords) (v7032 : BitVec 32) (k0_hw276 : k0_chk276 i v7032), ∀ (k0_h1 : k0_cond1 i = 1#1), ∀ a, (k0_off276 v7032) a + S1x8192.size a ≤ S8192x8192.size a := fun i v7032 k0_hw276 k0_h1 => k0_hw276 k0_h1

def k0_off277 (v7038 : BitVec 32) : Fin 2 → Nat :=
  let c0_i32_3776 : BitVec 32 := 0#32
  ![v7038.toNat, 0]

def k0_chk277 (i : grid0.Coords) (v7038 : BitVec 32) : Prop :=
  (∀ (k0_h1 : k0_cond1 i = 1#1), ∀ a, (k0_off277 v7038) a + S1x8192.size a ≤ S8192x8192.size a)
theorem k0_off277_inb : ∀ (i : grid0.Coords) (v7038 : BitVec 32) (k0_hw277 : k0_chk277 i v7038), ∀ (k0_h1 : k0_cond1 i = 1#1), ∀ a, (k0_off277 v7038) a + S1x8192.size a ≤ S8192x8192.size a := fun i v7038 k0_hw277 k0_h1 => k0_hw277 k0_h1

def k0_off278 (v7044 : BitVec 32) : Fin 2 → Nat :=
  let c0_i32_3781 : BitVec 32 := 0#32
  ![v7044.toNat, 0]

def k0_chk278 (i : grid0.Coords) (v7044 : BitVec 32) : Prop :=
  (∀ (k0_h1 : k0_cond1 i = 1#1), ∀ a, (k0_off278 v7044) a + S1x8192.size a ≤ S8192x8192.size a)
theorem k0_off278_inb : ∀ (i : grid0.Coords) (v7044 : BitVec 32) (k0_hw278 : k0_chk278 i v7044), ∀ (k0_h1 : k0_cond1 i = 1#1), ∀ a, (k0_off278 v7044) a + S1x8192.size a ≤ S8192x8192.size a := fun i v7044 k0_hw278 k0_h1 => k0_hw278 k0_h1

def k0_off279 (v7050 : BitVec 32) : Fin 2 → Nat :=
  let c0_i32_3786 : BitVec 32 := 0#32
  ![v7050.toNat, 0]

def k0_chk279 (i : grid0.Coords) (v7050 : BitVec 32) : Prop :=
  (∀ (k0_h1 : k0_cond1 i = 1#1), ∀ a, (k0_off279 v7050) a + S1x8192.size a ≤ S8192x8192.size a)
theorem k0_off279_inb : ∀ (i : grid0.Coords) (v7050 : BitVec 32) (k0_hw279 : k0_chk279 i v7050), ∀ (k0_h1 : k0_cond1 i = 1#1), ∀ a, (k0_off279 v7050) a + S1x8192.size a ≤ S8192x8192.size a := fun i v7050 k0_hw279 k0_h1 => k0_hw279 k0_h1

def k0_off280 (v7056 : BitVec 32) : Fin 2 → Nat :=
  let c0_i32_3791 : BitVec 32 := 0#32
  ![v7056.toNat, 0]

def k0_chk280 (i : grid0.Coords) (v7056 : BitVec 32) : Prop :=
  (∀ (k0_h1 : k0_cond1 i = 1#1), ∀ a, (k0_off280 v7056) a + S1x8192.size a ≤ S8192x8192.size a)
theorem k0_off280_inb : ∀ (i : grid0.Coords) (v7056 : BitVec 32) (k0_hw280 : k0_chk280 i v7056), ∀ (k0_h1 : k0_cond1 i = 1#1), ∀ a, (k0_off280 v7056) a + S1x8192.size a ≤ S8192x8192.size a := fun i v7056 k0_hw280 k0_h1 => k0_hw280 k0_h1

def k0_off281 (v7062 : BitVec 32) : Fin 2 → Nat :=
  let c0_i32_3795 : BitVec 32 := 0#32
  ![v7062.toNat, 0]

def k0_chk281 (i : grid0.Coords) (v7062 : BitVec 32) : Prop :=
  (∀ (k0_h1 : k0_cond1 i = 1#1), ∀ a, (k0_off281 v7062) a + S1x8192.size a ≤ S8192x8192.size a)
theorem k0_off281_inb : ∀ (i : grid0.Coords) (v7062 : BitVec 32) (k0_hw281 : k0_chk281 i v7062), ∀ (k0_h1 : k0_cond1 i = 1#1), ∀ a, (k0_off281 v7062) a + S1x8192.size a ≤ S8192x8192.size a := fun i v7062 k0_hw281 k0_h1 => k0_hw281 k0_h1

def k0_off282 (v7068 : BitVec 32) : Fin 2 → Nat :=
  let c0_i32_3800 : BitVec 32 := 0#32
  ![v7068.toNat, 0]

def k0_chk282 (i : grid0.Coords) (v7068 : BitVec 32) : Prop :=
  (∀ (k0_h1 : k0_cond1 i = 1#1), ∀ a, (k0_off282 v7068) a + S1x8192.size a ≤ S8192x8192.size a)
theorem k0_off282_inb : ∀ (i : grid0.Coords) (v7068 : BitVec 32) (k0_hw282 : k0_chk282 i v7068), ∀ (k0_h1 : k0_cond1 i = 1#1), ∀ a, (k0_off282 v7068) a + S1x8192.size a ≤ S8192x8192.size a := fun i v7068 k0_hw282 k0_h1 => k0_hw282 k0_h1

def k0_off283 (v7074 : BitVec 32) : Fin 2 → Nat :=
  let c0_i32_3805 : BitVec 32 := 0#32
  ![v7074.toNat, 0]

def k0_chk283 (i : grid0.Coords) (v7074 : BitVec 32) : Prop :=
  (∀ (k0_h1 : k0_cond1 i = 1#1), ∀ a, (k0_off283 v7074) a + S1x8192.size a ≤ S8192x8192.size a)
theorem k0_off283_inb : ∀ (i : grid0.Coords) (v7074 : BitVec 32) (k0_hw283 : k0_chk283 i v7074), ∀ (k0_h1 : k0_cond1 i = 1#1), ∀ a, (k0_off283 v7074) a + S1x8192.size a ≤ S8192x8192.size a := fun i v7074 k0_hw283 k0_h1 => k0_hw283 k0_h1

def k0_off284 (v7080 : BitVec 32) : Fin 2 → Nat :=
  let c0_i32_3810 : BitVec 32 := 0#32
  ![v7080.toNat, 0]

def k0_chk284 (i : grid0.Coords) (v7080 : BitVec 32) : Prop :=
  (∀ (k0_h1 : k0_cond1 i = 1#1), ∀ a, (k0_off284 v7080) a + S1x8192.size a ≤ S8192x8192.size a)
theorem k0_off284_inb : ∀ (i : grid0.Coords) (v7080 : BitVec 32) (k0_hw284 : k0_chk284 i v7080), ∀ (k0_h1 : k0_cond1 i = 1#1), ∀ a, (k0_off284 v7080) a + S1x8192.size a ≤ S8192x8192.size a := fun i v7080 k0_hw284 k0_h1 => k0_hw284 k0_h1

def k0_off285 (v7086 : BitVec 32) : Fin 2 → Nat :=
  let c0_i32_3815 : BitVec 32 := 0#32
  ![v7086.toNat, 0]

def k0_chk285 (i : grid0.Coords) (v7086 : BitVec 32) : Prop :=
  (∀ (k0_h1 : k0_cond1 i = 1#1), ∀ a, (k0_off285 v7086) a + S1x8192.size a ≤ S8192x8192.size a)
theorem k0_off285_inb : ∀ (i : grid0.Coords) (v7086 : BitVec 32) (k0_hw285 : k0_chk285 i v7086), ∀ (k0_h1 : k0_cond1 i = 1#1), ∀ a, (k0_off285 v7086) a + S1x8192.size a ≤ S8192x8192.size a := fun i v7086 k0_hw285 k0_h1 => k0_hw285 k0_h1

def k0_off286 (v7092 : BitVec 32) : Fin 2 → Nat :=
  let c0_i32_3820 : BitVec 32 := 0#32
  ![v7092.toNat, 0]

def k0_chk286 (i : grid0.Coords) (v7092 : BitVec 32) : Prop :=
  (∀ (k0_h1 : k0_cond1 i = 1#1), ∀ a, (k0_off286 v7092) a + S1x8192.size a ≤ S8192x8192.size a)
theorem k0_off286_inb : ∀ (i : grid0.Coords) (v7092 : BitVec 32) (k0_hw286 : k0_chk286 i v7092), ∀ (k0_h1 : k0_cond1 i = 1#1), ∀ a, (k0_off286 v7092) a + S1x8192.size a ≤ S8192x8192.size a := fun i v7092 k0_hw286 k0_h1 => k0_hw286 k0_h1

def k0_off287 (v7098 : BitVec 32) : Fin 2 → Nat :=
  let c0_i32_3825 : BitVec 32 := 0#32
  ![v7098.toNat, 0]

def k0_chk287 (i : grid0.Coords) (v7098 : BitVec 32) : Prop :=
  (∀ (k0_h1 : k0_cond1 i = 1#1), ∀ a, (k0_off287 v7098) a + S1x8192.size a ≤ S8192x8192.size a)
theorem k0_off287_inb : ∀ (i : grid0.Coords) (v7098 : BitVec 32) (k0_hw287 : k0_chk287 i v7098), ∀ (k0_h1 : k0_cond1 i = 1#1), ∀ a, (k0_off287 v7098) a + S1x8192.size a ≤ S8192x8192.size a := fun i v7098 k0_hw287 k0_h1 => k0_hw287 k0_h1

def k0_off288 (v7104 : BitVec 32) : Fin 2 → Nat :=
  let c0_i32_3830 : BitVec 32 := 0#32
  ![v7104.toNat, 0]

def k0_chk288 (i : grid0.Coords) (v7104 : BitVec 32) : Prop :=
  (∀ (k0_h1 : k0_cond1 i = 1#1), ∀ a, (k0_off288 v7104) a + S1x8192.size a ≤ S8192x8192.size a)
theorem k0_off288_inb : ∀ (i : grid0.Coords) (v7104 : BitVec 32) (k0_hw288 : k0_chk288 i v7104), ∀ (k0_h1 : k0_cond1 i = 1#1), ∀ a, (k0_off288 v7104) a + S1x8192.size a ≤ S8192x8192.size a := fun i v7104 k0_hw288 k0_h1 => k0_hw288 k0_h1

def k0_off289 (v7110 : BitVec 32) : Fin 2 → Nat :=
  let c0_i32_3834 : BitVec 32 := 0#32
  ![v7110.toNat, 0]

def k0_chk289 (i : grid0.Coords) (v7110 : BitVec 32) : Prop :=
  (∀ (k0_h1 : k0_cond1 i = 1#1), ∀ a, (k0_off289 v7110) a + S1x8192.size a ≤ S8192x8192.size a)
theorem k0_off289_inb : ∀ (i : grid0.Coords) (v7110 : BitVec 32) (k0_hw289 : k0_chk289 i v7110), ∀ (k0_h1 : k0_cond1 i = 1#1), ∀ a, (k0_off289 v7110) a + S1x8192.size a ≤ S8192x8192.size a := fun i v7110 k0_hw289 k0_h1 => k0_hw289 k0_h1

def k0_off290 (v7116 : BitVec 32) : Fin 2 → Nat :=
  let c0_i32_3839 : BitVec 32 := 0#32
  ![v7116.toNat, 0]

def k0_chk290 (i : grid0.Coords) (v7116 : BitVec 32) : Prop :=
  (∀ (k0_h1 : k0_cond1 i = 1#1), ∀ a, (k0_off290 v7116) a + S1x8192.size a ≤ S8192x8192.size a)
theorem k0_off290_inb : ∀ (i : grid0.Coords) (v7116 : BitVec 32) (k0_hw290 : k0_chk290 i v7116), ∀ (k0_h1 : k0_cond1 i = 1#1), ∀ a, (k0_off290 v7116) a + S1x8192.size a ≤ S8192x8192.size a := fun i v7116 k0_hw290 k0_h1 => k0_hw290 k0_h1

def k0_off291 (v7122 : BitVec 32) : Fin 2 → Nat :=
  let c0_i32_3844 : BitVec 32 := 0#32
  ![v7122.toNat, 0]

def k0_chk291 (i : grid0.Coords) (v7122 : BitVec 32) : Prop :=
  (∀ (k0_h1 : k0_cond1 i = 1#1), ∀ a, (k0_off291 v7122) a + S1x8192.size a ≤ S8192x8192.size a)
theorem k0_off291_inb : ∀ (i : grid0.Coords) (v7122 : BitVec 32) (k0_hw291 : k0_chk291 i v7122), ∀ (k0_h1 : k0_cond1 i = 1#1), ∀ a, (k0_off291 v7122) a + S1x8192.size a ≤ S8192x8192.size a := fun i v7122 k0_hw291 k0_h1 => k0_hw291 k0_h1

def k0_off292 (v7128 : BitVec 32) : Fin 2 → Nat :=
  let c0_i32_3849 : BitVec 32 := 0#32
  ![v7128.toNat, 0]

def k0_chk292 (i : grid0.Coords) (v7128 : BitVec 32) : Prop :=
  (∀ (k0_h1 : k0_cond1 i = 1#1), ∀ a, (k0_off292 v7128) a + S1x8192.size a ≤ S8192x8192.size a)
theorem k0_off292_inb : ∀ (i : grid0.Coords) (v7128 : BitVec 32) (k0_hw292 : k0_chk292 i v7128), ∀ (k0_h1 : k0_cond1 i = 1#1), ∀ a, (k0_off292 v7128) a + S1x8192.size a ≤ S8192x8192.size a := fun i v7128 k0_hw292 k0_h1 => k0_hw292 k0_h1

def k0_off293 (v7134 : BitVec 32) : Fin 2 → Nat :=
  let c0_i32_3854 : BitVec 32 := 0#32
  ![v7134.toNat, 0]

def k0_chk293 (i : grid0.Coords) (v7134 : BitVec 32) : Prop :=
  (∀ (k0_h1 : k0_cond1 i = 1#1), ∀ a, (k0_off293 v7134) a + S1x8192.size a ≤ S8192x8192.size a)
theorem k0_off293_inb : ∀ (i : grid0.Coords) (v7134 : BitVec 32) (k0_hw293 : k0_chk293 i v7134), ∀ (k0_h1 : k0_cond1 i = 1#1), ∀ a, (k0_off293 v7134) a + S1x8192.size a ≤ S8192x8192.size a := fun i v7134 k0_hw293 k0_h1 => k0_hw293 k0_h1

def k0_off294 (v7140 : BitVec 32) : Fin 2 → Nat :=
  let c0_i32_3859 : BitVec 32 := 0#32
  ![v7140.toNat, 0]

def k0_chk294 (i : grid0.Coords) (v7140 : BitVec 32) : Prop :=
  (∀ (k0_h1 : k0_cond1 i = 1#1), ∀ a, (k0_off294 v7140) a + S1x8192.size a ≤ S8192x8192.size a)
theorem k0_off294_inb : ∀ (i : grid0.Coords) (v7140 : BitVec 32) (k0_hw294 : k0_chk294 i v7140), ∀ (k0_h1 : k0_cond1 i = 1#1), ∀ a, (k0_off294 v7140) a + S1x8192.size a ≤ S8192x8192.size a := fun i v7140 k0_hw294 k0_h1 => k0_hw294 k0_h1

def k0_off295 (v7146 : BitVec 32) : Fin 2 → Nat :=
  let c0_i32_3864 : BitVec 32 := 0#32
  ![v7146.toNat, 0]

def k0_chk295 (i : grid0.Coords) (v7146 : BitVec 32) : Prop :=
  (∀ (k0_h1 : k0_cond1 i = 1#1), ∀ a, (k0_off295 v7146) a + S1x8192.size a ≤ S8192x8192.size a)
theorem k0_off295_inb : ∀ (i : grid0.Coords) (v7146 : BitVec 32) (k0_hw295 : k0_chk295 i v7146), ∀ (k0_h1 : k0_cond1 i = 1#1), ∀ a, (k0_off295 v7146) a + S1x8192.size a ≤ S8192x8192.size a := fun i v7146 k0_hw295 k0_h1 => k0_hw295 k0_h1

def k0_off296 (v7152 : BitVec 32) : Fin 2 → Nat :=
  let c0_i32_3869 : BitVec 32 := 0#32
  ![v7152.toNat, 0]

def k0_chk296 (i : grid0.Coords) (v7152 : BitVec 32) : Prop :=
  (∀ (k0_h1 : k0_cond1 i = 1#1), ∀ a, (k0_off296 v7152) a + S1x8192.size a ≤ S8192x8192.size a)
theorem k0_off296_inb : ∀ (i : grid0.Coords) (v7152 : BitVec 32) (k0_hw296 : k0_chk296 i v7152), ∀ (k0_h1 : k0_cond1 i = 1#1), ∀ a, (k0_off296 v7152) a + S1x8192.size a ≤ S8192x8192.size a := fun i v7152 k0_hw296 k0_h1 => k0_hw296 k0_h1

def k0_off297 (v7158 : BitVec 32) : Fin 2 → Nat :=
  let c0_i32_3873 : BitVec 32 := 0#32
  ![v7158.toNat, 0]

def k0_chk297 (i : grid0.Coords) (v7158 : BitVec 32) : Prop :=
  (∀ (k0_h1 : k0_cond1 i = 1#1), ∀ a, (k0_off297 v7158) a + S1x8192.size a ≤ S8192x8192.size a)
theorem k0_off297_inb : ∀ (i : grid0.Coords) (v7158 : BitVec 32) (k0_hw297 : k0_chk297 i v7158), ∀ (k0_h1 : k0_cond1 i = 1#1), ∀ a, (k0_off297 v7158) a + S1x8192.size a ≤ S8192x8192.size a := fun i v7158 k0_hw297 k0_h1 => k0_hw297 k0_h1

def k0_off298 (v7164 : BitVec 32) : Fin 2 → Nat :=
  let c0_i32_3878 : BitVec 32 := 0#32
  ![v7164.toNat, 0]

def k0_chk298 (i : grid0.Coords) (v7164 : BitVec 32) : Prop :=
  (∀ (k0_h1 : k0_cond1 i = 1#1), ∀ a, (k0_off298 v7164) a + S1x8192.size a ≤ S8192x8192.size a)
theorem k0_off298_inb : ∀ (i : grid0.Coords) (v7164 : BitVec 32) (k0_hw298 : k0_chk298 i v7164), ∀ (k0_h1 : k0_cond1 i = 1#1), ∀ a, (k0_off298 v7164) a + S1x8192.size a ≤ S8192x8192.size a := fun i v7164 k0_hw298 k0_h1 => k0_hw298 k0_h1

def k0_off299 (v7170 : BitVec 32) : Fin 2 → Nat :=
  let c0_i32_3883 : BitVec 32 := 0#32
  ![v7170.toNat, 0]

def k0_chk299 (i : grid0.Coords) (v7170 : BitVec 32) : Prop :=
  (∀ (k0_h1 : k0_cond1 i = 1#1), ∀ a, (k0_off299 v7170) a + S1x8192.size a ≤ S8192x8192.size a)
theorem k0_off299_inb : ∀ (i : grid0.Coords) (v7170 : BitVec 32) (k0_hw299 : k0_chk299 i v7170), ∀ (k0_h1 : k0_cond1 i = 1#1), ∀ a, (k0_off299 v7170) a + S1x8192.size a ≤ S8192x8192.size a := fun i v7170 k0_hw299 k0_h1 => k0_hw299 k0_h1

def k0_off300 (v7176 : BitVec 32) : Fin 2 → Nat :=
  let c0_i32_3888 : BitVec 32 := 0#32
  ![v7176.toNat, 0]

def k0_chk300 (i : grid0.Coords) (v7176 : BitVec 32) : Prop :=
  (∀ (k0_h1 : k0_cond1 i = 1#1), ∀ a, (k0_off300 v7176) a + S1x8192.size a ≤ S8192x8192.size a)
theorem k0_off300_inb : ∀ (i : grid0.Coords) (v7176 : BitVec 32) (k0_hw300 : k0_chk300 i v7176), ∀ (k0_h1 : k0_cond1 i = 1#1), ∀ a, (k0_off300 v7176) a + S1x8192.size a ≤ S8192x8192.size a := fun i v7176 k0_hw300 k0_h1 => k0_hw300 k0_h1

def k0_off301 (v7182 : BitVec 32) : Fin 2 → Nat :=
  let c0_i32_3893 : BitVec 32 := 0#32
  ![v7182.toNat, 0]

def k0_chk301 (i : grid0.Coords) (v7182 : BitVec 32) : Prop :=
  (∀ (k0_h1 : k0_cond1 i = 1#1), ∀ a, (k0_off301 v7182) a + S1x8192.size a ≤ S8192x8192.size a)
theorem k0_off301_inb : ∀ (i : grid0.Coords) (v7182 : BitVec 32) (k0_hw301 : k0_chk301 i v7182), ∀ (k0_h1 : k0_cond1 i = 1#1), ∀ a, (k0_off301 v7182) a + S1x8192.size a ≤ S8192x8192.size a := fun i v7182 k0_hw301 k0_h1 => k0_hw301 k0_h1

def k0_off302 (v7188 : BitVec 32) : Fin 2 → Nat :=
  let c0_i32_3898 : BitVec 32 := 0#32
  ![v7188.toNat, 0]

def k0_chk302 (i : grid0.Coords) (v7188 : BitVec 32) : Prop :=
  (∀ (k0_h1 : k0_cond1 i = 1#1), ∀ a, (k0_off302 v7188) a + S1x8192.size a ≤ S8192x8192.size a)
theorem k0_off302_inb : ∀ (i : grid0.Coords) (v7188 : BitVec 32) (k0_hw302 : k0_chk302 i v7188), ∀ (k0_h1 : k0_cond1 i = 1#1), ∀ a, (k0_off302 v7188) a + S1x8192.size a ≤ S8192x8192.size a := fun i v7188 k0_hw302 k0_h1 => k0_hw302 k0_h1

def k0_off303 (v7194 : BitVec 32) : Fin 2 → Nat :=
  let c0_i32_3903 : BitVec 32 := 0#32
  ![v7194.toNat, 0]

def k0_chk303 (i : grid0.Coords) (v7194 : BitVec 32) : Prop :=
  (∀ (k0_h1 : k0_cond1 i = 1#1), ∀ a, (k0_off303 v7194) a + S1x8192.size a ≤ S8192x8192.size a)
theorem k0_off303_inb : ∀ (i : grid0.Coords) (v7194 : BitVec 32) (k0_hw303 : k0_chk303 i v7194), ∀ (k0_h1 : k0_cond1 i = 1#1), ∀ a, (k0_off303 v7194) a + S1x8192.size a ≤ S8192x8192.size a := fun i v7194 k0_hw303 k0_h1 => k0_hw303 k0_h1

def k0_off304 (v7200 : BitVec 32) : Fin 2 → Nat :=
  let c0_i32_3908 : BitVec 32 := 0#32
  ![v7200.toNat, 0]

def k0_chk304 (i : grid0.Coords) (v7200 : BitVec 32) : Prop :=
  (∀ (k0_h1 : k0_cond1 i = 1#1), ∀ a, (k0_off304 v7200) a + S1x8192.size a ≤ S8192x8192.size a)
theorem k0_off304_inb : ∀ (i : grid0.Coords) (v7200 : BitVec 32) (k0_hw304 : k0_chk304 i v7200), ∀ (k0_h1 : k0_cond1 i = 1#1), ∀ a, (k0_off304 v7200) a + S1x8192.size a ≤ S8192x8192.size a := fun i v7200 k0_hw304 k0_h1 => k0_hw304 k0_h1

def k0_off305 (v7206 : BitVec 32) : Fin 2 → Nat :=
  let c0_i32_3912 : BitVec 32 := 0#32
  ![v7206.toNat, 0]

def k0_chk305 (i : grid0.Coords) (v7206 : BitVec 32) : Prop :=
  (∀ (k0_h1 : k0_cond1 i = 1#1), ∀ a, (k0_off305 v7206) a + S1x8192.size a ≤ S8192x8192.size a)
theorem k0_off305_inb : ∀ (i : grid0.Coords) (v7206 : BitVec 32) (k0_hw305 : k0_chk305 i v7206), ∀ (k0_h1 : k0_cond1 i = 1#1), ∀ a, (k0_off305 v7206) a + S1x8192.size a ≤ S8192x8192.size a := fun i v7206 k0_hw305 k0_h1 => k0_hw305 k0_h1

def k0_off306 (v7212 : BitVec 32) : Fin 2 → Nat :=
  let c0_i32_3917 : BitVec 32 := 0#32
  ![v7212.toNat, 0]

def k0_chk306 (i : grid0.Coords) (v7212 : BitVec 32) : Prop :=
  (∀ (k0_h1 : k0_cond1 i = 1#1), ∀ a, (k0_off306 v7212) a + S1x8192.size a ≤ S8192x8192.size a)
theorem k0_off306_inb : ∀ (i : grid0.Coords) (v7212 : BitVec 32) (k0_hw306 : k0_chk306 i v7212), ∀ (k0_h1 : k0_cond1 i = 1#1), ∀ a, (k0_off306 v7212) a + S1x8192.size a ≤ S8192x8192.size a := fun i v7212 k0_hw306 k0_h1 => k0_hw306 k0_h1

def k0_off307 (v7218 : BitVec 32) : Fin 2 → Nat :=
  let c0_i32_3922 : BitVec 32 := 0#32
  ![v7218.toNat, 0]

def k0_chk307 (i : grid0.Coords) (v7218 : BitVec 32) : Prop :=
  (∀ (k0_h1 : k0_cond1 i = 1#1), ∀ a, (k0_off307 v7218) a + S1x8192.size a ≤ S8192x8192.size a)
theorem k0_off307_inb : ∀ (i : grid0.Coords) (v7218 : BitVec 32) (k0_hw307 : k0_chk307 i v7218), ∀ (k0_h1 : k0_cond1 i = 1#1), ∀ a, (k0_off307 v7218) a + S1x8192.size a ≤ S8192x8192.size a := fun i v7218 k0_hw307 k0_h1 => k0_hw307 k0_h1

def k0_off308 (v7224 : BitVec 32) : Fin 2 → Nat :=
  let c0_i32_3927 : BitVec 32 := 0#32
  ![v7224.toNat, 0]

def k0_chk308 (i : grid0.Coords) (v7224 : BitVec 32) : Prop :=
  (∀ (k0_h1 : k0_cond1 i = 1#1), ∀ a, (k0_off308 v7224) a + S1x8192.size a ≤ S8192x8192.size a)
theorem k0_off308_inb : ∀ (i : grid0.Coords) (v7224 : BitVec 32) (k0_hw308 : k0_chk308 i v7224), ∀ (k0_h1 : k0_cond1 i = 1#1), ∀ a, (k0_off308 v7224) a + S1x8192.size a ≤ S8192x8192.size a := fun i v7224 k0_hw308 k0_h1 => k0_hw308 k0_h1

def k0_off309 (v7230 : BitVec 32) : Fin 2 → Nat :=
  let c0_i32_3932 : BitVec 32 := 0#32
  ![v7230.toNat, 0]

def k0_chk309 (i : grid0.Coords) (v7230 : BitVec 32) : Prop :=
  (∀ (k0_h1 : k0_cond1 i = 1#1), ∀ a, (k0_off309 v7230) a + S1x8192.size a ≤ S8192x8192.size a)
theorem k0_off309_inb : ∀ (i : grid0.Coords) (v7230 : BitVec 32) (k0_hw309 : k0_chk309 i v7230), ∀ (k0_h1 : k0_cond1 i = 1#1), ∀ a, (k0_off309 v7230) a + S1x8192.size a ≤ S8192x8192.size a := fun i v7230 k0_hw309 k0_h1 => k0_hw309 k0_h1

def k0_off310 (v7236 : BitVec 32) : Fin 2 → Nat :=
  let c0_i32_3937 : BitVec 32 := 0#32
  ![v7236.toNat, 0]

def k0_chk310 (i : grid0.Coords) (v7236 : BitVec 32) : Prop :=
  (∀ (k0_h1 : k0_cond1 i = 1#1), ∀ a, (k0_off310 v7236) a + S1x8192.size a ≤ S8192x8192.size a)
theorem k0_off310_inb : ∀ (i : grid0.Coords) (v7236 : BitVec 32) (k0_hw310 : k0_chk310 i v7236), ∀ (k0_h1 : k0_cond1 i = 1#1), ∀ a, (k0_off310 v7236) a + S1x8192.size a ≤ S8192x8192.size a := fun i v7236 k0_hw310 k0_h1 => k0_hw310 k0_h1

def k0_off311 (v7242 : BitVec 32) : Fin 2 → Nat :=
  let c0_i32_3942 : BitVec 32 := 0#32
  ![v7242.toNat, 0]

def k0_chk311 (i : grid0.Coords) (v7242 : BitVec 32) : Prop :=
  (∀ (k0_h1 : k0_cond1 i = 1#1), ∀ a, (k0_off311 v7242) a + S1x8192.size a ≤ S8192x8192.size a)
theorem k0_off311_inb : ∀ (i : grid0.Coords) (v7242 : BitVec 32) (k0_hw311 : k0_chk311 i v7242), ∀ (k0_h1 : k0_cond1 i = 1#1), ∀ a, (k0_off311 v7242) a + S1x8192.size a ≤ S8192x8192.size a := fun i v7242 k0_hw311 k0_h1 => k0_hw311 k0_h1

def k0_off312 (v7248 : BitVec 32) : Fin 2 → Nat :=
  let c0_i32_3947 : BitVec 32 := 0#32
  ![v7248.toNat, 0]

def k0_chk312 (i : grid0.Coords) (v7248 : BitVec 32) : Prop :=
  (∀ (k0_h1 : k0_cond1 i = 1#1), ∀ a, (k0_off312 v7248) a + S1x8192.size a ≤ S8192x8192.size a)
theorem k0_off312_inb : ∀ (i : grid0.Coords) (v7248 : BitVec 32) (k0_hw312 : k0_chk312 i v7248), ∀ (k0_h1 : k0_cond1 i = 1#1), ∀ a, (k0_off312 v7248) a + S1x8192.size a ≤ S8192x8192.size a := fun i v7248 k0_hw312 k0_h1 => k0_hw312 k0_h1

def k0_off313 (v7254 : BitVec 32) : Fin 2 → Nat :=
  let c0_i32_3951 : BitVec 32 := 0#32
  ![v7254.toNat, 0]

def k0_chk313 (i : grid0.Coords) (v7254 : BitVec 32) : Prop :=
  (∀ (k0_h1 : k0_cond1 i = 1#1), ∀ a, (k0_off313 v7254) a + S1x8192.size a ≤ S8192x8192.size a)
theorem k0_off313_inb : ∀ (i : grid0.Coords) (v7254 : BitVec 32) (k0_hw313 : k0_chk313 i v7254), ∀ (k0_h1 : k0_cond1 i = 1#1), ∀ a, (k0_off313 v7254) a + S1x8192.size a ≤ S8192x8192.size a := fun i v7254 k0_hw313 k0_h1 => k0_hw313 k0_h1

def k0_off314 (v7260 : BitVec 32) : Fin 2 → Nat :=
  let c0_i32_3956 : BitVec 32 := 0#32
  ![v7260.toNat, 0]

def k0_chk314 (i : grid0.Coords) (v7260 : BitVec 32) : Prop :=
  (∀ (k0_h1 : k0_cond1 i = 1#1), ∀ a, (k0_off314 v7260) a + S1x8192.size a ≤ S8192x8192.size a)
theorem k0_off314_inb : ∀ (i : grid0.Coords) (v7260 : BitVec 32) (k0_hw314 : k0_chk314 i v7260), ∀ (k0_h1 : k0_cond1 i = 1#1), ∀ a, (k0_off314 v7260) a + S1x8192.size a ≤ S8192x8192.size a := fun i v7260 k0_hw314 k0_h1 => k0_hw314 k0_h1

def k0_off315 (v7266 : BitVec 32) : Fin 2 → Nat :=
  let c0_i32_3961 : BitVec 32 := 0#32
  ![v7266.toNat, 0]

def k0_chk315 (i : grid0.Coords) (v7266 : BitVec 32) : Prop :=
  (∀ (k0_h1 : k0_cond1 i = 1#1), ∀ a, (k0_off315 v7266) a + S1x8192.size a ≤ S8192x8192.size a)
theorem k0_off315_inb : ∀ (i : grid0.Coords) (v7266 : BitVec 32) (k0_hw315 : k0_chk315 i v7266), ∀ (k0_h1 : k0_cond1 i = 1#1), ∀ a, (k0_off315 v7266) a + S1x8192.size a ≤ S8192x8192.size a := fun i v7266 k0_hw315 k0_h1 => k0_hw315 k0_h1

def k0_off316 (v7272 : BitVec 32) : Fin 2 → Nat :=
  let c0_i32_3966 : BitVec 32 := 0#32
  ![v7272.toNat, 0]

def k0_chk316 (i : grid0.Coords) (v7272 : BitVec 32) : Prop :=
  (∀ (k0_h1 : k0_cond1 i = 1#1), ∀ a, (k0_off316 v7272) a + S1x8192.size a ≤ S8192x8192.size a)
theorem k0_off316_inb : ∀ (i : grid0.Coords) (v7272 : BitVec 32) (k0_hw316 : k0_chk316 i v7272), ∀ (k0_h1 : k0_cond1 i = 1#1), ∀ a, (k0_off316 v7272) a + S1x8192.size a ≤ S8192x8192.size a := fun i v7272 k0_hw316 k0_h1 => k0_hw316 k0_h1

def k0_off317 (v7278 : BitVec 32) : Fin 2 → Nat :=
  let c0_i32_3971 : BitVec 32 := 0#32
  ![v7278.toNat, 0]

def k0_chk317 (i : grid0.Coords) (v7278 : BitVec 32) : Prop :=
  (∀ (k0_h1 : k0_cond1 i = 1#1), ∀ a, (k0_off317 v7278) a + S1x8192.size a ≤ S8192x8192.size a)
theorem k0_off317_inb : ∀ (i : grid0.Coords) (v7278 : BitVec 32) (k0_hw317 : k0_chk317 i v7278), ∀ (k0_h1 : k0_cond1 i = 1#1), ∀ a, (k0_off317 v7278) a + S1x8192.size a ≤ S8192x8192.size a := fun i v7278 k0_hw317 k0_h1 => k0_hw317 k0_h1

def k0_off318 (v7284 : BitVec 32) : Fin 2 → Nat :=
  let c0_i32_3976 : BitVec 32 := 0#32
  ![v7284.toNat, 0]

def k0_chk318 (i : grid0.Coords) (v7284 : BitVec 32) : Prop :=
  (∀ (k0_h1 : k0_cond1 i = 1#1), ∀ a, (k0_off318 v7284) a + S1x8192.size a ≤ S8192x8192.size a)
theorem k0_off318_inb : ∀ (i : grid0.Coords) (v7284 : BitVec 32) (k0_hw318 : k0_chk318 i v7284), ∀ (k0_h1 : k0_cond1 i = 1#1), ∀ a, (k0_off318 v7284) a + S1x8192.size a ≤ S8192x8192.size a := fun i v7284 k0_hw318 k0_h1 => k0_hw318 k0_h1

def k0_off319 (v7290 : BitVec 32) : Fin 2 → Nat :=
  let c0_i32_3981 : BitVec 32 := 0#32
  ![v7290.toNat, 0]

def k0_chk319 (i : grid0.Coords) (v7290 : BitVec 32) : Prop :=
  (∀ (k0_h1 : k0_cond1 i = 1#1), ∀ a, (k0_off319 v7290) a + S1x8192.size a ≤ S8192x8192.size a)
theorem k0_off319_inb : ∀ (i : grid0.Coords) (v7290 : BitVec 32) (k0_hw319 : k0_chk319 i v7290), ∀ (k0_h1 : k0_cond1 i = 1#1), ∀ a, (k0_off319 v7290) a + S1x8192.size a ≤ S8192x8192.size a := fun i v7290 k0_hw319 k0_h1 => k0_hw319 k0_h1

def k0_off320 (v7296 : BitVec 32) : Fin 2 → Nat :=
  let c0_i32_3986 : BitVec 32 := 0#32
  ![v7296.toNat, 0]

def k0_chk320 (i : grid0.Coords) (v7296 : BitVec 32) : Prop :=
  (∀ (k0_h1 : k0_cond1 i = 1#1), ∀ a, (k0_off320 v7296) a + S1x8192.size a ≤ S8192x8192.size a)
theorem k0_off320_inb : ∀ (i : grid0.Coords) (v7296 : BitVec 32) (k0_hw320 : k0_chk320 i v7296), ∀ (k0_h1 : k0_cond1 i = 1#1), ∀ a, (k0_off320 v7296) a + S1x8192.size a ≤ S8192x8192.size a := fun i v7296 k0_hw320 k0_h1 => k0_hw320 k0_h1

def k0_off321 (v7302 : BitVec 32) : Fin 2 → Nat :=
  let c0_i32_3991 : BitVec 32 := 0#32
  ![v7302.toNat, 0]

def k0_chk321 (i : grid0.Coords) (v7302 : BitVec 32) : Prop :=
  (∀ (k0_h1 : k0_cond1 i = 1#1), ∀ a, (k0_off321 v7302) a + S1x8192.size a ≤ S8192x8192.size a)
theorem k0_off321_inb : ∀ (i : grid0.Coords) (v7302 : BitVec 32) (k0_hw321 : k0_chk321 i v7302), ∀ (k0_h1 : k0_cond1 i = 1#1), ∀ a, (k0_off321 v7302) a + S1x8192.size a ≤ S8192x8192.size a := fun i v7302 k0_hw321 k0_h1 => k0_hw321 k0_h1

def k0_off322 (v7308 : BitVec 32) : Fin 2 → Nat :=
  let c0_i32_3996 : BitVec 32 := 0#32
  ![v7308.toNat, 0]

def k0_chk322 (i : grid0.Coords) (v7308 : BitVec 32) : Prop :=
  (∀ (k0_h1 : k0_cond1 i = 1#1), ∀ a, (k0_off322 v7308) a + S1x8192.size a ≤ S8192x8192.size a)
theorem k0_off322_inb : ∀ (i : grid0.Coords) (v7308 : BitVec 32) (k0_hw322 : k0_chk322 i v7308), ∀ (k0_h1 : k0_cond1 i = 1#1), ∀ a, (k0_off322 v7308) a + S1x8192.size a ≤ S8192x8192.size a := fun i v7308 k0_hw322 k0_h1 => k0_hw322 k0_h1

def k0_off323 (v7314 : BitVec 32) : Fin 2 → Nat :=
  let c0_i32_4001 : BitVec 32 := 0#32
  ![v7314.toNat, 0]

def k0_chk323 (i : grid0.Coords) (v7314 : BitVec 32) : Prop :=
  (∀ (k0_h1 : k0_cond1 i = 1#1), ∀ a, (k0_off323 v7314) a + S1x8192.size a ≤ S8192x8192.size a)
theorem k0_off323_inb : ∀ (i : grid0.Coords) (v7314 : BitVec 32) (k0_hw323 : k0_chk323 i v7314), ∀ (k0_h1 : k0_cond1 i = 1#1), ∀ a, (k0_off323 v7314) a + S1x8192.size a ≤ S8192x8192.size a := fun i v7314 k0_hw323 k0_h1 => k0_hw323 k0_h1

def k0_off324 (v7320 : BitVec 32) : Fin 2 → Nat :=
  let c0_i32_4006 : BitVec 32 := 0#32
  ![v7320.toNat, 0]

def k0_chk324 (i : grid0.Coords) (v7320 : BitVec 32) : Prop :=
  (∀ (k0_h1 : k0_cond1 i = 1#1), ∀ a, (k0_off324 v7320) a + S1x8192.size a ≤ S8192x8192.size a)
theorem k0_off324_inb : ∀ (i : grid0.Coords) (v7320 : BitVec 32) (k0_hw324 : k0_chk324 i v7320), ∀ (k0_h1 : k0_cond1 i = 1#1), ∀ a, (k0_off324 v7320) a + S1x8192.size a ≤ S8192x8192.size a := fun i v7320 k0_hw324 k0_h1 => k0_hw324 k0_h1

def k0_off325 (v7326 : BitVec 32) : Fin 2 → Nat :=
  let c0_i32_4011 : BitVec 32 := 0#32
  ![v7326.toNat, 0]

def k0_chk325 (i : grid0.Coords) (v7326 : BitVec 32) : Prop :=
  (∀ (k0_h1 : k0_cond1 i = 1#1), ∀ a, (k0_off325 v7326) a + S1x8192.size a ≤ S8192x8192.size a)
theorem k0_off325_inb : ∀ (i : grid0.Coords) (v7326 : BitVec 32) (k0_hw325 : k0_chk325 i v7326), ∀ (k0_h1 : k0_cond1 i = 1#1), ∀ a, (k0_off325 v7326) a + S1x8192.size a ≤ S8192x8192.size a := fun i v7326 k0_hw325 k0_h1 => k0_hw325 k0_h1

def k0_off326 (v7332 : BitVec 32) : Fin 2 → Nat :=
  let c0_i32_4016 : BitVec 32 := 0#32
  ![v7332.toNat, 0]

def k0_chk326 (i : grid0.Coords) (v7332 : BitVec 32) : Prop :=
  (∀ (k0_h1 : k0_cond1 i = 1#1), ∀ a, (k0_off326 v7332) a + S1x8192.size a ≤ S8192x8192.size a)
theorem k0_off326_inb : ∀ (i : grid0.Coords) (v7332 : BitVec 32) (k0_hw326 : k0_chk326 i v7332), ∀ (k0_h1 : k0_cond1 i = 1#1), ∀ a, (k0_off326 v7332) a + S1x8192.size a ≤ S8192x8192.size a := fun i v7332 k0_hw326 k0_h1 => k0_hw326 k0_h1

def k0_off327 (v7338 : BitVec 32) : Fin 2 → Nat :=
  let c0_i32_4021 : BitVec 32 := 0#32
  ![v7338.toNat, 0]

def k0_chk327 (i : grid0.Coords) (v7338 : BitVec 32) : Prop :=
  (∀ (k0_h1 : k0_cond1 i = 1#1), ∀ a, (k0_off327 v7338) a + S1x8192.size a ≤ S8192x8192.size a)
theorem k0_off327_inb : ∀ (i : grid0.Coords) (v7338 : BitVec 32) (k0_hw327 : k0_chk327 i v7338), ∀ (k0_h1 : k0_cond1 i = 1#1), ∀ a, (k0_off327 v7338) a + S1x8192.size a ≤ S8192x8192.size a := fun i v7338 k0_hw327 k0_h1 => k0_hw327 k0_h1

def k0_off328 (v7344 : BitVec 32) : Fin 2 → Nat :=
  let c0_i32_4026 : BitVec 32 := 0#32
  ![v7344.toNat, 0]

def k0_chk328 (i : grid0.Coords) (v7344 : BitVec 32) : Prop :=
  (∀ (k0_h1 : k0_cond1 i = 1#1), ∀ a, (k0_off328 v7344) a + S1x8192.size a ≤ S8192x8192.size a)
theorem k0_off328_inb : ∀ (i : grid0.Coords) (v7344 : BitVec 32) (k0_hw328 : k0_chk328 i v7344), ∀ (k0_h1 : k0_cond1 i = 1#1), ∀ a, (k0_off328 v7344) a + S1x8192.size a ≤ S8192x8192.size a := fun i v7344 k0_hw328 k0_h1 => k0_hw328 k0_h1

def k0_off329 (v7350 : BitVec 32) : Fin 2 → Nat :=
  let c0_i32_4030 : BitVec 32 := 0#32
  ![v7350.toNat, 0]

def k0_chk329 (i : grid0.Coords) (v7350 : BitVec 32) : Prop :=
  (∀ (k0_h1 : k0_cond1 i = 1#1), ∀ a, (k0_off329 v7350) a + S1x8192.size a ≤ S8192x8192.size a)
theorem k0_off329_inb : ∀ (i : grid0.Coords) (v7350 : BitVec 32) (k0_hw329 : k0_chk329 i v7350), ∀ (k0_h1 : k0_cond1 i = 1#1), ∀ a, (k0_off329 v7350) a + S1x8192.size a ≤ S8192x8192.size a := fun i v7350 k0_hw329 k0_h1 => k0_hw329 k0_h1

def k0_off330 (v7356 : BitVec 32) : Fin 2 → Nat :=
  let c0_i32_4035 : BitVec 32 := 0#32
  ![v7356.toNat, 0]

def k0_chk330 (i : grid0.Coords) (v7356 : BitVec 32) : Prop :=
  (∀ (k0_h1 : k0_cond1 i = 1#1), ∀ a, (k0_off330 v7356) a + S1x8192.size a ≤ S8192x8192.size a)
theorem k0_off330_inb : ∀ (i : grid0.Coords) (v7356 : BitVec 32) (k0_hw330 : k0_chk330 i v7356), ∀ (k0_h1 : k0_cond1 i = 1#1), ∀ a, (k0_off330 v7356) a + S1x8192.size a ≤ S8192x8192.size a := fun i v7356 k0_hw330 k0_h1 => k0_hw330 k0_h1

def k0_off331 (v7362 : BitVec 32) : Fin 2 → Nat :=
  let c0_i32_4040 : BitVec 32 := 0#32
  ![v7362.toNat, 0]

def k0_chk331 (i : grid0.Coords) (v7362 : BitVec 32) : Prop :=
  (∀ (k0_h1 : k0_cond1 i = 1#1), ∀ a, (k0_off331 v7362) a + S1x8192.size a ≤ S8192x8192.size a)
theorem k0_off331_inb : ∀ (i : grid0.Coords) (v7362 : BitVec 32) (k0_hw331 : k0_chk331 i v7362), ∀ (k0_h1 : k0_cond1 i = 1#1), ∀ a, (k0_off331 v7362) a + S1x8192.size a ≤ S8192x8192.size a := fun i v7362 k0_hw331 k0_h1 => k0_hw331 k0_h1

def k0_off332 (v7368 : BitVec 32) : Fin 2 → Nat :=
  let c0_i32_4045 : BitVec 32 := 0#32
  ![v7368.toNat, 0]

def k0_chk332 (i : grid0.Coords) (v7368 : BitVec 32) : Prop :=
  (∀ (k0_h1 : k0_cond1 i = 1#1), ∀ a, (k0_off332 v7368) a + S1x8192.size a ≤ S8192x8192.size a)
theorem k0_off332_inb : ∀ (i : grid0.Coords) (v7368 : BitVec 32) (k0_hw332 : k0_chk332 i v7368), ∀ (k0_h1 : k0_cond1 i = 1#1), ∀ a, (k0_off332 v7368) a + S1x8192.size a ≤ S8192x8192.size a := fun i v7368 k0_hw332 k0_h1 => k0_hw332 k0_h1

def k0_off333 (v7374 : BitVec 32) : Fin 2 → Nat :=
  let c0_i32_4050 : BitVec 32 := 0#32
  ![v7374.toNat, 0]

def k0_chk333 (i : grid0.Coords) (v7374 : BitVec 32) : Prop :=
  (∀ (k0_h1 : k0_cond1 i = 1#1), ∀ a, (k0_off333 v7374) a + S1x8192.size a ≤ S8192x8192.size a)
theorem k0_off333_inb : ∀ (i : grid0.Coords) (v7374 : BitVec 32) (k0_hw333 : k0_chk333 i v7374), ∀ (k0_h1 : k0_cond1 i = 1#1), ∀ a, (k0_off333 v7374) a + S1x8192.size a ≤ S8192x8192.size a := fun i v7374 k0_hw333 k0_h1 => k0_hw333 k0_h1

def k0_off334 (v7380 : BitVec 32) : Fin 2 → Nat :=
  let c0_i32_4055 : BitVec 32 := 0#32
  ![v7380.toNat, 0]

def k0_chk334 (i : grid0.Coords) (v7380 : BitVec 32) : Prop :=
  (∀ (k0_h1 : k0_cond1 i = 1#1), ∀ a, (k0_off334 v7380) a + S1x8192.size a ≤ S8192x8192.size a)
theorem k0_off334_inb : ∀ (i : grid0.Coords) (v7380 : BitVec 32) (k0_hw334 : k0_chk334 i v7380), ∀ (k0_h1 : k0_cond1 i = 1#1), ∀ a, (k0_off334 v7380) a + S1x8192.size a ≤ S8192x8192.size a := fun i v7380 k0_hw334 k0_h1 => k0_hw334 k0_h1

def k0_off335 (v7386 : BitVec 32) : Fin 2 → Nat :=
  let c0_i32_4060 : BitVec 32 := 0#32
  ![v7386.toNat, 0]

def k0_chk335 (i : grid0.Coords) (v7386 : BitVec 32) : Prop :=
  (∀ (k0_h1 : k0_cond1 i = 1#1), ∀ a, (k0_off335 v7386) a + S1x8192.size a ≤ S8192x8192.size a)
theorem k0_off335_inb : ∀ (i : grid0.Coords) (v7386 : BitVec 32) (k0_hw335 : k0_chk335 i v7386), ∀ (k0_h1 : k0_cond1 i = 1#1), ∀ a, (k0_off335 v7386) a + S1x8192.size a ≤ S8192x8192.size a := fun i v7386 k0_hw335 k0_h1 => k0_hw335 k0_h1

def k0_off336 (v7392 : BitVec 32) : Fin 2 → Nat :=
  let c0_i32_4065 : BitVec 32 := 0#32
  ![v7392.toNat, 0]

def k0_chk336 (i : grid0.Coords) (v7392 : BitVec 32) : Prop :=
  (∀ (k0_h1 : k0_cond1 i = 1#1), ∀ a, (k0_off336 v7392) a + S1x8192.size a ≤ S8192x8192.size a)
theorem k0_off336_inb : ∀ (i : grid0.Coords) (v7392 : BitVec 32) (k0_hw336 : k0_chk336 i v7392), ∀ (k0_h1 : k0_cond1 i = 1#1), ∀ a, (k0_off336 v7392) a + S1x8192.size a ≤ S8192x8192.size a := fun i v7392 k0_hw336 k0_h1 => k0_hw336 k0_h1

def k0_off337 (v7398 : BitVec 32) : Fin 2 → Nat :=
  let c0_i32_4069 : BitVec 32 := 0#32
  ![v7398.toNat, 0]

def k0_chk337 (i : grid0.Coords) (v7398 : BitVec 32) : Prop :=
  (∀ (k0_h1 : k0_cond1 i = 1#1), ∀ a, (k0_off337 v7398) a + S1x8192.size a ≤ S8192x8192.size a)
theorem k0_off337_inb : ∀ (i : grid0.Coords) (v7398 : BitVec 32) (k0_hw337 : k0_chk337 i v7398), ∀ (k0_h1 : k0_cond1 i = 1#1), ∀ a, (k0_off337 v7398) a + S1x8192.size a ≤ S8192x8192.size a := fun i v7398 k0_hw337 k0_h1 => k0_hw337 k0_h1

def k0_off338 (v7404 : BitVec 32) : Fin 2 → Nat :=
  let c0_i32_4074 : BitVec 32 := 0#32
  ![v7404.toNat, 0]

def k0_chk338 (i : grid0.Coords) (v7404 : BitVec 32) : Prop :=
  (∀ (k0_h1 : k0_cond1 i = 1#1), ∀ a, (k0_off338 v7404) a + S1x8192.size a ≤ S8192x8192.size a)
theorem k0_off338_inb : ∀ (i : grid0.Coords) (v7404 : BitVec 32) (k0_hw338 : k0_chk338 i v7404), ∀ (k0_h1 : k0_cond1 i = 1#1), ∀ a, (k0_off338 v7404) a + S1x8192.size a ≤ S8192x8192.size a := fun i v7404 k0_hw338 k0_h1 => k0_hw338 k0_h1

def k0_off339 (v7410 : BitVec 32) : Fin 2 → Nat :=
  let c0_i32_4079 : BitVec 32 := 0#32
  ![v7410.toNat, 0]

def k0_chk339 (i : grid0.Coords) (v7410 : BitVec 32) : Prop :=
  (∀ (k0_h1 : k0_cond1 i = 1#1), ∀ a, (k0_off339 v7410) a + S1x8192.size a ≤ S8192x8192.size a)
theorem k0_off339_inb : ∀ (i : grid0.Coords) (v7410 : BitVec 32) (k0_hw339 : k0_chk339 i v7410), ∀ (k0_h1 : k0_cond1 i = 1#1), ∀ a, (k0_off339 v7410) a + S1x8192.size a ≤ S8192x8192.size a := fun i v7410 k0_hw339 k0_h1 => k0_hw339 k0_h1

def k0_off340 (v7416 : BitVec 32) : Fin 2 → Nat :=
  let c0_i32_4084 : BitVec 32 := 0#32
  ![v7416.toNat, 0]

def k0_chk340 (i : grid0.Coords) (v7416 : BitVec 32) : Prop :=
  (∀ (k0_h1 : k0_cond1 i = 1#1), ∀ a, (k0_off340 v7416) a + S1x8192.size a ≤ S8192x8192.size a)
theorem k0_off340_inb : ∀ (i : grid0.Coords) (v7416 : BitVec 32) (k0_hw340 : k0_chk340 i v7416), ∀ (k0_h1 : k0_cond1 i = 1#1), ∀ a, (k0_off340 v7416) a + S1x8192.size a ≤ S8192x8192.size a := fun i v7416 k0_hw340 k0_h1 => k0_hw340 k0_h1

def k0_off341 (v7422 : BitVec 32) : Fin 2 → Nat :=
  let c0_i32_4089 : BitVec 32 := 0#32
  ![v7422.toNat, 0]

def k0_chk341 (i : grid0.Coords) (v7422 : BitVec 32) : Prop :=
  (∀ (k0_h1 : k0_cond1 i = 1#1), ∀ a, (k0_off341 v7422) a + S1x8192.size a ≤ S8192x8192.size a)
theorem k0_off341_inb : ∀ (i : grid0.Coords) (v7422 : BitVec 32) (k0_hw341 : k0_chk341 i v7422), ∀ (k0_h1 : k0_cond1 i = 1#1), ∀ a, (k0_off341 v7422) a + S1x8192.size a ≤ S8192x8192.size a := fun i v7422 k0_hw341 k0_h1 => k0_hw341 k0_h1

def k0_off342 (v7428 : BitVec 32) : Fin 2 → Nat :=
  let c0_i32_4094 : BitVec 32 := 0#32
  ![v7428.toNat, 0]

def k0_chk342 (i : grid0.Coords) (v7428 : BitVec 32) : Prop :=
  (∀ (k0_h1 : k0_cond1 i = 1#1), ∀ a, (k0_off342 v7428) a + S1x8192.size a ≤ S8192x8192.size a)
theorem k0_off342_inb : ∀ (i : grid0.Coords) (v7428 : BitVec 32) (k0_hw342 : k0_chk342 i v7428), ∀ (k0_h1 : k0_cond1 i = 1#1), ∀ a, (k0_off342 v7428) a + S1x8192.size a ≤ S8192x8192.size a := fun i v7428 k0_hw342 k0_h1 => k0_hw342 k0_h1

def k0_off343 (v7434 : BitVec 32) : Fin 2 → Nat :=
  let c0_i32_4099 : BitVec 32 := 0#32
  ![v7434.toNat, 0]

def k0_chk343 (i : grid0.Coords) (v7434 : BitVec 32) : Prop :=
  (∀ (k0_h1 : k0_cond1 i = 1#1), ∀ a, (k0_off343 v7434) a + S1x8192.size a ≤ S8192x8192.size a)
theorem k0_off343_inb : ∀ (i : grid0.Coords) (v7434 : BitVec 32) (k0_hw343 : k0_chk343 i v7434), ∀ (k0_h1 : k0_cond1 i = 1#1), ∀ a, (k0_off343 v7434) a + S1x8192.size a ≤ S8192x8192.size a := fun i v7434 k0_hw343 k0_h1 => k0_hw343 k0_h1

def k0_off344 (v7440 : BitVec 32) : Fin 2 → Nat :=
  let c0_i32_4104 : BitVec 32 := 0#32
  ![v7440.toNat, 0]

def k0_chk344 (i : grid0.Coords) (v7440 : BitVec 32) : Prop :=
  (∀ (k0_h1 : k0_cond1 i = 1#1), ∀ a, (k0_off344 v7440) a + S1x8192.size a ≤ S8192x8192.size a)
theorem k0_off344_inb : ∀ (i : grid0.Coords) (v7440 : BitVec 32) (k0_hw344 : k0_chk344 i v7440), ∀ (k0_h1 : k0_cond1 i = 1#1), ∀ a, (k0_off344 v7440) a + S1x8192.size a ≤ S8192x8192.size a := fun i v7440 k0_hw344 k0_h1 => k0_hw344 k0_h1

def k0_off345 (v7446 : BitVec 32) : Fin 2 → Nat :=
  let c0_i32_4108 : BitVec 32 := 0#32
  ![v7446.toNat, 0]

def k0_chk345 (i : grid0.Coords) (v7446 : BitVec 32) : Prop :=
  (∀ (k0_h1 : k0_cond1 i = 1#1), ∀ a, (k0_off345 v7446) a + S1x8192.size a ≤ S8192x8192.size a)
theorem k0_off345_inb : ∀ (i : grid0.Coords) (v7446 : BitVec 32) (k0_hw345 : k0_chk345 i v7446), ∀ (k0_h1 : k0_cond1 i = 1#1), ∀ a, (k0_off345 v7446) a + S1x8192.size a ≤ S8192x8192.size a := fun i v7446 k0_hw345 k0_h1 => k0_hw345 k0_h1

def k0_off346 (v7452 : BitVec 32) : Fin 2 → Nat :=
  let c0_i32_4113 : BitVec 32 := 0#32
  ![v7452.toNat, 0]

def k0_chk346 (i : grid0.Coords) (v7452 : BitVec 32) : Prop :=
  (∀ (k0_h1 : k0_cond1 i = 1#1), ∀ a, (k0_off346 v7452) a + S1x8192.size a ≤ S8192x8192.size a)
theorem k0_off346_inb : ∀ (i : grid0.Coords) (v7452 : BitVec 32) (k0_hw346 : k0_chk346 i v7452), ∀ (k0_h1 : k0_cond1 i = 1#1), ∀ a, (k0_off346 v7452) a + S1x8192.size a ≤ S8192x8192.size a := fun i v7452 k0_hw346 k0_h1 => k0_hw346 k0_h1

def k0_off347 (v7458 : BitVec 32) : Fin 2 → Nat :=
  let c0_i32_4118 : BitVec 32 := 0#32
  ![v7458.toNat, 0]

def k0_chk347 (i : grid0.Coords) (v7458 : BitVec 32) : Prop :=
  (∀ (k0_h1 : k0_cond1 i = 1#1), ∀ a, (k0_off347 v7458) a + S1x8192.size a ≤ S8192x8192.size a)
theorem k0_off347_inb : ∀ (i : grid0.Coords) (v7458 : BitVec 32) (k0_hw347 : k0_chk347 i v7458), ∀ (k0_h1 : k0_cond1 i = 1#1), ∀ a, (k0_off347 v7458) a + S1x8192.size a ≤ S8192x8192.size a := fun i v7458 k0_hw347 k0_h1 => k0_hw347 k0_h1

def k0_off348 (v7464 : BitVec 32) : Fin 2 → Nat :=
  let c0_i32_4123 : BitVec 32 := 0#32
  ![v7464.toNat, 0]

def k0_chk348 (i : grid0.Coords) (v7464 : BitVec 32) : Prop :=
  (∀ (k0_h1 : k0_cond1 i = 1#1), ∀ a, (k0_off348 v7464) a + S1x8192.size a ≤ S8192x8192.size a)
theorem k0_off348_inb : ∀ (i : grid0.Coords) (v7464 : BitVec 32) (k0_hw348 : k0_chk348 i v7464), ∀ (k0_h1 : k0_cond1 i = 1#1), ∀ a, (k0_off348 v7464) a + S1x8192.size a ≤ S8192x8192.size a := fun i v7464 k0_hw348 k0_h1 => k0_hw348 k0_h1

def k0_off349 (v7470 : BitVec 32) : Fin 2 → Nat :=
  let c0_i32_4128 : BitVec 32 := 0#32
  ![v7470.toNat, 0]

def k0_chk349 (i : grid0.Coords) (v7470 : BitVec 32) : Prop :=
  (∀ (k0_h1 : k0_cond1 i = 1#1), ∀ a, (k0_off349 v7470) a + S1x8192.size a ≤ S8192x8192.size a)
theorem k0_off349_inb : ∀ (i : grid0.Coords) (v7470 : BitVec 32) (k0_hw349 : k0_chk349 i v7470), ∀ (k0_h1 : k0_cond1 i = 1#1), ∀ a, (k0_off349 v7470) a + S1x8192.size a ≤ S8192x8192.size a := fun i v7470 k0_hw349 k0_h1 => k0_hw349 k0_h1

def k0_off350 (v7476 : BitVec 32) : Fin 2 → Nat :=
  let c0_i32_4133 : BitVec 32 := 0#32
  ![v7476.toNat, 0]

def k0_chk350 (i : grid0.Coords) (v7476 : BitVec 32) : Prop :=
  (∀ (k0_h1 : k0_cond1 i = 1#1), ∀ a, (k0_off350 v7476) a + S1x8192.size a ≤ S8192x8192.size a)
theorem k0_off350_inb : ∀ (i : grid0.Coords) (v7476 : BitVec 32) (k0_hw350 : k0_chk350 i v7476), ∀ (k0_h1 : k0_cond1 i = 1#1), ∀ a, (k0_off350 v7476) a + S1x8192.size a ≤ S8192x8192.size a := fun i v7476 k0_hw350 k0_h1 => k0_hw350 k0_h1

def k0_off351 (v7482 : BitVec 32) : Fin 2 → Nat :=
  let c0_i32_4138 : BitVec 32 := 0#32
  ![v7482.toNat, 0]

def k0_chk351 (i : grid0.Coords) (v7482 : BitVec 32) : Prop :=
  (∀ (k0_h1 : k0_cond1 i = 1#1), ∀ a, (k0_off351 v7482) a + S1x8192.size a ≤ S8192x8192.size a)
theorem k0_off351_inb : ∀ (i : grid0.Coords) (v7482 : BitVec 32) (k0_hw351 : k0_chk351 i v7482), ∀ (k0_h1 : k0_cond1 i = 1#1), ∀ a, (k0_off351 v7482) a + S1x8192.size a ≤ S8192x8192.size a := fun i v7482 k0_hw351 k0_h1 => k0_hw351 k0_h1

def k0_off352 (v7488 : BitVec 32) : Fin 2 → Nat :=
  let c0_i32_4143 : BitVec 32 := 0#32
  ![v7488.toNat, 0]

def k0_chk352 (i : grid0.Coords) (v7488 : BitVec 32) : Prop :=
  (∀ (k0_h1 : k0_cond1 i = 1#1), ∀ a, (k0_off352 v7488) a + S1x8192.size a ≤ S8192x8192.size a)
theorem k0_off352_inb : ∀ (i : grid0.Coords) (v7488 : BitVec 32) (k0_hw352 : k0_chk352 i v7488), ∀ (k0_h1 : k0_cond1 i = 1#1), ∀ a, (k0_off352 v7488) a + S1x8192.size a ≤ S8192x8192.size a := fun i v7488 k0_hw352 k0_h1 => k0_hw352 k0_h1

def k0_off353 (v7494 : BitVec 32) : Fin 2 → Nat :=
  let c0_i32_4147 : BitVec 32 := 0#32
  ![v7494.toNat, 0]

def k0_chk353 (i : grid0.Coords) (v7494 : BitVec 32) : Prop :=
  (∀ (k0_h1 : k0_cond1 i = 1#1), ∀ a, (k0_off353 v7494) a + S1x8192.size a ≤ S8192x8192.size a)
theorem k0_off353_inb : ∀ (i : grid0.Coords) (v7494 : BitVec 32) (k0_hw353 : k0_chk353 i v7494), ∀ (k0_h1 : k0_cond1 i = 1#1), ∀ a, (k0_off353 v7494) a + S1x8192.size a ≤ S8192x8192.size a := fun i v7494 k0_hw353 k0_h1 => k0_hw353 k0_h1

def k0_off354 (v7500 : BitVec 32) : Fin 2 → Nat :=
  let c0_i32_4152 : BitVec 32 := 0#32
  ![v7500.toNat, 0]

def k0_chk354 (i : grid0.Coords) (v7500 : BitVec 32) : Prop :=
  (∀ (k0_h1 : k0_cond1 i = 1#1), ∀ a, (k0_off354 v7500) a + S1x8192.size a ≤ S8192x8192.size a)
theorem k0_off354_inb : ∀ (i : grid0.Coords) (v7500 : BitVec 32) (k0_hw354 : k0_chk354 i v7500), ∀ (k0_h1 : k0_cond1 i = 1#1), ∀ a, (k0_off354 v7500) a + S1x8192.size a ≤ S8192x8192.size a := fun i v7500 k0_hw354 k0_h1 => k0_hw354 k0_h1

def k0_off355 (v7506 : BitVec 32) : Fin 2 → Nat :=
  let c0_i32_4157 : BitVec 32 := 0#32
  ![v7506.toNat, 0]

def k0_chk355 (i : grid0.Coords) (v7506 : BitVec 32) : Prop :=
  (∀ (k0_h1 : k0_cond1 i = 1#1), ∀ a, (k0_off355 v7506) a + S1x8192.size a ≤ S8192x8192.size a)
theorem k0_off355_inb : ∀ (i : grid0.Coords) (v7506 : BitVec 32) (k0_hw355 : k0_chk355 i v7506), ∀ (k0_h1 : k0_cond1 i = 1#1), ∀ a, (k0_off355 v7506) a + S1x8192.size a ≤ S8192x8192.size a := fun i v7506 k0_hw355 k0_h1 => k0_hw355 k0_h1

def k0_off356 (v7512 : BitVec 32) : Fin 2 → Nat :=
  let c0_i32_4162 : BitVec 32 := 0#32
  ![v7512.toNat, 0]

def k0_chk356 (i : grid0.Coords) (v7512 : BitVec 32) : Prop :=
  (∀ (k0_h1 : k0_cond1 i = 1#1), ∀ a, (k0_off356 v7512) a + S1x8192.size a ≤ S8192x8192.size a)
theorem k0_off356_inb : ∀ (i : grid0.Coords) (v7512 : BitVec 32) (k0_hw356 : k0_chk356 i v7512), ∀ (k0_h1 : k0_cond1 i = 1#1), ∀ a, (k0_off356 v7512) a + S1x8192.size a ≤ S8192x8192.size a := fun i v7512 k0_hw356 k0_h1 => k0_hw356 k0_h1

def k0_off357 (v7518 : BitVec 32) : Fin 2 → Nat :=
  let c0_i32_4167 : BitVec 32 := 0#32
  ![v7518.toNat, 0]

def k0_chk357 (i : grid0.Coords) (v7518 : BitVec 32) : Prop :=
  (∀ (k0_h1 : k0_cond1 i = 1#1), ∀ a, (k0_off357 v7518) a + S1x8192.size a ≤ S8192x8192.size a)
theorem k0_off357_inb : ∀ (i : grid0.Coords) (v7518 : BitVec 32) (k0_hw357 : k0_chk357 i v7518), ∀ (k0_h1 : k0_cond1 i = 1#1), ∀ a, (k0_off357 v7518) a + S1x8192.size a ≤ S8192x8192.size a := fun i v7518 k0_hw357 k0_h1 => k0_hw357 k0_h1

def k0_off358 (v7524 : BitVec 32) : Fin 2 → Nat :=
  let c0_i32_4172 : BitVec 32 := 0#32
  ![v7524.toNat, 0]

def k0_chk358 (i : grid0.Coords) (v7524 : BitVec 32) : Prop :=
  (∀ (k0_h1 : k0_cond1 i = 1#1), ∀ a, (k0_off358 v7524) a + S1x8192.size a ≤ S8192x8192.size a)
theorem k0_off358_inb : ∀ (i : grid0.Coords) (v7524 : BitVec 32) (k0_hw358 : k0_chk358 i v7524), ∀ (k0_h1 : k0_cond1 i = 1#1), ∀ a, (k0_off358 v7524) a + S1x8192.size a ≤ S8192x8192.size a := fun i v7524 k0_hw358 k0_h1 => k0_hw358 k0_h1

def k0_off359 (v7530 : BitVec 32) : Fin 2 → Nat :=
  let c0_i32_4177 : BitVec 32 := 0#32
  ![v7530.toNat, 0]

def k0_chk359 (i : grid0.Coords) (v7530 : BitVec 32) : Prop :=
  (∀ (k0_h1 : k0_cond1 i = 1#1), ∀ a, (k0_off359 v7530) a + S1x8192.size a ≤ S8192x8192.size a)
theorem k0_off359_inb : ∀ (i : grid0.Coords) (v7530 : BitVec 32) (k0_hw359 : k0_chk359 i v7530), ∀ (k0_h1 : k0_cond1 i = 1#1), ∀ a, (k0_off359 v7530) a + S1x8192.size a ≤ S8192x8192.size a := fun i v7530 k0_hw359 k0_h1 => k0_hw359 k0_h1

def k0_off360 (v7536 : BitVec 32) : Fin 2 → Nat :=
  let c0_i32_4182 : BitVec 32 := 0#32
  ![v7536.toNat, 0]

def k0_chk360 (i : grid0.Coords) (v7536 : BitVec 32) : Prop :=
  (∀ (k0_h1 : k0_cond1 i = 1#1), ∀ a, (k0_off360 v7536) a + S1x8192.size a ≤ S8192x8192.size a)
theorem k0_off360_inb : ∀ (i : grid0.Coords) (v7536 : BitVec 32) (k0_hw360 : k0_chk360 i v7536), ∀ (k0_h1 : k0_cond1 i = 1#1), ∀ a, (k0_off360 v7536) a + S1x8192.size a ≤ S8192x8192.size a := fun i v7536 k0_hw360 k0_h1 => k0_hw360 k0_h1

def k0_off361 (v7542 : BitVec 32) : Fin 2 → Nat :=
  let c0_i32_4186 : BitVec 32 := 0#32
  ![v7542.toNat, 0]

def k0_chk361 (i : grid0.Coords) (v7542 : BitVec 32) : Prop :=
  (∀ (k0_h1 : k0_cond1 i = 1#1), ∀ a, (k0_off361 v7542) a + S1x8192.size a ≤ S8192x8192.size a)
theorem k0_off361_inb : ∀ (i : grid0.Coords) (v7542 : BitVec 32) (k0_hw361 : k0_chk361 i v7542), ∀ (k0_h1 : k0_cond1 i = 1#1), ∀ a, (k0_off361 v7542) a + S1x8192.size a ≤ S8192x8192.size a := fun i v7542 k0_hw361 k0_h1 => k0_hw361 k0_h1

def k0_off362 (v7548 : BitVec 32) : Fin 2 → Nat :=
  let c0_i32_4191 : BitVec 32 := 0#32
  ![v7548.toNat, 0]

def k0_chk362 (i : grid0.Coords) (v7548 : BitVec 32) : Prop :=
  (∀ (k0_h1 : k0_cond1 i = 1#1), ∀ a, (k0_off362 v7548) a + S1x8192.size a ≤ S8192x8192.size a)
theorem k0_off362_inb : ∀ (i : grid0.Coords) (v7548 : BitVec 32) (k0_hw362 : k0_chk362 i v7548), ∀ (k0_h1 : k0_cond1 i = 1#1), ∀ a, (k0_off362 v7548) a + S1x8192.size a ≤ S8192x8192.size a := fun i v7548 k0_hw362 k0_h1 => k0_hw362 k0_h1

def k0_off363 (v7554 : BitVec 32) : Fin 2 → Nat :=
  let c0_i32_4196 : BitVec 32 := 0#32
  ![v7554.toNat, 0]

def k0_chk363 (i : grid0.Coords) (v7554 : BitVec 32) : Prop :=
  (∀ (k0_h1 : k0_cond1 i = 1#1), ∀ a, (k0_off363 v7554) a + S1x8192.size a ≤ S8192x8192.size a)
theorem k0_off363_inb : ∀ (i : grid0.Coords) (v7554 : BitVec 32) (k0_hw363 : k0_chk363 i v7554), ∀ (k0_h1 : k0_cond1 i = 1#1), ∀ a, (k0_off363 v7554) a + S1x8192.size a ≤ S8192x8192.size a := fun i v7554 k0_hw363 k0_h1 => k0_hw363 k0_h1

def k0_off364 (v7560 : BitVec 32) : Fin 2 → Nat :=
  let c0_i32_4201 : BitVec 32 := 0#32
  ![v7560.toNat, 0]

def k0_chk364 (i : grid0.Coords) (v7560 : BitVec 32) : Prop :=
  (∀ (k0_h1 : k0_cond1 i = 1#1), ∀ a, (k0_off364 v7560) a + S1x8192.size a ≤ S8192x8192.size a)
theorem k0_off364_inb : ∀ (i : grid0.Coords) (v7560 : BitVec 32) (k0_hw364 : k0_chk364 i v7560), ∀ (k0_h1 : k0_cond1 i = 1#1), ∀ a, (k0_off364 v7560) a + S1x8192.size a ≤ S8192x8192.size a := fun i v7560 k0_hw364 k0_h1 => k0_hw364 k0_h1

def k0_off365 (v7566 : BitVec 32) : Fin 2 → Nat :=
  let c0_i32_4206 : BitVec 32 := 0#32
  ![v7566.toNat, 0]

def k0_chk365 (i : grid0.Coords) (v7566 : BitVec 32) : Prop :=
  (∀ (k0_h1 : k0_cond1 i = 1#1), ∀ a, (k0_off365 v7566) a + S1x8192.size a ≤ S8192x8192.size a)
theorem k0_off365_inb : ∀ (i : grid0.Coords) (v7566 : BitVec 32) (k0_hw365 : k0_chk365 i v7566), ∀ (k0_h1 : k0_cond1 i = 1#1), ∀ a, (k0_off365 v7566) a + S1x8192.size a ≤ S8192x8192.size a := fun i v7566 k0_hw365 k0_h1 => k0_hw365 k0_h1

def k0_off366 (v7572 : BitVec 32) : Fin 2 → Nat :=
  let c0_i32_4211 : BitVec 32 := 0#32
  ![v7572.toNat, 0]

def k0_chk366 (i : grid0.Coords) (v7572 : BitVec 32) : Prop :=
  (∀ (k0_h1 : k0_cond1 i = 1#1), ∀ a, (k0_off366 v7572) a + S1x8192.size a ≤ S8192x8192.size a)
theorem k0_off366_inb : ∀ (i : grid0.Coords) (v7572 : BitVec 32) (k0_hw366 : k0_chk366 i v7572), ∀ (k0_h1 : k0_cond1 i = 1#1), ∀ a, (k0_off366 v7572) a + S1x8192.size a ≤ S8192x8192.size a := fun i v7572 k0_hw366 k0_h1 => k0_hw366 k0_h1

def k0_off367 (v7578 : BitVec 32) : Fin 2 → Nat :=
  let c0_i32_4216 : BitVec 32 := 0#32
  ![v7578.toNat, 0]

def k0_chk367 (i : grid0.Coords) (v7578 : BitVec 32) : Prop :=
  (∀ (k0_h1 : k0_cond1 i = 1#1), ∀ a, (k0_off367 v7578) a + S1x8192.size a ≤ S8192x8192.size a)
theorem k0_off367_inb : ∀ (i : grid0.Coords) (v7578 : BitVec 32) (k0_hw367 : k0_chk367 i v7578), ∀ (k0_h1 : k0_cond1 i = 1#1), ∀ a, (k0_off367 v7578) a + S1x8192.size a ≤ S8192x8192.size a := fun i v7578 k0_hw367 k0_h1 => k0_hw367 k0_h1

def k0_off368 (v7584 : BitVec 32) : Fin 2 → Nat :=
  let c0_i32_4221 : BitVec 32 := 0#32
  ![v7584.toNat, 0]

def k0_chk368 (i : grid0.Coords) (v7584 : BitVec 32) : Prop :=
  (∀ (k0_h1 : k0_cond1 i = 1#1), ∀ a, (k0_off368 v7584) a + S1x8192.size a ≤ S8192x8192.size a)
theorem k0_off368_inb : ∀ (i : grid0.Coords) (v7584 : BitVec 32) (k0_hw368 : k0_chk368 i v7584), ∀ (k0_h1 : k0_cond1 i = 1#1), ∀ a, (k0_off368 v7584) a + S1x8192.size a ≤ S8192x8192.size a := fun i v7584 k0_hw368 k0_h1 => k0_hw368 k0_h1

def k0_off369 (v7590 : BitVec 32) : Fin 2 → Nat :=
  let c0_i32_4225 : BitVec 32 := 0#32
  ![v7590.toNat, 0]

def k0_chk369 (i : grid0.Coords) (v7590 : BitVec 32) : Prop :=
  (∀ (k0_h1 : k0_cond1 i = 1#1), ∀ a, (k0_off369 v7590) a + S1x8192.size a ≤ S8192x8192.size a)
theorem k0_off369_inb : ∀ (i : grid0.Coords) (v7590 : BitVec 32) (k0_hw369 : k0_chk369 i v7590), ∀ (k0_h1 : k0_cond1 i = 1#1), ∀ a, (k0_off369 v7590) a + S1x8192.size a ≤ S8192x8192.size a := fun i v7590 k0_hw369 k0_h1 => k0_hw369 k0_h1

def k0_off370 (v7596 : BitVec 32) : Fin 2 → Nat :=
  let c0_i32_4230 : BitVec 32 := 0#32
  ![v7596.toNat, 0]

def k0_chk370 (i : grid0.Coords) (v7596 : BitVec 32) : Prop :=
  (∀ (k0_h1 : k0_cond1 i = 1#1), ∀ a, (k0_off370 v7596) a + S1x8192.size a ≤ S8192x8192.size a)
theorem k0_off370_inb : ∀ (i : grid0.Coords) (v7596 : BitVec 32) (k0_hw370 : k0_chk370 i v7596), ∀ (k0_h1 : k0_cond1 i = 1#1), ∀ a, (k0_off370 v7596) a + S1x8192.size a ≤ S8192x8192.size a := fun i v7596 k0_hw370 k0_h1 => k0_hw370 k0_h1

def k0_off371 (v7602 : BitVec 32) : Fin 2 → Nat :=
  let c0_i32_4235 : BitVec 32 := 0#32
  ![v7602.toNat, 0]

def k0_chk371 (i : grid0.Coords) (v7602 : BitVec 32) : Prop :=
  (∀ (k0_h1 : k0_cond1 i = 1#1), ∀ a, (k0_off371 v7602) a + S1x8192.size a ≤ S8192x8192.size a)
theorem k0_off371_inb : ∀ (i : grid0.Coords) (v7602 : BitVec 32) (k0_hw371 : k0_chk371 i v7602), ∀ (k0_h1 : k0_cond1 i = 1#1), ∀ a, (k0_off371 v7602) a + S1x8192.size a ≤ S8192x8192.size a := fun i v7602 k0_hw371 k0_h1 => k0_hw371 k0_h1

def k0_off372 (v7608 : BitVec 32) : Fin 2 → Nat :=
  let c0_i32_4240 : BitVec 32 := 0#32
  ![v7608.toNat, 0]

def k0_chk372 (i : grid0.Coords) (v7608 : BitVec 32) : Prop :=
  (∀ (k0_h1 : k0_cond1 i = 1#1), ∀ a, (k0_off372 v7608) a + S1x8192.size a ≤ S8192x8192.size a)
theorem k0_off372_inb : ∀ (i : grid0.Coords) (v7608 : BitVec 32) (k0_hw372 : k0_chk372 i v7608), ∀ (k0_h1 : k0_cond1 i = 1#1), ∀ a, (k0_off372 v7608) a + S1x8192.size a ≤ S8192x8192.size a := fun i v7608 k0_hw372 k0_h1 => k0_hw372 k0_h1

def k0_off373 (v7614 : BitVec 32) : Fin 2 → Nat :=
  let c0_i32_4245 : BitVec 32 := 0#32
  ![v7614.toNat, 0]

def k0_chk373 (i : grid0.Coords) (v7614 : BitVec 32) : Prop :=
  (∀ (k0_h1 : k0_cond1 i = 1#1), ∀ a, (k0_off373 v7614) a + S1x8192.size a ≤ S8192x8192.size a)
theorem k0_off373_inb : ∀ (i : grid0.Coords) (v7614 : BitVec 32) (k0_hw373 : k0_chk373 i v7614), ∀ (k0_h1 : k0_cond1 i = 1#1), ∀ a, (k0_off373 v7614) a + S1x8192.size a ≤ S8192x8192.size a := fun i v7614 k0_hw373 k0_h1 => k0_hw373 k0_h1

def k0_off374 (v7620 : BitVec 32) : Fin 2 → Nat :=
  let c0_i32_4250 : BitVec 32 := 0#32
  ![v7620.toNat, 0]

def k0_chk374 (i : grid0.Coords) (v7620 : BitVec 32) : Prop :=
  (∀ (k0_h1 : k0_cond1 i = 1#1), ∀ a, (k0_off374 v7620) a + S1x8192.size a ≤ S8192x8192.size a)
theorem k0_off374_inb : ∀ (i : grid0.Coords) (v7620 : BitVec 32) (k0_hw374 : k0_chk374 i v7620), ∀ (k0_h1 : k0_cond1 i = 1#1), ∀ a, (k0_off374 v7620) a + S1x8192.size a ≤ S8192x8192.size a := fun i v7620 k0_hw374 k0_h1 => k0_hw374 k0_h1

def k0_off375 (v7626 : BitVec 32) : Fin 2 → Nat :=
  let c0_i32_4255 : BitVec 32 := 0#32
  ![v7626.toNat, 0]

def k0_chk375 (i : grid0.Coords) (v7626 : BitVec 32) : Prop :=
  (∀ (k0_h1 : k0_cond1 i = 1#1), ∀ a, (k0_off375 v7626) a + S1x8192.size a ≤ S8192x8192.size a)
theorem k0_off375_inb : ∀ (i : grid0.Coords) (v7626 : BitVec 32) (k0_hw375 : k0_chk375 i v7626), ∀ (k0_h1 : k0_cond1 i = 1#1), ∀ a, (k0_off375 v7626) a + S1x8192.size a ≤ S8192x8192.size a := fun i v7626 k0_hw375 k0_h1 => k0_hw375 k0_h1

def k0_off376 (v7632 : BitVec 32) : Fin 2 → Nat :=
  let c0_i32_4260 : BitVec 32 := 0#32
  ![v7632.toNat, 0]

def k0_chk376 (i : grid0.Coords) (v7632 : BitVec 32) : Prop :=
  (∀ (k0_h1 : k0_cond1 i = 1#1), ∀ a, (k0_off376 v7632) a + S1x8192.size a ≤ S8192x8192.size a)
theorem k0_off376_inb : ∀ (i : grid0.Coords) (v7632 : BitVec 32) (k0_hw376 : k0_chk376 i v7632), ∀ (k0_h1 : k0_cond1 i = 1#1), ∀ a, (k0_off376 v7632) a + S1x8192.size a ≤ S8192x8192.size a := fun i v7632 k0_hw376 k0_h1 => k0_hw376 k0_h1

def k0_off377 (v7638 : BitVec 32) : Fin 2 → Nat :=
  let c0_i32_4264 : BitVec 32 := 0#32
  ![v7638.toNat, 0]

def k0_chk377 (i : grid0.Coords) (v7638 : BitVec 32) : Prop :=
  (∀ (k0_h1 : k0_cond1 i = 1#1), ∀ a, (k0_off377 v7638) a + S1x8192.size a ≤ S8192x8192.size a)
theorem k0_off377_inb : ∀ (i : grid0.Coords) (v7638 : BitVec 32) (k0_hw377 : k0_chk377 i v7638), ∀ (k0_h1 : k0_cond1 i = 1#1), ∀ a, (k0_off377 v7638) a + S1x8192.size a ≤ S8192x8192.size a := fun i v7638 k0_hw377 k0_h1 => k0_hw377 k0_h1

def k0_off378 (v7644 : BitVec 32) : Fin 2 → Nat :=
  let c0_i32_4269 : BitVec 32 := 0#32
  ![v7644.toNat, 0]

def k0_chk378 (i : grid0.Coords) (v7644 : BitVec 32) : Prop :=
  (∀ (k0_h1 : k0_cond1 i = 1#1), ∀ a, (k0_off378 v7644) a + S1x8192.size a ≤ S8192x8192.size a)
theorem k0_off378_inb : ∀ (i : grid0.Coords) (v7644 : BitVec 32) (k0_hw378 : k0_chk378 i v7644), ∀ (k0_h1 : k0_cond1 i = 1#1), ∀ a, (k0_off378 v7644) a + S1x8192.size a ≤ S8192x8192.size a := fun i v7644 k0_hw378 k0_h1 => k0_hw378 k0_h1

def k0_off379 (v7650 : BitVec 32) : Fin 2 → Nat :=
  let c0_i32_4274 : BitVec 32 := 0#32
  ![v7650.toNat, 0]

def k0_chk379 (i : grid0.Coords) (v7650 : BitVec 32) : Prop :=
  (∀ (k0_h1 : k0_cond1 i = 1#1), ∀ a, (k0_off379 v7650) a + S1x8192.size a ≤ S8192x8192.size a)
theorem k0_off379_inb : ∀ (i : grid0.Coords) (v7650 : BitVec 32) (k0_hw379 : k0_chk379 i v7650), ∀ (k0_h1 : k0_cond1 i = 1#1), ∀ a, (k0_off379 v7650) a + S1x8192.size a ≤ S8192x8192.size a := fun i v7650 k0_hw379 k0_h1 => k0_hw379 k0_h1

def k0_off380 (v7656 : BitVec 32) : Fin 2 → Nat :=
  let c0_i32_4279 : BitVec 32 := 0#32
  ![v7656.toNat, 0]

def k0_chk380 (i : grid0.Coords) (v7656 : BitVec 32) : Prop :=
  (∀ (k0_h1 : k0_cond1 i = 1#1), ∀ a, (k0_off380 v7656) a + S1x8192.size a ≤ S8192x8192.size a)
theorem k0_off380_inb : ∀ (i : grid0.Coords) (v7656 : BitVec 32) (k0_hw380 : k0_chk380 i v7656), ∀ (k0_h1 : k0_cond1 i = 1#1), ∀ a, (k0_off380 v7656) a + S1x8192.size a ≤ S8192x8192.size a := fun i v7656 k0_hw380 k0_h1 => k0_hw380 k0_h1

def k0_off381 (v7662 : BitVec 32) : Fin 2 → Nat :=
  let c0_i32_4284 : BitVec 32 := 0#32
  ![v7662.toNat, 0]

def k0_chk381 (i : grid0.Coords) (v7662 : BitVec 32) : Prop :=
  (∀ (k0_h1 : k0_cond1 i = 1#1), ∀ a, (k0_off381 v7662) a + S1x8192.size a ≤ S8192x8192.size a)
theorem k0_off381_inb : ∀ (i : grid0.Coords) (v7662 : BitVec 32) (k0_hw381 : k0_chk381 i v7662), ∀ (k0_h1 : k0_cond1 i = 1#1), ∀ a, (k0_off381 v7662) a + S1x8192.size a ≤ S8192x8192.size a := fun i v7662 k0_hw381 k0_h1 => k0_hw381 k0_h1

def k0_off382 (v7668 : BitVec 32) : Fin 2 → Nat :=
  let c0_i32_4289 : BitVec 32 := 0#32
  ![v7668.toNat, 0]

def k0_chk382 (i : grid0.Coords) (v7668 : BitVec 32) : Prop :=
  (∀ (k0_h1 : k0_cond1 i = 1#1), ∀ a, (k0_off382 v7668) a + S1x8192.size a ≤ S8192x8192.size a)
theorem k0_off382_inb : ∀ (i : grid0.Coords) (v7668 : BitVec 32) (k0_hw382 : k0_chk382 i v7668), ∀ (k0_h1 : k0_cond1 i = 1#1), ∀ a, (k0_off382 v7668) a + S1x8192.size a ≤ S8192x8192.size a := fun i v7668 k0_hw382 k0_h1 => k0_hw382 k0_h1

def k0_off383 (v7674 : BitVec 32) : Fin 2 → Nat :=
  let c0_i32_4294 : BitVec 32 := 0#32
  ![v7674.toNat, 0]

def k0_chk383 (i : grid0.Coords) (v7674 : BitVec 32) : Prop :=
  (∀ (k0_h1 : k0_cond1 i = 1#1), ∀ a, (k0_off383 v7674) a + S1x8192.size a ≤ S8192x8192.size a)
theorem k0_off383_inb : ∀ (i : grid0.Coords) (v7674 : BitVec 32) (k0_hw383 : k0_chk383 i v7674), ∀ (k0_h1 : k0_cond1 i = 1#1), ∀ a, (k0_off383 v7674) a + S1x8192.size a ≤ S8192x8192.size a := fun i v7674 k0_hw383 k0_h1 => k0_hw383 k0_h1

def k0_off384 (v7680 : BitVec 32) : Fin 2 → Nat :=
  let c0_i32_4299 : BitVec 32 := 0#32
  ![v7680.toNat, 0]

def k0_chk384 (i : grid0.Coords) (v7680 : BitVec 32) : Prop :=
  (∀ (k0_h1 : k0_cond1 i = 1#1), ∀ a, (k0_off384 v7680) a + S1x8192.size a ≤ S8192x8192.size a)
theorem k0_off384_inb : ∀ (i : grid0.Coords) (v7680 : BitVec 32) (k0_hw384 : k0_chk384 i v7680), ∀ (k0_h1 : k0_cond1 i = 1#1), ∀ a, (k0_off384 v7680) a + S1x8192.size a ≤ S8192x8192.size a := fun i v7680 k0_hw384 k0_h1 => k0_hw384 k0_h1

def k0_off385 (v7686 : BitVec 32) : Fin 2 → Nat :=
  let c0_i32_4304 : BitVec 32 := 0#32
  ![v7686.toNat, 0]

def k0_chk385 (i : grid0.Coords) (v7686 : BitVec 32) : Prop :=
  (∀ (k0_h1 : k0_cond1 i = 1#1), ∀ a, (k0_off385 v7686) a + S1x8192.size a ≤ S8192x8192.size a)
theorem k0_off385_inb : ∀ (i : grid0.Coords) (v7686 : BitVec 32) (k0_hw385 : k0_chk385 i v7686), ∀ (k0_h1 : k0_cond1 i = 1#1), ∀ a, (k0_off385 v7686) a + S1x8192.size a ≤ S8192x8192.size a := fun i v7686 k0_hw385 k0_h1 => k0_hw385 k0_h1

def k0_off386 (v7692 : BitVec 32) : Fin 2 → Nat :=
  let c0_i32_4309 : BitVec 32 := 0#32
  ![v7692.toNat, 0]

def k0_chk386 (i : grid0.Coords) (v7692 : BitVec 32) : Prop :=
  (∀ (k0_h1 : k0_cond1 i = 1#1), ∀ a, (k0_off386 v7692) a + S1x8192.size a ≤ S8192x8192.size a)
theorem k0_off386_inb : ∀ (i : grid0.Coords) (v7692 : BitVec 32) (k0_hw386 : k0_chk386 i v7692), ∀ (k0_h1 : k0_cond1 i = 1#1), ∀ a, (k0_off386 v7692) a + S1x8192.size a ≤ S8192x8192.size a := fun i v7692 k0_hw386 k0_h1 => k0_hw386 k0_h1

def k0_off387 (v7698 : BitVec 32) : Fin 2 → Nat :=
  let c0_i32_4314 : BitVec 32 := 0#32
  ![v7698.toNat, 0]

def k0_chk387 (i : grid0.Coords) (v7698 : BitVec 32) : Prop :=
  (∀ (k0_h1 : k0_cond1 i = 1#1), ∀ a, (k0_off387 v7698) a + S1x8192.size a ≤ S8192x8192.size a)
theorem k0_off387_inb : ∀ (i : grid0.Coords) (v7698 : BitVec 32) (k0_hw387 : k0_chk387 i v7698), ∀ (k0_h1 : k0_cond1 i = 1#1), ∀ a, (k0_off387 v7698) a + S1x8192.size a ≤ S8192x8192.size a := fun i v7698 k0_hw387 k0_h1 => k0_hw387 k0_h1

def k0_off388 (v7704 : BitVec 32) : Fin 2 → Nat :=
  let c0_i32_4319 : BitVec 32 := 0#32
  ![v7704.toNat, 0]

def k0_chk388 (i : grid0.Coords) (v7704 : BitVec 32) : Prop :=
  (∀ (k0_h1 : k0_cond1 i = 1#1), ∀ a, (k0_off388 v7704) a + S1x8192.size a ≤ S8192x8192.size a)
theorem k0_off388_inb : ∀ (i : grid0.Coords) (v7704 : BitVec 32) (k0_hw388 : k0_chk388 i v7704), ∀ (k0_h1 : k0_cond1 i = 1#1), ∀ a, (k0_off388 v7704) a + S1x8192.size a ≤ S8192x8192.size a := fun i v7704 k0_hw388 k0_h1 => k0_hw388 k0_h1

def k0_off389 (v7710 : BitVec 32) : Fin 2 → Nat :=
  let c0_i32_4324 : BitVec 32 := 0#32
  ![v7710.toNat, 0]

def k0_chk389 (i : grid0.Coords) (v7710 : BitVec 32) : Prop :=
  (∀ (k0_h1 : k0_cond1 i = 1#1), ∀ a, (k0_off389 v7710) a + S1x8192.size a ≤ S8192x8192.size a)
theorem k0_off389_inb : ∀ (i : grid0.Coords) (v7710 : BitVec 32) (k0_hw389 : k0_chk389 i v7710), ∀ (k0_h1 : k0_cond1 i = 1#1), ∀ a, (k0_off389 v7710) a + S1x8192.size a ≤ S8192x8192.size a := fun i v7710 k0_hw389 k0_h1 => k0_hw389 k0_h1

def k0_off390 (v7716 : BitVec 32) : Fin 2 → Nat :=
  let c0_i32_4329 : BitVec 32 := 0#32
  ![v7716.toNat, 0]

def k0_chk390 (i : grid0.Coords) (v7716 : BitVec 32) : Prop :=
  (∀ (k0_h1 : k0_cond1 i = 1#1), ∀ a, (k0_off390 v7716) a + S1x8192.size a ≤ S8192x8192.size a)
theorem k0_off390_inb : ∀ (i : grid0.Coords) (v7716 : BitVec 32) (k0_hw390 : k0_chk390 i v7716), ∀ (k0_h1 : k0_cond1 i = 1#1), ∀ a, (k0_off390 v7716) a + S1x8192.size a ≤ S8192x8192.size a := fun i v7716 k0_hw390 k0_h1 => k0_hw390 k0_h1

def k0_off391 (v7722 : BitVec 32) : Fin 2 → Nat :=
  let c0_i32_4334 : BitVec 32 := 0#32
  ![v7722.toNat, 0]

def k0_chk391 (i : grid0.Coords) (v7722 : BitVec 32) : Prop :=
  (∀ (k0_h1 : k0_cond1 i = 1#1), ∀ a, (k0_off391 v7722) a + S1x8192.size a ≤ S8192x8192.size a)
theorem k0_off391_inb : ∀ (i : grid0.Coords) (v7722 : BitVec 32) (k0_hw391 : k0_chk391 i v7722), ∀ (k0_h1 : k0_cond1 i = 1#1), ∀ a, (k0_off391 v7722) a + S1x8192.size a ≤ S8192x8192.size a := fun i v7722 k0_hw391 k0_h1 => k0_hw391 k0_h1

def k0_off392 (v7728 : BitVec 32) : Fin 2 → Nat :=
  let c0_i32_4339 : BitVec 32 := 0#32
  ![v7728.toNat, 0]

def k0_chk392 (i : grid0.Coords) (v7728 : BitVec 32) : Prop :=
  (∀ (k0_h1 : k0_cond1 i = 1#1), ∀ a, (k0_off392 v7728) a + S1x8192.size a ≤ S8192x8192.size a)
theorem k0_off392_inb : ∀ (i : grid0.Coords) (v7728 : BitVec 32) (k0_hw392 : k0_chk392 i v7728), ∀ (k0_h1 : k0_cond1 i = 1#1), ∀ a, (k0_off392 v7728) a + S1x8192.size a ≤ S8192x8192.size a := fun i v7728 k0_hw392 k0_h1 => k0_hw392 k0_h1

def k0_off393 (v7734 : BitVec 32) : Fin 2 → Nat :=
  let c0_i32_4343 : BitVec 32 := 0#32
  ![v7734.toNat, 0]

def k0_chk393 (i : grid0.Coords) (v7734 : BitVec 32) : Prop :=
  (∀ (k0_h1 : k0_cond1 i = 1#1), ∀ a, (k0_off393 v7734) a + S1x8192.size a ≤ S8192x8192.size a)
theorem k0_off393_inb : ∀ (i : grid0.Coords) (v7734 : BitVec 32) (k0_hw393 : k0_chk393 i v7734), ∀ (k0_h1 : k0_cond1 i = 1#1), ∀ a, (k0_off393 v7734) a + S1x8192.size a ≤ S8192x8192.size a := fun i v7734 k0_hw393 k0_h1 => k0_hw393 k0_h1

def k0_off394 (v7740 : BitVec 32) : Fin 2 → Nat :=
  let c0_i32_4348 : BitVec 32 := 0#32
  ![v7740.toNat, 0]

def k0_chk394 (i : grid0.Coords) (v7740 : BitVec 32) : Prop :=
  (∀ (k0_h1 : k0_cond1 i = 1#1), ∀ a, (k0_off394 v7740) a + S1x8192.size a ≤ S8192x8192.size a)
theorem k0_off394_inb : ∀ (i : grid0.Coords) (v7740 : BitVec 32) (k0_hw394 : k0_chk394 i v7740), ∀ (k0_h1 : k0_cond1 i = 1#1), ∀ a, (k0_off394 v7740) a + S1x8192.size a ≤ S8192x8192.size a := fun i v7740 k0_hw394 k0_h1 => k0_hw394 k0_h1

def k0_off395 (v7746 : BitVec 32) : Fin 2 → Nat :=
  let c0_i32_4353 : BitVec 32 := 0#32
  ![v7746.toNat, 0]

def k0_chk395 (i : grid0.Coords) (v7746 : BitVec 32) : Prop :=
  (∀ (k0_h1 : k0_cond1 i = 1#1), ∀ a, (k0_off395 v7746) a + S1x8192.size a ≤ S8192x8192.size a)
theorem k0_off395_inb : ∀ (i : grid0.Coords) (v7746 : BitVec 32) (k0_hw395 : k0_chk395 i v7746), ∀ (k0_h1 : k0_cond1 i = 1#1), ∀ a, (k0_off395 v7746) a + S1x8192.size a ≤ S8192x8192.size a := fun i v7746 k0_hw395 k0_h1 => k0_hw395 k0_h1

def k0_off396 (v7752 : BitVec 32) : Fin 2 → Nat :=
  let c0_i32_4358 : BitVec 32 := 0#32
  ![v7752.toNat, 0]

def k0_chk396 (i : grid0.Coords) (v7752 : BitVec 32) : Prop :=
  (∀ (k0_h1 : k0_cond1 i = 1#1), ∀ a, (k0_off396 v7752) a + S1x8192.size a ≤ S8192x8192.size a)
theorem k0_off396_inb : ∀ (i : grid0.Coords) (v7752 : BitVec 32) (k0_hw396 : k0_chk396 i v7752), ∀ (k0_h1 : k0_cond1 i = 1#1), ∀ a, (k0_off396 v7752) a + S1x8192.size a ≤ S8192x8192.size a := fun i v7752 k0_hw396 k0_h1 => k0_hw396 k0_h1

def k0_off397 (v7758 : BitVec 32) : Fin 2 → Nat :=
  let c0_i32_4363 : BitVec 32 := 0#32
  ![v7758.toNat, 0]

def k0_chk397 (i : grid0.Coords) (v7758 : BitVec 32) : Prop :=
  (∀ (k0_h1 : k0_cond1 i = 1#1), ∀ a, (k0_off397 v7758) a + S1x8192.size a ≤ S8192x8192.size a)
theorem k0_off397_inb : ∀ (i : grid0.Coords) (v7758 : BitVec 32) (k0_hw397 : k0_chk397 i v7758), ∀ (k0_h1 : k0_cond1 i = 1#1), ∀ a, (k0_off397 v7758) a + S1x8192.size a ≤ S8192x8192.size a := fun i v7758 k0_hw397 k0_h1 => k0_hw397 k0_h1

def k0_off398 (v7764 : BitVec 32) : Fin 2 → Nat :=
  let c0_i32_4368 : BitVec 32 := 0#32
  ![v7764.toNat, 0]

def k0_chk398 (i : grid0.Coords) (v7764 : BitVec 32) : Prop :=
  (∀ (k0_h1 : k0_cond1 i = 1#1), ∀ a, (k0_off398 v7764) a + S1x8192.size a ≤ S8192x8192.size a)
theorem k0_off398_inb : ∀ (i : grid0.Coords) (v7764 : BitVec 32) (k0_hw398 : k0_chk398 i v7764), ∀ (k0_h1 : k0_cond1 i = 1#1), ∀ a, (k0_off398 v7764) a + S1x8192.size a ≤ S8192x8192.size a := fun i v7764 k0_hw398 k0_h1 => k0_hw398 k0_h1

def k0_off399 (v7770 : BitVec 32) : Fin 2 → Nat :=
  let c0_i32_4373 : BitVec 32 := 0#32
  ![v7770.toNat, 0]

def k0_chk399 (i : grid0.Coords) (v7770 : BitVec 32) : Prop :=
  (∀ (k0_h1 : k0_cond1 i = 1#1), ∀ a, (k0_off399 v7770) a + S1x8192.size a ≤ S8192x8192.size a)
theorem k0_off399_inb : ∀ (i : grid0.Coords) (v7770 : BitVec 32) (k0_hw399 : k0_chk399 i v7770), ∀ (k0_h1 : k0_cond1 i = 1#1), ∀ a, (k0_off399 v7770) a + S1x8192.size a ≤ S8192x8192.size a := fun i v7770 k0_hw399 k0_h1 => k0_hw399 k0_h1

def k0_off400 (v7776 : BitVec 32) : Fin 2 → Nat :=
  let c0_i32_4378 : BitVec 32 := 0#32
  ![v7776.toNat, 0]

def k0_chk400 (i : grid0.Coords) (v7776 : BitVec 32) : Prop :=
  (∀ (k0_h1 : k0_cond1 i = 1#1), ∀ a, (k0_off400 v7776) a + S1x8192.size a ≤ S8192x8192.size a)
theorem k0_off400_inb : ∀ (i : grid0.Coords) (v7776 : BitVec 32) (k0_hw400 : k0_chk400 i v7776), ∀ (k0_h1 : k0_cond1 i = 1#1), ∀ a, (k0_off400 v7776) a + S1x8192.size a ≤ S8192x8192.size a := fun i v7776 k0_hw400 k0_h1 => k0_hw400 k0_h1

def k0_off401 (v7782 : BitVec 32) : Fin 2 → Nat :=
  let c0_i32_4382 : BitVec 32 := 0#32
  ![v7782.toNat, 0]

def k0_chk401 (i : grid0.Coords) (v7782 : BitVec 32) : Prop :=
  (∀ (k0_h1 : k0_cond1 i = 1#1), ∀ a, (k0_off401 v7782) a + S1x8192.size a ≤ S8192x8192.size a)
theorem k0_off401_inb : ∀ (i : grid0.Coords) (v7782 : BitVec 32) (k0_hw401 : k0_chk401 i v7782), ∀ (k0_h1 : k0_cond1 i = 1#1), ∀ a, (k0_off401 v7782) a + S1x8192.size a ≤ S8192x8192.size a := fun i v7782 k0_hw401 k0_h1 => k0_hw401 k0_h1

def k0_off402 (v7788 : BitVec 32) : Fin 2 → Nat :=
  let c0_i32_4387 : BitVec 32 := 0#32
  ![v7788.toNat, 0]

def k0_chk402 (i : grid0.Coords) (v7788 : BitVec 32) : Prop :=
  (∀ (k0_h1 : k0_cond1 i = 1#1), ∀ a, (k0_off402 v7788) a + S1x8192.size a ≤ S8192x8192.size a)
theorem k0_off402_inb : ∀ (i : grid0.Coords) (v7788 : BitVec 32) (k0_hw402 : k0_chk402 i v7788), ∀ (k0_h1 : k0_cond1 i = 1#1), ∀ a, (k0_off402 v7788) a + S1x8192.size a ≤ S8192x8192.size a := fun i v7788 k0_hw402 k0_h1 => k0_hw402 k0_h1

def k0_off403 (v7794 : BitVec 32) : Fin 2 → Nat :=
  let c0_i32_4392 : BitVec 32 := 0#32
  ![v7794.toNat, 0]

def k0_chk403 (i : grid0.Coords) (v7794 : BitVec 32) : Prop :=
  (∀ (k0_h1 : k0_cond1 i = 1#1), ∀ a, (k0_off403 v7794) a + S1x8192.size a ≤ S8192x8192.size a)
theorem k0_off403_inb : ∀ (i : grid0.Coords) (v7794 : BitVec 32) (k0_hw403 : k0_chk403 i v7794), ∀ (k0_h1 : k0_cond1 i = 1#1), ∀ a, (k0_off403 v7794) a + S1x8192.size a ≤ S8192x8192.size a := fun i v7794 k0_hw403 k0_h1 => k0_hw403 k0_h1

def k0_off404 (v7800 : BitVec 32) : Fin 2 → Nat :=
  let c0_i32_4397 : BitVec 32 := 0#32
  ![v7800.toNat, 0]

def k0_chk404 (i : grid0.Coords) (v7800 : BitVec 32) : Prop :=
  (∀ (k0_h1 : k0_cond1 i = 1#1), ∀ a, (k0_off404 v7800) a + S1x8192.size a ≤ S8192x8192.size a)
theorem k0_off404_inb : ∀ (i : grid0.Coords) (v7800 : BitVec 32) (k0_hw404 : k0_chk404 i v7800), ∀ (k0_h1 : k0_cond1 i = 1#1), ∀ a, (k0_off404 v7800) a + S1x8192.size a ≤ S8192x8192.size a := fun i v7800 k0_hw404 k0_h1 => k0_hw404 k0_h1

def k0_off405 (v7806 : BitVec 32) : Fin 2 → Nat :=
  let c0_i32_4402 : BitVec 32 := 0#32
  ![v7806.toNat, 0]

def k0_chk405 (i : grid0.Coords) (v7806 : BitVec 32) : Prop :=
  (∀ (k0_h1 : k0_cond1 i = 1#1), ∀ a, (k0_off405 v7806) a + S1x8192.size a ≤ S8192x8192.size a)
theorem k0_off405_inb : ∀ (i : grid0.Coords) (v7806 : BitVec 32) (k0_hw405 : k0_chk405 i v7806), ∀ (k0_h1 : k0_cond1 i = 1#1), ∀ a, (k0_off405 v7806) a + S1x8192.size a ≤ S8192x8192.size a := fun i v7806 k0_hw405 k0_h1 => k0_hw405 k0_h1

def k0_off406 (v7812 : BitVec 32) : Fin 2 → Nat :=
  let c0_i32_4407 : BitVec 32 := 0#32
  ![v7812.toNat, 0]

def k0_chk406 (i : grid0.Coords) (v7812 : BitVec 32) : Prop :=
  (∀ (k0_h1 : k0_cond1 i = 1#1), ∀ a, (k0_off406 v7812) a + S1x8192.size a ≤ S8192x8192.size a)
theorem k0_off406_inb : ∀ (i : grid0.Coords) (v7812 : BitVec 32) (k0_hw406 : k0_chk406 i v7812), ∀ (k0_h1 : k0_cond1 i = 1#1), ∀ a, (k0_off406 v7812) a + S1x8192.size a ≤ S8192x8192.size a := fun i v7812 k0_hw406 k0_h1 => k0_hw406 k0_h1

def k0_off407 (v7818 : BitVec 32) : Fin 2 → Nat :=
  let c0_i32_4412 : BitVec 32 := 0#32
  ![v7818.toNat, 0]

def k0_chk407 (i : grid0.Coords) (v7818 : BitVec 32) : Prop :=
  (∀ (k0_h1 : k0_cond1 i = 1#1), ∀ a, (k0_off407 v7818) a + S1x8192.size a ≤ S8192x8192.size a)
theorem k0_off407_inb : ∀ (i : grid0.Coords) (v7818 : BitVec 32) (k0_hw407 : k0_chk407 i v7818), ∀ (k0_h1 : k0_cond1 i = 1#1), ∀ a, (k0_off407 v7818) a + S1x8192.size a ≤ S8192x8192.size a := fun i v7818 k0_hw407 k0_h1 => k0_hw407 k0_h1

def k0_off408 (v7824 : BitVec 32) : Fin 2 → Nat :=
  let c0_i32_4417 : BitVec 32 := 0#32
  ![v7824.toNat, 0]

def k0_chk408 (i : grid0.Coords) (v7824 : BitVec 32) : Prop :=
  (∀ (k0_h1 : k0_cond1 i = 1#1), ∀ a, (k0_off408 v7824) a + S1x8192.size a ≤ S8192x8192.size a)
theorem k0_off408_inb : ∀ (i : grid0.Coords) (v7824 : BitVec 32) (k0_hw408 : k0_chk408 i v7824), ∀ (k0_h1 : k0_cond1 i = 1#1), ∀ a, (k0_off408 v7824) a + S1x8192.size a ≤ S8192x8192.size a := fun i v7824 k0_hw408 k0_h1 => k0_hw408 k0_h1

def k0_off409 (v7830 : BitVec 32) : Fin 2 → Nat :=
  let c0_i32_4421 : BitVec 32 := 0#32
  ![v7830.toNat, 0]

def k0_chk409 (i : grid0.Coords) (v7830 : BitVec 32) : Prop :=
  (∀ (k0_h1 : k0_cond1 i = 1#1), ∀ a, (k0_off409 v7830) a + S1x8192.size a ≤ S8192x8192.size a)
theorem k0_off409_inb : ∀ (i : grid0.Coords) (v7830 : BitVec 32) (k0_hw409 : k0_chk409 i v7830), ∀ (k0_h1 : k0_cond1 i = 1#1), ∀ a, (k0_off409 v7830) a + S1x8192.size a ≤ S8192x8192.size a := fun i v7830 k0_hw409 k0_h1 => k0_hw409 k0_h1

def k0_off410 (v7836 : BitVec 32) : Fin 2 → Nat :=
  let c0_i32_4426 : BitVec 32 := 0#32
  ![v7836.toNat, 0]

def k0_chk410 (i : grid0.Coords) (v7836 : BitVec 32) : Prop :=
  (∀ (k0_h1 : k0_cond1 i = 1#1), ∀ a, (k0_off410 v7836) a + S1x8192.size a ≤ S8192x8192.size a)
theorem k0_off410_inb : ∀ (i : grid0.Coords) (v7836 : BitVec 32) (k0_hw410 : k0_chk410 i v7836), ∀ (k0_h1 : k0_cond1 i = 1#1), ∀ a, (k0_off410 v7836) a + S1x8192.size a ≤ S8192x8192.size a := fun i v7836 k0_hw410 k0_h1 => k0_hw410 k0_h1

def k0_off411 (v7842 : BitVec 32) : Fin 2 → Nat :=
  let c0_i32_4431 : BitVec 32 := 0#32
  ![v7842.toNat, 0]

def k0_chk411 (i : grid0.Coords) (v7842 : BitVec 32) : Prop :=
  (∀ (k0_h1 : k0_cond1 i = 1#1), ∀ a, (k0_off411 v7842) a + S1x8192.size a ≤ S8192x8192.size a)
theorem k0_off411_inb : ∀ (i : grid0.Coords) (v7842 : BitVec 32) (k0_hw411 : k0_chk411 i v7842), ∀ (k0_h1 : k0_cond1 i = 1#1), ∀ a, (k0_off411 v7842) a + S1x8192.size a ≤ S8192x8192.size a := fun i v7842 k0_hw411 k0_h1 => k0_hw411 k0_h1

def k0_off412 (v7848 : BitVec 32) : Fin 2 → Nat :=
  let c0_i32_4436 : BitVec 32 := 0#32
  ![v7848.toNat, 0]

def k0_chk412 (i : grid0.Coords) (v7848 : BitVec 32) : Prop :=
  (∀ (k0_h1 : k0_cond1 i = 1#1), ∀ a, (k0_off412 v7848) a + S1x8192.size a ≤ S8192x8192.size a)
theorem k0_off412_inb : ∀ (i : grid0.Coords) (v7848 : BitVec 32) (k0_hw412 : k0_chk412 i v7848), ∀ (k0_h1 : k0_cond1 i = 1#1), ∀ a, (k0_off412 v7848) a + S1x8192.size a ≤ S8192x8192.size a := fun i v7848 k0_hw412 k0_h1 => k0_hw412 k0_h1

def k0_off413 (v7854 : BitVec 32) : Fin 2 → Nat :=
  let c0_i32_4441 : BitVec 32 := 0#32
  ![v7854.toNat, 0]

def k0_chk413 (i : grid0.Coords) (v7854 : BitVec 32) : Prop :=
  (∀ (k0_h1 : k0_cond1 i = 1#1), ∀ a, (k0_off413 v7854) a + S1x8192.size a ≤ S8192x8192.size a)
theorem k0_off413_inb : ∀ (i : grid0.Coords) (v7854 : BitVec 32) (k0_hw413 : k0_chk413 i v7854), ∀ (k0_h1 : k0_cond1 i = 1#1), ∀ a, (k0_off413 v7854) a + S1x8192.size a ≤ S8192x8192.size a := fun i v7854 k0_hw413 k0_h1 => k0_hw413 k0_h1

def k0_off414 (v7860 : BitVec 32) : Fin 2 → Nat :=
  let c0_i32_4446 : BitVec 32 := 0#32
  ![v7860.toNat, 0]

def k0_chk414 (i : grid0.Coords) (v7860 : BitVec 32) : Prop :=
  (∀ (k0_h1 : k0_cond1 i = 1#1), ∀ a, (k0_off414 v7860) a + S1x8192.size a ≤ S8192x8192.size a)
theorem k0_off414_inb : ∀ (i : grid0.Coords) (v7860 : BitVec 32) (k0_hw414 : k0_chk414 i v7860), ∀ (k0_h1 : k0_cond1 i = 1#1), ∀ a, (k0_off414 v7860) a + S1x8192.size a ≤ S8192x8192.size a := fun i v7860 k0_hw414 k0_h1 => k0_hw414 k0_h1

def k0_off415 (v7866 : BitVec 32) : Fin 2 → Nat :=
  let c0_i32_4451 : BitVec 32 := 0#32
  ![v7866.toNat, 0]

def k0_chk415 (i : grid0.Coords) (v7866 : BitVec 32) : Prop :=
  (∀ (k0_h1 : k0_cond1 i = 1#1), ∀ a, (k0_off415 v7866) a + S1x8192.size a ≤ S8192x8192.size a)
theorem k0_off415_inb : ∀ (i : grid0.Coords) (v7866 : BitVec 32) (k0_hw415 : k0_chk415 i v7866), ∀ (k0_h1 : k0_cond1 i = 1#1), ∀ a, (k0_off415 v7866) a + S1x8192.size a ≤ S8192x8192.size a := fun i v7866 k0_hw415 k0_h1 => k0_hw415 k0_h1

def k0_off416 (v7872 : BitVec 32) : Fin 2 → Nat :=
  let c0_i32_4456 : BitVec 32 := 0#32
  ![v7872.toNat, 0]

def k0_chk416 (i : grid0.Coords) (v7872 : BitVec 32) : Prop :=
  (∀ (k0_h1 : k0_cond1 i = 1#1), ∀ a, (k0_off416 v7872) a + S1x8192.size a ≤ S8192x8192.size a)
theorem k0_off416_inb : ∀ (i : grid0.Coords) (v7872 : BitVec 32) (k0_hw416 : k0_chk416 i v7872), ∀ (k0_h1 : k0_cond1 i = 1#1), ∀ a, (k0_off416 v7872) a + S1x8192.size a ≤ S8192x8192.size a := fun i v7872 k0_hw416 k0_h1 => k0_hw416 k0_h1

def k0_off417 (v7878 : BitVec 32) : Fin 2 → Nat :=
  let c0_i32_4460 : BitVec 32 := 0#32
  ![v7878.toNat, 0]

def k0_chk417 (i : grid0.Coords) (v7878 : BitVec 32) : Prop :=
  (∀ (k0_h1 : k0_cond1 i = 1#1), ∀ a, (k0_off417 v7878) a + S1x8192.size a ≤ S8192x8192.size a)
theorem k0_off417_inb : ∀ (i : grid0.Coords) (v7878 : BitVec 32) (k0_hw417 : k0_chk417 i v7878), ∀ (k0_h1 : k0_cond1 i = 1#1), ∀ a, (k0_off417 v7878) a + S1x8192.size a ≤ S8192x8192.size a := fun i v7878 k0_hw417 k0_h1 => k0_hw417 k0_h1

def k0_off418 (v7884 : BitVec 32) : Fin 2 → Nat :=
  let c0_i32_4465 : BitVec 32 := 0#32
  ![v7884.toNat, 0]

def k0_chk418 (i : grid0.Coords) (v7884 : BitVec 32) : Prop :=
  (∀ (k0_h1 : k0_cond1 i = 1#1), ∀ a, (k0_off418 v7884) a + S1x8192.size a ≤ S8192x8192.size a)
theorem k0_off418_inb : ∀ (i : grid0.Coords) (v7884 : BitVec 32) (k0_hw418 : k0_chk418 i v7884), ∀ (k0_h1 : k0_cond1 i = 1#1), ∀ a, (k0_off418 v7884) a + S1x8192.size a ≤ S8192x8192.size a := fun i v7884 k0_hw418 k0_h1 => k0_hw418 k0_h1

def k0_off419 (v7890 : BitVec 32) : Fin 2 → Nat :=
  let c0_i32_4470 : BitVec 32 := 0#32
  ![v7890.toNat, 0]

def k0_chk419 (i : grid0.Coords) (v7890 : BitVec 32) : Prop :=
  (∀ (k0_h1 : k0_cond1 i = 1#1), ∀ a, (k0_off419 v7890) a + S1x8192.size a ≤ S8192x8192.size a)
theorem k0_off419_inb : ∀ (i : grid0.Coords) (v7890 : BitVec 32) (k0_hw419 : k0_chk419 i v7890), ∀ (k0_h1 : k0_cond1 i = 1#1), ∀ a, (k0_off419 v7890) a + S1x8192.size a ≤ S8192x8192.size a := fun i v7890 k0_hw419 k0_h1 => k0_hw419 k0_h1

def k0_off420 (v7896 : BitVec 32) : Fin 2 → Nat :=
  let c0_i32_4475 : BitVec 32 := 0#32
  ![v7896.toNat, 0]

def k0_chk420 (i : grid0.Coords) (v7896 : BitVec 32) : Prop :=
  (∀ (k0_h1 : k0_cond1 i = 1#1), ∀ a, (k0_off420 v7896) a + S1x8192.size a ≤ S8192x8192.size a)
theorem k0_off420_inb : ∀ (i : grid0.Coords) (v7896 : BitVec 32) (k0_hw420 : k0_chk420 i v7896), ∀ (k0_h1 : k0_cond1 i = 1#1), ∀ a, (k0_off420 v7896) a + S1x8192.size a ≤ S8192x8192.size a := fun i v7896 k0_hw420 k0_h1 => k0_hw420 k0_h1

def k0_off421 (v7902 : BitVec 32) : Fin 2 → Nat :=
  let c0_i32_4480 : BitVec 32 := 0#32
  ![v7902.toNat, 0]

def k0_chk421 (i : grid0.Coords) (v7902 : BitVec 32) : Prop :=
  (∀ (k0_h1 : k0_cond1 i = 1#1), ∀ a, (k0_off421 v7902) a + S1x8192.size a ≤ S8192x8192.size a)
theorem k0_off421_inb : ∀ (i : grid0.Coords) (v7902 : BitVec 32) (k0_hw421 : k0_chk421 i v7902), ∀ (k0_h1 : k0_cond1 i = 1#1), ∀ a, (k0_off421 v7902) a + S1x8192.size a ≤ S8192x8192.size a := fun i v7902 k0_hw421 k0_h1 => k0_hw421 k0_h1

def k0_off422 (v7908 : BitVec 32) : Fin 2 → Nat :=
  let c0_i32_4485 : BitVec 32 := 0#32
  ![v7908.toNat, 0]

def k0_chk422 (i : grid0.Coords) (v7908 : BitVec 32) : Prop :=
  (∀ (k0_h1 : k0_cond1 i = 1#1), ∀ a, (k0_off422 v7908) a + S1x8192.size a ≤ S8192x8192.size a)
theorem k0_off422_inb : ∀ (i : grid0.Coords) (v7908 : BitVec 32) (k0_hw422 : k0_chk422 i v7908), ∀ (k0_h1 : k0_cond1 i = 1#1), ∀ a, (k0_off422 v7908) a + S1x8192.size a ≤ S8192x8192.size a := fun i v7908 k0_hw422 k0_h1 => k0_hw422 k0_h1

def k0_off423 (v7914 : BitVec 32) : Fin 2 → Nat :=
  let c0_i32_4490 : BitVec 32 := 0#32
  ![v7914.toNat, 0]

def k0_chk423 (i : grid0.Coords) (v7914 : BitVec 32) : Prop :=
  (∀ (k0_h1 : k0_cond1 i = 1#1), ∀ a, (k0_off423 v7914) a + S1x8192.size a ≤ S8192x8192.size a)
theorem k0_off423_inb : ∀ (i : grid0.Coords) (v7914 : BitVec 32) (k0_hw423 : k0_chk423 i v7914), ∀ (k0_h1 : k0_cond1 i = 1#1), ∀ a, (k0_off423 v7914) a + S1x8192.size a ≤ S8192x8192.size a := fun i v7914 k0_hw423 k0_h1 => k0_hw423 k0_h1

def k0_off424 (v7920 : BitVec 32) : Fin 2 → Nat :=
  let c0_i32_4495 : BitVec 32 := 0#32
  ![v7920.toNat, 0]

def k0_chk424 (i : grid0.Coords) (v7920 : BitVec 32) : Prop :=
  (∀ (k0_h1 : k0_cond1 i = 1#1), ∀ a, (k0_off424 v7920) a + S1x8192.size a ≤ S8192x8192.size a)
theorem k0_off424_inb : ∀ (i : grid0.Coords) (v7920 : BitVec 32) (k0_hw424 : k0_chk424 i v7920), ∀ (k0_h1 : k0_cond1 i = 1#1), ∀ a, (k0_off424 v7920) a + S1x8192.size a ≤ S8192x8192.size a := fun i v7920 k0_hw424 k0_h1 => k0_hw424 k0_h1

def k0_off425 (v7926 : BitVec 32) : Fin 2 → Nat :=
  let c0_i32_4499 : BitVec 32 := 0#32
  ![v7926.toNat, 0]

def k0_chk425 (i : grid0.Coords) (v7926 : BitVec 32) : Prop :=
  (∀ (k0_h1 : k0_cond1 i = 1#1), ∀ a, (k0_off425 v7926) a + S1x8192.size a ≤ S8192x8192.size a)
theorem k0_off425_inb : ∀ (i : grid0.Coords) (v7926 : BitVec 32) (k0_hw425 : k0_chk425 i v7926), ∀ (k0_h1 : k0_cond1 i = 1#1), ∀ a, (k0_off425 v7926) a + S1x8192.size a ≤ S8192x8192.size a := fun i v7926 k0_hw425 k0_h1 => k0_hw425 k0_h1

def k0_off426 (v7932 : BitVec 32) : Fin 2 → Nat :=
  let c0_i32_4504 : BitVec 32 := 0#32
  ![v7932.toNat, 0]

def k0_chk426 (i : grid0.Coords) (v7932 : BitVec 32) : Prop :=
  (∀ (k0_h1 : k0_cond1 i = 1#1), ∀ a, (k0_off426 v7932) a + S1x8192.size a ≤ S8192x8192.size a)
theorem k0_off426_inb : ∀ (i : grid0.Coords) (v7932 : BitVec 32) (k0_hw426 : k0_chk426 i v7932), ∀ (k0_h1 : k0_cond1 i = 1#1), ∀ a, (k0_off426 v7932) a + S1x8192.size a ≤ S8192x8192.size a := fun i v7932 k0_hw426 k0_h1 => k0_hw426 k0_h1

def k0_off427 (v7938 : BitVec 32) : Fin 2 → Nat :=
  let c0_i32_4509 : BitVec 32 := 0#32
  ![v7938.toNat, 0]

def k0_chk427 (i : grid0.Coords) (v7938 : BitVec 32) : Prop :=
  (∀ (k0_h1 : k0_cond1 i = 1#1), ∀ a, (k0_off427 v7938) a + S1x8192.size a ≤ S8192x8192.size a)
theorem k0_off427_inb : ∀ (i : grid0.Coords) (v7938 : BitVec 32) (k0_hw427 : k0_chk427 i v7938), ∀ (k0_h1 : k0_cond1 i = 1#1), ∀ a, (k0_off427 v7938) a + S1x8192.size a ≤ S8192x8192.size a := fun i v7938 k0_hw427 k0_h1 => k0_hw427 k0_h1

def k0_off428 (v7944 : BitVec 32) : Fin 2 → Nat :=
  let c0_i32_4514 : BitVec 32 := 0#32
  ![v7944.toNat, 0]

def k0_chk428 (i : grid0.Coords) (v7944 : BitVec 32) : Prop :=
  (∀ (k0_h1 : k0_cond1 i = 1#1), ∀ a, (k0_off428 v7944) a + S1x8192.size a ≤ S8192x8192.size a)
theorem k0_off428_inb : ∀ (i : grid0.Coords) (v7944 : BitVec 32) (k0_hw428 : k0_chk428 i v7944), ∀ (k0_h1 : k0_cond1 i = 1#1), ∀ a, (k0_off428 v7944) a + S1x8192.size a ≤ S8192x8192.size a := fun i v7944 k0_hw428 k0_h1 => k0_hw428 k0_h1

def k0_off429 (v7950 : BitVec 32) : Fin 2 → Nat :=
  let c0_i32_4519 : BitVec 32 := 0#32
  ![v7950.toNat, 0]

def k0_chk429 (i : grid0.Coords) (v7950 : BitVec 32) : Prop :=
  (∀ (k0_h1 : k0_cond1 i = 1#1), ∀ a, (k0_off429 v7950) a + S1x8192.size a ≤ S8192x8192.size a)
theorem k0_off429_inb : ∀ (i : grid0.Coords) (v7950 : BitVec 32) (k0_hw429 : k0_chk429 i v7950), ∀ (k0_h1 : k0_cond1 i = 1#1), ∀ a, (k0_off429 v7950) a + S1x8192.size a ≤ S8192x8192.size a := fun i v7950 k0_hw429 k0_h1 => k0_hw429 k0_h1

def k0_off430 (v7956 : BitVec 32) : Fin 2 → Nat :=
  let c0_i32_4524 : BitVec 32 := 0#32
  ![v7956.toNat, 0]

def k0_chk430 (i : grid0.Coords) (v7956 : BitVec 32) : Prop :=
  (∀ (k0_h1 : k0_cond1 i = 1#1), ∀ a, (k0_off430 v7956) a + S1x8192.size a ≤ S8192x8192.size a)
theorem k0_off430_inb : ∀ (i : grid0.Coords) (v7956 : BitVec 32) (k0_hw430 : k0_chk430 i v7956), ∀ (k0_h1 : k0_cond1 i = 1#1), ∀ a, (k0_off430 v7956) a + S1x8192.size a ≤ S8192x8192.size a := fun i v7956 k0_hw430 k0_h1 => k0_hw430 k0_h1

def k0_off431 (v7962 : BitVec 32) : Fin 2 → Nat :=
  let c0_i32_4529 : BitVec 32 := 0#32
  ![v7962.toNat, 0]

def k0_chk431 (i : grid0.Coords) (v7962 : BitVec 32) : Prop :=
  (∀ (k0_h1 : k0_cond1 i = 1#1), ∀ a, (k0_off431 v7962) a + S1x8192.size a ≤ S8192x8192.size a)
theorem k0_off431_inb : ∀ (i : grid0.Coords) (v7962 : BitVec 32) (k0_hw431 : k0_chk431 i v7962), ∀ (k0_h1 : k0_cond1 i = 1#1), ∀ a, (k0_off431 v7962) a + S1x8192.size a ≤ S8192x8192.size a := fun i v7962 k0_hw431 k0_h1 => k0_hw431 k0_h1

def k0_off432 (v7968 : BitVec 32) : Fin 2 → Nat :=
  let c0_i32_4534 : BitVec 32 := 0#32
  ![v7968.toNat, 0]

def k0_chk432 (i : grid0.Coords) (v7968 : BitVec 32) : Prop :=
  (∀ (k0_h1 : k0_cond1 i = 1#1), ∀ a, (k0_off432 v7968) a + S1x8192.size a ≤ S8192x8192.size a)
theorem k0_off432_inb : ∀ (i : grid0.Coords) (v7968 : BitVec 32) (k0_hw432 : k0_chk432 i v7968), ∀ (k0_h1 : k0_cond1 i = 1#1), ∀ a, (k0_off432 v7968) a + S1x8192.size a ≤ S8192x8192.size a := fun i v7968 k0_hw432 k0_h1 => k0_hw432 k0_h1

def k0_off433 (v7974 : BitVec 32) : Fin 2 → Nat :=
  let c0_i32_4538 : BitVec 32 := 0#32
  ![v7974.toNat, 0]

def k0_chk433 (i : grid0.Coords) (v7974 : BitVec 32) : Prop :=
  (∀ (k0_h1 : k0_cond1 i = 1#1), ∀ a, (k0_off433 v7974) a + S1x8192.size a ≤ S8192x8192.size a)
theorem k0_off433_inb : ∀ (i : grid0.Coords) (v7974 : BitVec 32) (k0_hw433 : k0_chk433 i v7974), ∀ (k0_h1 : k0_cond1 i = 1#1), ∀ a, (k0_off433 v7974) a + S1x8192.size a ≤ S8192x8192.size a := fun i v7974 k0_hw433 k0_h1 => k0_hw433 k0_h1

def k0_off434 (v7980 : BitVec 32) : Fin 2 → Nat :=
  let c0_i32_4543 : BitVec 32 := 0#32
  ![v7980.toNat, 0]

def k0_chk434 (i : grid0.Coords) (v7980 : BitVec 32) : Prop :=
  (∀ (k0_h1 : k0_cond1 i = 1#1), ∀ a, (k0_off434 v7980) a + S1x8192.size a ≤ S8192x8192.size a)
theorem k0_off434_inb : ∀ (i : grid0.Coords) (v7980 : BitVec 32) (k0_hw434 : k0_chk434 i v7980), ∀ (k0_h1 : k0_cond1 i = 1#1), ∀ a, (k0_off434 v7980) a + S1x8192.size a ≤ S8192x8192.size a := fun i v7980 k0_hw434 k0_h1 => k0_hw434 k0_h1

def k0_off435 (v7986 : BitVec 32) : Fin 2 → Nat :=
  let c0_i32_4548 : BitVec 32 := 0#32
  ![v7986.toNat, 0]

def k0_chk435 (i : grid0.Coords) (v7986 : BitVec 32) : Prop :=
  (∀ (k0_h1 : k0_cond1 i = 1#1), ∀ a, (k0_off435 v7986) a + S1x8192.size a ≤ S8192x8192.size a)
theorem k0_off435_inb : ∀ (i : grid0.Coords) (v7986 : BitVec 32) (k0_hw435 : k0_chk435 i v7986), ∀ (k0_h1 : k0_cond1 i = 1#1), ∀ a, (k0_off435 v7986) a + S1x8192.size a ≤ S8192x8192.size a := fun i v7986 k0_hw435 k0_h1 => k0_hw435 k0_h1

def k0_off436 (v7992 : BitVec 32) : Fin 2 → Nat :=
  let c0_i32_4553 : BitVec 32 := 0#32
  ![v7992.toNat, 0]

def k0_chk436 (i : grid0.Coords) (v7992 : BitVec 32) : Prop :=
  (∀ (k0_h1 : k0_cond1 i = 1#1), ∀ a, (k0_off436 v7992) a + S1x8192.size a ≤ S8192x8192.size a)
theorem k0_off436_inb : ∀ (i : grid0.Coords) (v7992 : BitVec 32) (k0_hw436 : k0_chk436 i v7992), ∀ (k0_h1 : k0_cond1 i = 1#1), ∀ a, (k0_off436 v7992) a + S1x8192.size a ≤ S8192x8192.size a := fun i v7992 k0_hw436 k0_h1 => k0_hw436 k0_h1

def k0_off437 (v7998 : BitVec 32) : Fin 2 → Nat :=
  let c0_i32_4558 : BitVec 32 := 0#32
  ![v7998.toNat, 0]

def k0_chk437 (i : grid0.Coords) (v7998 : BitVec 32) : Prop :=
  (∀ (k0_h1 : k0_cond1 i = 1#1), ∀ a, (k0_off437 v7998) a + S1x8192.size a ≤ S8192x8192.size a)
theorem k0_off437_inb : ∀ (i : grid0.Coords) (v7998 : BitVec 32) (k0_hw437 : k0_chk437 i v7998), ∀ (k0_h1 : k0_cond1 i = 1#1), ∀ a, (k0_off437 v7998) a + S1x8192.size a ≤ S8192x8192.size a := fun i v7998 k0_hw437 k0_h1 => k0_hw437 k0_h1

def k0_off438 (v8004 : BitVec 32) : Fin 2 → Nat :=
  let c0_i32_4563 : BitVec 32 := 0#32
  ![v8004.toNat, 0]

def k0_chk438 (i : grid0.Coords) (v8004 : BitVec 32) : Prop :=
  (∀ (k0_h1 : k0_cond1 i = 1#1), ∀ a, (k0_off438 v8004) a + S1x8192.size a ≤ S8192x8192.size a)
theorem k0_off438_inb : ∀ (i : grid0.Coords) (v8004 : BitVec 32) (k0_hw438 : k0_chk438 i v8004), ∀ (k0_h1 : k0_cond1 i = 1#1), ∀ a, (k0_off438 v8004) a + S1x8192.size a ≤ S8192x8192.size a := fun i v8004 k0_hw438 k0_h1 => k0_hw438 k0_h1

def k0_off439 (v8010 : BitVec 32) : Fin 2 → Nat :=
  let c0_i32_4568 : BitVec 32 := 0#32
  ![v8010.toNat, 0]

def k0_chk439 (i : grid0.Coords) (v8010 : BitVec 32) : Prop :=
  (∀ (k0_h1 : k0_cond1 i = 1#1), ∀ a, (k0_off439 v8010) a + S1x8192.size a ≤ S8192x8192.size a)
theorem k0_off439_inb : ∀ (i : grid0.Coords) (v8010 : BitVec 32) (k0_hw439 : k0_chk439 i v8010), ∀ (k0_h1 : k0_cond1 i = 1#1), ∀ a, (k0_off439 v8010) a + S1x8192.size a ≤ S8192x8192.size a := fun i v8010 k0_hw439 k0_h1 => k0_hw439 k0_h1

def k0_off440 (v8016 : BitVec 32) : Fin 2 → Nat :=
  let c0_i32_4573 : BitVec 32 := 0#32
  ![v8016.toNat, 0]

def k0_chk440 (i : grid0.Coords) (v8016 : BitVec 32) : Prop :=
  (∀ (k0_h1 : k0_cond1 i = 1#1), ∀ a, (k0_off440 v8016) a + S1x8192.size a ≤ S8192x8192.size a)
theorem k0_off440_inb : ∀ (i : grid0.Coords) (v8016 : BitVec 32) (k0_hw440 : k0_chk440 i v8016), ∀ (k0_h1 : k0_cond1 i = 1#1), ∀ a, (k0_off440 v8016) a + S1x8192.size a ≤ S8192x8192.size a := fun i v8016 k0_hw440 k0_h1 => k0_hw440 k0_h1

def k0_off441 (v8022 : BitVec 32) : Fin 2 → Nat :=
  let c0_i32_4577 : BitVec 32 := 0#32
  ![v8022.toNat, 0]

def k0_chk441 (i : grid0.Coords) (v8022 : BitVec 32) : Prop :=
  (∀ (k0_h1 : k0_cond1 i = 1#1), ∀ a, (k0_off441 v8022) a + S1x8192.size a ≤ S8192x8192.size a)
theorem k0_off441_inb : ∀ (i : grid0.Coords) (v8022 : BitVec 32) (k0_hw441 : k0_chk441 i v8022), ∀ (k0_h1 : k0_cond1 i = 1#1), ∀ a, (k0_off441 v8022) a + S1x8192.size a ≤ S8192x8192.size a := fun i v8022 k0_hw441 k0_h1 => k0_hw441 k0_h1

def k0_off442 (v8028 : BitVec 32) : Fin 2 → Nat :=
  let c0_i32_4582 : BitVec 32 := 0#32
  ![v8028.toNat, 0]

def k0_chk442 (i : grid0.Coords) (v8028 : BitVec 32) : Prop :=
  (∀ (k0_h1 : k0_cond1 i = 1#1), ∀ a, (k0_off442 v8028) a + S1x8192.size a ≤ S8192x8192.size a)
theorem k0_off442_inb : ∀ (i : grid0.Coords) (v8028 : BitVec 32) (k0_hw442 : k0_chk442 i v8028), ∀ (k0_h1 : k0_cond1 i = 1#1), ∀ a, (k0_off442 v8028) a + S1x8192.size a ≤ S8192x8192.size a := fun i v8028 k0_hw442 k0_h1 => k0_hw442 k0_h1

def k0_off443 (v8034 : BitVec 32) : Fin 2 → Nat :=
  let c0_i32_4587 : BitVec 32 := 0#32
  ![v8034.toNat, 0]

def k0_chk443 (i : grid0.Coords) (v8034 : BitVec 32) : Prop :=
  (∀ (k0_h1 : k0_cond1 i = 1#1), ∀ a, (k0_off443 v8034) a + S1x8192.size a ≤ S8192x8192.size a)
theorem k0_off443_inb : ∀ (i : grid0.Coords) (v8034 : BitVec 32) (k0_hw443 : k0_chk443 i v8034), ∀ (k0_h1 : k0_cond1 i = 1#1), ∀ a, (k0_off443 v8034) a + S1x8192.size a ≤ S8192x8192.size a := fun i v8034 k0_hw443 k0_h1 => k0_hw443 k0_h1

def k0_off444 (v8040 : BitVec 32) : Fin 2 → Nat :=
  let c0_i32_4592 : BitVec 32 := 0#32
  ![v8040.toNat, 0]

def k0_chk444 (i : grid0.Coords) (v8040 : BitVec 32) : Prop :=
  (∀ (k0_h1 : k0_cond1 i = 1#1), ∀ a, (k0_off444 v8040) a + S1x8192.size a ≤ S8192x8192.size a)
theorem k0_off444_inb : ∀ (i : grid0.Coords) (v8040 : BitVec 32) (k0_hw444 : k0_chk444 i v8040), ∀ (k0_h1 : k0_cond1 i = 1#1), ∀ a, (k0_off444 v8040) a + S1x8192.size a ≤ S8192x8192.size a := fun i v8040 k0_hw444 k0_h1 => k0_hw444 k0_h1

def k0_off445 (v8046 : BitVec 32) : Fin 2 → Nat :=
  let c0_i32_4597 : BitVec 32 := 0#32
  ![v8046.toNat, 0]

def k0_chk445 (i : grid0.Coords) (v8046 : BitVec 32) : Prop :=
  (∀ (k0_h1 : k0_cond1 i = 1#1), ∀ a, (k0_off445 v8046) a + S1x8192.size a ≤ S8192x8192.size a)
theorem k0_off445_inb : ∀ (i : grid0.Coords) (v8046 : BitVec 32) (k0_hw445 : k0_chk445 i v8046), ∀ (k0_h1 : k0_cond1 i = 1#1), ∀ a, (k0_off445 v8046) a + S1x8192.size a ≤ S8192x8192.size a := fun i v8046 k0_hw445 k0_h1 => k0_hw445 k0_h1

def k0_off446 (v8052 : BitVec 32) : Fin 2 → Nat :=
  let c0_i32_4602 : BitVec 32 := 0#32
  ![v8052.toNat, 0]

def k0_chk446 (i : grid0.Coords) (v8052 : BitVec 32) : Prop :=
  (∀ (k0_h1 : k0_cond1 i = 1#1), ∀ a, (k0_off446 v8052) a + S1x8192.size a ≤ S8192x8192.size a)
theorem k0_off446_inb : ∀ (i : grid0.Coords) (v8052 : BitVec 32) (k0_hw446 : k0_chk446 i v8052), ∀ (k0_h1 : k0_cond1 i = 1#1), ∀ a, (k0_off446 v8052) a + S1x8192.size a ≤ S8192x8192.size a := fun i v8052 k0_hw446 k0_h1 => k0_hw446 k0_h1

def k0_off447 (v8058 : BitVec 32) : Fin 2 → Nat :=
  let c0_i32_4607 : BitVec 32 := 0#32
  ![v8058.toNat, 0]

def k0_chk447 (i : grid0.Coords) (v8058 : BitVec 32) : Prop :=
  (∀ (k0_h1 : k0_cond1 i = 1#1), ∀ a, (k0_off447 v8058) a + S1x8192.size a ≤ S8192x8192.size a)
theorem k0_off447_inb : ∀ (i : grid0.Coords) (v8058 : BitVec 32) (k0_hw447 : k0_chk447 i v8058), ∀ (k0_h1 : k0_cond1 i = 1#1), ∀ a, (k0_off447 v8058) a + S1x8192.size a ≤ S8192x8192.size a := fun i v8058 k0_hw447 k0_h1 => k0_hw447 k0_h1

def k0_off448 (v8064 : BitVec 32) : Fin 2 → Nat :=
  let c0_i32_4612 : BitVec 32 := 0#32
  ![v8064.toNat, 0]

def k0_chk448 (i : grid0.Coords) (v8064 : BitVec 32) : Prop :=
  (∀ (k0_h1 : k0_cond1 i = 1#1), ∀ a, (k0_off448 v8064) a + S1x8192.size a ≤ S8192x8192.size a)
theorem k0_off448_inb : ∀ (i : grid0.Coords) (v8064 : BitVec 32) (k0_hw448 : k0_chk448 i v8064), ∀ (k0_h1 : k0_cond1 i = 1#1), ∀ a, (k0_off448 v8064) a + S1x8192.size a ≤ S8192x8192.size a := fun i v8064 k0_hw448 k0_h1 => k0_hw448 k0_h1

def k0_off449 (v8070 : BitVec 32) : Fin 2 → Nat :=
  let c0_i32_4617 : BitVec 32 := 0#32
  ![v8070.toNat, 0]

def k0_chk449 (i : grid0.Coords) (v8070 : BitVec 32) : Prop :=
  (∀ (k0_h1 : k0_cond1 i = 1#1), ∀ a, (k0_off449 v8070) a + S1x8192.size a ≤ S8192x8192.size a)
theorem k0_off449_inb : ∀ (i : grid0.Coords) (v8070 : BitVec 32) (k0_hw449 : k0_chk449 i v8070), ∀ (k0_h1 : k0_cond1 i = 1#1), ∀ a, (k0_off449 v8070) a + S1x8192.size a ≤ S8192x8192.size a := fun i v8070 k0_hw449 k0_h1 => k0_hw449 k0_h1

def k0_off450 (v8076 : BitVec 32) : Fin 2 → Nat :=
  let c0_i32_4622 : BitVec 32 := 0#32
  ![v8076.toNat, 0]

def k0_chk450 (i : grid0.Coords) (v8076 : BitVec 32) : Prop :=
  (∀ (k0_h1 : k0_cond1 i = 1#1), ∀ a, (k0_off450 v8076) a + S1x8192.size a ≤ S8192x8192.size a)
theorem k0_off450_inb : ∀ (i : grid0.Coords) (v8076 : BitVec 32) (k0_hw450 : k0_chk450 i v8076), ∀ (k0_h1 : k0_cond1 i = 1#1), ∀ a, (k0_off450 v8076) a + S1x8192.size a ≤ S8192x8192.size a := fun i v8076 k0_hw450 k0_h1 => k0_hw450 k0_h1

def k0_off451 (v8082 : BitVec 32) : Fin 2 → Nat :=
  let c0_i32_4627 : BitVec 32 := 0#32
  ![v8082.toNat, 0]

def k0_chk451 (i : grid0.Coords) (v8082 : BitVec 32) : Prop :=
  (∀ (k0_h1 : k0_cond1 i = 1#1), ∀ a, (k0_off451 v8082) a + S1x8192.size a ≤ S8192x8192.size a)
theorem k0_off451_inb : ∀ (i : grid0.Coords) (v8082 : BitVec 32) (k0_hw451 : k0_chk451 i v8082), ∀ (k0_h1 : k0_cond1 i = 1#1), ∀ a, (k0_off451 v8082) a + S1x8192.size a ≤ S8192x8192.size a := fun i v8082 k0_hw451 k0_h1 => k0_hw451 k0_h1

def k0_off452 (v8088 : BitVec 32) : Fin 2 → Nat :=
  let c0_i32_4632 : BitVec 32 := 0#32
  ![v8088.toNat, 0]

def k0_chk452 (i : grid0.Coords) (v8088 : BitVec 32) : Prop :=
  (∀ (k0_h1 : k0_cond1 i = 1#1), ∀ a, (k0_off452 v8088) a + S1x8192.size a ≤ S8192x8192.size a)
theorem k0_off452_inb : ∀ (i : grid0.Coords) (v8088 : BitVec 32) (k0_hw452 : k0_chk452 i v8088), ∀ (k0_h1 : k0_cond1 i = 1#1), ∀ a, (k0_off452 v8088) a + S1x8192.size a ≤ S8192x8192.size a := fun i v8088 k0_hw452 k0_h1 => k0_hw452 k0_h1

def k0_off453 (v8094 : BitVec 32) : Fin 2 → Nat :=
  let c0_i32_4637 : BitVec 32 := 0#32
  ![v8094.toNat, 0]

def k0_chk453 (i : grid0.Coords) (v8094 : BitVec 32) : Prop :=
  (∀ (k0_h1 : k0_cond1 i = 1#1), ∀ a, (k0_off453 v8094) a + S1x8192.size a ≤ S8192x8192.size a)
theorem k0_off453_inb : ∀ (i : grid0.Coords) (v8094 : BitVec 32) (k0_hw453 : k0_chk453 i v8094), ∀ (k0_h1 : k0_cond1 i = 1#1), ∀ a, (k0_off453 v8094) a + S1x8192.size a ≤ S8192x8192.size a := fun i v8094 k0_hw453 k0_h1 => k0_hw453 k0_h1

def k0_off454 (v8100 : BitVec 32) : Fin 2 → Nat :=
  let c0_i32_4642 : BitVec 32 := 0#32
  ![v8100.toNat, 0]

def k0_chk454 (i : grid0.Coords) (v8100 : BitVec 32) : Prop :=
  (∀ (k0_h1 : k0_cond1 i = 1#1), ∀ a, (k0_off454 v8100) a + S1x8192.size a ≤ S8192x8192.size a)
theorem k0_off454_inb : ∀ (i : grid0.Coords) (v8100 : BitVec 32) (k0_hw454 : k0_chk454 i v8100), ∀ (k0_h1 : k0_cond1 i = 1#1), ∀ a, (k0_off454 v8100) a + S1x8192.size a ≤ S8192x8192.size a := fun i v8100 k0_hw454 k0_h1 => k0_hw454 k0_h1

def k0_off455 (v8106 : BitVec 32) : Fin 2 → Nat :=
  let c0_i32_4647 : BitVec 32 := 0#32
  ![v8106.toNat, 0]

def k0_chk455 (i : grid0.Coords) (v8106 : BitVec 32) : Prop :=
  (∀ (k0_h1 : k0_cond1 i = 1#1), ∀ a, (k0_off455 v8106) a + S1x8192.size a ≤ S8192x8192.size a)
theorem k0_off455_inb : ∀ (i : grid0.Coords) (v8106 : BitVec 32) (k0_hw455 : k0_chk455 i v8106), ∀ (k0_h1 : k0_cond1 i = 1#1), ∀ a, (k0_off455 v8106) a + S1x8192.size a ≤ S8192x8192.size a := fun i v8106 k0_hw455 k0_h1 => k0_hw455 k0_h1

def k0_off456 (v8112 : BitVec 32) : Fin 2 → Nat :=
  let c0_i32_4652 : BitVec 32 := 0#32
  ![v8112.toNat, 0]

def k0_chk456 (i : grid0.Coords) (v8112 : BitVec 32) : Prop :=
  (∀ (k0_h1 : k0_cond1 i = 1#1), ∀ a, (k0_off456 v8112) a + S1x8192.size a ≤ S8192x8192.size a)
theorem k0_off456_inb : ∀ (i : grid0.Coords) (v8112 : BitVec 32) (k0_hw456 : k0_chk456 i v8112), ∀ (k0_h1 : k0_cond1 i = 1#1), ∀ a, (k0_off456 v8112) a + S1x8192.size a ≤ S8192x8192.size a := fun i v8112 k0_hw456 k0_h1 => k0_hw456 k0_h1

def k0_off457 (v8118 : BitVec 32) : Fin 2 → Nat :=
  let c0_i32_4656 : BitVec 32 := 0#32
  ![v8118.toNat, 0]

def k0_chk457 (i : grid0.Coords) (v8118 : BitVec 32) : Prop :=
  (∀ (k0_h1 : k0_cond1 i = 1#1), ∀ a, (k0_off457 v8118) a + S1x8192.size a ≤ S8192x8192.size a)
theorem k0_off457_inb : ∀ (i : grid0.Coords) (v8118 : BitVec 32) (k0_hw457 : k0_chk457 i v8118), ∀ (k0_h1 : k0_cond1 i = 1#1), ∀ a, (k0_off457 v8118) a + S1x8192.size a ≤ S8192x8192.size a := fun i v8118 k0_hw457 k0_h1 => k0_hw457 k0_h1

def k0_off458 (v8124 : BitVec 32) : Fin 2 → Nat :=
  let c0_i32_4661 : BitVec 32 := 0#32
  ![v8124.toNat, 0]

def k0_chk458 (i : grid0.Coords) (v8124 : BitVec 32) : Prop :=
  (∀ (k0_h1 : k0_cond1 i = 1#1), ∀ a, (k0_off458 v8124) a + S1x8192.size a ≤ S8192x8192.size a)
theorem k0_off458_inb : ∀ (i : grid0.Coords) (v8124 : BitVec 32) (k0_hw458 : k0_chk458 i v8124), ∀ (k0_h1 : k0_cond1 i = 1#1), ∀ a, (k0_off458 v8124) a + S1x8192.size a ≤ S8192x8192.size a := fun i v8124 k0_hw458 k0_h1 => k0_hw458 k0_h1

def k0_off459 (v8130 : BitVec 32) : Fin 2 → Nat :=
  let c0_i32_4666 : BitVec 32 := 0#32
  ![v8130.toNat, 0]

def k0_chk459 (i : grid0.Coords) (v8130 : BitVec 32) : Prop :=
  (∀ (k0_h1 : k0_cond1 i = 1#1), ∀ a, (k0_off459 v8130) a + S1x8192.size a ≤ S8192x8192.size a)
theorem k0_off459_inb : ∀ (i : grid0.Coords) (v8130 : BitVec 32) (k0_hw459 : k0_chk459 i v8130), ∀ (k0_h1 : k0_cond1 i = 1#1), ∀ a, (k0_off459 v8130) a + S1x8192.size a ≤ S8192x8192.size a := fun i v8130 k0_hw459 k0_h1 => k0_hw459 k0_h1

def k0_off460 (v8136 : BitVec 32) : Fin 2 → Nat :=
  let c0_i32_4671 : BitVec 32 := 0#32
  ![v8136.toNat, 0]

def k0_chk460 (i : grid0.Coords) (v8136 : BitVec 32) : Prop :=
  (∀ (k0_h1 : k0_cond1 i = 1#1), ∀ a, (k0_off460 v8136) a + S1x8192.size a ≤ S8192x8192.size a)
theorem k0_off460_inb : ∀ (i : grid0.Coords) (v8136 : BitVec 32) (k0_hw460 : k0_chk460 i v8136), ∀ (k0_h1 : k0_cond1 i = 1#1), ∀ a, (k0_off460 v8136) a + S1x8192.size a ≤ S8192x8192.size a := fun i v8136 k0_hw460 k0_h1 => k0_hw460 k0_h1

def k0_off461 (v8142 : BitVec 32) : Fin 2 → Nat :=
  let c0_i32_4676 : BitVec 32 := 0#32
  ![v8142.toNat, 0]

def k0_chk461 (i : grid0.Coords) (v8142 : BitVec 32) : Prop :=
  (∀ (k0_h1 : k0_cond1 i = 1#1), ∀ a, (k0_off461 v8142) a + S1x8192.size a ≤ S8192x8192.size a)
theorem k0_off461_inb : ∀ (i : grid0.Coords) (v8142 : BitVec 32) (k0_hw461 : k0_chk461 i v8142), ∀ (k0_h1 : k0_cond1 i = 1#1), ∀ a, (k0_off461 v8142) a + S1x8192.size a ≤ S8192x8192.size a := fun i v8142 k0_hw461 k0_h1 => k0_hw461 k0_h1

def k0_off462 (v8148 : BitVec 32) : Fin 2 → Nat :=
  let c0_i32_4681 : BitVec 32 := 0#32
  ![v8148.toNat, 0]

def k0_chk462 (i : grid0.Coords) (v8148 : BitVec 32) : Prop :=
  (∀ (k0_h1 : k0_cond1 i = 1#1), ∀ a, (k0_off462 v8148) a + S1x8192.size a ≤ S8192x8192.size a)
theorem k0_off462_inb : ∀ (i : grid0.Coords) (v8148 : BitVec 32) (k0_hw462 : k0_chk462 i v8148), ∀ (k0_h1 : k0_cond1 i = 1#1), ∀ a, (k0_off462 v8148) a + S1x8192.size a ≤ S8192x8192.size a := fun i v8148 k0_hw462 k0_h1 => k0_hw462 k0_h1

def k0_off463 (v8154 : BitVec 32) : Fin 2 → Nat :=
  let c0_i32_4686 : BitVec 32 := 0#32
  ![v8154.toNat, 0]

def k0_chk463 (i : grid0.Coords) (v8154 : BitVec 32) : Prop :=
  (∀ (k0_h1 : k0_cond1 i = 1#1), ∀ a, (k0_off463 v8154) a + S1x8192.size a ≤ S8192x8192.size a)
theorem k0_off463_inb : ∀ (i : grid0.Coords) (v8154 : BitVec 32) (k0_hw463 : k0_chk463 i v8154), ∀ (k0_h1 : k0_cond1 i = 1#1), ∀ a, (k0_off463 v8154) a + S1x8192.size a ≤ S8192x8192.size a := fun i v8154 k0_hw463 k0_h1 => k0_hw463 k0_h1

def k0_off464 (v8160 : BitVec 32) : Fin 2 → Nat :=
  let c0_i32_4691 : BitVec 32 := 0#32
  ![v8160.toNat, 0]

def k0_chk464 (i : grid0.Coords) (v8160 : BitVec 32) : Prop :=
  (∀ (k0_h1 : k0_cond1 i = 1#1), ∀ a, (k0_off464 v8160) a + S1x8192.size a ≤ S8192x8192.size a)
theorem k0_off464_inb : ∀ (i : grid0.Coords) (v8160 : BitVec 32) (k0_hw464 : k0_chk464 i v8160), ∀ (k0_h1 : k0_cond1 i = 1#1), ∀ a, (k0_off464 v8160) a + S1x8192.size a ≤ S8192x8192.size a := fun i v8160 k0_hw464 k0_h1 => k0_hw464 k0_h1

def k0_off465 (v8166 : BitVec 32) : Fin 2 → Nat :=
  let c0_i32_4695 : BitVec 32 := 0#32
  ![v8166.toNat, 0]

def k0_chk465 (i : grid0.Coords) (v8166 : BitVec 32) : Prop :=
  (∀ (k0_h1 : k0_cond1 i = 1#1), ∀ a, (k0_off465 v8166) a + S1x8192.size a ≤ S8192x8192.size a)
theorem k0_off465_inb : ∀ (i : grid0.Coords) (v8166 : BitVec 32) (k0_hw465 : k0_chk465 i v8166), ∀ (k0_h1 : k0_cond1 i = 1#1), ∀ a, (k0_off465 v8166) a + S1x8192.size a ≤ S8192x8192.size a := fun i v8166 k0_hw465 k0_h1 => k0_hw465 k0_h1

def k0_off466 (v8172 : BitVec 32) : Fin 2 → Nat :=
  let c0_i32_4700 : BitVec 32 := 0#32
  ![v8172.toNat, 0]

def k0_chk466 (i : grid0.Coords) (v8172 : BitVec 32) : Prop :=
  (∀ (k0_h1 : k0_cond1 i = 1#1), ∀ a, (k0_off466 v8172) a + S1x8192.size a ≤ S8192x8192.size a)
theorem k0_off466_inb : ∀ (i : grid0.Coords) (v8172 : BitVec 32) (k0_hw466 : k0_chk466 i v8172), ∀ (k0_h1 : k0_cond1 i = 1#1), ∀ a, (k0_off466 v8172) a + S1x8192.size a ≤ S8192x8192.size a := fun i v8172 k0_hw466 k0_h1 => k0_hw466 k0_h1

def k0_off467 (v8178 : BitVec 32) : Fin 2 → Nat :=
  let c0_i32_4705 : BitVec 32 := 0#32
  ![v8178.toNat, 0]

def k0_chk467 (i : grid0.Coords) (v8178 : BitVec 32) : Prop :=
  (∀ (k0_h1 : k0_cond1 i = 1#1), ∀ a, (k0_off467 v8178) a + S1x8192.size a ≤ S8192x8192.size a)
theorem k0_off467_inb : ∀ (i : grid0.Coords) (v8178 : BitVec 32) (k0_hw467 : k0_chk467 i v8178), ∀ (k0_h1 : k0_cond1 i = 1#1), ∀ a, (k0_off467 v8178) a + S1x8192.size a ≤ S8192x8192.size a := fun i v8178 k0_hw467 k0_h1 => k0_hw467 k0_h1

def k0_off468 (v8184 : BitVec 32) : Fin 2 → Nat :=
  let c0_i32_4710 : BitVec 32 := 0#32
  ![v8184.toNat, 0]

def k0_chk468 (i : grid0.Coords) (v8184 : BitVec 32) : Prop :=
  (∀ (k0_h1 : k0_cond1 i = 1#1), ∀ a, (k0_off468 v8184) a + S1x8192.size a ≤ S8192x8192.size a)
theorem k0_off468_inb : ∀ (i : grid0.Coords) (v8184 : BitVec 32) (k0_hw468 : k0_chk468 i v8184), ∀ (k0_h1 : k0_cond1 i = 1#1), ∀ a, (k0_off468 v8184) a + S1x8192.size a ≤ S8192x8192.size a := fun i v8184 k0_hw468 k0_h1 => k0_hw468 k0_h1

def k0_off469 (v8190 : BitVec 32) : Fin 2 → Nat :=
  let c0_i32_4715 : BitVec 32 := 0#32
  ![v8190.toNat, 0]

def k0_chk469 (i : grid0.Coords) (v8190 : BitVec 32) : Prop :=
  (∀ (k0_h1 : k0_cond1 i = 1#1), ∀ a, (k0_off469 v8190) a + S1x8192.size a ≤ S8192x8192.size a)
theorem k0_off469_inb : ∀ (i : grid0.Coords) (v8190 : BitVec 32) (k0_hw469 : k0_chk469 i v8190), ∀ (k0_h1 : k0_cond1 i = 1#1), ∀ a, (k0_off469 v8190) a + S1x8192.size a ≤ S8192x8192.size a := fun i v8190 k0_hw469 k0_h1 => k0_hw469 k0_h1

def k0_off470 (v8196 : BitVec 32) : Fin 2 → Nat :=
  let c0_i32_4720 : BitVec 32 := 0#32
  ![v8196.toNat, 0]

def k0_chk470 (i : grid0.Coords) (v8196 : BitVec 32) : Prop :=
  (∀ (k0_h1 : k0_cond1 i = 1#1), ∀ a, (k0_off470 v8196) a + S1x8192.size a ≤ S8192x8192.size a)
theorem k0_off470_inb : ∀ (i : grid0.Coords) (v8196 : BitVec 32) (k0_hw470 : k0_chk470 i v8196), ∀ (k0_h1 : k0_cond1 i = 1#1), ∀ a, (k0_off470 v8196) a + S1x8192.size a ≤ S8192x8192.size a := fun i v8196 k0_hw470 k0_h1 => k0_hw470 k0_h1

def k0_off471 (v8202 : BitVec 32) : Fin 2 → Nat :=
  let c0_i32_4725 : BitVec 32 := 0#32
  ![v8202.toNat, 0]

def k0_chk471 (i : grid0.Coords) (v8202 : BitVec 32) : Prop :=
  (∀ (k0_h1 : k0_cond1 i = 1#1), ∀ a, (k0_off471 v8202) a + S1x8192.size a ≤ S8192x8192.size a)
theorem k0_off471_inb : ∀ (i : grid0.Coords) (v8202 : BitVec 32) (k0_hw471 : k0_chk471 i v8202), ∀ (k0_h1 : k0_cond1 i = 1#1), ∀ a, (k0_off471 v8202) a + S1x8192.size a ≤ S8192x8192.size a := fun i v8202 k0_hw471 k0_h1 => k0_hw471 k0_h1

def k0_off472 (v8208 : BitVec 32) : Fin 2 → Nat :=
  let c0_i32_4730 : BitVec 32 := 0#32
  ![v8208.toNat, 0]

def k0_chk472 (i : grid0.Coords) (v8208 : BitVec 32) : Prop :=
  (∀ (k0_h1 : k0_cond1 i = 1#1), ∀ a, (k0_off472 v8208) a + S1x8192.size a ≤ S8192x8192.size a)
theorem k0_off472_inb : ∀ (i : grid0.Coords) (v8208 : BitVec 32) (k0_hw472 : k0_chk472 i v8208), ∀ (k0_h1 : k0_cond1 i = 1#1), ∀ a, (k0_off472 v8208) a + S1x8192.size a ≤ S8192x8192.size a := fun i v8208 k0_hw472 k0_h1 => k0_hw472 k0_h1

def k0_off473 (v8214 : BitVec 32) : Fin 2 → Nat :=
  let c0_i32_4734 : BitVec 32 := 0#32
  ![v8214.toNat, 0]

def k0_chk473 (i : grid0.Coords) (v8214 : BitVec 32) : Prop :=
  (∀ (k0_h1 : k0_cond1 i = 1#1), ∀ a, (k0_off473 v8214) a + S1x8192.size a ≤ S8192x8192.size a)
theorem k0_off473_inb : ∀ (i : grid0.Coords) (v8214 : BitVec 32) (k0_hw473 : k0_chk473 i v8214), ∀ (k0_h1 : k0_cond1 i = 1#1), ∀ a, (k0_off473 v8214) a + S1x8192.size a ≤ S8192x8192.size a := fun i v8214 k0_hw473 k0_h1 => k0_hw473 k0_h1

def k0_off474 (v8220 : BitVec 32) : Fin 2 → Nat :=
  let c0_i32_4739 : BitVec 32 := 0#32
  ![v8220.toNat, 0]

def k0_chk474 (i : grid0.Coords) (v8220 : BitVec 32) : Prop :=
  (∀ (k0_h1 : k0_cond1 i = 1#1), ∀ a, (k0_off474 v8220) a + S1x8192.size a ≤ S8192x8192.size a)
theorem k0_off474_inb : ∀ (i : grid0.Coords) (v8220 : BitVec 32) (k0_hw474 : k0_chk474 i v8220), ∀ (k0_h1 : k0_cond1 i = 1#1), ∀ a, (k0_off474 v8220) a + S1x8192.size a ≤ S8192x8192.size a := fun i v8220 k0_hw474 k0_h1 => k0_hw474 k0_h1

def k0_off475 (v8226 : BitVec 32) : Fin 2 → Nat :=
  let c0_i32_4744 : BitVec 32 := 0#32
  ![v8226.toNat, 0]

def k0_chk475 (i : grid0.Coords) (v8226 : BitVec 32) : Prop :=
  (∀ (k0_h1 : k0_cond1 i = 1#1), ∀ a, (k0_off475 v8226) a + S1x8192.size a ≤ S8192x8192.size a)
theorem k0_off475_inb : ∀ (i : grid0.Coords) (v8226 : BitVec 32) (k0_hw475 : k0_chk475 i v8226), ∀ (k0_h1 : k0_cond1 i = 1#1), ∀ a, (k0_off475 v8226) a + S1x8192.size a ≤ S8192x8192.size a := fun i v8226 k0_hw475 k0_h1 => k0_hw475 k0_h1

def k0_off476 (v8232 : BitVec 32) : Fin 2 → Nat :=
  let c0_i32_4749 : BitVec 32 := 0#32
  ![v8232.toNat, 0]

def k0_chk476 (i : grid0.Coords) (v8232 : BitVec 32) : Prop :=
  (∀ (k0_h1 : k0_cond1 i = 1#1), ∀ a, (k0_off476 v8232) a + S1x8192.size a ≤ S8192x8192.size a)
theorem k0_off476_inb : ∀ (i : grid0.Coords) (v8232 : BitVec 32) (k0_hw476 : k0_chk476 i v8232), ∀ (k0_h1 : k0_cond1 i = 1#1), ∀ a, (k0_off476 v8232) a + S1x8192.size a ≤ S8192x8192.size a := fun i v8232 k0_hw476 k0_h1 => k0_hw476 k0_h1

def k0_off477 (v8238 : BitVec 32) : Fin 2 → Nat :=
  let c0_i32_4754 : BitVec 32 := 0#32
  ![v8238.toNat, 0]

def k0_chk477 (i : grid0.Coords) (v8238 : BitVec 32) : Prop :=
  (∀ (k0_h1 : k0_cond1 i = 1#1), ∀ a, (k0_off477 v8238) a + S1x8192.size a ≤ S8192x8192.size a)
theorem k0_off477_inb : ∀ (i : grid0.Coords) (v8238 : BitVec 32) (k0_hw477 : k0_chk477 i v8238), ∀ (k0_h1 : k0_cond1 i = 1#1), ∀ a, (k0_off477 v8238) a + S1x8192.size a ≤ S8192x8192.size a := fun i v8238 k0_hw477 k0_h1 => k0_hw477 k0_h1

def k0_off478 (v8244 : BitVec 32) : Fin 2 → Nat :=
  let c0_i32_4759 : BitVec 32 := 0#32
  ![v8244.toNat, 0]

def k0_chk478 (i : grid0.Coords) (v8244 : BitVec 32) : Prop :=
  (∀ (k0_h1 : k0_cond1 i = 1#1), ∀ a, (k0_off478 v8244) a + S1x8192.size a ≤ S8192x8192.size a)
theorem k0_off478_inb : ∀ (i : grid0.Coords) (v8244 : BitVec 32) (k0_hw478 : k0_chk478 i v8244), ∀ (k0_h1 : k0_cond1 i = 1#1), ∀ a, (k0_off478 v8244) a + S1x8192.size a ≤ S8192x8192.size a := fun i v8244 k0_hw478 k0_h1 => k0_hw478 k0_h1

def k0_off479 (v8250 : BitVec 32) : Fin 2 → Nat :=
  let c0_i32_4764 : BitVec 32 := 0#32
  ![v8250.toNat, 0]

def k0_chk479 (i : grid0.Coords) (v8250 : BitVec 32) : Prop :=
  (∀ (k0_h1 : k0_cond1 i = 1#1), ∀ a, (k0_off479 v8250) a + S1x8192.size a ≤ S8192x8192.size a)
theorem k0_off479_inb : ∀ (i : grid0.Coords) (v8250 : BitVec 32) (k0_hw479 : k0_chk479 i v8250), ∀ (k0_h1 : k0_cond1 i = 1#1), ∀ a, (k0_off479 v8250) a + S1x8192.size a ≤ S8192x8192.size a := fun i v8250 k0_hw479 k0_h1 => k0_hw479 k0_h1

def k0_off480 (v8256 : BitVec 32) : Fin 2 → Nat :=
  let c0_i32_4769 : BitVec 32 := 0#32
  ![v8256.toNat, 0]

def k0_chk480 (i : grid0.Coords) (v8256 : BitVec 32) : Prop :=
  (∀ (k0_h1 : k0_cond1 i = 1#1), ∀ a, (k0_off480 v8256) a + S1x8192.size a ≤ S8192x8192.size a)
theorem k0_off480_inb : ∀ (i : grid0.Coords) (v8256 : BitVec 32) (k0_hw480 : k0_chk480 i v8256), ∀ (k0_h1 : k0_cond1 i = 1#1), ∀ a, (k0_off480 v8256) a + S1x8192.size a ≤ S8192x8192.size a := fun i v8256 k0_hw480 k0_h1 => k0_hw480 k0_h1

def k0_off481 (v8262 : BitVec 32) : Fin 2 → Nat :=
  let c0_i32_4773 : BitVec 32 := 0#32
  ![v8262.toNat, 0]

def k0_chk481 (i : grid0.Coords) (v8262 : BitVec 32) : Prop :=
  (∀ (k0_h1 : k0_cond1 i = 1#1), ∀ a, (k0_off481 v8262) a + S1x8192.size a ≤ S8192x8192.size a)
theorem k0_off481_inb : ∀ (i : grid0.Coords) (v8262 : BitVec 32) (k0_hw481 : k0_chk481 i v8262), ∀ (k0_h1 : k0_cond1 i = 1#1), ∀ a, (k0_off481 v8262) a + S1x8192.size a ≤ S8192x8192.size a := fun i v8262 k0_hw481 k0_h1 => k0_hw481 k0_h1

def k0_off482 (v8268 : BitVec 32) : Fin 2 → Nat :=
  let c0_i32_4778 : BitVec 32 := 0#32
  ![v8268.toNat, 0]

def k0_chk482 (i : grid0.Coords) (v8268 : BitVec 32) : Prop :=
  (∀ (k0_h1 : k0_cond1 i = 1#1), ∀ a, (k0_off482 v8268) a + S1x8192.size a ≤ S8192x8192.size a)
theorem k0_off482_inb : ∀ (i : grid0.Coords) (v8268 : BitVec 32) (k0_hw482 : k0_chk482 i v8268), ∀ (k0_h1 : k0_cond1 i = 1#1), ∀ a, (k0_off482 v8268) a + S1x8192.size a ≤ S8192x8192.size a := fun i v8268 k0_hw482 k0_h1 => k0_hw482 k0_h1

def k0_off483 (v8274 : BitVec 32) : Fin 2 → Nat :=
  let c0_i32_4783 : BitVec 32 := 0#32
  ![v8274.toNat, 0]

def k0_chk483 (i : grid0.Coords) (v8274 : BitVec 32) : Prop :=
  (∀ (k0_h1 : k0_cond1 i = 1#1), ∀ a, (k0_off483 v8274) a + S1x8192.size a ≤ S8192x8192.size a)
theorem k0_off483_inb : ∀ (i : grid0.Coords) (v8274 : BitVec 32) (k0_hw483 : k0_chk483 i v8274), ∀ (k0_h1 : k0_cond1 i = 1#1), ∀ a, (k0_off483 v8274) a + S1x8192.size a ≤ S8192x8192.size a := fun i v8274 k0_hw483 k0_h1 => k0_hw483 k0_h1

def k0_off484 (v8280 : BitVec 32) : Fin 2 → Nat :=
  let c0_i32_4788 : BitVec 32 := 0#32
  ![v8280.toNat, 0]

def k0_chk484 (i : grid0.Coords) (v8280 : BitVec 32) : Prop :=
  (∀ (k0_h1 : k0_cond1 i = 1#1), ∀ a, (k0_off484 v8280) a + S1x8192.size a ≤ S8192x8192.size a)
theorem k0_off484_inb : ∀ (i : grid0.Coords) (v8280 : BitVec 32) (k0_hw484 : k0_chk484 i v8280), ∀ (k0_h1 : k0_cond1 i = 1#1), ∀ a, (k0_off484 v8280) a + S1x8192.size a ≤ S8192x8192.size a := fun i v8280 k0_hw484 k0_h1 => k0_hw484 k0_h1

def k0_off485 (v8286 : BitVec 32) : Fin 2 → Nat :=
  let c0_i32_4793 : BitVec 32 := 0#32
  ![v8286.toNat, 0]

def k0_chk485 (i : grid0.Coords) (v8286 : BitVec 32) : Prop :=
  (∀ (k0_h1 : k0_cond1 i = 1#1), ∀ a, (k0_off485 v8286) a + S1x8192.size a ≤ S8192x8192.size a)
theorem k0_off485_inb : ∀ (i : grid0.Coords) (v8286 : BitVec 32) (k0_hw485 : k0_chk485 i v8286), ∀ (k0_h1 : k0_cond1 i = 1#1), ∀ a, (k0_off485 v8286) a + S1x8192.size a ≤ S8192x8192.size a := fun i v8286 k0_hw485 k0_h1 => k0_hw485 k0_h1

def k0_off486 (v8292 : BitVec 32) : Fin 2 → Nat :=
  let c0_i32_4798 : BitVec 32 := 0#32
  ![v8292.toNat, 0]

def k0_chk486 (i : grid0.Coords) (v8292 : BitVec 32) : Prop :=
  (∀ (k0_h1 : k0_cond1 i = 1#1), ∀ a, (k0_off486 v8292) a + S1x8192.size a ≤ S8192x8192.size a)
theorem k0_off486_inb : ∀ (i : grid0.Coords) (v8292 : BitVec 32) (k0_hw486 : k0_chk486 i v8292), ∀ (k0_h1 : k0_cond1 i = 1#1), ∀ a, (k0_off486 v8292) a + S1x8192.size a ≤ S8192x8192.size a := fun i v8292 k0_hw486 k0_h1 => k0_hw486 k0_h1

def k0_off487 (v8298 : BitVec 32) : Fin 2 → Nat :=
  let c0_i32_4803 : BitVec 32 := 0#32
  ![v8298.toNat, 0]

def k0_chk487 (i : grid0.Coords) (v8298 : BitVec 32) : Prop :=
  (∀ (k0_h1 : k0_cond1 i = 1#1), ∀ a, (k0_off487 v8298) a + S1x8192.size a ≤ S8192x8192.size a)
theorem k0_off487_inb : ∀ (i : grid0.Coords) (v8298 : BitVec 32) (k0_hw487 : k0_chk487 i v8298), ∀ (k0_h1 : k0_cond1 i = 1#1), ∀ a, (k0_off487 v8298) a + S1x8192.size a ≤ S8192x8192.size a := fun i v8298 k0_hw487 k0_h1 => k0_hw487 k0_h1

def k0_off488 (v8304 : BitVec 32) : Fin 2 → Nat :=
  let c0_i32_4808 : BitVec 32 := 0#32
  ![v8304.toNat, 0]

def k0_chk488 (i : grid0.Coords) (v8304 : BitVec 32) : Prop :=
  (∀ (k0_h1 : k0_cond1 i = 1#1), ∀ a, (k0_off488 v8304) a + S1x8192.size a ≤ S8192x8192.size a)
theorem k0_off488_inb : ∀ (i : grid0.Coords) (v8304 : BitVec 32) (k0_hw488 : k0_chk488 i v8304), ∀ (k0_h1 : k0_cond1 i = 1#1), ∀ a, (k0_off488 v8304) a + S1x8192.size a ≤ S8192x8192.size a := fun i v8304 k0_hw488 k0_h1 => k0_hw488 k0_h1

def k0_off489 (v8310 : BitVec 32) : Fin 2 → Nat :=
  let c0_i32_4812 : BitVec 32 := 0#32
  ![v8310.toNat, 0]

def k0_chk489 (i : grid0.Coords) (v8310 : BitVec 32) : Prop :=
  (∀ (k0_h1 : k0_cond1 i = 1#1), ∀ a, (k0_off489 v8310) a + S1x8192.size a ≤ S8192x8192.size a)
theorem k0_off489_inb : ∀ (i : grid0.Coords) (v8310 : BitVec 32) (k0_hw489 : k0_chk489 i v8310), ∀ (k0_h1 : k0_cond1 i = 1#1), ∀ a, (k0_off489 v8310) a + S1x8192.size a ≤ S8192x8192.size a := fun i v8310 k0_hw489 k0_h1 => k0_hw489 k0_h1

def k0_off490 (v8316 : BitVec 32) : Fin 2 → Nat :=
  let c0_i32_4817 : BitVec 32 := 0#32
  ![v8316.toNat, 0]

def k0_chk490 (i : grid0.Coords) (v8316 : BitVec 32) : Prop :=
  (∀ (k0_h1 : k0_cond1 i = 1#1), ∀ a, (k0_off490 v8316) a + S1x8192.size a ≤ S8192x8192.size a)
theorem k0_off490_inb : ∀ (i : grid0.Coords) (v8316 : BitVec 32) (k0_hw490 : k0_chk490 i v8316), ∀ (k0_h1 : k0_cond1 i = 1#1), ∀ a, (k0_off490 v8316) a + S1x8192.size a ≤ S8192x8192.size a := fun i v8316 k0_hw490 k0_h1 => k0_hw490 k0_h1

def k0_off491 (v8322 : BitVec 32) : Fin 2 → Nat :=
  let c0_i32_4822 : BitVec 32 := 0#32
  ![v8322.toNat, 0]

def k0_chk491 (i : grid0.Coords) (v8322 : BitVec 32) : Prop :=
  (∀ (k0_h1 : k0_cond1 i = 1#1), ∀ a, (k0_off491 v8322) a + S1x8192.size a ≤ S8192x8192.size a)
theorem k0_off491_inb : ∀ (i : grid0.Coords) (v8322 : BitVec 32) (k0_hw491 : k0_chk491 i v8322), ∀ (k0_h1 : k0_cond1 i = 1#1), ∀ a, (k0_off491 v8322) a + S1x8192.size a ≤ S8192x8192.size a := fun i v8322 k0_hw491 k0_h1 => k0_hw491 k0_h1

def k0_off492 (v8328 : BitVec 32) : Fin 2 → Nat :=
  let c0_i32_4827 : BitVec 32 := 0#32
  ![v8328.toNat, 0]

def k0_chk492 (i : grid0.Coords) (v8328 : BitVec 32) : Prop :=
  (∀ (k0_h1 : k0_cond1 i = 1#1), ∀ a, (k0_off492 v8328) a + S1x8192.size a ≤ S8192x8192.size a)
theorem k0_off492_inb : ∀ (i : grid0.Coords) (v8328 : BitVec 32) (k0_hw492 : k0_chk492 i v8328), ∀ (k0_h1 : k0_cond1 i = 1#1), ∀ a, (k0_off492 v8328) a + S1x8192.size a ≤ S8192x8192.size a := fun i v8328 k0_hw492 k0_h1 => k0_hw492 k0_h1

def k0_off493 (v8334 : BitVec 32) : Fin 2 → Nat :=
  let c0_i32_4832 : BitVec 32 := 0#32
  ![v8334.toNat, 0]

def k0_chk493 (i : grid0.Coords) (v8334 : BitVec 32) : Prop :=
  (∀ (k0_h1 : k0_cond1 i = 1#1), ∀ a, (k0_off493 v8334) a + S1x8192.size a ≤ S8192x8192.size a)
theorem k0_off493_inb : ∀ (i : grid0.Coords) (v8334 : BitVec 32) (k0_hw493 : k0_chk493 i v8334), ∀ (k0_h1 : k0_cond1 i = 1#1), ∀ a, (k0_off493 v8334) a + S1x8192.size a ≤ S8192x8192.size a := fun i v8334 k0_hw493 k0_h1 => k0_hw493 k0_h1

def k0_off494 (v8340 : BitVec 32) : Fin 2 → Nat :=
  let c0_i32_4837 : BitVec 32 := 0#32
  ![v8340.toNat, 0]

def k0_chk494 (i : grid0.Coords) (v8340 : BitVec 32) : Prop :=
  (∀ (k0_h1 : k0_cond1 i = 1#1), ∀ a, (k0_off494 v8340) a + S1x8192.size a ≤ S8192x8192.size a)
theorem k0_off494_inb : ∀ (i : grid0.Coords) (v8340 : BitVec 32) (k0_hw494 : k0_chk494 i v8340), ∀ (k0_h1 : k0_cond1 i = 1#1), ∀ a, (k0_off494 v8340) a + S1x8192.size a ≤ S8192x8192.size a := fun i v8340 k0_hw494 k0_h1 => k0_hw494 k0_h1

def k0_off495 (v8346 : BitVec 32) : Fin 2 → Nat :=
  let c0_i32_4842 : BitVec 32 := 0#32
  ![v8346.toNat, 0]

def k0_chk495 (i : grid0.Coords) (v8346 : BitVec 32) : Prop :=
  (∀ (k0_h1 : k0_cond1 i = 1#1), ∀ a, (k0_off495 v8346) a + S1x8192.size a ≤ S8192x8192.size a)
theorem k0_off495_inb : ∀ (i : grid0.Coords) (v8346 : BitVec 32) (k0_hw495 : k0_chk495 i v8346), ∀ (k0_h1 : k0_cond1 i = 1#1), ∀ a, (k0_off495 v8346) a + S1x8192.size a ≤ S8192x8192.size a := fun i v8346 k0_hw495 k0_h1 => k0_hw495 k0_h1

def k0_off496 (v8352 : BitVec 32) : Fin 2 → Nat :=
  let c0_i32_4847 : BitVec 32 := 0#32
  ![v8352.toNat, 0]

def k0_chk496 (i : grid0.Coords) (v8352 : BitVec 32) : Prop :=
  (∀ (k0_h1 : k0_cond1 i = 1#1), ∀ a, (k0_off496 v8352) a + S1x8192.size a ≤ S8192x8192.size a)
theorem k0_off496_inb : ∀ (i : grid0.Coords) (v8352 : BitVec 32) (k0_hw496 : k0_chk496 i v8352), ∀ (k0_h1 : k0_cond1 i = 1#1), ∀ a, (k0_off496 v8352) a + S1x8192.size a ≤ S8192x8192.size a := fun i v8352 k0_hw496 k0_h1 => k0_hw496 k0_h1

def k0_off497 (v8358 : BitVec 32) : Fin 2 → Nat :=
  let c0_i32_4851 : BitVec 32 := 0#32
  ![v8358.toNat, 0]

def k0_chk497 (i : grid0.Coords) (v8358 : BitVec 32) : Prop :=
  (∀ (k0_h1 : k0_cond1 i = 1#1), ∀ a, (k0_off497 v8358) a + S1x8192.size a ≤ S8192x8192.size a)
theorem k0_off497_inb : ∀ (i : grid0.Coords) (v8358 : BitVec 32) (k0_hw497 : k0_chk497 i v8358), ∀ (k0_h1 : k0_cond1 i = 1#1), ∀ a, (k0_off497 v8358) a + S1x8192.size a ≤ S8192x8192.size a := fun i v8358 k0_hw497 k0_h1 => k0_hw497 k0_h1

def k0_off498 (v8364 : BitVec 32) : Fin 2 → Nat :=
  let c0_i32_4856 : BitVec 32 := 0#32
  ![v8364.toNat, 0]

def k0_chk498 (i : grid0.Coords) (v8364 : BitVec 32) : Prop :=
  (∀ (k0_h1 : k0_cond1 i = 1#1), ∀ a, (k0_off498 v8364) a + S1x8192.size a ≤ S8192x8192.size a)
theorem k0_off498_inb : ∀ (i : grid0.Coords) (v8364 : BitVec 32) (k0_hw498 : k0_chk498 i v8364), ∀ (k0_h1 : k0_cond1 i = 1#1), ∀ a, (k0_off498 v8364) a + S1x8192.size a ≤ S8192x8192.size a := fun i v8364 k0_hw498 k0_h1 => k0_hw498 k0_h1

def k0_off499 (v8370 : BitVec 32) : Fin 2 → Nat :=
  let c0_i32_4861 : BitVec 32 := 0#32
  ![v8370.toNat, 0]

def k0_chk499 (i : grid0.Coords) (v8370 : BitVec 32) : Prop :=
  (∀ (k0_h1 : k0_cond1 i = 1#1), ∀ a, (k0_off499 v8370) a + S1x8192.size a ≤ S8192x8192.size a)
theorem k0_off499_inb : ∀ (i : grid0.Coords) (v8370 : BitVec 32) (k0_hw499 : k0_chk499 i v8370), ∀ (k0_h1 : k0_cond1 i = 1#1), ∀ a, (k0_off499 v8370) a + S1x8192.size a ≤ S8192x8192.size a := fun i v8370 k0_hw499 k0_h1 => k0_hw499 k0_h1

def k0_off500 (v8376 : BitVec 32) : Fin 2 → Nat :=
  let c0_i32_4866 : BitVec 32 := 0#32
  ![v8376.toNat, 0]

def k0_chk500 (i : grid0.Coords) (v8376 : BitVec 32) : Prop :=
  (∀ (k0_h1 : k0_cond1 i = 1#1), ∀ a, (k0_off500 v8376) a + S1x8192.size a ≤ S8192x8192.size a)
theorem k0_off500_inb : ∀ (i : grid0.Coords) (v8376 : BitVec 32) (k0_hw500 : k0_chk500 i v8376), ∀ (k0_h1 : k0_cond1 i = 1#1), ∀ a, (k0_off500 v8376) a + S1x8192.size a ≤ S8192x8192.size a := fun i v8376 k0_hw500 k0_h1 => k0_hw500 k0_h1

def k0_off501 (v8382 : BitVec 32) : Fin 2 → Nat :=
  let c0_i32_4871 : BitVec 32 := 0#32
  ![v8382.toNat, 0]

def k0_chk501 (i : grid0.Coords) (v8382 : BitVec 32) : Prop :=
  (∀ (k0_h1 : k0_cond1 i = 1#1), ∀ a, (k0_off501 v8382) a + S1x8192.size a ≤ S8192x8192.size a)
theorem k0_off501_inb : ∀ (i : grid0.Coords) (v8382 : BitVec 32) (k0_hw501 : k0_chk501 i v8382), ∀ (k0_h1 : k0_cond1 i = 1#1), ∀ a, (k0_off501 v8382) a + S1x8192.size a ≤ S8192x8192.size a := fun i v8382 k0_hw501 k0_h1 => k0_hw501 k0_h1

def k0_off502 (v8388 : BitVec 32) : Fin 2 → Nat :=
  let c0_i32_4876 : BitVec 32 := 0#32
  ![v8388.toNat, 0]

def k0_chk502 (i : grid0.Coords) (v8388 : BitVec 32) : Prop :=
  (∀ (k0_h1 : k0_cond1 i = 1#1), ∀ a, (k0_off502 v8388) a + S1x8192.size a ≤ S8192x8192.size a)
theorem k0_off502_inb : ∀ (i : grid0.Coords) (v8388 : BitVec 32) (k0_hw502 : k0_chk502 i v8388), ∀ (k0_h1 : k0_cond1 i = 1#1), ∀ a, (k0_off502 v8388) a + S1x8192.size a ≤ S8192x8192.size a := fun i v8388 k0_hw502 k0_h1 => k0_hw502 k0_h1

def k0_off503 (v8394 : BitVec 32) : Fin 2 → Nat :=
  let c0_i32_4881 : BitVec 32 := 0#32
  ![v8394.toNat, 0]

def k0_chk503 (i : grid0.Coords) (v8394 : BitVec 32) : Prop :=
  (∀ (k0_h1 : k0_cond1 i = 1#1), ∀ a, (k0_off503 v8394) a + S1x8192.size a ≤ S8192x8192.size a)
theorem k0_off503_inb : ∀ (i : grid0.Coords) (v8394 : BitVec 32) (k0_hw503 : k0_chk503 i v8394), ∀ (k0_h1 : k0_cond1 i = 1#1), ∀ a, (k0_off503 v8394) a + S1x8192.size a ≤ S8192x8192.size a := fun i v8394 k0_hw503 k0_h1 => k0_hw503 k0_h1

def k0_off504 (v8400 : BitVec 32) : Fin 2 → Nat :=
  let c0_i32_4886 : BitVec 32 := 0#32
  ![v8400.toNat, 0]

def k0_chk504 (i : grid0.Coords) (v8400 : BitVec 32) : Prop :=
  (∀ (k0_h1 : k0_cond1 i = 1#1), ∀ a, (k0_off504 v8400) a + S1x8192.size a ≤ S8192x8192.size a)
theorem k0_off504_inb : ∀ (i : grid0.Coords) (v8400 : BitVec 32) (k0_hw504 : k0_chk504 i v8400), ∀ (k0_h1 : k0_cond1 i = 1#1), ∀ a, (k0_off504 v8400) a + S1x8192.size a ≤ S8192x8192.size a := fun i v8400 k0_hw504 k0_h1 => k0_hw504 k0_h1

def k0_off505 (v8406 : BitVec 32) : Fin 2 → Nat :=
  let c0_i32_4891 : BitVec 32 := 0#32
  ![v8406.toNat, 0]

def k0_chk505 (i : grid0.Coords) (v8406 : BitVec 32) : Prop :=
  (∀ (k0_h1 : k0_cond1 i = 1#1), ∀ a, (k0_off505 v8406) a + S1x8192.size a ≤ S8192x8192.size a)
theorem k0_off505_inb : ∀ (i : grid0.Coords) (v8406 : BitVec 32) (k0_hw505 : k0_chk505 i v8406), ∀ (k0_h1 : k0_cond1 i = 1#1), ∀ a, (k0_off505 v8406) a + S1x8192.size a ≤ S8192x8192.size a := fun i v8406 k0_hw505 k0_h1 => k0_hw505 k0_h1

def k0_off506 (v8412 : BitVec 32) : Fin 2 → Nat :=
  let c0_i32_4896 : BitVec 32 := 0#32
  ![v8412.toNat, 0]

def k0_chk506 (i : grid0.Coords) (v8412 : BitVec 32) : Prop :=
  (∀ (k0_h1 : k0_cond1 i = 1#1), ∀ a, (k0_off506 v8412) a + S1x8192.size a ≤ S8192x8192.size a)
theorem k0_off506_inb : ∀ (i : grid0.Coords) (v8412 : BitVec 32) (k0_hw506 : k0_chk506 i v8412), ∀ (k0_h1 : k0_cond1 i = 1#1), ∀ a, (k0_off506 v8412) a + S1x8192.size a ≤ S8192x8192.size a := fun i v8412 k0_hw506 k0_h1 => k0_hw506 k0_h1

def k0_off507 (v8418 : BitVec 32) : Fin 2 → Nat :=
  let c0_i32_4901 : BitVec 32 := 0#32
  ![v8418.toNat, 0]

def k0_chk507 (i : grid0.Coords) (v8418 : BitVec 32) : Prop :=
  (∀ (k0_h1 : k0_cond1 i = 1#1), ∀ a, (k0_off507 v8418) a + S1x8192.size a ≤ S8192x8192.size a)
theorem k0_off507_inb : ∀ (i : grid0.Coords) (v8418 : BitVec 32) (k0_hw507 : k0_chk507 i v8418), ∀ (k0_h1 : k0_cond1 i = 1#1), ∀ a, (k0_off507 v8418) a + S1x8192.size a ≤ S8192x8192.size a := fun i v8418 k0_hw507 k0_h1 => k0_hw507 k0_h1

def k0_off508 (v8424 : BitVec 32) : Fin 2 → Nat :=
  let c0_i32_4906 : BitVec 32 := 0#32
  ![v8424.toNat, 0]

def k0_chk508 (i : grid0.Coords) (v8424 : BitVec 32) : Prop :=
  (∀ (k0_h1 : k0_cond1 i = 1#1), ∀ a, (k0_off508 v8424) a + S1x8192.size a ≤ S8192x8192.size a)
theorem k0_off508_inb : ∀ (i : grid0.Coords) (v8424 : BitVec 32) (k0_hw508 : k0_chk508 i v8424), ∀ (k0_h1 : k0_cond1 i = 1#1), ∀ a, (k0_off508 v8424) a + S1x8192.size a ≤ S8192x8192.size a := fun i v8424 k0_hw508 k0_h1 => k0_hw508 k0_h1

def k0_off509 (v8430 : BitVec 32) : Fin 2 → Nat :=
  let c0_i32_4911 : BitVec 32 := 0#32
  ![v8430.toNat, 0]

def k0_chk509 (i : grid0.Coords) (v8430 : BitVec 32) : Prop :=
  (∀ (k0_h1 : k0_cond1 i = 1#1), ∀ a, (k0_off509 v8430) a + S1x8192.size a ≤ S8192x8192.size a)
theorem k0_off509_inb : ∀ (i : grid0.Coords) (v8430 : BitVec 32) (k0_hw509 : k0_chk509 i v8430), ∀ (k0_h1 : k0_cond1 i = 1#1), ∀ a, (k0_off509 v8430) a + S1x8192.size a ≤ S8192x8192.size a := fun i v8430 k0_hw509 k0_h1 => k0_hw509 k0_h1

def k0_off510 (v8436 : BitVec 32) : Fin 2 → Nat :=
  let c0_i32_4916 : BitVec 32 := 0#32
  ![v8436.toNat, 0]

def k0_chk510 (i : grid0.Coords) (v8436 : BitVec 32) : Prop :=
  (∀ (k0_h1 : k0_cond1 i = 1#1), ∀ a, (k0_off510 v8436) a + S1x8192.size a ≤ S8192x8192.size a)
theorem k0_off510_inb : ∀ (i : grid0.Coords) (v8436 : BitVec 32) (k0_hw510 : k0_chk510 i v8436), ∀ (k0_h1 : k0_cond1 i = 1#1), ∀ a, (k0_off510 v8436) a + S1x8192.size a ≤ S8192x8192.size a := fun i v8436 k0_hw510 k0_h1 => k0_hw510 k0_h1

def k0_off511 (v8442 : BitVec 32) : Fin 2 → Nat :=
  let c0_i32_4921 : BitVec 32 := 0#32
  ![v8442.toNat, 0]

def k0_chk511 (i : grid0.Coords) (v8442 : BitVec 32) : Prop :=
  (∀ (k0_h1 : k0_cond1 i = 1#1), ∀ a, (k0_off511 v8442) a + S1x8192.size a ≤ S8192x8192.size a)
theorem k0_off511_inb : ∀ (i : grid0.Coords) (v8442 : BitVec 32) (k0_hw511 : k0_chk511 i v8442), ∀ (k0_h1 : k0_cond1 i = 1#1), ∀ a, (k0_off511 v8442) a + S1x8192.size a ≤ S8192x8192.size a := fun i v8442 k0_hw511 k0_h1 => k0_hw511 k0_h1

def k0_off512 (v8448 : BitVec 32) : Fin 2 → Nat :=
  let c0_i32_4926 : BitVec 32 := 0#32
  ![v8448.toNat, 0]

def k0_chk512 (i : grid0.Coords) (v8448 : BitVec 32) : Prop :=
  (∀ (k0_h1 : k0_cond1 i = 1#1), ∀ a, (k0_off512 v8448) a + S1x8192.size a ≤ S8192x8192.size a)
theorem k0_off512_inb : ∀ (i : grid0.Coords) (v8448 : BitVec 32) (k0_hw512 : k0_chk512 i v8448), ∀ (k0_h1 : k0_cond1 i = 1#1), ∀ a, (k0_off512 v8448) a + S1x8192.size a ≤ S8192x8192.size a := fun i v8448 k0_hw512 k0_h1 => k0_hw512 k0_h1

def k0_cond2 (i : grid0.Coords) : BitVec 1 :=
  let arg0 : BitVec 32 := BitVec.ofNat 32 (i 0).val
  let c3_i32_5 : BitVec 32 := 3#32
  let v16 : BitVec 32 := Scalar.addi arg0 c3_i32_5
  let c1_i32_6 : BitVec 32 := 1#32
  let v17 : BitVec 32 := Scalar.subi v16 c1_i32_6
  let c64_i32 : BitVec 32 := 64#32
  let v18 : BitVec 1 := Scalar.cmpi .slt v17 c64_i32
  let v19 : BitVec 32 := Scalar.extui v18
  let c0_i32_7 : BitVec 32 := 0#32
  let v20 : BitVec 1 := Scalar.cmpi .ne v19 c0_i32_7
  v20

def k0_off513 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c0_i32_2366 : BitVec 32 := 0#32
  let v5388 : BitVec 32 := Scalar.addi v5387 c0_i32_2366
  let c0_i32_2367 : BitVec 32 := 0#32
  let v5389 : BitVec 32 := Scalar.addi v5388 c0_i32_2367
  let v5390 : Index := Scalar.indexCast v5389
  ![v5390.toNat]
def k0_off514 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2369 : BitVec 32 := 0#32
  let v5393 : BitVec 32 := Scalar.addi v5386 c0_i32_2369
  ![v5393.toNat]
def k0_off515 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2368 : BitVec 32 := 0#32
  let v5392 : BitVec 32 := Scalar.addi v5386 c0_i32_2368
  let c0_i32_2370 : BitVec 32 := 0#32
  let c0_i32_2371 : BitVec 32 := 0#32
  ![v5392.toNat, 0, 0]
def k0_off516 (v5391 : BitVec 32) : Fin 2 → Nat :=
  let c0_i32_2372 : BitVec 32 := 0#32
  ![v5391.toNat, 0]

def k0_chk513 (i : grid0.Coords) (v5391 : BitVec 32) : Prop :=
  (∀ (k0_h2 : k0_cond2 i = 1#1), ∀ a, (k0_off516 v5391) a + S1x8192.size a ≤ S8192x8192.size a)
theorem k0_off516_inb : ∀ (i : grid0.Coords) (v5391 : BitVec 32) (k0_hw513 : k0_chk513 i v5391), ∀ (k0_h2 : k0_cond2 i = 1#1), ∀ a, (k0_off516 v5391) a + S1x8192.size a ≤ S8192x8192.size a := fun i v5391 k0_hw513 k0_h2 => k0_hw513 k0_h2

def k0_off517 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c0_i32_2374 : BitVec 32 := 0#32
  let v5400 : BitVec 32 := Scalar.addi v5399 c0_i32_2374
  let c1_i32_2375 : BitVec 32 := 1#32
  let v5401 : BitVec 32 := Scalar.addi v5400 c1_i32_2375
  let v5402 : Index := Scalar.indexCast v5401
  ![v5402.toNat]
def k0_off518 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2377 : BitVec 32 := 0#32
  let v5405 : BitVec 32 := Scalar.addi v5386 c0_i32_2377
  ![v5405.toNat]
def k0_off519 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2376 : BitVec 32 := 0#32
  let v5404 : BitVec 32 := Scalar.addi v5386 c0_i32_2376
  let c1_i32_2378 : BitVec 32 := 1#32
  let c0_i32_2379 : BitVec 32 := 0#32
  ![v5404.toNat, 1, 0]
def k0_off520 (v5403 : BitVec 32) : Fin 2 → Nat :=
  let c0_i32_2380 : BitVec 32 := 0#32
  ![v5403.toNat, 0]

def k0_chk514 (i : grid0.Coords) (v5403 : BitVec 32) : Prop :=
  (∀ (k0_h2 : k0_cond2 i = 1#1), ∀ a, (k0_off520 v5403) a + S1x8192.size a ≤ S8192x8192.size a)
theorem k0_off520_inb : ∀ (i : grid0.Coords) (v5403 : BitVec 32) (k0_hw514 : k0_chk514 i v5403), ∀ (k0_h2 : k0_cond2 i = 1#1), ∀ a, (k0_off520 v5403) a + S1x8192.size a ≤ S8192x8192.size a := fun i v5403 k0_hw514 k0_h2 => k0_hw514 k0_h2

def k0_off521 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c0_i32_2382 : BitVec 32 := 0#32
  let v5412 : BitVec 32 := Scalar.addi v5411 c0_i32_2382
  let c2_i32_2383 : BitVec 32 := 2#32
  let v5413 : BitVec 32 := Scalar.addi v5412 c2_i32_2383
  let v5414 : Index := Scalar.indexCast v5413
  ![v5414.toNat]
def k0_off522 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2385 : BitVec 32 := 0#32
  let v5417 : BitVec 32 := Scalar.addi v5386 c0_i32_2385
  ![v5417.toNat]
def k0_off523 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2384 : BitVec 32 := 0#32
  let v5416 : BitVec 32 := Scalar.addi v5386 c0_i32_2384
  let c2_i32_2386 : BitVec 32 := 2#32
  let c0_i32_2387 : BitVec 32 := 0#32
  ![v5416.toNat, 2, 0]
def k0_off524 (v5415 : BitVec 32) : Fin 2 → Nat :=
  let c0_i32_2388 : BitVec 32 := 0#32
  ![v5415.toNat, 0]

def k0_chk515 (i : grid0.Coords) (v5415 : BitVec 32) : Prop :=
  (∀ (k0_h2 : k0_cond2 i = 1#1), ∀ a, (k0_off524 v5415) a + S1x8192.size a ≤ S8192x8192.size a)
theorem k0_off524_inb : ∀ (i : grid0.Coords) (v5415 : BitVec 32) (k0_hw515 : k0_chk515 i v5415), ∀ (k0_h2 : k0_cond2 i = 1#1), ∀ a, (k0_off524 v5415) a + S1x8192.size a ≤ S8192x8192.size a := fun i v5415 k0_hw515 k0_h2 => k0_hw515 k0_h2

def k0_off525 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c0_i32_2390 : BitVec 32 := 0#32
  let v5424 : BitVec 32 := Scalar.addi v5423 c0_i32_2390
  let c3_i32_2391 : BitVec 32 := 3#32
  let v5425 : BitVec 32 := Scalar.addi v5424 c3_i32_2391
  let v5426 : Index := Scalar.indexCast v5425
  ![v5426.toNat]
def k0_off526 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2393 : BitVec 32 := 0#32
  let v5429 : BitVec 32 := Scalar.addi v5386 c0_i32_2393
  ![v5429.toNat]
def k0_off527 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2392 : BitVec 32 := 0#32
  let v5428 : BitVec 32 := Scalar.addi v5386 c0_i32_2392
  let c3_i32_2394 : BitVec 32 := 3#32
  let c0_i32_2395 : BitVec 32 := 0#32
  ![v5428.toNat, 3, 0]
def k0_off528 (v5427 : BitVec 32) : Fin 2 → Nat :=
  let c0_i32_2396 : BitVec 32 := 0#32
  ![v5427.toNat, 0]

def k0_chk516 (i : grid0.Coords) (v5427 : BitVec 32) : Prop :=
  (∀ (k0_h2 : k0_cond2 i = 1#1), ∀ a, (k0_off528 v5427) a + S1x8192.size a ≤ S8192x8192.size a)
theorem k0_off528_inb : ∀ (i : grid0.Coords) (v5427 : BitVec 32) (k0_hw516 : k0_chk516 i v5427), ∀ (k0_h2 : k0_cond2 i = 1#1), ∀ a, (k0_off528 v5427) a + S1x8192.size a ≤ S8192x8192.size a := fun i v5427 k0_hw516 k0_h2 => k0_hw516 k0_h2

def k0_off529 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c0_i32_2398 : BitVec 32 := 0#32
  let v5436 : BitVec 32 := Scalar.addi v5435 c0_i32_2398
  let c4_i32_2399 : BitVec 32 := 4#32
  let v5437 : BitVec 32 := Scalar.addi v5436 c4_i32_2399
  let v5438 : Index := Scalar.indexCast v5437
  ![v5438.toNat]
def k0_off530 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2401 : BitVec 32 := 0#32
  let v5441 : BitVec 32 := Scalar.addi v5386 c0_i32_2401
  ![v5441.toNat]
def k0_off531 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2400 : BitVec 32 := 0#32
  let v5440 : BitVec 32 := Scalar.addi v5386 c0_i32_2400
  let c4_i32_2402 : BitVec 32 := 4#32
  let c0_i32_2403 : BitVec 32 := 0#32
  ![v5440.toNat, 4, 0]
def k0_off532 (v5439 : BitVec 32) : Fin 2 → Nat :=
  let c0_i32_2404 : BitVec 32 := 0#32
  ![v5439.toNat, 0]

def k0_chk517 (i : grid0.Coords) (v5439 : BitVec 32) : Prop :=
  (∀ (k0_h2 : k0_cond2 i = 1#1), ∀ a, (k0_off532 v5439) a + S1x8192.size a ≤ S8192x8192.size a)
theorem k0_off532_inb : ∀ (i : grid0.Coords) (v5439 : BitVec 32) (k0_hw517 : k0_chk517 i v5439), ∀ (k0_h2 : k0_cond2 i = 1#1), ∀ a, (k0_off532 v5439) a + S1x8192.size a ≤ S8192x8192.size a := fun i v5439 k0_hw517 k0_h2 => k0_hw517 k0_h2

def k0_off533 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c0_i32_2406 : BitVec 32 := 0#32
  let v5448 : BitVec 32 := Scalar.addi v5447 c0_i32_2406
  let c5_i32_2407 : BitVec 32 := 5#32
  let v5449 : BitVec 32 := Scalar.addi v5448 c5_i32_2407
  let v5450 : Index := Scalar.indexCast v5449
  ![v5450.toNat]
def k0_off534 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2409 : BitVec 32 := 0#32
  let v5453 : BitVec 32 := Scalar.addi v5386 c0_i32_2409
  ![v5453.toNat]
def k0_off535 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2408 : BitVec 32 := 0#32
  let v5452 : BitVec 32 := Scalar.addi v5386 c0_i32_2408
  let c5_i32_2410 : BitVec 32 := 5#32
  let c0_i32_2411 : BitVec 32 := 0#32
  ![v5452.toNat, 5, 0]
def k0_off536 (v5451 : BitVec 32) : Fin 2 → Nat :=
  let c0_i32_2412 : BitVec 32 := 0#32
  ![v5451.toNat, 0]

def k0_chk518 (i : grid0.Coords) (v5451 : BitVec 32) : Prop :=
  (∀ (k0_h2 : k0_cond2 i = 1#1), ∀ a, (k0_off536 v5451) a + S1x8192.size a ≤ S8192x8192.size a)
theorem k0_off536_inb : ∀ (i : grid0.Coords) (v5451 : BitVec 32) (k0_hw518 : k0_chk518 i v5451), ∀ (k0_h2 : k0_cond2 i = 1#1), ∀ a, (k0_off536 v5451) a + S1x8192.size a ≤ S8192x8192.size a := fun i v5451 k0_hw518 k0_h2 => k0_hw518 k0_h2

def k0_off537 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c0_i32_2414 : BitVec 32 := 0#32
  let v5460 : BitVec 32 := Scalar.addi v5459 c0_i32_2414
  let c6_i32_2415 : BitVec 32 := 6#32
  let v5461 : BitVec 32 := Scalar.addi v5460 c6_i32_2415
  let v5462 : Index := Scalar.indexCast v5461
  ![v5462.toNat]
def k0_off538 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2417 : BitVec 32 := 0#32
  let v5465 : BitVec 32 := Scalar.addi v5386 c0_i32_2417
  ![v5465.toNat]
def k0_off539 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2416 : BitVec 32 := 0#32
  let v5464 : BitVec 32 := Scalar.addi v5386 c0_i32_2416
  let c6_i32_2418 : BitVec 32 := 6#32
  let c0_i32_2419 : BitVec 32 := 0#32
  ![v5464.toNat, 6, 0]
def k0_off540 (v5463 : BitVec 32) : Fin 2 → Nat :=
  let c0_i32_2420 : BitVec 32 := 0#32
  ![v5463.toNat, 0]

def k0_chk519 (i : grid0.Coords) (v5463 : BitVec 32) : Prop :=
  (∀ (k0_h2 : k0_cond2 i = 1#1), ∀ a, (k0_off540 v5463) a + S1x8192.size a ≤ S8192x8192.size a)
theorem k0_off540_inb : ∀ (i : grid0.Coords) (v5463 : BitVec 32) (k0_hw519 : k0_chk519 i v5463), ∀ (k0_h2 : k0_cond2 i = 1#1), ∀ a, (k0_off540 v5463) a + S1x8192.size a ≤ S8192x8192.size a := fun i v5463 k0_hw519 k0_h2 => k0_hw519 k0_h2

def k0_off541 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c0_i32_2422 : BitVec 32 := 0#32
  let v5472 : BitVec 32 := Scalar.addi v5471 c0_i32_2422
  let c7_i32_2423 : BitVec 32 := 7#32
  let v5473 : BitVec 32 := Scalar.addi v5472 c7_i32_2423
  let v5474 : Index := Scalar.indexCast v5473
  ![v5474.toNat]
def k0_off542 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2425 : BitVec 32 := 0#32
  let v5477 : BitVec 32 := Scalar.addi v5386 c0_i32_2425
  ![v5477.toNat]
def k0_off543 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c0_i32_2424 : BitVec 32 := 0#32
  let v5476 : BitVec 32 := Scalar.addi v5386 c0_i32_2424
  let c7_i32_2426 : BitVec 32 := 7#32
  let c0_i32_2427 : BitVec 32 := 0#32
  ![v5476.toNat, 7, 0]
def k0_off544 (v5475 : BitVec 32) : Fin 2 → Nat :=
  let c0_i32_2428 : BitVec 32 := 0#32
  ![v5475.toNat, 0]

def k0_chk520 (i : grid0.Coords) (v5475 : BitVec 32) : Prop :=
  (∀ (k0_h2 : k0_cond2 i = 1#1), ∀ a, (k0_off544 v5475) a + S1x8192.size a ≤ S8192x8192.size a)
theorem k0_off544_inb : ∀ (i : grid0.Coords) (v5475 : BitVec 32) (k0_hw520 : k0_chk520 i v5475), ∀ (k0_h2 : k0_cond2 i = 1#1), ∀ a, (k0_off544 v5475) a + S1x8192.size a ≤ S8192x8192.size a := fun i v5475 k0_hw520 k0_h2 => k0_hw520 k0_h2

def k0_off545 (i : grid0.Coords) (c0_i32_8 : BitVec 32) : Fin 1 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  ![v21.toNat]
def k0_off546 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c0_i32_9 : BitVec 32 := 0#32
  let c0_i32_10 : BitVec 32 := 0#32
  ![v21.toNat, 0, 0]
def k0_off547 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c1_i32_13 : BitVec 32 := 1#32
  let c0_i32_14 : BitVec 32 := 0#32
  ![v21.toNat, 1, 0]
def k0_off548 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c2_i32 : BitVec 32 := 2#32
  let c0_i32_17 : BitVec 32 := 0#32
  ![v21.toNat, 2, 0]
def k0_off549 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c3_i32_20 : BitVec 32 := 3#32
  let c0_i32_21 : BitVec 32 := 0#32
  ![v21.toNat, 3, 0]
def k0_off550 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c4_i32 : BitVec 32 := 4#32
  let c0_i32_24 : BitVec 32 := 0#32
  ![v21.toNat, 4, 0]
def k0_off551 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c5_i32 : BitVec 32 := 5#32
  let c0_i32_27 : BitVec 32 := 0#32
  ![v21.toNat, 5, 0]
def k0_off552 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c6_i32 : BitVec 32 := 6#32
  let c0_i32_30 : BitVec 32 := 0#32
  ![v21.toNat, 6, 0]
def k0_off553 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let c7_i32 : BitVec 32 := 7#32
  let c0_i32_33 : BitVec 32 := 0#32
  ![v21.toNat, 7, 0]
def k0_off554 (i : grid0.Coords) (c0_i32_8 : BitVec 32) : Fin 3 → Nat :=
  let arg0 : BitVec 32 := BitVec.ofNat 32 (i 0).val
  let c3_i32 : BitVec 32 := 3#32
  let c0_i32_1 : BitVec 32 := 0#32
  let v5 : BitVec 1 := Scalar.cmpi .eq c3_i32 c0_i32_1
  let c1_i32 : BitVec 32 := 1#32
  let v6 : BitVec 32 := Scalar.select v5 c1_i32 c3_i32
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c32_i32 : BitVec 32 := 32#32
  let v15 : BitVec 32 := Scalar.muli v14 c32_i32
  let v21 : BitVec 32 := Scalar.addi v15 c0_i32_8
  let v62 : Index := Scalar.indexCast v21
  let c0 : Index := 0#32
  let c0_36 : Index := 0#32
  ![v62.toNat, 0, 0]
def k0_off555 (i : grid0.Coords) (c0_i32_40 : BitVec 32) (c0_i32_41 : BitVec 32) : Fin 1 → Nat :=
  let arg0 : BitVec 32 := BitVec.ofNat 32 (i 0).val
  let c256_i32 : BitVec 32 := 256#32
  let v67 : BitVec 32 := Scalar.muli arg0 c256_i32
  let v68 : BitVec 32 := Scalar.addi v67 c0_i32_40
  let v69 : BitVec 32 := Scalar.addi v68 c0_i32_41
  let v70 : Index := Scalar.indexCast v69
  ![v70.toNat]
def k0_cond3 (i : grid0.Coords) : BitVec 1 :=
  let arg0 : BitVec 32 := BitVec.ofNat 32 (i 0).val
  let c3_i32_72 : BitVec 32 := 3#32
  let v182 : BitVec 32 := Scalar.addi arg0 c3_i32_72
  let c1_i32_73 : BitVec 32 := 1#32
  let v183 : BitVec 32 := Scalar.subi v182 c1_i32_73
  let c64_i32_74 : BitVec 32 := 64#32
  let v184 : BitVec 1 := Scalar.cmpi .slt v183 c64_i32_74
  let v185 : BitVec 32 := Scalar.extui v184
  let c0_i32_75 : BitVec 32 := 0#32
  let v186 : BitVec 1 := Scalar.cmpi .ne v185 c0_i32_75
  v186

def k0_off556 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c8_i32_2366 : BitVec 32 := 8#32
  let v5388 : BitVec 32 := Scalar.addi v5387 c8_i32_2366
  let c0_i32_2367 : BitVec 32 := 0#32
  let v5389 : BitVec 32 := Scalar.addi v5388 c0_i32_2367
  let v5390 : Index := Scalar.indexCast v5389
  ![v5390.toNat]
def k0_off557 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2369 : BitVec 32 := 1#32
  let v5393 : BitVec 32 := Scalar.addi v5386 c1_i32_2369
  ![v5393.toNat]
def k0_off558 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2368 : BitVec 32 := 1#32
  let v5392 : BitVec 32 := Scalar.addi v5386 c1_i32_2368
  let c0_i32_2370 : BitVec 32 := 0#32
  let c0_i32_2371 : BitVec 32 := 0#32
  ![v5392.toNat, 0, 0]
def k0_off559 (v5391 : BitVec 32) : Fin 2 → Nat :=
  let c0_i32_2372 : BitVec 32 := 0#32
  ![v5391.toNat, 0]

def k0_chk521 (i : grid0.Coords) (v5391 : BitVec 32) : Prop :=
  (∀ (k0_h3 : k0_cond3 i = 1#1), ∀ a, (k0_off559 v5391) a + S1x8192.size a ≤ S8192x8192.size a)
theorem k0_off559_inb : ∀ (i : grid0.Coords) (v5391 : BitVec 32) (k0_hw521 : k0_chk521 i v5391), ∀ (k0_h3 : k0_cond3 i = 1#1), ∀ a, (k0_off559 v5391) a + S1x8192.size a ≤ S8192x8192.size a := fun i v5391 k0_hw521 k0_h3 => k0_hw521 k0_h3

def k0_off560 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c8_i32_2374 : BitVec 32 := 8#32
  let v5400 : BitVec 32 := Scalar.addi v5399 c8_i32_2374
  let c1_i32_2375 : BitVec 32 := 1#32
  let v5401 : BitVec 32 := Scalar.addi v5400 c1_i32_2375
  let v5402 : Index := Scalar.indexCast v5401
  ![v5402.toNat]
def k0_off561 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2377 : BitVec 32 := 1#32
  let v5405 : BitVec 32 := Scalar.addi v5386 c1_i32_2377
  ![v5405.toNat]
def k0_off562 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2376 : BitVec 32 := 1#32
  let v5404 : BitVec 32 := Scalar.addi v5386 c1_i32_2376
  let c1_i32_2378 : BitVec 32 := 1#32
  let c0_i32_2379 : BitVec 32 := 0#32
  ![v5404.toNat, 1, 0]
def k0_off563 (v5403 : BitVec 32) : Fin 2 → Nat :=
  let c0_i32_2380 : BitVec 32 := 0#32
  ![v5403.toNat, 0]

def k0_chk522 (i : grid0.Coords) (v5403 : BitVec 32) : Prop :=
  (∀ (k0_h3 : k0_cond3 i = 1#1), ∀ a, (k0_off563 v5403) a + S1x8192.size a ≤ S8192x8192.size a)
theorem k0_off563_inb : ∀ (i : grid0.Coords) (v5403 : BitVec 32) (k0_hw522 : k0_chk522 i v5403), ∀ (k0_h3 : k0_cond3 i = 1#1), ∀ a, (k0_off563 v5403) a + S1x8192.size a ≤ S8192x8192.size a := fun i v5403 k0_hw522 k0_h3 => k0_hw522 k0_h3

def k0_off564 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c8_i32_2382 : BitVec 32 := 8#32
  let v5412 : BitVec 32 := Scalar.addi v5411 c8_i32_2382
  let c2_i32_2383 : BitVec 32 := 2#32
  let v5413 : BitVec 32 := Scalar.addi v5412 c2_i32_2383
  let v5414 : Index := Scalar.indexCast v5413
  ![v5414.toNat]
def k0_off565 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2385 : BitVec 32 := 1#32
  let v5417 : BitVec 32 := Scalar.addi v5386 c1_i32_2385
  ![v5417.toNat]
def k0_off566 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2384 : BitVec 32 := 1#32
  let v5416 : BitVec 32 := Scalar.addi v5386 c1_i32_2384
  let c2_i32_2386 : BitVec 32 := 2#32
  let c0_i32_2387 : BitVec 32 := 0#32
  ![v5416.toNat, 2, 0]
def k0_off567 (v5415 : BitVec 32) : Fin 2 → Nat :=
  let c0_i32_2388 : BitVec 32 := 0#32
  ![v5415.toNat, 0]

def k0_chk523 (i : grid0.Coords) (v5415 : BitVec 32) : Prop :=
  (∀ (k0_h3 : k0_cond3 i = 1#1), ∀ a, (k0_off567 v5415) a + S1x8192.size a ≤ S8192x8192.size a)
theorem k0_off567_inb : ∀ (i : grid0.Coords) (v5415 : BitVec 32) (k0_hw523 : k0_chk523 i v5415), ∀ (k0_h3 : k0_cond3 i = 1#1), ∀ a, (k0_off567 v5415) a + S1x8192.size a ≤ S8192x8192.size a := fun i v5415 k0_hw523 k0_h3 => k0_hw523 k0_h3

def k0_off568 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c8_i32_2390 : BitVec 32 := 8#32
  let v5424 : BitVec 32 := Scalar.addi v5423 c8_i32_2390
  let c3_i32_2391 : BitVec 32 := 3#32
  let v5425 : BitVec 32 := Scalar.addi v5424 c3_i32_2391
  let v5426 : Index := Scalar.indexCast v5425
  ![v5426.toNat]
def k0_off569 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2393 : BitVec 32 := 1#32
  let v5429 : BitVec 32 := Scalar.addi v5386 c1_i32_2393
  ![v5429.toNat]
def k0_off570 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2392 : BitVec 32 := 1#32
  let v5428 : BitVec 32 := Scalar.addi v5386 c1_i32_2392
  let c3_i32_2394 : BitVec 32 := 3#32
  let c0_i32_2395 : BitVec 32 := 0#32
  ![v5428.toNat, 3, 0]
def k0_off571 (v5427 : BitVec 32) : Fin 2 → Nat :=
  let c0_i32_2396 : BitVec 32 := 0#32
  ![v5427.toNat, 0]

def k0_chk524 (i : grid0.Coords) (v5427 : BitVec 32) : Prop :=
  (∀ (k0_h3 : k0_cond3 i = 1#1), ∀ a, (k0_off571 v5427) a + S1x8192.size a ≤ S8192x8192.size a)
theorem k0_off571_inb : ∀ (i : grid0.Coords) (v5427 : BitVec 32) (k0_hw524 : k0_chk524 i v5427), ∀ (k0_h3 : k0_cond3 i = 1#1), ∀ a, (k0_off571 v5427) a + S1x8192.size a ≤ S8192x8192.size a := fun i v5427 k0_hw524 k0_h3 => k0_hw524 k0_h3

def k0_off572 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c8_i32_2398 : BitVec 32 := 8#32
  let v5436 : BitVec 32 := Scalar.addi v5435 c8_i32_2398
  let c4_i32_2399 : BitVec 32 := 4#32
  let v5437 : BitVec 32 := Scalar.addi v5436 c4_i32_2399
  let v5438 : Index := Scalar.indexCast v5437
  ![v5438.toNat]
def k0_off573 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2401 : BitVec 32 := 1#32
  let v5441 : BitVec 32 := Scalar.addi v5386 c1_i32_2401
  ![v5441.toNat]
def k0_off574 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2400 : BitVec 32 := 1#32
  let v5440 : BitVec 32 := Scalar.addi v5386 c1_i32_2400
  let c4_i32_2402 : BitVec 32 := 4#32
  let c0_i32_2403 : BitVec 32 := 0#32
  ![v5440.toNat, 4, 0]
def k0_off575 (v5439 : BitVec 32) : Fin 2 → Nat :=
  let c0_i32_2404 : BitVec 32 := 0#32
  ![v5439.toNat, 0]

def k0_chk525 (i : grid0.Coords) (v5439 : BitVec 32) : Prop :=
  (∀ (k0_h3 : k0_cond3 i = 1#1), ∀ a, (k0_off575 v5439) a + S1x8192.size a ≤ S8192x8192.size a)
theorem k0_off575_inb : ∀ (i : grid0.Coords) (v5439 : BitVec 32) (k0_hw525 : k0_chk525 i v5439), ∀ (k0_h3 : k0_cond3 i = 1#1), ∀ a, (k0_off575 v5439) a + S1x8192.size a ≤ S8192x8192.size a := fun i v5439 k0_hw525 k0_h3 => k0_hw525 k0_h3

def k0_off576 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c8_i32_2406 : BitVec 32 := 8#32
  let v5448 : BitVec 32 := Scalar.addi v5447 c8_i32_2406
  let c5_i32_2407 : BitVec 32 := 5#32
  let v5449 : BitVec 32 := Scalar.addi v5448 c5_i32_2407
  let v5450 : Index := Scalar.indexCast v5449
  ![v5450.toNat]
def k0_off577 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2409 : BitVec 32 := 1#32
  let v5453 : BitVec 32 := Scalar.addi v5386 c1_i32_2409
  ![v5453.toNat]
def k0_off578 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2408 : BitVec 32 := 1#32
  let v5452 : BitVec 32 := Scalar.addi v5386 c1_i32_2408
  let c5_i32_2410 : BitVec 32 := 5#32
  let c0_i32_2411 : BitVec 32 := 0#32
  ![v5452.toNat, 5, 0]
def k0_off579 (v5451 : BitVec 32) : Fin 2 → Nat :=
  let c0_i32_2412 : BitVec 32 := 0#32
  ![v5451.toNat, 0]

def k0_chk526 (i : grid0.Coords) (v5451 : BitVec 32) : Prop :=
  (∀ (k0_h3 : k0_cond3 i = 1#1), ∀ a, (k0_off579 v5451) a + S1x8192.size a ≤ S8192x8192.size a)
theorem k0_off579_inb : ∀ (i : grid0.Coords) (v5451 : BitVec 32) (k0_hw526 : k0_chk526 i v5451), ∀ (k0_h3 : k0_cond3 i = 1#1), ∀ a, (k0_off579 v5451) a + S1x8192.size a ≤ S8192x8192.size a := fun i v5451 k0_hw526 k0_h3 => k0_hw526 k0_h3

def k0_off580 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c8_i32_2414 : BitVec 32 := 8#32
  let v5460 : BitVec 32 := Scalar.addi v5459 c8_i32_2414
  let c6_i32_2415 : BitVec 32 := 6#32
  let v5461 : BitVec 32 := Scalar.addi v5460 c6_i32_2415
  let v5462 : Index := Scalar.indexCast v5461
  ![v5462.toNat]
def k0_off581 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2417 : BitVec 32 := 1#32
  let v5465 : BitVec 32 := Scalar.addi v5386 c1_i32_2417
  ![v5465.toNat]
def k0_off582 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2416 : BitVec 32 := 1#32
  let v5464 : BitVec 32 := Scalar.addi v5386 c1_i32_2416
  let c6_i32_2418 : BitVec 32 := 6#32
  let c0_i32_2419 : BitVec 32 := 0#32
  ![v5464.toNat, 6, 0]
def k0_off583 (v5463 : BitVec 32) : Fin 2 → Nat :=
  let c0_i32_2420 : BitVec 32 := 0#32
  ![v5463.toNat, 0]

def k0_chk527 (i : grid0.Coords) (v5463 : BitVec 32) : Prop :=
  (∀ (k0_h3 : k0_cond3 i = 1#1), ∀ a, (k0_off583 v5463) a + S1x8192.size a ≤ S8192x8192.size a)
theorem k0_off583_inb : ∀ (i : grid0.Coords) (v5463 : BitVec 32) (k0_hw527 : k0_chk527 i v5463), ∀ (k0_h3 : k0_cond3 i = 1#1), ∀ a, (k0_off583 v5463) a + S1x8192.size a ≤ S8192x8192.size a := fun i v5463 k0_hw527 k0_h3 => k0_hw527 k0_h3

def k0_off584 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c8_i32_2422 : BitVec 32 := 8#32
  let v5472 : BitVec 32 := Scalar.addi v5471 c8_i32_2422
  let c7_i32_2423 : BitVec 32 := 7#32
  let v5473 : BitVec 32 := Scalar.addi v5472 c7_i32_2423
  let v5474 : Index := Scalar.indexCast v5473
  ![v5474.toNat]
def k0_off585 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2425 : BitVec 32 := 1#32
  let v5477 : BitVec 32 := Scalar.addi v5386 c1_i32_2425
  ![v5477.toNat]
def k0_off586 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c1_i32_2424 : BitVec 32 := 1#32
  let v5476 : BitVec 32 := Scalar.addi v5386 c1_i32_2424
  let c7_i32_2426 : BitVec 32 := 7#32
  let c0_i32_2427 : BitVec 32 := 0#32
  ![v5476.toNat, 7, 0]
def k0_off587 (v5475 : BitVec 32) : Fin 2 → Nat :=
  let c0_i32_2428 : BitVec 32 := 0#32
  ![v5475.toNat, 0]

def k0_chk528 (i : grid0.Coords) (v5475 : BitVec 32) : Prop :=
  (∀ (k0_h3 : k0_cond3 i = 1#1), ∀ a, (k0_off587 v5475) a + S1x8192.size a ≤ S8192x8192.size a)
theorem k0_off587_inb : ∀ (i : grid0.Coords) (v5475 : BitVec 32) (k0_hw528 : k0_chk528 i v5475), ∀ (k0_h3 : k0_cond3 i = 1#1), ∀ a, (k0_off587 v5475) a + S1x8192.size a ≤ S8192x8192.size a := fun i v5475 k0_hw528 k0_h3 => k0_hw528 k0_h3

def k0_cond4 (i : grid0.Coords) : BitVec 1 :=
  let arg0 : BitVec 32 := BitVec.ofNat 32 (i 0).val
  let c3_i32_146 : BitVec 32 := 3#32
  let v348 : BitVec 32 := Scalar.addi arg0 c3_i32_146
  let c1_i32_147 : BitVec 32 := 1#32
  let v349 : BitVec 32 := Scalar.subi v348 c1_i32_147
  let c64_i32_148 : BitVec 32 := 64#32
  let v350 : BitVec 1 := Scalar.cmpi .slt v349 c64_i32_148
  let v351 : BitVec 32 := Scalar.extui v350
  let c0_i32_149 : BitVec 32 := 0#32
  let v352 : BitVec 1 := Scalar.cmpi .ne v351 c0_i32_149
  v352

def k0_off588 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c16_i32_2366 : BitVec 32 := 16#32
  let v5388 : BitVec 32 := Scalar.addi v5387 c16_i32_2366
  let c0_i32_2367 : BitVec 32 := 0#32
  let v5389 : BitVec 32 := Scalar.addi v5388 c0_i32_2367
  let v5390 : Index := Scalar.indexCast v5389
  ![v5390.toNat]
def k0_off589 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2369 : BitVec 32 := 2#32
  let v5393 : BitVec 32 := Scalar.addi v5386 c2_i32_2369
  ![v5393.toNat]
def k0_off590 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2368 : BitVec 32 := 2#32
  let v5392 : BitVec 32 := Scalar.addi v5386 c2_i32_2368
  let c0_i32_2370 : BitVec 32 := 0#32
  let c0_i32_2371 : BitVec 32 := 0#32
  ![v5392.toNat, 0, 0]
def k0_off591 (v5391 : BitVec 32) : Fin 2 → Nat :=
  let c0_i32_2372 : BitVec 32 := 0#32
  ![v5391.toNat, 0]

def k0_chk529 (i : grid0.Coords) (v5391 : BitVec 32) : Prop :=
  (∀ (k0_h4 : k0_cond4 i = 1#1), ∀ a, (k0_off591 v5391) a + S1x8192.size a ≤ S8192x8192.size a)
theorem k0_off591_inb : ∀ (i : grid0.Coords) (v5391 : BitVec 32) (k0_hw529 : k0_chk529 i v5391), ∀ (k0_h4 : k0_cond4 i = 1#1), ∀ a, (k0_off591 v5391) a + S1x8192.size a ≤ S8192x8192.size a := fun i v5391 k0_hw529 k0_h4 => k0_hw529 k0_h4

def k0_off592 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c16_i32_2374 : BitVec 32 := 16#32
  let v5400 : BitVec 32 := Scalar.addi v5399 c16_i32_2374
  let c1_i32_2375 : BitVec 32 := 1#32
  let v5401 : BitVec 32 := Scalar.addi v5400 c1_i32_2375
  let v5402 : Index := Scalar.indexCast v5401
  ![v5402.toNat]
def k0_off593 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2377 : BitVec 32 := 2#32
  let v5405 : BitVec 32 := Scalar.addi v5386 c2_i32_2377
  ![v5405.toNat]
def k0_off594 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2376 : BitVec 32 := 2#32
  let v5404 : BitVec 32 := Scalar.addi v5386 c2_i32_2376
  let c1_i32_2378 : BitVec 32 := 1#32
  let c0_i32_2379 : BitVec 32 := 0#32
  ![v5404.toNat, 1, 0]
def k0_off595 (v5403 : BitVec 32) : Fin 2 → Nat :=
  let c0_i32_2380 : BitVec 32 := 0#32
  ![v5403.toNat, 0]

def k0_chk530 (i : grid0.Coords) (v5403 : BitVec 32) : Prop :=
  (∀ (k0_h4 : k0_cond4 i = 1#1), ∀ a, (k0_off595 v5403) a + S1x8192.size a ≤ S8192x8192.size a)
theorem k0_off595_inb : ∀ (i : grid0.Coords) (v5403 : BitVec 32) (k0_hw530 : k0_chk530 i v5403), ∀ (k0_h4 : k0_cond4 i = 1#1), ∀ a, (k0_off595 v5403) a + S1x8192.size a ≤ S8192x8192.size a := fun i v5403 k0_hw530 k0_h4 => k0_hw530 k0_h4

def k0_off596 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c16_i32_2382 : BitVec 32 := 16#32
  let v5412 : BitVec 32 := Scalar.addi v5411 c16_i32_2382
  let c2_i32_2383 : BitVec 32 := 2#32
  let v5413 : BitVec 32 := Scalar.addi v5412 c2_i32_2383
  let v5414 : Index := Scalar.indexCast v5413
  ![v5414.toNat]
def k0_off597 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2385 : BitVec 32 := 2#32
  let v5417 : BitVec 32 := Scalar.addi v5386 c2_i32_2385
  ![v5417.toNat]
def k0_off598 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2384 : BitVec 32 := 2#32
  let v5416 : BitVec 32 := Scalar.addi v5386 c2_i32_2384
  let c2_i32_2386 : BitVec 32 := 2#32
  let c0_i32_2387 : BitVec 32 := 0#32
  ![v5416.toNat, 2, 0]
def k0_off599 (v5415 : BitVec 32) : Fin 2 → Nat :=
  let c0_i32_2388 : BitVec 32 := 0#32
  ![v5415.toNat, 0]

def k0_chk531 (i : grid0.Coords) (v5415 : BitVec 32) : Prop :=
  (∀ (k0_h4 : k0_cond4 i = 1#1), ∀ a, (k0_off599 v5415) a + S1x8192.size a ≤ S8192x8192.size a)
theorem k0_off599_inb : ∀ (i : grid0.Coords) (v5415 : BitVec 32) (k0_hw531 : k0_chk531 i v5415), ∀ (k0_h4 : k0_cond4 i = 1#1), ∀ a, (k0_off599 v5415) a + S1x8192.size a ≤ S8192x8192.size a := fun i v5415 k0_hw531 k0_h4 => k0_hw531 k0_h4

def k0_off600 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c16_i32_2390 : BitVec 32 := 16#32
  let v5424 : BitVec 32 := Scalar.addi v5423 c16_i32_2390
  let c3_i32_2391 : BitVec 32 := 3#32
  let v5425 : BitVec 32 := Scalar.addi v5424 c3_i32_2391
  let v5426 : Index := Scalar.indexCast v5425
  ![v5426.toNat]
def k0_off601 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2393 : BitVec 32 := 2#32
  let v5429 : BitVec 32 := Scalar.addi v5386 c2_i32_2393
  ![v5429.toNat]
def k0_off602 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2392 : BitVec 32 := 2#32
  let v5428 : BitVec 32 := Scalar.addi v5386 c2_i32_2392
  let c3_i32_2394 : BitVec 32 := 3#32
  let c0_i32_2395 : BitVec 32 := 0#32
  ![v5428.toNat, 3, 0]
def k0_off603 (v5427 : BitVec 32) : Fin 2 → Nat :=
  let c0_i32_2396 : BitVec 32 := 0#32
  ![v5427.toNat, 0]

def k0_chk532 (i : grid0.Coords) (v5427 : BitVec 32) : Prop :=
  (∀ (k0_h4 : k0_cond4 i = 1#1), ∀ a, (k0_off603 v5427) a + S1x8192.size a ≤ S8192x8192.size a)
theorem k0_off603_inb : ∀ (i : grid0.Coords) (v5427 : BitVec 32) (k0_hw532 : k0_chk532 i v5427), ∀ (k0_h4 : k0_cond4 i = 1#1), ∀ a, (k0_off603 v5427) a + S1x8192.size a ≤ S8192x8192.size a := fun i v5427 k0_hw532 k0_h4 => k0_hw532 k0_h4

def k0_off604 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c16_i32_2398 : BitVec 32 := 16#32
  let v5436 : BitVec 32 := Scalar.addi v5435 c16_i32_2398
  let c4_i32_2399 : BitVec 32 := 4#32
  let v5437 : BitVec 32 := Scalar.addi v5436 c4_i32_2399
  let v5438 : Index := Scalar.indexCast v5437
  ![v5438.toNat]
def k0_off605 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2401 : BitVec 32 := 2#32
  let v5441 : BitVec 32 := Scalar.addi v5386 c2_i32_2401
  ![v5441.toNat]
def k0_off606 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2400 : BitVec 32 := 2#32
  let v5440 : BitVec 32 := Scalar.addi v5386 c2_i32_2400
  let c4_i32_2402 : BitVec 32 := 4#32
  let c0_i32_2403 : BitVec 32 := 0#32
  ![v5440.toNat, 4, 0]
def k0_off607 (v5439 : BitVec 32) : Fin 2 → Nat :=
  let c0_i32_2404 : BitVec 32 := 0#32
  ![v5439.toNat, 0]

def k0_chk533 (i : grid0.Coords) (v5439 : BitVec 32) : Prop :=
  (∀ (k0_h4 : k0_cond4 i = 1#1), ∀ a, (k0_off607 v5439) a + S1x8192.size a ≤ S8192x8192.size a)
theorem k0_off607_inb : ∀ (i : grid0.Coords) (v5439 : BitVec 32) (k0_hw533 : k0_chk533 i v5439), ∀ (k0_h4 : k0_cond4 i = 1#1), ∀ a, (k0_off607 v5439) a + S1x8192.size a ≤ S8192x8192.size a := fun i v5439 k0_hw533 k0_h4 => k0_hw533 k0_h4

def k0_off608 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c16_i32_2406 : BitVec 32 := 16#32
  let v5448 : BitVec 32 := Scalar.addi v5447 c16_i32_2406
  let c5_i32_2407 : BitVec 32 := 5#32
  let v5449 : BitVec 32 := Scalar.addi v5448 c5_i32_2407
  let v5450 : Index := Scalar.indexCast v5449
  ![v5450.toNat]
def k0_off609 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2409 : BitVec 32 := 2#32
  let v5453 : BitVec 32 := Scalar.addi v5386 c2_i32_2409
  ![v5453.toNat]
def k0_off610 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2408 : BitVec 32 := 2#32
  let v5452 : BitVec 32 := Scalar.addi v5386 c2_i32_2408
  let c5_i32_2410 : BitVec 32 := 5#32
  let c0_i32_2411 : BitVec 32 := 0#32
  ![v5452.toNat, 5, 0]
def k0_off611 (v5451 : BitVec 32) : Fin 2 → Nat :=
  let c0_i32_2412 : BitVec 32 := 0#32
  ![v5451.toNat, 0]

def k0_chk534 (i : grid0.Coords) (v5451 : BitVec 32) : Prop :=
  (∀ (k0_h4 : k0_cond4 i = 1#1), ∀ a, (k0_off611 v5451) a + S1x8192.size a ≤ S8192x8192.size a)
theorem k0_off611_inb : ∀ (i : grid0.Coords) (v5451 : BitVec 32) (k0_hw534 : k0_chk534 i v5451), ∀ (k0_h4 : k0_cond4 i = 1#1), ∀ a, (k0_off611 v5451) a + S1x8192.size a ≤ S8192x8192.size a := fun i v5451 k0_hw534 k0_h4 => k0_hw534 k0_h4

def k0_off612 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c16_i32_2414 : BitVec 32 := 16#32
  let v5460 : BitVec 32 := Scalar.addi v5459 c16_i32_2414
  let c6_i32_2415 : BitVec 32 := 6#32
  let v5461 : BitVec 32 := Scalar.addi v5460 c6_i32_2415
  let v5462 : Index := Scalar.indexCast v5461
  ![v5462.toNat]
def k0_off613 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2417 : BitVec 32 := 2#32
  let v5465 : BitVec 32 := Scalar.addi v5386 c2_i32_2417
  ![v5465.toNat]
def k0_off614 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2416 : BitVec 32 := 2#32
  let v5464 : BitVec 32 := Scalar.addi v5386 c2_i32_2416
  let c6_i32_2418 : BitVec 32 := 6#32
  let c0_i32_2419 : BitVec 32 := 0#32
  ![v5464.toNat, 6, 0]
def k0_off615 (v5463 : BitVec 32) : Fin 2 → Nat :=
  let c0_i32_2420 : BitVec 32 := 0#32
  ![v5463.toNat, 0]

def k0_chk535 (i : grid0.Coords) (v5463 : BitVec 32) : Prop :=
  (∀ (k0_h4 : k0_cond4 i = 1#1), ∀ a, (k0_off615 v5463) a + S1x8192.size a ≤ S8192x8192.size a)
theorem k0_off615_inb : ∀ (i : grid0.Coords) (v5463 : BitVec 32) (k0_hw535 : k0_chk535 i v5463), ∀ (k0_h4 : k0_cond4 i = 1#1), ∀ a, (k0_off615 v5463) a + S1x8192.size a ≤ S8192x8192.size a := fun i v5463 k0_hw535 k0_h4 => k0_hw535 k0_h4

def k0_off616 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c16_i32_2422 : BitVec 32 := 16#32
  let v5472 : BitVec 32 := Scalar.addi v5471 c16_i32_2422
  let c7_i32_2423 : BitVec 32 := 7#32
  let v5473 : BitVec 32 := Scalar.addi v5472 c7_i32_2423
  let v5474 : Index := Scalar.indexCast v5473
  ![v5474.toNat]
def k0_off617 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2425 : BitVec 32 := 2#32
  let v5477 : BitVec 32 := Scalar.addi v5386 c2_i32_2425
  ![v5477.toNat]
def k0_off618 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c2_i32_2424 : BitVec 32 := 2#32
  let v5476 : BitVec 32 := Scalar.addi v5386 c2_i32_2424
  let c7_i32_2426 : BitVec 32 := 7#32
  let c0_i32_2427 : BitVec 32 := 0#32
  ![v5476.toNat, 7, 0]
def k0_off619 (v5475 : BitVec 32) : Fin 2 → Nat :=
  let c0_i32_2428 : BitVec 32 := 0#32
  ![v5475.toNat, 0]

def k0_chk536 (i : grid0.Coords) (v5475 : BitVec 32) : Prop :=
  (∀ (k0_h4 : k0_cond4 i = 1#1), ∀ a, (k0_off619 v5475) a + S1x8192.size a ≤ S8192x8192.size a)
theorem k0_off619_inb : ∀ (i : grid0.Coords) (v5475 : BitVec 32) (k0_hw536 : k0_chk536 i v5475), ∀ (k0_h4 : k0_cond4 i = 1#1), ∀ a, (k0_off619 v5475) a + S1x8192.size a ≤ S8192x8192.size a := fun i v5475 k0_hw536 k0_h4 => k0_hw536 k0_h4

def k0_cond5 (i : grid0.Coords) : BitVec 1 :=
  let arg0 : BitVec 32 := BitVec.ofNat 32 (i 0).val
  let c3_i32_220 : BitVec 32 := 3#32
  let v514 : BitVec 32 := Scalar.addi arg0 c3_i32_220
  let c1_i32_221 : BitVec 32 := 1#32
  let v515 : BitVec 32 := Scalar.subi v514 c1_i32_221
  let c64_i32_222 : BitVec 32 := 64#32
  let v516 : BitVec 1 := Scalar.cmpi .slt v515 c64_i32_222
  let v517 : BitVec 32 := Scalar.extui v516
  let c0_i32_223 : BitVec 32 := 0#32
  let v518 : BitVec 1 := Scalar.cmpi .ne v517 c0_i32_223
  v518

def k0_off620 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c24_i32_2366 : BitVec 32 := 24#32
  let v5388 : BitVec 32 := Scalar.addi v5387 c24_i32_2366
  let c0_i32_2367 : BitVec 32 := 0#32
  let v5389 : BitVec 32 := Scalar.addi v5388 c0_i32_2367
  let v5390 : Index := Scalar.indexCast v5389
  ![v5390.toNat]
def k0_off621 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2369 : BitVec 32 := 3#32
  let v5393 : BitVec 32 := Scalar.addi v5386 c3_i32_2369
  ![v5393.toNat]
def k0_off622 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2368 : BitVec 32 := 3#32
  let v5392 : BitVec 32 := Scalar.addi v5386 c3_i32_2368
  let c0_i32_2370 : BitVec 32 := 0#32
  let c0_i32_2371 : BitVec 32 := 0#32
  ![v5392.toNat, 0, 0]
def k0_off623 (v5391 : BitVec 32) : Fin 2 → Nat :=
  let c0_i32_2372 : BitVec 32 := 0#32
  ![v5391.toNat, 0]

def k0_chk537 (i : grid0.Coords) (v5391 : BitVec 32) : Prop :=
  (∀ (k0_h5 : k0_cond5 i = 1#1), ∀ a, (k0_off623 v5391) a + S1x8192.size a ≤ S8192x8192.size a)
theorem k0_off623_inb : ∀ (i : grid0.Coords) (v5391 : BitVec 32) (k0_hw537 : k0_chk537 i v5391), ∀ (k0_h5 : k0_cond5 i = 1#1), ∀ a, (k0_off623 v5391) a + S1x8192.size a ≤ S8192x8192.size a := fun i v5391 k0_hw537 k0_h5 => k0_hw537 k0_h5

def k0_off624 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c24_i32_2374 : BitVec 32 := 24#32
  let v5400 : BitVec 32 := Scalar.addi v5399 c24_i32_2374
  let c1_i32_2375 : BitVec 32 := 1#32
  let v5401 : BitVec 32 := Scalar.addi v5400 c1_i32_2375
  let v5402 : Index := Scalar.indexCast v5401
  ![v5402.toNat]
def k0_off625 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2377 : BitVec 32 := 3#32
  let v5405 : BitVec 32 := Scalar.addi v5386 c3_i32_2377
  ![v5405.toNat]
def k0_off626 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2376 : BitVec 32 := 3#32
  let v5404 : BitVec 32 := Scalar.addi v5386 c3_i32_2376
  let c1_i32_2378 : BitVec 32 := 1#32
  let c0_i32_2379 : BitVec 32 := 0#32
  ![v5404.toNat, 1, 0]
def k0_off627 (v5403 : BitVec 32) : Fin 2 → Nat :=
  let c0_i32_2380 : BitVec 32 := 0#32
  ![v5403.toNat, 0]

def k0_chk538 (i : grid0.Coords) (v5403 : BitVec 32) : Prop :=
  (∀ (k0_h5 : k0_cond5 i = 1#1), ∀ a, (k0_off627 v5403) a + S1x8192.size a ≤ S8192x8192.size a)
theorem k0_off627_inb : ∀ (i : grid0.Coords) (v5403 : BitVec 32) (k0_hw538 : k0_chk538 i v5403), ∀ (k0_h5 : k0_cond5 i = 1#1), ∀ a, (k0_off627 v5403) a + S1x8192.size a ≤ S8192x8192.size a := fun i v5403 k0_hw538 k0_h5 => k0_hw538 k0_h5

def k0_off628 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c24_i32_2382 : BitVec 32 := 24#32
  let v5412 : BitVec 32 := Scalar.addi v5411 c24_i32_2382
  let c2_i32_2383 : BitVec 32 := 2#32
  let v5413 : BitVec 32 := Scalar.addi v5412 c2_i32_2383
  let v5414 : Index := Scalar.indexCast v5413
  ![v5414.toNat]
def k0_off629 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2385 : BitVec 32 := 3#32
  let v5417 : BitVec 32 := Scalar.addi v5386 c3_i32_2385
  ![v5417.toNat]
def k0_off630 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2384 : BitVec 32 := 3#32
  let v5416 : BitVec 32 := Scalar.addi v5386 c3_i32_2384
  let c2_i32_2386 : BitVec 32 := 2#32
  let c0_i32_2387 : BitVec 32 := 0#32
  ![v5416.toNat, 2, 0]
def k0_off631 (v5415 : BitVec 32) : Fin 2 → Nat :=
  let c0_i32_2388 : BitVec 32 := 0#32
  ![v5415.toNat, 0]

def k0_chk539 (i : grid0.Coords) (v5415 : BitVec 32) : Prop :=
  (∀ (k0_h5 : k0_cond5 i = 1#1), ∀ a, (k0_off631 v5415) a + S1x8192.size a ≤ S8192x8192.size a)
theorem k0_off631_inb : ∀ (i : grid0.Coords) (v5415 : BitVec 32) (k0_hw539 : k0_chk539 i v5415), ∀ (k0_h5 : k0_cond5 i = 1#1), ∀ a, (k0_off631 v5415) a + S1x8192.size a ≤ S8192x8192.size a := fun i v5415 k0_hw539 k0_h5 => k0_hw539 k0_h5

def k0_off632 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c24_i32_2390 : BitVec 32 := 24#32
  let v5424 : BitVec 32 := Scalar.addi v5423 c24_i32_2390
  let c3_i32_2391 : BitVec 32 := 3#32
  let v5425 : BitVec 32 := Scalar.addi v5424 c3_i32_2391
  let v5426 : Index := Scalar.indexCast v5425
  ![v5426.toNat]
def k0_off633 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2393 : BitVec 32 := 3#32
  let v5429 : BitVec 32 := Scalar.addi v5386 c3_i32_2393
  ![v5429.toNat]
def k0_off634 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2392 : BitVec 32 := 3#32
  let v5428 : BitVec 32 := Scalar.addi v5386 c3_i32_2392
  let c3_i32_2394 : BitVec 32 := 3#32
  let c0_i32_2395 : BitVec 32 := 0#32
  ![v5428.toNat, 3, 0]
def k0_off635 (v5427 : BitVec 32) : Fin 2 → Nat :=
  let c0_i32_2396 : BitVec 32 := 0#32
  ![v5427.toNat, 0]

def k0_chk540 (i : grid0.Coords) (v5427 : BitVec 32) : Prop :=
  (∀ (k0_h5 : k0_cond5 i = 1#1), ∀ a, (k0_off635 v5427) a + S1x8192.size a ≤ S8192x8192.size a)
theorem k0_off635_inb : ∀ (i : grid0.Coords) (v5427 : BitVec 32) (k0_hw540 : k0_chk540 i v5427), ∀ (k0_h5 : k0_cond5 i = 1#1), ∀ a, (k0_off635 v5427) a + S1x8192.size a ≤ S8192x8192.size a := fun i v5427 k0_hw540 k0_h5 => k0_hw540 k0_h5

def k0_off636 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c24_i32_2398 : BitVec 32 := 24#32
  let v5436 : BitVec 32 := Scalar.addi v5435 c24_i32_2398
  let c4_i32_2399 : BitVec 32 := 4#32
  let v5437 : BitVec 32 := Scalar.addi v5436 c4_i32_2399
  let v5438 : Index := Scalar.indexCast v5437
  ![v5438.toNat]
def k0_off637 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2401 : BitVec 32 := 3#32
  let v5441 : BitVec 32 := Scalar.addi v5386 c3_i32_2401
  ![v5441.toNat]
def k0_off638 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2400 : BitVec 32 := 3#32
  let v5440 : BitVec 32 := Scalar.addi v5386 c3_i32_2400
  let c4_i32_2402 : BitVec 32 := 4#32
  let c0_i32_2403 : BitVec 32 := 0#32
  ![v5440.toNat, 4, 0]
def k0_off639 (v5439 : BitVec 32) : Fin 2 → Nat :=
  let c0_i32_2404 : BitVec 32 := 0#32
  ![v5439.toNat, 0]

def k0_chk541 (i : grid0.Coords) (v5439 : BitVec 32) : Prop :=
  (∀ (k0_h5 : k0_cond5 i = 1#1), ∀ a, (k0_off639 v5439) a + S1x8192.size a ≤ S8192x8192.size a)
theorem k0_off639_inb : ∀ (i : grid0.Coords) (v5439 : BitVec 32) (k0_hw541 : k0_chk541 i v5439), ∀ (k0_h5 : k0_cond5 i = 1#1), ∀ a, (k0_off639 v5439) a + S1x8192.size a ≤ S8192x8192.size a := fun i v5439 k0_hw541 k0_h5 => k0_hw541 k0_h5

def k0_off640 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c24_i32_2406 : BitVec 32 := 24#32
  let v5448 : BitVec 32 := Scalar.addi v5447 c24_i32_2406
  let c5_i32_2407 : BitVec 32 := 5#32
  let v5449 : BitVec 32 := Scalar.addi v5448 c5_i32_2407
  let v5450 : Index := Scalar.indexCast v5449
  ![v5450.toNat]
def k0_off641 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2409 : BitVec 32 := 3#32
  let v5453 : BitVec 32 := Scalar.addi v5386 c3_i32_2409
  ![v5453.toNat]
def k0_off642 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2408 : BitVec 32 := 3#32
  let v5452 : BitVec 32 := Scalar.addi v5386 c3_i32_2408
  let c5_i32_2410 : BitVec 32 := 5#32
  let c0_i32_2411 : BitVec 32 := 0#32
  ![v5452.toNat, 5, 0]
def k0_off643 (v5451 : BitVec 32) : Fin 2 → Nat :=
  let c0_i32_2412 : BitVec 32 := 0#32
  ![v5451.toNat, 0]

def k0_chk542 (i : grid0.Coords) (v5451 : BitVec 32) : Prop :=
  (∀ (k0_h5 : k0_cond5 i = 1#1), ∀ a, (k0_off643 v5451) a + S1x8192.size a ≤ S8192x8192.size a)
theorem k0_off643_inb : ∀ (i : grid0.Coords) (v5451 : BitVec 32) (k0_hw542 : k0_chk542 i v5451), ∀ (k0_h5 : k0_cond5 i = 1#1), ∀ a, (k0_off643 v5451) a + S1x8192.size a ≤ S8192x8192.size a := fun i v5451 k0_hw542 k0_h5 => k0_hw542 k0_h5

def k0_off644 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c24_i32_2414 : BitVec 32 := 24#32
  let v5460 : BitVec 32 := Scalar.addi v5459 c24_i32_2414
  let c6_i32_2415 : BitVec 32 := 6#32
  let v5461 : BitVec 32 := Scalar.addi v5460 c6_i32_2415
  let v5462 : Index := Scalar.indexCast v5461
  ![v5462.toNat]
def k0_off645 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2417 : BitVec 32 := 3#32
  let v5465 : BitVec 32 := Scalar.addi v5386 c3_i32_2417
  ![v5465.toNat]
def k0_off646 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2416 : BitVec 32 := 3#32
  let v5464 : BitVec 32 := Scalar.addi v5386 c3_i32_2416
  let c6_i32_2418 : BitVec 32 := 6#32
  let c0_i32_2419 : BitVec 32 := 0#32
  ![v5464.toNat, 6, 0]
def k0_off647 (v5463 : BitVec 32) : Fin 2 → Nat :=
  let c0_i32_2420 : BitVec 32 := 0#32
  ![v5463.toNat, 0]

def k0_chk543 (i : grid0.Coords) (v5463 : BitVec 32) : Prop :=
  (∀ (k0_h5 : k0_cond5 i = 1#1), ∀ a, (k0_off647 v5463) a + S1x8192.size a ≤ S8192x8192.size a)
theorem k0_off647_inb : ∀ (i : grid0.Coords) (v5463 : BitVec 32) (k0_hw543 : k0_chk543 i v5463), ∀ (k0_h5 : k0_cond5 i = 1#1), ∀ a, (k0_off647 v5463) a + S1x8192.size a ≤ S8192x8192.size a := fun i v5463 k0_hw543 k0_h5 => k0_hw543 k0_h5

def k0_off648 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c24_i32_2422 : BitVec 32 := 24#32
  let v5472 : BitVec 32 := Scalar.addi v5471 c24_i32_2422
  let c7_i32_2423 : BitVec 32 := 7#32
  let v5473 : BitVec 32 := Scalar.addi v5472 c7_i32_2423
  let v5474 : Index := Scalar.indexCast v5473
  ![v5474.toNat]
def k0_off649 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2425 : BitVec 32 := 3#32
  let v5477 : BitVec 32 := Scalar.addi v5386 c3_i32_2425
  ![v5477.toNat]
def k0_off650 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c3_i32_2424 : BitVec 32 := 3#32
  let v5476 : BitVec 32 := Scalar.addi v5386 c3_i32_2424
  let c7_i32_2426 : BitVec 32 := 7#32
  let c0_i32_2427 : BitVec 32 := 0#32
  ![v5476.toNat, 7, 0]
def k0_off651 (v5475 : BitVec 32) : Fin 2 → Nat :=
  let c0_i32_2428 : BitVec 32 := 0#32
  ![v5475.toNat, 0]

def k0_chk544 (i : grid0.Coords) (v5475 : BitVec 32) : Prop :=
  (∀ (k0_h5 : k0_cond5 i = 1#1), ∀ a, (k0_off651 v5475) a + S1x8192.size a ≤ S8192x8192.size a)
theorem k0_off651_inb : ∀ (i : grid0.Coords) (v5475 : BitVec 32) (k0_hw544 : k0_chk544 i v5475), ∀ (k0_h5 : k0_cond5 i = 1#1), ∀ a, (k0_off651 v5475) a + S1x8192.size a ≤ S8192x8192.size a := fun i v5475 k0_hw544 k0_h5 => k0_hw544 k0_h5

def k0_cond6 (i : grid0.Coords) : BitVec 1 :=
  let arg0 : BitVec 32 := BitVec.ofNat 32 (i 0).val
  let c3_i32_294 : BitVec 32 := 3#32
  let v680 : BitVec 32 := Scalar.addi arg0 c3_i32_294
  let c1_i32_295 : BitVec 32 := 1#32
  let v681 : BitVec 32 := Scalar.subi v680 c1_i32_295
  let c64_i32_296 : BitVec 32 := 64#32
  let v682 : BitVec 1 := Scalar.cmpi .slt v681 c64_i32_296
  let v683 : BitVec 32 := Scalar.extui v682
  let c0_i32_297 : BitVec 32 := 0#32
  let v684 : BitVec 1 := Scalar.cmpi .ne v683 c0_i32_297
  v684

def k0_off652 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c32_i32_2366 : BitVec 32 := 32#32
  let v5388 : BitVec 32 := Scalar.addi v5387 c32_i32_2366
  let c0_i32_2367 : BitVec 32 := 0#32
  let v5389 : BitVec 32 := Scalar.addi v5388 c0_i32_2367
  let v5390 : Index := Scalar.indexCast v5389
  ![v5390.toNat]
def k0_off653 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2369 : BitVec 32 := 4#32
  let v5393 : BitVec 32 := Scalar.addi v5386 c4_i32_2369
  ![v5393.toNat]
def k0_off654 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2368 : BitVec 32 := 4#32
  let v5392 : BitVec 32 := Scalar.addi v5386 c4_i32_2368
  let c0_i32_2370 : BitVec 32 := 0#32
  let c0_i32_2371 : BitVec 32 := 0#32
  ![v5392.toNat, 0, 0]
def k0_off655 (v5391 : BitVec 32) : Fin 2 → Nat :=
  let c0_i32_2372 : BitVec 32 := 0#32
  ![v5391.toNat, 0]

def k0_chk545 (i : grid0.Coords) (v5391 : BitVec 32) : Prop :=
  (∀ (k0_h6 : k0_cond6 i = 1#1), ∀ a, (k0_off655 v5391) a + S1x8192.size a ≤ S8192x8192.size a)
theorem k0_off655_inb : ∀ (i : grid0.Coords) (v5391 : BitVec 32) (k0_hw545 : k0_chk545 i v5391), ∀ (k0_h6 : k0_cond6 i = 1#1), ∀ a, (k0_off655 v5391) a + S1x8192.size a ≤ S8192x8192.size a := fun i v5391 k0_hw545 k0_h6 => k0_hw545 k0_h6

def k0_off656 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c32_i32_2374 : BitVec 32 := 32#32
  let v5400 : BitVec 32 := Scalar.addi v5399 c32_i32_2374
  let c1_i32_2375 : BitVec 32 := 1#32
  let v5401 : BitVec 32 := Scalar.addi v5400 c1_i32_2375
  let v5402 : Index := Scalar.indexCast v5401
  ![v5402.toNat]
def k0_off657 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2377 : BitVec 32 := 4#32
  let v5405 : BitVec 32 := Scalar.addi v5386 c4_i32_2377
  ![v5405.toNat]
def k0_off658 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2376 : BitVec 32 := 4#32
  let v5404 : BitVec 32 := Scalar.addi v5386 c4_i32_2376
  let c1_i32_2378 : BitVec 32 := 1#32
  let c0_i32_2379 : BitVec 32 := 0#32
  ![v5404.toNat, 1, 0]
def k0_off659 (v5403 : BitVec 32) : Fin 2 → Nat :=
  let c0_i32_2380 : BitVec 32 := 0#32
  ![v5403.toNat, 0]

def k0_chk546 (i : grid0.Coords) (v5403 : BitVec 32) : Prop :=
  (∀ (k0_h6 : k0_cond6 i = 1#1), ∀ a, (k0_off659 v5403) a + S1x8192.size a ≤ S8192x8192.size a)
theorem k0_off659_inb : ∀ (i : grid0.Coords) (v5403 : BitVec 32) (k0_hw546 : k0_chk546 i v5403), ∀ (k0_h6 : k0_cond6 i = 1#1), ∀ a, (k0_off659 v5403) a + S1x8192.size a ≤ S8192x8192.size a := fun i v5403 k0_hw546 k0_h6 => k0_hw546 k0_h6

def k0_off660 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c32_i32_2382 : BitVec 32 := 32#32
  let v5412 : BitVec 32 := Scalar.addi v5411 c32_i32_2382
  let c2_i32_2383 : BitVec 32 := 2#32
  let v5413 : BitVec 32 := Scalar.addi v5412 c2_i32_2383
  let v5414 : Index := Scalar.indexCast v5413
  ![v5414.toNat]
def k0_off661 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2385 : BitVec 32 := 4#32
  let v5417 : BitVec 32 := Scalar.addi v5386 c4_i32_2385
  ![v5417.toNat]
def k0_off662 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2384 : BitVec 32 := 4#32
  let v5416 : BitVec 32 := Scalar.addi v5386 c4_i32_2384
  let c2_i32_2386 : BitVec 32 := 2#32
  let c0_i32_2387 : BitVec 32 := 0#32
  ![v5416.toNat, 2, 0]
def k0_off663 (v5415 : BitVec 32) : Fin 2 → Nat :=
  let c0_i32_2388 : BitVec 32 := 0#32
  ![v5415.toNat, 0]

def k0_chk547 (i : grid0.Coords) (v5415 : BitVec 32) : Prop :=
  (∀ (k0_h6 : k0_cond6 i = 1#1), ∀ a, (k0_off663 v5415) a + S1x8192.size a ≤ S8192x8192.size a)
theorem k0_off663_inb : ∀ (i : grid0.Coords) (v5415 : BitVec 32) (k0_hw547 : k0_chk547 i v5415), ∀ (k0_h6 : k0_cond6 i = 1#1), ∀ a, (k0_off663 v5415) a + S1x8192.size a ≤ S8192x8192.size a := fun i v5415 k0_hw547 k0_h6 => k0_hw547 k0_h6

def k0_off664 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c32_i32_2390 : BitVec 32 := 32#32
  let v5424 : BitVec 32 := Scalar.addi v5423 c32_i32_2390
  let c3_i32_2391 : BitVec 32 := 3#32
  let v5425 : BitVec 32 := Scalar.addi v5424 c3_i32_2391
  let v5426 : Index := Scalar.indexCast v5425
  ![v5426.toNat]
def k0_off665 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2393 : BitVec 32 := 4#32
  let v5429 : BitVec 32 := Scalar.addi v5386 c4_i32_2393
  ![v5429.toNat]
def k0_off666 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2392 : BitVec 32 := 4#32
  let v5428 : BitVec 32 := Scalar.addi v5386 c4_i32_2392
  let c3_i32_2394 : BitVec 32 := 3#32
  let c0_i32_2395 : BitVec 32 := 0#32
  ![v5428.toNat, 3, 0]
def k0_off667 (v5427 : BitVec 32) : Fin 2 → Nat :=
  let c0_i32_2396 : BitVec 32 := 0#32
  ![v5427.toNat, 0]

def k0_chk548 (i : grid0.Coords) (v5427 : BitVec 32) : Prop :=
  (∀ (k0_h6 : k0_cond6 i = 1#1), ∀ a, (k0_off667 v5427) a + S1x8192.size a ≤ S8192x8192.size a)
theorem k0_off667_inb : ∀ (i : grid0.Coords) (v5427 : BitVec 32) (k0_hw548 : k0_chk548 i v5427), ∀ (k0_h6 : k0_cond6 i = 1#1), ∀ a, (k0_off667 v5427) a + S1x8192.size a ≤ S8192x8192.size a := fun i v5427 k0_hw548 k0_h6 => k0_hw548 k0_h6

def k0_off668 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c32_i32_2398 : BitVec 32 := 32#32
  let v5436 : BitVec 32 := Scalar.addi v5435 c32_i32_2398
  let c4_i32_2399 : BitVec 32 := 4#32
  let v5437 : BitVec 32 := Scalar.addi v5436 c4_i32_2399
  let v5438 : Index := Scalar.indexCast v5437
  ![v5438.toNat]
def k0_off669 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2401 : BitVec 32 := 4#32
  let v5441 : BitVec 32 := Scalar.addi v5386 c4_i32_2401
  ![v5441.toNat]
def k0_off670 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2400 : BitVec 32 := 4#32
  let v5440 : BitVec 32 := Scalar.addi v5386 c4_i32_2400
  let c4_i32_2402 : BitVec 32 := 4#32
  let c0_i32_2403 : BitVec 32 := 0#32
  ![v5440.toNat, 4, 0]
def k0_off671 (v5439 : BitVec 32) : Fin 2 → Nat :=
  let c0_i32_2404 : BitVec 32 := 0#32
  ![v5439.toNat, 0]

def k0_chk549 (i : grid0.Coords) (v5439 : BitVec 32) : Prop :=
  (∀ (k0_h6 : k0_cond6 i = 1#1), ∀ a, (k0_off671 v5439) a + S1x8192.size a ≤ S8192x8192.size a)
theorem k0_off671_inb : ∀ (i : grid0.Coords) (v5439 : BitVec 32) (k0_hw549 : k0_chk549 i v5439), ∀ (k0_h6 : k0_cond6 i = 1#1), ∀ a, (k0_off671 v5439) a + S1x8192.size a ≤ S8192x8192.size a := fun i v5439 k0_hw549 k0_h6 => k0_hw549 k0_h6

def k0_off672 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c32_i32_2406 : BitVec 32 := 32#32
  let v5448 : BitVec 32 := Scalar.addi v5447 c32_i32_2406
  let c5_i32_2407 : BitVec 32 := 5#32
  let v5449 : BitVec 32 := Scalar.addi v5448 c5_i32_2407
  let v5450 : Index := Scalar.indexCast v5449
  ![v5450.toNat]
def k0_off673 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2409 : BitVec 32 := 4#32
  let v5453 : BitVec 32 := Scalar.addi v5386 c4_i32_2409
  ![v5453.toNat]
def k0_off674 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2408 : BitVec 32 := 4#32
  let v5452 : BitVec 32 := Scalar.addi v5386 c4_i32_2408
  let c5_i32_2410 : BitVec 32 := 5#32
  let c0_i32_2411 : BitVec 32 := 0#32
  ![v5452.toNat, 5, 0]
def k0_off675 (v5451 : BitVec 32) : Fin 2 → Nat :=
  let c0_i32_2412 : BitVec 32 := 0#32
  ![v5451.toNat, 0]

def k0_chk550 (i : grid0.Coords) (v5451 : BitVec 32) : Prop :=
  (∀ (k0_h6 : k0_cond6 i = 1#1), ∀ a, (k0_off675 v5451) a + S1x8192.size a ≤ S8192x8192.size a)
theorem k0_off675_inb : ∀ (i : grid0.Coords) (v5451 : BitVec 32) (k0_hw550 : k0_chk550 i v5451), ∀ (k0_h6 : k0_cond6 i = 1#1), ∀ a, (k0_off675 v5451) a + S1x8192.size a ≤ S8192x8192.size a := fun i v5451 k0_hw550 k0_h6 => k0_hw550 k0_h6

def k0_off676 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c32_i32_2414 : BitVec 32 := 32#32
  let v5460 : BitVec 32 := Scalar.addi v5459 c32_i32_2414
  let c6_i32_2415 : BitVec 32 := 6#32
  let v5461 : BitVec 32 := Scalar.addi v5460 c6_i32_2415
  let v5462 : Index := Scalar.indexCast v5461
  ![v5462.toNat]
def k0_off677 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2417 : BitVec 32 := 4#32
  let v5465 : BitVec 32 := Scalar.addi v5386 c4_i32_2417
  ![v5465.toNat]
def k0_off678 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2416 : BitVec 32 := 4#32
  let v5464 : BitVec 32 := Scalar.addi v5386 c4_i32_2416
  let c6_i32_2418 : BitVec 32 := 6#32
  let c0_i32_2419 : BitVec 32 := 0#32
  ![v5464.toNat, 6, 0]
def k0_off679 (v5463 : BitVec 32) : Fin 2 → Nat :=
  let c0_i32_2420 : BitVec 32 := 0#32
  ![v5463.toNat, 0]

def k0_chk551 (i : grid0.Coords) (v5463 : BitVec 32) : Prop :=
  (∀ (k0_h6 : k0_cond6 i = 1#1), ∀ a, (k0_off679 v5463) a + S1x8192.size a ≤ S8192x8192.size a)
theorem k0_off679_inb : ∀ (i : grid0.Coords) (v5463 : BitVec 32) (k0_hw551 : k0_chk551 i v5463), ∀ (k0_h6 : k0_cond6 i = 1#1), ∀ a, (k0_off679 v5463) a + S1x8192.size a ≤ S8192x8192.size a := fun i v5463 k0_hw551 k0_h6 => k0_hw551 k0_h6

def k0_off680 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c32_i32_2422 : BitVec 32 := 32#32
  let v5472 : BitVec 32 := Scalar.addi v5471 c32_i32_2422
  let c7_i32_2423 : BitVec 32 := 7#32
  let v5473 : BitVec 32 := Scalar.addi v5472 c7_i32_2423
  let v5474 : Index := Scalar.indexCast v5473
  ![v5474.toNat]
def k0_off681 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2425 : BitVec 32 := 4#32
  let v5477 : BitVec 32 := Scalar.addi v5386 c4_i32_2425
  ![v5477.toNat]
def k0_off682 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c4_i32_2424 : BitVec 32 := 4#32
  let v5476 : BitVec 32 := Scalar.addi v5386 c4_i32_2424
  let c7_i32_2426 : BitVec 32 := 7#32
  let c0_i32_2427 : BitVec 32 := 0#32
  ![v5476.toNat, 7, 0]
def k0_off683 (v5475 : BitVec 32) : Fin 2 → Nat :=
  let c0_i32_2428 : BitVec 32 := 0#32
  ![v5475.toNat, 0]

def k0_chk552 (i : grid0.Coords) (v5475 : BitVec 32) : Prop :=
  (∀ (k0_h6 : k0_cond6 i = 1#1), ∀ a, (k0_off683 v5475) a + S1x8192.size a ≤ S8192x8192.size a)
theorem k0_off683_inb : ∀ (i : grid0.Coords) (v5475 : BitVec 32) (k0_hw552 : k0_chk552 i v5475), ∀ (k0_h6 : k0_cond6 i = 1#1), ∀ a, (k0_off683 v5475) a + S1x8192.size a ≤ S8192x8192.size a := fun i v5475 k0_hw552 k0_h6 => k0_hw552 k0_h6

def k0_cond7 (i : grid0.Coords) : BitVec 1 :=
  let arg0 : BitVec 32 := BitVec.ofNat 32 (i 0).val
  let c3_i32_369 : BitVec 32 := 3#32
  let v846 : BitVec 32 := Scalar.addi arg0 c3_i32_369
  let c1_i32_370 : BitVec 32 := 1#32
  let v847 : BitVec 32 := Scalar.subi v846 c1_i32_370
  let c64_i32_371 : BitVec 32 := 64#32
  let v848 : BitVec 1 := Scalar.cmpi .slt v847 c64_i32_371
  let v849 : BitVec 32 := Scalar.extui v848
  let c0_i32_372 : BitVec 32 := 0#32
  let v850 : BitVec 1 := Scalar.cmpi .ne v849 c0_i32_372
  v850

def k0_off684 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c40_i32_2366 : BitVec 32 := 40#32
  let v5388 : BitVec 32 := Scalar.addi v5387 c40_i32_2366
  let c0_i32_2367 : BitVec 32 := 0#32
  let v5389 : BitVec 32 := Scalar.addi v5388 c0_i32_2367
  let v5390 : Index := Scalar.indexCast v5389
  ![v5390.toNat]
def k0_off685 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2369 : BitVec 32 := 5#32
  let v5393 : BitVec 32 := Scalar.addi v5386 c5_i32_2369
  ![v5393.toNat]
def k0_off686 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2368 : BitVec 32 := 5#32
  let v5392 : BitVec 32 := Scalar.addi v5386 c5_i32_2368
  let c0_i32_2370 : BitVec 32 := 0#32
  let c0_i32_2371 : BitVec 32 := 0#32
  ![v5392.toNat, 0, 0]
def k0_off687 (v5391 : BitVec 32) : Fin 2 → Nat :=
  let c0_i32_2372 : BitVec 32 := 0#32
  ![v5391.toNat, 0]

def k0_chk553 (i : grid0.Coords) (v5391 : BitVec 32) : Prop :=
  (∀ (k0_h7 : k0_cond7 i = 1#1), ∀ a, (k0_off687 v5391) a + S1x8192.size a ≤ S8192x8192.size a)
theorem k0_off687_inb : ∀ (i : grid0.Coords) (v5391 : BitVec 32) (k0_hw553 : k0_chk553 i v5391), ∀ (k0_h7 : k0_cond7 i = 1#1), ∀ a, (k0_off687 v5391) a + S1x8192.size a ≤ S8192x8192.size a := fun i v5391 k0_hw553 k0_h7 => k0_hw553 k0_h7

def k0_off688 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c40_i32_2374 : BitVec 32 := 40#32
  let v5400 : BitVec 32 := Scalar.addi v5399 c40_i32_2374
  let c1_i32_2375 : BitVec 32 := 1#32
  let v5401 : BitVec 32 := Scalar.addi v5400 c1_i32_2375
  let v5402 : Index := Scalar.indexCast v5401
  ![v5402.toNat]
def k0_off689 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2377 : BitVec 32 := 5#32
  let v5405 : BitVec 32 := Scalar.addi v5386 c5_i32_2377
  ![v5405.toNat]
def k0_off690 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2376 : BitVec 32 := 5#32
  let v5404 : BitVec 32 := Scalar.addi v5386 c5_i32_2376
  let c1_i32_2378 : BitVec 32 := 1#32
  let c0_i32_2379 : BitVec 32 := 0#32
  ![v5404.toNat, 1, 0]
def k0_off691 (v5403 : BitVec 32) : Fin 2 → Nat :=
  let c0_i32_2380 : BitVec 32 := 0#32
  ![v5403.toNat, 0]

def k0_chk554 (i : grid0.Coords) (v5403 : BitVec 32) : Prop :=
  (∀ (k0_h7 : k0_cond7 i = 1#1), ∀ a, (k0_off691 v5403) a + S1x8192.size a ≤ S8192x8192.size a)
theorem k0_off691_inb : ∀ (i : grid0.Coords) (v5403 : BitVec 32) (k0_hw554 : k0_chk554 i v5403), ∀ (k0_h7 : k0_cond7 i = 1#1), ∀ a, (k0_off691 v5403) a + S1x8192.size a ≤ S8192x8192.size a := fun i v5403 k0_hw554 k0_h7 => k0_hw554 k0_h7

def k0_off692 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c40_i32_2382 : BitVec 32 := 40#32
  let v5412 : BitVec 32 := Scalar.addi v5411 c40_i32_2382
  let c2_i32_2383 : BitVec 32 := 2#32
  let v5413 : BitVec 32 := Scalar.addi v5412 c2_i32_2383
  let v5414 : Index := Scalar.indexCast v5413
  ![v5414.toNat]
def k0_off693 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2385 : BitVec 32 := 5#32
  let v5417 : BitVec 32 := Scalar.addi v5386 c5_i32_2385
  ![v5417.toNat]
def k0_off694 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2384 : BitVec 32 := 5#32
  let v5416 : BitVec 32 := Scalar.addi v5386 c5_i32_2384
  let c2_i32_2386 : BitVec 32 := 2#32
  let c0_i32_2387 : BitVec 32 := 0#32
  ![v5416.toNat, 2, 0]
def k0_off695 (v5415 : BitVec 32) : Fin 2 → Nat :=
  let c0_i32_2388 : BitVec 32 := 0#32
  ![v5415.toNat, 0]

def k0_chk555 (i : grid0.Coords) (v5415 : BitVec 32) : Prop :=
  (∀ (k0_h7 : k0_cond7 i = 1#1), ∀ a, (k0_off695 v5415) a + S1x8192.size a ≤ S8192x8192.size a)
theorem k0_off695_inb : ∀ (i : grid0.Coords) (v5415 : BitVec 32) (k0_hw555 : k0_chk555 i v5415), ∀ (k0_h7 : k0_cond7 i = 1#1), ∀ a, (k0_off695 v5415) a + S1x8192.size a ≤ S8192x8192.size a := fun i v5415 k0_hw555 k0_h7 => k0_hw555 k0_h7

def k0_off696 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c40_i32_2390 : BitVec 32 := 40#32
  let v5424 : BitVec 32 := Scalar.addi v5423 c40_i32_2390
  let c3_i32_2391 : BitVec 32 := 3#32
  let v5425 : BitVec 32 := Scalar.addi v5424 c3_i32_2391
  let v5426 : Index := Scalar.indexCast v5425
  ![v5426.toNat]
def k0_off697 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2393 : BitVec 32 := 5#32
  let v5429 : BitVec 32 := Scalar.addi v5386 c5_i32_2393
  ![v5429.toNat]
def k0_off698 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2392 : BitVec 32 := 5#32
  let v5428 : BitVec 32 := Scalar.addi v5386 c5_i32_2392
  let c3_i32_2394 : BitVec 32 := 3#32
  let c0_i32_2395 : BitVec 32 := 0#32
  ![v5428.toNat, 3, 0]
def k0_off699 (v5427 : BitVec 32) : Fin 2 → Nat :=
  let c0_i32_2396 : BitVec 32 := 0#32
  ![v5427.toNat, 0]

def k0_chk556 (i : grid0.Coords) (v5427 : BitVec 32) : Prop :=
  (∀ (k0_h7 : k0_cond7 i = 1#1), ∀ a, (k0_off699 v5427) a + S1x8192.size a ≤ S8192x8192.size a)
theorem k0_off699_inb : ∀ (i : grid0.Coords) (v5427 : BitVec 32) (k0_hw556 : k0_chk556 i v5427), ∀ (k0_h7 : k0_cond7 i = 1#1), ∀ a, (k0_off699 v5427) a + S1x8192.size a ≤ S8192x8192.size a := fun i v5427 k0_hw556 k0_h7 => k0_hw556 k0_h7

def k0_off700 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c40_i32_2398 : BitVec 32 := 40#32
  let v5436 : BitVec 32 := Scalar.addi v5435 c40_i32_2398
  let c4_i32_2399 : BitVec 32 := 4#32
  let v5437 : BitVec 32 := Scalar.addi v5436 c4_i32_2399
  let v5438 : Index := Scalar.indexCast v5437
  ![v5438.toNat]
def k0_off701 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2401 : BitVec 32 := 5#32
  let v5441 : BitVec 32 := Scalar.addi v5386 c5_i32_2401
  ![v5441.toNat]
def k0_off702 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2400 : BitVec 32 := 5#32
  let v5440 : BitVec 32 := Scalar.addi v5386 c5_i32_2400
  let c4_i32_2402 : BitVec 32 := 4#32
  let c0_i32_2403 : BitVec 32 := 0#32
  ![v5440.toNat, 4, 0]
def k0_off703 (v5439 : BitVec 32) : Fin 2 → Nat :=
  let c0_i32_2404 : BitVec 32 := 0#32
  ![v5439.toNat, 0]

def k0_chk557 (i : grid0.Coords) (v5439 : BitVec 32) : Prop :=
  (∀ (k0_h7 : k0_cond7 i = 1#1), ∀ a, (k0_off703 v5439) a + S1x8192.size a ≤ S8192x8192.size a)
theorem k0_off703_inb : ∀ (i : grid0.Coords) (v5439 : BitVec 32) (k0_hw557 : k0_chk557 i v5439), ∀ (k0_h7 : k0_cond7 i = 1#1), ∀ a, (k0_off703 v5439) a + S1x8192.size a ≤ S8192x8192.size a := fun i v5439 k0_hw557 k0_h7 => k0_hw557 k0_h7

def k0_off704 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c40_i32_2406 : BitVec 32 := 40#32
  let v5448 : BitVec 32 := Scalar.addi v5447 c40_i32_2406
  let c5_i32_2407 : BitVec 32 := 5#32
  let v5449 : BitVec 32 := Scalar.addi v5448 c5_i32_2407
  let v5450 : Index := Scalar.indexCast v5449
  ![v5450.toNat]
def k0_off705 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2409 : BitVec 32 := 5#32
  let v5453 : BitVec 32 := Scalar.addi v5386 c5_i32_2409
  ![v5453.toNat]
def k0_off706 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2408 : BitVec 32 := 5#32
  let v5452 : BitVec 32 := Scalar.addi v5386 c5_i32_2408
  let c5_i32_2410 : BitVec 32 := 5#32
  let c0_i32_2411 : BitVec 32 := 0#32
  ![v5452.toNat, 5, 0]
def k0_off707 (v5451 : BitVec 32) : Fin 2 → Nat :=
  let c0_i32_2412 : BitVec 32 := 0#32
  ![v5451.toNat, 0]

def k0_chk558 (i : grid0.Coords) (v5451 : BitVec 32) : Prop :=
  (∀ (k0_h7 : k0_cond7 i = 1#1), ∀ a, (k0_off707 v5451) a + S1x8192.size a ≤ S8192x8192.size a)
theorem k0_off707_inb : ∀ (i : grid0.Coords) (v5451 : BitVec 32) (k0_hw558 : k0_chk558 i v5451), ∀ (k0_h7 : k0_cond7 i = 1#1), ∀ a, (k0_off707 v5451) a + S1x8192.size a ≤ S8192x8192.size a := fun i v5451 k0_hw558 k0_h7 => k0_hw558 k0_h7

def k0_off708 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c40_i32_2414 : BitVec 32 := 40#32
  let v5460 : BitVec 32 := Scalar.addi v5459 c40_i32_2414
  let c6_i32_2415 : BitVec 32 := 6#32
  let v5461 : BitVec 32 := Scalar.addi v5460 c6_i32_2415
  let v5462 : Index := Scalar.indexCast v5461
  ![v5462.toNat]
def k0_off709 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2417 : BitVec 32 := 5#32
  let v5465 : BitVec 32 := Scalar.addi v5386 c5_i32_2417
  ![v5465.toNat]
def k0_off710 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2416 : BitVec 32 := 5#32
  let v5464 : BitVec 32 := Scalar.addi v5386 c5_i32_2416
  let c6_i32_2418 : BitVec 32 := 6#32
  let c0_i32_2419 : BitVec 32 := 0#32
  ![v5464.toNat, 6, 0]
def k0_off711 (v5463 : BitVec 32) : Fin 2 → Nat :=
  let c0_i32_2420 : BitVec 32 := 0#32
  ![v5463.toNat, 0]

def k0_chk559 (i : grid0.Coords) (v5463 : BitVec 32) : Prop :=
  (∀ (k0_h7 : k0_cond7 i = 1#1), ∀ a, (k0_off711 v5463) a + S1x8192.size a ≤ S8192x8192.size a)
theorem k0_off711_inb : ∀ (i : grid0.Coords) (v5463 : BitVec 32) (k0_hw559 : k0_chk559 i v5463), ∀ (k0_h7 : k0_cond7 i = 1#1), ∀ a, (k0_off711 v5463) a + S1x8192.size a ≤ S8192x8192.size a := fun i v5463 k0_hw559 k0_h7 => k0_hw559 k0_h7

def k0_off712 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c40_i32_2422 : BitVec 32 := 40#32
  let v5472 : BitVec 32 := Scalar.addi v5471 c40_i32_2422
  let c7_i32_2423 : BitVec 32 := 7#32
  let v5473 : BitVec 32 := Scalar.addi v5472 c7_i32_2423
  let v5474 : Index := Scalar.indexCast v5473
  ![v5474.toNat]
def k0_off713 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2425 : BitVec 32 := 5#32
  let v5477 : BitVec 32 := Scalar.addi v5386 c5_i32_2425
  ![v5477.toNat]
def k0_off714 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c5_i32_2424 : BitVec 32 := 5#32
  let v5476 : BitVec 32 := Scalar.addi v5386 c5_i32_2424
  let c7_i32_2426 : BitVec 32 := 7#32
  let c0_i32_2427 : BitVec 32 := 0#32
  ![v5476.toNat, 7, 0]
def k0_off715 (v5475 : BitVec 32) : Fin 2 → Nat :=
  let c0_i32_2428 : BitVec 32 := 0#32
  ![v5475.toNat, 0]

def k0_chk560 (i : grid0.Coords) (v5475 : BitVec 32) : Prop :=
  (∀ (k0_h7 : k0_cond7 i = 1#1), ∀ a, (k0_off715 v5475) a + S1x8192.size a ≤ S8192x8192.size a)
theorem k0_off715_inb : ∀ (i : grid0.Coords) (v5475 : BitVec 32) (k0_hw560 : k0_chk560 i v5475), ∀ (k0_h7 : k0_cond7 i = 1#1), ∀ a, (k0_off715 v5475) a + S1x8192.size a ≤ S8192x8192.size a := fun i v5475 k0_hw560 k0_h7 => k0_hw560 k0_h7

def k0_cond8 (i : grid0.Coords) : BitVec 1 :=
  let arg0 : BitVec 32 := BitVec.ofNat 32 (i 0).val
  let c3_i32_443 : BitVec 32 := 3#32
  let v1012 : BitVec 32 := Scalar.addi arg0 c3_i32_443
  let c1_i32_444 : BitVec 32 := 1#32
  let v1013 : BitVec 32 := Scalar.subi v1012 c1_i32_444
  let c64_i32_445 : BitVec 32 := 64#32
  let v1014 : BitVec 1 := Scalar.cmpi .slt v1013 c64_i32_445
  let v1015 : BitVec 32 := Scalar.extui v1014
  let c0_i32_446 : BitVec 32 := 0#32
  let v1016 : BitVec 1 := Scalar.cmpi .ne v1015 c0_i32_446
  v1016

def k0_off716 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c48_i32_2366 : BitVec 32 := 48#32
  let v5388 : BitVec 32 := Scalar.addi v5387 c48_i32_2366
  let c0_i32_2367 : BitVec 32 := 0#32
  let v5389 : BitVec 32 := Scalar.addi v5388 c0_i32_2367
  let v5390 : Index := Scalar.indexCast v5389
  ![v5390.toNat]
def k0_off717 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2369 : BitVec 32 := 6#32
  let v5393 : BitVec 32 := Scalar.addi v5386 c6_i32_2369
  ![v5393.toNat]
def k0_off718 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2368 : BitVec 32 := 6#32
  let v5392 : BitVec 32 := Scalar.addi v5386 c6_i32_2368
  let c0_i32_2370 : BitVec 32 := 0#32
  let c0_i32_2371 : BitVec 32 := 0#32
  ![v5392.toNat, 0, 0]
def k0_off719 (v5391 : BitVec 32) : Fin 2 → Nat :=
  let c0_i32_2372 : BitVec 32 := 0#32
  ![v5391.toNat, 0]

def k0_chk561 (i : grid0.Coords) (v5391 : BitVec 32) : Prop :=
  (∀ (k0_h8 : k0_cond8 i = 1#1), ∀ a, (k0_off719 v5391) a + S1x8192.size a ≤ S8192x8192.size a)
theorem k0_off719_inb : ∀ (i : grid0.Coords) (v5391 : BitVec 32) (k0_hw561 : k0_chk561 i v5391), ∀ (k0_h8 : k0_cond8 i = 1#1), ∀ a, (k0_off719 v5391) a + S1x8192.size a ≤ S8192x8192.size a := fun i v5391 k0_hw561 k0_h8 => k0_hw561 k0_h8

def k0_off720 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c48_i32_2374 : BitVec 32 := 48#32
  let v5400 : BitVec 32 := Scalar.addi v5399 c48_i32_2374
  let c1_i32_2375 : BitVec 32 := 1#32
  let v5401 : BitVec 32 := Scalar.addi v5400 c1_i32_2375
  let v5402 : Index := Scalar.indexCast v5401
  ![v5402.toNat]
def k0_off721 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2377 : BitVec 32 := 6#32
  let v5405 : BitVec 32 := Scalar.addi v5386 c6_i32_2377
  ![v5405.toNat]
def k0_off722 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2376 : BitVec 32 := 6#32
  let v5404 : BitVec 32 := Scalar.addi v5386 c6_i32_2376
  let c1_i32_2378 : BitVec 32 := 1#32
  let c0_i32_2379 : BitVec 32 := 0#32
  ![v5404.toNat, 1, 0]
def k0_off723 (v5403 : BitVec 32) : Fin 2 → Nat :=
  let c0_i32_2380 : BitVec 32 := 0#32
  ![v5403.toNat, 0]

def k0_chk562 (i : grid0.Coords) (v5403 : BitVec 32) : Prop :=
  (∀ (k0_h8 : k0_cond8 i = 1#1), ∀ a, (k0_off723 v5403) a + S1x8192.size a ≤ S8192x8192.size a)
theorem k0_off723_inb : ∀ (i : grid0.Coords) (v5403 : BitVec 32) (k0_hw562 : k0_chk562 i v5403), ∀ (k0_h8 : k0_cond8 i = 1#1), ∀ a, (k0_off723 v5403) a + S1x8192.size a ≤ S8192x8192.size a := fun i v5403 k0_hw562 k0_h8 => k0_hw562 k0_h8

def k0_off724 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c48_i32_2382 : BitVec 32 := 48#32
  let v5412 : BitVec 32 := Scalar.addi v5411 c48_i32_2382
  let c2_i32_2383 : BitVec 32 := 2#32
  let v5413 : BitVec 32 := Scalar.addi v5412 c2_i32_2383
  let v5414 : Index := Scalar.indexCast v5413
  ![v5414.toNat]
def k0_off725 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2385 : BitVec 32 := 6#32
  let v5417 : BitVec 32 := Scalar.addi v5386 c6_i32_2385
  ![v5417.toNat]
def k0_off726 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2384 : BitVec 32 := 6#32
  let v5416 : BitVec 32 := Scalar.addi v5386 c6_i32_2384
  let c2_i32_2386 : BitVec 32 := 2#32
  let c0_i32_2387 : BitVec 32 := 0#32
  ![v5416.toNat, 2, 0]
def k0_off727 (v5415 : BitVec 32) : Fin 2 → Nat :=
  let c0_i32_2388 : BitVec 32 := 0#32
  ![v5415.toNat, 0]

def k0_chk563 (i : grid0.Coords) (v5415 : BitVec 32) : Prop :=
  (∀ (k0_h8 : k0_cond8 i = 1#1), ∀ a, (k0_off727 v5415) a + S1x8192.size a ≤ S8192x8192.size a)
theorem k0_off727_inb : ∀ (i : grid0.Coords) (v5415 : BitVec 32) (k0_hw563 : k0_chk563 i v5415), ∀ (k0_h8 : k0_cond8 i = 1#1), ∀ a, (k0_off727 v5415) a + S1x8192.size a ≤ S8192x8192.size a := fun i v5415 k0_hw563 k0_h8 => k0_hw563 k0_h8

def k0_off728 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c48_i32_2390 : BitVec 32 := 48#32
  let v5424 : BitVec 32 := Scalar.addi v5423 c48_i32_2390
  let c3_i32_2391 : BitVec 32 := 3#32
  let v5425 : BitVec 32 := Scalar.addi v5424 c3_i32_2391
  let v5426 : Index := Scalar.indexCast v5425
  ![v5426.toNat]
def k0_off729 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2393 : BitVec 32 := 6#32
  let v5429 : BitVec 32 := Scalar.addi v5386 c6_i32_2393
  ![v5429.toNat]
def k0_off730 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2392 : BitVec 32 := 6#32
  let v5428 : BitVec 32 := Scalar.addi v5386 c6_i32_2392
  let c3_i32_2394 : BitVec 32 := 3#32
  let c0_i32_2395 : BitVec 32 := 0#32
  ![v5428.toNat, 3, 0]
def k0_off731 (v5427 : BitVec 32) : Fin 2 → Nat :=
  let c0_i32_2396 : BitVec 32 := 0#32
  ![v5427.toNat, 0]

def k0_chk564 (i : grid0.Coords) (v5427 : BitVec 32) : Prop :=
  (∀ (k0_h8 : k0_cond8 i = 1#1), ∀ a, (k0_off731 v5427) a + S1x8192.size a ≤ S8192x8192.size a)
theorem k0_off731_inb : ∀ (i : grid0.Coords) (v5427 : BitVec 32) (k0_hw564 : k0_chk564 i v5427), ∀ (k0_h8 : k0_cond8 i = 1#1), ∀ a, (k0_off731 v5427) a + S1x8192.size a ≤ S8192x8192.size a := fun i v5427 k0_hw564 k0_h8 => k0_hw564 k0_h8

def k0_off732 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c48_i32_2398 : BitVec 32 := 48#32
  let v5436 : BitVec 32 := Scalar.addi v5435 c48_i32_2398
  let c4_i32_2399 : BitVec 32 := 4#32
  let v5437 : BitVec 32 := Scalar.addi v5436 c4_i32_2399
  let v5438 : Index := Scalar.indexCast v5437
  ![v5438.toNat]
def k0_off733 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2401 : BitVec 32 := 6#32
  let v5441 : BitVec 32 := Scalar.addi v5386 c6_i32_2401
  ![v5441.toNat]
def k0_off734 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2400 : BitVec 32 := 6#32
  let v5440 : BitVec 32 := Scalar.addi v5386 c6_i32_2400
  let c4_i32_2402 : BitVec 32 := 4#32
  let c0_i32_2403 : BitVec 32 := 0#32
  ![v5440.toNat, 4, 0]
def k0_off735 (v5439 : BitVec 32) : Fin 2 → Nat :=
  let c0_i32_2404 : BitVec 32 := 0#32
  ![v5439.toNat, 0]

def k0_chk565 (i : grid0.Coords) (v5439 : BitVec 32) : Prop :=
  (∀ (k0_h8 : k0_cond8 i = 1#1), ∀ a, (k0_off735 v5439) a + S1x8192.size a ≤ S8192x8192.size a)
theorem k0_off735_inb : ∀ (i : grid0.Coords) (v5439 : BitVec 32) (k0_hw565 : k0_chk565 i v5439), ∀ (k0_h8 : k0_cond8 i = 1#1), ∀ a, (k0_off735 v5439) a + S1x8192.size a ≤ S8192x8192.size a := fun i v5439 k0_hw565 k0_h8 => k0_hw565 k0_h8

def k0_off736 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c48_i32_2406 : BitVec 32 := 48#32
  let v5448 : BitVec 32 := Scalar.addi v5447 c48_i32_2406
  let c5_i32_2407 : BitVec 32 := 5#32
  let v5449 : BitVec 32 := Scalar.addi v5448 c5_i32_2407
  let v5450 : Index := Scalar.indexCast v5449
  ![v5450.toNat]
def k0_off737 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2409 : BitVec 32 := 6#32
  let v5453 : BitVec 32 := Scalar.addi v5386 c6_i32_2409
  ![v5453.toNat]
def k0_off738 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2408 : BitVec 32 := 6#32
  let v5452 : BitVec 32 := Scalar.addi v5386 c6_i32_2408
  let c5_i32_2410 : BitVec 32 := 5#32
  let c0_i32_2411 : BitVec 32 := 0#32
  ![v5452.toNat, 5, 0]
def k0_off739 (v5451 : BitVec 32) : Fin 2 → Nat :=
  let c0_i32_2412 : BitVec 32 := 0#32
  ![v5451.toNat, 0]

def k0_chk566 (i : grid0.Coords) (v5451 : BitVec 32) : Prop :=
  (∀ (k0_h8 : k0_cond8 i = 1#1), ∀ a, (k0_off739 v5451) a + S1x8192.size a ≤ S8192x8192.size a)
theorem k0_off739_inb : ∀ (i : grid0.Coords) (v5451 : BitVec 32) (k0_hw566 : k0_chk566 i v5451), ∀ (k0_h8 : k0_cond8 i = 1#1), ∀ a, (k0_off739 v5451) a + S1x8192.size a ≤ S8192x8192.size a := fun i v5451 k0_hw566 k0_h8 => k0_hw566 k0_h8

def k0_off740 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c48_i32_2414 : BitVec 32 := 48#32
  let v5460 : BitVec 32 := Scalar.addi v5459 c48_i32_2414
  let c6_i32_2415 : BitVec 32 := 6#32
  let v5461 : BitVec 32 := Scalar.addi v5460 c6_i32_2415
  let v5462 : Index := Scalar.indexCast v5461
  ![v5462.toNat]
def k0_off741 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2417 : BitVec 32 := 6#32
  let v5465 : BitVec 32 := Scalar.addi v5386 c6_i32_2417
  ![v5465.toNat]
def k0_off742 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2416 : BitVec 32 := 6#32
  let v5464 : BitVec 32 := Scalar.addi v5386 c6_i32_2416
  let c6_i32_2418 : BitVec 32 := 6#32
  let c0_i32_2419 : BitVec 32 := 0#32
  ![v5464.toNat, 6, 0]
def k0_off743 (v5463 : BitVec 32) : Fin 2 → Nat :=
  let c0_i32_2420 : BitVec 32 := 0#32
  ![v5463.toNat, 0]

def k0_chk567 (i : grid0.Coords) (v5463 : BitVec 32) : Prop :=
  (∀ (k0_h8 : k0_cond8 i = 1#1), ∀ a, (k0_off743 v5463) a + S1x8192.size a ≤ S8192x8192.size a)
theorem k0_off743_inb : ∀ (i : grid0.Coords) (v5463 : BitVec 32) (k0_hw567 : k0_chk567 i v5463), ∀ (k0_h8 : k0_cond8 i = 1#1), ∀ a, (k0_off743 v5463) a + S1x8192.size a ≤ S8192x8192.size a := fun i v5463 k0_hw567 k0_h8 => k0_hw567 k0_h8

def k0_off744 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c48_i32_2422 : BitVec 32 := 48#32
  let v5472 : BitVec 32 := Scalar.addi v5471 c48_i32_2422
  let c7_i32_2423 : BitVec 32 := 7#32
  let v5473 : BitVec 32 := Scalar.addi v5472 c7_i32_2423
  let v5474 : Index := Scalar.indexCast v5473
  ![v5474.toNat]
def k0_off745 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2425 : BitVec 32 := 6#32
  let v5477 : BitVec 32 := Scalar.addi v5386 c6_i32_2425
  ![v5477.toNat]
def k0_off746 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c6_i32_2424 : BitVec 32 := 6#32
  let v5476 : BitVec 32 := Scalar.addi v5386 c6_i32_2424
  let c7_i32_2426 : BitVec 32 := 7#32
  let c0_i32_2427 : BitVec 32 := 0#32
  ![v5476.toNat, 7, 0]
def k0_off747 (v5475 : BitVec 32) : Fin 2 → Nat :=
  let c0_i32_2428 : BitVec 32 := 0#32
  ![v5475.toNat, 0]

def k0_chk568 (i : grid0.Coords) (v5475 : BitVec 32) : Prop :=
  (∀ (k0_h8 : k0_cond8 i = 1#1), ∀ a, (k0_off747 v5475) a + S1x8192.size a ≤ S8192x8192.size a)
theorem k0_off747_inb : ∀ (i : grid0.Coords) (v5475 : BitVec 32) (k0_hw568 : k0_chk568 i v5475), ∀ (k0_h8 : k0_cond8 i = 1#1), ∀ a, (k0_off747 v5475) a + S1x8192.size a ≤ S8192x8192.size a := fun i v5475 k0_hw568 k0_h8 => k0_hw568 k0_h8

def k0_cond9 (i : grid0.Coords) : BitVec 1 :=
  let arg0 : BitVec 32 := BitVec.ofNat 32 (i 0).val
  let c3_i32_517 : BitVec 32 := 3#32
  let v1178 : BitVec 32 := Scalar.addi arg0 c3_i32_517
  let c1_i32_518 : BitVec 32 := 1#32
  let v1179 : BitVec 32 := Scalar.subi v1178 c1_i32_518
  let c64_i32_519 : BitVec 32 := 64#32
  let v1180 : BitVec 1 := Scalar.cmpi .slt v1179 c64_i32_519
  let v1181 : BitVec 32 := Scalar.extui v1180
  let c0_i32_520 : BitVec 32 := 0#32
  let v1182 : BitVec 1 := Scalar.cmpi .ne v1181 c0_i32_520
  v1182

def k0_off748 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c56_i32_2366 : BitVec 32 := 56#32
  let v5388 : BitVec 32 := Scalar.addi v5387 c56_i32_2366
  let c0_i32_2367 : BitVec 32 := 0#32
  let v5389 : BitVec 32 := Scalar.addi v5388 c0_i32_2367
  let v5390 : Index := Scalar.indexCast v5389
  ![v5390.toNat]
def k0_off749 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2369 : BitVec 32 := 7#32
  let v5393 : BitVec 32 := Scalar.addi v5386 c7_i32_2369
  ![v5393.toNat]
def k0_off750 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2368 : BitVec 32 := 7#32
  let v5392 : BitVec 32 := Scalar.addi v5386 c7_i32_2368
  let c0_i32_2370 : BitVec 32 := 0#32
  let c0_i32_2371 : BitVec 32 := 0#32
  ![v5392.toNat, 0, 0]
def k0_off751 (v5391 : BitVec 32) : Fin 2 → Nat :=
  let c0_i32_2372 : BitVec 32 := 0#32
  ![v5391.toNat, 0]

def k0_chk569 (i : grid0.Coords) (v5391 : BitVec 32) : Prop :=
  (∀ (k0_h9 : k0_cond9 i = 1#1), ∀ a, (k0_off751 v5391) a + S1x8192.size a ≤ S8192x8192.size a)
theorem k0_off751_inb : ∀ (i : grid0.Coords) (v5391 : BitVec 32) (k0_hw569 : k0_chk569 i v5391), ∀ (k0_h9 : k0_cond9 i = 1#1), ∀ a, (k0_off751 v5391) a + S1x8192.size a ≤ S8192x8192.size a := fun i v5391 k0_hw569 k0_h9 => k0_hw569 k0_h9

def k0_off752 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c56_i32_2374 : BitVec 32 := 56#32
  let v5400 : BitVec 32 := Scalar.addi v5399 c56_i32_2374
  let c1_i32_2375 : BitVec 32 := 1#32
  let v5401 : BitVec 32 := Scalar.addi v5400 c1_i32_2375
  let v5402 : Index := Scalar.indexCast v5401
  ![v5402.toNat]
def k0_off753 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2377 : BitVec 32 := 7#32
  let v5405 : BitVec 32 := Scalar.addi v5386 c7_i32_2377
  ![v5405.toNat]
def k0_off754 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2376 : BitVec 32 := 7#32
  let v5404 : BitVec 32 := Scalar.addi v5386 c7_i32_2376
  let c1_i32_2378 : BitVec 32 := 1#32
  let c0_i32_2379 : BitVec 32 := 0#32
  ![v5404.toNat, 1, 0]
def k0_off755 (v5403 : BitVec 32) : Fin 2 → Nat :=
  let c0_i32_2380 : BitVec 32 := 0#32
  ![v5403.toNat, 0]

def k0_chk570 (i : grid0.Coords) (v5403 : BitVec 32) : Prop :=
  (∀ (k0_h9 : k0_cond9 i = 1#1), ∀ a, (k0_off755 v5403) a + S1x8192.size a ≤ S8192x8192.size a)
theorem k0_off755_inb : ∀ (i : grid0.Coords) (v5403 : BitVec 32) (k0_hw570 : k0_chk570 i v5403), ∀ (k0_h9 : k0_cond9 i = 1#1), ∀ a, (k0_off755 v5403) a + S1x8192.size a ≤ S8192x8192.size a := fun i v5403 k0_hw570 k0_h9 => k0_hw570 k0_h9

def k0_off756 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c56_i32_2382 : BitVec 32 := 56#32
  let v5412 : BitVec 32 := Scalar.addi v5411 c56_i32_2382
  let c2_i32_2383 : BitVec 32 := 2#32
  let v5413 : BitVec 32 := Scalar.addi v5412 c2_i32_2383
  let v5414 : Index := Scalar.indexCast v5413
  ![v5414.toNat]
def k0_off757 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2385 : BitVec 32 := 7#32
  let v5417 : BitVec 32 := Scalar.addi v5386 c7_i32_2385
  ![v5417.toNat]
def k0_off758 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2384 : BitVec 32 := 7#32
  let v5416 : BitVec 32 := Scalar.addi v5386 c7_i32_2384
  let c2_i32_2386 : BitVec 32 := 2#32
  let c0_i32_2387 : BitVec 32 := 0#32
  ![v5416.toNat, 2, 0]
def k0_off759 (v5415 : BitVec 32) : Fin 2 → Nat :=
  let c0_i32_2388 : BitVec 32 := 0#32
  ![v5415.toNat, 0]

def k0_chk571 (i : grid0.Coords) (v5415 : BitVec 32) : Prop :=
  (∀ (k0_h9 : k0_cond9 i = 1#1), ∀ a, (k0_off759 v5415) a + S1x8192.size a ≤ S8192x8192.size a)
theorem k0_off759_inb : ∀ (i : grid0.Coords) (v5415 : BitVec 32) (k0_hw571 : k0_chk571 i v5415), ∀ (k0_h9 : k0_cond9 i = 1#1), ∀ a, (k0_off759 v5415) a + S1x8192.size a ≤ S8192x8192.size a := fun i v5415 k0_hw571 k0_h9 => k0_hw571 k0_h9

def k0_off760 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c56_i32_2390 : BitVec 32 := 56#32
  let v5424 : BitVec 32 := Scalar.addi v5423 c56_i32_2390
  let c3_i32_2391 : BitVec 32 := 3#32
  let v5425 : BitVec 32 := Scalar.addi v5424 c3_i32_2391
  let v5426 : Index := Scalar.indexCast v5425
  ![v5426.toNat]
def k0_off761 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2393 : BitVec 32 := 7#32
  let v5429 : BitVec 32 := Scalar.addi v5386 c7_i32_2393
  ![v5429.toNat]
def k0_off762 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2392 : BitVec 32 := 7#32
  let v5428 : BitVec 32 := Scalar.addi v5386 c7_i32_2392
  let c3_i32_2394 : BitVec 32 := 3#32
  let c0_i32_2395 : BitVec 32 := 0#32
  ![v5428.toNat, 3, 0]
def k0_off763 (v5427 : BitVec 32) : Fin 2 → Nat :=
  let c0_i32_2396 : BitVec 32 := 0#32
  ![v5427.toNat, 0]

def k0_chk572 (i : grid0.Coords) (v5427 : BitVec 32) : Prop :=
  (∀ (k0_h9 : k0_cond9 i = 1#1), ∀ a, (k0_off763 v5427) a + S1x8192.size a ≤ S8192x8192.size a)
theorem k0_off763_inb : ∀ (i : grid0.Coords) (v5427 : BitVec 32) (k0_hw572 : k0_chk572 i v5427), ∀ (k0_h9 : k0_cond9 i = 1#1), ∀ a, (k0_off763 v5427) a + S1x8192.size a ≤ S8192x8192.size a := fun i v5427 k0_hw572 k0_h9 => k0_hw572 k0_h9

def k0_off764 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c56_i32_2398 : BitVec 32 := 56#32
  let v5436 : BitVec 32 := Scalar.addi v5435 c56_i32_2398
  let c4_i32_2399 : BitVec 32 := 4#32
  let v5437 : BitVec 32 := Scalar.addi v5436 c4_i32_2399
  let v5438 : Index := Scalar.indexCast v5437
  ![v5438.toNat]
def k0_off765 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2401 : BitVec 32 := 7#32
  let v5441 : BitVec 32 := Scalar.addi v5386 c7_i32_2401
  ![v5441.toNat]
def k0_off766 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2400 : BitVec 32 := 7#32
  let v5440 : BitVec 32 := Scalar.addi v5386 c7_i32_2400
  let c4_i32_2402 : BitVec 32 := 4#32
  let c0_i32_2403 : BitVec 32 := 0#32
  ![v5440.toNat, 4, 0]
def k0_off767 (v5439 : BitVec 32) : Fin 2 → Nat :=
  let c0_i32_2404 : BitVec 32 := 0#32
  ![v5439.toNat, 0]

def k0_chk573 (i : grid0.Coords) (v5439 : BitVec 32) : Prop :=
  (∀ (k0_h9 : k0_cond9 i = 1#1), ∀ a, (k0_off767 v5439) a + S1x8192.size a ≤ S8192x8192.size a)
theorem k0_off767_inb : ∀ (i : grid0.Coords) (v5439 : BitVec 32) (k0_hw573 : k0_chk573 i v5439), ∀ (k0_h9 : k0_cond9 i = 1#1), ∀ a, (k0_off767 v5439) a + S1x8192.size a ≤ S8192x8192.size a := fun i v5439 k0_hw573 k0_h9 => k0_hw573 k0_h9

def k0_off768 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c56_i32_2406 : BitVec 32 := 56#32
  let v5448 : BitVec 32 := Scalar.addi v5447 c56_i32_2406
  let c5_i32_2407 : BitVec 32 := 5#32
  let v5449 : BitVec 32 := Scalar.addi v5448 c5_i32_2407
  let v5450 : Index := Scalar.indexCast v5449
  ![v5450.toNat]
def k0_off769 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2409 : BitVec 32 := 7#32
  let v5453 : BitVec 32 := Scalar.addi v5386 c7_i32_2409
  ![v5453.toNat]
def k0_off770 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2408 : BitVec 32 := 7#32
  let v5452 : BitVec 32 := Scalar.addi v5386 c7_i32_2408
  let c5_i32_2410 : BitVec 32 := 5#32
  let c0_i32_2411 : BitVec 32 := 0#32
  ![v5452.toNat, 5, 0]
def k0_off771 (v5451 : BitVec 32) : Fin 2 → Nat :=
  let c0_i32_2412 : BitVec 32 := 0#32
  ![v5451.toNat, 0]

def k0_chk574 (i : grid0.Coords) (v5451 : BitVec 32) : Prop :=
  (∀ (k0_h9 : k0_cond9 i = 1#1), ∀ a, (k0_off771 v5451) a + S1x8192.size a ≤ S8192x8192.size a)
theorem k0_off771_inb : ∀ (i : grid0.Coords) (v5451 : BitVec 32) (k0_hw574 : k0_chk574 i v5451), ∀ (k0_h9 : k0_cond9 i = 1#1), ∀ a, (k0_off771 v5451) a + S1x8192.size a ≤ S8192x8192.size a := fun i v5451 k0_hw574 k0_h9 => k0_hw574 k0_h9

def k0_off772 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c56_i32_2414 : BitVec 32 := 56#32
  let v5460 : BitVec 32 := Scalar.addi v5459 c56_i32_2414
  let c6_i32_2415 : BitVec 32 := 6#32
  let v5461 : BitVec 32 := Scalar.addi v5460 c6_i32_2415
  let v5462 : Index := Scalar.indexCast v5461
  ![v5462.toNat]
def k0_off773 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2417 : BitVec 32 := 7#32
  let v5465 : BitVec 32 := Scalar.addi v5386 c7_i32_2417
  ![v5465.toNat]
def k0_off774 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2416 : BitVec 32 := 7#32
  let v5464 : BitVec 32 := Scalar.addi v5386 c7_i32_2416
  let c6_i32_2418 : BitVec 32 := 6#32
  let c0_i32_2419 : BitVec 32 := 0#32
  ![v5464.toNat, 6, 0]
def k0_off775 (v5463 : BitVec 32) : Fin 2 → Nat :=
  let c0_i32_2420 : BitVec 32 := 0#32
  ![v5463.toNat, 0]

def k0_chk575 (i : grid0.Coords) (v5463 : BitVec 32) : Prop :=
  (∀ (k0_h9 : k0_cond9 i = 1#1), ∀ a, (k0_off775 v5463) a + S1x8192.size a ≤ S8192x8192.size a)
theorem k0_off775_inb : ∀ (i : grid0.Coords) (v5463 : BitVec 32) (k0_hw575 : k0_chk575 i v5463), ∀ (k0_h9 : k0_cond9 i = 1#1), ∀ a, (k0_off775 v5463) a + S1x8192.size a ≤ S8192x8192.size a := fun i v5463 k0_hw575 k0_h9 => k0_hw575 k0_h9

def k0_off776 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c56_i32_2422 : BitVec 32 := 56#32
  let v5472 : BitVec 32 := Scalar.addi v5471 c56_i32_2422
  let c7_i32_2423 : BitVec 32 := 7#32
  let v5473 : BitVec 32 := Scalar.addi v5472 c7_i32_2423
  let v5474 : Index := Scalar.indexCast v5473
  ![v5474.toNat]
def k0_off777 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2425 : BitVec 32 := 7#32
  let v5477 : BitVec 32 := Scalar.addi v5386 c7_i32_2425
  ![v5477.toNat]
def k0_off778 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c7_i32_2424 : BitVec 32 := 7#32
  let v5476 : BitVec 32 := Scalar.addi v5386 c7_i32_2424
  let c7_i32_2426 : BitVec 32 := 7#32
  let c0_i32_2427 : BitVec 32 := 0#32
  ![v5476.toNat, 7, 0]
def k0_off779 (v5475 : BitVec 32) : Fin 2 → Nat :=
  let c0_i32_2428 : BitVec 32 := 0#32
  ![v5475.toNat, 0]

def k0_chk576 (i : grid0.Coords) (v5475 : BitVec 32) : Prop :=
  (∀ (k0_h9 : k0_cond9 i = 1#1), ∀ a, (k0_off779 v5475) a + S1x8192.size a ≤ S8192x8192.size a)
theorem k0_off779_inb : ∀ (i : grid0.Coords) (v5475 : BitVec 32) (k0_hw576 : k0_chk576 i v5475), ∀ (k0_h9 : k0_cond9 i = 1#1), ∀ a, (k0_off779 v5475) a + S1x8192.size a ≤ S8192x8192.size a := fun i v5475 k0_hw576 k0_h9 => k0_hw576 k0_h9

def k0_cond10 (i : grid0.Coords) : BitVec 1 :=
  let arg0 : BitVec 32 := BitVec.ofNat 32 (i 0).val
  let c3_i32_591 : BitVec 32 := 3#32
  let v1344 : BitVec 32 := Scalar.addi arg0 c3_i32_591
  let c1_i32_592 : BitVec 32 := 1#32
  let v1345 : BitVec 32 := Scalar.subi v1344 c1_i32_592
  let c64_i32_593 : BitVec 32 := 64#32
  let v1346 : BitVec 1 := Scalar.cmpi .slt v1345 c64_i32_593
  let v1347 : BitVec 32 := Scalar.extui v1346
  let c0_i32_594 : BitVec 32 := 0#32
  let v1348 : BitVec 1 := Scalar.cmpi .ne v1347 c0_i32_594
  v1348

def k0_off780 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c64_i32_2366 : BitVec 32 := 64#32
  let v5388 : BitVec 32 := Scalar.addi v5387 c64_i32_2366
  let c0_i32_2367 : BitVec 32 := 0#32
  let v5389 : BitVec 32 := Scalar.addi v5388 c0_i32_2367
  let v5390 : Index := Scalar.indexCast v5389
  ![v5390.toNat]
def k0_off781 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2369 : BitVec 32 := 8#32
  let v5393 : BitVec 32 := Scalar.addi v5386 c8_i32_2369
  ![v5393.toNat]
def k0_off782 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2368 : BitVec 32 := 8#32
  let v5392 : BitVec 32 := Scalar.addi v5386 c8_i32_2368
  let c0_i32_2370 : BitVec 32 := 0#32
  let c0_i32_2371 : BitVec 32 := 0#32
  ![v5392.toNat, 0, 0]
def k0_off783 (v5391 : BitVec 32) : Fin 2 → Nat :=
  let c0_i32_2372 : BitVec 32 := 0#32
  ![v5391.toNat, 0]

def k0_chk577 (i : grid0.Coords) (v5391 : BitVec 32) : Prop :=
  (∀ (k0_h10 : k0_cond10 i = 1#1), ∀ a, (k0_off783 v5391) a + S1x8192.size a ≤ S8192x8192.size a)
theorem k0_off783_inb : ∀ (i : grid0.Coords) (v5391 : BitVec 32) (k0_hw577 : k0_chk577 i v5391), ∀ (k0_h10 : k0_cond10 i = 1#1), ∀ a, (k0_off783 v5391) a + S1x8192.size a ≤ S8192x8192.size a := fun i v5391 k0_hw577 k0_h10 => k0_hw577 k0_h10

def k0_off784 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c64_i32_2374 : BitVec 32 := 64#32
  let v5400 : BitVec 32 := Scalar.addi v5399 c64_i32_2374
  let c1_i32_2375 : BitVec 32 := 1#32
  let v5401 : BitVec 32 := Scalar.addi v5400 c1_i32_2375
  let v5402 : Index := Scalar.indexCast v5401
  ![v5402.toNat]
def k0_off785 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2377 : BitVec 32 := 8#32
  let v5405 : BitVec 32 := Scalar.addi v5386 c8_i32_2377
  ![v5405.toNat]
def k0_off786 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2376 : BitVec 32 := 8#32
  let v5404 : BitVec 32 := Scalar.addi v5386 c8_i32_2376
  let c1_i32_2378 : BitVec 32 := 1#32
  let c0_i32_2379 : BitVec 32 := 0#32
  ![v5404.toNat, 1, 0]
def k0_off787 (v5403 : BitVec 32) : Fin 2 → Nat :=
  let c0_i32_2380 : BitVec 32 := 0#32
  ![v5403.toNat, 0]

def k0_chk578 (i : grid0.Coords) (v5403 : BitVec 32) : Prop :=
  (∀ (k0_h10 : k0_cond10 i = 1#1), ∀ a, (k0_off787 v5403) a + S1x8192.size a ≤ S8192x8192.size a)
theorem k0_off787_inb : ∀ (i : grid0.Coords) (v5403 : BitVec 32) (k0_hw578 : k0_chk578 i v5403), ∀ (k0_h10 : k0_cond10 i = 1#1), ∀ a, (k0_off787 v5403) a + S1x8192.size a ≤ S8192x8192.size a := fun i v5403 k0_hw578 k0_h10 => k0_hw578 k0_h10

def k0_off788 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c64_i32_2382 : BitVec 32 := 64#32
  let v5412 : BitVec 32 := Scalar.addi v5411 c64_i32_2382
  let c2_i32_2383 : BitVec 32 := 2#32
  let v5413 : BitVec 32 := Scalar.addi v5412 c2_i32_2383
  let v5414 : Index := Scalar.indexCast v5413
  ![v5414.toNat]
def k0_off789 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2385 : BitVec 32 := 8#32
  let v5417 : BitVec 32 := Scalar.addi v5386 c8_i32_2385
  ![v5417.toNat]
def k0_off790 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2384 : BitVec 32 := 8#32
  let v5416 : BitVec 32 := Scalar.addi v5386 c8_i32_2384
  let c2_i32_2386 : BitVec 32 := 2#32
  let c0_i32_2387 : BitVec 32 := 0#32
  ![v5416.toNat, 2, 0]
def k0_off791 (v5415 : BitVec 32) : Fin 2 → Nat :=
  let c0_i32_2388 : BitVec 32 := 0#32
  ![v5415.toNat, 0]

def k0_chk579 (i : grid0.Coords) (v5415 : BitVec 32) : Prop :=
  (∀ (k0_h10 : k0_cond10 i = 1#1), ∀ a, (k0_off791 v5415) a + S1x8192.size a ≤ S8192x8192.size a)
theorem k0_off791_inb : ∀ (i : grid0.Coords) (v5415 : BitVec 32) (k0_hw579 : k0_chk579 i v5415), ∀ (k0_h10 : k0_cond10 i = 1#1), ∀ a, (k0_off791 v5415) a + S1x8192.size a ≤ S8192x8192.size a := fun i v5415 k0_hw579 k0_h10 => k0_hw579 k0_h10

def k0_off792 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c64_i32_2390 : BitVec 32 := 64#32
  let v5424 : BitVec 32 := Scalar.addi v5423 c64_i32_2390
  let c3_i32_2391 : BitVec 32 := 3#32
  let v5425 : BitVec 32 := Scalar.addi v5424 c3_i32_2391
  let v5426 : Index := Scalar.indexCast v5425
  ![v5426.toNat]
def k0_off793 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2393 : BitVec 32 := 8#32
  let v5429 : BitVec 32 := Scalar.addi v5386 c8_i32_2393
  ![v5429.toNat]
def k0_off794 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2392 : BitVec 32 := 8#32
  let v5428 : BitVec 32 := Scalar.addi v5386 c8_i32_2392
  let c3_i32_2394 : BitVec 32 := 3#32
  let c0_i32_2395 : BitVec 32 := 0#32
  ![v5428.toNat, 3, 0]
def k0_off795 (v5427 : BitVec 32) : Fin 2 → Nat :=
  let c0_i32_2396 : BitVec 32 := 0#32
  ![v5427.toNat, 0]

def k0_chk580 (i : grid0.Coords) (v5427 : BitVec 32) : Prop :=
  (∀ (k0_h10 : k0_cond10 i = 1#1), ∀ a, (k0_off795 v5427) a + S1x8192.size a ≤ S8192x8192.size a)
theorem k0_off795_inb : ∀ (i : grid0.Coords) (v5427 : BitVec 32) (k0_hw580 : k0_chk580 i v5427), ∀ (k0_h10 : k0_cond10 i = 1#1), ∀ a, (k0_off795 v5427) a + S1x8192.size a ≤ S8192x8192.size a := fun i v5427 k0_hw580 k0_h10 => k0_hw580 k0_h10

def k0_off796 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c64_i32_2398 : BitVec 32 := 64#32
  let v5436 : BitVec 32 := Scalar.addi v5435 c64_i32_2398
  let c4_i32_2399 : BitVec 32 := 4#32
  let v5437 : BitVec 32 := Scalar.addi v5436 c4_i32_2399
  let v5438 : Index := Scalar.indexCast v5437
  ![v5438.toNat]
def k0_off797 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2401 : BitVec 32 := 8#32
  let v5441 : BitVec 32 := Scalar.addi v5386 c8_i32_2401
  ![v5441.toNat]
def k0_off798 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2400 : BitVec 32 := 8#32
  let v5440 : BitVec 32 := Scalar.addi v5386 c8_i32_2400
  let c4_i32_2402 : BitVec 32 := 4#32
  let c0_i32_2403 : BitVec 32 := 0#32
  ![v5440.toNat, 4, 0]
def k0_off799 (v5439 : BitVec 32) : Fin 2 → Nat :=
  let c0_i32_2404 : BitVec 32 := 0#32
  ![v5439.toNat, 0]

def k0_chk581 (i : grid0.Coords) (v5439 : BitVec 32) : Prop :=
  (∀ (k0_h10 : k0_cond10 i = 1#1), ∀ a, (k0_off799 v5439) a + S1x8192.size a ≤ S8192x8192.size a)
theorem k0_off799_inb : ∀ (i : grid0.Coords) (v5439 : BitVec 32) (k0_hw581 : k0_chk581 i v5439), ∀ (k0_h10 : k0_cond10 i = 1#1), ∀ a, (k0_off799 v5439) a + S1x8192.size a ≤ S8192x8192.size a := fun i v5439 k0_hw581 k0_h10 => k0_hw581 k0_h10

def k0_off800 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c64_i32_2406 : BitVec 32 := 64#32
  let v5448 : BitVec 32 := Scalar.addi v5447 c64_i32_2406
  let c5_i32_2407 : BitVec 32 := 5#32
  let v5449 : BitVec 32 := Scalar.addi v5448 c5_i32_2407
  let v5450 : Index := Scalar.indexCast v5449
  ![v5450.toNat]
def k0_off801 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2409 : BitVec 32 := 8#32
  let v5453 : BitVec 32 := Scalar.addi v5386 c8_i32_2409
  ![v5453.toNat]
def k0_off802 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2408 : BitVec 32 := 8#32
  let v5452 : BitVec 32 := Scalar.addi v5386 c8_i32_2408
  let c5_i32_2410 : BitVec 32 := 5#32
  let c0_i32_2411 : BitVec 32 := 0#32
  ![v5452.toNat, 5, 0]
def k0_off803 (v5451 : BitVec 32) : Fin 2 → Nat :=
  let c0_i32_2412 : BitVec 32 := 0#32
  ![v5451.toNat, 0]

def k0_chk582 (i : grid0.Coords) (v5451 : BitVec 32) : Prop :=
  (∀ (k0_h10 : k0_cond10 i = 1#1), ∀ a, (k0_off803 v5451) a + S1x8192.size a ≤ S8192x8192.size a)
theorem k0_off803_inb : ∀ (i : grid0.Coords) (v5451 : BitVec 32) (k0_hw582 : k0_chk582 i v5451), ∀ (k0_h10 : k0_cond10 i = 1#1), ∀ a, (k0_off803 v5451) a + S1x8192.size a ≤ S8192x8192.size a := fun i v5451 k0_hw582 k0_h10 => k0_hw582 k0_h10

def k0_off804 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c64_i32_2414 : BitVec 32 := 64#32
  let v5460 : BitVec 32 := Scalar.addi v5459 c64_i32_2414
  let c6_i32_2415 : BitVec 32 := 6#32
  let v5461 : BitVec 32 := Scalar.addi v5460 c6_i32_2415
  let v5462 : Index := Scalar.indexCast v5461
  ![v5462.toNat]
def k0_off805 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2417 : BitVec 32 := 8#32
  let v5465 : BitVec 32 := Scalar.addi v5386 c8_i32_2417
  ![v5465.toNat]
def k0_off806 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2416 : BitVec 32 := 8#32
  let v5464 : BitVec 32 := Scalar.addi v5386 c8_i32_2416
  let c6_i32_2418 : BitVec 32 := 6#32
  let c0_i32_2419 : BitVec 32 := 0#32
  ![v5464.toNat, 6, 0]
def k0_off807 (v5463 : BitVec 32) : Fin 2 → Nat :=
  let c0_i32_2420 : BitVec 32 := 0#32
  ![v5463.toNat, 0]

def k0_chk583 (i : grid0.Coords) (v5463 : BitVec 32) : Prop :=
  (∀ (k0_h10 : k0_cond10 i = 1#1), ∀ a, (k0_off807 v5463) a + S1x8192.size a ≤ S8192x8192.size a)
theorem k0_off807_inb : ∀ (i : grid0.Coords) (v5463 : BitVec 32) (k0_hw583 : k0_chk583 i v5463), ∀ (k0_h10 : k0_cond10 i = 1#1), ∀ a, (k0_off807 v5463) a + S1x8192.size a ≤ S8192x8192.size a := fun i v5463 k0_hw583 k0_h10 => k0_hw583 k0_h10

def k0_off808 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c64_i32_2422 : BitVec 32 := 64#32
  let v5472 : BitVec 32 := Scalar.addi v5471 c64_i32_2422
  let c7_i32_2423 : BitVec 32 := 7#32
  let v5473 : BitVec 32 := Scalar.addi v5472 c7_i32_2423
  let v5474 : Index := Scalar.indexCast v5473
  ![v5474.toNat]
def k0_off809 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2425 : BitVec 32 := 8#32
  let v5477 : BitVec 32 := Scalar.addi v5386 c8_i32_2425
  ![v5477.toNat]
def k0_off810 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c8_i32_2424 : BitVec 32 := 8#32
  let v5476 : BitVec 32 := Scalar.addi v5386 c8_i32_2424
  let c7_i32_2426 : BitVec 32 := 7#32
  let c0_i32_2427 : BitVec 32 := 0#32
  ![v5476.toNat, 7, 0]
def k0_off811 (v5475 : BitVec 32) : Fin 2 → Nat :=
  let c0_i32_2428 : BitVec 32 := 0#32
  ![v5475.toNat, 0]

def k0_chk584 (i : grid0.Coords) (v5475 : BitVec 32) : Prop :=
  (∀ (k0_h10 : k0_cond10 i = 1#1), ∀ a, (k0_off811 v5475) a + S1x8192.size a ≤ S8192x8192.size a)
theorem k0_off811_inb : ∀ (i : grid0.Coords) (v5475 : BitVec 32) (k0_hw584 : k0_chk584 i v5475), ∀ (k0_h10 : k0_cond10 i = 1#1), ∀ a, (k0_off811 v5475) a + S1x8192.size a ≤ S8192x8192.size a := fun i v5475 k0_hw584 k0_h10 => k0_hw584 k0_h10

def k0_cond11 (i : grid0.Coords) : BitVec 1 :=
  let arg0 : BitVec 32 := BitVec.ofNat 32 (i 0).val
  let c3_i32_666 : BitVec 32 := 3#32
  let v1510 : BitVec 32 := Scalar.addi arg0 c3_i32_666
  let c1_i32_667 : BitVec 32 := 1#32
  let v1511 : BitVec 32 := Scalar.subi v1510 c1_i32_667
  let c64_i32_668 : BitVec 32 := 64#32
  let v1512 : BitVec 1 := Scalar.cmpi .slt v1511 c64_i32_668
  let v1513 : BitVec 32 := Scalar.extui v1512
  let c0_i32_669 : BitVec 32 := 0#32
  let v1514 : BitVec 1 := Scalar.cmpi .ne v1513 c0_i32_669
  v1514

def k0_off812 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c72_i32_2366 : BitVec 32 := 72#32
  let v5388 : BitVec 32 := Scalar.addi v5387 c72_i32_2366
  let c0_i32_2367 : BitVec 32 := 0#32
  let v5389 : BitVec 32 := Scalar.addi v5388 c0_i32_2367
  let v5390 : Index := Scalar.indexCast v5389
  ![v5390.toNat]
def k0_off813 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2369 : BitVec 32 := 9#32
  let v5393 : BitVec 32 := Scalar.addi v5386 c9_i32_2369
  ![v5393.toNat]
def k0_off814 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2368 : BitVec 32 := 9#32
  let v5392 : BitVec 32 := Scalar.addi v5386 c9_i32_2368
  let c0_i32_2370 : BitVec 32 := 0#32
  let c0_i32_2371 : BitVec 32 := 0#32
  ![v5392.toNat, 0, 0]
def k0_off815 (v5391 : BitVec 32) : Fin 2 → Nat :=
  let c0_i32_2372 : BitVec 32 := 0#32
  ![v5391.toNat, 0]

def k0_chk585 (i : grid0.Coords) (v5391 : BitVec 32) : Prop :=
  (∀ (k0_h11 : k0_cond11 i = 1#1), ∀ a, (k0_off815 v5391) a + S1x8192.size a ≤ S8192x8192.size a)
theorem k0_off815_inb : ∀ (i : grid0.Coords) (v5391 : BitVec 32) (k0_hw585 : k0_chk585 i v5391), ∀ (k0_h11 : k0_cond11 i = 1#1), ∀ a, (k0_off815 v5391) a + S1x8192.size a ≤ S8192x8192.size a := fun i v5391 k0_hw585 k0_h11 => k0_hw585 k0_h11

def k0_off816 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c72_i32_2374 : BitVec 32 := 72#32
  let v5400 : BitVec 32 := Scalar.addi v5399 c72_i32_2374
  let c1_i32_2375 : BitVec 32 := 1#32
  let v5401 : BitVec 32 := Scalar.addi v5400 c1_i32_2375
  let v5402 : Index := Scalar.indexCast v5401
  ![v5402.toNat]
def k0_off817 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2377 : BitVec 32 := 9#32
  let v5405 : BitVec 32 := Scalar.addi v5386 c9_i32_2377
  ![v5405.toNat]
def k0_off818 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2376 : BitVec 32 := 9#32
  let v5404 : BitVec 32 := Scalar.addi v5386 c9_i32_2376
  let c1_i32_2378 : BitVec 32 := 1#32
  let c0_i32_2379 : BitVec 32 := 0#32
  ![v5404.toNat, 1, 0]
def k0_off819 (v5403 : BitVec 32) : Fin 2 → Nat :=
  let c0_i32_2380 : BitVec 32 := 0#32
  ![v5403.toNat, 0]

def k0_chk586 (i : grid0.Coords) (v5403 : BitVec 32) : Prop :=
  (∀ (k0_h11 : k0_cond11 i = 1#1), ∀ a, (k0_off819 v5403) a + S1x8192.size a ≤ S8192x8192.size a)
theorem k0_off819_inb : ∀ (i : grid0.Coords) (v5403 : BitVec 32) (k0_hw586 : k0_chk586 i v5403), ∀ (k0_h11 : k0_cond11 i = 1#1), ∀ a, (k0_off819 v5403) a + S1x8192.size a ≤ S8192x8192.size a := fun i v5403 k0_hw586 k0_h11 => k0_hw586 k0_h11

def k0_off820 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c72_i32_2382 : BitVec 32 := 72#32
  let v5412 : BitVec 32 := Scalar.addi v5411 c72_i32_2382
  let c2_i32_2383 : BitVec 32 := 2#32
  let v5413 : BitVec 32 := Scalar.addi v5412 c2_i32_2383
  let v5414 : Index := Scalar.indexCast v5413
  ![v5414.toNat]
def k0_off821 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2385 : BitVec 32 := 9#32
  let v5417 : BitVec 32 := Scalar.addi v5386 c9_i32_2385
  ![v5417.toNat]
def k0_off822 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2384 : BitVec 32 := 9#32
  let v5416 : BitVec 32 := Scalar.addi v5386 c9_i32_2384
  let c2_i32_2386 : BitVec 32 := 2#32
  let c0_i32_2387 : BitVec 32 := 0#32
  ![v5416.toNat, 2, 0]
def k0_off823 (v5415 : BitVec 32) : Fin 2 → Nat :=
  let c0_i32_2388 : BitVec 32 := 0#32
  ![v5415.toNat, 0]

def k0_chk587 (i : grid0.Coords) (v5415 : BitVec 32) : Prop :=
  (∀ (k0_h11 : k0_cond11 i = 1#1), ∀ a, (k0_off823 v5415) a + S1x8192.size a ≤ S8192x8192.size a)
theorem k0_off823_inb : ∀ (i : grid0.Coords) (v5415 : BitVec 32) (k0_hw587 : k0_chk587 i v5415), ∀ (k0_h11 : k0_cond11 i = 1#1), ∀ a, (k0_off823 v5415) a + S1x8192.size a ≤ S8192x8192.size a := fun i v5415 k0_hw587 k0_h11 => k0_hw587 k0_h11

def k0_off824 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c72_i32_2390 : BitVec 32 := 72#32
  let v5424 : BitVec 32 := Scalar.addi v5423 c72_i32_2390
  let c3_i32_2391 : BitVec 32 := 3#32
  let v5425 : BitVec 32 := Scalar.addi v5424 c3_i32_2391
  let v5426 : Index := Scalar.indexCast v5425
  ![v5426.toNat]
def k0_off825 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2393 : BitVec 32 := 9#32
  let v5429 : BitVec 32 := Scalar.addi v5386 c9_i32_2393
  ![v5429.toNat]
def k0_off826 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2392 : BitVec 32 := 9#32
  let v5428 : BitVec 32 := Scalar.addi v5386 c9_i32_2392
  let c3_i32_2394 : BitVec 32 := 3#32
  let c0_i32_2395 : BitVec 32 := 0#32
  ![v5428.toNat, 3, 0]
def k0_off827 (v5427 : BitVec 32) : Fin 2 → Nat :=
  let c0_i32_2396 : BitVec 32 := 0#32
  ![v5427.toNat, 0]

def k0_chk588 (i : grid0.Coords) (v5427 : BitVec 32) : Prop :=
  (∀ (k0_h11 : k0_cond11 i = 1#1), ∀ a, (k0_off827 v5427) a + S1x8192.size a ≤ S8192x8192.size a)
theorem k0_off827_inb : ∀ (i : grid0.Coords) (v5427 : BitVec 32) (k0_hw588 : k0_chk588 i v5427), ∀ (k0_h11 : k0_cond11 i = 1#1), ∀ a, (k0_off827 v5427) a + S1x8192.size a ≤ S8192x8192.size a := fun i v5427 k0_hw588 k0_h11 => k0_hw588 k0_h11

def k0_off828 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c72_i32_2398 : BitVec 32 := 72#32
  let v5436 : BitVec 32 := Scalar.addi v5435 c72_i32_2398
  let c4_i32_2399 : BitVec 32 := 4#32
  let v5437 : BitVec 32 := Scalar.addi v5436 c4_i32_2399
  let v5438 : Index := Scalar.indexCast v5437
  ![v5438.toNat]
def k0_off829 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2401 : BitVec 32 := 9#32
  let v5441 : BitVec 32 := Scalar.addi v5386 c9_i32_2401
  ![v5441.toNat]
def k0_off830 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2400 : BitVec 32 := 9#32
  let v5440 : BitVec 32 := Scalar.addi v5386 c9_i32_2400
  let c4_i32_2402 : BitVec 32 := 4#32
  let c0_i32_2403 : BitVec 32 := 0#32
  ![v5440.toNat, 4, 0]
def k0_off831 (v5439 : BitVec 32) : Fin 2 → Nat :=
  let c0_i32_2404 : BitVec 32 := 0#32
  ![v5439.toNat, 0]

def k0_chk589 (i : grid0.Coords) (v5439 : BitVec 32) : Prop :=
  (∀ (k0_h11 : k0_cond11 i = 1#1), ∀ a, (k0_off831 v5439) a + S1x8192.size a ≤ S8192x8192.size a)
theorem k0_off831_inb : ∀ (i : grid0.Coords) (v5439 : BitVec 32) (k0_hw589 : k0_chk589 i v5439), ∀ (k0_h11 : k0_cond11 i = 1#1), ∀ a, (k0_off831 v5439) a + S1x8192.size a ≤ S8192x8192.size a := fun i v5439 k0_hw589 k0_h11 => k0_hw589 k0_h11

def k0_off832 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c72_i32_2406 : BitVec 32 := 72#32
  let v5448 : BitVec 32 := Scalar.addi v5447 c72_i32_2406
  let c5_i32_2407 : BitVec 32 := 5#32
  let v5449 : BitVec 32 := Scalar.addi v5448 c5_i32_2407
  let v5450 : Index := Scalar.indexCast v5449
  ![v5450.toNat]
def k0_off833 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2409 : BitVec 32 := 9#32
  let v5453 : BitVec 32 := Scalar.addi v5386 c9_i32_2409
  ![v5453.toNat]
def k0_off834 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2408 : BitVec 32 := 9#32
  let v5452 : BitVec 32 := Scalar.addi v5386 c9_i32_2408
  let c5_i32_2410 : BitVec 32 := 5#32
  let c0_i32_2411 : BitVec 32 := 0#32
  ![v5452.toNat, 5, 0]
def k0_off835 (v5451 : BitVec 32) : Fin 2 → Nat :=
  let c0_i32_2412 : BitVec 32 := 0#32
  ![v5451.toNat, 0]

def k0_chk590 (i : grid0.Coords) (v5451 : BitVec 32) : Prop :=
  (∀ (k0_h11 : k0_cond11 i = 1#1), ∀ a, (k0_off835 v5451) a + S1x8192.size a ≤ S8192x8192.size a)
theorem k0_off835_inb : ∀ (i : grid0.Coords) (v5451 : BitVec 32) (k0_hw590 : k0_chk590 i v5451), ∀ (k0_h11 : k0_cond11 i = 1#1), ∀ a, (k0_off835 v5451) a + S1x8192.size a ≤ S8192x8192.size a := fun i v5451 k0_hw590 k0_h11 => k0_hw590 k0_h11

def k0_off836 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c72_i32_2414 : BitVec 32 := 72#32
  let v5460 : BitVec 32 := Scalar.addi v5459 c72_i32_2414
  let c6_i32_2415 : BitVec 32 := 6#32
  let v5461 : BitVec 32 := Scalar.addi v5460 c6_i32_2415
  let v5462 : Index := Scalar.indexCast v5461
  ![v5462.toNat]
def k0_off837 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2417 : BitVec 32 := 9#32
  let v5465 : BitVec 32 := Scalar.addi v5386 c9_i32_2417
  ![v5465.toNat]
def k0_off838 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2416 : BitVec 32 := 9#32
  let v5464 : BitVec 32 := Scalar.addi v5386 c9_i32_2416
  let c6_i32_2418 : BitVec 32 := 6#32
  let c0_i32_2419 : BitVec 32 := 0#32
  ![v5464.toNat, 6, 0]
def k0_off839 (v5463 : BitVec 32) : Fin 2 → Nat :=
  let c0_i32_2420 : BitVec 32 := 0#32
  ![v5463.toNat, 0]

def k0_chk591 (i : grid0.Coords) (v5463 : BitVec 32) : Prop :=
  (∀ (k0_h11 : k0_cond11 i = 1#1), ∀ a, (k0_off839 v5463) a + S1x8192.size a ≤ S8192x8192.size a)
theorem k0_off839_inb : ∀ (i : grid0.Coords) (v5463 : BitVec 32) (k0_hw591 : k0_chk591 i v5463), ∀ (k0_h11 : k0_cond11 i = 1#1), ∀ a, (k0_off839 v5463) a + S1x8192.size a ≤ S8192x8192.size a := fun i v5463 k0_hw591 k0_h11 => k0_hw591 k0_h11

def k0_off840 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c72_i32_2422 : BitVec 32 := 72#32
  let v5472 : BitVec 32 := Scalar.addi v5471 c72_i32_2422
  let c7_i32_2423 : BitVec 32 := 7#32
  let v5473 : BitVec 32 := Scalar.addi v5472 c7_i32_2423
  let v5474 : Index := Scalar.indexCast v5473
  ![v5474.toNat]
def k0_off841 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2425 : BitVec 32 := 9#32
  let v5477 : BitVec 32 := Scalar.addi v5386 c9_i32_2425
  ![v5477.toNat]
def k0_off842 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c9_i32_2424 : BitVec 32 := 9#32
  let v5476 : BitVec 32 := Scalar.addi v5386 c9_i32_2424
  let c7_i32_2426 : BitVec 32 := 7#32
  let c0_i32_2427 : BitVec 32 := 0#32
  ![v5476.toNat, 7, 0]
def k0_off843 (v5475 : BitVec 32) : Fin 2 → Nat :=
  let c0_i32_2428 : BitVec 32 := 0#32
  ![v5475.toNat, 0]

def k0_chk592 (i : grid0.Coords) (v5475 : BitVec 32) : Prop :=
  (∀ (k0_h11 : k0_cond11 i = 1#1), ∀ a, (k0_off843 v5475) a + S1x8192.size a ≤ S8192x8192.size a)
theorem k0_off843_inb : ∀ (i : grid0.Coords) (v5475 : BitVec 32) (k0_hw592 : k0_chk592 i v5475), ∀ (k0_h11 : k0_cond11 i = 1#1), ∀ a, (k0_off843 v5475) a + S1x8192.size a ≤ S8192x8192.size a := fun i v5475 k0_hw592 k0_h11 => k0_hw592 k0_h11

def k0_cond12 (i : grid0.Coords) : BitVec 1 :=
  let arg0 : BitVec 32 := BitVec.ofNat 32 (i 0).val
  let c3_i32_739 : BitVec 32 := 3#32
  let v1676 : BitVec 32 := Scalar.addi arg0 c3_i32_739
  let c1_i32_740 : BitVec 32 := 1#32
  let v1677 : BitVec 32 := Scalar.subi v1676 c1_i32_740
  let c64_i32_741 : BitVec 32 := 64#32
  let v1678 : BitVec 1 := Scalar.cmpi .slt v1677 c64_i32_741
  let v1679 : BitVec 32 := Scalar.extui v1678
  let c0_i32_742 : BitVec 32 := 0#32
  let v1680 : BitVec 1 := Scalar.cmpi .ne v1679 c0_i32_742
  v1680

def k0_off844 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c80_i32_2366 : BitVec 32 := 80#32
  let v5388 : BitVec 32 := Scalar.addi v5387 c80_i32_2366
  let c0_i32_2367 : BitVec 32 := 0#32
  let v5389 : BitVec 32 := Scalar.addi v5388 c0_i32_2367
  let v5390 : Index := Scalar.indexCast v5389
  ![v5390.toNat]
def k0_off845 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2369 : BitVec 32 := 10#32
  let v5393 : BitVec 32 := Scalar.addi v5386 c10_i32_2369
  ![v5393.toNat]
def k0_off846 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2368 : BitVec 32 := 10#32
  let v5392 : BitVec 32 := Scalar.addi v5386 c10_i32_2368
  let c0_i32_2370 : BitVec 32 := 0#32
  let c0_i32_2371 : BitVec 32 := 0#32
  ![v5392.toNat, 0, 0]
def k0_off847 (v5391 : BitVec 32) : Fin 2 → Nat :=
  let c0_i32_2372 : BitVec 32 := 0#32
  ![v5391.toNat, 0]

def k0_chk593 (i : grid0.Coords) (v5391 : BitVec 32) : Prop :=
  (∀ (k0_h12 : k0_cond12 i = 1#1), ∀ a, (k0_off847 v5391) a + S1x8192.size a ≤ S8192x8192.size a)
theorem k0_off847_inb : ∀ (i : grid0.Coords) (v5391 : BitVec 32) (k0_hw593 : k0_chk593 i v5391), ∀ (k0_h12 : k0_cond12 i = 1#1), ∀ a, (k0_off847 v5391) a + S1x8192.size a ≤ S8192x8192.size a := fun i v5391 k0_hw593 k0_h12 => k0_hw593 k0_h12

def k0_off848 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c80_i32_2374 : BitVec 32 := 80#32
  let v5400 : BitVec 32 := Scalar.addi v5399 c80_i32_2374
  let c1_i32_2375 : BitVec 32 := 1#32
  let v5401 : BitVec 32 := Scalar.addi v5400 c1_i32_2375
  let v5402 : Index := Scalar.indexCast v5401
  ![v5402.toNat]
def k0_off849 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2377 : BitVec 32 := 10#32
  let v5405 : BitVec 32 := Scalar.addi v5386 c10_i32_2377
  ![v5405.toNat]
def k0_off850 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2376 : BitVec 32 := 10#32
  let v5404 : BitVec 32 := Scalar.addi v5386 c10_i32_2376
  let c1_i32_2378 : BitVec 32 := 1#32
  let c0_i32_2379 : BitVec 32 := 0#32
  ![v5404.toNat, 1, 0]
def k0_off851 (v5403 : BitVec 32) : Fin 2 → Nat :=
  let c0_i32_2380 : BitVec 32 := 0#32
  ![v5403.toNat, 0]

def k0_chk594 (i : grid0.Coords) (v5403 : BitVec 32) : Prop :=
  (∀ (k0_h12 : k0_cond12 i = 1#1), ∀ a, (k0_off851 v5403) a + S1x8192.size a ≤ S8192x8192.size a)
theorem k0_off851_inb : ∀ (i : grid0.Coords) (v5403 : BitVec 32) (k0_hw594 : k0_chk594 i v5403), ∀ (k0_h12 : k0_cond12 i = 1#1), ∀ a, (k0_off851 v5403) a + S1x8192.size a ≤ S8192x8192.size a := fun i v5403 k0_hw594 k0_h12 => k0_hw594 k0_h12

def k0_off852 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c80_i32_2382 : BitVec 32 := 80#32
  let v5412 : BitVec 32 := Scalar.addi v5411 c80_i32_2382
  let c2_i32_2383 : BitVec 32 := 2#32
  let v5413 : BitVec 32 := Scalar.addi v5412 c2_i32_2383
  let v5414 : Index := Scalar.indexCast v5413
  ![v5414.toNat]
def k0_off853 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2385 : BitVec 32 := 10#32
  let v5417 : BitVec 32 := Scalar.addi v5386 c10_i32_2385
  ![v5417.toNat]
def k0_off854 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2384 : BitVec 32 := 10#32
  let v5416 : BitVec 32 := Scalar.addi v5386 c10_i32_2384
  let c2_i32_2386 : BitVec 32 := 2#32
  let c0_i32_2387 : BitVec 32 := 0#32
  ![v5416.toNat, 2, 0]
def k0_off855 (v5415 : BitVec 32) : Fin 2 → Nat :=
  let c0_i32_2388 : BitVec 32 := 0#32
  ![v5415.toNat, 0]

def k0_chk595 (i : grid0.Coords) (v5415 : BitVec 32) : Prop :=
  (∀ (k0_h12 : k0_cond12 i = 1#1), ∀ a, (k0_off855 v5415) a + S1x8192.size a ≤ S8192x8192.size a)
theorem k0_off855_inb : ∀ (i : grid0.Coords) (v5415 : BitVec 32) (k0_hw595 : k0_chk595 i v5415), ∀ (k0_h12 : k0_cond12 i = 1#1), ∀ a, (k0_off855 v5415) a + S1x8192.size a ≤ S8192x8192.size a := fun i v5415 k0_hw595 k0_h12 => k0_hw595 k0_h12

def k0_off856 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c80_i32_2390 : BitVec 32 := 80#32
  let v5424 : BitVec 32 := Scalar.addi v5423 c80_i32_2390
  let c3_i32_2391 : BitVec 32 := 3#32
  let v5425 : BitVec 32 := Scalar.addi v5424 c3_i32_2391
  let v5426 : Index := Scalar.indexCast v5425
  ![v5426.toNat]
def k0_off857 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2393 : BitVec 32 := 10#32
  let v5429 : BitVec 32 := Scalar.addi v5386 c10_i32_2393
  ![v5429.toNat]
def k0_off858 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2392 : BitVec 32 := 10#32
  let v5428 : BitVec 32 := Scalar.addi v5386 c10_i32_2392
  let c3_i32_2394 : BitVec 32 := 3#32
  let c0_i32_2395 : BitVec 32 := 0#32
  ![v5428.toNat, 3, 0]
def k0_off859 (v5427 : BitVec 32) : Fin 2 → Nat :=
  let c0_i32_2396 : BitVec 32 := 0#32
  ![v5427.toNat, 0]

def k0_chk596 (i : grid0.Coords) (v5427 : BitVec 32) : Prop :=
  (∀ (k0_h12 : k0_cond12 i = 1#1), ∀ a, (k0_off859 v5427) a + S1x8192.size a ≤ S8192x8192.size a)
theorem k0_off859_inb : ∀ (i : grid0.Coords) (v5427 : BitVec 32) (k0_hw596 : k0_chk596 i v5427), ∀ (k0_h12 : k0_cond12 i = 1#1), ∀ a, (k0_off859 v5427) a + S1x8192.size a ≤ S8192x8192.size a := fun i v5427 k0_hw596 k0_h12 => k0_hw596 k0_h12

def k0_off860 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c80_i32_2398 : BitVec 32 := 80#32
  let v5436 : BitVec 32 := Scalar.addi v5435 c80_i32_2398
  let c4_i32_2399 : BitVec 32 := 4#32
  let v5437 : BitVec 32 := Scalar.addi v5436 c4_i32_2399
  let v5438 : Index := Scalar.indexCast v5437
  ![v5438.toNat]
def k0_off861 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2401 : BitVec 32 := 10#32
  let v5441 : BitVec 32 := Scalar.addi v5386 c10_i32_2401
  ![v5441.toNat]
def k0_off862 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2400 : BitVec 32 := 10#32
  let v5440 : BitVec 32 := Scalar.addi v5386 c10_i32_2400
  let c4_i32_2402 : BitVec 32 := 4#32
  let c0_i32_2403 : BitVec 32 := 0#32
  ![v5440.toNat, 4, 0]
def k0_off863 (v5439 : BitVec 32) : Fin 2 → Nat :=
  let c0_i32_2404 : BitVec 32 := 0#32
  ![v5439.toNat, 0]

def k0_chk597 (i : grid0.Coords) (v5439 : BitVec 32) : Prop :=
  (∀ (k0_h12 : k0_cond12 i = 1#1), ∀ a, (k0_off863 v5439) a + S1x8192.size a ≤ S8192x8192.size a)
theorem k0_off863_inb : ∀ (i : grid0.Coords) (v5439 : BitVec 32) (k0_hw597 : k0_chk597 i v5439), ∀ (k0_h12 : k0_cond12 i = 1#1), ∀ a, (k0_off863 v5439) a + S1x8192.size a ≤ S8192x8192.size a := fun i v5439 k0_hw597 k0_h12 => k0_hw597 k0_h12

def k0_off864 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c80_i32_2406 : BitVec 32 := 80#32
  let v5448 : BitVec 32 := Scalar.addi v5447 c80_i32_2406
  let c5_i32_2407 : BitVec 32 := 5#32
  let v5449 : BitVec 32 := Scalar.addi v5448 c5_i32_2407
  let v5450 : Index := Scalar.indexCast v5449
  ![v5450.toNat]
def k0_off865 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2409 : BitVec 32 := 10#32
  let v5453 : BitVec 32 := Scalar.addi v5386 c10_i32_2409
  ![v5453.toNat]
def k0_off866 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2408 : BitVec 32 := 10#32
  let v5452 : BitVec 32 := Scalar.addi v5386 c10_i32_2408
  let c5_i32_2410 : BitVec 32 := 5#32
  let c0_i32_2411 : BitVec 32 := 0#32
  ![v5452.toNat, 5, 0]
def k0_off867 (v5451 : BitVec 32) : Fin 2 → Nat :=
  let c0_i32_2412 : BitVec 32 := 0#32
  ![v5451.toNat, 0]

def k0_chk598 (i : grid0.Coords) (v5451 : BitVec 32) : Prop :=
  (∀ (k0_h12 : k0_cond12 i = 1#1), ∀ a, (k0_off867 v5451) a + S1x8192.size a ≤ S8192x8192.size a)
theorem k0_off867_inb : ∀ (i : grid0.Coords) (v5451 : BitVec 32) (k0_hw598 : k0_chk598 i v5451), ∀ (k0_h12 : k0_cond12 i = 1#1), ∀ a, (k0_off867 v5451) a + S1x8192.size a ≤ S8192x8192.size a := fun i v5451 k0_hw598 k0_h12 => k0_hw598 k0_h12

def k0_off868 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c80_i32_2414 : BitVec 32 := 80#32
  let v5460 : BitVec 32 := Scalar.addi v5459 c80_i32_2414
  let c6_i32_2415 : BitVec 32 := 6#32
  let v5461 : BitVec 32 := Scalar.addi v5460 c6_i32_2415
  let v5462 : Index := Scalar.indexCast v5461
  ![v5462.toNat]
def k0_off869 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2417 : BitVec 32 := 10#32
  let v5465 : BitVec 32 := Scalar.addi v5386 c10_i32_2417
  ![v5465.toNat]
def k0_off870 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2416 : BitVec 32 := 10#32
  let v5464 : BitVec 32 := Scalar.addi v5386 c10_i32_2416
  let c6_i32_2418 : BitVec 32 := 6#32
  let c0_i32_2419 : BitVec 32 := 0#32
  ![v5464.toNat, 6, 0]
def k0_off871 (v5463 : BitVec 32) : Fin 2 → Nat :=
  let c0_i32_2420 : BitVec 32 := 0#32
  ![v5463.toNat, 0]

def k0_chk599 (i : grid0.Coords) (v5463 : BitVec 32) : Prop :=
  (∀ (k0_h12 : k0_cond12 i = 1#1), ∀ a, (k0_off871 v5463) a + S1x8192.size a ≤ S8192x8192.size a)
theorem k0_off871_inb : ∀ (i : grid0.Coords) (v5463 : BitVec 32) (k0_hw599 : k0_chk599 i v5463), ∀ (k0_h12 : k0_cond12 i = 1#1), ∀ a, (k0_off871 v5463) a + S1x8192.size a ≤ S8192x8192.size a := fun i v5463 k0_hw599 k0_h12 => k0_hw599 k0_h12

def k0_off872 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c80_i32_2422 : BitVec 32 := 80#32
  let v5472 : BitVec 32 := Scalar.addi v5471 c80_i32_2422
  let c7_i32_2423 : BitVec 32 := 7#32
  let v5473 : BitVec 32 := Scalar.addi v5472 c7_i32_2423
  let v5474 : Index := Scalar.indexCast v5473
  ![v5474.toNat]
def k0_off873 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2425 : BitVec 32 := 10#32
  let v5477 : BitVec 32 := Scalar.addi v5386 c10_i32_2425
  ![v5477.toNat]
def k0_off874 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c10_i32_2424 : BitVec 32 := 10#32
  let v5476 : BitVec 32 := Scalar.addi v5386 c10_i32_2424
  let c7_i32_2426 : BitVec 32 := 7#32
  let c0_i32_2427 : BitVec 32 := 0#32
  ![v5476.toNat, 7, 0]
def k0_off875 (v5475 : BitVec 32) : Fin 2 → Nat :=
  let c0_i32_2428 : BitVec 32 := 0#32
  ![v5475.toNat, 0]

def k0_chk600 (i : grid0.Coords) (v5475 : BitVec 32) : Prop :=
  (∀ (k0_h12 : k0_cond12 i = 1#1), ∀ a, (k0_off875 v5475) a + S1x8192.size a ≤ S8192x8192.size a)
theorem k0_off875_inb : ∀ (i : grid0.Coords) (v5475 : BitVec 32) (k0_hw600 : k0_chk600 i v5475), ∀ (k0_h12 : k0_cond12 i = 1#1), ∀ a, (k0_off875 v5475) a + S1x8192.size a ≤ S8192x8192.size a := fun i v5475 k0_hw600 k0_h12 => k0_hw600 k0_h12

def k0_cond13 (i : grid0.Coords) : BitVec 1 :=
  let arg0 : BitVec 32 := BitVec.ofNat 32 (i 0).val
  let c3_i32_812 : BitVec 32 := 3#32
  let v1842 : BitVec 32 := Scalar.addi arg0 c3_i32_812
  let c1_i32_813 : BitVec 32 := 1#32
  let v1843 : BitVec 32 := Scalar.subi v1842 c1_i32_813
  let c64_i32_814 : BitVec 32 := 64#32
  let v1844 : BitVec 1 := Scalar.cmpi .slt v1843 c64_i32_814
  let v1845 : BitVec 32 := Scalar.extui v1844
  let c0_i32_815 : BitVec 32 := 0#32
  let v1846 : BitVec 1 := Scalar.cmpi .ne v1845 c0_i32_815
  v1846

def k0_off876 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c88_i32_2366 : BitVec 32 := 88#32
  let v5388 : BitVec 32 := Scalar.addi v5387 c88_i32_2366
  let c0_i32_2367 : BitVec 32 := 0#32
  let v5389 : BitVec 32 := Scalar.addi v5388 c0_i32_2367
  let v5390 : Index := Scalar.indexCast v5389
  ![v5390.toNat]
def k0_off877 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2369 : BitVec 32 := 11#32
  let v5393 : BitVec 32 := Scalar.addi v5386 c11_i32_2369
  ![v5393.toNat]
def k0_off878 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2368 : BitVec 32 := 11#32
  let v5392 : BitVec 32 := Scalar.addi v5386 c11_i32_2368
  let c0_i32_2370 : BitVec 32 := 0#32
  let c0_i32_2371 : BitVec 32 := 0#32
  ![v5392.toNat, 0, 0]
def k0_off879 (v5391 : BitVec 32) : Fin 2 → Nat :=
  let c0_i32_2372 : BitVec 32 := 0#32
  ![v5391.toNat, 0]

def k0_chk601 (i : grid0.Coords) (v5391 : BitVec 32) : Prop :=
  (∀ (k0_h13 : k0_cond13 i = 1#1), ∀ a, (k0_off879 v5391) a + S1x8192.size a ≤ S8192x8192.size a)
theorem k0_off879_inb : ∀ (i : grid0.Coords) (v5391 : BitVec 32) (k0_hw601 : k0_chk601 i v5391), ∀ (k0_h13 : k0_cond13 i = 1#1), ∀ a, (k0_off879 v5391) a + S1x8192.size a ≤ S8192x8192.size a := fun i v5391 k0_hw601 k0_h13 => k0_hw601 k0_h13

def k0_off880 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c88_i32_2374 : BitVec 32 := 88#32
  let v5400 : BitVec 32 := Scalar.addi v5399 c88_i32_2374
  let c1_i32_2375 : BitVec 32 := 1#32
  let v5401 : BitVec 32 := Scalar.addi v5400 c1_i32_2375
  let v5402 : Index := Scalar.indexCast v5401
  ![v5402.toNat]
def k0_off881 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2377 : BitVec 32 := 11#32
  let v5405 : BitVec 32 := Scalar.addi v5386 c11_i32_2377
  ![v5405.toNat]
def k0_off882 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2376 : BitVec 32 := 11#32
  let v5404 : BitVec 32 := Scalar.addi v5386 c11_i32_2376
  let c1_i32_2378 : BitVec 32 := 1#32
  let c0_i32_2379 : BitVec 32 := 0#32
  ![v5404.toNat, 1, 0]
def k0_off883 (v5403 : BitVec 32) : Fin 2 → Nat :=
  let c0_i32_2380 : BitVec 32 := 0#32
  ![v5403.toNat, 0]

def k0_chk602 (i : grid0.Coords) (v5403 : BitVec 32) : Prop :=
  (∀ (k0_h13 : k0_cond13 i = 1#1), ∀ a, (k0_off883 v5403) a + S1x8192.size a ≤ S8192x8192.size a)
theorem k0_off883_inb : ∀ (i : grid0.Coords) (v5403 : BitVec 32) (k0_hw602 : k0_chk602 i v5403), ∀ (k0_h13 : k0_cond13 i = 1#1), ∀ a, (k0_off883 v5403) a + S1x8192.size a ≤ S8192x8192.size a := fun i v5403 k0_hw602 k0_h13 => k0_hw602 k0_h13

def k0_off884 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c88_i32_2382 : BitVec 32 := 88#32
  let v5412 : BitVec 32 := Scalar.addi v5411 c88_i32_2382
  let c2_i32_2383 : BitVec 32 := 2#32
  let v5413 : BitVec 32 := Scalar.addi v5412 c2_i32_2383
  let v5414 : Index := Scalar.indexCast v5413
  ![v5414.toNat]
def k0_off885 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2385 : BitVec 32 := 11#32
  let v5417 : BitVec 32 := Scalar.addi v5386 c11_i32_2385
  ![v5417.toNat]
def k0_off886 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2384 : BitVec 32 := 11#32
  let v5416 : BitVec 32 := Scalar.addi v5386 c11_i32_2384
  let c2_i32_2386 : BitVec 32 := 2#32
  let c0_i32_2387 : BitVec 32 := 0#32
  ![v5416.toNat, 2, 0]
def k0_off887 (v5415 : BitVec 32) : Fin 2 → Nat :=
  let c0_i32_2388 : BitVec 32 := 0#32
  ![v5415.toNat, 0]

def k0_chk603 (i : grid0.Coords) (v5415 : BitVec 32) : Prop :=
  (∀ (k0_h13 : k0_cond13 i = 1#1), ∀ a, (k0_off887 v5415) a + S1x8192.size a ≤ S8192x8192.size a)
theorem k0_off887_inb : ∀ (i : grid0.Coords) (v5415 : BitVec 32) (k0_hw603 : k0_chk603 i v5415), ∀ (k0_h13 : k0_cond13 i = 1#1), ∀ a, (k0_off887 v5415) a + S1x8192.size a ≤ S8192x8192.size a := fun i v5415 k0_hw603 k0_h13 => k0_hw603 k0_h13

def k0_off888 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c88_i32_2390 : BitVec 32 := 88#32
  let v5424 : BitVec 32 := Scalar.addi v5423 c88_i32_2390
  let c3_i32_2391 : BitVec 32 := 3#32
  let v5425 : BitVec 32 := Scalar.addi v5424 c3_i32_2391
  let v5426 : Index := Scalar.indexCast v5425
  ![v5426.toNat]
def k0_off889 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2393 : BitVec 32 := 11#32
  let v5429 : BitVec 32 := Scalar.addi v5386 c11_i32_2393
  ![v5429.toNat]
def k0_off890 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2392 : BitVec 32 := 11#32
  let v5428 : BitVec 32 := Scalar.addi v5386 c11_i32_2392
  let c3_i32_2394 : BitVec 32 := 3#32
  let c0_i32_2395 : BitVec 32 := 0#32
  ![v5428.toNat, 3, 0]
def k0_off891 (v5427 : BitVec 32) : Fin 2 → Nat :=
  let c0_i32_2396 : BitVec 32 := 0#32
  ![v5427.toNat, 0]

def k0_chk604 (i : grid0.Coords) (v5427 : BitVec 32) : Prop :=
  (∀ (k0_h13 : k0_cond13 i = 1#1), ∀ a, (k0_off891 v5427) a + S1x8192.size a ≤ S8192x8192.size a)
theorem k0_off891_inb : ∀ (i : grid0.Coords) (v5427 : BitVec 32) (k0_hw604 : k0_chk604 i v5427), ∀ (k0_h13 : k0_cond13 i = 1#1), ∀ a, (k0_off891 v5427) a + S1x8192.size a ≤ S8192x8192.size a := fun i v5427 k0_hw604 k0_h13 => k0_hw604 k0_h13

def k0_off892 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c88_i32_2398 : BitVec 32 := 88#32
  let v5436 : BitVec 32 := Scalar.addi v5435 c88_i32_2398
  let c4_i32_2399 : BitVec 32 := 4#32
  let v5437 : BitVec 32 := Scalar.addi v5436 c4_i32_2399
  let v5438 : Index := Scalar.indexCast v5437
  ![v5438.toNat]
def k0_off893 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2401 : BitVec 32 := 11#32
  let v5441 : BitVec 32 := Scalar.addi v5386 c11_i32_2401
  ![v5441.toNat]
def k0_off894 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2400 : BitVec 32 := 11#32
  let v5440 : BitVec 32 := Scalar.addi v5386 c11_i32_2400
  let c4_i32_2402 : BitVec 32 := 4#32
  let c0_i32_2403 : BitVec 32 := 0#32
  ![v5440.toNat, 4, 0]
def k0_off895 (v5439 : BitVec 32) : Fin 2 → Nat :=
  let c0_i32_2404 : BitVec 32 := 0#32
  ![v5439.toNat, 0]

def k0_chk605 (i : grid0.Coords) (v5439 : BitVec 32) : Prop :=
  (∀ (k0_h13 : k0_cond13 i = 1#1), ∀ a, (k0_off895 v5439) a + S1x8192.size a ≤ S8192x8192.size a)
theorem k0_off895_inb : ∀ (i : grid0.Coords) (v5439 : BitVec 32) (k0_hw605 : k0_chk605 i v5439), ∀ (k0_h13 : k0_cond13 i = 1#1), ∀ a, (k0_off895 v5439) a + S1x8192.size a ≤ S8192x8192.size a := fun i v5439 k0_hw605 k0_h13 => k0_hw605 k0_h13

def k0_off896 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c88_i32_2406 : BitVec 32 := 88#32
  let v5448 : BitVec 32 := Scalar.addi v5447 c88_i32_2406
  let c5_i32_2407 : BitVec 32 := 5#32
  let v5449 : BitVec 32 := Scalar.addi v5448 c5_i32_2407
  let v5450 : Index := Scalar.indexCast v5449
  ![v5450.toNat]
def k0_off897 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2409 : BitVec 32 := 11#32
  let v5453 : BitVec 32 := Scalar.addi v5386 c11_i32_2409
  ![v5453.toNat]
def k0_off898 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2408 : BitVec 32 := 11#32
  let v5452 : BitVec 32 := Scalar.addi v5386 c11_i32_2408
  let c5_i32_2410 : BitVec 32 := 5#32
  let c0_i32_2411 : BitVec 32 := 0#32
  ![v5452.toNat, 5, 0]
def k0_off899 (v5451 : BitVec 32) : Fin 2 → Nat :=
  let c0_i32_2412 : BitVec 32 := 0#32
  ![v5451.toNat, 0]

def k0_chk606 (i : grid0.Coords) (v5451 : BitVec 32) : Prop :=
  (∀ (k0_h13 : k0_cond13 i = 1#1), ∀ a, (k0_off899 v5451) a + S1x8192.size a ≤ S8192x8192.size a)
theorem k0_off899_inb : ∀ (i : grid0.Coords) (v5451 : BitVec 32) (k0_hw606 : k0_chk606 i v5451), ∀ (k0_h13 : k0_cond13 i = 1#1), ∀ a, (k0_off899 v5451) a + S1x8192.size a ≤ S8192x8192.size a := fun i v5451 k0_hw606 k0_h13 => k0_hw606 k0_h13

def k0_off900 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c88_i32_2414 : BitVec 32 := 88#32
  let v5460 : BitVec 32 := Scalar.addi v5459 c88_i32_2414
  let c6_i32_2415 : BitVec 32 := 6#32
  let v5461 : BitVec 32 := Scalar.addi v5460 c6_i32_2415
  let v5462 : Index := Scalar.indexCast v5461
  ![v5462.toNat]
def k0_off901 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2417 : BitVec 32 := 11#32
  let v5465 : BitVec 32 := Scalar.addi v5386 c11_i32_2417
  ![v5465.toNat]
def k0_off902 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2416 : BitVec 32 := 11#32
  let v5464 : BitVec 32 := Scalar.addi v5386 c11_i32_2416
  let c6_i32_2418 : BitVec 32 := 6#32
  let c0_i32_2419 : BitVec 32 := 0#32
  ![v5464.toNat, 6, 0]
def k0_off903 (v5463 : BitVec 32) : Fin 2 → Nat :=
  let c0_i32_2420 : BitVec 32 := 0#32
  ![v5463.toNat, 0]

def k0_chk607 (i : grid0.Coords) (v5463 : BitVec 32) : Prop :=
  (∀ (k0_h13 : k0_cond13 i = 1#1), ∀ a, (k0_off903 v5463) a + S1x8192.size a ≤ S8192x8192.size a)
theorem k0_off903_inb : ∀ (i : grid0.Coords) (v5463 : BitVec 32) (k0_hw607 : k0_chk607 i v5463), ∀ (k0_h13 : k0_cond13 i = 1#1), ∀ a, (k0_off903 v5463) a + S1x8192.size a ≤ S8192x8192.size a := fun i v5463 k0_hw607 k0_h13 => k0_hw607 k0_h13

def k0_off904 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c88_i32_2422 : BitVec 32 := 88#32
  let v5472 : BitVec 32 := Scalar.addi v5471 c88_i32_2422
  let c7_i32_2423 : BitVec 32 := 7#32
  let v5473 : BitVec 32 := Scalar.addi v5472 c7_i32_2423
  let v5474 : Index := Scalar.indexCast v5473
  ![v5474.toNat]
def k0_off905 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2425 : BitVec 32 := 11#32
  let v5477 : BitVec 32 := Scalar.addi v5386 c11_i32_2425
  ![v5477.toNat]
def k0_off906 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c11_i32_2424 : BitVec 32 := 11#32
  let v5476 : BitVec 32 := Scalar.addi v5386 c11_i32_2424
  let c7_i32_2426 : BitVec 32 := 7#32
  let c0_i32_2427 : BitVec 32 := 0#32
  ![v5476.toNat, 7, 0]
def k0_off907 (v5475 : BitVec 32) : Fin 2 → Nat :=
  let c0_i32_2428 : BitVec 32 := 0#32
  ![v5475.toNat, 0]

def k0_chk608 (i : grid0.Coords) (v5475 : BitVec 32) : Prop :=
  (∀ (k0_h13 : k0_cond13 i = 1#1), ∀ a, (k0_off907 v5475) a + S1x8192.size a ≤ S8192x8192.size a)
theorem k0_off907_inb : ∀ (i : grid0.Coords) (v5475 : BitVec 32) (k0_hw608 : k0_chk608 i v5475), ∀ (k0_h13 : k0_cond13 i = 1#1), ∀ a, (k0_off907 v5475) a + S1x8192.size a ≤ S8192x8192.size a := fun i v5475 k0_hw608 k0_h13 => k0_hw608 k0_h13

def k0_cond14 (i : grid0.Coords) : BitVec 1 :=
  let arg0 : BitVec 32 := BitVec.ofNat 32 (i 0).val
  let c3_i32_885 : BitVec 32 := 3#32
  let v2008 : BitVec 32 := Scalar.addi arg0 c3_i32_885
  let c1_i32_886 : BitVec 32 := 1#32
  let v2009 : BitVec 32 := Scalar.subi v2008 c1_i32_886
  let c64_i32_887 : BitVec 32 := 64#32
  let v2010 : BitVec 1 := Scalar.cmpi .slt v2009 c64_i32_887
  let v2011 : BitVec 32 := Scalar.extui v2010
  let c0_i32_888 : BitVec 32 := 0#32
  let v2012 : BitVec 1 := Scalar.cmpi .ne v2011 c0_i32_888
  v2012

def k0_off908 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c96_i32_2366 : BitVec 32 := 96#32
  let v5388 : BitVec 32 := Scalar.addi v5387 c96_i32_2366
  let c0_i32_2367 : BitVec 32 := 0#32
  let v5389 : BitVec 32 := Scalar.addi v5388 c0_i32_2367
  let v5390 : Index := Scalar.indexCast v5389
  ![v5390.toNat]
def k0_off909 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2369 : BitVec 32 := 12#32
  let v5393 : BitVec 32 := Scalar.addi v5386 c12_i32_2369
  ![v5393.toNat]
def k0_off910 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2368 : BitVec 32 := 12#32
  let v5392 : BitVec 32 := Scalar.addi v5386 c12_i32_2368
  let c0_i32_2370 : BitVec 32 := 0#32
  let c0_i32_2371 : BitVec 32 := 0#32
  ![v5392.toNat, 0, 0]
def k0_off911 (v5391 : BitVec 32) : Fin 2 → Nat :=
  let c0_i32_2372 : BitVec 32 := 0#32
  ![v5391.toNat, 0]

def k0_chk609 (i : grid0.Coords) (v5391 : BitVec 32) : Prop :=
  (∀ (k0_h14 : k0_cond14 i = 1#1), ∀ a, (k0_off911 v5391) a + S1x8192.size a ≤ S8192x8192.size a)
theorem k0_off911_inb : ∀ (i : grid0.Coords) (v5391 : BitVec 32) (k0_hw609 : k0_chk609 i v5391), ∀ (k0_h14 : k0_cond14 i = 1#1), ∀ a, (k0_off911 v5391) a + S1x8192.size a ≤ S8192x8192.size a := fun i v5391 k0_hw609 k0_h14 => k0_hw609 k0_h14

def k0_off912 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c96_i32_2374 : BitVec 32 := 96#32
  let v5400 : BitVec 32 := Scalar.addi v5399 c96_i32_2374
  let c1_i32_2375 : BitVec 32 := 1#32
  let v5401 : BitVec 32 := Scalar.addi v5400 c1_i32_2375
  let v5402 : Index := Scalar.indexCast v5401
  ![v5402.toNat]
def k0_off913 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2377 : BitVec 32 := 12#32
  let v5405 : BitVec 32 := Scalar.addi v5386 c12_i32_2377
  ![v5405.toNat]
def k0_off914 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2376 : BitVec 32 := 12#32
  let v5404 : BitVec 32 := Scalar.addi v5386 c12_i32_2376
  let c1_i32_2378 : BitVec 32 := 1#32
  let c0_i32_2379 : BitVec 32 := 0#32
  ![v5404.toNat, 1, 0]
def k0_off915 (v5403 : BitVec 32) : Fin 2 → Nat :=
  let c0_i32_2380 : BitVec 32 := 0#32
  ![v5403.toNat, 0]

def k0_chk610 (i : grid0.Coords) (v5403 : BitVec 32) : Prop :=
  (∀ (k0_h14 : k0_cond14 i = 1#1), ∀ a, (k0_off915 v5403) a + S1x8192.size a ≤ S8192x8192.size a)
theorem k0_off915_inb : ∀ (i : grid0.Coords) (v5403 : BitVec 32) (k0_hw610 : k0_chk610 i v5403), ∀ (k0_h14 : k0_cond14 i = 1#1), ∀ a, (k0_off915 v5403) a + S1x8192.size a ≤ S8192x8192.size a := fun i v5403 k0_hw610 k0_h14 => k0_hw610 k0_h14

def k0_off916 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c96_i32_2382 : BitVec 32 := 96#32
  let v5412 : BitVec 32 := Scalar.addi v5411 c96_i32_2382
  let c2_i32_2383 : BitVec 32 := 2#32
  let v5413 : BitVec 32 := Scalar.addi v5412 c2_i32_2383
  let v5414 : Index := Scalar.indexCast v5413
  ![v5414.toNat]
def k0_off917 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2385 : BitVec 32 := 12#32
  let v5417 : BitVec 32 := Scalar.addi v5386 c12_i32_2385
  ![v5417.toNat]
def k0_off918 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2384 : BitVec 32 := 12#32
  let v5416 : BitVec 32 := Scalar.addi v5386 c12_i32_2384
  let c2_i32_2386 : BitVec 32 := 2#32
  let c0_i32_2387 : BitVec 32 := 0#32
  ![v5416.toNat, 2, 0]
def k0_off919 (v5415 : BitVec 32) : Fin 2 → Nat :=
  let c0_i32_2388 : BitVec 32 := 0#32
  ![v5415.toNat, 0]

def k0_chk611 (i : grid0.Coords) (v5415 : BitVec 32) : Prop :=
  (∀ (k0_h14 : k0_cond14 i = 1#1), ∀ a, (k0_off919 v5415) a + S1x8192.size a ≤ S8192x8192.size a)
theorem k0_off919_inb : ∀ (i : grid0.Coords) (v5415 : BitVec 32) (k0_hw611 : k0_chk611 i v5415), ∀ (k0_h14 : k0_cond14 i = 1#1), ∀ a, (k0_off919 v5415) a + S1x8192.size a ≤ S8192x8192.size a := fun i v5415 k0_hw611 k0_h14 => k0_hw611 k0_h14

def k0_off920 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c96_i32_2390 : BitVec 32 := 96#32
  let v5424 : BitVec 32 := Scalar.addi v5423 c96_i32_2390
  let c3_i32_2391 : BitVec 32 := 3#32
  let v5425 : BitVec 32 := Scalar.addi v5424 c3_i32_2391
  let v5426 : Index := Scalar.indexCast v5425
  ![v5426.toNat]
def k0_off921 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2393 : BitVec 32 := 12#32
  let v5429 : BitVec 32 := Scalar.addi v5386 c12_i32_2393
  ![v5429.toNat]
def k0_off922 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2392 : BitVec 32 := 12#32
  let v5428 : BitVec 32 := Scalar.addi v5386 c12_i32_2392
  let c3_i32_2394 : BitVec 32 := 3#32
  let c0_i32_2395 : BitVec 32 := 0#32
  ![v5428.toNat, 3, 0]
def k0_off923 (v5427 : BitVec 32) : Fin 2 → Nat :=
  let c0_i32_2396 : BitVec 32 := 0#32
  ![v5427.toNat, 0]

def k0_chk612 (i : grid0.Coords) (v5427 : BitVec 32) : Prop :=
  (∀ (k0_h14 : k0_cond14 i = 1#1), ∀ a, (k0_off923 v5427) a + S1x8192.size a ≤ S8192x8192.size a)
theorem k0_off923_inb : ∀ (i : grid0.Coords) (v5427 : BitVec 32) (k0_hw612 : k0_chk612 i v5427), ∀ (k0_h14 : k0_cond14 i = 1#1), ∀ a, (k0_off923 v5427) a + S1x8192.size a ≤ S8192x8192.size a := fun i v5427 k0_hw612 k0_h14 => k0_hw612 k0_h14

def k0_off924 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c96_i32_2398 : BitVec 32 := 96#32
  let v5436 : BitVec 32 := Scalar.addi v5435 c96_i32_2398
  let c4_i32_2399 : BitVec 32 := 4#32
  let v5437 : BitVec 32 := Scalar.addi v5436 c4_i32_2399
  let v5438 : Index := Scalar.indexCast v5437
  ![v5438.toNat]
def k0_off925 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2401 : BitVec 32 := 12#32
  let v5441 : BitVec 32 := Scalar.addi v5386 c12_i32_2401
  ![v5441.toNat]
def k0_off926 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2400 : BitVec 32 := 12#32
  let v5440 : BitVec 32 := Scalar.addi v5386 c12_i32_2400
  let c4_i32_2402 : BitVec 32 := 4#32
  let c0_i32_2403 : BitVec 32 := 0#32
  ![v5440.toNat, 4, 0]
def k0_off927 (v5439 : BitVec 32) : Fin 2 → Nat :=
  let c0_i32_2404 : BitVec 32 := 0#32
  ![v5439.toNat, 0]

def k0_chk613 (i : grid0.Coords) (v5439 : BitVec 32) : Prop :=
  (∀ (k0_h14 : k0_cond14 i = 1#1), ∀ a, (k0_off927 v5439) a + S1x8192.size a ≤ S8192x8192.size a)
theorem k0_off927_inb : ∀ (i : grid0.Coords) (v5439 : BitVec 32) (k0_hw613 : k0_chk613 i v5439), ∀ (k0_h14 : k0_cond14 i = 1#1), ∀ a, (k0_off927 v5439) a + S1x8192.size a ≤ S8192x8192.size a := fun i v5439 k0_hw613 k0_h14 => k0_hw613 k0_h14

def k0_off928 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c96_i32_2406 : BitVec 32 := 96#32
  let v5448 : BitVec 32 := Scalar.addi v5447 c96_i32_2406
  let c5_i32_2407 : BitVec 32 := 5#32
  let v5449 : BitVec 32 := Scalar.addi v5448 c5_i32_2407
  let v5450 : Index := Scalar.indexCast v5449
  ![v5450.toNat]
def k0_off929 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2409 : BitVec 32 := 12#32
  let v5453 : BitVec 32 := Scalar.addi v5386 c12_i32_2409
  ![v5453.toNat]
def k0_off930 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2408 : BitVec 32 := 12#32
  let v5452 : BitVec 32 := Scalar.addi v5386 c12_i32_2408
  let c5_i32_2410 : BitVec 32 := 5#32
  let c0_i32_2411 : BitVec 32 := 0#32
  ![v5452.toNat, 5, 0]
def k0_off931 (v5451 : BitVec 32) : Fin 2 → Nat :=
  let c0_i32_2412 : BitVec 32 := 0#32
  ![v5451.toNat, 0]

def k0_chk614 (i : grid0.Coords) (v5451 : BitVec 32) : Prop :=
  (∀ (k0_h14 : k0_cond14 i = 1#1), ∀ a, (k0_off931 v5451) a + S1x8192.size a ≤ S8192x8192.size a)
theorem k0_off931_inb : ∀ (i : grid0.Coords) (v5451 : BitVec 32) (k0_hw614 : k0_chk614 i v5451), ∀ (k0_h14 : k0_cond14 i = 1#1), ∀ a, (k0_off931 v5451) a + S1x8192.size a ≤ S8192x8192.size a := fun i v5451 k0_hw614 k0_h14 => k0_hw614 k0_h14

def k0_off932 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c96_i32_2414 : BitVec 32 := 96#32
  let v5460 : BitVec 32 := Scalar.addi v5459 c96_i32_2414
  let c6_i32_2415 : BitVec 32 := 6#32
  let v5461 : BitVec 32 := Scalar.addi v5460 c6_i32_2415
  let v5462 : Index := Scalar.indexCast v5461
  ![v5462.toNat]
def k0_off933 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2417 : BitVec 32 := 12#32
  let v5465 : BitVec 32 := Scalar.addi v5386 c12_i32_2417
  ![v5465.toNat]
def k0_off934 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2416 : BitVec 32 := 12#32
  let v5464 : BitVec 32 := Scalar.addi v5386 c12_i32_2416
  let c6_i32_2418 : BitVec 32 := 6#32
  let c0_i32_2419 : BitVec 32 := 0#32
  ![v5464.toNat, 6, 0]
def k0_off935 (v5463 : BitVec 32) : Fin 2 → Nat :=
  let c0_i32_2420 : BitVec 32 := 0#32
  ![v5463.toNat, 0]

def k0_chk615 (i : grid0.Coords) (v5463 : BitVec 32) : Prop :=
  (∀ (k0_h14 : k0_cond14 i = 1#1), ∀ a, (k0_off935 v5463) a + S1x8192.size a ≤ S8192x8192.size a)
theorem k0_off935_inb : ∀ (i : grid0.Coords) (v5463 : BitVec 32) (k0_hw615 : k0_chk615 i v5463), ∀ (k0_h14 : k0_cond14 i = 1#1), ∀ a, (k0_off935 v5463) a + S1x8192.size a ≤ S8192x8192.size a := fun i v5463 k0_hw615 k0_h14 => k0_hw615 k0_h14

def k0_off936 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c96_i32_2422 : BitVec 32 := 96#32
  let v5472 : BitVec 32 := Scalar.addi v5471 c96_i32_2422
  let c7_i32_2423 : BitVec 32 := 7#32
  let v5473 : BitVec 32 := Scalar.addi v5472 c7_i32_2423
  let v5474 : Index := Scalar.indexCast v5473
  ![v5474.toNat]
def k0_off937 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2425 : BitVec 32 := 12#32
  let v5477 : BitVec 32 := Scalar.addi v5386 c12_i32_2425
  ![v5477.toNat]
def k0_off938 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c12_i32_2424 : BitVec 32 := 12#32
  let v5476 : BitVec 32 := Scalar.addi v5386 c12_i32_2424
  let c7_i32_2426 : BitVec 32 := 7#32
  let c0_i32_2427 : BitVec 32 := 0#32
  ![v5476.toNat, 7, 0]
def k0_off939 (v5475 : BitVec 32) : Fin 2 → Nat :=
  let c0_i32_2428 : BitVec 32 := 0#32
  ![v5475.toNat, 0]

def k0_chk616 (i : grid0.Coords) (v5475 : BitVec 32) : Prop :=
  (∀ (k0_h14 : k0_cond14 i = 1#1), ∀ a, (k0_off939 v5475) a + S1x8192.size a ≤ S8192x8192.size a)
theorem k0_off939_inb : ∀ (i : grid0.Coords) (v5475 : BitVec 32) (k0_hw616 : k0_chk616 i v5475), ∀ (k0_h14 : k0_cond14 i = 1#1), ∀ a, (k0_off939 v5475) a + S1x8192.size a ≤ S8192x8192.size a := fun i v5475 k0_hw616 k0_h14 => k0_hw616 k0_h14

def k0_cond15 (i : grid0.Coords) : BitVec 1 :=
  let arg0 : BitVec 32 := BitVec.ofNat 32 (i 0).val
  let c3_i32_958 : BitVec 32 := 3#32
  let v2174 : BitVec 32 := Scalar.addi arg0 c3_i32_958
  let c1_i32_959 : BitVec 32 := 1#32
  let v2175 : BitVec 32 := Scalar.subi v2174 c1_i32_959
  let c64_i32_960 : BitVec 32 := 64#32
  let v2176 : BitVec 1 := Scalar.cmpi .slt v2175 c64_i32_960
  let v2177 : BitVec 32 := Scalar.extui v2176
  let c0_i32_961 : BitVec 32 := 0#32
  let v2178 : BitVec 1 := Scalar.cmpi .ne v2177 c0_i32_961
  v2178

def k0_off940 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c104_i32_2366 : BitVec 32 := 104#32
  let v5388 : BitVec 32 := Scalar.addi v5387 c104_i32_2366
  let c0_i32_2367 : BitVec 32 := 0#32
  let v5389 : BitVec 32 := Scalar.addi v5388 c0_i32_2367
  let v5390 : Index := Scalar.indexCast v5389
  ![v5390.toNat]
def k0_off941 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2369 : BitVec 32 := 13#32
  let v5393 : BitVec 32 := Scalar.addi v5386 c13_i32_2369
  ![v5393.toNat]
def k0_off942 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2368 : BitVec 32 := 13#32
  let v5392 : BitVec 32 := Scalar.addi v5386 c13_i32_2368
  let c0_i32_2370 : BitVec 32 := 0#32
  let c0_i32_2371 : BitVec 32 := 0#32
  ![v5392.toNat, 0, 0]
def k0_off943 (v5391 : BitVec 32) : Fin 2 → Nat :=
  let c0_i32_2372 : BitVec 32 := 0#32
  ![v5391.toNat, 0]

def k0_chk617 (i : grid0.Coords) (v5391 : BitVec 32) : Prop :=
  (∀ (k0_h15 : k0_cond15 i = 1#1), ∀ a, (k0_off943 v5391) a + S1x8192.size a ≤ S8192x8192.size a)
theorem k0_off943_inb : ∀ (i : grid0.Coords) (v5391 : BitVec 32) (k0_hw617 : k0_chk617 i v5391), ∀ (k0_h15 : k0_cond15 i = 1#1), ∀ a, (k0_off943 v5391) a + S1x8192.size a ≤ S8192x8192.size a := fun i v5391 k0_hw617 k0_h15 => k0_hw617 k0_h15

def k0_off944 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c104_i32_2374 : BitVec 32 := 104#32
  let v5400 : BitVec 32 := Scalar.addi v5399 c104_i32_2374
  let c1_i32_2375 : BitVec 32 := 1#32
  let v5401 : BitVec 32 := Scalar.addi v5400 c1_i32_2375
  let v5402 : Index := Scalar.indexCast v5401
  ![v5402.toNat]
def k0_off945 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2377 : BitVec 32 := 13#32
  let v5405 : BitVec 32 := Scalar.addi v5386 c13_i32_2377
  ![v5405.toNat]
def k0_off946 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2376 : BitVec 32 := 13#32
  let v5404 : BitVec 32 := Scalar.addi v5386 c13_i32_2376
  let c1_i32_2378 : BitVec 32 := 1#32
  let c0_i32_2379 : BitVec 32 := 0#32
  ![v5404.toNat, 1, 0]
def k0_off947 (v5403 : BitVec 32) : Fin 2 → Nat :=
  let c0_i32_2380 : BitVec 32 := 0#32
  ![v5403.toNat, 0]

def k0_chk618 (i : grid0.Coords) (v5403 : BitVec 32) : Prop :=
  (∀ (k0_h15 : k0_cond15 i = 1#1), ∀ a, (k0_off947 v5403) a + S1x8192.size a ≤ S8192x8192.size a)
theorem k0_off947_inb : ∀ (i : grid0.Coords) (v5403 : BitVec 32) (k0_hw618 : k0_chk618 i v5403), ∀ (k0_h15 : k0_cond15 i = 1#1), ∀ a, (k0_off947 v5403) a + S1x8192.size a ≤ S8192x8192.size a := fun i v5403 k0_hw618 k0_h15 => k0_hw618 k0_h15

def k0_off948 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c104_i32_2382 : BitVec 32 := 104#32
  let v5412 : BitVec 32 := Scalar.addi v5411 c104_i32_2382
  let c2_i32_2383 : BitVec 32 := 2#32
  let v5413 : BitVec 32 := Scalar.addi v5412 c2_i32_2383
  let v5414 : Index := Scalar.indexCast v5413
  ![v5414.toNat]
def k0_off949 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2385 : BitVec 32 := 13#32
  let v5417 : BitVec 32 := Scalar.addi v5386 c13_i32_2385
  ![v5417.toNat]
def k0_off950 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2384 : BitVec 32 := 13#32
  let v5416 : BitVec 32 := Scalar.addi v5386 c13_i32_2384
  let c2_i32_2386 : BitVec 32 := 2#32
  let c0_i32_2387 : BitVec 32 := 0#32
  ![v5416.toNat, 2, 0]
def k0_off951 (v5415 : BitVec 32) : Fin 2 → Nat :=
  let c0_i32_2388 : BitVec 32 := 0#32
  ![v5415.toNat, 0]

def k0_chk619 (i : grid0.Coords) (v5415 : BitVec 32) : Prop :=
  (∀ (k0_h15 : k0_cond15 i = 1#1), ∀ a, (k0_off951 v5415) a + S1x8192.size a ≤ S8192x8192.size a)
theorem k0_off951_inb : ∀ (i : grid0.Coords) (v5415 : BitVec 32) (k0_hw619 : k0_chk619 i v5415), ∀ (k0_h15 : k0_cond15 i = 1#1), ∀ a, (k0_off951 v5415) a + S1x8192.size a ≤ S8192x8192.size a := fun i v5415 k0_hw619 k0_h15 => k0_hw619 k0_h15

def k0_off952 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c104_i32_2390 : BitVec 32 := 104#32
  let v5424 : BitVec 32 := Scalar.addi v5423 c104_i32_2390
  let c3_i32_2391 : BitVec 32 := 3#32
  let v5425 : BitVec 32 := Scalar.addi v5424 c3_i32_2391
  let v5426 : Index := Scalar.indexCast v5425
  ![v5426.toNat]
def k0_off953 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2393 : BitVec 32 := 13#32
  let v5429 : BitVec 32 := Scalar.addi v5386 c13_i32_2393
  ![v5429.toNat]
def k0_off954 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2392 : BitVec 32 := 13#32
  let v5428 : BitVec 32 := Scalar.addi v5386 c13_i32_2392
  let c3_i32_2394 : BitVec 32 := 3#32
  let c0_i32_2395 : BitVec 32 := 0#32
  ![v5428.toNat, 3, 0]
def k0_off955 (v5427 : BitVec 32) : Fin 2 → Nat :=
  let c0_i32_2396 : BitVec 32 := 0#32
  ![v5427.toNat, 0]

def k0_chk620 (i : grid0.Coords) (v5427 : BitVec 32) : Prop :=
  (∀ (k0_h15 : k0_cond15 i = 1#1), ∀ a, (k0_off955 v5427) a + S1x8192.size a ≤ S8192x8192.size a)
theorem k0_off955_inb : ∀ (i : grid0.Coords) (v5427 : BitVec 32) (k0_hw620 : k0_chk620 i v5427), ∀ (k0_h15 : k0_cond15 i = 1#1), ∀ a, (k0_off955 v5427) a + S1x8192.size a ≤ S8192x8192.size a := fun i v5427 k0_hw620 k0_h15 => k0_hw620 k0_h15

def k0_off956 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c104_i32_2398 : BitVec 32 := 104#32
  let v5436 : BitVec 32 := Scalar.addi v5435 c104_i32_2398
  let c4_i32_2399 : BitVec 32 := 4#32
  let v5437 : BitVec 32 := Scalar.addi v5436 c4_i32_2399
  let v5438 : Index := Scalar.indexCast v5437
  ![v5438.toNat]
def k0_off957 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2401 : BitVec 32 := 13#32
  let v5441 : BitVec 32 := Scalar.addi v5386 c13_i32_2401
  ![v5441.toNat]
def k0_off958 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2400 : BitVec 32 := 13#32
  let v5440 : BitVec 32 := Scalar.addi v5386 c13_i32_2400
  let c4_i32_2402 : BitVec 32 := 4#32
  let c0_i32_2403 : BitVec 32 := 0#32
  ![v5440.toNat, 4, 0]
def k0_off959 (v5439 : BitVec 32) : Fin 2 → Nat :=
  let c0_i32_2404 : BitVec 32 := 0#32
  ![v5439.toNat, 0]

def k0_chk621 (i : grid0.Coords) (v5439 : BitVec 32) : Prop :=
  (∀ (k0_h15 : k0_cond15 i = 1#1), ∀ a, (k0_off959 v5439) a + S1x8192.size a ≤ S8192x8192.size a)
theorem k0_off959_inb : ∀ (i : grid0.Coords) (v5439 : BitVec 32) (k0_hw621 : k0_chk621 i v5439), ∀ (k0_h15 : k0_cond15 i = 1#1), ∀ a, (k0_off959 v5439) a + S1x8192.size a ≤ S8192x8192.size a := fun i v5439 k0_hw621 k0_h15 => k0_hw621 k0_h15

def k0_off960 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c104_i32_2406 : BitVec 32 := 104#32
  let v5448 : BitVec 32 := Scalar.addi v5447 c104_i32_2406
  let c5_i32_2407 : BitVec 32 := 5#32
  let v5449 : BitVec 32 := Scalar.addi v5448 c5_i32_2407
  let v5450 : Index := Scalar.indexCast v5449
  ![v5450.toNat]
def k0_off961 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2409 : BitVec 32 := 13#32
  let v5453 : BitVec 32 := Scalar.addi v5386 c13_i32_2409
  ![v5453.toNat]
def k0_off962 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2408 : BitVec 32 := 13#32
  let v5452 : BitVec 32 := Scalar.addi v5386 c13_i32_2408
  let c5_i32_2410 : BitVec 32 := 5#32
  let c0_i32_2411 : BitVec 32 := 0#32
  ![v5452.toNat, 5, 0]
def k0_off963 (v5451 : BitVec 32) : Fin 2 → Nat :=
  let c0_i32_2412 : BitVec 32 := 0#32
  ![v5451.toNat, 0]

def k0_chk622 (i : grid0.Coords) (v5451 : BitVec 32) : Prop :=
  (∀ (k0_h15 : k0_cond15 i = 1#1), ∀ a, (k0_off963 v5451) a + S1x8192.size a ≤ S8192x8192.size a)
theorem k0_off963_inb : ∀ (i : grid0.Coords) (v5451 : BitVec 32) (k0_hw622 : k0_chk622 i v5451), ∀ (k0_h15 : k0_cond15 i = 1#1), ∀ a, (k0_off963 v5451) a + S1x8192.size a ≤ S8192x8192.size a := fun i v5451 k0_hw622 k0_h15 => k0_hw622 k0_h15

def k0_off964 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c104_i32_2414 : BitVec 32 := 104#32
  let v5460 : BitVec 32 := Scalar.addi v5459 c104_i32_2414
  let c6_i32_2415 : BitVec 32 := 6#32
  let v5461 : BitVec 32 := Scalar.addi v5460 c6_i32_2415
  let v5462 : Index := Scalar.indexCast v5461
  ![v5462.toNat]
def k0_off965 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2417 : BitVec 32 := 13#32
  let v5465 : BitVec 32 := Scalar.addi v5386 c13_i32_2417
  ![v5465.toNat]
def k0_off966 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2416 : BitVec 32 := 13#32
  let v5464 : BitVec 32 := Scalar.addi v5386 c13_i32_2416
  let c6_i32_2418 : BitVec 32 := 6#32
  let c0_i32_2419 : BitVec 32 := 0#32
  ![v5464.toNat, 6, 0]
def k0_off967 (v5463 : BitVec 32) : Fin 2 → Nat :=
  let c0_i32_2420 : BitVec 32 := 0#32
  ![v5463.toNat, 0]

def k0_chk623 (i : grid0.Coords) (v5463 : BitVec 32) : Prop :=
  (∀ (k0_h15 : k0_cond15 i = 1#1), ∀ a, (k0_off967 v5463) a + S1x8192.size a ≤ S8192x8192.size a)
theorem k0_off967_inb : ∀ (i : grid0.Coords) (v5463 : BitVec 32) (k0_hw623 : k0_chk623 i v5463), ∀ (k0_h15 : k0_cond15 i = 1#1), ∀ a, (k0_off967 v5463) a + S1x8192.size a ≤ S8192x8192.size a := fun i v5463 k0_hw623 k0_h15 => k0_hw623 k0_h15

def k0_off968 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c104_i32_2422 : BitVec 32 := 104#32
  let v5472 : BitVec 32 := Scalar.addi v5471 c104_i32_2422
  let c7_i32_2423 : BitVec 32 := 7#32
  let v5473 : BitVec 32 := Scalar.addi v5472 c7_i32_2423
  let v5474 : Index := Scalar.indexCast v5473
  ![v5474.toNat]
def k0_off969 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2425 : BitVec 32 := 13#32
  let v5477 : BitVec 32 := Scalar.addi v5386 c13_i32_2425
  ![v5477.toNat]
def k0_off970 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c13_i32_2424 : BitVec 32 := 13#32
  let v5476 : BitVec 32 := Scalar.addi v5386 c13_i32_2424
  let c7_i32_2426 : BitVec 32 := 7#32
  let c0_i32_2427 : BitVec 32 := 0#32
  ![v5476.toNat, 7, 0]
def k0_off971 (v5475 : BitVec 32) : Fin 2 → Nat :=
  let c0_i32_2428 : BitVec 32 := 0#32
  ![v5475.toNat, 0]

def k0_chk624 (i : grid0.Coords) (v5475 : BitVec 32) : Prop :=
  (∀ (k0_h15 : k0_cond15 i = 1#1), ∀ a, (k0_off971 v5475) a + S1x8192.size a ≤ S8192x8192.size a)
theorem k0_off971_inb : ∀ (i : grid0.Coords) (v5475 : BitVec 32) (k0_hw624 : k0_chk624 i v5475), ∀ (k0_h15 : k0_cond15 i = 1#1), ∀ a, (k0_off971 v5475) a + S1x8192.size a ≤ S8192x8192.size a := fun i v5475 k0_hw624 k0_h15 => k0_hw624 k0_h15

def k0_cond16 (i : grid0.Coords) : BitVec 1 :=
  let arg0 : BitVec 32 := BitVec.ofNat 32 (i 0).val
  let c3_i32_1031 : BitVec 32 := 3#32
  let v2340 : BitVec 32 := Scalar.addi arg0 c3_i32_1031
  let c1_i32_1032 : BitVec 32 := 1#32
  let v2341 : BitVec 32 := Scalar.subi v2340 c1_i32_1032
  let c64_i32_1033 : BitVec 32 := 64#32
  let v2342 : BitVec 1 := Scalar.cmpi .slt v2341 c64_i32_1033
  let v2343 : BitVec 32 := Scalar.extui v2342
  let c0_i32_1034 : BitVec 32 := 0#32
  let v2344 : BitVec 1 := Scalar.cmpi .ne v2343 c0_i32_1034
  v2344

def k0_off972 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c112_i32_2366 : BitVec 32 := 112#32
  let v5388 : BitVec 32 := Scalar.addi v5387 c112_i32_2366
  let c0_i32_2367 : BitVec 32 := 0#32
  let v5389 : BitVec 32 := Scalar.addi v5388 c0_i32_2367
  let v5390 : Index := Scalar.indexCast v5389
  ![v5390.toNat]
def k0_off973 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2369 : BitVec 32 := 14#32
  let v5393 : BitVec 32 := Scalar.addi v5386 c14_i32_2369
  ![v5393.toNat]
def k0_off974 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2368 : BitVec 32 := 14#32
  let v5392 : BitVec 32 := Scalar.addi v5386 c14_i32_2368
  let c0_i32_2370 : BitVec 32 := 0#32
  let c0_i32_2371 : BitVec 32 := 0#32
  ![v5392.toNat, 0, 0]
def k0_off975 (v5391 : BitVec 32) : Fin 2 → Nat :=
  let c0_i32_2372 : BitVec 32 := 0#32
  ![v5391.toNat, 0]

def k0_chk625 (i : grid0.Coords) (v5391 : BitVec 32) : Prop :=
  (∀ (k0_h16 : k0_cond16 i = 1#1), ∀ a, (k0_off975 v5391) a + S1x8192.size a ≤ S8192x8192.size a)
theorem k0_off975_inb : ∀ (i : grid0.Coords) (v5391 : BitVec 32) (k0_hw625 : k0_chk625 i v5391), ∀ (k0_h16 : k0_cond16 i = 1#1), ∀ a, (k0_off975 v5391) a + S1x8192.size a ≤ S8192x8192.size a := fun i v5391 k0_hw625 k0_h16 => k0_hw625 k0_h16

def k0_off976 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c112_i32_2374 : BitVec 32 := 112#32
  let v5400 : BitVec 32 := Scalar.addi v5399 c112_i32_2374
  let c1_i32_2375 : BitVec 32 := 1#32
  let v5401 : BitVec 32 := Scalar.addi v5400 c1_i32_2375
  let v5402 : Index := Scalar.indexCast v5401
  ![v5402.toNat]
def k0_off977 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2377 : BitVec 32 := 14#32
  let v5405 : BitVec 32 := Scalar.addi v5386 c14_i32_2377
  ![v5405.toNat]
def k0_off978 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2376 : BitVec 32 := 14#32
  let v5404 : BitVec 32 := Scalar.addi v5386 c14_i32_2376
  let c1_i32_2378 : BitVec 32 := 1#32
  let c0_i32_2379 : BitVec 32 := 0#32
  ![v5404.toNat, 1, 0]
def k0_off979 (v5403 : BitVec 32) : Fin 2 → Nat :=
  let c0_i32_2380 : BitVec 32 := 0#32
  ![v5403.toNat, 0]

def k0_chk626 (i : grid0.Coords) (v5403 : BitVec 32) : Prop :=
  (∀ (k0_h16 : k0_cond16 i = 1#1), ∀ a, (k0_off979 v5403) a + S1x8192.size a ≤ S8192x8192.size a)
theorem k0_off979_inb : ∀ (i : grid0.Coords) (v5403 : BitVec 32) (k0_hw626 : k0_chk626 i v5403), ∀ (k0_h16 : k0_cond16 i = 1#1), ∀ a, (k0_off979 v5403) a + S1x8192.size a ≤ S8192x8192.size a := fun i v5403 k0_hw626 k0_h16 => k0_hw626 k0_h16

def k0_off980 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c112_i32_2382 : BitVec 32 := 112#32
  let v5412 : BitVec 32 := Scalar.addi v5411 c112_i32_2382
  let c2_i32_2383 : BitVec 32 := 2#32
  let v5413 : BitVec 32 := Scalar.addi v5412 c2_i32_2383
  let v5414 : Index := Scalar.indexCast v5413
  ![v5414.toNat]
def k0_off981 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2385 : BitVec 32 := 14#32
  let v5417 : BitVec 32 := Scalar.addi v5386 c14_i32_2385
  ![v5417.toNat]
def k0_off982 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2384 : BitVec 32 := 14#32
  let v5416 : BitVec 32 := Scalar.addi v5386 c14_i32_2384
  let c2_i32_2386 : BitVec 32 := 2#32
  let c0_i32_2387 : BitVec 32 := 0#32
  ![v5416.toNat, 2, 0]
def k0_off983 (v5415 : BitVec 32) : Fin 2 → Nat :=
  let c0_i32_2388 : BitVec 32 := 0#32
  ![v5415.toNat, 0]

def k0_chk627 (i : grid0.Coords) (v5415 : BitVec 32) : Prop :=
  (∀ (k0_h16 : k0_cond16 i = 1#1), ∀ a, (k0_off983 v5415) a + S1x8192.size a ≤ S8192x8192.size a)
theorem k0_off983_inb : ∀ (i : grid0.Coords) (v5415 : BitVec 32) (k0_hw627 : k0_chk627 i v5415), ∀ (k0_h16 : k0_cond16 i = 1#1), ∀ a, (k0_off983 v5415) a + S1x8192.size a ≤ S8192x8192.size a := fun i v5415 k0_hw627 k0_h16 => k0_hw627 k0_h16

def k0_off984 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c112_i32_2390 : BitVec 32 := 112#32
  let v5424 : BitVec 32 := Scalar.addi v5423 c112_i32_2390
  let c3_i32_2391 : BitVec 32 := 3#32
  let v5425 : BitVec 32 := Scalar.addi v5424 c3_i32_2391
  let v5426 : Index := Scalar.indexCast v5425
  ![v5426.toNat]
def k0_off985 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2393 : BitVec 32 := 14#32
  let v5429 : BitVec 32 := Scalar.addi v5386 c14_i32_2393
  ![v5429.toNat]
def k0_off986 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2392 : BitVec 32 := 14#32
  let v5428 : BitVec 32 := Scalar.addi v5386 c14_i32_2392
  let c3_i32_2394 : BitVec 32 := 3#32
  let c0_i32_2395 : BitVec 32 := 0#32
  ![v5428.toNat, 3, 0]
def k0_off987 (v5427 : BitVec 32) : Fin 2 → Nat :=
  let c0_i32_2396 : BitVec 32 := 0#32
  ![v5427.toNat, 0]

def k0_chk628 (i : grid0.Coords) (v5427 : BitVec 32) : Prop :=
  (∀ (k0_h16 : k0_cond16 i = 1#1), ∀ a, (k0_off987 v5427) a + S1x8192.size a ≤ S8192x8192.size a)
theorem k0_off987_inb : ∀ (i : grid0.Coords) (v5427 : BitVec 32) (k0_hw628 : k0_chk628 i v5427), ∀ (k0_h16 : k0_cond16 i = 1#1), ∀ a, (k0_off987 v5427) a + S1x8192.size a ≤ S8192x8192.size a := fun i v5427 k0_hw628 k0_h16 => k0_hw628 k0_h16

def k0_off988 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c112_i32_2398 : BitVec 32 := 112#32
  let v5436 : BitVec 32 := Scalar.addi v5435 c112_i32_2398
  let c4_i32_2399 : BitVec 32 := 4#32
  let v5437 : BitVec 32 := Scalar.addi v5436 c4_i32_2399
  let v5438 : Index := Scalar.indexCast v5437
  ![v5438.toNat]
def k0_off989 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2401 : BitVec 32 := 14#32
  let v5441 : BitVec 32 := Scalar.addi v5386 c14_i32_2401
  ![v5441.toNat]
def k0_off990 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2400 : BitVec 32 := 14#32
  let v5440 : BitVec 32 := Scalar.addi v5386 c14_i32_2400
  let c4_i32_2402 : BitVec 32 := 4#32
  let c0_i32_2403 : BitVec 32 := 0#32
  ![v5440.toNat, 4, 0]
def k0_off991 (v5439 : BitVec 32) : Fin 2 → Nat :=
  let c0_i32_2404 : BitVec 32 := 0#32
  ![v5439.toNat, 0]

def k0_chk629 (i : grid0.Coords) (v5439 : BitVec 32) : Prop :=
  (∀ (k0_h16 : k0_cond16 i = 1#1), ∀ a, (k0_off991 v5439) a + S1x8192.size a ≤ S8192x8192.size a)
theorem k0_off991_inb : ∀ (i : grid0.Coords) (v5439 : BitVec 32) (k0_hw629 : k0_chk629 i v5439), ∀ (k0_h16 : k0_cond16 i = 1#1), ∀ a, (k0_off991 v5439) a + S1x8192.size a ≤ S8192x8192.size a := fun i v5439 k0_hw629 k0_h16 => k0_hw629 k0_h16

def k0_off992 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c112_i32_2406 : BitVec 32 := 112#32
  let v5448 : BitVec 32 := Scalar.addi v5447 c112_i32_2406
  let c5_i32_2407 : BitVec 32 := 5#32
  let v5449 : BitVec 32 := Scalar.addi v5448 c5_i32_2407
  let v5450 : Index := Scalar.indexCast v5449
  ![v5450.toNat]
def k0_off993 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2409 : BitVec 32 := 14#32
  let v5453 : BitVec 32 := Scalar.addi v5386 c14_i32_2409
  ![v5453.toNat]
def k0_off994 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2408 : BitVec 32 := 14#32
  let v5452 : BitVec 32 := Scalar.addi v5386 c14_i32_2408
  let c5_i32_2410 : BitVec 32 := 5#32
  let c0_i32_2411 : BitVec 32 := 0#32
  ![v5452.toNat, 5, 0]
def k0_off995 (v5451 : BitVec 32) : Fin 2 → Nat :=
  let c0_i32_2412 : BitVec 32 := 0#32
  ![v5451.toNat, 0]

def k0_chk630 (i : grid0.Coords) (v5451 : BitVec 32) : Prop :=
  (∀ (k0_h16 : k0_cond16 i = 1#1), ∀ a, (k0_off995 v5451) a + S1x8192.size a ≤ S8192x8192.size a)
theorem k0_off995_inb : ∀ (i : grid0.Coords) (v5451 : BitVec 32) (k0_hw630 : k0_chk630 i v5451), ∀ (k0_h16 : k0_cond16 i = 1#1), ∀ a, (k0_off995 v5451) a + S1x8192.size a ≤ S8192x8192.size a := fun i v5451 k0_hw630 k0_h16 => k0_hw630 k0_h16

def k0_off996 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c112_i32_2414 : BitVec 32 := 112#32
  let v5460 : BitVec 32 := Scalar.addi v5459 c112_i32_2414
  let c6_i32_2415 : BitVec 32 := 6#32
  let v5461 : BitVec 32 := Scalar.addi v5460 c6_i32_2415
  let v5462 : Index := Scalar.indexCast v5461
  ![v5462.toNat]
def k0_off997 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2417 : BitVec 32 := 14#32
  let v5465 : BitVec 32 := Scalar.addi v5386 c14_i32_2417
  ![v5465.toNat]
def k0_off998 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2416 : BitVec 32 := 14#32
  let v5464 : BitVec 32 := Scalar.addi v5386 c14_i32_2416
  let c6_i32_2418 : BitVec 32 := 6#32
  let c0_i32_2419 : BitVec 32 := 0#32
  ![v5464.toNat, 6, 0]
def k0_off999 (v5463 : BitVec 32) : Fin 2 → Nat :=
  let c0_i32_2420 : BitVec 32 := 0#32
  ![v5463.toNat, 0]

def k0_chk631 (i : grid0.Coords) (v5463 : BitVec 32) : Prop :=
  (∀ (k0_h16 : k0_cond16 i = 1#1), ∀ a, (k0_off999 v5463) a + S1x8192.size a ≤ S8192x8192.size a)
theorem k0_off999_inb : ∀ (i : grid0.Coords) (v5463 : BitVec 32) (k0_hw631 : k0_chk631 i v5463), ∀ (k0_h16 : k0_cond16 i = 1#1), ∀ a, (k0_off999 v5463) a + S1x8192.size a ≤ S8192x8192.size a := fun i v5463 k0_hw631 k0_h16 => k0_hw631 k0_h16

def k0_off1000 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c112_i32_2422 : BitVec 32 := 112#32
  let v5472 : BitVec 32 := Scalar.addi v5471 c112_i32_2422
  let c7_i32_2423 : BitVec 32 := 7#32
  let v5473 : BitVec 32 := Scalar.addi v5472 c7_i32_2423
  let v5474 : Index := Scalar.indexCast v5473
  ![v5474.toNat]
def k0_off1001 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2425 : BitVec 32 := 14#32
  let v5477 : BitVec 32 := Scalar.addi v5386 c14_i32_2425
  ![v5477.toNat]
def k0_off1002 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c14_i32_2424 : BitVec 32 := 14#32
  let v5476 : BitVec 32 := Scalar.addi v5386 c14_i32_2424
  let c7_i32_2426 : BitVec 32 := 7#32
  let c0_i32_2427 : BitVec 32 := 0#32
  ![v5476.toNat, 7, 0]
def k0_off1003 (v5475 : BitVec 32) : Fin 2 → Nat :=
  let c0_i32_2428 : BitVec 32 := 0#32
  ![v5475.toNat, 0]

def k0_chk632 (i : grid0.Coords) (v5475 : BitVec 32) : Prop :=
  (∀ (k0_h16 : k0_cond16 i = 1#1), ∀ a, (k0_off1003 v5475) a + S1x8192.size a ≤ S8192x8192.size a)
theorem k0_off1003_inb : ∀ (i : grid0.Coords) (v5475 : BitVec 32) (k0_hw632 : k0_chk632 i v5475), ∀ (k0_h16 : k0_cond16 i = 1#1), ∀ a, (k0_off1003 v5475) a + S1x8192.size a ≤ S8192x8192.size a := fun i v5475 k0_hw632 k0_h16 => k0_hw632 k0_h16

def k0_cond17 (i : grid0.Coords) : BitVec 1 :=
  let arg0 : BitVec 32 := BitVec.ofNat 32 (i 0).val
  let c3_i32_1104 : BitVec 32 := 3#32
  let v2506 : BitVec 32 := Scalar.addi arg0 c3_i32_1104
  let c1_i32_1105 : BitVec 32 := 1#32
  let v2507 : BitVec 32 := Scalar.subi v2506 c1_i32_1105
  let c64_i32_1106 : BitVec 32 := 64#32
  let v2508 : BitVec 1 := Scalar.cmpi .slt v2507 c64_i32_1106
  let v2509 : BitVec 32 := Scalar.extui v2508
  let c0_i32_1107 : BitVec 32 := 0#32
  let v2510 : BitVec 1 := Scalar.cmpi .ne v2509 c0_i32_1107
  v2510

def k0_off1004 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c120_i32_2366 : BitVec 32 := 120#32
  let v5388 : BitVec 32 := Scalar.addi v5387 c120_i32_2366
  let c0_i32_2367 : BitVec 32 := 0#32
  let v5389 : BitVec 32 := Scalar.addi v5388 c0_i32_2367
  let v5390 : Index := Scalar.indexCast v5389
  ![v5390.toNat]
def k0_off1005 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2369 : BitVec 32 := 15#32
  let v5393 : BitVec 32 := Scalar.addi v5386 c15_i32_2369
  ![v5393.toNat]
def k0_off1006 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2368 : BitVec 32 := 15#32
  let v5392 : BitVec 32 := Scalar.addi v5386 c15_i32_2368
  let c0_i32_2370 : BitVec 32 := 0#32
  let c0_i32_2371 : BitVec 32 := 0#32
  ![v5392.toNat, 0, 0]
def k0_off1007 (v5391 : BitVec 32) : Fin 2 → Nat :=
  let c0_i32_2372 : BitVec 32 := 0#32
  ![v5391.toNat, 0]

def k0_chk633 (i : grid0.Coords) (v5391 : BitVec 32) : Prop :=
  (∀ (k0_h17 : k0_cond17 i = 1#1), ∀ a, (k0_off1007 v5391) a + S1x8192.size a ≤ S8192x8192.size a)
theorem k0_off1007_inb : ∀ (i : grid0.Coords) (v5391 : BitVec 32) (k0_hw633 : k0_chk633 i v5391), ∀ (k0_h17 : k0_cond17 i = 1#1), ∀ a, (k0_off1007 v5391) a + S1x8192.size a ≤ S8192x8192.size a := fun i v5391 k0_hw633 k0_h17 => k0_hw633 k0_h17

def k0_off1008 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c120_i32_2374 : BitVec 32 := 120#32
  let v5400 : BitVec 32 := Scalar.addi v5399 c120_i32_2374
  let c1_i32_2375 : BitVec 32 := 1#32
  let v5401 : BitVec 32 := Scalar.addi v5400 c1_i32_2375
  let v5402 : Index := Scalar.indexCast v5401
  ![v5402.toNat]
def k0_off1009 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2377 : BitVec 32 := 15#32
  let v5405 : BitVec 32 := Scalar.addi v5386 c15_i32_2377
  ![v5405.toNat]
def k0_off1010 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2376 : BitVec 32 := 15#32
  let v5404 : BitVec 32 := Scalar.addi v5386 c15_i32_2376
  let c1_i32_2378 : BitVec 32 := 1#32
  let c0_i32_2379 : BitVec 32 := 0#32
  ![v5404.toNat, 1, 0]
def k0_off1011 (v5403 : BitVec 32) : Fin 2 → Nat :=
  let c0_i32_2380 : BitVec 32 := 0#32
  ![v5403.toNat, 0]

def k0_chk634 (i : grid0.Coords) (v5403 : BitVec 32) : Prop :=
  (∀ (k0_h17 : k0_cond17 i = 1#1), ∀ a, (k0_off1011 v5403) a + S1x8192.size a ≤ S8192x8192.size a)
theorem k0_off1011_inb : ∀ (i : grid0.Coords) (v5403 : BitVec 32) (k0_hw634 : k0_chk634 i v5403), ∀ (k0_h17 : k0_cond17 i = 1#1), ∀ a, (k0_off1011 v5403) a + S1x8192.size a ≤ S8192x8192.size a := fun i v5403 k0_hw634 k0_h17 => k0_hw634 k0_h17

def k0_off1012 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c120_i32_2382 : BitVec 32 := 120#32
  let v5412 : BitVec 32 := Scalar.addi v5411 c120_i32_2382
  let c2_i32_2383 : BitVec 32 := 2#32
  let v5413 : BitVec 32 := Scalar.addi v5412 c2_i32_2383
  let v5414 : Index := Scalar.indexCast v5413
  ![v5414.toNat]
def k0_off1013 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2385 : BitVec 32 := 15#32
  let v5417 : BitVec 32 := Scalar.addi v5386 c15_i32_2385
  ![v5417.toNat]
def k0_off1014 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2384 : BitVec 32 := 15#32
  let v5416 : BitVec 32 := Scalar.addi v5386 c15_i32_2384
  let c2_i32_2386 : BitVec 32 := 2#32
  let c0_i32_2387 : BitVec 32 := 0#32
  ![v5416.toNat, 2, 0]
def k0_off1015 (v5415 : BitVec 32) : Fin 2 → Nat :=
  let c0_i32_2388 : BitVec 32 := 0#32
  ![v5415.toNat, 0]

def k0_chk635 (i : grid0.Coords) (v5415 : BitVec 32) : Prop :=
  (∀ (k0_h17 : k0_cond17 i = 1#1), ∀ a, (k0_off1015 v5415) a + S1x8192.size a ≤ S8192x8192.size a)
theorem k0_off1015_inb : ∀ (i : grid0.Coords) (v5415 : BitVec 32) (k0_hw635 : k0_chk635 i v5415), ∀ (k0_h17 : k0_cond17 i = 1#1), ∀ a, (k0_off1015 v5415) a + S1x8192.size a ≤ S8192x8192.size a := fun i v5415 k0_hw635 k0_h17 => k0_hw635 k0_h17

def k0_off1016 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c120_i32_2390 : BitVec 32 := 120#32
  let v5424 : BitVec 32 := Scalar.addi v5423 c120_i32_2390
  let c3_i32_2391 : BitVec 32 := 3#32
  let v5425 : BitVec 32 := Scalar.addi v5424 c3_i32_2391
  let v5426 : Index := Scalar.indexCast v5425
  ![v5426.toNat]
def k0_off1017 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2393 : BitVec 32 := 15#32
  let v5429 : BitVec 32 := Scalar.addi v5386 c15_i32_2393
  ![v5429.toNat]
def k0_off1018 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2392 : BitVec 32 := 15#32
  let v5428 : BitVec 32 := Scalar.addi v5386 c15_i32_2392
  let c3_i32_2394 : BitVec 32 := 3#32
  let c0_i32_2395 : BitVec 32 := 0#32
  ![v5428.toNat, 3, 0]
def k0_off1019 (v5427 : BitVec 32) : Fin 2 → Nat :=
  let c0_i32_2396 : BitVec 32 := 0#32
  ![v5427.toNat, 0]

def k0_chk636 (i : grid0.Coords) (v5427 : BitVec 32) : Prop :=
  (∀ (k0_h17 : k0_cond17 i = 1#1), ∀ a, (k0_off1019 v5427) a + S1x8192.size a ≤ S8192x8192.size a)
theorem k0_off1019_inb : ∀ (i : grid0.Coords) (v5427 : BitVec 32) (k0_hw636 : k0_chk636 i v5427), ∀ (k0_h17 : k0_cond17 i = 1#1), ∀ a, (k0_off1019 v5427) a + S1x8192.size a ≤ S8192x8192.size a := fun i v5427 k0_hw636 k0_h17 => k0_hw636 k0_h17

def k0_off1020 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c120_i32_2398 : BitVec 32 := 120#32
  let v5436 : BitVec 32 := Scalar.addi v5435 c120_i32_2398
  let c4_i32_2399 : BitVec 32 := 4#32
  let v5437 : BitVec 32 := Scalar.addi v5436 c4_i32_2399
  let v5438 : Index := Scalar.indexCast v5437
  ![v5438.toNat]
def k0_off1021 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2401 : BitVec 32 := 15#32
  let v5441 : BitVec 32 := Scalar.addi v5386 c15_i32_2401
  ![v5441.toNat]
def k0_off1022 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2400 : BitVec 32 := 15#32
  let v5440 : BitVec 32 := Scalar.addi v5386 c15_i32_2400
  let c4_i32_2402 : BitVec 32 := 4#32
  let c0_i32_2403 : BitVec 32 := 0#32
  ![v5440.toNat, 4, 0]
def k0_off1023 (v5439 : BitVec 32) : Fin 2 → Nat :=
  let c0_i32_2404 : BitVec 32 := 0#32
  ![v5439.toNat, 0]

def k0_chk637 (i : grid0.Coords) (v5439 : BitVec 32) : Prop :=
  (∀ (k0_h17 : k0_cond17 i = 1#1), ∀ a, (k0_off1023 v5439) a + S1x8192.size a ≤ S8192x8192.size a)
theorem k0_off1023_inb : ∀ (i : grid0.Coords) (v5439 : BitVec 32) (k0_hw637 : k0_chk637 i v5439), ∀ (k0_h17 : k0_cond17 i = 1#1), ∀ a, (k0_off1023 v5439) a + S1x8192.size a ≤ S8192x8192.size a := fun i v5439 k0_hw637 k0_h17 => k0_hw637 k0_h17

def k0_off1024 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c120_i32_2406 : BitVec 32 := 120#32
  let v5448 : BitVec 32 := Scalar.addi v5447 c120_i32_2406
  let c5_i32_2407 : BitVec 32 := 5#32
  let v5449 : BitVec 32 := Scalar.addi v5448 c5_i32_2407
  let v5450 : Index := Scalar.indexCast v5449
  ![v5450.toNat]
def k0_off1025 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2409 : BitVec 32 := 15#32
  let v5453 : BitVec 32 := Scalar.addi v5386 c15_i32_2409
  ![v5453.toNat]
def k0_off1026 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2408 : BitVec 32 := 15#32
  let v5452 : BitVec 32 := Scalar.addi v5386 c15_i32_2408
  let c5_i32_2410 : BitVec 32 := 5#32
  let c0_i32_2411 : BitVec 32 := 0#32
  ![v5452.toNat, 5, 0]
def k0_off1027 (v5451 : BitVec 32) : Fin 2 → Nat :=
  let c0_i32_2412 : BitVec 32 := 0#32
  ![v5451.toNat, 0]

def k0_chk638 (i : grid0.Coords) (v5451 : BitVec 32) : Prop :=
  (∀ (k0_h17 : k0_cond17 i = 1#1), ∀ a, (k0_off1027 v5451) a + S1x8192.size a ≤ S8192x8192.size a)
theorem k0_off1027_inb : ∀ (i : grid0.Coords) (v5451 : BitVec 32) (k0_hw638 : k0_chk638 i v5451), ∀ (k0_h17 : k0_cond17 i = 1#1), ∀ a, (k0_off1027 v5451) a + S1x8192.size a ≤ S8192x8192.size a := fun i v5451 k0_hw638 k0_h17 => k0_hw638 k0_h17

def k0_off1028 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c120_i32_2414 : BitVec 32 := 120#32
  let v5460 : BitVec 32 := Scalar.addi v5459 c120_i32_2414
  let c6_i32_2415 : BitVec 32 := 6#32
  let v5461 : BitVec 32 := Scalar.addi v5460 c6_i32_2415
  let v5462 : Index := Scalar.indexCast v5461
  ![v5462.toNat]
def k0_off1029 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2417 : BitVec 32 := 15#32
  let v5465 : BitVec 32 := Scalar.addi v5386 c15_i32_2417
  ![v5465.toNat]
def k0_off1030 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2416 : BitVec 32 := 15#32
  let v5464 : BitVec 32 := Scalar.addi v5386 c15_i32_2416
  let c6_i32_2418 : BitVec 32 := 6#32
  let c0_i32_2419 : BitVec 32 := 0#32
  ![v5464.toNat, 6, 0]
def k0_off1031 (v5463 : BitVec 32) : Fin 2 → Nat :=
  let c0_i32_2420 : BitVec 32 := 0#32
  ![v5463.toNat, 0]

def k0_chk639 (i : grid0.Coords) (v5463 : BitVec 32) : Prop :=
  (∀ (k0_h17 : k0_cond17 i = 1#1), ∀ a, (k0_off1031 v5463) a + S1x8192.size a ≤ S8192x8192.size a)
theorem k0_off1031_inb : ∀ (i : grid0.Coords) (v5463 : BitVec 32) (k0_hw639 : k0_chk639 i v5463), ∀ (k0_h17 : k0_cond17 i = 1#1), ∀ a, (k0_off1031 v5463) a + S1x8192.size a ≤ S8192x8192.size a := fun i v5463 k0_hw639 k0_h17 => k0_hw639 k0_h17

def k0_off1032 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c120_i32_2422 : BitVec 32 := 120#32
  let v5472 : BitVec 32 := Scalar.addi v5471 c120_i32_2422
  let c7_i32_2423 : BitVec 32 := 7#32
  let v5473 : BitVec 32 := Scalar.addi v5472 c7_i32_2423
  let v5474 : Index := Scalar.indexCast v5473
  ![v5474.toNat]
def k0_off1033 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2425 : BitVec 32 := 15#32
  let v5477 : BitVec 32 := Scalar.addi v5386 c15_i32_2425
  ![v5477.toNat]
def k0_off1034 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c15_i32_2424 : BitVec 32 := 15#32
  let v5476 : BitVec 32 := Scalar.addi v5386 c15_i32_2424
  let c7_i32_2426 : BitVec 32 := 7#32
  let c0_i32_2427 : BitVec 32 := 0#32
  ![v5476.toNat, 7, 0]
def k0_off1035 (v5475 : BitVec 32) : Fin 2 → Nat :=
  let c0_i32_2428 : BitVec 32 := 0#32
  ![v5475.toNat, 0]

def k0_chk640 (i : grid0.Coords) (v5475 : BitVec 32) : Prop :=
  (∀ (k0_h17 : k0_cond17 i = 1#1), ∀ a, (k0_off1035 v5475) a + S1x8192.size a ≤ S8192x8192.size a)
theorem k0_off1035_inb : ∀ (i : grid0.Coords) (v5475 : BitVec 32) (k0_hw640 : k0_chk640 i v5475), ∀ (k0_h17 : k0_cond17 i = 1#1), ∀ a, (k0_off1035 v5475) a + S1x8192.size a ≤ S8192x8192.size a := fun i v5475 k0_hw640 k0_h17 => k0_hw640 k0_h17

def k0_cond18 (i : grid0.Coords) : BitVec 1 :=
  let arg0 : BitVec 32 := BitVec.ofNat 32 (i 0).val
  let c3_i32_1177 : BitVec 32 := 3#32
  let v2672 : BitVec 32 := Scalar.addi arg0 c3_i32_1177
  let c1_i32_1178 : BitVec 32 := 1#32
  let v2673 : BitVec 32 := Scalar.subi v2672 c1_i32_1178
  let c64_i32_1179 : BitVec 32 := 64#32
  let v2674 : BitVec 1 := Scalar.cmpi .slt v2673 c64_i32_1179
  let v2675 : BitVec 32 := Scalar.extui v2674
  let c0_i32_1180 : BitVec 32 := 0#32
  let v2676 : BitVec 1 := Scalar.cmpi .ne v2675 c0_i32_1180
  v2676

def k0_off1036 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c128_i32_2366 : BitVec 32 := 128#32
  let v5388 : BitVec 32 := Scalar.addi v5387 c128_i32_2366
  let c0_i32_2367 : BitVec 32 := 0#32
  let v5389 : BitVec 32 := Scalar.addi v5388 c0_i32_2367
  let v5390 : Index := Scalar.indexCast v5389
  ![v5390.toNat]
def k0_off1037 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2369 : BitVec 32 := 16#32
  let v5393 : BitVec 32 := Scalar.addi v5386 c16_i32_2369
  ![v5393.toNat]
def k0_off1038 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2368 : BitVec 32 := 16#32
  let v5392 : BitVec 32 := Scalar.addi v5386 c16_i32_2368
  let c0_i32_2370 : BitVec 32 := 0#32
  let c0_i32_2371 : BitVec 32 := 0#32
  ![v5392.toNat, 0, 0]
def k0_off1039 (v5391 : BitVec 32) : Fin 2 → Nat :=
  let c0_i32_2372 : BitVec 32 := 0#32
  ![v5391.toNat, 0]

def k0_chk641 (i : grid0.Coords) (v5391 : BitVec 32) : Prop :=
  (∀ (k0_h18 : k0_cond18 i = 1#1), ∀ a, (k0_off1039 v5391) a + S1x8192.size a ≤ S8192x8192.size a)
theorem k0_off1039_inb : ∀ (i : grid0.Coords) (v5391 : BitVec 32) (k0_hw641 : k0_chk641 i v5391), ∀ (k0_h18 : k0_cond18 i = 1#1), ∀ a, (k0_off1039 v5391) a + S1x8192.size a ≤ S8192x8192.size a := fun i v5391 k0_hw641 k0_h18 => k0_hw641 k0_h18

def k0_off1040 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c128_i32_2374 : BitVec 32 := 128#32
  let v5400 : BitVec 32 := Scalar.addi v5399 c128_i32_2374
  let c1_i32_2375 : BitVec 32 := 1#32
  let v5401 : BitVec 32 := Scalar.addi v5400 c1_i32_2375
  let v5402 : Index := Scalar.indexCast v5401
  ![v5402.toNat]
def k0_off1041 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2377 : BitVec 32 := 16#32
  let v5405 : BitVec 32 := Scalar.addi v5386 c16_i32_2377
  ![v5405.toNat]
def k0_off1042 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2376 : BitVec 32 := 16#32
  let v5404 : BitVec 32 := Scalar.addi v5386 c16_i32_2376
  let c1_i32_2378 : BitVec 32 := 1#32
  let c0_i32_2379 : BitVec 32 := 0#32
  ![v5404.toNat, 1, 0]
def k0_off1043 (v5403 : BitVec 32) : Fin 2 → Nat :=
  let c0_i32_2380 : BitVec 32 := 0#32
  ![v5403.toNat, 0]

def k0_chk642 (i : grid0.Coords) (v5403 : BitVec 32) : Prop :=
  (∀ (k0_h18 : k0_cond18 i = 1#1), ∀ a, (k0_off1043 v5403) a + S1x8192.size a ≤ S8192x8192.size a)
theorem k0_off1043_inb : ∀ (i : grid0.Coords) (v5403 : BitVec 32) (k0_hw642 : k0_chk642 i v5403), ∀ (k0_h18 : k0_cond18 i = 1#1), ∀ a, (k0_off1043 v5403) a + S1x8192.size a ≤ S8192x8192.size a := fun i v5403 k0_hw642 k0_h18 => k0_hw642 k0_h18

def k0_off1044 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c128_i32_2382 : BitVec 32 := 128#32
  let v5412 : BitVec 32 := Scalar.addi v5411 c128_i32_2382
  let c2_i32_2383 : BitVec 32 := 2#32
  let v5413 : BitVec 32 := Scalar.addi v5412 c2_i32_2383
  let v5414 : Index := Scalar.indexCast v5413
  ![v5414.toNat]
def k0_off1045 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2385 : BitVec 32 := 16#32
  let v5417 : BitVec 32 := Scalar.addi v5386 c16_i32_2385
  ![v5417.toNat]
def k0_off1046 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2384 : BitVec 32 := 16#32
  let v5416 : BitVec 32 := Scalar.addi v5386 c16_i32_2384
  let c2_i32_2386 : BitVec 32 := 2#32
  let c0_i32_2387 : BitVec 32 := 0#32
  ![v5416.toNat, 2, 0]
def k0_off1047 (v5415 : BitVec 32) : Fin 2 → Nat :=
  let c0_i32_2388 : BitVec 32 := 0#32
  ![v5415.toNat, 0]

def k0_chk643 (i : grid0.Coords) (v5415 : BitVec 32) : Prop :=
  (∀ (k0_h18 : k0_cond18 i = 1#1), ∀ a, (k0_off1047 v5415) a + S1x8192.size a ≤ S8192x8192.size a)
theorem k0_off1047_inb : ∀ (i : grid0.Coords) (v5415 : BitVec 32) (k0_hw643 : k0_chk643 i v5415), ∀ (k0_h18 : k0_cond18 i = 1#1), ∀ a, (k0_off1047 v5415) a + S1x8192.size a ≤ S8192x8192.size a := fun i v5415 k0_hw643 k0_h18 => k0_hw643 k0_h18

def k0_off1048 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c128_i32_2390 : BitVec 32 := 128#32
  let v5424 : BitVec 32 := Scalar.addi v5423 c128_i32_2390
  let c3_i32_2391 : BitVec 32 := 3#32
  let v5425 : BitVec 32 := Scalar.addi v5424 c3_i32_2391
  let v5426 : Index := Scalar.indexCast v5425
  ![v5426.toNat]
def k0_off1049 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2393 : BitVec 32 := 16#32
  let v5429 : BitVec 32 := Scalar.addi v5386 c16_i32_2393
  ![v5429.toNat]
def k0_off1050 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2392 : BitVec 32 := 16#32
  let v5428 : BitVec 32 := Scalar.addi v5386 c16_i32_2392
  let c3_i32_2394 : BitVec 32 := 3#32
  let c0_i32_2395 : BitVec 32 := 0#32
  ![v5428.toNat, 3, 0]
def k0_off1051 (v5427 : BitVec 32) : Fin 2 → Nat :=
  let c0_i32_2396 : BitVec 32 := 0#32
  ![v5427.toNat, 0]

def k0_chk644 (i : grid0.Coords) (v5427 : BitVec 32) : Prop :=
  (∀ (k0_h18 : k0_cond18 i = 1#1), ∀ a, (k0_off1051 v5427) a + S1x8192.size a ≤ S8192x8192.size a)
theorem k0_off1051_inb : ∀ (i : grid0.Coords) (v5427 : BitVec 32) (k0_hw644 : k0_chk644 i v5427), ∀ (k0_h18 : k0_cond18 i = 1#1), ∀ a, (k0_off1051 v5427) a + S1x8192.size a ≤ S8192x8192.size a := fun i v5427 k0_hw644 k0_h18 => k0_hw644 k0_h18

def k0_off1052 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c128_i32_2398 : BitVec 32 := 128#32
  let v5436 : BitVec 32 := Scalar.addi v5435 c128_i32_2398
  let c4_i32_2399 : BitVec 32 := 4#32
  let v5437 : BitVec 32 := Scalar.addi v5436 c4_i32_2399
  let v5438 : Index := Scalar.indexCast v5437
  ![v5438.toNat]
def k0_off1053 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2401 : BitVec 32 := 16#32
  let v5441 : BitVec 32 := Scalar.addi v5386 c16_i32_2401
  ![v5441.toNat]
def k0_off1054 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2400 : BitVec 32 := 16#32
  let v5440 : BitVec 32 := Scalar.addi v5386 c16_i32_2400
  let c4_i32_2402 : BitVec 32 := 4#32
  let c0_i32_2403 : BitVec 32 := 0#32
  ![v5440.toNat, 4, 0]
def k0_off1055 (v5439 : BitVec 32) : Fin 2 → Nat :=
  let c0_i32_2404 : BitVec 32 := 0#32
  ![v5439.toNat, 0]

def k0_chk645 (i : grid0.Coords) (v5439 : BitVec 32) : Prop :=
  (∀ (k0_h18 : k0_cond18 i = 1#1), ∀ a, (k0_off1055 v5439) a + S1x8192.size a ≤ S8192x8192.size a)
theorem k0_off1055_inb : ∀ (i : grid0.Coords) (v5439 : BitVec 32) (k0_hw645 : k0_chk645 i v5439), ∀ (k0_h18 : k0_cond18 i = 1#1), ∀ a, (k0_off1055 v5439) a + S1x8192.size a ≤ S8192x8192.size a := fun i v5439 k0_hw645 k0_h18 => k0_hw645 k0_h18

def k0_off1056 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c128_i32_2406 : BitVec 32 := 128#32
  let v5448 : BitVec 32 := Scalar.addi v5447 c128_i32_2406
  let c5_i32_2407 : BitVec 32 := 5#32
  let v5449 : BitVec 32 := Scalar.addi v5448 c5_i32_2407
  let v5450 : Index := Scalar.indexCast v5449
  ![v5450.toNat]
def k0_off1057 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2409 : BitVec 32 := 16#32
  let v5453 : BitVec 32 := Scalar.addi v5386 c16_i32_2409
  ![v5453.toNat]
def k0_off1058 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2408 : BitVec 32 := 16#32
  let v5452 : BitVec 32 := Scalar.addi v5386 c16_i32_2408
  let c5_i32_2410 : BitVec 32 := 5#32
  let c0_i32_2411 : BitVec 32 := 0#32
  ![v5452.toNat, 5, 0]
def k0_off1059 (v5451 : BitVec 32) : Fin 2 → Nat :=
  let c0_i32_2412 : BitVec 32 := 0#32
  ![v5451.toNat, 0]

def k0_chk646 (i : grid0.Coords) (v5451 : BitVec 32) : Prop :=
  (∀ (k0_h18 : k0_cond18 i = 1#1), ∀ a, (k0_off1059 v5451) a + S1x8192.size a ≤ S8192x8192.size a)
theorem k0_off1059_inb : ∀ (i : grid0.Coords) (v5451 : BitVec 32) (k0_hw646 : k0_chk646 i v5451), ∀ (k0_h18 : k0_cond18 i = 1#1), ∀ a, (k0_off1059 v5451) a + S1x8192.size a ≤ S8192x8192.size a := fun i v5451 k0_hw646 k0_h18 => k0_hw646 k0_h18

def k0_off1060 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c128_i32_2414 : BitVec 32 := 128#32
  let v5460 : BitVec 32 := Scalar.addi v5459 c128_i32_2414
  let c6_i32_2415 : BitVec 32 := 6#32
  let v5461 : BitVec 32 := Scalar.addi v5460 c6_i32_2415
  let v5462 : Index := Scalar.indexCast v5461
  ![v5462.toNat]
def k0_off1061 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2417 : BitVec 32 := 16#32
  let v5465 : BitVec 32 := Scalar.addi v5386 c16_i32_2417
  ![v5465.toNat]
def k0_off1062 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2416 : BitVec 32 := 16#32
  let v5464 : BitVec 32 := Scalar.addi v5386 c16_i32_2416
  let c6_i32_2418 : BitVec 32 := 6#32
  let c0_i32_2419 : BitVec 32 := 0#32
  ![v5464.toNat, 6, 0]
def k0_off1063 (v5463 : BitVec 32) : Fin 2 → Nat :=
  let c0_i32_2420 : BitVec 32 := 0#32
  ![v5463.toNat, 0]

def k0_chk647 (i : grid0.Coords) (v5463 : BitVec 32) : Prop :=
  (∀ (k0_h18 : k0_cond18 i = 1#1), ∀ a, (k0_off1063 v5463) a + S1x8192.size a ≤ S8192x8192.size a)
theorem k0_off1063_inb : ∀ (i : grid0.Coords) (v5463 : BitVec 32) (k0_hw647 : k0_chk647 i v5463), ∀ (k0_h18 : k0_cond18 i = 1#1), ∀ a, (k0_off1063 v5463) a + S1x8192.size a ≤ S8192x8192.size a := fun i v5463 k0_hw647 k0_h18 => k0_hw647 k0_h18

def k0_off1064 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c128_i32_2422 : BitVec 32 := 128#32
  let v5472 : BitVec 32 := Scalar.addi v5471 c128_i32_2422
  let c7_i32_2423 : BitVec 32 := 7#32
  let v5473 : BitVec 32 := Scalar.addi v5472 c7_i32_2423
  let v5474 : Index := Scalar.indexCast v5473
  ![v5474.toNat]
def k0_off1065 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2425 : BitVec 32 := 16#32
  let v5477 : BitVec 32 := Scalar.addi v5386 c16_i32_2425
  ![v5477.toNat]
def k0_off1066 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c16_i32_2424 : BitVec 32 := 16#32
  let v5476 : BitVec 32 := Scalar.addi v5386 c16_i32_2424
  let c7_i32_2426 : BitVec 32 := 7#32
  let c0_i32_2427 : BitVec 32 := 0#32
  ![v5476.toNat, 7, 0]
def k0_off1067 (v5475 : BitVec 32) : Fin 2 → Nat :=
  let c0_i32_2428 : BitVec 32 := 0#32
  ![v5475.toNat, 0]

def k0_chk648 (i : grid0.Coords) (v5475 : BitVec 32) : Prop :=
  (∀ (k0_h18 : k0_cond18 i = 1#1), ∀ a, (k0_off1067 v5475) a + S1x8192.size a ≤ S8192x8192.size a)
theorem k0_off1067_inb : ∀ (i : grid0.Coords) (v5475 : BitVec 32) (k0_hw648 : k0_chk648 i v5475), ∀ (k0_h18 : k0_cond18 i = 1#1), ∀ a, (k0_off1067 v5475) a + S1x8192.size a ≤ S8192x8192.size a := fun i v5475 k0_hw648 k0_h18 => k0_hw648 k0_h18

def k0_cond19 (i : grid0.Coords) : BitVec 1 :=
  let arg0 : BitVec 32 := BitVec.ofNat 32 (i 0).val
  let c3_i32_1251 : BitVec 32 := 3#32
  let v2838 : BitVec 32 := Scalar.addi arg0 c3_i32_1251
  let c1_i32_1252 : BitVec 32 := 1#32
  let v2839 : BitVec 32 := Scalar.subi v2838 c1_i32_1252
  let c64_i32_1253 : BitVec 32 := 64#32
  let v2840 : BitVec 1 := Scalar.cmpi .slt v2839 c64_i32_1253
  let v2841 : BitVec 32 := Scalar.extui v2840
  let c0_i32_1254 : BitVec 32 := 0#32
  let v2842 : BitVec 1 := Scalar.cmpi .ne v2841 c0_i32_1254
  v2842

def k0_off1068 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c136_i32_2366 : BitVec 32 := 136#32
  let v5388 : BitVec 32 := Scalar.addi v5387 c136_i32_2366
  let c0_i32_2367 : BitVec 32 := 0#32
  let v5389 : BitVec 32 := Scalar.addi v5388 c0_i32_2367
  let v5390 : Index := Scalar.indexCast v5389
  ![v5390.toNat]
def k0_off1069 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2369 : BitVec 32 := 17#32
  let v5393 : BitVec 32 := Scalar.addi v5386 c17_i32_2369
  ![v5393.toNat]
def k0_off1070 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2368 : BitVec 32 := 17#32
  let v5392 : BitVec 32 := Scalar.addi v5386 c17_i32_2368
  let c0_i32_2370 : BitVec 32 := 0#32
  let c0_i32_2371 : BitVec 32 := 0#32
  ![v5392.toNat, 0, 0]
def k0_off1071 (v5391 : BitVec 32) : Fin 2 → Nat :=
  let c0_i32_2372 : BitVec 32 := 0#32
  ![v5391.toNat, 0]

def k0_chk649 (i : grid0.Coords) (v5391 : BitVec 32) : Prop :=
  (∀ (k0_h19 : k0_cond19 i = 1#1), ∀ a, (k0_off1071 v5391) a + S1x8192.size a ≤ S8192x8192.size a)
theorem k0_off1071_inb : ∀ (i : grid0.Coords) (v5391 : BitVec 32) (k0_hw649 : k0_chk649 i v5391), ∀ (k0_h19 : k0_cond19 i = 1#1), ∀ a, (k0_off1071 v5391) a + S1x8192.size a ≤ S8192x8192.size a := fun i v5391 k0_hw649 k0_h19 => k0_hw649 k0_h19

def k0_off1072 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c136_i32_2374 : BitVec 32 := 136#32
  let v5400 : BitVec 32 := Scalar.addi v5399 c136_i32_2374
  let c1_i32_2375 : BitVec 32 := 1#32
  let v5401 : BitVec 32 := Scalar.addi v5400 c1_i32_2375
  let v5402 : Index := Scalar.indexCast v5401
  ![v5402.toNat]
def k0_off1073 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2377 : BitVec 32 := 17#32
  let v5405 : BitVec 32 := Scalar.addi v5386 c17_i32_2377
  ![v5405.toNat]
def k0_off1074 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2376 : BitVec 32 := 17#32
  let v5404 : BitVec 32 := Scalar.addi v5386 c17_i32_2376
  let c1_i32_2378 : BitVec 32 := 1#32
  let c0_i32_2379 : BitVec 32 := 0#32
  ![v5404.toNat, 1, 0]
def k0_off1075 (v5403 : BitVec 32) : Fin 2 → Nat :=
  let c0_i32_2380 : BitVec 32 := 0#32
  ![v5403.toNat, 0]

def k0_chk650 (i : grid0.Coords) (v5403 : BitVec 32) : Prop :=
  (∀ (k0_h19 : k0_cond19 i = 1#1), ∀ a, (k0_off1075 v5403) a + S1x8192.size a ≤ S8192x8192.size a)
theorem k0_off1075_inb : ∀ (i : grid0.Coords) (v5403 : BitVec 32) (k0_hw650 : k0_chk650 i v5403), ∀ (k0_h19 : k0_cond19 i = 1#1), ∀ a, (k0_off1075 v5403) a + S1x8192.size a ≤ S8192x8192.size a := fun i v5403 k0_hw650 k0_h19 => k0_hw650 k0_h19

def k0_off1076 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c136_i32_2382 : BitVec 32 := 136#32
  let v5412 : BitVec 32 := Scalar.addi v5411 c136_i32_2382
  let c2_i32_2383 : BitVec 32 := 2#32
  let v5413 : BitVec 32 := Scalar.addi v5412 c2_i32_2383
  let v5414 : Index := Scalar.indexCast v5413
  ![v5414.toNat]
def k0_off1077 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2385 : BitVec 32 := 17#32
  let v5417 : BitVec 32 := Scalar.addi v5386 c17_i32_2385
  ![v5417.toNat]
def k0_off1078 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2384 : BitVec 32 := 17#32
  let v5416 : BitVec 32 := Scalar.addi v5386 c17_i32_2384
  let c2_i32_2386 : BitVec 32 := 2#32
  let c0_i32_2387 : BitVec 32 := 0#32
  ![v5416.toNat, 2, 0]
def k0_off1079 (v5415 : BitVec 32) : Fin 2 → Nat :=
  let c0_i32_2388 : BitVec 32 := 0#32
  ![v5415.toNat, 0]

def k0_chk651 (i : grid0.Coords) (v5415 : BitVec 32) : Prop :=
  (∀ (k0_h19 : k0_cond19 i = 1#1), ∀ a, (k0_off1079 v5415) a + S1x8192.size a ≤ S8192x8192.size a)
theorem k0_off1079_inb : ∀ (i : grid0.Coords) (v5415 : BitVec 32) (k0_hw651 : k0_chk651 i v5415), ∀ (k0_h19 : k0_cond19 i = 1#1), ∀ a, (k0_off1079 v5415) a + S1x8192.size a ≤ S8192x8192.size a := fun i v5415 k0_hw651 k0_h19 => k0_hw651 k0_h19

def k0_off1080 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c136_i32_2390 : BitVec 32 := 136#32
  let v5424 : BitVec 32 := Scalar.addi v5423 c136_i32_2390
  let c3_i32_2391 : BitVec 32 := 3#32
  let v5425 : BitVec 32 := Scalar.addi v5424 c3_i32_2391
  let v5426 : Index := Scalar.indexCast v5425
  ![v5426.toNat]
def k0_off1081 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2393 : BitVec 32 := 17#32
  let v5429 : BitVec 32 := Scalar.addi v5386 c17_i32_2393
  ![v5429.toNat]
def k0_off1082 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2392 : BitVec 32 := 17#32
  let v5428 : BitVec 32 := Scalar.addi v5386 c17_i32_2392
  let c3_i32_2394 : BitVec 32 := 3#32
  let c0_i32_2395 : BitVec 32 := 0#32
  ![v5428.toNat, 3, 0]
def k0_off1083 (v5427 : BitVec 32) : Fin 2 → Nat :=
  let c0_i32_2396 : BitVec 32 := 0#32
  ![v5427.toNat, 0]

def k0_chk652 (i : grid0.Coords) (v5427 : BitVec 32) : Prop :=
  (∀ (k0_h19 : k0_cond19 i = 1#1), ∀ a, (k0_off1083 v5427) a + S1x8192.size a ≤ S8192x8192.size a)
theorem k0_off1083_inb : ∀ (i : grid0.Coords) (v5427 : BitVec 32) (k0_hw652 : k0_chk652 i v5427), ∀ (k0_h19 : k0_cond19 i = 1#1), ∀ a, (k0_off1083 v5427) a + S1x8192.size a ≤ S8192x8192.size a := fun i v5427 k0_hw652 k0_h19 => k0_hw652 k0_h19

def k0_off1084 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c136_i32_2398 : BitVec 32 := 136#32
  let v5436 : BitVec 32 := Scalar.addi v5435 c136_i32_2398
  let c4_i32_2399 : BitVec 32 := 4#32
  let v5437 : BitVec 32 := Scalar.addi v5436 c4_i32_2399
  let v5438 : Index := Scalar.indexCast v5437
  ![v5438.toNat]
def k0_off1085 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2401 : BitVec 32 := 17#32
  let v5441 : BitVec 32 := Scalar.addi v5386 c17_i32_2401
  ![v5441.toNat]
def k0_off1086 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2400 : BitVec 32 := 17#32
  let v5440 : BitVec 32 := Scalar.addi v5386 c17_i32_2400
  let c4_i32_2402 : BitVec 32 := 4#32
  let c0_i32_2403 : BitVec 32 := 0#32
  ![v5440.toNat, 4, 0]
def k0_off1087 (v5439 : BitVec 32) : Fin 2 → Nat :=
  let c0_i32_2404 : BitVec 32 := 0#32
  ![v5439.toNat, 0]

def k0_chk653 (i : grid0.Coords) (v5439 : BitVec 32) : Prop :=
  (∀ (k0_h19 : k0_cond19 i = 1#1), ∀ a, (k0_off1087 v5439) a + S1x8192.size a ≤ S8192x8192.size a)
theorem k0_off1087_inb : ∀ (i : grid0.Coords) (v5439 : BitVec 32) (k0_hw653 : k0_chk653 i v5439), ∀ (k0_h19 : k0_cond19 i = 1#1), ∀ a, (k0_off1087 v5439) a + S1x8192.size a ≤ S8192x8192.size a := fun i v5439 k0_hw653 k0_h19 => k0_hw653 k0_h19

def k0_off1088 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c136_i32_2406 : BitVec 32 := 136#32
  let v5448 : BitVec 32 := Scalar.addi v5447 c136_i32_2406
  let c5_i32_2407 : BitVec 32 := 5#32
  let v5449 : BitVec 32 := Scalar.addi v5448 c5_i32_2407
  let v5450 : Index := Scalar.indexCast v5449
  ![v5450.toNat]
def k0_off1089 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2409 : BitVec 32 := 17#32
  let v5453 : BitVec 32 := Scalar.addi v5386 c17_i32_2409
  ![v5453.toNat]
def k0_off1090 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2408 : BitVec 32 := 17#32
  let v5452 : BitVec 32 := Scalar.addi v5386 c17_i32_2408
  let c5_i32_2410 : BitVec 32 := 5#32
  let c0_i32_2411 : BitVec 32 := 0#32
  ![v5452.toNat, 5, 0]
def k0_off1091 (v5451 : BitVec 32) : Fin 2 → Nat :=
  let c0_i32_2412 : BitVec 32 := 0#32
  ![v5451.toNat, 0]

def k0_chk654 (i : grid0.Coords) (v5451 : BitVec 32) : Prop :=
  (∀ (k0_h19 : k0_cond19 i = 1#1), ∀ a, (k0_off1091 v5451) a + S1x8192.size a ≤ S8192x8192.size a)
theorem k0_off1091_inb : ∀ (i : grid0.Coords) (v5451 : BitVec 32) (k0_hw654 : k0_chk654 i v5451), ∀ (k0_h19 : k0_cond19 i = 1#1), ∀ a, (k0_off1091 v5451) a + S1x8192.size a ≤ S8192x8192.size a := fun i v5451 k0_hw654 k0_h19 => k0_hw654 k0_h19

def k0_off1092 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c136_i32_2414 : BitVec 32 := 136#32
  let v5460 : BitVec 32 := Scalar.addi v5459 c136_i32_2414
  let c6_i32_2415 : BitVec 32 := 6#32
  let v5461 : BitVec 32 := Scalar.addi v5460 c6_i32_2415
  let v5462 : Index := Scalar.indexCast v5461
  ![v5462.toNat]
def k0_off1093 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2417 : BitVec 32 := 17#32
  let v5465 : BitVec 32 := Scalar.addi v5386 c17_i32_2417
  ![v5465.toNat]
def k0_off1094 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2416 : BitVec 32 := 17#32
  let v5464 : BitVec 32 := Scalar.addi v5386 c17_i32_2416
  let c6_i32_2418 : BitVec 32 := 6#32
  let c0_i32_2419 : BitVec 32 := 0#32
  ![v5464.toNat, 6, 0]
def k0_off1095 (v5463 : BitVec 32) : Fin 2 → Nat :=
  let c0_i32_2420 : BitVec 32 := 0#32
  ![v5463.toNat, 0]

def k0_chk655 (i : grid0.Coords) (v5463 : BitVec 32) : Prop :=
  (∀ (k0_h19 : k0_cond19 i = 1#1), ∀ a, (k0_off1095 v5463) a + S1x8192.size a ≤ S8192x8192.size a)
theorem k0_off1095_inb : ∀ (i : grid0.Coords) (v5463 : BitVec 32) (k0_hw655 : k0_chk655 i v5463), ∀ (k0_h19 : k0_cond19 i = 1#1), ∀ a, (k0_off1095 v5463) a + S1x8192.size a ≤ S8192x8192.size a := fun i v5463 k0_hw655 k0_h19 => k0_hw655 k0_h19

def k0_off1096 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c136_i32_2422 : BitVec 32 := 136#32
  let v5472 : BitVec 32 := Scalar.addi v5471 c136_i32_2422
  let c7_i32_2423 : BitVec 32 := 7#32
  let v5473 : BitVec 32 := Scalar.addi v5472 c7_i32_2423
  let v5474 : Index := Scalar.indexCast v5473
  ![v5474.toNat]
def k0_off1097 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2425 : BitVec 32 := 17#32
  let v5477 : BitVec 32 := Scalar.addi v5386 c17_i32_2425
  ![v5477.toNat]
def k0_off1098 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c17_i32_2424 : BitVec 32 := 17#32
  let v5476 : BitVec 32 := Scalar.addi v5386 c17_i32_2424
  let c7_i32_2426 : BitVec 32 := 7#32
  let c0_i32_2427 : BitVec 32 := 0#32
  ![v5476.toNat, 7, 0]
def k0_off1099 (v5475 : BitVec 32) : Fin 2 → Nat :=
  let c0_i32_2428 : BitVec 32 := 0#32
  ![v5475.toNat, 0]

def k0_chk656 (i : grid0.Coords) (v5475 : BitVec 32) : Prop :=
  (∀ (k0_h19 : k0_cond19 i = 1#1), ∀ a, (k0_off1099 v5475) a + S1x8192.size a ≤ S8192x8192.size a)
theorem k0_off1099_inb : ∀ (i : grid0.Coords) (v5475 : BitVec 32) (k0_hw656 : k0_chk656 i v5475), ∀ (k0_h19 : k0_cond19 i = 1#1), ∀ a, (k0_off1099 v5475) a + S1x8192.size a ≤ S8192x8192.size a := fun i v5475 k0_hw656 k0_h19 => k0_hw656 k0_h19

def k0_cond20 (i : grid0.Coords) : BitVec 1 :=
  let arg0 : BitVec 32 := BitVec.ofNat 32 (i 0).val
  let c3_i32_1324 : BitVec 32 := 3#32
  let v3004 : BitVec 32 := Scalar.addi arg0 c3_i32_1324
  let c1_i32_1325 : BitVec 32 := 1#32
  let v3005 : BitVec 32 := Scalar.subi v3004 c1_i32_1325
  let c64_i32_1326 : BitVec 32 := 64#32
  let v3006 : BitVec 1 := Scalar.cmpi .slt v3005 c64_i32_1326
  let v3007 : BitVec 32 := Scalar.extui v3006
  let c0_i32_1327 : BitVec 32 := 0#32
  let v3008 : BitVec 1 := Scalar.cmpi .ne v3007 c0_i32_1327
  v3008

def k0_off1100 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c144_i32_2366 : BitVec 32 := 144#32
  let v5388 : BitVec 32 := Scalar.addi v5387 c144_i32_2366
  let c0_i32_2367 : BitVec 32 := 0#32
  let v5389 : BitVec 32 := Scalar.addi v5388 c0_i32_2367
  let v5390 : Index := Scalar.indexCast v5389
  ![v5390.toNat]
def k0_off1101 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2369 : BitVec 32 := 18#32
  let v5393 : BitVec 32 := Scalar.addi v5386 c18_i32_2369
  ![v5393.toNat]
def k0_off1102 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2368 : BitVec 32 := 18#32
  let v5392 : BitVec 32 := Scalar.addi v5386 c18_i32_2368
  let c0_i32_2370 : BitVec 32 := 0#32
  let c0_i32_2371 : BitVec 32 := 0#32
  ![v5392.toNat, 0, 0]
def k0_off1103 (v5391 : BitVec 32) : Fin 2 → Nat :=
  let c0_i32_2372 : BitVec 32 := 0#32
  ![v5391.toNat, 0]

def k0_chk657 (i : grid0.Coords) (v5391 : BitVec 32) : Prop :=
  (∀ (k0_h20 : k0_cond20 i = 1#1), ∀ a, (k0_off1103 v5391) a + S1x8192.size a ≤ S8192x8192.size a)
theorem k0_off1103_inb : ∀ (i : grid0.Coords) (v5391 : BitVec 32) (k0_hw657 : k0_chk657 i v5391), ∀ (k0_h20 : k0_cond20 i = 1#1), ∀ a, (k0_off1103 v5391) a + S1x8192.size a ≤ S8192x8192.size a := fun i v5391 k0_hw657 k0_h20 => k0_hw657 k0_h20

def k0_off1104 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c144_i32_2374 : BitVec 32 := 144#32
  let v5400 : BitVec 32 := Scalar.addi v5399 c144_i32_2374
  let c1_i32_2375 : BitVec 32 := 1#32
  let v5401 : BitVec 32 := Scalar.addi v5400 c1_i32_2375
  let v5402 : Index := Scalar.indexCast v5401
  ![v5402.toNat]
def k0_off1105 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2377 : BitVec 32 := 18#32
  let v5405 : BitVec 32 := Scalar.addi v5386 c18_i32_2377
  ![v5405.toNat]
def k0_off1106 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2376 : BitVec 32 := 18#32
  let v5404 : BitVec 32 := Scalar.addi v5386 c18_i32_2376
  let c1_i32_2378 : BitVec 32 := 1#32
  let c0_i32_2379 : BitVec 32 := 0#32
  ![v5404.toNat, 1, 0]
def k0_off1107 (v5403 : BitVec 32) : Fin 2 → Nat :=
  let c0_i32_2380 : BitVec 32 := 0#32
  ![v5403.toNat, 0]

def k0_chk658 (i : grid0.Coords) (v5403 : BitVec 32) : Prop :=
  (∀ (k0_h20 : k0_cond20 i = 1#1), ∀ a, (k0_off1107 v5403) a + S1x8192.size a ≤ S8192x8192.size a)
theorem k0_off1107_inb : ∀ (i : grid0.Coords) (v5403 : BitVec 32) (k0_hw658 : k0_chk658 i v5403), ∀ (k0_h20 : k0_cond20 i = 1#1), ∀ a, (k0_off1107 v5403) a + S1x8192.size a ≤ S8192x8192.size a := fun i v5403 k0_hw658 k0_h20 => k0_hw658 k0_h20

def k0_off1108 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c144_i32_2382 : BitVec 32 := 144#32
  let v5412 : BitVec 32 := Scalar.addi v5411 c144_i32_2382
  let c2_i32_2383 : BitVec 32 := 2#32
  let v5413 : BitVec 32 := Scalar.addi v5412 c2_i32_2383
  let v5414 : Index := Scalar.indexCast v5413
  ![v5414.toNat]
def k0_off1109 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2385 : BitVec 32 := 18#32
  let v5417 : BitVec 32 := Scalar.addi v5386 c18_i32_2385
  ![v5417.toNat]
def k0_off1110 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2384 : BitVec 32 := 18#32
  let v5416 : BitVec 32 := Scalar.addi v5386 c18_i32_2384
  let c2_i32_2386 : BitVec 32 := 2#32
  let c0_i32_2387 : BitVec 32 := 0#32
  ![v5416.toNat, 2, 0]
def k0_off1111 (v5415 : BitVec 32) : Fin 2 → Nat :=
  let c0_i32_2388 : BitVec 32 := 0#32
  ![v5415.toNat, 0]

def k0_chk659 (i : grid0.Coords) (v5415 : BitVec 32) : Prop :=
  (∀ (k0_h20 : k0_cond20 i = 1#1), ∀ a, (k0_off1111 v5415) a + S1x8192.size a ≤ S8192x8192.size a)
theorem k0_off1111_inb : ∀ (i : grid0.Coords) (v5415 : BitVec 32) (k0_hw659 : k0_chk659 i v5415), ∀ (k0_h20 : k0_cond20 i = 1#1), ∀ a, (k0_off1111 v5415) a + S1x8192.size a ≤ S8192x8192.size a := fun i v5415 k0_hw659 k0_h20 => k0_hw659 k0_h20

def k0_off1112 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c144_i32_2390 : BitVec 32 := 144#32
  let v5424 : BitVec 32 := Scalar.addi v5423 c144_i32_2390
  let c3_i32_2391 : BitVec 32 := 3#32
  let v5425 : BitVec 32 := Scalar.addi v5424 c3_i32_2391
  let v5426 : Index := Scalar.indexCast v5425
  ![v5426.toNat]
def k0_off1113 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2393 : BitVec 32 := 18#32
  let v5429 : BitVec 32 := Scalar.addi v5386 c18_i32_2393
  ![v5429.toNat]
def k0_off1114 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2392 : BitVec 32 := 18#32
  let v5428 : BitVec 32 := Scalar.addi v5386 c18_i32_2392
  let c3_i32_2394 : BitVec 32 := 3#32
  let c0_i32_2395 : BitVec 32 := 0#32
  ![v5428.toNat, 3, 0]
def k0_off1115 (v5427 : BitVec 32) : Fin 2 → Nat :=
  let c0_i32_2396 : BitVec 32 := 0#32
  ![v5427.toNat, 0]

def k0_chk660 (i : grid0.Coords) (v5427 : BitVec 32) : Prop :=
  (∀ (k0_h20 : k0_cond20 i = 1#1), ∀ a, (k0_off1115 v5427) a + S1x8192.size a ≤ S8192x8192.size a)
theorem k0_off1115_inb : ∀ (i : grid0.Coords) (v5427 : BitVec 32) (k0_hw660 : k0_chk660 i v5427), ∀ (k0_h20 : k0_cond20 i = 1#1), ∀ a, (k0_off1115 v5427) a + S1x8192.size a ≤ S8192x8192.size a := fun i v5427 k0_hw660 k0_h20 => k0_hw660 k0_h20

def k0_off1116 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c144_i32_2398 : BitVec 32 := 144#32
  let v5436 : BitVec 32 := Scalar.addi v5435 c144_i32_2398
  let c4_i32_2399 : BitVec 32 := 4#32
  let v5437 : BitVec 32 := Scalar.addi v5436 c4_i32_2399
  let v5438 : Index := Scalar.indexCast v5437
  ![v5438.toNat]
def k0_off1117 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2401 : BitVec 32 := 18#32
  let v5441 : BitVec 32 := Scalar.addi v5386 c18_i32_2401
  ![v5441.toNat]
def k0_off1118 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2400 : BitVec 32 := 18#32
  let v5440 : BitVec 32 := Scalar.addi v5386 c18_i32_2400
  let c4_i32_2402 : BitVec 32 := 4#32
  let c0_i32_2403 : BitVec 32 := 0#32
  ![v5440.toNat, 4, 0]
def k0_off1119 (v5439 : BitVec 32) : Fin 2 → Nat :=
  let c0_i32_2404 : BitVec 32 := 0#32
  ![v5439.toNat, 0]

def k0_chk661 (i : grid0.Coords) (v5439 : BitVec 32) : Prop :=
  (∀ (k0_h20 : k0_cond20 i = 1#1), ∀ a, (k0_off1119 v5439) a + S1x8192.size a ≤ S8192x8192.size a)
theorem k0_off1119_inb : ∀ (i : grid0.Coords) (v5439 : BitVec 32) (k0_hw661 : k0_chk661 i v5439), ∀ (k0_h20 : k0_cond20 i = 1#1), ∀ a, (k0_off1119 v5439) a + S1x8192.size a ≤ S8192x8192.size a := fun i v5439 k0_hw661 k0_h20 => k0_hw661 k0_h20

def k0_off1120 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c144_i32_2406 : BitVec 32 := 144#32
  let v5448 : BitVec 32 := Scalar.addi v5447 c144_i32_2406
  let c5_i32_2407 : BitVec 32 := 5#32
  let v5449 : BitVec 32 := Scalar.addi v5448 c5_i32_2407
  let v5450 : Index := Scalar.indexCast v5449
  ![v5450.toNat]
def k0_off1121 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2409 : BitVec 32 := 18#32
  let v5453 : BitVec 32 := Scalar.addi v5386 c18_i32_2409
  ![v5453.toNat]
def k0_off1122 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2408 : BitVec 32 := 18#32
  let v5452 : BitVec 32 := Scalar.addi v5386 c18_i32_2408
  let c5_i32_2410 : BitVec 32 := 5#32
  let c0_i32_2411 : BitVec 32 := 0#32
  ![v5452.toNat, 5, 0]
def k0_off1123 (v5451 : BitVec 32) : Fin 2 → Nat :=
  let c0_i32_2412 : BitVec 32 := 0#32
  ![v5451.toNat, 0]

def k0_chk662 (i : grid0.Coords) (v5451 : BitVec 32) : Prop :=
  (∀ (k0_h20 : k0_cond20 i = 1#1), ∀ a, (k0_off1123 v5451) a + S1x8192.size a ≤ S8192x8192.size a)
theorem k0_off1123_inb : ∀ (i : grid0.Coords) (v5451 : BitVec 32) (k0_hw662 : k0_chk662 i v5451), ∀ (k0_h20 : k0_cond20 i = 1#1), ∀ a, (k0_off1123 v5451) a + S1x8192.size a ≤ S8192x8192.size a := fun i v5451 k0_hw662 k0_h20 => k0_hw662 k0_h20

def k0_off1124 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c144_i32_2414 : BitVec 32 := 144#32
  let v5460 : BitVec 32 := Scalar.addi v5459 c144_i32_2414
  let c6_i32_2415 : BitVec 32 := 6#32
  let v5461 : BitVec 32 := Scalar.addi v5460 c6_i32_2415
  let v5462 : Index := Scalar.indexCast v5461
  ![v5462.toNat]
def k0_off1125 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2417 : BitVec 32 := 18#32
  let v5465 : BitVec 32 := Scalar.addi v5386 c18_i32_2417
  ![v5465.toNat]
def k0_off1126 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2416 : BitVec 32 := 18#32
  let v5464 : BitVec 32 := Scalar.addi v5386 c18_i32_2416
  let c6_i32_2418 : BitVec 32 := 6#32
  let c0_i32_2419 : BitVec 32 := 0#32
  ![v5464.toNat, 6, 0]
def k0_off1127 (v5463 : BitVec 32) : Fin 2 → Nat :=
  let c0_i32_2420 : BitVec 32 := 0#32
  ![v5463.toNat, 0]

def k0_chk663 (i : grid0.Coords) (v5463 : BitVec 32) : Prop :=
  (∀ (k0_h20 : k0_cond20 i = 1#1), ∀ a, (k0_off1127 v5463) a + S1x8192.size a ≤ S8192x8192.size a)
theorem k0_off1127_inb : ∀ (i : grid0.Coords) (v5463 : BitVec 32) (k0_hw663 : k0_chk663 i v5463), ∀ (k0_h20 : k0_cond20 i = 1#1), ∀ a, (k0_off1127 v5463) a + S1x8192.size a ≤ S8192x8192.size a := fun i v5463 k0_hw663 k0_h20 => k0_hw663 k0_h20

def k0_off1128 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c144_i32_2422 : BitVec 32 := 144#32
  let v5472 : BitVec 32 := Scalar.addi v5471 c144_i32_2422
  let c7_i32_2423 : BitVec 32 := 7#32
  let v5473 : BitVec 32 := Scalar.addi v5472 c7_i32_2423
  let v5474 : Index := Scalar.indexCast v5473
  ![v5474.toNat]
def k0_off1129 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2425 : BitVec 32 := 18#32
  let v5477 : BitVec 32 := Scalar.addi v5386 c18_i32_2425
  ![v5477.toNat]
def k0_off1130 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c18_i32_2424 : BitVec 32 := 18#32
  let v5476 : BitVec 32 := Scalar.addi v5386 c18_i32_2424
  let c7_i32_2426 : BitVec 32 := 7#32
  let c0_i32_2427 : BitVec 32 := 0#32
  ![v5476.toNat, 7, 0]
def k0_off1131 (v5475 : BitVec 32) : Fin 2 → Nat :=
  let c0_i32_2428 : BitVec 32 := 0#32
  ![v5475.toNat, 0]

def k0_chk664 (i : grid0.Coords) (v5475 : BitVec 32) : Prop :=
  (∀ (k0_h20 : k0_cond20 i = 1#1), ∀ a, (k0_off1131 v5475) a + S1x8192.size a ≤ S8192x8192.size a)
theorem k0_off1131_inb : ∀ (i : grid0.Coords) (v5475 : BitVec 32) (k0_hw664 : k0_chk664 i v5475), ∀ (k0_h20 : k0_cond20 i = 1#1), ∀ a, (k0_off1131 v5475) a + S1x8192.size a ≤ S8192x8192.size a := fun i v5475 k0_hw664 k0_h20 => k0_hw664 k0_h20

def k0_cond21 (i : grid0.Coords) : BitVec 1 :=
  let arg0 : BitVec 32 := BitVec.ofNat 32 (i 0).val
  let c3_i32_1397 : BitVec 32 := 3#32
  let v3170 : BitVec 32 := Scalar.addi arg0 c3_i32_1397
  let c1_i32_1398 : BitVec 32 := 1#32
  let v3171 : BitVec 32 := Scalar.subi v3170 c1_i32_1398
  let c64_i32_1399 : BitVec 32 := 64#32
  let v3172 : BitVec 1 := Scalar.cmpi .slt v3171 c64_i32_1399
  let v3173 : BitVec 32 := Scalar.extui v3172
  let c0_i32_1400 : BitVec 32 := 0#32
  let v3174 : BitVec 1 := Scalar.cmpi .ne v3173 c0_i32_1400
  v3174

def k0_off1132 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c152_i32_2366 : BitVec 32 := 152#32
  let v5388 : BitVec 32 := Scalar.addi v5387 c152_i32_2366
  let c0_i32_2367 : BitVec 32 := 0#32
  let v5389 : BitVec 32 := Scalar.addi v5388 c0_i32_2367
  let v5390 : Index := Scalar.indexCast v5389
  ![v5390.toNat]
def k0_off1133 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2369 : BitVec 32 := 19#32
  let v5393 : BitVec 32 := Scalar.addi v5386 c19_i32_2369
  ![v5393.toNat]
def k0_off1134 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2368 : BitVec 32 := 19#32
  let v5392 : BitVec 32 := Scalar.addi v5386 c19_i32_2368
  let c0_i32_2370 : BitVec 32 := 0#32
  let c0_i32_2371 : BitVec 32 := 0#32
  ![v5392.toNat, 0, 0]
def k0_off1135 (v5391 : BitVec 32) : Fin 2 → Nat :=
  let c0_i32_2372 : BitVec 32 := 0#32
  ![v5391.toNat, 0]

def k0_chk665 (i : grid0.Coords) (v5391 : BitVec 32) : Prop :=
  (∀ (k0_h21 : k0_cond21 i = 1#1), ∀ a, (k0_off1135 v5391) a + S1x8192.size a ≤ S8192x8192.size a)
theorem k0_off1135_inb : ∀ (i : grid0.Coords) (v5391 : BitVec 32) (k0_hw665 : k0_chk665 i v5391), ∀ (k0_h21 : k0_cond21 i = 1#1), ∀ a, (k0_off1135 v5391) a + S1x8192.size a ≤ S8192x8192.size a := fun i v5391 k0_hw665 k0_h21 => k0_hw665 k0_h21

def k0_off1136 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c152_i32_2374 : BitVec 32 := 152#32
  let v5400 : BitVec 32 := Scalar.addi v5399 c152_i32_2374
  let c1_i32_2375 : BitVec 32 := 1#32
  let v5401 : BitVec 32 := Scalar.addi v5400 c1_i32_2375
  let v5402 : Index := Scalar.indexCast v5401
  ![v5402.toNat]
def k0_off1137 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2377 : BitVec 32 := 19#32
  let v5405 : BitVec 32 := Scalar.addi v5386 c19_i32_2377
  ![v5405.toNat]
def k0_off1138 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2376 : BitVec 32 := 19#32
  let v5404 : BitVec 32 := Scalar.addi v5386 c19_i32_2376
  let c1_i32_2378 : BitVec 32 := 1#32
  let c0_i32_2379 : BitVec 32 := 0#32
  ![v5404.toNat, 1, 0]
def k0_off1139 (v5403 : BitVec 32) : Fin 2 → Nat :=
  let c0_i32_2380 : BitVec 32 := 0#32
  ![v5403.toNat, 0]

def k0_chk666 (i : grid0.Coords) (v5403 : BitVec 32) : Prop :=
  (∀ (k0_h21 : k0_cond21 i = 1#1), ∀ a, (k0_off1139 v5403) a + S1x8192.size a ≤ S8192x8192.size a)
theorem k0_off1139_inb : ∀ (i : grid0.Coords) (v5403 : BitVec 32) (k0_hw666 : k0_chk666 i v5403), ∀ (k0_h21 : k0_cond21 i = 1#1), ∀ a, (k0_off1139 v5403) a + S1x8192.size a ≤ S8192x8192.size a := fun i v5403 k0_hw666 k0_h21 => k0_hw666 k0_h21

def k0_off1140 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c152_i32_2382 : BitVec 32 := 152#32
  let v5412 : BitVec 32 := Scalar.addi v5411 c152_i32_2382
  let c2_i32_2383 : BitVec 32 := 2#32
  let v5413 : BitVec 32 := Scalar.addi v5412 c2_i32_2383
  let v5414 : Index := Scalar.indexCast v5413
  ![v5414.toNat]
def k0_off1141 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2385 : BitVec 32 := 19#32
  let v5417 : BitVec 32 := Scalar.addi v5386 c19_i32_2385
  ![v5417.toNat]
def k0_off1142 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2384 : BitVec 32 := 19#32
  let v5416 : BitVec 32 := Scalar.addi v5386 c19_i32_2384
  let c2_i32_2386 : BitVec 32 := 2#32
  let c0_i32_2387 : BitVec 32 := 0#32
  ![v5416.toNat, 2, 0]
def k0_off1143 (v5415 : BitVec 32) : Fin 2 → Nat :=
  let c0_i32_2388 : BitVec 32 := 0#32
  ![v5415.toNat, 0]

def k0_chk667 (i : grid0.Coords) (v5415 : BitVec 32) : Prop :=
  (∀ (k0_h21 : k0_cond21 i = 1#1), ∀ a, (k0_off1143 v5415) a + S1x8192.size a ≤ S8192x8192.size a)
theorem k0_off1143_inb : ∀ (i : grid0.Coords) (v5415 : BitVec 32) (k0_hw667 : k0_chk667 i v5415), ∀ (k0_h21 : k0_cond21 i = 1#1), ∀ a, (k0_off1143 v5415) a + S1x8192.size a ≤ S8192x8192.size a := fun i v5415 k0_hw667 k0_h21 => k0_hw667 k0_h21

def k0_off1144 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c152_i32_2390 : BitVec 32 := 152#32
  let v5424 : BitVec 32 := Scalar.addi v5423 c152_i32_2390
  let c3_i32_2391 : BitVec 32 := 3#32
  let v5425 : BitVec 32 := Scalar.addi v5424 c3_i32_2391
  let v5426 : Index := Scalar.indexCast v5425
  ![v5426.toNat]
def k0_off1145 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2393 : BitVec 32 := 19#32
  let v5429 : BitVec 32 := Scalar.addi v5386 c19_i32_2393
  ![v5429.toNat]
def k0_off1146 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2392 : BitVec 32 := 19#32
  let v5428 : BitVec 32 := Scalar.addi v5386 c19_i32_2392
  let c3_i32_2394 : BitVec 32 := 3#32
  let c0_i32_2395 : BitVec 32 := 0#32
  ![v5428.toNat, 3, 0]
def k0_off1147 (v5427 : BitVec 32) : Fin 2 → Nat :=
  let c0_i32_2396 : BitVec 32 := 0#32
  ![v5427.toNat, 0]

def k0_chk668 (i : grid0.Coords) (v5427 : BitVec 32) : Prop :=
  (∀ (k0_h21 : k0_cond21 i = 1#1), ∀ a, (k0_off1147 v5427) a + S1x8192.size a ≤ S8192x8192.size a)
theorem k0_off1147_inb : ∀ (i : grid0.Coords) (v5427 : BitVec 32) (k0_hw668 : k0_chk668 i v5427), ∀ (k0_h21 : k0_cond21 i = 1#1), ∀ a, (k0_off1147 v5427) a + S1x8192.size a ≤ S8192x8192.size a := fun i v5427 k0_hw668 k0_h21 => k0_hw668 k0_h21

def k0_off1148 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c152_i32_2398 : BitVec 32 := 152#32
  let v5436 : BitVec 32 := Scalar.addi v5435 c152_i32_2398
  let c4_i32_2399 : BitVec 32 := 4#32
  let v5437 : BitVec 32 := Scalar.addi v5436 c4_i32_2399
  let v5438 : Index := Scalar.indexCast v5437
  ![v5438.toNat]
def k0_off1149 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2401 : BitVec 32 := 19#32
  let v5441 : BitVec 32 := Scalar.addi v5386 c19_i32_2401
  ![v5441.toNat]
def k0_off1150 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2400 : BitVec 32 := 19#32
  let v5440 : BitVec 32 := Scalar.addi v5386 c19_i32_2400
  let c4_i32_2402 : BitVec 32 := 4#32
  let c0_i32_2403 : BitVec 32 := 0#32
  ![v5440.toNat, 4, 0]
def k0_off1151 (v5439 : BitVec 32) : Fin 2 → Nat :=
  let c0_i32_2404 : BitVec 32 := 0#32
  ![v5439.toNat, 0]

def k0_chk669 (i : grid0.Coords) (v5439 : BitVec 32) : Prop :=
  (∀ (k0_h21 : k0_cond21 i = 1#1), ∀ a, (k0_off1151 v5439) a + S1x8192.size a ≤ S8192x8192.size a)
theorem k0_off1151_inb : ∀ (i : grid0.Coords) (v5439 : BitVec 32) (k0_hw669 : k0_chk669 i v5439), ∀ (k0_h21 : k0_cond21 i = 1#1), ∀ a, (k0_off1151 v5439) a + S1x8192.size a ≤ S8192x8192.size a := fun i v5439 k0_hw669 k0_h21 => k0_hw669 k0_h21

def k0_off1152 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c152_i32_2406 : BitVec 32 := 152#32
  let v5448 : BitVec 32 := Scalar.addi v5447 c152_i32_2406
  let c5_i32_2407 : BitVec 32 := 5#32
  let v5449 : BitVec 32 := Scalar.addi v5448 c5_i32_2407
  let v5450 : Index := Scalar.indexCast v5449
  ![v5450.toNat]
def k0_off1153 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2409 : BitVec 32 := 19#32
  let v5453 : BitVec 32 := Scalar.addi v5386 c19_i32_2409
  ![v5453.toNat]
def k0_off1154 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2408 : BitVec 32 := 19#32
  let v5452 : BitVec 32 := Scalar.addi v5386 c19_i32_2408
  let c5_i32_2410 : BitVec 32 := 5#32
  let c0_i32_2411 : BitVec 32 := 0#32
  ![v5452.toNat, 5, 0]
def k0_off1155 (v5451 : BitVec 32) : Fin 2 → Nat :=
  let c0_i32_2412 : BitVec 32 := 0#32
  ![v5451.toNat, 0]

def k0_chk670 (i : grid0.Coords) (v5451 : BitVec 32) : Prop :=
  (∀ (k0_h21 : k0_cond21 i = 1#1), ∀ a, (k0_off1155 v5451) a + S1x8192.size a ≤ S8192x8192.size a)
theorem k0_off1155_inb : ∀ (i : grid0.Coords) (v5451 : BitVec 32) (k0_hw670 : k0_chk670 i v5451), ∀ (k0_h21 : k0_cond21 i = 1#1), ∀ a, (k0_off1155 v5451) a + S1x8192.size a ≤ S8192x8192.size a := fun i v5451 k0_hw670 k0_h21 => k0_hw670 k0_h21

def k0_off1156 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c152_i32_2414 : BitVec 32 := 152#32
  let v5460 : BitVec 32 := Scalar.addi v5459 c152_i32_2414
  let c6_i32_2415 : BitVec 32 := 6#32
  let v5461 : BitVec 32 := Scalar.addi v5460 c6_i32_2415
  let v5462 : Index := Scalar.indexCast v5461
  ![v5462.toNat]
def k0_off1157 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2417 : BitVec 32 := 19#32
  let v5465 : BitVec 32 := Scalar.addi v5386 c19_i32_2417
  ![v5465.toNat]
def k0_off1158 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2416 : BitVec 32 := 19#32
  let v5464 : BitVec 32 := Scalar.addi v5386 c19_i32_2416
  let c6_i32_2418 : BitVec 32 := 6#32
  let c0_i32_2419 : BitVec 32 := 0#32
  ![v5464.toNat, 6, 0]
def k0_off1159 (v5463 : BitVec 32) : Fin 2 → Nat :=
  let c0_i32_2420 : BitVec 32 := 0#32
  ![v5463.toNat, 0]

def k0_chk671 (i : grid0.Coords) (v5463 : BitVec 32) : Prop :=
  (∀ (k0_h21 : k0_cond21 i = 1#1), ∀ a, (k0_off1159 v5463) a + S1x8192.size a ≤ S8192x8192.size a)
theorem k0_off1159_inb : ∀ (i : grid0.Coords) (v5463 : BitVec 32) (k0_hw671 : k0_chk671 i v5463), ∀ (k0_h21 : k0_cond21 i = 1#1), ∀ a, (k0_off1159 v5463) a + S1x8192.size a ≤ S8192x8192.size a := fun i v5463 k0_hw671 k0_h21 => k0_hw671 k0_h21

def k0_off1160 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c152_i32_2422 : BitVec 32 := 152#32
  let v5472 : BitVec 32 := Scalar.addi v5471 c152_i32_2422
  let c7_i32_2423 : BitVec 32 := 7#32
  let v5473 : BitVec 32 := Scalar.addi v5472 c7_i32_2423
  let v5474 : Index := Scalar.indexCast v5473
  ![v5474.toNat]
def k0_off1161 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2425 : BitVec 32 := 19#32
  let v5477 : BitVec 32 := Scalar.addi v5386 c19_i32_2425
  ![v5477.toNat]
def k0_off1162 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c19_i32_2424 : BitVec 32 := 19#32
  let v5476 : BitVec 32 := Scalar.addi v5386 c19_i32_2424
  let c7_i32_2426 : BitVec 32 := 7#32
  let c0_i32_2427 : BitVec 32 := 0#32
  ![v5476.toNat, 7, 0]
def k0_off1163 (v5475 : BitVec 32) : Fin 2 → Nat :=
  let c0_i32_2428 : BitVec 32 := 0#32
  ![v5475.toNat, 0]

def k0_chk672 (i : grid0.Coords) (v5475 : BitVec 32) : Prop :=
  (∀ (k0_h21 : k0_cond21 i = 1#1), ∀ a, (k0_off1163 v5475) a + S1x8192.size a ≤ S8192x8192.size a)
theorem k0_off1163_inb : ∀ (i : grid0.Coords) (v5475 : BitVec 32) (k0_hw672 : k0_chk672 i v5475), ∀ (k0_h21 : k0_cond21 i = 1#1), ∀ a, (k0_off1163 v5475) a + S1x8192.size a ≤ S8192x8192.size a := fun i v5475 k0_hw672 k0_h21 => k0_hw672 k0_h21

def k0_cond22 (i : grid0.Coords) : BitVec 1 :=
  let arg0 : BitVec 32 := BitVec.ofNat 32 (i 0).val
  let c3_i32_1470 : BitVec 32 := 3#32
  let v3336 : BitVec 32 := Scalar.addi arg0 c3_i32_1470
  let c1_i32_1471 : BitVec 32 := 1#32
  let v3337 : BitVec 32 := Scalar.subi v3336 c1_i32_1471
  let c64_i32_1472 : BitVec 32 := 64#32
  let v3338 : BitVec 1 := Scalar.cmpi .slt v3337 c64_i32_1472
  let v3339 : BitVec 32 := Scalar.extui v3338
  let c0_i32_1473 : BitVec 32 := 0#32
  let v3340 : BitVec 1 := Scalar.cmpi .ne v3339 c0_i32_1473
  v3340

def k0_off1164 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c160_i32_2366 : BitVec 32 := 160#32
  let v5388 : BitVec 32 := Scalar.addi v5387 c160_i32_2366
  let c0_i32_2367 : BitVec 32 := 0#32
  let v5389 : BitVec 32 := Scalar.addi v5388 c0_i32_2367
  let v5390 : Index := Scalar.indexCast v5389
  ![v5390.toNat]
def k0_off1165 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2369 : BitVec 32 := 20#32
  let v5393 : BitVec 32 := Scalar.addi v5386 c20_i32_2369
  ![v5393.toNat]
def k0_off1166 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2368 : BitVec 32 := 20#32
  let v5392 : BitVec 32 := Scalar.addi v5386 c20_i32_2368
  let c0_i32_2370 : BitVec 32 := 0#32
  let c0_i32_2371 : BitVec 32 := 0#32
  ![v5392.toNat, 0, 0]
def k0_off1167 (v5391 : BitVec 32) : Fin 2 → Nat :=
  let c0_i32_2372 : BitVec 32 := 0#32
  ![v5391.toNat, 0]

def k0_chk673 (i : grid0.Coords) (v5391 : BitVec 32) : Prop :=
  (∀ (k0_h22 : k0_cond22 i = 1#1), ∀ a, (k0_off1167 v5391) a + S1x8192.size a ≤ S8192x8192.size a)
theorem k0_off1167_inb : ∀ (i : grid0.Coords) (v5391 : BitVec 32) (k0_hw673 : k0_chk673 i v5391), ∀ (k0_h22 : k0_cond22 i = 1#1), ∀ a, (k0_off1167 v5391) a + S1x8192.size a ≤ S8192x8192.size a := fun i v5391 k0_hw673 k0_h22 => k0_hw673 k0_h22

def k0_off1168 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c160_i32_2374 : BitVec 32 := 160#32
  let v5400 : BitVec 32 := Scalar.addi v5399 c160_i32_2374
  let c1_i32_2375 : BitVec 32 := 1#32
  let v5401 : BitVec 32 := Scalar.addi v5400 c1_i32_2375
  let v5402 : Index := Scalar.indexCast v5401
  ![v5402.toNat]
def k0_off1169 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2377 : BitVec 32 := 20#32
  let v5405 : BitVec 32 := Scalar.addi v5386 c20_i32_2377
  ![v5405.toNat]
def k0_off1170 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2376 : BitVec 32 := 20#32
  let v5404 : BitVec 32 := Scalar.addi v5386 c20_i32_2376
  let c1_i32_2378 : BitVec 32 := 1#32
  let c0_i32_2379 : BitVec 32 := 0#32
  ![v5404.toNat, 1, 0]
def k0_off1171 (v5403 : BitVec 32) : Fin 2 → Nat :=
  let c0_i32_2380 : BitVec 32 := 0#32
  ![v5403.toNat, 0]

def k0_chk674 (i : grid0.Coords) (v5403 : BitVec 32) : Prop :=
  (∀ (k0_h22 : k0_cond22 i = 1#1), ∀ a, (k0_off1171 v5403) a + S1x8192.size a ≤ S8192x8192.size a)
theorem k0_off1171_inb : ∀ (i : grid0.Coords) (v5403 : BitVec 32) (k0_hw674 : k0_chk674 i v5403), ∀ (k0_h22 : k0_cond22 i = 1#1), ∀ a, (k0_off1171 v5403) a + S1x8192.size a ≤ S8192x8192.size a := fun i v5403 k0_hw674 k0_h22 => k0_hw674 k0_h22

def k0_off1172 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c160_i32_2382 : BitVec 32 := 160#32
  let v5412 : BitVec 32 := Scalar.addi v5411 c160_i32_2382
  let c2_i32_2383 : BitVec 32 := 2#32
  let v5413 : BitVec 32 := Scalar.addi v5412 c2_i32_2383
  let v5414 : Index := Scalar.indexCast v5413
  ![v5414.toNat]
def k0_off1173 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2385 : BitVec 32 := 20#32
  let v5417 : BitVec 32 := Scalar.addi v5386 c20_i32_2385
  ![v5417.toNat]
def k0_off1174 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2384 : BitVec 32 := 20#32
  let v5416 : BitVec 32 := Scalar.addi v5386 c20_i32_2384
  let c2_i32_2386 : BitVec 32 := 2#32
  let c0_i32_2387 : BitVec 32 := 0#32
  ![v5416.toNat, 2, 0]
def k0_off1175 (v5415 : BitVec 32) : Fin 2 → Nat :=
  let c0_i32_2388 : BitVec 32 := 0#32
  ![v5415.toNat, 0]

def k0_chk675 (i : grid0.Coords) (v5415 : BitVec 32) : Prop :=
  (∀ (k0_h22 : k0_cond22 i = 1#1), ∀ a, (k0_off1175 v5415) a + S1x8192.size a ≤ S8192x8192.size a)
theorem k0_off1175_inb : ∀ (i : grid0.Coords) (v5415 : BitVec 32) (k0_hw675 : k0_chk675 i v5415), ∀ (k0_h22 : k0_cond22 i = 1#1), ∀ a, (k0_off1175 v5415) a + S1x8192.size a ≤ S8192x8192.size a := fun i v5415 k0_hw675 k0_h22 => k0_hw675 k0_h22

def k0_off1176 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c160_i32_2390 : BitVec 32 := 160#32
  let v5424 : BitVec 32 := Scalar.addi v5423 c160_i32_2390
  let c3_i32_2391 : BitVec 32 := 3#32
  let v5425 : BitVec 32 := Scalar.addi v5424 c3_i32_2391
  let v5426 : Index := Scalar.indexCast v5425
  ![v5426.toNat]
def k0_off1177 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2393 : BitVec 32 := 20#32
  let v5429 : BitVec 32 := Scalar.addi v5386 c20_i32_2393
  ![v5429.toNat]
def k0_off1178 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2392 : BitVec 32 := 20#32
  let v5428 : BitVec 32 := Scalar.addi v5386 c20_i32_2392
  let c3_i32_2394 : BitVec 32 := 3#32
  let c0_i32_2395 : BitVec 32 := 0#32
  ![v5428.toNat, 3, 0]
def k0_off1179 (v5427 : BitVec 32) : Fin 2 → Nat :=
  let c0_i32_2396 : BitVec 32 := 0#32
  ![v5427.toNat, 0]

def k0_chk676 (i : grid0.Coords) (v5427 : BitVec 32) : Prop :=
  (∀ (k0_h22 : k0_cond22 i = 1#1), ∀ a, (k0_off1179 v5427) a + S1x8192.size a ≤ S8192x8192.size a)
theorem k0_off1179_inb : ∀ (i : grid0.Coords) (v5427 : BitVec 32) (k0_hw676 : k0_chk676 i v5427), ∀ (k0_h22 : k0_cond22 i = 1#1), ∀ a, (k0_off1179 v5427) a + S1x8192.size a ≤ S8192x8192.size a := fun i v5427 k0_hw676 k0_h22 => k0_hw676 k0_h22

def k0_off1180 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c160_i32_2398 : BitVec 32 := 160#32
  let v5436 : BitVec 32 := Scalar.addi v5435 c160_i32_2398
  let c4_i32_2399 : BitVec 32 := 4#32
  let v5437 : BitVec 32 := Scalar.addi v5436 c4_i32_2399
  let v5438 : Index := Scalar.indexCast v5437
  ![v5438.toNat]
def k0_off1181 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2401 : BitVec 32 := 20#32
  let v5441 : BitVec 32 := Scalar.addi v5386 c20_i32_2401
  ![v5441.toNat]
def k0_off1182 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2400 : BitVec 32 := 20#32
  let v5440 : BitVec 32 := Scalar.addi v5386 c20_i32_2400
  let c4_i32_2402 : BitVec 32 := 4#32
  let c0_i32_2403 : BitVec 32 := 0#32
  ![v5440.toNat, 4, 0]
def k0_off1183 (v5439 : BitVec 32) : Fin 2 → Nat :=
  let c0_i32_2404 : BitVec 32 := 0#32
  ![v5439.toNat, 0]

def k0_chk677 (i : grid0.Coords) (v5439 : BitVec 32) : Prop :=
  (∀ (k0_h22 : k0_cond22 i = 1#1), ∀ a, (k0_off1183 v5439) a + S1x8192.size a ≤ S8192x8192.size a)
theorem k0_off1183_inb : ∀ (i : grid0.Coords) (v5439 : BitVec 32) (k0_hw677 : k0_chk677 i v5439), ∀ (k0_h22 : k0_cond22 i = 1#1), ∀ a, (k0_off1183 v5439) a + S1x8192.size a ≤ S8192x8192.size a := fun i v5439 k0_hw677 k0_h22 => k0_hw677 k0_h22

def k0_off1184 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c160_i32_2406 : BitVec 32 := 160#32
  let v5448 : BitVec 32 := Scalar.addi v5447 c160_i32_2406
  let c5_i32_2407 : BitVec 32 := 5#32
  let v5449 : BitVec 32 := Scalar.addi v5448 c5_i32_2407
  let v5450 : Index := Scalar.indexCast v5449
  ![v5450.toNat]
def k0_off1185 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2409 : BitVec 32 := 20#32
  let v5453 : BitVec 32 := Scalar.addi v5386 c20_i32_2409
  ![v5453.toNat]
def k0_off1186 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2408 : BitVec 32 := 20#32
  let v5452 : BitVec 32 := Scalar.addi v5386 c20_i32_2408
  let c5_i32_2410 : BitVec 32 := 5#32
  let c0_i32_2411 : BitVec 32 := 0#32
  ![v5452.toNat, 5, 0]
def k0_off1187 (v5451 : BitVec 32) : Fin 2 → Nat :=
  let c0_i32_2412 : BitVec 32 := 0#32
  ![v5451.toNat, 0]

def k0_chk678 (i : grid0.Coords) (v5451 : BitVec 32) : Prop :=
  (∀ (k0_h22 : k0_cond22 i = 1#1), ∀ a, (k0_off1187 v5451) a + S1x8192.size a ≤ S8192x8192.size a)
theorem k0_off1187_inb : ∀ (i : grid0.Coords) (v5451 : BitVec 32) (k0_hw678 : k0_chk678 i v5451), ∀ (k0_h22 : k0_cond22 i = 1#1), ∀ a, (k0_off1187 v5451) a + S1x8192.size a ≤ S8192x8192.size a := fun i v5451 k0_hw678 k0_h22 => k0_hw678 k0_h22

def k0_off1188 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c160_i32_2414 : BitVec 32 := 160#32
  let v5460 : BitVec 32 := Scalar.addi v5459 c160_i32_2414
  let c6_i32_2415 : BitVec 32 := 6#32
  let v5461 : BitVec 32 := Scalar.addi v5460 c6_i32_2415
  let v5462 : Index := Scalar.indexCast v5461
  ![v5462.toNat]
def k0_off1189 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2417 : BitVec 32 := 20#32
  let v5465 : BitVec 32 := Scalar.addi v5386 c20_i32_2417
  ![v5465.toNat]
def k0_off1190 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2416 : BitVec 32 := 20#32
  let v5464 : BitVec 32 := Scalar.addi v5386 c20_i32_2416
  let c6_i32_2418 : BitVec 32 := 6#32
  let c0_i32_2419 : BitVec 32 := 0#32
  ![v5464.toNat, 6, 0]
def k0_off1191 (v5463 : BitVec 32) : Fin 2 → Nat :=
  let c0_i32_2420 : BitVec 32 := 0#32
  ![v5463.toNat, 0]

def k0_chk679 (i : grid0.Coords) (v5463 : BitVec 32) : Prop :=
  (∀ (k0_h22 : k0_cond22 i = 1#1), ∀ a, (k0_off1191 v5463) a + S1x8192.size a ≤ S8192x8192.size a)
theorem k0_off1191_inb : ∀ (i : grid0.Coords) (v5463 : BitVec 32) (k0_hw679 : k0_chk679 i v5463), ∀ (k0_h22 : k0_cond22 i = 1#1), ∀ a, (k0_off1191 v5463) a + S1x8192.size a ≤ S8192x8192.size a := fun i v5463 k0_hw679 k0_h22 => k0_hw679 k0_h22

def k0_off1192 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c160_i32_2422 : BitVec 32 := 160#32
  let v5472 : BitVec 32 := Scalar.addi v5471 c160_i32_2422
  let c7_i32_2423 : BitVec 32 := 7#32
  let v5473 : BitVec 32 := Scalar.addi v5472 c7_i32_2423
  let v5474 : Index := Scalar.indexCast v5473
  ![v5474.toNat]
def k0_off1193 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2425 : BitVec 32 := 20#32
  let v5477 : BitVec 32 := Scalar.addi v5386 c20_i32_2425
  ![v5477.toNat]
def k0_off1194 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c20_i32_2424 : BitVec 32 := 20#32
  let v5476 : BitVec 32 := Scalar.addi v5386 c20_i32_2424
  let c7_i32_2426 : BitVec 32 := 7#32
  let c0_i32_2427 : BitVec 32 := 0#32
  ![v5476.toNat, 7, 0]
def k0_off1195 (v5475 : BitVec 32) : Fin 2 → Nat :=
  let c0_i32_2428 : BitVec 32 := 0#32
  ![v5475.toNat, 0]

def k0_chk680 (i : grid0.Coords) (v5475 : BitVec 32) : Prop :=
  (∀ (k0_h22 : k0_cond22 i = 1#1), ∀ a, (k0_off1195 v5475) a + S1x8192.size a ≤ S8192x8192.size a)
theorem k0_off1195_inb : ∀ (i : grid0.Coords) (v5475 : BitVec 32) (k0_hw680 : k0_chk680 i v5475), ∀ (k0_h22 : k0_cond22 i = 1#1), ∀ a, (k0_off1195 v5475) a + S1x8192.size a ≤ S8192x8192.size a := fun i v5475 k0_hw680 k0_h22 => k0_hw680 k0_h22

def k0_cond23 (i : grid0.Coords) : BitVec 1 :=
  let arg0 : BitVec 32 := BitVec.ofNat 32 (i 0).val
  let c3_i32_1543 : BitVec 32 := 3#32
  let v3502 : BitVec 32 := Scalar.addi arg0 c3_i32_1543
  let c1_i32_1544 : BitVec 32 := 1#32
  let v3503 : BitVec 32 := Scalar.subi v3502 c1_i32_1544
  let c64_i32_1545 : BitVec 32 := 64#32
  let v3504 : BitVec 1 := Scalar.cmpi .slt v3503 c64_i32_1545
  let v3505 : BitVec 32 := Scalar.extui v3504
  let c0_i32_1546 : BitVec 32 := 0#32
  let v3506 : BitVec 1 := Scalar.cmpi .ne v3505 c0_i32_1546
  v3506

def k0_off1196 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c168_i32_2366 : BitVec 32 := 168#32
  let v5388 : BitVec 32 := Scalar.addi v5387 c168_i32_2366
  let c0_i32_2367 : BitVec 32 := 0#32
  let v5389 : BitVec 32 := Scalar.addi v5388 c0_i32_2367
  let v5390 : Index := Scalar.indexCast v5389
  ![v5390.toNat]
def k0_off1197 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2369 : BitVec 32 := 21#32
  let v5393 : BitVec 32 := Scalar.addi v5386 c21_i32_2369
  ![v5393.toNat]
def k0_off1198 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2368 : BitVec 32 := 21#32
  let v5392 : BitVec 32 := Scalar.addi v5386 c21_i32_2368
  let c0_i32_2370 : BitVec 32 := 0#32
  let c0_i32_2371 : BitVec 32 := 0#32
  ![v5392.toNat, 0, 0]
def k0_off1199 (v5391 : BitVec 32) : Fin 2 → Nat :=
  let c0_i32_2372 : BitVec 32 := 0#32
  ![v5391.toNat, 0]

def k0_chk681 (i : grid0.Coords) (v5391 : BitVec 32) : Prop :=
  (∀ (k0_h23 : k0_cond23 i = 1#1), ∀ a, (k0_off1199 v5391) a + S1x8192.size a ≤ S8192x8192.size a)
theorem k0_off1199_inb : ∀ (i : grid0.Coords) (v5391 : BitVec 32) (k0_hw681 : k0_chk681 i v5391), ∀ (k0_h23 : k0_cond23 i = 1#1), ∀ a, (k0_off1199 v5391) a + S1x8192.size a ≤ S8192x8192.size a := fun i v5391 k0_hw681 k0_h23 => k0_hw681 k0_h23

def k0_off1200 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c168_i32_2374 : BitVec 32 := 168#32
  let v5400 : BitVec 32 := Scalar.addi v5399 c168_i32_2374
  let c1_i32_2375 : BitVec 32 := 1#32
  let v5401 : BitVec 32 := Scalar.addi v5400 c1_i32_2375
  let v5402 : Index := Scalar.indexCast v5401
  ![v5402.toNat]
def k0_off1201 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2377 : BitVec 32 := 21#32
  let v5405 : BitVec 32 := Scalar.addi v5386 c21_i32_2377
  ![v5405.toNat]
def k0_off1202 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2376 : BitVec 32 := 21#32
  let v5404 : BitVec 32 := Scalar.addi v5386 c21_i32_2376
  let c1_i32_2378 : BitVec 32 := 1#32
  let c0_i32_2379 : BitVec 32 := 0#32
  ![v5404.toNat, 1, 0]
def k0_off1203 (v5403 : BitVec 32) : Fin 2 → Nat :=
  let c0_i32_2380 : BitVec 32 := 0#32
  ![v5403.toNat, 0]

def k0_chk682 (i : grid0.Coords) (v5403 : BitVec 32) : Prop :=
  (∀ (k0_h23 : k0_cond23 i = 1#1), ∀ a, (k0_off1203 v5403) a + S1x8192.size a ≤ S8192x8192.size a)
theorem k0_off1203_inb : ∀ (i : grid0.Coords) (v5403 : BitVec 32) (k0_hw682 : k0_chk682 i v5403), ∀ (k0_h23 : k0_cond23 i = 1#1), ∀ a, (k0_off1203 v5403) a + S1x8192.size a ≤ S8192x8192.size a := fun i v5403 k0_hw682 k0_h23 => k0_hw682 k0_h23

def k0_off1204 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c168_i32_2382 : BitVec 32 := 168#32
  let v5412 : BitVec 32 := Scalar.addi v5411 c168_i32_2382
  let c2_i32_2383 : BitVec 32 := 2#32
  let v5413 : BitVec 32 := Scalar.addi v5412 c2_i32_2383
  let v5414 : Index := Scalar.indexCast v5413
  ![v5414.toNat]
def k0_off1205 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2385 : BitVec 32 := 21#32
  let v5417 : BitVec 32 := Scalar.addi v5386 c21_i32_2385
  ![v5417.toNat]
def k0_off1206 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2384 : BitVec 32 := 21#32
  let v5416 : BitVec 32 := Scalar.addi v5386 c21_i32_2384
  let c2_i32_2386 : BitVec 32 := 2#32
  let c0_i32_2387 : BitVec 32 := 0#32
  ![v5416.toNat, 2, 0]
def k0_off1207 (v5415 : BitVec 32) : Fin 2 → Nat :=
  let c0_i32_2388 : BitVec 32 := 0#32
  ![v5415.toNat, 0]

def k0_chk683 (i : grid0.Coords) (v5415 : BitVec 32) : Prop :=
  (∀ (k0_h23 : k0_cond23 i = 1#1), ∀ a, (k0_off1207 v5415) a + S1x8192.size a ≤ S8192x8192.size a)
theorem k0_off1207_inb : ∀ (i : grid0.Coords) (v5415 : BitVec 32) (k0_hw683 : k0_chk683 i v5415), ∀ (k0_h23 : k0_cond23 i = 1#1), ∀ a, (k0_off1207 v5415) a + S1x8192.size a ≤ S8192x8192.size a := fun i v5415 k0_hw683 k0_h23 => k0_hw683 k0_h23

def k0_off1208 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c168_i32_2390 : BitVec 32 := 168#32
  let v5424 : BitVec 32 := Scalar.addi v5423 c168_i32_2390
  let c3_i32_2391 : BitVec 32 := 3#32
  let v5425 : BitVec 32 := Scalar.addi v5424 c3_i32_2391
  let v5426 : Index := Scalar.indexCast v5425
  ![v5426.toNat]
def k0_off1209 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2393 : BitVec 32 := 21#32
  let v5429 : BitVec 32 := Scalar.addi v5386 c21_i32_2393
  ![v5429.toNat]
def k0_off1210 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2392 : BitVec 32 := 21#32
  let v5428 : BitVec 32 := Scalar.addi v5386 c21_i32_2392
  let c3_i32_2394 : BitVec 32 := 3#32
  let c0_i32_2395 : BitVec 32 := 0#32
  ![v5428.toNat, 3, 0]
def k0_off1211 (v5427 : BitVec 32) : Fin 2 → Nat :=
  let c0_i32_2396 : BitVec 32 := 0#32
  ![v5427.toNat, 0]

def k0_chk684 (i : grid0.Coords) (v5427 : BitVec 32) : Prop :=
  (∀ (k0_h23 : k0_cond23 i = 1#1), ∀ a, (k0_off1211 v5427) a + S1x8192.size a ≤ S8192x8192.size a)
theorem k0_off1211_inb : ∀ (i : grid0.Coords) (v5427 : BitVec 32) (k0_hw684 : k0_chk684 i v5427), ∀ (k0_h23 : k0_cond23 i = 1#1), ∀ a, (k0_off1211 v5427) a + S1x8192.size a ≤ S8192x8192.size a := fun i v5427 k0_hw684 k0_h23 => k0_hw684 k0_h23

def k0_off1212 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c168_i32_2398 : BitVec 32 := 168#32
  let v5436 : BitVec 32 := Scalar.addi v5435 c168_i32_2398
  let c4_i32_2399 : BitVec 32 := 4#32
  let v5437 : BitVec 32 := Scalar.addi v5436 c4_i32_2399
  let v5438 : Index := Scalar.indexCast v5437
  ![v5438.toNat]
def k0_off1213 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2401 : BitVec 32 := 21#32
  let v5441 : BitVec 32 := Scalar.addi v5386 c21_i32_2401
  ![v5441.toNat]
def k0_off1214 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2400 : BitVec 32 := 21#32
  let v5440 : BitVec 32 := Scalar.addi v5386 c21_i32_2400
  let c4_i32_2402 : BitVec 32 := 4#32
  let c0_i32_2403 : BitVec 32 := 0#32
  ![v5440.toNat, 4, 0]
def k0_off1215 (v5439 : BitVec 32) : Fin 2 → Nat :=
  let c0_i32_2404 : BitVec 32 := 0#32
  ![v5439.toNat, 0]

def k0_chk685 (i : grid0.Coords) (v5439 : BitVec 32) : Prop :=
  (∀ (k0_h23 : k0_cond23 i = 1#1), ∀ a, (k0_off1215 v5439) a + S1x8192.size a ≤ S8192x8192.size a)
theorem k0_off1215_inb : ∀ (i : grid0.Coords) (v5439 : BitVec 32) (k0_hw685 : k0_chk685 i v5439), ∀ (k0_h23 : k0_cond23 i = 1#1), ∀ a, (k0_off1215 v5439) a + S1x8192.size a ≤ S8192x8192.size a := fun i v5439 k0_hw685 k0_h23 => k0_hw685 k0_h23

def k0_off1216 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c168_i32_2406 : BitVec 32 := 168#32
  let v5448 : BitVec 32 := Scalar.addi v5447 c168_i32_2406
  let c5_i32_2407 : BitVec 32 := 5#32
  let v5449 : BitVec 32 := Scalar.addi v5448 c5_i32_2407
  let v5450 : Index := Scalar.indexCast v5449
  ![v5450.toNat]
def k0_off1217 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2409 : BitVec 32 := 21#32
  let v5453 : BitVec 32 := Scalar.addi v5386 c21_i32_2409
  ![v5453.toNat]
def k0_off1218 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2408 : BitVec 32 := 21#32
  let v5452 : BitVec 32 := Scalar.addi v5386 c21_i32_2408
  let c5_i32_2410 : BitVec 32 := 5#32
  let c0_i32_2411 : BitVec 32 := 0#32
  ![v5452.toNat, 5, 0]
def k0_off1219 (v5451 : BitVec 32) : Fin 2 → Nat :=
  let c0_i32_2412 : BitVec 32 := 0#32
  ![v5451.toNat, 0]

def k0_chk686 (i : grid0.Coords) (v5451 : BitVec 32) : Prop :=
  (∀ (k0_h23 : k0_cond23 i = 1#1), ∀ a, (k0_off1219 v5451) a + S1x8192.size a ≤ S8192x8192.size a)
theorem k0_off1219_inb : ∀ (i : grid0.Coords) (v5451 : BitVec 32) (k0_hw686 : k0_chk686 i v5451), ∀ (k0_h23 : k0_cond23 i = 1#1), ∀ a, (k0_off1219 v5451) a + S1x8192.size a ≤ S8192x8192.size a := fun i v5451 k0_hw686 k0_h23 => k0_hw686 k0_h23

def k0_off1220 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c168_i32_2414 : BitVec 32 := 168#32
  let v5460 : BitVec 32 := Scalar.addi v5459 c168_i32_2414
  let c6_i32_2415 : BitVec 32 := 6#32
  let v5461 : BitVec 32 := Scalar.addi v5460 c6_i32_2415
  let v5462 : Index := Scalar.indexCast v5461
  ![v5462.toNat]
def k0_off1221 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2417 : BitVec 32 := 21#32
  let v5465 : BitVec 32 := Scalar.addi v5386 c21_i32_2417
  ![v5465.toNat]
def k0_off1222 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2416 : BitVec 32 := 21#32
  let v5464 : BitVec 32 := Scalar.addi v5386 c21_i32_2416
  let c6_i32_2418 : BitVec 32 := 6#32
  let c0_i32_2419 : BitVec 32 := 0#32
  ![v5464.toNat, 6, 0]
def k0_off1223 (v5463 : BitVec 32) : Fin 2 → Nat :=
  let c0_i32_2420 : BitVec 32 := 0#32
  ![v5463.toNat, 0]

def k0_chk687 (i : grid0.Coords) (v5463 : BitVec 32) : Prop :=
  (∀ (k0_h23 : k0_cond23 i = 1#1), ∀ a, (k0_off1223 v5463) a + S1x8192.size a ≤ S8192x8192.size a)
theorem k0_off1223_inb : ∀ (i : grid0.Coords) (v5463 : BitVec 32) (k0_hw687 : k0_chk687 i v5463), ∀ (k0_h23 : k0_cond23 i = 1#1), ∀ a, (k0_off1223 v5463) a + S1x8192.size a ≤ S8192x8192.size a := fun i v5463 k0_hw687 k0_h23 => k0_hw687 k0_h23

def k0_off1224 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c168_i32_2422 : BitVec 32 := 168#32
  let v5472 : BitVec 32 := Scalar.addi v5471 c168_i32_2422
  let c7_i32_2423 : BitVec 32 := 7#32
  let v5473 : BitVec 32 := Scalar.addi v5472 c7_i32_2423
  let v5474 : Index := Scalar.indexCast v5473
  ![v5474.toNat]
def k0_off1225 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2425 : BitVec 32 := 21#32
  let v5477 : BitVec 32 := Scalar.addi v5386 c21_i32_2425
  ![v5477.toNat]
def k0_off1226 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c21_i32_2424 : BitVec 32 := 21#32
  let v5476 : BitVec 32 := Scalar.addi v5386 c21_i32_2424
  let c7_i32_2426 : BitVec 32 := 7#32
  let c0_i32_2427 : BitVec 32 := 0#32
  ![v5476.toNat, 7, 0]
def k0_off1227 (v5475 : BitVec 32) : Fin 2 → Nat :=
  let c0_i32_2428 : BitVec 32 := 0#32
  ![v5475.toNat, 0]

def k0_chk688 (i : grid0.Coords) (v5475 : BitVec 32) : Prop :=
  (∀ (k0_h23 : k0_cond23 i = 1#1), ∀ a, (k0_off1227 v5475) a + S1x8192.size a ≤ S8192x8192.size a)
theorem k0_off1227_inb : ∀ (i : grid0.Coords) (v5475 : BitVec 32) (k0_hw688 : k0_chk688 i v5475), ∀ (k0_h23 : k0_cond23 i = 1#1), ∀ a, (k0_off1227 v5475) a + S1x8192.size a ≤ S8192x8192.size a := fun i v5475 k0_hw688 k0_h23 => k0_hw688 k0_h23

def k0_cond24 (i : grid0.Coords) : BitVec 1 :=
  let arg0 : BitVec 32 := BitVec.ofNat 32 (i 0).val
  let c3_i32_1616 : BitVec 32 := 3#32
  let v3668 : BitVec 32 := Scalar.addi arg0 c3_i32_1616
  let c1_i32_1617 : BitVec 32 := 1#32
  let v3669 : BitVec 32 := Scalar.subi v3668 c1_i32_1617
  let c64_i32_1618 : BitVec 32 := 64#32
  let v3670 : BitVec 1 := Scalar.cmpi .slt v3669 c64_i32_1618
  let v3671 : BitVec 32 := Scalar.extui v3670
  let c0_i32_1619 : BitVec 32 := 0#32
  let v3672 : BitVec 1 := Scalar.cmpi .ne v3671 c0_i32_1619
  v3672

def k0_off1228 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c176_i32_2366 : BitVec 32 := 176#32
  let v5388 : BitVec 32 := Scalar.addi v5387 c176_i32_2366
  let c0_i32_2367 : BitVec 32 := 0#32
  let v5389 : BitVec 32 := Scalar.addi v5388 c0_i32_2367
  let v5390 : Index := Scalar.indexCast v5389
  ![v5390.toNat]
def k0_off1229 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2369 : BitVec 32 := 22#32
  let v5393 : BitVec 32 := Scalar.addi v5386 c22_i32_2369
  ![v5393.toNat]
def k0_off1230 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2368 : BitVec 32 := 22#32
  let v5392 : BitVec 32 := Scalar.addi v5386 c22_i32_2368
  let c0_i32_2370 : BitVec 32 := 0#32
  let c0_i32_2371 : BitVec 32 := 0#32
  ![v5392.toNat, 0, 0]
def k0_off1231 (v5391 : BitVec 32) : Fin 2 → Nat :=
  let c0_i32_2372 : BitVec 32 := 0#32
  ![v5391.toNat, 0]

def k0_chk689 (i : grid0.Coords) (v5391 : BitVec 32) : Prop :=
  (∀ (k0_h24 : k0_cond24 i = 1#1), ∀ a, (k0_off1231 v5391) a + S1x8192.size a ≤ S8192x8192.size a)
theorem k0_off1231_inb : ∀ (i : grid0.Coords) (v5391 : BitVec 32) (k0_hw689 : k0_chk689 i v5391), ∀ (k0_h24 : k0_cond24 i = 1#1), ∀ a, (k0_off1231 v5391) a + S1x8192.size a ≤ S8192x8192.size a := fun i v5391 k0_hw689 k0_h24 => k0_hw689 k0_h24

def k0_off1232 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c176_i32_2374 : BitVec 32 := 176#32
  let v5400 : BitVec 32 := Scalar.addi v5399 c176_i32_2374
  let c1_i32_2375 : BitVec 32 := 1#32
  let v5401 : BitVec 32 := Scalar.addi v5400 c1_i32_2375
  let v5402 : Index := Scalar.indexCast v5401
  ![v5402.toNat]
def k0_off1233 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2377 : BitVec 32 := 22#32
  let v5405 : BitVec 32 := Scalar.addi v5386 c22_i32_2377
  ![v5405.toNat]
def k0_off1234 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2376 : BitVec 32 := 22#32
  let v5404 : BitVec 32 := Scalar.addi v5386 c22_i32_2376
  let c1_i32_2378 : BitVec 32 := 1#32
  let c0_i32_2379 : BitVec 32 := 0#32
  ![v5404.toNat, 1, 0]
def k0_off1235 (v5403 : BitVec 32) : Fin 2 → Nat :=
  let c0_i32_2380 : BitVec 32 := 0#32
  ![v5403.toNat, 0]

def k0_chk690 (i : grid0.Coords) (v5403 : BitVec 32) : Prop :=
  (∀ (k0_h24 : k0_cond24 i = 1#1), ∀ a, (k0_off1235 v5403) a + S1x8192.size a ≤ S8192x8192.size a)
theorem k0_off1235_inb : ∀ (i : grid0.Coords) (v5403 : BitVec 32) (k0_hw690 : k0_chk690 i v5403), ∀ (k0_h24 : k0_cond24 i = 1#1), ∀ a, (k0_off1235 v5403) a + S1x8192.size a ≤ S8192x8192.size a := fun i v5403 k0_hw690 k0_h24 => k0_hw690 k0_h24

def k0_off1236 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c176_i32_2382 : BitVec 32 := 176#32
  let v5412 : BitVec 32 := Scalar.addi v5411 c176_i32_2382
  let c2_i32_2383 : BitVec 32 := 2#32
  let v5413 : BitVec 32 := Scalar.addi v5412 c2_i32_2383
  let v5414 : Index := Scalar.indexCast v5413
  ![v5414.toNat]
def k0_off1237 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2385 : BitVec 32 := 22#32
  let v5417 : BitVec 32 := Scalar.addi v5386 c22_i32_2385
  ![v5417.toNat]
def k0_off1238 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2384 : BitVec 32 := 22#32
  let v5416 : BitVec 32 := Scalar.addi v5386 c22_i32_2384
  let c2_i32_2386 : BitVec 32 := 2#32
  let c0_i32_2387 : BitVec 32 := 0#32
  ![v5416.toNat, 2, 0]
def k0_off1239 (v5415 : BitVec 32) : Fin 2 → Nat :=
  let c0_i32_2388 : BitVec 32 := 0#32
  ![v5415.toNat, 0]

def k0_chk691 (i : grid0.Coords) (v5415 : BitVec 32) : Prop :=
  (∀ (k0_h24 : k0_cond24 i = 1#1), ∀ a, (k0_off1239 v5415) a + S1x8192.size a ≤ S8192x8192.size a)
theorem k0_off1239_inb : ∀ (i : grid0.Coords) (v5415 : BitVec 32) (k0_hw691 : k0_chk691 i v5415), ∀ (k0_h24 : k0_cond24 i = 1#1), ∀ a, (k0_off1239 v5415) a + S1x8192.size a ≤ S8192x8192.size a := fun i v5415 k0_hw691 k0_h24 => k0_hw691 k0_h24

def k0_off1240 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c176_i32_2390 : BitVec 32 := 176#32
  let v5424 : BitVec 32 := Scalar.addi v5423 c176_i32_2390
  let c3_i32_2391 : BitVec 32 := 3#32
  let v5425 : BitVec 32 := Scalar.addi v5424 c3_i32_2391
  let v5426 : Index := Scalar.indexCast v5425
  ![v5426.toNat]
def k0_off1241 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2393 : BitVec 32 := 22#32
  let v5429 : BitVec 32 := Scalar.addi v5386 c22_i32_2393
  ![v5429.toNat]
def k0_off1242 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2392 : BitVec 32 := 22#32
  let v5428 : BitVec 32 := Scalar.addi v5386 c22_i32_2392
  let c3_i32_2394 : BitVec 32 := 3#32
  let c0_i32_2395 : BitVec 32 := 0#32
  ![v5428.toNat, 3, 0]
def k0_off1243 (v5427 : BitVec 32) : Fin 2 → Nat :=
  let c0_i32_2396 : BitVec 32 := 0#32
  ![v5427.toNat, 0]

def k0_chk692 (i : grid0.Coords) (v5427 : BitVec 32) : Prop :=
  (∀ (k0_h24 : k0_cond24 i = 1#1), ∀ a, (k0_off1243 v5427) a + S1x8192.size a ≤ S8192x8192.size a)
theorem k0_off1243_inb : ∀ (i : grid0.Coords) (v5427 : BitVec 32) (k0_hw692 : k0_chk692 i v5427), ∀ (k0_h24 : k0_cond24 i = 1#1), ∀ a, (k0_off1243 v5427) a + S1x8192.size a ≤ S8192x8192.size a := fun i v5427 k0_hw692 k0_h24 => k0_hw692 k0_h24

def k0_off1244 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c176_i32_2398 : BitVec 32 := 176#32
  let v5436 : BitVec 32 := Scalar.addi v5435 c176_i32_2398
  let c4_i32_2399 : BitVec 32 := 4#32
  let v5437 : BitVec 32 := Scalar.addi v5436 c4_i32_2399
  let v5438 : Index := Scalar.indexCast v5437
  ![v5438.toNat]
def k0_off1245 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2401 : BitVec 32 := 22#32
  let v5441 : BitVec 32 := Scalar.addi v5386 c22_i32_2401
  ![v5441.toNat]
def k0_off1246 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2400 : BitVec 32 := 22#32
  let v5440 : BitVec 32 := Scalar.addi v5386 c22_i32_2400
  let c4_i32_2402 : BitVec 32 := 4#32
  let c0_i32_2403 : BitVec 32 := 0#32
  ![v5440.toNat, 4, 0]
def k0_off1247 (v5439 : BitVec 32) : Fin 2 → Nat :=
  let c0_i32_2404 : BitVec 32 := 0#32
  ![v5439.toNat, 0]

def k0_chk693 (i : grid0.Coords) (v5439 : BitVec 32) : Prop :=
  (∀ (k0_h24 : k0_cond24 i = 1#1), ∀ a, (k0_off1247 v5439) a + S1x8192.size a ≤ S8192x8192.size a)
theorem k0_off1247_inb : ∀ (i : grid0.Coords) (v5439 : BitVec 32) (k0_hw693 : k0_chk693 i v5439), ∀ (k0_h24 : k0_cond24 i = 1#1), ∀ a, (k0_off1247 v5439) a + S1x8192.size a ≤ S8192x8192.size a := fun i v5439 k0_hw693 k0_h24 => k0_hw693 k0_h24

def k0_off1248 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c176_i32_2406 : BitVec 32 := 176#32
  let v5448 : BitVec 32 := Scalar.addi v5447 c176_i32_2406
  let c5_i32_2407 : BitVec 32 := 5#32
  let v5449 : BitVec 32 := Scalar.addi v5448 c5_i32_2407
  let v5450 : Index := Scalar.indexCast v5449
  ![v5450.toNat]
def k0_off1249 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2409 : BitVec 32 := 22#32
  let v5453 : BitVec 32 := Scalar.addi v5386 c22_i32_2409
  ![v5453.toNat]
def k0_off1250 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2408 : BitVec 32 := 22#32
  let v5452 : BitVec 32 := Scalar.addi v5386 c22_i32_2408
  let c5_i32_2410 : BitVec 32 := 5#32
  let c0_i32_2411 : BitVec 32 := 0#32
  ![v5452.toNat, 5, 0]
def k0_off1251 (v5451 : BitVec 32) : Fin 2 → Nat :=
  let c0_i32_2412 : BitVec 32 := 0#32
  ![v5451.toNat, 0]

def k0_chk694 (i : grid0.Coords) (v5451 : BitVec 32) : Prop :=
  (∀ (k0_h24 : k0_cond24 i = 1#1), ∀ a, (k0_off1251 v5451) a + S1x8192.size a ≤ S8192x8192.size a)
theorem k0_off1251_inb : ∀ (i : grid0.Coords) (v5451 : BitVec 32) (k0_hw694 : k0_chk694 i v5451), ∀ (k0_h24 : k0_cond24 i = 1#1), ∀ a, (k0_off1251 v5451) a + S1x8192.size a ≤ S8192x8192.size a := fun i v5451 k0_hw694 k0_h24 => k0_hw694 k0_h24

def k0_off1252 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c176_i32_2414 : BitVec 32 := 176#32
  let v5460 : BitVec 32 := Scalar.addi v5459 c176_i32_2414
  let c6_i32_2415 : BitVec 32 := 6#32
  let v5461 : BitVec 32 := Scalar.addi v5460 c6_i32_2415
  let v5462 : Index := Scalar.indexCast v5461
  ![v5462.toNat]
def k0_off1253 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2417 : BitVec 32 := 22#32
  let v5465 : BitVec 32 := Scalar.addi v5386 c22_i32_2417
  ![v5465.toNat]
def k0_off1254 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2416 : BitVec 32 := 22#32
  let v5464 : BitVec 32 := Scalar.addi v5386 c22_i32_2416
  let c6_i32_2418 : BitVec 32 := 6#32
  let c0_i32_2419 : BitVec 32 := 0#32
  ![v5464.toNat, 6, 0]
def k0_off1255 (v5463 : BitVec 32) : Fin 2 → Nat :=
  let c0_i32_2420 : BitVec 32 := 0#32
  ![v5463.toNat, 0]

def k0_chk695 (i : grid0.Coords) (v5463 : BitVec 32) : Prop :=
  (∀ (k0_h24 : k0_cond24 i = 1#1), ∀ a, (k0_off1255 v5463) a + S1x8192.size a ≤ S8192x8192.size a)
theorem k0_off1255_inb : ∀ (i : grid0.Coords) (v5463 : BitVec 32) (k0_hw695 : k0_chk695 i v5463), ∀ (k0_h24 : k0_cond24 i = 1#1), ∀ a, (k0_off1255 v5463) a + S1x8192.size a ≤ S8192x8192.size a := fun i v5463 k0_hw695 k0_h24 => k0_hw695 k0_h24

def k0_off1256 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c176_i32_2422 : BitVec 32 := 176#32
  let v5472 : BitVec 32 := Scalar.addi v5471 c176_i32_2422
  let c7_i32_2423 : BitVec 32 := 7#32
  let v5473 : BitVec 32 := Scalar.addi v5472 c7_i32_2423
  let v5474 : Index := Scalar.indexCast v5473
  ![v5474.toNat]
def k0_off1257 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2425 : BitVec 32 := 22#32
  let v5477 : BitVec 32 := Scalar.addi v5386 c22_i32_2425
  ![v5477.toNat]
def k0_off1258 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c22_i32_2424 : BitVec 32 := 22#32
  let v5476 : BitVec 32 := Scalar.addi v5386 c22_i32_2424
  let c7_i32_2426 : BitVec 32 := 7#32
  let c0_i32_2427 : BitVec 32 := 0#32
  ![v5476.toNat, 7, 0]
def k0_off1259 (v5475 : BitVec 32) : Fin 2 → Nat :=
  let c0_i32_2428 : BitVec 32 := 0#32
  ![v5475.toNat, 0]

def k0_chk696 (i : grid0.Coords) (v5475 : BitVec 32) : Prop :=
  (∀ (k0_h24 : k0_cond24 i = 1#1), ∀ a, (k0_off1259 v5475) a + S1x8192.size a ≤ S8192x8192.size a)
theorem k0_off1259_inb : ∀ (i : grid0.Coords) (v5475 : BitVec 32) (k0_hw696 : k0_chk696 i v5475), ∀ (k0_h24 : k0_cond24 i = 1#1), ∀ a, (k0_off1259 v5475) a + S1x8192.size a ≤ S8192x8192.size a := fun i v5475 k0_hw696 k0_h24 => k0_hw696 k0_h24

def k0_cond25 (i : grid0.Coords) : BitVec 1 :=
  let arg0 : BitVec 32 := BitVec.ofNat 32 (i 0).val
  let c3_i32_1689 : BitVec 32 := 3#32
  let v3834 : BitVec 32 := Scalar.addi arg0 c3_i32_1689
  let c1_i32_1690 : BitVec 32 := 1#32
  let v3835 : BitVec 32 := Scalar.subi v3834 c1_i32_1690
  let c64_i32_1691 : BitVec 32 := 64#32
  let v3836 : BitVec 1 := Scalar.cmpi .slt v3835 c64_i32_1691
  let v3837 : BitVec 32 := Scalar.extui v3836
  let c0_i32_1692 : BitVec 32 := 0#32
  let v3838 : BitVec 1 := Scalar.cmpi .ne v3837 c0_i32_1692
  v3838

def k0_off1260 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c184_i32_2366 : BitVec 32 := 184#32
  let v5388 : BitVec 32 := Scalar.addi v5387 c184_i32_2366
  let c0_i32_2367 : BitVec 32 := 0#32
  let v5389 : BitVec 32 := Scalar.addi v5388 c0_i32_2367
  let v5390 : Index := Scalar.indexCast v5389
  ![v5390.toNat]
def k0_off1261 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2369 : BitVec 32 := 23#32
  let v5393 : BitVec 32 := Scalar.addi v5386 c23_i32_2369
  ![v5393.toNat]
def k0_off1262 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2368 : BitVec 32 := 23#32
  let v5392 : BitVec 32 := Scalar.addi v5386 c23_i32_2368
  let c0_i32_2370 : BitVec 32 := 0#32
  let c0_i32_2371 : BitVec 32 := 0#32
  ![v5392.toNat, 0, 0]
def k0_off1263 (v5391 : BitVec 32) : Fin 2 → Nat :=
  let c0_i32_2372 : BitVec 32 := 0#32
  ![v5391.toNat, 0]

def k0_chk697 (i : grid0.Coords) (v5391 : BitVec 32) : Prop :=
  (∀ (k0_h25 : k0_cond25 i = 1#1), ∀ a, (k0_off1263 v5391) a + S1x8192.size a ≤ S8192x8192.size a)
theorem k0_off1263_inb : ∀ (i : grid0.Coords) (v5391 : BitVec 32) (k0_hw697 : k0_chk697 i v5391), ∀ (k0_h25 : k0_cond25 i = 1#1), ∀ a, (k0_off1263 v5391) a + S1x8192.size a ≤ S8192x8192.size a := fun i v5391 k0_hw697 k0_h25 => k0_hw697 k0_h25

def k0_off1264 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c184_i32_2374 : BitVec 32 := 184#32
  let v5400 : BitVec 32 := Scalar.addi v5399 c184_i32_2374
  let c1_i32_2375 : BitVec 32 := 1#32
  let v5401 : BitVec 32 := Scalar.addi v5400 c1_i32_2375
  let v5402 : Index := Scalar.indexCast v5401
  ![v5402.toNat]
def k0_off1265 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2377 : BitVec 32 := 23#32
  let v5405 : BitVec 32 := Scalar.addi v5386 c23_i32_2377
  ![v5405.toNat]
def k0_off1266 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2376 : BitVec 32 := 23#32
  let v5404 : BitVec 32 := Scalar.addi v5386 c23_i32_2376
  let c1_i32_2378 : BitVec 32 := 1#32
  let c0_i32_2379 : BitVec 32 := 0#32
  ![v5404.toNat, 1, 0]
def k0_off1267 (v5403 : BitVec 32) : Fin 2 → Nat :=
  let c0_i32_2380 : BitVec 32 := 0#32
  ![v5403.toNat, 0]

def k0_chk698 (i : grid0.Coords) (v5403 : BitVec 32) : Prop :=
  (∀ (k0_h25 : k0_cond25 i = 1#1), ∀ a, (k0_off1267 v5403) a + S1x8192.size a ≤ S8192x8192.size a)
theorem k0_off1267_inb : ∀ (i : grid0.Coords) (v5403 : BitVec 32) (k0_hw698 : k0_chk698 i v5403), ∀ (k0_h25 : k0_cond25 i = 1#1), ∀ a, (k0_off1267 v5403) a + S1x8192.size a ≤ S8192x8192.size a := fun i v5403 k0_hw698 k0_h25 => k0_hw698 k0_h25

def k0_off1268 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c184_i32_2382 : BitVec 32 := 184#32
  let v5412 : BitVec 32 := Scalar.addi v5411 c184_i32_2382
  let c2_i32_2383 : BitVec 32 := 2#32
  let v5413 : BitVec 32 := Scalar.addi v5412 c2_i32_2383
  let v5414 : Index := Scalar.indexCast v5413
  ![v5414.toNat]
def k0_off1269 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2385 : BitVec 32 := 23#32
  let v5417 : BitVec 32 := Scalar.addi v5386 c23_i32_2385
  ![v5417.toNat]
def k0_off1270 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2384 : BitVec 32 := 23#32
  let v5416 : BitVec 32 := Scalar.addi v5386 c23_i32_2384
  let c2_i32_2386 : BitVec 32 := 2#32
  let c0_i32_2387 : BitVec 32 := 0#32
  ![v5416.toNat, 2, 0]
def k0_off1271 (v5415 : BitVec 32) : Fin 2 → Nat :=
  let c0_i32_2388 : BitVec 32 := 0#32
  ![v5415.toNat, 0]

def k0_chk699 (i : grid0.Coords) (v5415 : BitVec 32) : Prop :=
  (∀ (k0_h25 : k0_cond25 i = 1#1), ∀ a, (k0_off1271 v5415) a + S1x8192.size a ≤ S8192x8192.size a)
theorem k0_off1271_inb : ∀ (i : grid0.Coords) (v5415 : BitVec 32) (k0_hw699 : k0_chk699 i v5415), ∀ (k0_h25 : k0_cond25 i = 1#1), ∀ a, (k0_off1271 v5415) a + S1x8192.size a ≤ S8192x8192.size a := fun i v5415 k0_hw699 k0_h25 => k0_hw699 k0_h25

def k0_off1272 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c184_i32_2390 : BitVec 32 := 184#32
  let v5424 : BitVec 32 := Scalar.addi v5423 c184_i32_2390
  let c3_i32_2391 : BitVec 32 := 3#32
  let v5425 : BitVec 32 := Scalar.addi v5424 c3_i32_2391
  let v5426 : Index := Scalar.indexCast v5425
  ![v5426.toNat]
def k0_off1273 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2393 : BitVec 32 := 23#32
  let v5429 : BitVec 32 := Scalar.addi v5386 c23_i32_2393
  ![v5429.toNat]
def k0_off1274 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2392 : BitVec 32 := 23#32
  let v5428 : BitVec 32 := Scalar.addi v5386 c23_i32_2392
  let c3_i32_2394 : BitVec 32 := 3#32
  let c0_i32_2395 : BitVec 32 := 0#32
  ![v5428.toNat, 3, 0]
def k0_off1275 (v5427 : BitVec 32) : Fin 2 → Nat :=
  let c0_i32_2396 : BitVec 32 := 0#32
  ![v5427.toNat, 0]

def k0_chk700 (i : grid0.Coords) (v5427 : BitVec 32) : Prop :=
  (∀ (k0_h25 : k0_cond25 i = 1#1), ∀ a, (k0_off1275 v5427) a + S1x8192.size a ≤ S8192x8192.size a)
theorem k0_off1275_inb : ∀ (i : grid0.Coords) (v5427 : BitVec 32) (k0_hw700 : k0_chk700 i v5427), ∀ (k0_h25 : k0_cond25 i = 1#1), ∀ a, (k0_off1275 v5427) a + S1x8192.size a ≤ S8192x8192.size a := fun i v5427 k0_hw700 k0_h25 => k0_hw700 k0_h25

def k0_off1276 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c184_i32_2398 : BitVec 32 := 184#32
  let v5436 : BitVec 32 := Scalar.addi v5435 c184_i32_2398
  let c4_i32_2399 : BitVec 32 := 4#32
  let v5437 : BitVec 32 := Scalar.addi v5436 c4_i32_2399
  let v5438 : Index := Scalar.indexCast v5437
  ![v5438.toNat]
def k0_off1277 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2401 : BitVec 32 := 23#32
  let v5441 : BitVec 32 := Scalar.addi v5386 c23_i32_2401
  ![v5441.toNat]
def k0_off1278 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2400 : BitVec 32 := 23#32
  let v5440 : BitVec 32 := Scalar.addi v5386 c23_i32_2400
  let c4_i32_2402 : BitVec 32 := 4#32
  let c0_i32_2403 : BitVec 32 := 0#32
  ![v5440.toNat, 4, 0]
def k0_off1279 (v5439 : BitVec 32) : Fin 2 → Nat :=
  let c0_i32_2404 : BitVec 32 := 0#32
  ![v5439.toNat, 0]

def k0_chk701 (i : grid0.Coords) (v5439 : BitVec 32) : Prop :=
  (∀ (k0_h25 : k0_cond25 i = 1#1), ∀ a, (k0_off1279 v5439) a + S1x8192.size a ≤ S8192x8192.size a)
theorem k0_off1279_inb : ∀ (i : grid0.Coords) (v5439 : BitVec 32) (k0_hw701 : k0_chk701 i v5439), ∀ (k0_h25 : k0_cond25 i = 1#1), ∀ a, (k0_off1279 v5439) a + S1x8192.size a ≤ S8192x8192.size a := fun i v5439 k0_hw701 k0_h25 => k0_hw701 k0_h25

def k0_off1280 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c184_i32_2406 : BitVec 32 := 184#32
  let v5448 : BitVec 32 := Scalar.addi v5447 c184_i32_2406
  let c5_i32_2407 : BitVec 32 := 5#32
  let v5449 : BitVec 32 := Scalar.addi v5448 c5_i32_2407
  let v5450 : Index := Scalar.indexCast v5449
  ![v5450.toNat]
def k0_off1281 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2409 : BitVec 32 := 23#32
  let v5453 : BitVec 32 := Scalar.addi v5386 c23_i32_2409
  ![v5453.toNat]
def k0_off1282 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2408 : BitVec 32 := 23#32
  let v5452 : BitVec 32 := Scalar.addi v5386 c23_i32_2408
  let c5_i32_2410 : BitVec 32 := 5#32
  let c0_i32_2411 : BitVec 32 := 0#32
  ![v5452.toNat, 5, 0]
def k0_off1283 (v5451 : BitVec 32) : Fin 2 → Nat :=
  let c0_i32_2412 : BitVec 32 := 0#32
  ![v5451.toNat, 0]

def k0_chk702 (i : grid0.Coords) (v5451 : BitVec 32) : Prop :=
  (∀ (k0_h25 : k0_cond25 i = 1#1), ∀ a, (k0_off1283 v5451) a + S1x8192.size a ≤ S8192x8192.size a)
theorem k0_off1283_inb : ∀ (i : grid0.Coords) (v5451 : BitVec 32) (k0_hw702 : k0_chk702 i v5451), ∀ (k0_h25 : k0_cond25 i = 1#1), ∀ a, (k0_off1283 v5451) a + S1x8192.size a ≤ S8192x8192.size a := fun i v5451 k0_hw702 k0_h25 => k0_hw702 k0_h25

def k0_off1284 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c184_i32_2414 : BitVec 32 := 184#32
  let v5460 : BitVec 32 := Scalar.addi v5459 c184_i32_2414
  let c6_i32_2415 : BitVec 32 := 6#32
  let v5461 : BitVec 32 := Scalar.addi v5460 c6_i32_2415
  let v5462 : Index := Scalar.indexCast v5461
  ![v5462.toNat]
def k0_off1285 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2417 : BitVec 32 := 23#32
  let v5465 : BitVec 32 := Scalar.addi v5386 c23_i32_2417
  ![v5465.toNat]
def k0_off1286 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2416 : BitVec 32 := 23#32
  let v5464 : BitVec 32 := Scalar.addi v5386 c23_i32_2416
  let c6_i32_2418 : BitVec 32 := 6#32
  let c0_i32_2419 : BitVec 32 := 0#32
  ![v5464.toNat, 6, 0]
def k0_off1287 (v5463 : BitVec 32) : Fin 2 → Nat :=
  let c0_i32_2420 : BitVec 32 := 0#32
  ![v5463.toNat, 0]

def k0_chk703 (i : grid0.Coords) (v5463 : BitVec 32) : Prop :=
  (∀ (k0_h25 : k0_cond25 i = 1#1), ∀ a, (k0_off1287 v5463) a + S1x8192.size a ≤ S8192x8192.size a)
theorem k0_off1287_inb : ∀ (i : grid0.Coords) (v5463 : BitVec 32) (k0_hw703 : k0_chk703 i v5463), ∀ (k0_h25 : k0_cond25 i = 1#1), ∀ a, (k0_off1287 v5463) a + S1x8192.size a ≤ S8192x8192.size a := fun i v5463 k0_hw703 k0_h25 => k0_hw703 k0_h25

def k0_off1288 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c184_i32_2422 : BitVec 32 := 184#32
  let v5472 : BitVec 32 := Scalar.addi v5471 c184_i32_2422
  let c7_i32_2423 : BitVec 32 := 7#32
  let v5473 : BitVec 32 := Scalar.addi v5472 c7_i32_2423
  let v5474 : Index := Scalar.indexCast v5473
  ![v5474.toNat]
def k0_off1289 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2425 : BitVec 32 := 23#32
  let v5477 : BitVec 32 := Scalar.addi v5386 c23_i32_2425
  ![v5477.toNat]
def k0_off1290 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c23_i32_2424 : BitVec 32 := 23#32
  let v5476 : BitVec 32 := Scalar.addi v5386 c23_i32_2424
  let c7_i32_2426 : BitVec 32 := 7#32
  let c0_i32_2427 : BitVec 32 := 0#32
  ![v5476.toNat, 7, 0]
def k0_off1291 (v5475 : BitVec 32) : Fin 2 → Nat :=
  let c0_i32_2428 : BitVec 32 := 0#32
  ![v5475.toNat, 0]

def k0_chk704 (i : grid0.Coords) (v5475 : BitVec 32) : Prop :=
  (∀ (k0_h25 : k0_cond25 i = 1#1), ∀ a, (k0_off1291 v5475) a + S1x8192.size a ≤ S8192x8192.size a)
theorem k0_off1291_inb : ∀ (i : grid0.Coords) (v5475 : BitVec 32) (k0_hw704 : k0_chk704 i v5475), ∀ (k0_h25 : k0_cond25 i = 1#1), ∀ a, (k0_off1291 v5475) a + S1x8192.size a ≤ S8192x8192.size a := fun i v5475 k0_hw704 k0_h25 => k0_hw704 k0_h25

def k0_cond26 (i : grid0.Coords) : BitVec 1 :=
  let arg0 : BitVec 32 := BitVec.ofNat 32 (i 0).val
  let c3_i32_1762 : BitVec 32 := 3#32
  let v4000 : BitVec 32 := Scalar.addi arg0 c3_i32_1762
  let c1_i32_1763 : BitVec 32 := 1#32
  let v4001 : BitVec 32 := Scalar.subi v4000 c1_i32_1763
  let c64_i32_1764 : BitVec 32 := 64#32
  let v4002 : BitVec 1 := Scalar.cmpi .slt v4001 c64_i32_1764
  let v4003 : BitVec 32 := Scalar.extui v4002
  let c0_i32_1765 : BitVec 32 := 0#32
  let v4004 : BitVec 1 := Scalar.cmpi .ne v4003 c0_i32_1765
  v4004

def k0_off1292 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c192_i32_2366 : BitVec 32 := 192#32
  let v5388 : BitVec 32 := Scalar.addi v5387 c192_i32_2366
  let c0_i32_2367 : BitVec 32 := 0#32
  let v5389 : BitVec 32 := Scalar.addi v5388 c0_i32_2367
  let v5390 : Index := Scalar.indexCast v5389
  ![v5390.toNat]
def k0_off1293 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2369 : BitVec 32 := 24#32
  let v5393 : BitVec 32 := Scalar.addi v5386 c24_i32_2369
  ![v5393.toNat]
def k0_off1294 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2368 : BitVec 32 := 24#32
  let v5392 : BitVec 32 := Scalar.addi v5386 c24_i32_2368
  let c0_i32_2370 : BitVec 32 := 0#32
  let c0_i32_2371 : BitVec 32 := 0#32
  ![v5392.toNat, 0, 0]
def k0_off1295 (v5391 : BitVec 32) : Fin 2 → Nat :=
  let c0_i32_2372 : BitVec 32 := 0#32
  ![v5391.toNat, 0]

def k0_chk705 (i : grid0.Coords) (v5391 : BitVec 32) : Prop :=
  (∀ (k0_h26 : k0_cond26 i = 1#1), ∀ a, (k0_off1295 v5391) a + S1x8192.size a ≤ S8192x8192.size a)
theorem k0_off1295_inb : ∀ (i : grid0.Coords) (v5391 : BitVec 32) (k0_hw705 : k0_chk705 i v5391), ∀ (k0_h26 : k0_cond26 i = 1#1), ∀ a, (k0_off1295 v5391) a + S1x8192.size a ≤ S8192x8192.size a := fun i v5391 k0_hw705 k0_h26 => k0_hw705 k0_h26

def k0_off1296 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c192_i32_2374 : BitVec 32 := 192#32
  let v5400 : BitVec 32 := Scalar.addi v5399 c192_i32_2374
  let c1_i32_2375 : BitVec 32 := 1#32
  let v5401 : BitVec 32 := Scalar.addi v5400 c1_i32_2375
  let v5402 : Index := Scalar.indexCast v5401
  ![v5402.toNat]
def k0_off1297 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2377 : BitVec 32 := 24#32
  let v5405 : BitVec 32 := Scalar.addi v5386 c24_i32_2377
  ![v5405.toNat]
def k0_off1298 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2376 : BitVec 32 := 24#32
  let v5404 : BitVec 32 := Scalar.addi v5386 c24_i32_2376
  let c1_i32_2378 : BitVec 32 := 1#32
  let c0_i32_2379 : BitVec 32 := 0#32
  ![v5404.toNat, 1, 0]
def k0_off1299 (v5403 : BitVec 32) : Fin 2 → Nat :=
  let c0_i32_2380 : BitVec 32 := 0#32
  ![v5403.toNat, 0]

def k0_chk706 (i : grid0.Coords) (v5403 : BitVec 32) : Prop :=
  (∀ (k0_h26 : k0_cond26 i = 1#1), ∀ a, (k0_off1299 v5403) a + S1x8192.size a ≤ S8192x8192.size a)
theorem k0_off1299_inb : ∀ (i : grid0.Coords) (v5403 : BitVec 32) (k0_hw706 : k0_chk706 i v5403), ∀ (k0_h26 : k0_cond26 i = 1#1), ∀ a, (k0_off1299 v5403) a + S1x8192.size a ≤ S8192x8192.size a := fun i v5403 k0_hw706 k0_h26 => k0_hw706 k0_h26

def k0_off1300 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c192_i32_2382 : BitVec 32 := 192#32
  let v5412 : BitVec 32 := Scalar.addi v5411 c192_i32_2382
  let c2_i32_2383 : BitVec 32 := 2#32
  let v5413 : BitVec 32 := Scalar.addi v5412 c2_i32_2383
  let v5414 : Index := Scalar.indexCast v5413
  ![v5414.toNat]
def k0_off1301 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2385 : BitVec 32 := 24#32
  let v5417 : BitVec 32 := Scalar.addi v5386 c24_i32_2385
  ![v5417.toNat]
def k0_off1302 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2384 : BitVec 32 := 24#32
  let v5416 : BitVec 32 := Scalar.addi v5386 c24_i32_2384
  let c2_i32_2386 : BitVec 32 := 2#32
  let c0_i32_2387 : BitVec 32 := 0#32
  ![v5416.toNat, 2, 0]
def k0_off1303 (v5415 : BitVec 32) : Fin 2 → Nat :=
  let c0_i32_2388 : BitVec 32 := 0#32
  ![v5415.toNat, 0]

def k0_chk707 (i : grid0.Coords) (v5415 : BitVec 32) : Prop :=
  (∀ (k0_h26 : k0_cond26 i = 1#1), ∀ a, (k0_off1303 v5415) a + S1x8192.size a ≤ S8192x8192.size a)
theorem k0_off1303_inb : ∀ (i : grid0.Coords) (v5415 : BitVec 32) (k0_hw707 : k0_chk707 i v5415), ∀ (k0_h26 : k0_cond26 i = 1#1), ∀ a, (k0_off1303 v5415) a + S1x8192.size a ≤ S8192x8192.size a := fun i v5415 k0_hw707 k0_h26 => k0_hw707 k0_h26

def k0_off1304 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c192_i32_2390 : BitVec 32 := 192#32
  let v5424 : BitVec 32 := Scalar.addi v5423 c192_i32_2390
  let c3_i32_2391 : BitVec 32 := 3#32
  let v5425 : BitVec 32 := Scalar.addi v5424 c3_i32_2391
  let v5426 : Index := Scalar.indexCast v5425
  ![v5426.toNat]
def k0_off1305 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2393 : BitVec 32 := 24#32
  let v5429 : BitVec 32 := Scalar.addi v5386 c24_i32_2393
  ![v5429.toNat]
def k0_off1306 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2392 : BitVec 32 := 24#32
  let v5428 : BitVec 32 := Scalar.addi v5386 c24_i32_2392
  let c3_i32_2394 : BitVec 32 := 3#32
  let c0_i32_2395 : BitVec 32 := 0#32
  ![v5428.toNat, 3, 0]
def k0_off1307 (v5427 : BitVec 32) : Fin 2 → Nat :=
  let c0_i32_2396 : BitVec 32 := 0#32
  ![v5427.toNat, 0]

def k0_chk708 (i : grid0.Coords) (v5427 : BitVec 32) : Prop :=
  (∀ (k0_h26 : k0_cond26 i = 1#1), ∀ a, (k0_off1307 v5427) a + S1x8192.size a ≤ S8192x8192.size a)
theorem k0_off1307_inb : ∀ (i : grid0.Coords) (v5427 : BitVec 32) (k0_hw708 : k0_chk708 i v5427), ∀ (k0_h26 : k0_cond26 i = 1#1), ∀ a, (k0_off1307 v5427) a + S1x8192.size a ≤ S8192x8192.size a := fun i v5427 k0_hw708 k0_h26 => k0_hw708 k0_h26

def k0_off1308 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c192_i32_2398 : BitVec 32 := 192#32
  let v5436 : BitVec 32 := Scalar.addi v5435 c192_i32_2398
  let c4_i32_2399 : BitVec 32 := 4#32
  let v5437 : BitVec 32 := Scalar.addi v5436 c4_i32_2399
  let v5438 : Index := Scalar.indexCast v5437
  ![v5438.toNat]
def k0_off1309 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2401 : BitVec 32 := 24#32
  let v5441 : BitVec 32 := Scalar.addi v5386 c24_i32_2401
  ![v5441.toNat]
def k0_off1310 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2400 : BitVec 32 := 24#32
  let v5440 : BitVec 32 := Scalar.addi v5386 c24_i32_2400
  let c4_i32_2402 : BitVec 32 := 4#32
  let c0_i32_2403 : BitVec 32 := 0#32
  ![v5440.toNat, 4, 0]
def k0_off1311 (v5439 : BitVec 32) : Fin 2 → Nat :=
  let c0_i32_2404 : BitVec 32 := 0#32
  ![v5439.toNat, 0]

def k0_chk709 (i : grid0.Coords) (v5439 : BitVec 32) : Prop :=
  (∀ (k0_h26 : k0_cond26 i = 1#1), ∀ a, (k0_off1311 v5439) a + S1x8192.size a ≤ S8192x8192.size a)
theorem k0_off1311_inb : ∀ (i : grid0.Coords) (v5439 : BitVec 32) (k0_hw709 : k0_chk709 i v5439), ∀ (k0_h26 : k0_cond26 i = 1#1), ∀ a, (k0_off1311 v5439) a + S1x8192.size a ≤ S8192x8192.size a := fun i v5439 k0_hw709 k0_h26 => k0_hw709 k0_h26

def k0_off1312 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c192_i32_2406 : BitVec 32 := 192#32
  let v5448 : BitVec 32 := Scalar.addi v5447 c192_i32_2406
  let c5_i32_2407 : BitVec 32 := 5#32
  let v5449 : BitVec 32 := Scalar.addi v5448 c5_i32_2407
  let v5450 : Index := Scalar.indexCast v5449
  ![v5450.toNat]
def k0_off1313 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2409 : BitVec 32 := 24#32
  let v5453 : BitVec 32 := Scalar.addi v5386 c24_i32_2409
  ![v5453.toNat]
def k0_off1314 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2408 : BitVec 32 := 24#32
  let v5452 : BitVec 32 := Scalar.addi v5386 c24_i32_2408
  let c5_i32_2410 : BitVec 32 := 5#32
  let c0_i32_2411 : BitVec 32 := 0#32
  ![v5452.toNat, 5, 0]
def k0_off1315 (v5451 : BitVec 32) : Fin 2 → Nat :=
  let c0_i32_2412 : BitVec 32 := 0#32
  ![v5451.toNat, 0]

def k0_chk710 (i : grid0.Coords) (v5451 : BitVec 32) : Prop :=
  (∀ (k0_h26 : k0_cond26 i = 1#1), ∀ a, (k0_off1315 v5451) a + S1x8192.size a ≤ S8192x8192.size a)
theorem k0_off1315_inb : ∀ (i : grid0.Coords) (v5451 : BitVec 32) (k0_hw710 : k0_chk710 i v5451), ∀ (k0_h26 : k0_cond26 i = 1#1), ∀ a, (k0_off1315 v5451) a + S1x8192.size a ≤ S8192x8192.size a := fun i v5451 k0_hw710 k0_h26 => k0_hw710 k0_h26

def k0_off1316 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c192_i32_2414 : BitVec 32 := 192#32
  let v5460 : BitVec 32 := Scalar.addi v5459 c192_i32_2414
  let c6_i32_2415 : BitVec 32 := 6#32
  let v5461 : BitVec 32 := Scalar.addi v5460 c6_i32_2415
  let v5462 : Index := Scalar.indexCast v5461
  ![v5462.toNat]
def k0_off1317 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2417 : BitVec 32 := 24#32
  let v5465 : BitVec 32 := Scalar.addi v5386 c24_i32_2417
  ![v5465.toNat]
def k0_off1318 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2416 : BitVec 32 := 24#32
  let v5464 : BitVec 32 := Scalar.addi v5386 c24_i32_2416
  let c6_i32_2418 : BitVec 32 := 6#32
  let c0_i32_2419 : BitVec 32 := 0#32
  ![v5464.toNat, 6, 0]
def k0_off1319 (v5463 : BitVec 32) : Fin 2 → Nat :=
  let c0_i32_2420 : BitVec 32 := 0#32
  ![v5463.toNat, 0]

def k0_chk711 (i : grid0.Coords) (v5463 : BitVec 32) : Prop :=
  (∀ (k0_h26 : k0_cond26 i = 1#1), ∀ a, (k0_off1319 v5463) a + S1x8192.size a ≤ S8192x8192.size a)
theorem k0_off1319_inb : ∀ (i : grid0.Coords) (v5463 : BitVec 32) (k0_hw711 : k0_chk711 i v5463), ∀ (k0_h26 : k0_cond26 i = 1#1), ∀ a, (k0_off1319 v5463) a + S1x8192.size a ≤ S8192x8192.size a := fun i v5463 k0_hw711 k0_h26 => k0_hw711 k0_h26

def k0_off1320 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c192_i32_2422 : BitVec 32 := 192#32
  let v5472 : BitVec 32 := Scalar.addi v5471 c192_i32_2422
  let c7_i32_2423 : BitVec 32 := 7#32
  let v5473 : BitVec 32 := Scalar.addi v5472 c7_i32_2423
  let v5474 : Index := Scalar.indexCast v5473
  ![v5474.toNat]
def k0_off1321 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2425 : BitVec 32 := 24#32
  let v5477 : BitVec 32 := Scalar.addi v5386 c24_i32_2425
  ![v5477.toNat]
def k0_off1322 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c24_i32_2424 : BitVec 32 := 24#32
  let v5476 : BitVec 32 := Scalar.addi v5386 c24_i32_2424
  let c7_i32_2426 : BitVec 32 := 7#32
  let c0_i32_2427 : BitVec 32 := 0#32
  ![v5476.toNat, 7, 0]
def k0_off1323 (v5475 : BitVec 32) : Fin 2 → Nat :=
  let c0_i32_2428 : BitVec 32 := 0#32
  ![v5475.toNat, 0]

def k0_chk712 (i : grid0.Coords) (v5475 : BitVec 32) : Prop :=
  (∀ (k0_h26 : k0_cond26 i = 1#1), ∀ a, (k0_off1323 v5475) a + S1x8192.size a ≤ S8192x8192.size a)
theorem k0_off1323_inb : ∀ (i : grid0.Coords) (v5475 : BitVec 32) (k0_hw712 : k0_chk712 i v5475), ∀ (k0_h26 : k0_cond26 i = 1#1), ∀ a, (k0_off1323 v5475) a + S1x8192.size a ≤ S8192x8192.size a := fun i v5475 k0_hw712 k0_h26 => k0_hw712 k0_h26

def k0_cond27 (i : grid0.Coords) : BitVec 1 :=
  let arg0 : BitVec 32 := BitVec.ofNat 32 (i 0).val
  let c3_i32_1836 : BitVec 32 := 3#32
  let v4166 : BitVec 32 := Scalar.addi arg0 c3_i32_1836
  let c1_i32_1837 : BitVec 32 := 1#32
  let v4167 : BitVec 32 := Scalar.subi v4166 c1_i32_1837
  let c64_i32_1838 : BitVec 32 := 64#32
  let v4168 : BitVec 1 := Scalar.cmpi .slt v4167 c64_i32_1838
  let v4169 : BitVec 32 := Scalar.extui v4168
  let c0_i32_1839 : BitVec 32 := 0#32
  let v4170 : BitVec 1 := Scalar.cmpi .ne v4169 c0_i32_1839
  v4170

def k0_off1324 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c200_i32_2366 : BitVec 32 := 200#32
  let v5388 : BitVec 32 := Scalar.addi v5387 c200_i32_2366
  let c0_i32_2367 : BitVec 32 := 0#32
  let v5389 : BitVec 32 := Scalar.addi v5388 c0_i32_2367
  let v5390 : Index := Scalar.indexCast v5389
  ![v5390.toNat]
def k0_off1325 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2369 : BitVec 32 := 25#32
  let v5393 : BitVec 32 := Scalar.addi v5386 c25_i32_2369
  ![v5393.toNat]
def k0_off1326 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2368 : BitVec 32 := 25#32
  let v5392 : BitVec 32 := Scalar.addi v5386 c25_i32_2368
  let c0_i32_2370 : BitVec 32 := 0#32
  let c0_i32_2371 : BitVec 32 := 0#32
  ![v5392.toNat, 0, 0]
def k0_off1327 (v5391 : BitVec 32) : Fin 2 → Nat :=
  let c0_i32_2372 : BitVec 32 := 0#32
  ![v5391.toNat, 0]

def k0_chk713 (i : grid0.Coords) (v5391 : BitVec 32) : Prop :=
  (∀ (k0_h27 : k0_cond27 i = 1#1), ∀ a, (k0_off1327 v5391) a + S1x8192.size a ≤ S8192x8192.size a)
theorem k0_off1327_inb : ∀ (i : grid0.Coords) (v5391 : BitVec 32) (k0_hw713 : k0_chk713 i v5391), ∀ (k0_h27 : k0_cond27 i = 1#1), ∀ a, (k0_off1327 v5391) a + S1x8192.size a ≤ S8192x8192.size a := fun i v5391 k0_hw713 k0_h27 => k0_hw713 k0_h27

def k0_off1328 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c200_i32_2374 : BitVec 32 := 200#32
  let v5400 : BitVec 32 := Scalar.addi v5399 c200_i32_2374
  let c1_i32_2375 : BitVec 32 := 1#32
  let v5401 : BitVec 32 := Scalar.addi v5400 c1_i32_2375
  let v5402 : Index := Scalar.indexCast v5401
  ![v5402.toNat]
def k0_off1329 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2377 : BitVec 32 := 25#32
  let v5405 : BitVec 32 := Scalar.addi v5386 c25_i32_2377
  ![v5405.toNat]
def k0_off1330 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2376 : BitVec 32 := 25#32
  let v5404 : BitVec 32 := Scalar.addi v5386 c25_i32_2376
  let c1_i32_2378 : BitVec 32 := 1#32
  let c0_i32_2379 : BitVec 32 := 0#32
  ![v5404.toNat, 1, 0]
def k0_off1331 (v5403 : BitVec 32) : Fin 2 → Nat :=
  let c0_i32_2380 : BitVec 32 := 0#32
  ![v5403.toNat, 0]

def k0_chk714 (i : grid0.Coords) (v5403 : BitVec 32) : Prop :=
  (∀ (k0_h27 : k0_cond27 i = 1#1), ∀ a, (k0_off1331 v5403) a + S1x8192.size a ≤ S8192x8192.size a)
theorem k0_off1331_inb : ∀ (i : grid0.Coords) (v5403 : BitVec 32) (k0_hw714 : k0_chk714 i v5403), ∀ (k0_h27 : k0_cond27 i = 1#1), ∀ a, (k0_off1331 v5403) a + S1x8192.size a ≤ S8192x8192.size a := fun i v5403 k0_hw714 k0_h27 => k0_hw714 k0_h27

def k0_off1332 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c200_i32_2382 : BitVec 32 := 200#32
  let v5412 : BitVec 32 := Scalar.addi v5411 c200_i32_2382
  let c2_i32_2383 : BitVec 32 := 2#32
  let v5413 : BitVec 32 := Scalar.addi v5412 c2_i32_2383
  let v5414 : Index := Scalar.indexCast v5413
  ![v5414.toNat]
def k0_off1333 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2385 : BitVec 32 := 25#32
  let v5417 : BitVec 32 := Scalar.addi v5386 c25_i32_2385
  ![v5417.toNat]
def k0_off1334 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2384 : BitVec 32 := 25#32
  let v5416 : BitVec 32 := Scalar.addi v5386 c25_i32_2384
  let c2_i32_2386 : BitVec 32 := 2#32
  let c0_i32_2387 : BitVec 32 := 0#32
  ![v5416.toNat, 2, 0]
def k0_off1335 (v5415 : BitVec 32) : Fin 2 → Nat :=
  let c0_i32_2388 : BitVec 32 := 0#32
  ![v5415.toNat, 0]

def k0_chk715 (i : grid0.Coords) (v5415 : BitVec 32) : Prop :=
  (∀ (k0_h27 : k0_cond27 i = 1#1), ∀ a, (k0_off1335 v5415) a + S1x8192.size a ≤ S8192x8192.size a)
theorem k0_off1335_inb : ∀ (i : grid0.Coords) (v5415 : BitVec 32) (k0_hw715 : k0_chk715 i v5415), ∀ (k0_h27 : k0_cond27 i = 1#1), ∀ a, (k0_off1335 v5415) a + S1x8192.size a ≤ S8192x8192.size a := fun i v5415 k0_hw715 k0_h27 => k0_hw715 k0_h27

def k0_off1336 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c200_i32_2390 : BitVec 32 := 200#32
  let v5424 : BitVec 32 := Scalar.addi v5423 c200_i32_2390
  let c3_i32_2391 : BitVec 32 := 3#32
  let v5425 : BitVec 32 := Scalar.addi v5424 c3_i32_2391
  let v5426 : Index := Scalar.indexCast v5425
  ![v5426.toNat]
def k0_off1337 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2393 : BitVec 32 := 25#32
  let v5429 : BitVec 32 := Scalar.addi v5386 c25_i32_2393
  ![v5429.toNat]
def k0_off1338 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2392 : BitVec 32 := 25#32
  let v5428 : BitVec 32 := Scalar.addi v5386 c25_i32_2392
  let c3_i32_2394 : BitVec 32 := 3#32
  let c0_i32_2395 : BitVec 32 := 0#32
  ![v5428.toNat, 3, 0]
def k0_off1339 (v5427 : BitVec 32) : Fin 2 → Nat :=
  let c0_i32_2396 : BitVec 32 := 0#32
  ![v5427.toNat, 0]

def k0_chk716 (i : grid0.Coords) (v5427 : BitVec 32) : Prop :=
  (∀ (k0_h27 : k0_cond27 i = 1#1), ∀ a, (k0_off1339 v5427) a + S1x8192.size a ≤ S8192x8192.size a)
theorem k0_off1339_inb : ∀ (i : grid0.Coords) (v5427 : BitVec 32) (k0_hw716 : k0_chk716 i v5427), ∀ (k0_h27 : k0_cond27 i = 1#1), ∀ a, (k0_off1339 v5427) a + S1x8192.size a ≤ S8192x8192.size a := fun i v5427 k0_hw716 k0_h27 => k0_hw716 k0_h27

def k0_off1340 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c200_i32_2398 : BitVec 32 := 200#32
  let v5436 : BitVec 32 := Scalar.addi v5435 c200_i32_2398
  let c4_i32_2399 : BitVec 32 := 4#32
  let v5437 : BitVec 32 := Scalar.addi v5436 c4_i32_2399
  let v5438 : Index := Scalar.indexCast v5437
  ![v5438.toNat]
def k0_off1341 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2401 : BitVec 32 := 25#32
  let v5441 : BitVec 32 := Scalar.addi v5386 c25_i32_2401
  ![v5441.toNat]
def k0_off1342 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2400 : BitVec 32 := 25#32
  let v5440 : BitVec 32 := Scalar.addi v5386 c25_i32_2400
  let c4_i32_2402 : BitVec 32 := 4#32
  let c0_i32_2403 : BitVec 32 := 0#32
  ![v5440.toNat, 4, 0]
def k0_off1343 (v5439 : BitVec 32) : Fin 2 → Nat :=
  let c0_i32_2404 : BitVec 32 := 0#32
  ![v5439.toNat, 0]

def k0_chk717 (i : grid0.Coords) (v5439 : BitVec 32) : Prop :=
  (∀ (k0_h27 : k0_cond27 i = 1#1), ∀ a, (k0_off1343 v5439) a + S1x8192.size a ≤ S8192x8192.size a)
theorem k0_off1343_inb : ∀ (i : grid0.Coords) (v5439 : BitVec 32) (k0_hw717 : k0_chk717 i v5439), ∀ (k0_h27 : k0_cond27 i = 1#1), ∀ a, (k0_off1343 v5439) a + S1x8192.size a ≤ S8192x8192.size a := fun i v5439 k0_hw717 k0_h27 => k0_hw717 k0_h27

def k0_off1344 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c200_i32_2406 : BitVec 32 := 200#32
  let v5448 : BitVec 32 := Scalar.addi v5447 c200_i32_2406
  let c5_i32_2407 : BitVec 32 := 5#32
  let v5449 : BitVec 32 := Scalar.addi v5448 c5_i32_2407
  let v5450 : Index := Scalar.indexCast v5449
  ![v5450.toNat]
def k0_off1345 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2409 : BitVec 32 := 25#32
  let v5453 : BitVec 32 := Scalar.addi v5386 c25_i32_2409
  ![v5453.toNat]
def k0_off1346 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2408 : BitVec 32 := 25#32
  let v5452 : BitVec 32 := Scalar.addi v5386 c25_i32_2408
  let c5_i32_2410 : BitVec 32 := 5#32
  let c0_i32_2411 : BitVec 32 := 0#32
  ![v5452.toNat, 5, 0]
def k0_off1347 (v5451 : BitVec 32) : Fin 2 → Nat :=
  let c0_i32_2412 : BitVec 32 := 0#32
  ![v5451.toNat, 0]

def k0_chk718 (i : grid0.Coords) (v5451 : BitVec 32) : Prop :=
  (∀ (k0_h27 : k0_cond27 i = 1#1), ∀ a, (k0_off1347 v5451) a + S1x8192.size a ≤ S8192x8192.size a)
theorem k0_off1347_inb : ∀ (i : grid0.Coords) (v5451 : BitVec 32) (k0_hw718 : k0_chk718 i v5451), ∀ (k0_h27 : k0_cond27 i = 1#1), ∀ a, (k0_off1347 v5451) a + S1x8192.size a ≤ S8192x8192.size a := fun i v5451 k0_hw718 k0_h27 => k0_hw718 k0_h27

def k0_off1348 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c200_i32_2414 : BitVec 32 := 200#32
  let v5460 : BitVec 32 := Scalar.addi v5459 c200_i32_2414
  let c6_i32_2415 : BitVec 32 := 6#32
  let v5461 : BitVec 32 := Scalar.addi v5460 c6_i32_2415
  let v5462 : Index := Scalar.indexCast v5461
  ![v5462.toNat]
def k0_off1349 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2417 : BitVec 32 := 25#32
  let v5465 : BitVec 32 := Scalar.addi v5386 c25_i32_2417
  ![v5465.toNat]
def k0_off1350 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2416 : BitVec 32 := 25#32
  let v5464 : BitVec 32 := Scalar.addi v5386 c25_i32_2416
  let c6_i32_2418 : BitVec 32 := 6#32
  let c0_i32_2419 : BitVec 32 := 0#32
  ![v5464.toNat, 6, 0]
def k0_off1351 (v5463 : BitVec 32) : Fin 2 → Nat :=
  let c0_i32_2420 : BitVec 32 := 0#32
  ![v5463.toNat, 0]

def k0_chk719 (i : grid0.Coords) (v5463 : BitVec 32) : Prop :=
  (∀ (k0_h27 : k0_cond27 i = 1#1), ∀ a, (k0_off1351 v5463) a + S1x8192.size a ≤ S8192x8192.size a)
theorem k0_off1351_inb : ∀ (i : grid0.Coords) (v5463 : BitVec 32) (k0_hw719 : k0_chk719 i v5463), ∀ (k0_h27 : k0_cond27 i = 1#1), ∀ a, (k0_off1351 v5463) a + S1x8192.size a ≤ S8192x8192.size a := fun i v5463 k0_hw719 k0_h27 => k0_hw719 k0_h27

def k0_off1352 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c200_i32_2422 : BitVec 32 := 200#32
  let v5472 : BitVec 32 := Scalar.addi v5471 c200_i32_2422
  let c7_i32_2423 : BitVec 32 := 7#32
  let v5473 : BitVec 32 := Scalar.addi v5472 c7_i32_2423
  let v5474 : Index := Scalar.indexCast v5473
  ![v5474.toNat]
def k0_off1353 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2425 : BitVec 32 := 25#32
  let v5477 : BitVec 32 := Scalar.addi v5386 c25_i32_2425
  ![v5477.toNat]
def k0_off1354 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c25_i32_2424 : BitVec 32 := 25#32
  let v5476 : BitVec 32 := Scalar.addi v5386 c25_i32_2424
  let c7_i32_2426 : BitVec 32 := 7#32
  let c0_i32_2427 : BitVec 32 := 0#32
  ![v5476.toNat, 7, 0]
def k0_off1355 (v5475 : BitVec 32) : Fin 2 → Nat :=
  let c0_i32_2428 : BitVec 32 := 0#32
  ![v5475.toNat, 0]

def k0_chk720 (i : grid0.Coords) (v5475 : BitVec 32) : Prop :=
  (∀ (k0_h27 : k0_cond27 i = 1#1), ∀ a, (k0_off1355 v5475) a + S1x8192.size a ≤ S8192x8192.size a)
theorem k0_off1355_inb : ∀ (i : grid0.Coords) (v5475 : BitVec 32) (k0_hw720 : k0_chk720 i v5475), ∀ (k0_h27 : k0_cond27 i = 1#1), ∀ a, (k0_off1355 v5475) a + S1x8192.size a ≤ S8192x8192.size a := fun i v5475 k0_hw720 k0_h27 => k0_hw720 k0_h27

def k0_cond28 (i : grid0.Coords) : BitVec 1 :=
  let arg0 : BitVec 32 := BitVec.ofNat 32 (i 0).val
  let c3_i32_1909 : BitVec 32 := 3#32
  let v4332 : BitVec 32 := Scalar.addi arg0 c3_i32_1909
  let c1_i32_1910 : BitVec 32 := 1#32
  let v4333 : BitVec 32 := Scalar.subi v4332 c1_i32_1910
  let c64_i32_1911 : BitVec 32 := 64#32
  let v4334 : BitVec 1 := Scalar.cmpi .slt v4333 c64_i32_1911
  let v4335 : BitVec 32 := Scalar.extui v4334
  let c0_i32_1912 : BitVec 32 := 0#32
  let v4336 : BitVec 1 := Scalar.cmpi .ne v4335 c0_i32_1912
  v4336

def k0_off1356 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c208_i32_2366 : BitVec 32 := 208#32
  let v5388 : BitVec 32 := Scalar.addi v5387 c208_i32_2366
  let c0_i32_2367 : BitVec 32 := 0#32
  let v5389 : BitVec 32 := Scalar.addi v5388 c0_i32_2367
  let v5390 : Index := Scalar.indexCast v5389
  ![v5390.toNat]
def k0_off1357 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2369 : BitVec 32 := 26#32
  let v5393 : BitVec 32 := Scalar.addi v5386 c26_i32_2369
  ![v5393.toNat]
def k0_off1358 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2368 : BitVec 32 := 26#32
  let v5392 : BitVec 32 := Scalar.addi v5386 c26_i32_2368
  let c0_i32_2370 : BitVec 32 := 0#32
  let c0_i32_2371 : BitVec 32 := 0#32
  ![v5392.toNat, 0, 0]
def k0_off1359 (v5391 : BitVec 32) : Fin 2 → Nat :=
  let c0_i32_2372 : BitVec 32 := 0#32
  ![v5391.toNat, 0]

def k0_chk721 (i : grid0.Coords) (v5391 : BitVec 32) : Prop :=
  (∀ (k0_h28 : k0_cond28 i = 1#1), ∀ a, (k0_off1359 v5391) a + S1x8192.size a ≤ S8192x8192.size a)
theorem k0_off1359_inb : ∀ (i : grid0.Coords) (v5391 : BitVec 32) (k0_hw721 : k0_chk721 i v5391), ∀ (k0_h28 : k0_cond28 i = 1#1), ∀ a, (k0_off1359 v5391) a + S1x8192.size a ≤ S8192x8192.size a := fun i v5391 k0_hw721 k0_h28 => k0_hw721 k0_h28

def k0_off1360 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c208_i32_2374 : BitVec 32 := 208#32
  let v5400 : BitVec 32 := Scalar.addi v5399 c208_i32_2374
  let c1_i32_2375 : BitVec 32 := 1#32
  let v5401 : BitVec 32 := Scalar.addi v5400 c1_i32_2375
  let v5402 : Index := Scalar.indexCast v5401
  ![v5402.toNat]
def k0_off1361 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2377 : BitVec 32 := 26#32
  let v5405 : BitVec 32 := Scalar.addi v5386 c26_i32_2377
  ![v5405.toNat]
def k0_off1362 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2376 : BitVec 32 := 26#32
  let v5404 : BitVec 32 := Scalar.addi v5386 c26_i32_2376
  let c1_i32_2378 : BitVec 32 := 1#32
  let c0_i32_2379 : BitVec 32 := 0#32
  ![v5404.toNat, 1, 0]
def k0_off1363 (v5403 : BitVec 32) : Fin 2 → Nat :=
  let c0_i32_2380 : BitVec 32 := 0#32
  ![v5403.toNat, 0]

def k0_chk722 (i : grid0.Coords) (v5403 : BitVec 32) : Prop :=
  (∀ (k0_h28 : k0_cond28 i = 1#1), ∀ a, (k0_off1363 v5403) a + S1x8192.size a ≤ S8192x8192.size a)
theorem k0_off1363_inb : ∀ (i : grid0.Coords) (v5403 : BitVec 32) (k0_hw722 : k0_chk722 i v5403), ∀ (k0_h28 : k0_cond28 i = 1#1), ∀ a, (k0_off1363 v5403) a + S1x8192.size a ≤ S8192x8192.size a := fun i v5403 k0_hw722 k0_h28 => k0_hw722 k0_h28

def k0_off1364 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c208_i32_2382 : BitVec 32 := 208#32
  let v5412 : BitVec 32 := Scalar.addi v5411 c208_i32_2382
  let c2_i32_2383 : BitVec 32 := 2#32
  let v5413 : BitVec 32 := Scalar.addi v5412 c2_i32_2383
  let v5414 : Index := Scalar.indexCast v5413
  ![v5414.toNat]
def k0_off1365 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2385 : BitVec 32 := 26#32
  let v5417 : BitVec 32 := Scalar.addi v5386 c26_i32_2385
  ![v5417.toNat]
def k0_off1366 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2384 : BitVec 32 := 26#32
  let v5416 : BitVec 32 := Scalar.addi v5386 c26_i32_2384
  let c2_i32_2386 : BitVec 32 := 2#32
  let c0_i32_2387 : BitVec 32 := 0#32
  ![v5416.toNat, 2, 0]
def k0_off1367 (v5415 : BitVec 32) : Fin 2 → Nat :=
  let c0_i32_2388 : BitVec 32 := 0#32
  ![v5415.toNat, 0]

def k0_chk723 (i : grid0.Coords) (v5415 : BitVec 32) : Prop :=
  (∀ (k0_h28 : k0_cond28 i = 1#1), ∀ a, (k0_off1367 v5415) a + S1x8192.size a ≤ S8192x8192.size a)
theorem k0_off1367_inb : ∀ (i : grid0.Coords) (v5415 : BitVec 32) (k0_hw723 : k0_chk723 i v5415), ∀ (k0_h28 : k0_cond28 i = 1#1), ∀ a, (k0_off1367 v5415) a + S1x8192.size a ≤ S8192x8192.size a := fun i v5415 k0_hw723 k0_h28 => k0_hw723 k0_h28

def k0_off1368 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c208_i32_2390 : BitVec 32 := 208#32
  let v5424 : BitVec 32 := Scalar.addi v5423 c208_i32_2390
  let c3_i32_2391 : BitVec 32 := 3#32
  let v5425 : BitVec 32 := Scalar.addi v5424 c3_i32_2391
  let v5426 : Index := Scalar.indexCast v5425
  ![v5426.toNat]
def k0_off1369 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2393 : BitVec 32 := 26#32
  let v5429 : BitVec 32 := Scalar.addi v5386 c26_i32_2393
  ![v5429.toNat]
def k0_off1370 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2392 : BitVec 32 := 26#32
  let v5428 : BitVec 32 := Scalar.addi v5386 c26_i32_2392
  let c3_i32_2394 : BitVec 32 := 3#32
  let c0_i32_2395 : BitVec 32 := 0#32
  ![v5428.toNat, 3, 0]
def k0_off1371 (v5427 : BitVec 32) : Fin 2 → Nat :=
  let c0_i32_2396 : BitVec 32 := 0#32
  ![v5427.toNat, 0]

def k0_chk724 (i : grid0.Coords) (v5427 : BitVec 32) : Prop :=
  (∀ (k0_h28 : k0_cond28 i = 1#1), ∀ a, (k0_off1371 v5427) a + S1x8192.size a ≤ S8192x8192.size a)
theorem k0_off1371_inb : ∀ (i : grid0.Coords) (v5427 : BitVec 32) (k0_hw724 : k0_chk724 i v5427), ∀ (k0_h28 : k0_cond28 i = 1#1), ∀ a, (k0_off1371 v5427) a + S1x8192.size a ≤ S8192x8192.size a := fun i v5427 k0_hw724 k0_h28 => k0_hw724 k0_h28

def k0_off1372 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c208_i32_2398 : BitVec 32 := 208#32
  let v5436 : BitVec 32 := Scalar.addi v5435 c208_i32_2398
  let c4_i32_2399 : BitVec 32 := 4#32
  let v5437 : BitVec 32 := Scalar.addi v5436 c4_i32_2399
  let v5438 : Index := Scalar.indexCast v5437
  ![v5438.toNat]
def k0_off1373 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2401 : BitVec 32 := 26#32
  let v5441 : BitVec 32 := Scalar.addi v5386 c26_i32_2401
  ![v5441.toNat]
def k0_off1374 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2400 : BitVec 32 := 26#32
  let v5440 : BitVec 32 := Scalar.addi v5386 c26_i32_2400
  let c4_i32_2402 : BitVec 32 := 4#32
  let c0_i32_2403 : BitVec 32 := 0#32
  ![v5440.toNat, 4, 0]
def k0_off1375 (v5439 : BitVec 32) : Fin 2 → Nat :=
  let c0_i32_2404 : BitVec 32 := 0#32
  ![v5439.toNat, 0]

def k0_chk725 (i : grid0.Coords) (v5439 : BitVec 32) : Prop :=
  (∀ (k0_h28 : k0_cond28 i = 1#1), ∀ a, (k0_off1375 v5439) a + S1x8192.size a ≤ S8192x8192.size a)
theorem k0_off1375_inb : ∀ (i : grid0.Coords) (v5439 : BitVec 32) (k0_hw725 : k0_chk725 i v5439), ∀ (k0_h28 : k0_cond28 i = 1#1), ∀ a, (k0_off1375 v5439) a + S1x8192.size a ≤ S8192x8192.size a := fun i v5439 k0_hw725 k0_h28 => k0_hw725 k0_h28

def k0_off1376 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c208_i32_2406 : BitVec 32 := 208#32
  let v5448 : BitVec 32 := Scalar.addi v5447 c208_i32_2406
  let c5_i32_2407 : BitVec 32 := 5#32
  let v5449 : BitVec 32 := Scalar.addi v5448 c5_i32_2407
  let v5450 : Index := Scalar.indexCast v5449
  ![v5450.toNat]
def k0_off1377 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2409 : BitVec 32 := 26#32
  let v5453 : BitVec 32 := Scalar.addi v5386 c26_i32_2409
  ![v5453.toNat]
def k0_off1378 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2408 : BitVec 32 := 26#32
  let v5452 : BitVec 32 := Scalar.addi v5386 c26_i32_2408
  let c5_i32_2410 : BitVec 32 := 5#32
  let c0_i32_2411 : BitVec 32 := 0#32
  ![v5452.toNat, 5, 0]
def k0_off1379 (v5451 : BitVec 32) : Fin 2 → Nat :=
  let c0_i32_2412 : BitVec 32 := 0#32
  ![v5451.toNat, 0]

def k0_chk726 (i : grid0.Coords) (v5451 : BitVec 32) : Prop :=
  (∀ (k0_h28 : k0_cond28 i = 1#1), ∀ a, (k0_off1379 v5451) a + S1x8192.size a ≤ S8192x8192.size a)
theorem k0_off1379_inb : ∀ (i : grid0.Coords) (v5451 : BitVec 32) (k0_hw726 : k0_chk726 i v5451), ∀ (k0_h28 : k0_cond28 i = 1#1), ∀ a, (k0_off1379 v5451) a + S1x8192.size a ≤ S8192x8192.size a := fun i v5451 k0_hw726 k0_h28 => k0_hw726 k0_h28

def k0_off1380 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c208_i32_2414 : BitVec 32 := 208#32
  let v5460 : BitVec 32 := Scalar.addi v5459 c208_i32_2414
  let c6_i32_2415 : BitVec 32 := 6#32
  let v5461 : BitVec 32 := Scalar.addi v5460 c6_i32_2415
  let v5462 : Index := Scalar.indexCast v5461
  ![v5462.toNat]
def k0_off1381 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2417 : BitVec 32 := 26#32
  let v5465 : BitVec 32 := Scalar.addi v5386 c26_i32_2417
  ![v5465.toNat]
def k0_off1382 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2416 : BitVec 32 := 26#32
  let v5464 : BitVec 32 := Scalar.addi v5386 c26_i32_2416
  let c6_i32_2418 : BitVec 32 := 6#32
  let c0_i32_2419 : BitVec 32 := 0#32
  ![v5464.toNat, 6, 0]
def k0_off1383 (v5463 : BitVec 32) : Fin 2 → Nat :=
  let c0_i32_2420 : BitVec 32 := 0#32
  ![v5463.toNat, 0]

def k0_chk727 (i : grid0.Coords) (v5463 : BitVec 32) : Prop :=
  (∀ (k0_h28 : k0_cond28 i = 1#1), ∀ a, (k0_off1383 v5463) a + S1x8192.size a ≤ S8192x8192.size a)
theorem k0_off1383_inb : ∀ (i : grid0.Coords) (v5463 : BitVec 32) (k0_hw727 : k0_chk727 i v5463), ∀ (k0_h28 : k0_cond28 i = 1#1), ∀ a, (k0_off1383 v5463) a + S1x8192.size a ≤ S8192x8192.size a := fun i v5463 k0_hw727 k0_h28 => k0_hw727 k0_h28

def k0_off1384 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c208_i32_2422 : BitVec 32 := 208#32
  let v5472 : BitVec 32 := Scalar.addi v5471 c208_i32_2422
  let c7_i32_2423 : BitVec 32 := 7#32
  let v5473 : BitVec 32 := Scalar.addi v5472 c7_i32_2423
  let v5474 : Index := Scalar.indexCast v5473
  ![v5474.toNat]
def k0_off1385 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2425 : BitVec 32 := 26#32
  let v5477 : BitVec 32 := Scalar.addi v5386 c26_i32_2425
  ![v5477.toNat]
def k0_off1386 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c26_i32_2424 : BitVec 32 := 26#32
  let v5476 : BitVec 32 := Scalar.addi v5386 c26_i32_2424
  let c7_i32_2426 : BitVec 32 := 7#32
  let c0_i32_2427 : BitVec 32 := 0#32
  ![v5476.toNat, 7, 0]
def k0_off1387 (v5475 : BitVec 32) : Fin 2 → Nat :=
  let c0_i32_2428 : BitVec 32 := 0#32
  ![v5475.toNat, 0]

def k0_chk728 (i : grid0.Coords) (v5475 : BitVec 32) : Prop :=
  (∀ (k0_h28 : k0_cond28 i = 1#1), ∀ a, (k0_off1387 v5475) a + S1x8192.size a ≤ S8192x8192.size a)
theorem k0_off1387_inb : ∀ (i : grid0.Coords) (v5475 : BitVec 32) (k0_hw728 : k0_chk728 i v5475), ∀ (k0_h28 : k0_cond28 i = 1#1), ∀ a, (k0_off1387 v5475) a + S1x8192.size a ≤ S8192x8192.size a := fun i v5475 k0_hw728 k0_h28 => k0_hw728 k0_h28

def k0_cond29 (i : grid0.Coords) : BitVec 1 :=
  let arg0 : BitVec 32 := BitVec.ofNat 32 (i 0).val
  let c3_i32_1982 : BitVec 32 := 3#32
  let v4498 : BitVec 32 := Scalar.addi arg0 c3_i32_1982
  let c1_i32_1983 : BitVec 32 := 1#32
  let v4499 : BitVec 32 := Scalar.subi v4498 c1_i32_1983
  let c64_i32_1984 : BitVec 32 := 64#32
  let v4500 : BitVec 1 := Scalar.cmpi .slt v4499 c64_i32_1984
  let v4501 : BitVec 32 := Scalar.extui v4500
  let c0_i32_1985 : BitVec 32 := 0#32
  let v4502 : BitVec 1 := Scalar.cmpi .ne v4501 c0_i32_1985
  v4502

def k0_off1388 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c216_i32_2366 : BitVec 32 := 216#32
  let v5388 : BitVec 32 := Scalar.addi v5387 c216_i32_2366
  let c0_i32_2367 : BitVec 32 := 0#32
  let v5389 : BitVec 32 := Scalar.addi v5388 c0_i32_2367
  let v5390 : Index := Scalar.indexCast v5389
  ![v5390.toNat]
def k0_off1389 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2369 : BitVec 32 := 27#32
  let v5393 : BitVec 32 := Scalar.addi v5386 c27_i32_2369
  ![v5393.toNat]
def k0_off1390 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2368 : BitVec 32 := 27#32
  let v5392 : BitVec 32 := Scalar.addi v5386 c27_i32_2368
  let c0_i32_2370 : BitVec 32 := 0#32
  let c0_i32_2371 : BitVec 32 := 0#32
  ![v5392.toNat, 0, 0]
def k0_off1391 (v5391 : BitVec 32) : Fin 2 → Nat :=
  let c0_i32_2372 : BitVec 32 := 0#32
  ![v5391.toNat, 0]

def k0_chk729 (i : grid0.Coords) (v5391 : BitVec 32) : Prop :=
  (∀ (k0_h29 : k0_cond29 i = 1#1), ∀ a, (k0_off1391 v5391) a + S1x8192.size a ≤ S8192x8192.size a)
theorem k0_off1391_inb : ∀ (i : grid0.Coords) (v5391 : BitVec 32) (k0_hw729 : k0_chk729 i v5391), ∀ (k0_h29 : k0_cond29 i = 1#1), ∀ a, (k0_off1391 v5391) a + S1x8192.size a ≤ S8192x8192.size a := fun i v5391 k0_hw729 k0_h29 => k0_hw729 k0_h29

def k0_off1392 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c216_i32_2374 : BitVec 32 := 216#32
  let v5400 : BitVec 32 := Scalar.addi v5399 c216_i32_2374
  let c1_i32_2375 : BitVec 32 := 1#32
  let v5401 : BitVec 32 := Scalar.addi v5400 c1_i32_2375
  let v5402 : Index := Scalar.indexCast v5401
  ![v5402.toNat]
def k0_off1393 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2377 : BitVec 32 := 27#32
  let v5405 : BitVec 32 := Scalar.addi v5386 c27_i32_2377
  ![v5405.toNat]
def k0_off1394 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2376 : BitVec 32 := 27#32
  let v5404 : BitVec 32 := Scalar.addi v5386 c27_i32_2376
  let c1_i32_2378 : BitVec 32 := 1#32
  let c0_i32_2379 : BitVec 32 := 0#32
  ![v5404.toNat, 1, 0]
def k0_off1395 (v5403 : BitVec 32) : Fin 2 → Nat :=
  let c0_i32_2380 : BitVec 32 := 0#32
  ![v5403.toNat, 0]

def k0_chk730 (i : grid0.Coords) (v5403 : BitVec 32) : Prop :=
  (∀ (k0_h29 : k0_cond29 i = 1#1), ∀ a, (k0_off1395 v5403) a + S1x8192.size a ≤ S8192x8192.size a)
theorem k0_off1395_inb : ∀ (i : grid0.Coords) (v5403 : BitVec 32) (k0_hw730 : k0_chk730 i v5403), ∀ (k0_h29 : k0_cond29 i = 1#1), ∀ a, (k0_off1395 v5403) a + S1x8192.size a ≤ S8192x8192.size a := fun i v5403 k0_hw730 k0_h29 => k0_hw730 k0_h29

def k0_off1396 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c216_i32_2382 : BitVec 32 := 216#32
  let v5412 : BitVec 32 := Scalar.addi v5411 c216_i32_2382
  let c2_i32_2383 : BitVec 32 := 2#32
  let v5413 : BitVec 32 := Scalar.addi v5412 c2_i32_2383
  let v5414 : Index := Scalar.indexCast v5413
  ![v5414.toNat]
def k0_off1397 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2385 : BitVec 32 := 27#32
  let v5417 : BitVec 32 := Scalar.addi v5386 c27_i32_2385
  ![v5417.toNat]
def k0_off1398 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2384 : BitVec 32 := 27#32
  let v5416 : BitVec 32 := Scalar.addi v5386 c27_i32_2384
  let c2_i32_2386 : BitVec 32 := 2#32
  let c0_i32_2387 : BitVec 32 := 0#32
  ![v5416.toNat, 2, 0]
def k0_off1399 (v5415 : BitVec 32) : Fin 2 → Nat :=
  let c0_i32_2388 : BitVec 32 := 0#32
  ![v5415.toNat, 0]

def k0_chk731 (i : grid0.Coords) (v5415 : BitVec 32) : Prop :=
  (∀ (k0_h29 : k0_cond29 i = 1#1), ∀ a, (k0_off1399 v5415) a + S1x8192.size a ≤ S8192x8192.size a)
theorem k0_off1399_inb : ∀ (i : grid0.Coords) (v5415 : BitVec 32) (k0_hw731 : k0_chk731 i v5415), ∀ (k0_h29 : k0_cond29 i = 1#1), ∀ a, (k0_off1399 v5415) a + S1x8192.size a ≤ S8192x8192.size a := fun i v5415 k0_hw731 k0_h29 => k0_hw731 k0_h29

def k0_off1400 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c216_i32_2390 : BitVec 32 := 216#32
  let v5424 : BitVec 32 := Scalar.addi v5423 c216_i32_2390
  let c3_i32_2391 : BitVec 32 := 3#32
  let v5425 : BitVec 32 := Scalar.addi v5424 c3_i32_2391
  let v5426 : Index := Scalar.indexCast v5425
  ![v5426.toNat]
def k0_off1401 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2393 : BitVec 32 := 27#32
  let v5429 : BitVec 32 := Scalar.addi v5386 c27_i32_2393
  ![v5429.toNat]
def k0_off1402 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2392 : BitVec 32 := 27#32
  let v5428 : BitVec 32 := Scalar.addi v5386 c27_i32_2392
  let c3_i32_2394 : BitVec 32 := 3#32
  let c0_i32_2395 : BitVec 32 := 0#32
  ![v5428.toNat, 3, 0]
def k0_off1403 (v5427 : BitVec 32) : Fin 2 → Nat :=
  let c0_i32_2396 : BitVec 32 := 0#32
  ![v5427.toNat, 0]

def k0_chk732 (i : grid0.Coords) (v5427 : BitVec 32) : Prop :=
  (∀ (k0_h29 : k0_cond29 i = 1#1), ∀ a, (k0_off1403 v5427) a + S1x8192.size a ≤ S8192x8192.size a)
theorem k0_off1403_inb : ∀ (i : grid0.Coords) (v5427 : BitVec 32) (k0_hw732 : k0_chk732 i v5427), ∀ (k0_h29 : k0_cond29 i = 1#1), ∀ a, (k0_off1403 v5427) a + S1x8192.size a ≤ S8192x8192.size a := fun i v5427 k0_hw732 k0_h29 => k0_hw732 k0_h29

def k0_off1404 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c216_i32_2398 : BitVec 32 := 216#32
  let v5436 : BitVec 32 := Scalar.addi v5435 c216_i32_2398
  let c4_i32_2399 : BitVec 32 := 4#32
  let v5437 : BitVec 32 := Scalar.addi v5436 c4_i32_2399
  let v5438 : Index := Scalar.indexCast v5437
  ![v5438.toNat]
def k0_off1405 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2401 : BitVec 32 := 27#32
  let v5441 : BitVec 32 := Scalar.addi v5386 c27_i32_2401
  ![v5441.toNat]
def k0_off1406 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2400 : BitVec 32 := 27#32
  let v5440 : BitVec 32 := Scalar.addi v5386 c27_i32_2400
  let c4_i32_2402 : BitVec 32 := 4#32
  let c0_i32_2403 : BitVec 32 := 0#32
  ![v5440.toNat, 4, 0]
def k0_off1407 (v5439 : BitVec 32) : Fin 2 → Nat :=
  let c0_i32_2404 : BitVec 32 := 0#32
  ![v5439.toNat, 0]

def k0_chk733 (i : grid0.Coords) (v5439 : BitVec 32) : Prop :=
  (∀ (k0_h29 : k0_cond29 i = 1#1), ∀ a, (k0_off1407 v5439) a + S1x8192.size a ≤ S8192x8192.size a)
theorem k0_off1407_inb : ∀ (i : grid0.Coords) (v5439 : BitVec 32) (k0_hw733 : k0_chk733 i v5439), ∀ (k0_h29 : k0_cond29 i = 1#1), ∀ a, (k0_off1407 v5439) a + S1x8192.size a ≤ S8192x8192.size a := fun i v5439 k0_hw733 k0_h29 => k0_hw733 k0_h29

def k0_off1408 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c216_i32_2406 : BitVec 32 := 216#32
  let v5448 : BitVec 32 := Scalar.addi v5447 c216_i32_2406
  let c5_i32_2407 : BitVec 32 := 5#32
  let v5449 : BitVec 32 := Scalar.addi v5448 c5_i32_2407
  let v5450 : Index := Scalar.indexCast v5449
  ![v5450.toNat]
def k0_off1409 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2409 : BitVec 32 := 27#32
  let v5453 : BitVec 32 := Scalar.addi v5386 c27_i32_2409
  ![v5453.toNat]
def k0_off1410 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2408 : BitVec 32 := 27#32
  let v5452 : BitVec 32 := Scalar.addi v5386 c27_i32_2408
  let c5_i32_2410 : BitVec 32 := 5#32
  let c0_i32_2411 : BitVec 32 := 0#32
  ![v5452.toNat, 5, 0]
def k0_off1411 (v5451 : BitVec 32) : Fin 2 → Nat :=
  let c0_i32_2412 : BitVec 32 := 0#32
  ![v5451.toNat, 0]

def k0_chk734 (i : grid0.Coords) (v5451 : BitVec 32) : Prop :=
  (∀ (k0_h29 : k0_cond29 i = 1#1), ∀ a, (k0_off1411 v5451) a + S1x8192.size a ≤ S8192x8192.size a)
theorem k0_off1411_inb : ∀ (i : grid0.Coords) (v5451 : BitVec 32) (k0_hw734 : k0_chk734 i v5451), ∀ (k0_h29 : k0_cond29 i = 1#1), ∀ a, (k0_off1411 v5451) a + S1x8192.size a ≤ S8192x8192.size a := fun i v5451 k0_hw734 k0_h29 => k0_hw734 k0_h29

def k0_off1412 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c216_i32_2414 : BitVec 32 := 216#32
  let v5460 : BitVec 32 := Scalar.addi v5459 c216_i32_2414
  let c6_i32_2415 : BitVec 32 := 6#32
  let v5461 : BitVec 32 := Scalar.addi v5460 c6_i32_2415
  let v5462 : Index := Scalar.indexCast v5461
  ![v5462.toNat]
def k0_off1413 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2417 : BitVec 32 := 27#32
  let v5465 : BitVec 32 := Scalar.addi v5386 c27_i32_2417
  ![v5465.toNat]
def k0_off1414 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2416 : BitVec 32 := 27#32
  let v5464 : BitVec 32 := Scalar.addi v5386 c27_i32_2416
  let c6_i32_2418 : BitVec 32 := 6#32
  let c0_i32_2419 : BitVec 32 := 0#32
  ![v5464.toNat, 6, 0]
def k0_off1415 (v5463 : BitVec 32) : Fin 2 → Nat :=
  let c0_i32_2420 : BitVec 32 := 0#32
  ![v5463.toNat, 0]

def k0_chk735 (i : grid0.Coords) (v5463 : BitVec 32) : Prop :=
  (∀ (k0_h29 : k0_cond29 i = 1#1), ∀ a, (k0_off1415 v5463) a + S1x8192.size a ≤ S8192x8192.size a)
theorem k0_off1415_inb : ∀ (i : grid0.Coords) (v5463 : BitVec 32) (k0_hw735 : k0_chk735 i v5463), ∀ (k0_h29 : k0_cond29 i = 1#1), ∀ a, (k0_off1415 v5463) a + S1x8192.size a ≤ S8192x8192.size a := fun i v5463 k0_hw735 k0_h29 => k0_hw735 k0_h29

def k0_off1416 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c216_i32_2422 : BitVec 32 := 216#32
  let v5472 : BitVec 32 := Scalar.addi v5471 c216_i32_2422
  let c7_i32_2423 : BitVec 32 := 7#32
  let v5473 : BitVec 32 := Scalar.addi v5472 c7_i32_2423
  let v5474 : Index := Scalar.indexCast v5473
  ![v5474.toNat]
def k0_off1417 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2425 : BitVec 32 := 27#32
  let v5477 : BitVec 32 := Scalar.addi v5386 c27_i32_2425
  ![v5477.toNat]
def k0_off1418 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c27_i32_2424 : BitVec 32 := 27#32
  let v5476 : BitVec 32 := Scalar.addi v5386 c27_i32_2424
  let c7_i32_2426 : BitVec 32 := 7#32
  let c0_i32_2427 : BitVec 32 := 0#32
  ![v5476.toNat, 7, 0]
def k0_off1419 (v5475 : BitVec 32) : Fin 2 → Nat :=
  let c0_i32_2428 : BitVec 32 := 0#32
  ![v5475.toNat, 0]

def k0_chk736 (i : grid0.Coords) (v5475 : BitVec 32) : Prop :=
  (∀ (k0_h29 : k0_cond29 i = 1#1), ∀ a, (k0_off1419 v5475) a + S1x8192.size a ≤ S8192x8192.size a)
theorem k0_off1419_inb : ∀ (i : grid0.Coords) (v5475 : BitVec 32) (k0_hw736 : k0_chk736 i v5475), ∀ (k0_h29 : k0_cond29 i = 1#1), ∀ a, (k0_off1419 v5475) a + S1x8192.size a ≤ S8192x8192.size a := fun i v5475 k0_hw736 k0_h29 => k0_hw736 k0_h29

def k0_cond30 (i : grid0.Coords) : BitVec 1 :=
  let arg0 : BitVec 32 := BitVec.ofNat 32 (i 0).val
  let c3_i32_2055 : BitVec 32 := 3#32
  let v4664 : BitVec 32 := Scalar.addi arg0 c3_i32_2055
  let c1_i32_2056 : BitVec 32 := 1#32
  let v4665 : BitVec 32 := Scalar.subi v4664 c1_i32_2056
  let c64_i32_2057 : BitVec 32 := 64#32
  let v4666 : BitVec 1 := Scalar.cmpi .slt v4665 c64_i32_2057
  let v4667 : BitVec 32 := Scalar.extui v4666
  let c0_i32_2058 : BitVec 32 := 0#32
  let v4668 : BitVec 1 := Scalar.cmpi .ne v4667 c0_i32_2058
  v4668

def k0_off1420 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c224_i32_2366 : BitVec 32 := 224#32
  let v5388 : BitVec 32 := Scalar.addi v5387 c224_i32_2366
  let c0_i32_2367 : BitVec 32 := 0#32
  let v5389 : BitVec 32 := Scalar.addi v5388 c0_i32_2367
  let v5390 : Index := Scalar.indexCast v5389
  ![v5390.toNat]
def k0_off1421 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2369 : BitVec 32 := 28#32
  let v5393 : BitVec 32 := Scalar.addi v5386 c28_i32_2369
  ![v5393.toNat]
def k0_off1422 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2368 : BitVec 32 := 28#32
  let v5392 : BitVec 32 := Scalar.addi v5386 c28_i32_2368
  let c0_i32_2370 : BitVec 32 := 0#32
  let c0_i32_2371 : BitVec 32 := 0#32
  ![v5392.toNat, 0, 0]
def k0_off1423 (v5391 : BitVec 32) : Fin 2 → Nat :=
  let c0_i32_2372 : BitVec 32 := 0#32
  ![v5391.toNat, 0]

def k0_chk737 (i : grid0.Coords) (v5391 : BitVec 32) : Prop :=
  (∀ (k0_h30 : k0_cond30 i = 1#1), ∀ a, (k0_off1423 v5391) a + S1x8192.size a ≤ S8192x8192.size a)
theorem k0_off1423_inb : ∀ (i : grid0.Coords) (v5391 : BitVec 32) (k0_hw737 : k0_chk737 i v5391), ∀ (k0_h30 : k0_cond30 i = 1#1), ∀ a, (k0_off1423 v5391) a + S1x8192.size a ≤ S8192x8192.size a := fun i v5391 k0_hw737 k0_h30 => k0_hw737 k0_h30

def k0_off1424 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c224_i32_2374 : BitVec 32 := 224#32
  let v5400 : BitVec 32 := Scalar.addi v5399 c224_i32_2374
  let c1_i32_2375 : BitVec 32 := 1#32
  let v5401 : BitVec 32 := Scalar.addi v5400 c1_i32_2375
  let v5402 : Index := Scalar.indexCast v5401
  ![v5402.toNat]
def k0_off1425 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2377 : BitVec 32 := 28#32
  let v5405 : BitVec 32 := Scalar.addi v5386 c28_i32_2377
  ![v5405.toNat]
def k0_off1426 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2376 : BitVec 32 := 28#32
  let v5404 : BitVec 32 := Scalar.addi v5386 c28_i32_2376
  let c1_i32_2378 : BitVec 32 := 1#32
  let c0_i32_2379 : BitVec 32 := 0#32
  ![v5404.toNat, 1, 0]
def k0_off1427 (v5403 : BitVec 32) : Fin 2 → Nat :=
  let c0_i32_2380 : BitVec 32 := 0#32
  ![v5403.toNat, 0]

def k0_chk738 (i : grid0.Coords) (v5403 : BitVec 32) : Prop :=
  (∀ (k0_h30 : k0_cond30 i = 1#1), ∀ a, (k0_off1427 v5403) a + S1x8192.size a ≤ S8192x8192.size a)
theorem k0_off1427_inb : ∀ (i : grid0.Coords) (v5403 : BitVec 32) (k0_hw738 : k0_chk738 i v5403), ∀ (k0_h30 : k0_cond30 i = 1#1), ∀ a, (k0_off1427 v5403) a + S1x8192.size a ≤ S8192x8192.size a := fun i v5403 k0_hw738 k0_h30 => k0_hw738 k0_h30

def k0_off1428 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c224_i32_2382 : BitVec 32 := 224#32
  let v5412 : BitVec 32 := Scalar.addi v5411 c224_i32_2382
  let c2_i32_2383 : BitVec 32 := 2#32
  let v5413 : BitVec 32 := Scalar.addi v5412 c2_i32_2383
  let v5414 : Index := Scalar.indexCast v5413
  ![v5414.toNat]
def k0_off1429 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2385 : BitVec 32 := 28#32
  let v5417 : BitVec 32 := Scalar.addi v5386 c28_i32_2385
  ![v5417.toNat]
def k0_off1430 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2384 : BitVec 32 := 28#32
  let v5416 : BitVec 32 := Scalar.addi v5386 c28_i32_2384
  let c2_i32_2386 : BitVec 32 := 2#32
  let c0_i32_2387 : BitVec 32 := 0#32
  ![v5416.toNat, 2, 0]
def k0_off1431 (v5415 : BitVec 32) : Fin 2 → Nat :=
  let c0_i32_2388 : BitVec 32 := 0#32
  ![v5415.toNat, 0]

def k0_chk739 (i : grid0.Coords) (v5415 : BitVec 32) : Prop :=
  (∀ (k0_h30 : k0_cond30 i = 1#1), ∀ a, (k0_off1431 v5415) a + S1x8192.size a ≤ S8192x8192.size a)
theorem k0_off1431_inb : ∀ (i : grid0.Coords) (v5415 : BitVec 32) (k0_hw739 : k0_chk739 i v5415), ∀ (k0_h30 : k0_cond30 i = 1#1), ∀ a, (k0_off1431 v5415) a + S1x8192.size a ≤ S8192x8192.size a := fun i v5415 k0_hw739 k0_h30 => k0_hw739 k0_h30

def k0_off1432 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c224_i32_2390 : BitVec 32 := 224#32
  let v5424 : BitVec 32 := Scalar.addi v5423 c224_i32_2390
  let c3_i32_2391 : BitVec 32 := 3#32
  let v5425 : BitVec 32 := Scalar.addi v5424 c3_i32_2391
  let v5426 : Index := Scalar.indexCast v5425
  ![v5426.toNat]
def k0_off1433 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2393 : BitVec 32 := 28#32
  let v5429 : BitVec 32 := Scalar.addi v5386 c28_i32_2393
  ![v5429.toNat]
def k0_off1434 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2392 : BitVec 32 := 28#32
  let v5428 : BitVec 32 := Scalar.addi v5386 c28_i32_2392
  let c3_i32_2394 : BitVec 32 := 3#32
  let c0_i32_2395 : BitVec 32 := 0#32
  ![v5428.toNat, 3, 0]
def k0_off1435 (v5427 : BitVec 32) : Fin 2 → Nat :=
  let c0_i32_2396 : BitVec 32 := 0#32
  ![v5427.toNat, 0]

def k0_chk740 (i : grid0.Coords) (v5427 : BitVec 32) : Prop :=
  (∀ (k0_h30 : k0_cond30 i = 1#1), ∀ a, (k0_off1435 v5427) a + S1x8192.size a ≤ S8192x8192.size a)
theorem k0_off1435_inb : ∀ (i : grid0.Coords) (v5427 : BitVec 32) (k0_hw740 : k0_chk740 i v5427), ∀ (k0_h30 : k0_cond30 i = 1#1), ∀ a, (k0_off1435 v5427) a + S1x8192.size a ≤ S8192x8192.size a := fun i v5427 k0_hw740 k0_h30 => k0_hw740 k0_h30

def k0_off1436 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c224_i32_2398 : BitVec 32 := 224#32
  let v5436 : BitVec 32 := Scalar.addi v5435 c224_i32_2398
  let c4_i32_2399 : BitVec 32 := 4#32
  let v5437 : BitVec 32 := Scalar.addi v5436 c4_i32_2399
  let v5438 : Index := Scalar.indexCast v5437
  ![v5438.toNat]
def k0_off1437 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2401 : BitVec 32 := 28#32
  let v5441 : BitVec 32 := Scalar.addi v5386 c28_i32_2401
  ![v5441.toNat]
def k0_off1438 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2400 : BitVec 32 := 28#32
  let v5440 : BitVec 32 := Scalar.addi v5386 c28_i32_2400
  let c4_i32_2402 : BitVec 32 := 4#32
  let c0_i32_2403 : BitVec 32 := 0#32
  ![v5440.toNat, 4, 0]
def k0_off1439 (v5439 : BitVec 32) : Fin 2 → Nat :=
  let c0_i32_2404 : BitVec 32 := 0#32
  ![v5439.toNat, 0]

def k0_chk741 (i : grid0.Coords) (v5439 : BitVec 32) : Prop :=
  (∀ (k0_h30 : k0_cond30 i = 1#1), ∀ a, (k0_off1439 v5439) a + S1x8192.size a ≤ S8192x8192.size a)
theorem k0_off1439_inb : ∀ (i : grid0.Coords) (v5439 : BitVec 32) (k0_hw741 : k0_chk741 i v5439), ∀ (k0_h30 : k0_cond30 i = 1#1), ∀ a, (k0_off1439 v5439) a + S1x8192.size a ≤ S8192x8192.size a := fun i v5439 k0_hw741 k0_h30 => k0_hw741 k0_h30

def k0_off1440 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c224_i32_2406 : BitVec 32 := 224#32
  let v5448 : BitVec 32 := Scalar.addi v5447 c224_i32_2406
  let c5_i32_2407 : BitVec 32 := 5#32
  let v5449 : BitVec 32 := Scalar.addi v5448 c5_i32_2407
  let v5450 : Index := Scalar.indexCast v5449
  ![v5450.toNat]
def k0_off1441 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2409 : BitVec 32 := 28#32
  let v5453 : BitVec 32 := Scalar.addi v5386 c28_i32_2409
  ![v5453.toNat]
def k0_off1442 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2408 : BitVec 32 := 28#32
  let v5452 : BitVec 32 := Scalar.addi v5386 c28_i32_2408
  let c5_i32_2410 : BitVec 32 := 5#32
  let c0_i32_2411 : BitVec 32 := 0#32
  ![v5452.toNat, 5, 0]
def k0_off1443 (v5451 : BitVec 32) : Fin 2 → Nat :=
  let c0_i32_2412 : BitVec 32 := 0#32
  ![v5451.toNat, 0]

def k0_chk742 (i : grid0.Coords) (v5451 : BitVec 32) : Prop :=
  (∀ (k0_h30 : k0_cond30 i = 1#1), ∀ a, (k0_off1443 v5451) a + S1x8192.size a ≤ S8192x8192.size a)
theorem k0_off1443_inb : ∀ (i : grid0.Coords) (v5451 : BitVec 32) (k0_hw742 : k0_chk742 i v5451), ∀ (k0_h30 : k0_cond30 i = 1#1), ∀ a, (k0_off1443 v5451) a + S1x8192.size a ≤ S8192x8192.size a := fun i v5451 k0_hw742 k0_h30 => k0_hw742 k0_h30

def k0_off1444 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c224_i32_2414 : BitVec 32 := 224#32
  let v5460 : BitVec 32 := Scalar.addi v5459 c224_i32_2414
  let c6_i32_2415 : BitVec 32 := 6#32
  let v5461 : BitVec 32 := Scalar.addi v5460 c6_i32_2415
  let v5462 : Index := Scalar.indexCast v5461
  ![v5462.toNat]
def k0_off1445 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2417 : BitVec 32 := 28#32
  let v5465 : BitVec 32 := Scalar.addi v5386 c28_i32_2417
  ![v5465.toNat]
def k0_off1446 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2416 : BitVec 32 := 28#32
  let v5464 : BitVec 32 := Scalar.addi v5386 c28_i32_2416
  let c6_i32_2418 : BitVec 32 := 6#32
  let c0_i32_2419 : BitVec 32 := 0#32
  ![v5464.toNat, 6, 0]
def k0_off1447 (v5463 : BitVec 32) : Fin 2 → Nat :=
  let c0_i32_2420 : BitVec 32 := 0#32
  ![v5463.toNat, 0]

def k0_chk743 (i : grid0.Coords) (v5463 : BitVec 32) : Prop :=
  (∀ (k0_h30 : k0_cond30 i = 1#1), ∀ a, (k0_off1447 v5463) a + S1x8192.size a ≤ S8192x8192.size a)
theorem k0_off1447_inb : ∀ (i : grid0.Coords) (v5463 : BitVec 32) (k0_hw743 : k0_chk743 i v5463), ∀ (k0_h30 : k0_cond30 i = 1#1), ∀ a, (k0_off1447 v5463) a + S1x8192.size a ≤ S8192x8192.size a := fun i v5463 k0_hw743 k0_h30 => k0_hw743 k0_h30

def k0_off1448 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c224_i32_2422 : BitVec 32 := 224#32
  let v5472 : BitVec 32 := Scalar.addi v5471 c224_i32_2422
  let c7_i32_2423 : BitVec 32 := 7#32
  let v5473 : BitVec 32 := Scalar.addi v5472 c7_i32_2423
  let v5474 : Index := Scalar.indexCast v5473
  ![v5474.toNat]
def k0_off1449 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2425 : BitVec 32 := 28#32
  let v5477 : BitVec 32 := Scalar.addi v5386 c28_i32_2425
  ![v5477.toNat]
def k0_off1450 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c28_i32_2424 : BitVec 32 := 28#32
  let v5476 : BitVec 32 := Scalar.addi v5386 c28_i32_2424
  let c7_i32_2426 : BitVec 32 := 7#32
  let c0_i32_2427 : BitVec 32 := 0#32
  ![v5476.toNat, 7, 0]
def k0_off1451 (v5475 : BitVec 32) : Fin 2 → Nat :=
  let c0_i32_2428 : BitVec 32 := 0#32
  ![v5475.toNat, 0]

def k0_chk744 (i : grid0.Coords) (v5475 : BitVec 32) : Prop :=
  (∀ (k0_h30 : k0_cond30 i = 1#1), ∀ a, (k0_off1451 v5475) a + S1x8192.size a ≤ S8192x8192.size a)
theorem k0_off1451_inb : ∀ (i : grid0.Coords) (v5475 : BitVec 32) (k0_hw744 : k0_chk744 i v5475), ∀ (k0_h30 : k0_cond30 i = 1#1), ∀ a, (k0_off1451 v5475) a + S1x8192.size a ≤ S8192x8192.size a := fun i v5475 k0_hw744 k0_h30 => k0_hw744 k0_h30

def k0_cond31 (i : grid0.Coords) : BitVec 1 :=
  let arg0 : BitVec 32 := BitVec.ofNat 32 (i 0).val
  let c3_i32_2128 : BitVec 32 := 3#32
  let v4830 : BitVec 32 := Scalar.addi arg0 c3_i32_2128
  let c1_i32_2129 : BitVec 32 := 1#32
  let v4831 : BitVec 32 := Scalar.subi v4830 c1_i32_2129
  let c64_i32_2130 : BitVec 32 := 64#32
  let v4832 : BitVec 1 := Scalar.cmpi .slt v4831 c64_i32_2130
  let v4833 : BitVec 32 := Scalar.extui v4832
  let c0_i32_2131 : BitVec 32 := 0#32
  let v4834 : BitVec 1 := Scalar.cmpi .ne v4833 c0_i32_2131
  v4834

def k0_off1452 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c232_i32_2366 : BitVec 32 := 232#32
  let v5388 : BitVec 32 := Scalar.addi v5387 c232_i32_2366
  let c0_i32_2367 : BitVec 32 := 0#32
  let v5389 : BitVec 32 := Scalar.addi v5388 c0_i32_2367
  let v5390 : Index := Scalar.indexCast v5389
  ![v5390.toNat]
def k0_off1453 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2369 : BitVec 32 := 29#32
  let v5393 : BitVec 32 := Scalar.addi v5386 c29_i32_2369
  ![v5393.toNat]
def k0_off1454 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2368 : BitVec 32 := 29#32
  let v5392 : BitVec 32 := Scalar.addi v5386 c29_i32_2368
  let c0_i32_2370 : BitVec 32 := 0#32
  let c0_i32_2371 : BitVec 32 := 0#32
  ![v5392.toNat, 0, 0]
def k0_off1455 (v5391 : BitVec 32) : Fin 2 → Nat :=
  let c0_i32_2372 : BitVec 32 := 0#32
  ![v5391.toNat, 0]

def k0_chk745 (i : grid0.Coords) (v5391 : BitVec 32) : Prop :=
  (∀ (k0_h31 : k0_cond31 i = 1#1), ∀ a, (k0_off1455 v5391) a + S1x8192.size a ≤ S8192x8192.size a)
theorem k0_off1455_inb : ∀ (i : grid0.Coords) (v5391 : BitVec 32) (k0_hw745 : k0_chk745 i v5391), ∀ (k0_h31 : k0_cond31 i = 1#1), ∀ a, (k0_off1455 v5391) a + S1x8192.size a ≤ S8192x8192.size a := fun i v5391 k0_hw745 k0_h31 => k0_hw745 k0_h31

def k0_off1456 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c232_i32_2374 : BitVec 32 := 232#32
  let v5400 : BitVec 32 := Scalar.addi v5399 c232_i32_2374
  let c1_i32_2375 : BitVec 32 := 1#32
  let v5401 : BitVec 32 := Scalar.addi v5400 c1_i32_2375
  let v5402 : Index := Scalar.indexCast v5401
  ![v5402.toNat]
def k0_off1457 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2377 : BitVec 32 := 29#32
  let v5405 : BitVec 32 := Scalar.addi v5386 c29_i32_2377
  ![v5405.toNat]
def k0_off1458 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2376 : BitVec 32 := 29#32
  let v5404 : BitVec 32 := Scalar.addi v5386 c29_i32_2376
  let c1_i32_2378 : BitVec 32 := 1#32
  let c0_i32_2379 : BitVec 32 := 0#32
  ![v5404.toNat, 1, 0]
def k0_off1459 (v5403 : BitVec 32) : Fin 2 → Nat :=
  let c0_i32_2380 : BitVec 32 := 0#32
  ![v5403.toNat, 0]

def k0_chk746 (i : grid0.Coords) (v5403 : BitVec 32) : Prop :=
  (∀ (k0_h31 : k0_cond31 i = 1#1), ∀ a, (k0_off1459 v5403) a + S1x8192.size a ≤ S8192x8192.size a)
theorem k0_off1459_inb : ∀ (i : grid0.Coords) (v5403 : BitVec 32) (k0_hw746 : k0_chk746 i v5403), ∀ (k0_h31 : k0_cond31 i = 1#1), ∀ a, (k0_off1459 v5403) a + S1x8192.size a ≤ S8192x8192.size a := fun i v5403 k0_hw746 k0_h31 => k0_hw746 k0_h31

def k0_off1460 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c232_i32_2382 : BitVec 32 := 232#32
  let v5412 : BitVec 32 := Scalar.addi v5411 c232_i32_2382
  let c2_i32_2383 : BitVec 32 := 2#32
  let v5413 : BitVec 32 := Scalar.addi v5412 c2_i32_2383
  let v5414 : Index := Scalar.indexCast v5413
  ![v5414.toNat]
def k0_off1461 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2385 : BitVec 32 := 29#32
  let v5417 : BitVec 32 := Scalar.addi v5386 c29_i32_2385
  ![v5417.toNat]
def k0_off1462 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2384 : BitVec 32 := 29#32
  let v5416 : BitVec 32 := Scalar.addi v5386 c29_i32_2384
  let c2_i32_2386 : BitVec 32 := 2#32
  let c0_i32_2387 : BitVec 32 := 0#32
  ![v5416.toNat, 2, 0]
def k0_off1463 (v5415 : BitVec 32) : Fin 2 → Nat :=
  let c0_i32_2388 : BitVec 32 := 0#32
  ![v5415.toNat, 0]

def k0_chk747 (i : grid0.Coords) (v5415 : BitVec 32) : Prop :=
  (∀ (k0_h31 : k0_cond31 i = 1#1), ∀ a, (k0_off1463 v5415) a + S1x8192.size a ≤ S8192x8192.size a)
theorem k0_off1463_inb : ∀ (i : grid0.Coords) (v5415 : BitVec 32) (k0_hw747 : k0_chk747 i v5415), ∀ (k0_h31 : k0_cond31 i = 1#1), ∀ a, (k0_off1463 v5415) a + S1x8192.size a ≤ S8192x8192.size a := fun i v5415 k0_hw747 k0_h31 => k0_hw747 k0_h31

def k0_off1464 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c232_i32_2390 : BitVec 32 := 232#32
  let v5424 : BitVec 32 := Scalar.addi v5423 c232_i32_2390
  let c3_i32_2391 : BitVec 32 := 3#32
  let v5425 : BitVec 32 := Scalar.addi v5424 c3_i32_2391
  let v5426 : Index := Scalar.indexCast v5425
  ![v5426.toNat]
def k0_off1465 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2393 : BitVec 32 := 29#32
  let v5429 : BitVec 32 := Scalar.addi v5386 c29_i32_2393
  ![v5429.toNat]
def k0_off1466 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2392 : BitVec 32 := 29#32
  let v5428 : BitVec 32 := Scalar.addi v5386 c29_i32_2392
  let c3_i32_2394 : BitVec 32 := 3#32
  let c0_i32_2395 : BitVec 32 := 0#32
  ![v5428.toNat, 3, 0]
def k0_off1467 (v5427 : BitVec 32) : Fin 2 → Nat :=
  let c0_i32_2396 : BitVec 32 := 0#32
  ![v5427.toNat, 0]

def k0_chk748 (i : grid0.Coords) (v5427 : BitVec 32) : Prop :=
  (∀ (k0_h31 : k0_cond31 i = 1#1), ∀ a, (k0_off1467 v5427) a + S1x8192.size a ≤ S8192x8192.size a)
theorem k0_off1467_inb : ∀ (i : grid0.Coords) (v5427 : BitVec 32) (k0_hw748 : k0_chk748 i v5427), ∀ (k0_h31 : k0_cond31 i = 1#1), ∀ a, (k0_off1467 v5427) a + S1x8192.size a ≤ S8192x8192.size a := fun i v5427 k0_hw748 k0_h31 => k0_hw748 k0_h31

def k0_off1468 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c232_i32_2398 : BitVec 32 := 232#32
  let v5436 : BitVec 32 := Scalar.addi v5435 c232_i32_2398
  let c4_i32_2399 : BitVec 32 := 4#32
  let v5437 : BitVec 32 := Scalar.addi v5436 c4_i32_2399
  let v5438 : Index := Scalar.indexCast v5437
  ![v5438.toNat]
def k0_off1469 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2401 : BitVec 32 := 29#32
  let v5441 : BitVec 32 := Scalar.addi v5386 c29_i32_2401
  ![v5441.toNat]
def k0_off1470 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2400 : BitVec 32 := 29#32
  let v5440 : BitVec 32 := Scalar.addi v5386 c29_i32_2400
  let c4_i32_2402 : BitVec 32 := 4#32
  let c0_i32_2403 : BitVec 32 := 0#32
  ![v5440.toNat, 4, 0]
def k0_off1471 (v5439 : BitVec 32) : Fin 2 → Nat :=
  let c0_i32_2404 : BitVec 32 := 0#32
  ![v5439.toNat, 0]

def k0_chk749 (i : grid0.Coords) (v5439 : BitVec 32) : Prop :=
  (∀ (k0_h31 : k0_cond31 i = 1#1), ∀ a, (k0_off1471 v5439) a + S1x8192.size a ≤ S8192x8192.size a)
theorem k0_off1471_inb : ∀ (i : grid0.Coords) (v5439 : BitVec 32) (k0_hw749 : k0_chk749 i v5439), ∀ (k0_h31 : k0_cond31 i = 1#1), ∀ a, (k0_off1471 v5439) a + S1x8192.size a ≤ S8192x8192.size a := fun i v5439 k0_hw749 k0_h31 => k0_hw749 k0_h31

def k0_off1472 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c232_i32_2406 : BitVec 32 := 232#32
  let v5448 : BitVec 32 := Scalar.addi v5447 c232_i32_2406
  let c5_i32_2407 : BitVec 32 := 5#32
  let v5449 : BitVec 32 := Scalar.addi v5448 c5_i32_2407
  let v5450 : Index := Scalar.indexCast v5449
  ![v5450.toNat]
def k0_off1473 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2409 : BitVec 32 := 29#32
  let v5453 : BitVec 32 := Scalar.addi v5386 c29_i32_2409
  ![v5453.toNat]
def k0_off1474 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2408 : BitVec 32 := 29#32
  let v5452 : BitVec 32 := Scalar.addi v5386 c29_i32_2408
  let c5_i32_2410 : BitVec 32 := 5#32
  let c0_i32_2411 : BitVec 32 := 0#32
  ![v5452.toNat, 5, 0]
def k0_off1475 (v5451 : BitVec 32) : Fin 2 → Nat :=
  let c0_i32_2412 : BitVec 32 := 0#32
  ![v5451.toNat, 0]

def k0_chk750 (i : grid0.Coords) (v5451 : BitVec 32) : Prop :=
  (∀ (k0_h31 : k0_cond31 i = 1#1), ∀ a, (k0_off1475 v5451) a + S1x8192.size a ≤ S8192x8192.size a)
theorem k0_off1475_inb : ∀ (i : grid0.Coords) (v5451 : BitVec 32) (k0_hw750 : k0_chk750 i v5451), ∀ (k0_h31 : k0_cond31 i = 1#1), ∀ a, (k0_off1475 v5451) a + S1x8192.size a ≤ S8192x8192.size a := fun i v5451 k0_hw750 k0_h31 => k0_hw750 k0_h31

def k0_off1476 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c232_i32_2414 : BitVec 32 := 232#32
  let v5460 : BitVec 32 := Scalar.addi v5459 c232_i32_2414
  let c6_i32_2415 : BitVec 32 := 6#32
  let v5461 : BitVec 32 := Scalar.addi v5460 c6_i32_2415
  let v5462 : Index := Scalar.indexCast v5461
  ![v5462.toNat]
def k0_off1477 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2417 : BitVec 32 := 29#32
  let v5465 : BitVec 32 := Scalar.addi v5386 c29_i32_2417
  ![v5465.toNat]
def k0_off1478 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2416 : BitVec 32 := 29#32
  let v5464 : BitVec 32 := Scalar.addi v5386 c29_i32_2416
  let c6_i32_2418 : BitVec 32 := 6#32
  let c0_i32_2419 : BitVec 32 := 0#32
  ![v5464.toNat, 6, 0]
def k0_off1479 (v5463 : BitVec 32) : Fin 2 → Nat :=
  let c0_i32_2420 : BitVec 32 := 0#32
  ![v5463.toNat, 0]

def k0_chk751 (i : grid0.Coords) (v5463 : BitVec 32) : Prop :=
  (∀ (k0_h31 : k0_cond31 i = 1#1), ∀ a, (k0_off1479 v5463) a + S1x8192.size a ≤ S8192x8192.size a)
theorem k0_off1479_inb : ∀ (i : grid0.Coords) (v5463 : BitVec 32) (k0_hw751 : k0_chk751 i v5463), ∀ (k0_h31 : k0_cond31 i = 1#1), ∀ a, (k0_off1479 v5463) a + S1x8192.size a ≤ S8192x8192.size a := fun i v5463 k0_hw751 k0_h31 => k0_hw751 k0_h31

def k0_off1480 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c232_i32_2422 : BitVec 32 := 232#32
  let v5472 : BitVec 32 := Scalar.addi v5471 c232_i32_2422
  let c7_i32_2423 : BitVec 32 := 7#32
  let v5473 : BitVec 32 := Scalar.addi v5472 c7_i32_2423
  let v5474 : Index := Scalar.indexCast v5473
  ![v5474.toNat]
def k0_off1481 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2425 : BitVec 32 := 29#32
  let v5477 : BitVec 32 := Scalar.addi v5386 c29_i32_2425
  ![v5477.toNat]
def k0_off1482 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c29_i32_2424 : BitVec 32 := 29#32
  let v5476 : BitVec 32 := Scalar.addi v5386 c29_i32_2424
  let c7_i32_2426 : BitVec 32 := 7#32
  let c0_i32_2427 : BitVec 32 := 0#32
  ![v5476.toNat, 7, 0]
def k0_off1483 (v5475 : BitVec 32) : Fin 2 → Nat :=
  let c0_i32_2428 : BitVec 32 := 0#32
  ![v5475.toNat, 0]

def k0_chk752 (i : grid0.Coords) (v5475 : BitVec 32) : Prop :=
  (∀ (k0_h31 : k0_cond31 i = 1#1), ∀ a, (k0_off1483 v5475) a + S1x8192.size a ≤ S8192x8192.size a)
theorem k0_off1483_inb : ∀ (i : grid0.Coords) (v5475 : BitVec 32) (k0_hw752 : k0_chk752 i v5475), ∀ (k0_h31 : k0_cond31 i = 1#1), ∀ a, (k0_off1483 v5475) a + S1x8192.size a ≤ S8192x8192.size a := fun i v5475 k0_hw752 k0_h31 => k0_hw752 k0_h31

def k0_cond32 (i : grid0.Coords) : BitVec 1 :=
  let arg0 : BitVec 32 := BitVec.ofNat 32 (i 0).val
  let c3_i32_2201 : BitVec 32 := 3#32
  let v4996 : BitVec 32 := Scalar.addi arg0 c3_i32_2201
  let c1_i32_2202 : BitVec 32 := 1#32
  let v4997 : BitVec 32 := Scalar.subi v4996 c1_i32_2202
  let c64_i32_2203 : BitVec 32 := 64#32
  let v4998 : BitVec 1 := Scalar.cmpi .slt v4997 c64_i32_2203
  let v4999 : BitVec 32 := Scalar.extui v4998
  let c0_i32_2204 : BitVec 32 := 0#32
  let v5000 : BitVec 1 := Scalar.cmpi .ne v4999 c0_i32_2204
  v5000

def k0_off1484 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c240_i32_2366 : BitVec 32 := 240#32
  let v5388 : BitVec 32 := Scalar.addi v5387 c240_i32_2366
  let c0_i32_2367 : BitVec 32 := 0#32
  let v5389 : BitVec 32 := Scalar.addi v5388 c0_i32_2367
  let v5390 : Index := Scalar.indexCast v5389
  ![v5390.toNat]
def k0_off1485 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2369 : BitVec 32 := 30#32
  let v5393 : BitVec 32 := Scalar.addi v5386 c30_i32_2369
  ![v5393.toNat]
def k0_off1486 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2368 : BitVec 32 := 30#32
  let v5392 : BitVec 32 := Scalar.addi v5386 c30_i32_2368
  let c0_i32_2370 : BitVec 32 := 0#32
  let c0_i32_2371 : BitVec 32 := 0#32
  ![v5392.toNat, 0, 0]
def k0_off1487 (v5391 : BitVec 32) : Fin 2 → Nat :=
  let c0_i32_2372 : BitVec 32 := 0#32
  ![v5391.toNat, 0]

def k0_chk753 (i : grid0.Coords) (v5391 : BitVec 32) : Prop :=
  (∀ (k0_h32 : k0_cond32 i = 1#1), ∀ a, (k0_off1487 v5391) a + S1x8192.size a ≤ S8192x8192.size a)
theorem k0_off1487_inb : ∀ (i : grid0.Coords) (v5391 : BitVec 32) (k0_hw753 : k0_chk753 i v5391), ∀ (k0_h32 : k0_cond32 i = 1#1), ∀ a, (k0_off1487 v5391) a + S1x8192.size a ≤ S8192x8192.size a := fun i v5391 k0_hw753 k0_h32 => k0_hw753 k0_h32

def k0_off1488 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c240_i32_2374 : BitVec 32 := 240#32
  let v5400 : BitVec 32 := Scalar.addi v5399 c240_i32_2374
  let c1_i32_2375 : BitVec 32 := 1#32
  let v5401 : BitVec 32 := Scalar.addi v5400 c1_i32_2375
  let v5402 : Index := Scalar.indexCast v5401
  ![v5402.toNat]
def k0_off1489 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2377 : BitVec 32 := 30#32
  let v5405 : BitVec 32 := Scalar.addi v5386 c30_i32_2377
  ![v5405.toNat]
def k0_off1490 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2376 : BitVec 32 := 30#32
  let v5404 : BitVec 32 := Scalar.addi v5386 c30_i32_2376
  let c1_i32_2378 : BitVec 32 := 1#32
  let c0_i32_2379 : BitVec 32 := 0#32
  ![v5404.toNat, 1, 0]
def k0_off1491 (v5403 : BitVec 32) : Fin 2 → Nat :=
  let c0_i32_2380 : BitVec 32 := 0#32
  ![v5403.toNat, 0]

def k0_chk754 (i : grid0.Coords) (v5403 : BitVec 32) : Prop :=
  (∀ (k0_h32 : k0_cond32 i = 1#1), ∀ a, (k0_off1491 v5403) a + S1x8192.size a ≤ S8192x8192.size a)
theorem k0_off1491_inb : ∀ (i : grid0.Coords) (v5403 : BitVec 32) (k0_hw754 : k0_chk754 i v5403), ∀ (k0_h32 : k0_cond32 i = 1#1), ∀ a, (k0_off1491 v5403) a + S1x8192.size a ≤ S8192x8192.size a := fun i v5403 k0_hw754 k0_h32 => k0_hw754 k0_h32

def k0_off1492 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c240_i32_2382 : BitVec 32 := 240#32
  let v5412 : BitVec 32 := Scalar.addi v5411 c240_i32_2382
  let c2_i32_2383 : BitVec 32 := 2#32
  let v5413 : BitVec 32 := Scalar.addi v5412 c2_i32_2383
  let v5414 : Index := Scalar.indexCast v5413
  ![v5414.toNat]
def k0_off1493 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2385 : BitVec 32 := 30#32
  let v5417 : BitVec 32 := Scalar.addi v5386 c30_i32_2385
  ![v5417.toNat]
def k0_off1494 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2384 : BitVec 32 := 30#32
  let v5416 : BitVec 32 := Scalar.addi v5386 c30_i32_2384
  let c2_i32_2386 : BitVec 32 := 2#32
  let c0_i32_2387 : BitVec 32 := 0#32
  ![v5416.toNat, 2, 0]
def k0_off1495 (v5415 : BitVec 32) : Fin 2 → Nat :=
  let c0_i32_2388 : BitVec 32 := 0#32
  ![v5415.toNat, 0]

def k0_chk755 (i : grid0.Coords) (v5415 : BitVec 32) : Prop :=
  (∀ (k0_h32 : k0_cond32 i = 1#1), ∀ a, (k0_off1495 v5415) a + S1x8192.size a ≤ S8192x8192.size a)
theorem k0_off1495_inb : ∀ (i : grid0.Coords) (v5415 : BitVec 32) (k0_hw755 : k0_chk755 i v5415), ∀ (k0_h32 : k0_cond32 i = 1#1), ∀ a, (k0_off1495 v5415) a + S1x8192.size a ≤ S8192x8192.size a := fun i v5415 k0_hw755 k0_h32 => k0_hw755 k0_h32

def k0_off1496 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c240_i32_2390 : BitVec 32 := 240#32
  let v5424 : BitVec 32 := Scalar.addi v5423 c240_i32_2390
  let c3_i32_2391 : BitVec 32 := 3#32
  let v5425 : BitVec 32 := Scalar.addi v5424 c3_i32_2391
  let v5426 : Index := Scalar.indexCast v5425
  ![v5426.toNat]
def k0_off1497 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2393 : BitVec 32 := 30#32
  let v5429 : BitVec 32 := Scalar.addi v5386 c30_i32_2393
  ![v5429.toNat]
def k0_off1498 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2392 : BitVec 32 := 30#32
  let v5428 : BitVec 32 := Scalar.addi v5386 c30_i32_2392
  let c3_i32_2394 : BitVec 32 := 3#32
  let c0_i32_2395 : BitVec 32 := 0#32
  ![v5428.toNat, 3, 0]
def k0_off1499 (v5427 : BitVec 32) : Fin 2 → Nat :=
  let c0_i32_2396 : BitVec 32 := 0#32
  ![v5427.toNat, 0]

variable {F : FTy → Type} [FloatOps F]

def k0_chk756 (i : grid0.Coords) (v5427 : BitVec 32) : Prop :=
  (∀ (k0_h32 : k0_cond32 i = 1#1), ∀ a, (k0_off1499 v5427) a + S1x8192.size a ≤ S8192x8192.size a)
theorem k0_off1499_inb : ∀ (i : grid0.Coords) (v5427 : BitVec 32) (k0_hw756 : k0_chk756 i v5427), ∀ (k0_h32 : k0_cond32 i = 1#1), ∀ a, (k0_off1499 v5427) a + S1x8192.size a ≤ S8192x8192.size a := fun i v5427 k0_hw756 k0_h32 => k0_hw756 k0_h32

def k0_off1500 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c240_i32_2398 : BitVec 32 := 240#32
  let v5436 : BitVec 32 := Scalar.addi v5435 c240_i32_2398
  let c4_i32_2399 : BitVec 32 := 4#32
  let v5437 : BitVec 32 := Scalar.addi v5436 c4_i32_2399
  let v5438 : Index := Scalar.indexCast v5437
  ![v5438.toNat]
def k0_off1501 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2401 : BitVec 32 := 30#32
  let v5441 : BitVec 32 := Scalar.addi v5386 c30_i32_2401
  ![v5441.toNat]
def k0_off1502 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2400 : BitVec 32 := 30#32
  let v5440 : BitVec 32 := Scalar.addi v5386 c30_i32_2400
  let c4_i32_2402 : BitVec 32 := 4#32
  let c0_i32_2403 : BitVec 32 := 0#32
  ![v5440.toNat, 4, 0]
def k0_off1503 (v5439 : BitVec 32) : Fin 2 → Nat :=
  let c0_i32_2404 : BitVec 32 := 0#32
  ![v5439.toNat, 0]

def k0_chk757 (i : grid0.Coords) (v5439 : BitVec 32) : Prop :=
  (∀ (k0_h32 : k0_cond32 i = 1#1), ∀ a, (k0_off1503 v5439) a + S1x8192.size a ≤ S8192x8192.size a)
theorem k0_off1503_inb : ∀ (i : grid0.Coords) (v5439 : BitVec 32) (k0_hw757 : k0_chk757 i v5439), ∀ (k0_h32 : k0_cond32 i = 1#1), ∀ a, (k0_off1503 v5439) a + S1x8192.size a ≤ S8192x8192.size a := fun i v5439 k0_hw757 k0_h32 => k0_hw757 k0_h32

def k0_off1504 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c240_i32_2406 : BitVec 32 := 240#32
  let v5448 : BitVec 32 := Scalar.addi v5447 c240_i32_2406
  let c5_i32_2407 : BitVec 32 := 5#32
  let v5449 : BitVec 32 := Scalar.addi v5448 c5_i32_2407
  let v5450 : Index := Scalar.indexCast v5449
  ![v5450.toNat]
def k0_off1505 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2409 : BitVec 32 := 30#32
  let v5453 : BitVec 32 := Scalar.addi v5386 c30_i32_2409
  ![v5453.toNat]
def k0_off1506 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2408 : BitVec 32 := 30#32
  let v5452 : BitVec 32 := Scalar.addi v5386 c30_i32_2408
  let c5_i32_2410 : BitVec 32 := 5#32
  let c0_i32_2411 : BitVec 32 := 0#32
  ![v5452.toNat, 5, 0]
def k0_off1507 (v5451 : BitVec 32) : Fin 2 → Nat :=
  let c0_i32_2412 : BitVec 32 := 0#32
  ![v5451.toNat, 0]

def k0_chk758 (i : grid0.Coords) (v5451 : BitVec 32) : Prop :=
  (∀ (k0_h32 : k0_cond32 i = 1#1), ∀ a, (k0_off1507 v5451) a + S1x8192.size a ≤ S8192x8192.size a)
theorem k0_off1507_inb : ∀ (i : grid0.Coords) (v5451 : BitVec 32) (k0_hw758 : k0_chk758 i v5451), ∀ (k0_h32 : k0_cond32 i = 1#1), ∀ a, (k0_off1507 v5451) a + S1x8192.size a ≤ S8192x8192.size a := fun i v5451 k0_hw758 k0_h32 => k0_hw758 k0_h32

def k0_off1508 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c240_i32_2414 : BitVec 32 := 240#32
  let v5460 : BitVec 32 := Scalar.addi v5459 c240_i32_2414
  let c6_i32_2415 : BitVec 32 := 6#32
  let v5461 : BitVec 32 := Scalar.addi v5460 c6_i32_2415
  let v5462 : Index := Scalar.indexCast v5461
  ![v5462.toNat]
def k0_off1509 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2417 : BitVec 32 := 30#32
  let v5465 : BitVec 32 := Scalar.addi v5386 c30_i32_2417
  ![v5465.toNat]
def k0_off1510 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2416 : BitVec 32 := 30#32
  let v5464 : BitVec 32 := Scalar.addi v5386 c30_i32_2416
  let c6_i32_2418 : BitVec 32 := 6#32
  let c0_i32_2419 : BitVec 32 := 0#32
  ![v5464.toNat, 6, 0]
def k0_off1511 (v5463 : BitVec 32) : Fin 2 → Nat :=
  let c0_i32_2420 : BitVec 32 := 0#32
  ![v5463.toNat, 0]

def k0_chk759 (i : grid0.Coords) (v5463 : BitVec 32) : Prop :=
  (∀ (k0_h32 : k0_cond32 i = 1#1), ∀ a, (k0_off1511 v5463) a + S1x8192.size a ≤ S8192x8192.size a)
theorem k0_off1511_inb : ∀ (i : grid0.Coords) (v5463 : BitVec 32) (k0_hw759 : k0_chk759 i v5463), ∀ (k0_h32 : k0_cond32 i = 1#1), ∀ a, (k0_off1511 v5463) a + S1x8192.size a ≤ S8192x8192.size a := fun i v5463 k0_hw759 k0_h32 => k0_hw759 k0_h32

def k0_off1512 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c240_i32_2422 : BitVec 32 := 240#32
  let v5472 : BitVec 32 := Scalar.addi v5471 c240_i32_2422
  let c7_i32_2423 : BitVec 32 := 7#32
  let v5473 : BitVec 32 := Scalar.addi v5472 c7_i32_2423
  let v5474 : Index := Scalar.indexCast v5473
  ![v5474.toNat]
def k0_off1513 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2425 : BitVec 32 := 30#32
  let v5477 : BitVec 32 := Scalar.addi v5386 c30_i32_2425
  ![v5477.toNat]
def k0_off1514 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c30_i32_2424 : BitVec 32 := 30#32
  let v5476 : BitVec 32 := Scalar.addi v5386 c30_i32_2424
  let c7_i32_2426 : BitVec 32 := 7#32
  let c0_i32_2427 : BitVec 32 := 0#32
  ![v5476.toNat, 7, 0]
def k0_off1515 (v5475 : BitVec 32) : Fin 2 → Nat :=
  let c0_i32_2428 : BitVec 32 := 0#32
  ![v5475.toNat, 0]

def k0_chk760 (i : grid0.Coords) (v5475 : BitVec 32) : Prop :=
  (∀ (k0_h32 : k0_cond32 i = 1#1), ∀ a, (k0_off1515 v5475) a + S1x8192.size a ≤ S8192x8192.size a)
theorem k0_off1515_inb : ∀ (i : grid0.Coords) (v5475 : BitVec 32) (k0_hw760 : k0_chk760 i v5475), ∀ (k0_h32 : k0_cond32 i = 1#1), ∀ a, (k0_off1515 v5475) a + S1x8192.size a ≤ S8192x8192.size a := fun i v5475 k0_hw760 k0_h32 => k0_hw760 k0_h32

def k0_cond33 (i : grid0.Coords) : BitVec 1 :=
  let arg0 : BitVec 32 := BitVec.ofNat 32 (i 0).val
  let c3_i32_2274 : BitVec 32 := 3#32
  let v5162 : BitVec 32 := Scalar.addi arg0 c3_i32_2274
  let c1_i32_2275 : BitVec 32 := 1#32
  let v5163 : BitVec 32 := Scalar.subi v5162 c1_i32_2275
  let c64_i32_2276 : BitVec 32 := 64#32
  let v5164 : BitVec 1 := Scalar.cmpi .slt v5163 c64_i32_2276
  let v5165 : BitVec 32 := Scalar.extui v5164
  let c0_i32_2277 : BitVec 32 := 0#32
  let v5166 : BitVec 1 := Scalar.cmpi .ne v5165 c0_i32_2277
  v5166

def k0_off1516 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2365 : BitVec 32 := 256#32
  let v5387 : BitVec 32 := Scalar.muli v5375 c256_i32_2365
  let c248_i32_2366 : BitVec 32 := 248#32
  let v5388 : BitVec 32 := Scalar.addi v5387 c248_i32_2366
  let c0_i32_2367 : BitVec 32 := 0#32
  let v5389 : BitVec 32 := Scalar.addi v5388 c0_i32_2367
  let v5390 : Index := Scalar.indexCast v5389
  ![v5390.toNat]
def k0_off1517 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2369 : BitVec 32 := 31#32
  let v5393 : BitVec 32 := Scalar.addi v5386 c31_i32_2369
  ![v5393.toNat]
def k0_off1518 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2368 : BitVec 32 := 31#32
  let v5392 : BitVec 32 := Scalar.addi v5386 c31_i32_2368
  let c0_i32_2370 : BitVec 32 := 0#32
  let c0_i32_2371 : BitVec 32 := 0#32
  ![v5392.toNat, 0, 0]
def k0_off1519 (v5391 : BitVec 32) : Fin 2 → Nat :=
  let c0_i32_2372 : BitVec 32 := 0#32
  ![v5391.toNat, 0]

def k0_chk761 (i : grid0.Coords) (v5391 : BitVec 32) : Prop :=
  (∀ (k0_h33 : k0_cond33 i = 1#1), ∀ a, (k0_off1519 v5391) a + S1x8192.size a ≤ S8192x8192.size a)
theorem k0_off1519_inb : ∀ (i : grid0.Coords) (v5391 : BitVec 32) (k0_hw761 : k0_chk761 i v5391), ∀ (k0_h33 : k0_cond33 i = 1#1), ∀ a, (k0_off1519 v5391) a + S1x8192.size a ≤ S8192x8192.size a := fun i v5391 k0_hw761 k0_h33 => k0_hw761 k0_h33

def k0_off1520 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2373 : BitVec 32 := 256#32
  let v5399 : BitVec 32 := Scalar.muli v5375 c256_i32_2373
  let c248_i32_2374 : BitVec 32 := 248#32
  let v5400 : BitVec 32 := Scalar.addi v5399 c248_i32_2374
  let c1_i32_2375 : BitVec 32 := 1#32
  let v5401 : BitVec 32 := Scalar.addi v5400 c1_i32_2375
  let v5402 : Index := Scalar.indexCast v5401
  ![v5402.toNat]
def k0_off1521 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2377 : BitVec 32 := 31#32
  let v5405 : BitVec 32 := Scalar.addi v5386 c31_i32_2377
  ![v5405.toNat]
def k0_off1522 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2376 : BitVec 32 := 31#32
  let v5404 : BitVec 32 := Scalar.addi v5386 c31_i32_2376
  let c1_i32_2378 : BitVec 32 := 1#32
  let c0_i32_2379 : BitVec 32 := 0#32
  ![v5404.toNat, 1, 0]
def k0_off1523 (v5403 : BitVec 32) : Fin 2 → Nat :=
  let c0_i32_2380 : BitVec 32 := 0#32
  ![v5403.toNat, 0]

def k0_chk762 (i : grid0.Coords) (v5403 : BitVec 32) : Prop :=
  (∀ (k0_h33 : k0_cond33 i = 1#1), ∀ a, (k0_off1523 v5403) a + S1x8192.size a ≤ S8192x8192.size a)
theorem k0_off1523_inb : ∀ (i : grid0.Coords) (v5403 : BitVec 32) (k0_hw762 : k0_chk762 i v5403), ∀ (k0_h33 : k0_cond33 i = 1#1), ∀ a, (k0_off1523 v5403) a + S1x8192.size a ≤ S8192x8192.size a := fun i v5403 k0_hw762 k0_h33 => k0_hw762 k0_h33

def k0_off1524 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2381 : BitVec 32 := 256#32
  let v5411 : BitVec 32 := Scalar.muli v5375 c256_i32_2381
  let c248_i32_2382 : BitVec 32 := 248#32
  let v5412 : BitVec 32 := Scalar.addi v5411 c248_i32_2382
  let c2_i32_2383 : BitVec 32 := 2#32
  let v5413 : BitVec 32 := Scalar.addi v5412 c2_i32_2383
  let v5414 : Index := Scalar.indexCast v5413
  ![v5414.toNat]
def k0_off1525 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2385 : BitVec 32 := 31#32
  let v5417 : BitVec 32 := Scalar.addi v5386 c31_i32_2385
  ![v5417.toNat]
def k0_off1526 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2384 : BitVec 32 := 31#32
  let v5416 : BitVec 32 := Scalar.addi v5386 c31_i32_2384
  let c2_i32_2386 : BitVec 32 := 2#32
  let c0_i32_2387 : BitVec 32 := 0#32
  ![v5416.toNat, 2, 0]
def k0_off1527 (v5415 : BitVec 32) : Fin 2 → Nat :=
  let c0_i32_2388 : BitVec 32 := 0#32
  ![v5415.toNat, 0]

def k0_chk763 (i : grid0.Coords) (v5415 : BitVec 32) : Prop :=
  (∀ (k0_h33 : k0_cond33 i = 1#1), ∀ a, (k0_off1527 v5415) a + S1x8192.size a ≤ S8192x8192.size a)
theorem k0_off1527_inb : ∀ (i : grid0.Coords) (v5415 : BitVec 32) (k0_hw763 : k0_chk763 i v5415), ∀ (k0_h33 : k0_cond33 i = 1#1), ∀ a, (k0_off1527 v5415) a + S1x8192.size a ≤ S8192x8192.size a := fun i v5415 k0_hw763 k0_h33 => k0_hw763 k0_h33

def k0_off1528 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2389 : BitVec 32 := 256#32
  let v5423 : BitVec 32 := Scalar.muli v5375 c256_i32_2389
  let c248_i32_2390 : BitVec 32 := 248#32
  let v5424 : BitVec 32 := Scalar.addi v5423 c248_i32_2390
  let c3_i32_2391 : BitVec 32 := 3#32
  let v5425 : BitVec 32 := Scalar.addi v5424 c3_i32_2391
  let v5426 : Index := Scalar.indexCast v5425
  ![v5426.toNat]
def k0_off1529 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2393 : BitVec 32 := 31#32
  let v5429 : BitVec 32 := Scalar.addi v5386 c31_i32_2393
  ![v5429.toNat]
def k0_off1530 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2392 : BitVec 32 := 31#32
  let v5428 : BitVec 32 := Scalar.addi v5386 c31_i32_2392
  let c3_i32_2394 : BitVec 32 := 3#32
  let c0_i32_2395 : BitVec 32 := 0#32
  ![v5428.toNat, 3, 0]
def k0_off1531 (v5427 : BitVec 32) : Fin 2 → Nat :=
  let c0_i32_2396 : BitVec 32 := 0#32
  ![v5427.toNat, 0]

def k0_chk764 (i : grid0.Coords) (v5427 : BitVec 32) : Prop :=
  (∀ (k0_h33 : k0_cond33 i = 1#1), ∀ a, (k0_off1531 v5427) a + S1x8192.size a ≤ S8192x8192.size a)
theorem k0_off1531_inb : ∀ (i : grid0.Coords) (v5427 : BitVec 32) (k0_hw764 : k0_chk764 i v5427), ∀ (k0_h33 : k0_cond33 i = 1#1), ∀ a, (k0_off1531 v5427) a + S1x8192.size a ≤ S8192x8192.size a := fun i v5427 k0_hw764 k0_h33 => k0_hw764 k0_h33

def k0_off1532 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2397 : BitVec 32 := 256#32
  let v5435 : BitVec 32 := Scalar.muli v5375 c256_i32_2397
  let c248_i32_2398 : BitVec 32 := 248#32
  let v5436 : BitVec 32 := Scalar.addi v5435 c248_i32_2398
  let c4_i32_2399 : BitVec 32 := 4#32
  let v5437 : BitVec 32 := Scalar.addi v5436 c4_i32_2399
  let v5438 : Index := Scalar.indexCast v5437
  ![v5438.toNat]
def k0_off1533 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2401 : BitVec 32 := 31#32
  let v5441 : BitVec 32 := Scalar.addi v5386 c31_i32_2401
  ![v5441.toNat]
def k0_off1534 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2400 : BitVec 32 := 31#32
  let v5440 : BitVec 32 := Scalar.addi v5386 c31_i32_2400
  let c4_i32_2402 : BitVec 32 := 4#32
  let c0_i32_2403 : BitVec 32 := 0#32
  ![v5440.toNat, 4, 0]
def k0_off1535 (v5439 : BitVec 32) : Fin 2 → Nat :=
  let c0_i32_2404 : BitVec 32 := 0#32
  ![v5439.toNat, 0]

def k0_chk765 (i : grid0.Coords) (v5439 : BitVec 32) : Prop :=
  (∀ (k0_h33 : k0_cond33 i = 1#1), ∀ a, (k0_off1535 v5439) a + S1x8192.size a ≤ S8192x8192.size a)
theorem k0_off1535_inb : ∀ (i : grid0.Coords) (v5439 : BitVec 32) (k0_hw765 : k0_chk765 i v5439), ∀ (k0_h33 : k0_cond33 i = 1#1), ∀ a, (k0_off1535 v5439) a + S1x8192.size a ≤ S8192x8192.size a := fun i v5439 k0_hw765 k0_h33 => k0_hw765 k0_h33

def k0_off1536 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2405 : BitVec 32 := 256#32
  let v5447 : BitVec 32 := Scalar.muli v5375 c256_i32_2405
  let c248_i32_2406 : BitVec 32 := 248#32
  let v5448 : BitVec 32 := Scalar.addi v5447 c248_i32_2406
  let c5_i32_2407 : BitVec 32 := 5#32
  let v5449 : BitVec 32 := Scalar.addi v5448 c5_i32_2407
  let v5450 : Index := Scalar.indexCast v5449
  ![v5450.toNat]
def k0_off1537 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2409 : BitVec 32 := 31#32
  let v5453 : BitVec 32 := Scalar.addi v5386 c31_i32_2409
  ![v5453.toNat]
def k0_off1538 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2408 : BitVec 32 := 31#32
  let v5452 : BitVec 32 := Scalar.addi v5386 c31_i32_2408
  let c5_i32_2410 : BitVec 32 := 5#32
  let c0_i32_2411 : BitVec 32 := 0#32
  ![v5452.toNat, 5, 0]
def k0_off1539 (v5451 : BitVec 32) : Fin 2 → Nat :=
  let c0_i32_2412 : BitVec 32 := 0#32
  ![v5451.toNat, 0]

def k0_chk766 (i : grid0.Coords) (v5451 : BitVec 32) : Prop :=
  (∀ (k0_h33 : k0_cond33 i = 1#1), ∀ a, (k0_off1539 v5451) a + S1x8192.size a ≤ S8192x8192.size a)
theorem k0_off1539_inb : ∀ (i : grid0.Coords) (v5451 : BitVec 32) (k0_hw766 : k0_chk766 i v5451), ∀ (k0_h33 : k0_cond33 i = 1#1), ∀ a, (k0_off1539 v5451) a + S1x8192.size a ≤ S8192x8192.size a := fun i v5451 k0_hw766 k0_h33 => k0_hw766 k0_h33

def k0_off1540 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2413 : BitVec 32 := 256#32
  let v5459 : BitVec 32 := Scalar.muli v5375 c256_i32_2413
  let c248_i32_2414 : BitVec 32 := 248#32
  let v5460 : BitVec 32 := Scalar.addi v5459 c248_i32_2414
  let c6_i32_2415 : BitVec 32 := 6#32
  let v5461 : BitVec 32 := Scalar.addi v5460 c6_i32_2415
  let v5462 : Index := Scalar.indexCast v5461
  ![v5462.toNat]
def k0_off1541 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2417 : BitVec 32 := 31#32
  let v5465 : BitVec 32 := Scalar.addi v5386 c31_i32_2417
  ![v5465.toNat]
def k0_off1542 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2416 : BitVec 32 := 31#32
  let v5464 : BitVec 32 := Scalar.addi v5386 c31_i32_2416
  let c6_i32_2418 : BitVec 32 := 6#32
  let c0_i32_2419 : BitVec 32 := 0#32
  ![v5464.toNat, 6, 0]
def k0_off1543 (v5463 : BitVec 32) : Fin 2 → Nat :=
  let c0_i32_2420 : BitVec 32 := 0#32
  ![v5463.toNat, 0]

def k0_chk767 (i : grid0.Coords) (v5463 : BitVec 32) : Prop :=
  (∀ (k0_h33 : k0_cond33 i = 1#1), ∀ a, (k0_off1543 v5463) a + S1x8192.size a ≤ S8192x8192.size a)
theorem k0_off1543_inb : ∀ (i : grid0.Coords) (v5463 : BitVec 32) (k0_hw767 : k0_chk767 i v5463), ∀ (k0_h33 : k0_cond33 i = 1#1), ∀ a, (k0_off1543 v5463) a + S1x8192.size a ≤ S8192x8192.size a := fun i v5463 k0_hw767 k0_h33 => k0_hw767 k0_h33

def k0_off1544 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c256_i32_2421 : BitVec 32 := 256#32
  let v5471 : BitVec 32 := Scalar.muli v5375 c256_i32_2421
  let c248_i32_2422 : BitVec 32 := 248#32
  let v5472 : BitVec 32 := Scalar.addi v5471 c248_i32_2422
  let c7_i32_2423 : BitVec 32 := 7#32
  let v5473 : BitVec 32 := Scalar.addi v5472 c7_i32_2423
  let v5474 : Index := Scalar.indexCast v5473
  ![v5474.toNat]
def k0_off1545 (i : grid0.Coords) : Fin 1 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2425 : BitVec 32 := 31#32
  let v5477 : BitVec 32 := Scalar.addi v5386 c31_i32_2425
  ![v5477.toNat]
def k0_off1546 (i : grid0.Coords) : Fin 3 → Nat :=
  let arg0 : BitVec 32 := BitVec.ofNat 32 (i 0).val
  let c3_i32_2356 : BitVec 32 := 3#32
  let v5374 : BitVec 32 := Scalar.addi arg0 c3_i32_2356
  let c1_i32_2357 : BitVec 32 := 1#32
  let v5375 : BitVec 32 := Scalar.subi v5374 c1_i32_2357
  let c3_i32_2358 : BitVec 32 := 3#32
  let c0_i32_2359 : BitVec 32 := 0#32
  let v5376 : BitVec 1 := Scalar.cmpi .eq c3_i32_2358 c0_i32_2359
  let c1_i32_2360 : BitVec 32 := 1#32
  let v5377 : BitVec 32 := Scalar.select v5376 c1_i32_2360 c3_i32_2358
  let v5378 : BitVec 32 := Scalar.remsi v5375 v5377
  let c0_i32_2362 : BitVec 32 := 0#32
  let v5380 : BitVec 1 := Scalar.cmpi .slt v5378 c0_i32_2362
  let c0_i32_2363 : BitVec 32 := 0#32
  let v5381 : BitVec 1 := Scalar.cmpi .slt v5377 c0_i32_2363
  let v5382 : BitVec 1 := Scalar.xori v5380 v5381
  let c0_i32_2361 : BitVec 32 := 0#32
  let v5379 : BitVec 1 := Scalar.cmpi .ne v5378 c0_i32_2361
  let v5383 : BitVec 1 := Scalar.andi v5382 v5379
  let v5384 : BitVec 32 := Scalar.addi v5378 v5377
  let v5385 : BitVec 32 := Scalar.select v5383 v5384 v5378
  let c32_i32_2364 : BitVec 32 := 32#32
  let v5386 : BitVec 32 := Scalar.muli v5385 c32_i32_2364
  let c31_i32_2424 : BitVec 32 := 31#32
  let v5476 : BitVec 32 := Scalar.addi v5386 c31_i32_2424
  let c7_i32_2426 : BitVec 32 := 7#32
  let c0_i32_2427 : BitVec 32 := 0#32
  ![v5476.toNat, 7, 0]
def k0_off1547 (v5475 : BitVec 32) : Fin 2 → Nat :=
  let c0_i32_2428 : BitVec 32 := 0#32
  ![v5475.toNat, 0]

def k0_chk768 (i : grid0.Coords) (v5475 : BitVec 32) : Prop :=
  (∀ (k0_h33 : k0_cond33 i = 1#1), ∀ a, (k0_off1547 v5475) a + S1x8192.size a ≤ S8192x8192.size a)
theorem k0_off1547_inb : ∀ (i : grid0.Coords) (v5475 : BitVec 32) (k0_hw768 : k0_chk768 i v5475), ∀ (k0_h33 : k0_cond33 i = 1#1), ∀ a, (k0_off1547 v5475) a + S1x8192.size a ≤ S8192x8192.size a := fun i v5475 k0_hw768 k0_h33 => k0_hw768 k0_h33

def k0_cond34 (i : grid0.Coords) : BitVec 1 :=
  let arg0 : BitVec 32 := BitVec.ofNat 32 (i 0).val
  let c63_i32 : BitVec 32 := 63#32
  let v5371 : BitVec 1 := Scalar.cmpi .eq arg0 c63_i32
  let v5372 : BitVec 32 := Scalar.extui v5371
  let c0_i32_2355 : BitVec 32 := 0#32
  let v5373 : BitVec 1 := Scalar.cmpi .ne v5372 c0_i32_2355
  v5373

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x512 : Shape := ⟨2, ![32, 512]⟩
abbrev S8192x8192 : Shape := ⟨2, ![8192, 8192]⟩
abbrev S_ : Shape := ⟨0, ![]⟩
abbrev S32x512x1 : Shape := ⟨3, ![32, 512, 1]⟩
abbrev S1 : Shape := ⟨1, ![1]⟩
abbrev S1x1x1 : Shape := ⟨3, ![1, 1, 1]⟩
abbrev S32x512x8192 : Shape := ⟨3, ![32, 512, 8192]⟩
abbrev S16384x8192 : Shape := ⟨2, ![16384, 8192]⟩
abbrev S16384 : Shape := ⟨1, ![16384]⟩
abbrev S16384x1 : Shape := ⟨2, ![16384, 1]⟩
abbrev S16384x1x1 : Shape := ⟨3, ![16384, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S32x512, .i32⟩
  | .hbm, ⟨2, _⟩ => ⟨S8192x8192, .f32⟩
  | .hbm, ⟨3, _⟩ => ⟨S_, .i32⟩
  | .hbm, ⟨4, _⟩ => ⟨S32x512, .i32⟩
  | .hbm, ⟨5, _⟩ => ⟨S32x512, .i1⟩
  | .hbm, ⟨6, _⟩ => ⟨S_, .i32⟩
  | .hbm, ⟨7, _⟩ => ⟨S32x512, .i32⟩
  | .hbm, ⟨8, _⟩ => ⟨S32x512, .i32⟩
  | .hbm, ⟨9, _⟩ => ⟨S32x512, .i32⟩
  | .hbm, ⟨10, _⟩ => ⟨S32x512x1, .i32⟩
  | .hbm, ⟨11, _⟩ => ⟨S1, .i32⟩
  | .hbm, ⟨12, _⟩ => ⟨S_, .i32⟩
  | .hbm, ⟨13, _⟩ => ⟨S32x512x1, .i32⟩
  | .hbm, ⟨14, _⟩ => ⟨S32x512x1, .i1⟩
  | .hbm, ⟨15, _⟩ => ⟨S1x1x1, .i32⟩
  | .hbm, ⟨16, _⟩ => ⟨S32x512x1, .i32⟩
  | .hbm, ⟨17, _⟩ => ⟨S32x512x1, .i1⟩
  | .hbm, ⟨18, _⟩ => ⟨S32x512x1, .i1⟩
  | .hbm, ⟨19, _⟩ => ⟨S_, .i1⟩
  | .hbm, ⟨20, _⟩ => ⟨S32x512, .i1⟩
  | .hbm, ⟨21, _⟩ => ⟨S32x512x8192, .f32⟩
  | .hbm, ⟨22, _⟩ => ⟨S32x512x8192, .i1⟩
  | .hbm, ⟨23, _⟩ => ⟨S_, .f32⟩
  | .hbm, ⟨24, _⟩ => ⟨S32x512x8192, .f32⟩
  | .hbm, ⟨25, _⟩ => ⟨S32x512x8192, .f32⟩
  | .hbm, ⟨26, _⟩ => ⟨S16384x8192, .f32⟩
  | .hbm, ⟨27, _⟩ => ⟨S16384, .i32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .i1⟩
  | .hbm, ⟨34, _⟩ => ⟨S_, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x8192, .f32⟩
  | .hbm, ⟨40, _⟩ => ⟨S16384x8192, .f32⟩
  | .hbm, ⟨41, _⟩ => ⟨S16384x8192, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S16384x1, .i32⟩
  | .hbm, ⟨47, _⟩ => ⟨S_, .i32⟩
  | .hbm, ⟨48, _⟩ => ⟨S16384x1, .i32⟩
  | .hbm, ⟨49, _⟩ => ⟨S16384x1, .i1⟩
  | .hbm, ⟨50, _⟩ => ⟨S_, .i32⟩
  | .hbm, ⟨51, _⟩ => ⟨S16384x1, .i32⟩
  | .hbm, ⟨52, _⟩ => ⟨S16384x1, .i32⟩
  | .hbm, ⟨53, _⟩ => ⟨S16384x1, .i32⟩
  | .hbm, ⟨54, _⟩ => ⟨S16384x1x1, .i32⟩
  | .hbm, ⟨55, _⟩ => ⟨S1, .i32⟩
  | .hbm, ⟨56, _⟩ => ⟨S_, .i32⟩
  | .hbm, ⟨57, _⟩ => ⟨S16384x1x1, .i32⟩
  | .hbm, ⟨58, _⟩ => ⟨S16384x1x1, .i1⟩
  | .hbm, ⟨59, _⟩ => ⟨S1x1x1, .i32⟩
  | .hbm, ⟨60, _⟩ => ⟨S16384x1x1, .i32⟩
  | .hbm, ⟨61, _⟩ => ⟨S16384x1x1, .i1⟩
  | .hbm, ⟨62, _⟩ => ⟨S16384x1x1, .i1⟩
  | .hbm, ⟨63, _⟩ => ⟨S_, .i1⟩
  | .hbm, ⟨64, _⟩ => ⟨S16384x1, .i1⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384, .f32⟩
  | .hbm, ⟨70, _⟩ => ⟨S16384, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_cst_3 : Ref sig .tc := ⟨.hbm, 71, rfl⟩
abbrev main_v19 : Ref sig .tc := ⟨.hbm, 72, rfl⟩
abbrev main_cst_4 : Ref sig .tc := ⟨.hbm, 73, rfl⟩
abbrev main_v20 : Ref sig .tc := ⟨.hbm, 74, rfl⟩

abbrev nD : Nat := 1
abbrev τ : Topo := Topo.v7x

variable {F : FTy → Type} [FloatOps F]
-- ==== Proof.Pre.lean ====
/- What the preconditions say: every word is a row number of the table, and every entry is below +∞. -/
module

public import proofs.«01_k».proof.Pre_below_inf
public import proofs.«01_k».proof.Proof.Gen.Pre_in_range
public import Idealize.ShloMosaic.Lib.StableHlo.Predicate
public import Idealize.ShloMosaic.Lib.ReduceAll
public import Idealize.ShloMosaic.Lib.Affine

@[expose] public section

set_option maxRecDepth 16384

noncomputable section

namespace Cert.Pre

open Idealize.ShloMosaic

/-- The side conditions of the second predicate. -/
instance belowFacts : Cert.Pre_below_inf.Facts where
  bcast_S_S32x512 := by decide
  reducesTo_S32x512_S_d0_1 := by decide
  h_S_ := by decide
  bcast_S_S8192x8192 := by decide
  reducesTo_S8192x8192_S_d0_1 := by decide

/-- A word that is at least 0 and below 8192 as a signed number is below 8192. -/
theorem word_lt {x : BitVec 32} (h : IntOp.andi (IntOp.cmpi .sge x 0#32) (IntOp.cmpi .slt x 8192#32) = 1#1) : x.toNat < 8192 := by
  obtain ⟨h0, h1⟩ := IntOp.andi_eq_one.mp h
  have h0 := IntOp.cmpi_sge.mp h0
  have h1 := IntOp.cmpi_slt.mp h1
  rw [show (0#32).toInt = 0 by decide, BitVec.toInt_eq_toNat_cond] at h0
  rw [show (8192#32).toInt = 8192 by decide, BitVec.toInt_eq_toNat_cond] at h1
  split at h0 <;> split at h1 <;> omega

variable {F : FTy → Type} [FloatOps F]

section
open Cert.Pre_in_range
/-- What the first precondition says: every word names a row or a column of the table. -/
theorem in_range (a b : IVec S32x512 32) (t : FVec F S8192x8192 .f32) (h : fn a b t = fun _ => 1#1) :
    (∀ i, (a i).toNat < 8192) ∧ ∀ i, (b i).toNat < 8192 := by
  have e := congrFun h (Shape.Idx.first (by decide))
  dsimp only [fn] at e
  obtain ⟨ea, eb⟩ := IntOp.andi_eq_one.mp e
  exact ⟨fun i => word_lt (Host.reduce_andi_all _ _ _ _ _ ea i), fun i => word_lt (Host.reduce_andi_all _ _ _ _ _ eb i)⟩
end

section
open Cert.Pre_below_inf
/-- What the second precondition says: the same, and every entry compares below the word of +∞. -/
theorem below (a b : IVec S32x512 32) (t : FVec F S8192x8192 .f32) (h : fn a b t = fun _ => 1#1) :
    ((∀ i, (a i).toNat < 8192) ∧ ∀ i, (b i).toNat < 8192)
      ∧ ∀ i, FloatOps.cmpf .olt (t i) (FloatOps.ofBits .f32 0x7F800000#32) = 1#1 := by
  have e := congrFun h (Shape.Idx.first (by decide))
  dsimp only [fn, fn_part1] at e
  obtain ⟨e, et⟩ := IntOp.andi_eq_one.mp e
  obtain ⟨ea, eb⟩ := IntOp.andi_eq_one.mp e
  exact ⟨⟨fun i => word_lt (Host.reduce_andi_all _ _ _ _ _ ea i), fun i => word_lt (Host.reduce_andi_all _ _ _ _ _ eb i)⟩,
    fun i => Host.reduce_andi_all _ _ _ _ _ et i⟩
end

end Cert.Pre

end
-- ==== Proof.Ideal.Canon.lean ====
/- The kernel's body as loops over tiles and rows. The printed body is one straight line of some
   thirty-two tiles, each eight row transfers, eight waits and one block of arithmetic; here one
   tile is one definition, and the body is the same tile thirty-two times. -/
module

public import proofs.«01_k».proof.KernelIdeal
public import Idealize.ShloMosaic.Lib.Pipeline.Regions

@[expose] public section

set_option maxRecDepth 16384

noncomputable section

namespace Cert.KernelIdeal.Canon

open Idealize.ShloMosaic Idealize.SL.Sem
open Cert.KernelIdeal

variable {F : FTy → Type} [FloatOps F]

/-- `step t`, `step (t+1)`, … through the last index, threading a value. -/
def loopFrom {E : Type → Type} {α : Type} {N : Nat} (step : Fin N → α → Prog E α) :
    (k t : Nat) → t + k = N → α → Prog E α
  | 0, _, _, a => pure a
  | k + 1, t, h, a => step ⟨t, by omega⟩ a >>= fun a' => loopFrom step k (t + 1) (by omega) a'

variable [Facts]
open Facts
open K0.Facts₀ Shapes1.Facts₀ Shapes2.Facts₀

/-- The grid point of step `n`. -/
abbrev pt (n : Fin 64) : grid0.Coords := fun _ => ⟨n.val, by have := n.isLt; simpa [Pipeline.Grid.boundAt] using this⟩

/-- A semaphore of the ring is one of the 96. -/
theorem inbSem {n : Nat} (h : n < 96) : ∀ a, (![n] : Fin 1 → Nat) a + S1.size a ≤ S96.size a := by
  intro a; fin_cases a; simp [S1, S96]; omega

/-- A row of a slot lies in the ring. -/
theorem inbRing {n j : Nat} (h : n < 96) (hj : j < 8) :
    ∀ a, (![n, j, 0] : Fin 3 → Nat) a + S1x1x8192.size a ≤ S96x8x8192.size a := by
  intro a; fin_cases a <;> simp [S1x1x8192, S96x8x8192] <;> omega

/-- A slot lies in the ring. -/
theorem inbTile {n : Nat} (h : n < 96) :
    ∀ a, (![n, 0, 0] : Fin 3 → Nat) a + S1x8x8192.size a ≤ S96x8x8192.size a := by
  intro a; fin_cases a <;> simp [S1x8x8192, S96x8x8192] <;> omega

/-- A tile lies in the block of rows. -/
theorem inbOut {t : Nat} (h : t < 32) :
    ∀ a, (![8 * t, 0] : Fin 2 → Nat) a + S8x8192.size a ≤ S256x8192.size a := by
  intro a; fin_cases a <;> simp [S8x8192, S256x8192] <;> omega

/-- A word lies in the flattened words. -/
theorem inbIdx {n : Nat} (h : n < 16384) : ∀ a, (![n] : Fin 1 → Nat) a + S1.size a ≤ S16384.size a := by
  intro a; fin_cases a; simp [S1, S16384]; omega

/-- The first step starts the ring. -/
theorem cond1_of : ∀ n : Fin 64, n.val = 0 → k0_cond1 (pt n) = 1#1 := by decide +kernel

/-- All but the last two steps fetch ahead. -/
theorem cond2_of : ∀ n : Fin 64, n.val + 2 < 64 → k0_cond2 (pt n) = 1#1 := by decide +kernel

section
variable (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)

/-- Slot `n`'s transfer semaphore. -/
abbrev semOf (n : Nat) (h : n < 96) : DmaSems sig S_ :=
  (arg7.slice (Rect.unit (s := S96) ![n] S1.size (inbSem h))).squeeze S_ squeezes_S1_S_

/-- Row `j` of the ring's slot `n`. -/
abbrev ringRow (n j : Nat) (h : n < 96) (hj : j < 8) : Memref sig .tc .vmem S1x8192 .f32 :=
  (arg6.slice (Rect.unit (s := S96x8x8192) ![n, j, 0] S1x1x8192.size (inbRing h hj)) (fun _ => rfl)).squeeze
    S1x8192 squeezes_S1x1x8192_S1x8192

/-- Row `w` of the table. -/
abbrev tabRow (w : BitVec 32) (h : ∀ a, (![w.toNat, 0] : Fin 2 → Nat) a + S1x8192.size a ≤ S8192x8192.size a) :
    Memref sig .tc .hbm S1x8192 .f32 :=
  arg3.slice (Rect.unit (s := S8192x8192) ![w.toNat, 0] S1x8192.size h) (fun _ => rfl)

/-- Read index word `m` and start the copy of that row of the table into row `j` of slot `n`. The
    side condition `C v` the program assumes of the word gives the row's bound, `hC`. -/
def issueRow (C : BitVec 32 → Prop) (dC : ∀ v, Decidable (C v))
    (hC : ∀ v, C v → ∀ a, (![v.toNat, 0] : Fin 2 → Nat) a + S1x8192.size a ≤ S8192x8192.size a)
    (m n j : Nat) (hm : m < 16384) (hn : n < 96) (hj : j < 8) :
    Prog (TpuEff nD τ sig (Elt F) Λ₀ .tc) PUnit := do
  let v : Elt F .i32 ← smemLoad arg1 (Rect.unit (s := S16384) ![m] S1.size (inbIdx hm)) numel1_S1 rfl
  have hw : C v := (← Prog.lift (TpuEff.assume (C v) (dC v))).down
  Prog.lift (.enqueueDma (tabRow arg3 v (hC v hw)) (.here (ringRow arg6 n j hn hj)) (.dma (semOf arg7 n hn).sem)
    (View.wordExact_bits rfl) ((View.wordExact_bits rfl).reshape _ _) ⟨Or.inl rfl, trivial⟩)

/-- The eight row copies of a tile into slot `n`, from index word `m` on. -/
def issueTile (C : BitVec 32 → Prop) (dC : ∀ v, Decidable (C v))
    (hC : ∀ v, C v → ∀ a, (![v.toNat, 0] : Fin 2 → Nat) a + S1x8192.size a ≤ S8192x8192.size a)
    (m n : Nat) (hm : m + 8 ≤ 16384) (hn : n < 96) : Prog (TpuEff nD τ sig (Elt F) Λ₀ .tc) PUnit :=
  loopFrom (N := 8) (fun j _ => issueRow arg1 arg3 arg6 arg7 C dC hC (m + j.val) n j.val (by omega) hn j.isLt)
    8 0 rfl ⟨⟩

/-- Wait for the eight rows of slot `n`. -/
def waitTile (n : Nat) (hn : n < 96) : Prog (TpuEff nD τ sig (Elt F) Λ₀ .tc) PUnit :=
  loopFrom (N := 8) (fun j _ => Prog.lift (.waitDma2 (semOf arg7 n hn).sem
      (arg3.slice (Rect.unit (s := S8192x8192) ![0, 0] S1x8192.size inb_S8192x8192_S1x8192_0_0) (fun _ => rfl))
      (ringRow arg6 n j.val hn j.isLt) (View.wordExact_bits rfl) ((View.wordExact_bits rfl).reshape _ _)))
    8 0 rfl ⟨⟩

/-- The lane sums of an 8 by 8192 block: halves added until 128 lanes are left. -/
def laneTree (x : FVec F S8x8192 .f32) : FVec F S8x128 .f32 :=
  let a := addf (extractStridedSlice S8x4096 ![0, 0] x slices_S8x8192_o0_0_S8x4096)
    (extractStridedSlice S8x4096 ![0, 4096] x slices_S8x8192_o0_4096_S8x4096)
  let b := addf (extractStridedSlice S8x2048 ![0, 0] a slices_S8x4096_o0_0_S8x2048)
    (extractStridedSlice S8x2048 ![0, 2048] a slices_S8x4096_o0_2048_S8x2048)
  let c := addf (extractStridedSlice S8x1024 ![0, 0] b slices_S8x2048_o0_0_S8x1024)
    (extractStridedSlice S8x1024 ![0, 1024] b slices_S8x2048_o0_1024_S8x1024)
  let d := addf (extractStridedSlice S8x512 ![0, 0] c slices_S8x1024_o0_0_S8x512)
    (extractStridedSlice S8x512 ![0, 512] c slices_S8x1024_o0_512_S8x512)
  let e := addf (extractStridedSlice S8x256 ![0, 0] d slices_S8x512_o0_0_S8x256)
    (extractStridedSlice S8x256 ![0, 256] d slices_S8x512_o0_256_S8x256)
  addf (extractStridedSlice S8x128 ![0, 0] e slices_S8x256_o0_0_S8x128)
    (extractStridedSlice S8x128 ![0, 128] e slices_S8x256_o0_128_S8x128)

/-- A tile's sums of exponentials, one per row. -/
def expSum (x : FVec F S8x8192 .f32) : FVec F S8x1 .f32 :=
  shapeCast S8x1 (multiReduction .add [1] S8 (laneTree (exp x)) 0x00000000#32 reduces_S8x128_S8 (.inl rfl) rfl)
    shapeCasts_S8_S8x1

/-- A tile's entries at each row's target lane, the rest zero, summed down to 128 lanes. -/
def picked (tv : IVec S8x1 32) (x : FVec F S8x8192 .f32) : FVec F S8x128 .f32 :=
  laneTree (select (cmpi .eq (iota .tc S8x8192 32 [1] iota_S8x8192_d1_w32)
    (broadcastTo S8x8192 tv broadcasts_S8x1_S8x8192)) x (broadcast S8x8192 (Scalar.ofBits .f32 0x00000000#32 : F .f32)))

/-- Put the word `w` at row `j` of a column of eight words. -/
def putRow (j : Nat) (w : BitVec 32) (tv : IVec S8x1 32) : IVec S8x1 32 :=
  select (cmpi .eq (iota .tc S8x1 32 [0] iota_S8x1_d0_w32) (broadcast S8x1 (BitVec.ofNat 32 j)))
    (broadcast S8x1 w) tv

/-- The column of a tile's eight target words, read from word `m` on. -/
def readTargets (m : Nat) (hm : m + 8 ≤ 16384) : Prog (TpuEff nD τ sig (Elt F) Λ₀ .tc) (IVec S8x1 32) :=
  loopFrom (N := 8) (fun j tv => do
      let v : Elt F .i32 ← smemLoad arg2 (Rect.unit (s := S16384) ![m + j.val] S1.size (inbIdx (by omega))) numel1_S1 rfl
      pure (putRow j.val v tv))
    8 0 rfl (broadcast S8x1 0#32)

/-- The tile read from its slot, copied to its rows of the output block, and its two summaries. -/
def tileWork (n t m : Nat) (hn : n < 96) (ht : t < 32) (hm : m + 8 ≤ 16384) :
    Prog (TpuEff nD τ sig (Elt F) Λ₀ .tc) (FVec F S8x1 .f32 × FVec F S8x128 .f32) := do
  let v : Vec F S1x8x8192 .f32 ← Prog.lift (.load arg6
    (Rect.unit (s := S96x8x8192) ![n, 0, 0] S1x8x8192.size (inbTile hn)).toLoadRect (View.loadsAt_vmem h_S1x8x8192))
  let _ : Vec F S8x8192 .f32 ← Prog.lift (.load arg4
    (Rect.unit (s := S256x8192) ![8 * t, 0] S8x8192.size (inbOut ht)).toLoadRect (View.loadsAt_vmem h_S8x8192))
  Prog.lift (.store arg4 (Rect.unit (s := S256x8192) ![8 * t, 0] S8x8192.size (inbOut ht))
    (shapeCast S8x8192 v shapeCasts_S1x8x8192_S8x8192) Finset.univ (View.stores_vmem_bits_univ h_S8x8192 rfl) (.inl rfl))
  let tv ← readTargets arg2 m hm
  pure (expSum (shapeCast S8x8192 v shapeCasts_S1x8x8192_S8x8192),
    picked tv (shapeCast S8x8192 v shapeCasts_S1x8x8192_S8x8192))

/-- Tile `t` of step `n`: start the same tile two steps ahead while there is one, wait for this
    tile's slot, work on it. -/
def tileStep (n : Fin 64) (t : Fin 32) (f : Nat → FVec F S8x1 .f32 × FVec F S8x128 .f32) :
    Prog (TpuEff nD τ sig (Elt F) Λ₀ .tc) (Nat → FVec F S8x1 .f32 × FVec F S8x128 .f32) := do
  if h : n.val + 2 < 64 then
    issueTile arg1 arg3 arg6 arg7 (fun v => k0_chk513 (pt n) v) (fun v => k0_chk513.dec (pt n) v)
      (fun v hv => hv (cond2_of n h))
      ((n.val + 2) * 256 + 8 * t.val) ((n.val + 2) % 3 * 32 + t.val) (by omega) (by omega)
  else pure ⟨⟩
  waitTile arg3 arg6 arg7 (n.val % 3 * 32 + t.val) (by omega)
  let p ← tileWork arg2 arg4 arg6 (n.val % 3 * 32 + t.val) t.val (n.val * 256 + 8 * t.val) (by omega) t.isLt (by omega)
  pure (fun s => if s = t.val then p else f s)

/-- The sum of the tiles' picked lanes, in order. -/
def pickTree (p : Nat → FVec F S8x128 .f32) : Nat → FVec F S8x128 .f32
  | 0 => p 0
  | k + 1 => addf (pickTree p k) (p (k + 1))

/-- The thirty-two tiles' sums side by side. -/
def sums (s : Nat → FVec F S8x1 .f32) : FVec F S8x32 .f32 :=
  concatenate S8x32 1 [⟨S8x1, s 0⟩, ⟨S8x1, s 1⟩, ⟨S8x1, s 2⟩, ⟨S8x1, s 3⟩, ⟨S8x1, s 4⟩, ⟨S8x1, s 5⟩, ⟨S8x1, s 6⟩,
    ⟨S8x1, s 7⟩, ⟨S8x1, s 8⟩, ⟨S8x1, s 9⟩, ⟨S8x1, s 10⟩, ⟨S8x1, s 11⟩, ⟨S8x1, s 12⟩, ⟨S8x1, s 13⟩, ⟨S8x1, s 14⟩,
    ⟨S8x1, s 15⟩, ⟨S8x1, s 16⟩, ⟨S8x1, s 17⟩, ⟨S8x1, s 18⟩, ⟨S8x1, s 19⟩, ⟨S8x1, s 20⟩, ⟨S8x1, s 21⟩, ⟨S8x1, s 22⟩,
    ⟨S8x1, s 23⟩, ⟨S8x1, s 24⟩, ⟨S8x1, s 25⟩, ⟨S8x1, s 26⟩, ⟨S8x1, s 27⟩, ⟨S8x1, s 28⟩, ⟨S8x1, s 29⟩, ⟨S8x1, s 30⟩,
    ⟨S8x1, s 31⟩]
    concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x32_d1

/-- Read and overwrite a whole buffer (the program reads what it overwrites, and drops it). -/
def putAcc8 (x : FVec F S8x32 .f32) : Prog (TpuEff nD τ sig (Elt F) Λ₀ .tc) PUnit := do
  let _ : Vec F S8x32 .f32 ← Prog.lift (.load arg8 (Rect.unit (s := S8x32) ![0, 0] S8x32.size inb_S8x32_S8x32_0_0).toLoadRect (View.loadsAt_vmem h_S8x32))
  Prog.lift (.store arg8 (Rect.unit (s := S8x32) ![0, 0] S8x32.size inb_S8x32_S8x32_0_0)
    (shapeCast S8x32 x shapeCasts_S8x32_S8x32) Finset.univ (View.stores_vmem_bits_univ h_S8x32 rfl) (.inl rfl))

@[inherit_doc putAcc8]
def putAcc9 (x : FVec F S8x128 .f32) : Prog (TpuEff nD τ sig (Elt F) Λ₀ .tc) PUnit := do
  let _ : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0)
    (shapeCast S8x128 x shapeCasts_S8x128_S8x128) Finset.univ (View.stores_vmem_bits_univ h_S8x128 rfl) (.inl rfl))

/-- The first step's opening: zero the accumulators and start the tiles of steps 0 and 1. -/
def opening (n : Fin 64) (hn : k0_cond1 (pt n) = 1#1) : Prog (TpuEff nD τ sig (Elt F) Λ₀ .tc) PUnit := do
  putAcc8 arg8 (broadcast S8x32 (Scalar.ofBits .f32 0x00000000#32 : F .f32))
  putAcc9 arg9 (broadcast S8x128 (Scalar.ofBits .f32 0x00000000#32 : F .f32))
  loopFrom (N := 64) (fun t _ => issueTile arg1 arg3 arg6 arg7 (fun v => k0_chk1 (pt n) v) (fun v => k0_chk1.dec (pt n) v)
    (fun v hv => hv hn) (8 * t.val) t.val (by omega) (by omega)) 64 0 rfl ⟨⟩

/-- The accumulators' totals, and from them the mean loss. -/
def lossOf (a : FVec F S8x32 .f32) (b : FVec F S8x128 .f32) : FVec F S1x1 .f32 :=
  broadcast S1x1 (Scalar.divf (Scalar.subf
    (extractAt ![0, 0, 0] (shapeCast S1x1x1 (multiReduction .add [1, 2] S1 (shapeCast S1x8x32 a shapeCasts_S8x32_S1x8x32)
      0x00000000#32 reduces_S1x8x32_S1 (.inl rfl) rfl) shapeCasts_S1_S1x1x1) inpos_S1x1x1_p0_0_0)
    (extractAt ![0, 0, 0] (shapeCast S1x1x1 (multiReduction .add [1, 2] S1 (shapeCast S1x8x128 b shapeCasts_S8x128_S1x8x128)
      0x00000000#32 reduces_S1x8x128_S1 (.inl rfl) rfl) shapeCasts_S1_S1x1x1) inpos_S1x1x1_p0_0_0))
    (Scalar.ofBits .f32 0x46800000#32 : F .f32))

/-- The last step's closing: the loss from the accumulators. -/
def closing : Prog (TpuEff nD τ sig (Elt F) Λ₀ .tc) PUnit := do
  let a : Vec F S8x32 .f32 ← Prog.lift (.load arg8 (Rect.unit (s := S8x32) ![0, 0] S8x32.size inb_S8x32_S8x32_0_0).toLoadRect (View.loadsAt_vmem h_S8x32))
  let b : Vec F S8x128 .f32 ← Prog.lift (.load arg9 (Rect.unit (s := S8x128) ![0, 0] S8x128.size inb_S8x128_S8x128_0_0).toLoadRect (View.loadsAt_vmem h_S8x128))
  let _ : Vec F S1x1 .f32 ← Prog.lift (.load arg5 (Rect.unit (s := S1x1) ![0, 0] S1x1.size inb_S1x1_S1x1_0_0).toLoadRect (View.loadsAt_vmem h_S1x1))
  Prog.lift (.store arg5 (Rect.unit (s := S1x1) ![0, 0] S1x1.size inb_S1x1_S1x1_0_0) (lossOf a b) Finset.univ
    (View.stores_vmem_bits_univ h_S1x1 rfl) (.inl rfl))

/-- Add this step's summaries to the accumulators. -/
def accumulate (f : Nat → FVec F S8x1 .f32 × FVec F S8x128 .f32) : Prog (TpuEff nD τ sig (Elt F) Λ₀ .tc) PUnit := do
  let a : Vec F S8x32 .f32 ← Prog.lift (.load arg8 (Rect.unit (s := S8x32) ![0, 0] S8x32.size inb_S8x32_S8x32_0_0).toLoadRect (View.loadsAt_vmem h_S8x32))
  putAcc8 arg8 (addf a (log (sums fun s => (f s).1)))
  let b : Vec F S8x128 .f32 ← Prog.lift (.load arg9 (Rect.unit (s := S8x128) ![0, 0] S8x128.size inb_S8x128_S8x128_0_0).toLoadRect (View.loadsAt_vmem h_S8x128))
  putAcc9 arg9 (addf b (pickTree (fun s => (f s).2) 31))

/-- The body at step `n`. -/
def body (n : Fin 64) : Prog (TpuEff nD τ sig (Elt F) Λ₀ .tc) PUnit := do
  if h : n.val = 0 then opening arg1 arg3 arg6 arg7 arg8 arg9 n (cond1_of n h)
  else pure ⟨⟩
  let f ← loopFrom (N := 32) (tileStep arg1 arg2 arg3 arg4 arg6 arg7 n) 32 0 rfl (fun _ => (broadcast S8x1 (Scalar.ofBits .f32 0x00000000#32 : F .f32), broadcast S8x128 (Scalar.ofBits .f32 0x00000000#32 : F .f32)))
  accumulate arg8 arg9 f
  if n.val = 63 then closing arg5 arg8 arg9 else pure ⟨⟩

end

end Cert.KernelIdeal.Canon
-- ==== Proof.Ideal.BodyEq.lean ====
/- The kernel's body as loops over tiles and rows. The printed body is one straight line of some
   thirty-two tiles, each eight row transfers, eight waits and one block of arithmetic; here one
   tile is one definition, and the body is the same tile thirty-two times. -/
module

public import proofs.«01_k».proof.Proof.Ideal.Canon

@[expose] public section

set_option maxRecDepth 16384

noncomputable section

namespace Cert.KernelIdeal.Canon

open Idealize.ShloMosaic Idealize.SL.Sem
open Cert.KernelIdeal

variable {F : FTy → Type} [FloatOps F]

variable [Facts]
section
variable (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)

/-- The printed body is the body written short. -/
theorem kernel_eq (n : Fin 64) (harg1 : arg1.IsWhole) (harg2 : arg2.IsWhole) (harg3 : arg3.IsWhole) (harg4 : arg4.IsWhole)
    (harg5 : arg5.IsWhole) (harg6 : arg6.IsWhole) (harg8 : arg8.IsWhole) (harg9 : arg9.IsWhole) :
    cc0__ce_kernel (F := F) (pt n) arg1 harg1 arg2 harg2 arg3 harg3 arg4 harg4 arg5 harg5 arg6 harg6 arg7 arg8 harg8 arg9 harg9
      = body arg1 arg2 arg3 arg4 arg5 arg6 arg7 arg8 arg9 n := by
  fin_cases n <;> chain_rfl
end
end Cert.KernelIdeal.Canon
-- ==== Proof.Bits.Same.lean ====
/- The kernel read at machine numbers is the text of its idealization: its body is the same loops over tiles. -/
module

public import proofs.«01_k».proof.Proof.Ideal.BodyEq
public import proofs.«01_k».proof.Proof.Gen.Kernel.Launch
public import proofs.«01_k».proof.Proof.Gen.KernelIdeal.Launch

@[expose] public section

set_option maxRecDepth 16384

noncomputable section

namespace Cert.Bits

open Idealize.ShloMosaic Idealize.SL.Sem
open Cert.KernelIdeal Cert.KernelIdeal.Canon

variable {F : FTy → Type} [FloatOps F]

section
variable (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)

set_option backward.isDefEq.respectTransparency.types false in
/-- The printed body of the kernel is the body written short. -/
theorem kernel_eq (n : Fin 64) (harg1 : arg1.IsWhole) (harg2 : arg2.IsWhole) (harg3 : arg3.IsWhole) (harg4 : arg4.IsWhole)
    (harg5 : arg5.IsWhole) (harg6 : arg6.IsWhole) (harg8 : arg8.IsWhole) (harg9 : arg9.IsWhole) :
    (Cert.Kernel.cc0__ce_kernel (F := F) (pt n) arg1 harg1 arg2 harg2 arg3 harg3 arg4 harg4 arg5 harg5 arg6 harg6 arg7 arg8 harg8 arg9 harg9
      : Prog (TpuEff nD τ sig (Elt F) Λ₀ .tc) PUnit)
      = body arg1 arg2 arg3 arg4 arg5 arg6 arg7 arg8 arg9 n := by
  fin_cases n <;> chain_rfl
end
end Cert.Bits
-- ==== Proof.Rules.lean ====
/- Steps of a program on memrefs held by what they read (`owns`), and a loop's invariant. Each rule is
   stated with its continuation: from what the step needs beside the continuation at what it leaves. -/
module

public import Idealize.ShloMosaic.Lib.Batch
public import Idealize.ShloMosaic.Lib.MemrefSat
public import Idealize.ShloMosaic.Lib.Ring
public import Idealize.ShloMosaic.Lib.Tactic

@[expose] public section

set_option maxRecDepth 16384

noncomputable section

namespace Cert.Rules

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants)
variable (c : Thread nD τ) (bd : Option 𝒱.V) (E : Set Name) {α : Type} {s : Shape} {e : EltTy}

local notation "𝕄" => MT nD τ sig Ix Val Name U Lvl

variable {Q : α → sProp (MT nD τ sig Ix Val Name U Lvl)}

/-- A load through a rectangle of a memref held at `X` gives `X`'s part there. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    iprop(owns c m q X ∗ (owns c m q X -∗ wp frame (wpE defs 𝒱 c bd) E (k fun j => X (r.emb j)) Q))
      ⊢ (wp frame (wpE defs 𝒱 c bd) E (.op (.load m r.toLoadRect hl) k) Q : sProp 𝕄) := by
  unfold owns
  iintro ⟨⟨%f, %hf, H⟩, Hk⟩
  iapply (wp_load_rect 𝒱 c bd E (m := m) (r := r) (hl := hl) (k := k) (S := m.view.set) (f := f) (q := q)
    (View.set_slice_subset _ _)) $$ H
  iintro H
  rw [show (m.access r).read Val f = fun j => X (r.emb j) by subst hf; rfl]
  iapply Hk
  iexists f
  isplitr
  · ipureintro; exact hf
  · iexact H

/-- A load through a rectangle of a memref of whose elements, those in the rectangle among them, the raw contents are
    held. -/
theorem wp_load_raw {cs : CoreSpace} {m : Memref sig c.2.kind cs s e} {r : Rect s} {hl : m.view.LoadsAt r.toLoadRect}
    {k : (r.shape.Idx → Val e) → Prog (TpuEff nD τ sig Val Λ c.2) α} {q : PosShare TreeShare}
    {S : Finset (Idx (m.view.loc c))} {f : Buf Val (m.view.loc c)} (hS : (m.view.slice r).set ⊆ S)
    {v : r.shape.Idx → Val e} (hv : (fun j => m.view.read Val f (r.emb j)) = v) :
    iprop((m.view.loc c ↦[S]{q} f) ∗ ((m.view.loc c ↦[S]{q} f) -∗ wp frame (wpE defs 𝒱 c bd) E (k v) Q))
      ⊢ (wp frame (wpE defs 𝒱 c bd) E (.op (.load m r.toLoadRect hl) k) Q : sProp 𝕄) := by
  iintro ⟨H, Hk⟩
  iapply (wp_load_rect 𝒱 c bd E (m := m) (r := r) (hl := hl) (k := k) (S := S) (f := f) (q := q) hS) $$ H
  iintro H
  rw [show (m.access r).read Val f = v from hv]
  iapply Hk $$ H

/-- A store of a whole rectangle of a memref held at `X`. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    iprop(owns c m fullShare X ∗ (∀ Y, ⌜(∀ j, Y (r.emb j) = w j) ∧ ∀ i, i ∉ r.set → Y i = X i⌝ -∗ owns c m fullShare Y -∗
        wp frame (wpE defs 𝒱 c bd) E (k ⟨⟩) Q))
      ⊢ (wp frame (wpE defs 𝒱 c bd) E (.op (.store m r w Finset.univ hx hm) k) Q : sProp 𝕄) := by
  unfold owns
  iintro ⟨⟨%f, %hf, H⟩, Hk⟩
  iapply (wp_store 𝒱 c bd E (m := m) (r := r) (w := w) (Mk := Finset.univ) (hx := hx) (hm := hm) (k := k) (S := m.view.set) (f := f)
    (View.set_slice_subset _ _)) $$ H
  iintro H
  ispecialize Hk $$ %(m.view.read Val ((m.access r).write Val f w Finset.univ))
  iapply Hk
  · ipureintro
    constructor
    · intro j
      exact congrFun (View.read_write_univ (v := m.access r) f w) j
    · intro i hi
      subst hf
      rw [View.read_apply, View.read_apply]
      congr 1
      refine View.write_of_not_mem _ _ _ ?_
      rw [View.setOn_univ, View.set_slice, Finset.mem_map' m.view.emb]
      exact hi
  · iexists _
    isplitr
    · ipureintro; rfl
    · iexact H

/-- A word read from a memref held at `X`. -/
theorem wp_word_owns {m : Memref sig c.2.kind .smem s .i32} {r : Rect s} {h1 : r.shape.numel = 1} {hp : EltTy.packing .i32 = 1}
    {k : Val .i32 → Prog (TpuEff nD τ sig Val Λ c.2) α} {q : PosShare TreeShare} {X : s.Idx → Val .i32}
    {w : Val .i32} (hw : ∀ j, X (r.emb j) = w) :
    iprop(owns c m q X ∗ (owns c m q X -∗ wp frame (wpE defs 𝒱 c bd) E (k w) Q))
      ⊢ (wp frame (wpE defs 𝒱 c bd) E (smemLoad m r h1 hp >>= k) Q : sProp 𝕄) := by
  unfold owns
  iintro ⟨⟨%f, %hf, H⟩, Hk⟩
  iapply (wp_smemLoadElt 𝒱 c bd E (m := m) (r := r) (hw := View.loads_smem_one hp h1)
    (x := Shape.Idx.first (h1.symm ▸ Nat.one_pos)) (k := k) (S := m.view.set) (f := f) (q := q)
    (View.set_slice_subset _ _)) $$ H
  iintro H
  rw [show (m.access r).read Val f (Shape.Idx.first (h1.symm ▸ Nat.one_pos)) = w by subst hf; exact hw _]
  iapply Hk
  iexists f
  isplitr
  · ipureintro; exact hf
  · iexact H

/-- A memref held, read with its unit axes dropped. -/
theorem owns_squeeze {sp : Space} (m : Memref sig c.2.kind sp s e) {s' : Shape} (h : s.Squeezes s') (q : PosShare TreeShare)
    (X : s.Idx → Val e) :
    (owns c m q X : sProp 𝕄) ⊢ owns c (m.squeeze s' h) q (fun i => X (Shape.reshapeEquiv h.numel_eq i)) := by
  unfold owns
  iintro ⟨%f, %hf, H⟩
  iexists f
  isplitr
  · ipureintro; subst hf; rfl
  · rw [show (m.squeeze s' h).view.set = m.view.set from View.set_reshape _ h.numel_eq]; iexact H

/-- and back. -/
theorem owns_of_squeeze {sp : Space} (m : Memref sig c.2.kind sp s e) {s' : Shape} (h : s.Squeezes s') (q : PosShare TreeShare)
    (X : s.Idx → Val e) :
    (owns c (m.squeeze s' h) q (fun i => X (Shape.reshapeEquiv h.numel_eq i)) : sProp 𝕄) ⊢ owns c m q X := by
  unfold owns
  iintro ⟨%f, %hf, H⟩
  iexists f
  isplitr
  · ipureintro
    funext i
    have := congrFun hf ((Shape.reshapeEquiv h.numel_eq).symm i)
    rw [Equiv.apply_symm_apply] at this
    rw [← this]
    change m.view.read Val f i = m.view.read Val f ((Shape.reshapeEquiv h.numel_eq) ((Shape.reshapeEquiv h.numel_eq).symm i))
    rw [Equiv.apply_symm_apply]
  · rw [show (m.squeeze s' h).view.set = m.view.set from View.set_reshape _ h.numel_eq]; iexact H

variable [Infinite Name] (EC : UEmb Counters (MT nD τ sig Ix Val Name U Lvl)) [EC.LandsIn (upEmb : UEmb _ (MT nD τ sig Ix Val Name U Lvl))]

/-- The next transfer of a batch of `n`, its ends held by what they read: the delivery is the destination at what the source
    reads, and the source back. -/
theorem wp_dma_owns {n : ℕ} {sp sp' : Space} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    {D : Fin n → sProp 𝕄} {j : ℕ} (ι : Ix) (N : ℕ) (hN : dst.view.amount sm = N) (hj : j < n)
    (hD : iprop(owns c dst fullShare X ∗ owns c src q X) ⊢ D ⟨j, hj⟩) :
    iprop(owns c src q X ∗ (∃ Y, owns c dst fullShare Y) ∗ Batch EC c sm ι N D j 0
        ∗ (Batch EC c sm ι N D (j + 1) 0 -∗ wp frame (wpE defs 𝒱 c bd) Set.univ (k ⟨⟩) Q))
      ⊢ (wp frame (wpE defs 𝒱 c bd) Set.univ (.op (.enqueueDma src (.here dst) sm hsrc hdst hsem) k) Q : sProp 𝕄) := by
  iintro ⟨Hs, ⟨%Y, Hd⟩, HB, Hk⟩
  ihave Hs' := (show owns c src q X ⊢ iprop(∃ g, ⌜src.view.read Val g = X⌝ ∗ src.view.loc c ↦[src.view.set]{q} g) from .rfl) $$ Hs
  icases Hs' with ⟨%fs, %hfs, Hs⟩
  ihave Hd' := (show owns c dst fullShare Y ⊢ iprop(∃ g, ⌜dst.view.read Val g = Y⌝ ∗ dst.view.loc c ↦[dst.view.set]{fullShare} g) from .rfl) $$ Hd
  icases Hd' with ⟨%fd, -, Hd⟩
  iapply (wp_dmaBatch EC 𝒱 c bd (src := src) (via := .same) (dst := dst) (sm := sm) (hsrc := hsrc) (hdst := hdst) (hsem := hsem)
    (k := k) (q := q) (fs := fs) (Sd := dst.view.set) (fd := fd) (D := D) (j := j) (u := 0) ι N hN (Finset.Subset.refl _) hj
    (Nat.zero_le _) ?_) $$ [Hs Hd HB]
  · refine (BI.sep_mono ?_ ?_).trans hD
    · subst hfs
      refine (owns_intro c dst fullShare _).trans ?_
      rw [View.read_write_univ]
    · subst hfs
      exact owns_intro c src q fs
  · isplitl [Hs]; · iexact Hs
    isplitl [Hd]; · iexact Hd
    iexact HB
  iexact Hk

/-- A wait that leaves some of a batch's units to wait for. -/
theorem wp_wait_owns {n : ℕ} {sp sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N)
    {D : Fin n → sProp 𝕄} {u : ℕ} (hu : u + N < N * n) :
    iprop(Batch EC c (.dma sem) ι N D n u ∗ (∃ W, owes c 0 W)
        ∗ (Batch EC c (.dma sem) ι N D n (u + N) -∗ (∃ W, owes c 0 W) -∗ wp frame (wpE defs 𝒱 c bd) Set.univ (k ⟨⟩) Q))
      ⊢ (wp frame (wpE defs 𝒱 c bd) Set.univ (.op (.waitDma2 sem srcw dstw hsrc hdst) k) Q : sProp 𝕄) := by
  iintro ⟨HB, ⟨%W, HW⟩, Hk⟩
  iapply (wp_waitBatch EC 𝒱 c bd (srcw := srcw) (hsrc := hsrc) (hdst := hdst) (k := k) ι hN (D := D) hu (W := W)) $$ [HB HW]
  · isplitl [HB]; · iexact HB
    iexact HW
  iintro ⟨HB, HW⟩
  iapply Hk $$ HB
  iexists _
  iexact HW

/-- The wait that takes a batch's last units: every delivery, and the semaphore at zero. -/
theorem wp_waitLast_owns {n : ℕ} {sp sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) (hN0 : 0 < N)
    {D : Fin n → sProp 𝕄} {u : ℕ} (hu : u + N = N * n) :
    iprop(Batch EC c (.dma sem) ι N D n u ∗ (∃ W, owes c 0 W)
        ∗ (bigSep Finset.univ D -∗ semVal (c, .dma sem) 0 -∗ (∃ W, owes c 0 W) -∗ wp frame (wpE defs 𝒱 c bd) Set.univ (k ⟨⟩) Q))
      ⊢ (wp frame (wpE defs 𝒱 c bd) Set.univ (.op (.waitDma2 sem srcw dstw hsrc hdst) k) Q : sProp 𝕄) := by
  iintro ⟨HB, ⟨%W, HW⟩, Hk⟩
  iapply (wp_waitBatchLast EC 𝒱 c bd (srcw := srcw) (hsrc := hsrc) (hdst := hdst) (k := k) ι hN hN0 (D := D) hu (W := W)) $$ [HB HW]
  · isplitl [HB]; · iexact HB
    iexact HW
  iintro ⟨HD, HS, HW⟩
  iapply Hk $$ HD HS
  iexists _
  iexact HW

/-- An element of a rectangle is one of its placed elements. -/
theorem exists_emb_of_mem {t : Shape} {r : Rect t} {i : t.Idx} (hi : i ∈ r.set) : ∃ j, r.emb j = i := by
  obtain ⟨j, rfl⟩ := r.exists_idx_of_mem hi
  exact ⟨j, rfl⟩

/-- The place of a unit-stride rectangle's element. -/
theorem emb_unit_val {t : Shape} (off size : Fin t.rank → Nat) (inb : ∀ a, off a + size a ≤ t.size a)
    (x : (Rect.unit off size inb).shape.Idx) (a : Fin t.rank) :
    ((Rect.unit off size inb).emb x a).val = off a + (x a).val := by
  show off a + 1 * (x a).val = _
  omega

end Cert.Rules

end
-- ==== Proof.Ideal.Logic.lean ====
/- The ring of row copies, one slot at a time: a free slot, a slot in flight, a slot arrived; and what
   starting a tile's copies and waiting for them does to a slot. -/
module

public import proofs.«01_k».proof.Proof.Ideal.Canon
public import proofs.«01_k».proof.Proof.Rules
public import Idealize.ShloMosaic.Lib.Pipeline.FrameSuffixV
public import Idealize.ShloMosaic.Lib.Pointwise

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts
open K0.Facts₀ Shapes1.Facts₀ Shapes2.Facts₀

local notation "𝕄" => MT nD τ sig Unit (Elt F) ℕ (Pipeline.UD sig nD τ) ℕ

/-- A member of a family taken out, and put back changed. -/
theorem bigSep_step {M : Type} [URA M] {I : Type} [Fintype I] [DecidableEq I] {Φ Ψ : I → sProp M} (j : I)
    (h : ∀ i, i ≠ j → Φ i = Ψ i) :
    bigSep Finset.univ Φ ⊢ iprop(Φ j ∗ (Ψ j -∗ bigSep Finset.univ Ψ)) := by
  rw [BI.bigSep_univ_split j (Φ := Φ), BI.bigSep_univ_split j (Φ := Ψ),
    BI.bigSep_congr (s := Finset.univ.erase j) (Φ := Φ) (Ψ := Ψ) fun i hi => h i (Finset.ne_of_mem_erase hi)]
  change iprop(Φ j ∗ bigSep (Finset.univ.erase j) Ψ) ⊢ iprop(Φ j ∗ (Ψ j -∗ iprop(Ψ j ∗ bigSep (Finset.univ.erase j) Ψ)))
  iintro ⟨Hj, Hr⟩
  isplitl [Hj]; · iexact Hj
  iintro Hj
  isplitl [Hj]; · iexact Hj
  iexact Hr

/-- A family of pairs is the pair of the families. -/
theorem bigSep_pair {M : Type} [URA M] {I : Type} (s : Finset I) (Φ Ψ : I → sProp M) :
    bigSep s (fun i => iprop(Φ i ∗ Ψ i)) = iprop(bigSep s Φ ∗ bigSep s Ψ) := BI.bigSep_sep s Φ Ψ

/-- What the weakest precondition of a kernel program is here. -/
abbrev Wp (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A loop's invariant: held before each step at the loop's value. -/
theorem wp_loop (c : Dev nD) {α : Type} {N : Nat} (step : Fin N → α → Prog (TpuEff nD τ sig (Elt F) Λ₀ .tc) α)
    (R : Nat → α → sProp 𝕄)
    (hstep : ∀ (t : Fin N) (a : α) (Q : α → sProp 𝕄), iprop(R t.val a ∗ (∀ a', R (t.val + 1) a' -∗ Q a')) ⊢ Wp c (step t a) Q) :
    ∀ (k t : Nat) (h : t + k = N) (a : α) (Q : α → sProp 𝕄),
      iprop(R t a ∗ (∀ a', R N a' -∗ Q a')) ⊢ Wp c (loopFrom step k t h a) Q
  | 0, t, h, a, Q => by
    obtain rfl : t = N := by omega
    unfold loopFrom
    iintro ⟨H, Hk⟩
    iapply (le_wp_ret _ _ _ a Q)
    iapply Hk $$ H
  | k + 1, t, h, a, Q => by
    unfold loopFrom Wp
    rw [wp_bind]
    iintro ⟨H, Hk⟩
    iapply (hstep _ a _)
    isplitl [H]; · iexact H
    iintro %a' H
    iapply (wp_loop c step R hstep k (t + 1) _ a' Q)
    isplitl [H]; · iexact H
    iexact Hk

section
variable (c : Dev nD)
  (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)
  (W1 : S16384.Idx → Elt F .i32) (W2 : S16384.Idx → Elt F .i32) (Tb : S8192x8192.Idx → Elt F .f32)

/-- Word `m` of an array of index words. -/
def wd (W : S16384.Idx → Elt F .i32) (m : Nat) : BitVec 32 := W (ix1 ⟨m % 16384, Nat.mod_lt _ (by decide)⟩)

/-- Every word names a row of the table. -/
def InRange (W : S16384.Idx → Elt F .i32) : Prop := ∀ m, (wd W m).toNat < 8192

/-- The row a word names. -/
def rowOf (v : BitVec 32) : Fin 8192 := ⟨v.toNat % 8192, Nat.mod_lt _ (by decide)⟩

/-- A row of the table, as a copy reads it and as the ring holds it. -/
def rowVal (v : BitVec 32) : S1x8192.Idx → Elt F .f32 := fun i => Tb (ix2 (rowOf v) (i 1))
@[inherit_doc rowVal]
def rowBlk (v : BitVec 32) : S1x1x8192.Idx → Elt F .f32 := fun i => Tb (ix2 (rowOf v) (i 2))

/-- A row lies in the table. -/
theorem inbTab {v : BitVec 32} (h : v.toNat < 8192) :
    ∀ a, (![v.toNat, 0] : Fin 2 → Nat) a + S1x8192.size a ≤ S8192x8192.size a := by
  intro a; fin_cases a <;> simp [S1x8192, S8192x8192] <;> omega

/-- The rectangle of row `j` of slot `n`. -/
abbrev rowRect (n j : Nat) (h : n < 96) (hj : j < 8) : Rect S96x8x8192 :=
  Rect.unit (s := S96x8x8192) ![n, j, 0] S1x1x8192.size (inbRing h hj)

/-- Row `j` of slot `n`, with its slot axis. -/
abbrev rowSlice (n j : Nat) (h : n < 96) (hj : j < 8) : Memref sig .tc .vmem S1x1x8192 .f32 :=
  arg6.slice (rowRect n j h hj) (fun _ => rfl)

/-- The share of the table the copy into row `j` of slot `n` reads. -/
def tk (n j : Nat) : PosShare TreeShare := shareTokN fullShare (8 * n + j)

/-- The semaphore units of one row. -/
abbrev credit : Nat := (ringRow arg6 0 0 (by omega) (by omega)).view.dmaCredit

/-- A copy's delivery: row `j` of slot `n` at the row of the table the word names, and the table's row back. -/
def deliv (hW : InRange (F := F) W1) (n m : Nat) (hn : n < 96) (j : Fin 8) : sProp 𝕄 :=
  iprop(owns (c : Thread nD τ) (ringRow arg6 n j.val hn j.isLt) fullShare (rowVal Tb (wd W1 (m + j.val)))
    ∗ owns (c : Thread nD τ) (tabRow arg3 (wd W1 (m + j.val)) (inbTab (hW _))) (tk n j.val) (rowVal Tb (wd W1 (m + j.val))))

/-- What a copy delivers may be kept in an invariant. -/
instance deliv_storable (hW : InRange (F := F) W1) (n m : Nat) (hn : n < 96) (j : Fin 8) :
    BI.Storable (upEmb : UEmb _ 𝕄) (deliv c arg3 arg6 W1 Tb hW n m hn j) := by
  unfold deliv; infer_instance

/-- The table but for the row lent to a copy. -/
def lentRest (hW : InRange (F := F) W1) (n m : Nat) (j : Fin 8) : sProp 𝕄 :=
  iprop(∃ f, ⌜arg3.view.read (Elt F) f = Tb⌝
    ∗ arg3.view.loc (c : Thread nD τ) ↦[arg3.view.set \ (tabRow arg3 (wd W1 (m + j.val)) (inbTab (hW _))).view.set]{tk n j.val} f)

/-- Slot `n`'s semaphore. -/
abbrev cell (n : Nat) (hn : n < 96) : SemLoc sig := .dma (semOf arg7 n hn).sem

/-- A row of a free slot: its elements at anything, and its share of the table. -/
def freeRow (n : Nat) (hn : n < 96) (j : Fin 8) : sProp 𝕄 :=
  iprop((∃ Y, owns (c : Thread nD τ) (rowSlice arg6 n j.val hn j.isLt) fullShare Y) ∗ owns (c : Thread nD τ) arg3 (tk n j.val) Tb)

/-- A free slot. -/
def freeSlot (n : Nat) (hn : n < 96) : sProp 𝕄 :=
  iprop(bigSep Finset.univ (freeRow c arg3 arg6 Tb n hn) ∗ semVal ((c : Thread nD τ), cell arg7 n hn) 0)

/-- A slot whose eight copies, of the rows words `m` to `m + 7` name, are in flight. -/
def flight (hW : InRange (F := F) W1) (n m : Nat) (hn : n < 96) : sProp 𝕄 :=
  iprop(Batch countersEmb (c : Thread nD τ) (cell arg7 n hn) () (credit arg6) (deliv c arg3 arg6 W1 Tb hW n m hn) 8 0
    ∗ bigSep Finset.univ (lentRest c arg3 W1 Tb hW n m))

/-- A row of a slot that has arrived. -/
def fullRow (n m : Nat) (hn : n < 96) (j : Fin 8) : sProp 𝕄 :=
  iprop(owns (c : Thread nD τ) (rowSlice arg6 n j.val hn j.isLt) fullShare (rowBlk Tb (wd W1 (m + j.val)))
    ∗ owns (c : Thread nD τ) arg3 (tk n j.val) Tb)

/-- A slot that has arrived. -/
def fullSlot (n m : Nat) (hn : n < 96) : sProp 𝕄 :=
  iprop(bigSep Finset.univ (fullRow c arg3 arg6 W1 Tb n m hn) ∗ semVal ((c : Thread nD τ), cell arg7 n hn) 0)

/-- Nothing is owed, whatever has been waited for. -/
def owesNone : sProp 𝕄 := iprop(∃ W, owes (c : Thread nD τ) 0 W)

/-- A row of the table, read through the copy's source. -/
theorem rowVal_of_row (v : BitVec 32) (hv : v.toNat < 8192) :
    (fun i => Tb ((Rect.unit (s := S8192x8192) ![v.toNat, 0] S1x8192.size (inbTab hv)).emb i)) = rowVal Tb v := by
  funext i
  unfold rowVal
  congr 1
  funext a
  apply Fin.ext
  rw [emb_unit_val]
  have h0 : (i 0).val = 0 := by have := (i 0).isLt; simp [S1x8192] at this; omega
  fin_cases a
  · simp [rowOf, ix2, Nat.mod_eq_of_lt hv, h0]
  · simp [ix2]

/-- A row of the table, read through the ring's shape. -/
theorem rowVal_of_blk (v : BitVec 32) :
    (fun i => rowBlk Tb v (Shape.reshapeEquiv squeezes_S1x1x8192_S1x8192.numel_eq i)) = rowVal Tb v := by
  funext i
  unfold rowVal rowBlk
  idx_vars i
  pointwise

/-- A word read through its cell. -/
theorem wd_emb (W : S16384.Idx → Elt F .i32) (m : Nat) (hm : m < 16384) (j : (Rect.unit (s := S16384) ![m] S1.size (inbIdx hm)).shape.Idx) :
    W ((Rect.unit (s := S16384) ![m] S1.size (inbIdx hm)).emb j) = wd W m := by
  unfold wd
  congr 1
  funext a
  apply Fin.ext
  rw [emb_unit_val]
  have h0 : (j 0).val = 0 := by have := (j 0).isLt; simp [S1] at this; omega
  fin_cases a
  simp [ix1, Nat.mod_eq_of_lt hm, h0]

/-- One row's copy started. -/
theorem wp_issueRow (hW : InRange (F := F) W1) (C : BitVec 32 → Prop) (dC : ∀ v, Decidable (C v))
    (hC : ∀ v, C v → ∀ a, (![v.toNat, 0] : Fin 2 → Nat) a + S1x8192.size a ≤ S8192x8192.size a)
    (hCv : ∀ v : BitVec 32, v.toNat < 8192 → C v)
    (m n : Nat) (j : Fin 8) (hm : m + j.val < 16384) (hn : n < 96) (q : PosShare TreeShare) (Q : PUnit → sProp 𝕄) :
    iprop(owns (c : Thread nD τ) arg1 q W1 ∗ freeRow c arg3 arg6 Tb n hn j
        ∗ Batch countersEmb (c : Thread nD τ) (cell arg7 n hn) () (credit arg6) (deliv c arg3 arg6 W1 Tb hW n m hn) j.val 0
        ∗ (owns (c : Thread nD τ) arg1 q W1 -∗ lentRest c arg3 W1 Tb hW n m j
          -∗ Batch countersEmb (c : Thread nD τ) (cell arg7 n hn) () (credit arg6) (deliv c arg3 arg6 W1 Tb hW n m hn) (j.val + 1) 0 -∗ Q ⟨⟩))
      ⊢ Wp c (issueRow arg1 arg3 arg6 arg7 C dC hC (m + j.val) n j.val hm hn j.isLt) Q := by
  unfold issueRow Wp freeRow
  iintro ⟨H1, ⟨⟨%Y, Hd⟩, Ht⟩, HB, Hk⟩
  iapply (wp_word_owns Variants.none (c : Thread nD τ) none Set.univ (m := arg1) (q := q) (X := W1) (w := wd W1 (m + j.val)) ?_)
  · exact wd_emb W1 _ hm
  isplitl [H1]; · iexact H1
  iintro H1
  iapply (wp_assume Variants.none (c : Thread nD τ) none Set.univ (hCv _ (hW _)))
  ihave Hs := (owns_slice_split (c : Thread nD τ) arg3 (tk n j.val)
    (Rect.unit (s := S8192x8192) ![(wd W1 (m + j.val)).toNat, 0] S1x8192.size (inbTab (hW _))) (fun _ => rfl) Tb) $$ Ht
  icases Hs with ⟨Hs, Hr⟩
  rw [rowVal_of_row Tb _ (hW _)]
  iapply (wp_dma_owns Variants.none (c : Thread nD τ) none countersEmb (n := 8) (q := tk n j.val)
    (X := rowVal Tb (wd W1 (m + j.val))) (D := deliv c arg3 arg6 W1 Tb hW n m hn) (j := j.val)
    () (credit arg6) rfl j.isLt .rfl)
  isplitl [Hs]; · iexact Hs
  isplitl [Hd]
  · iexists _
    iapply (owns_squeeze (c : Thread nD τ) (rowSlice arg6 n j.val hn j.isLt) squeezes_S1x1x8192_S1x8192 fullShare Y)
    iexact Hd
  isplitl [HB]; · iexact HB
  iintro HB
  iapply (le_wp_ret _ _ _ _ Q)
  iapply Hk $$ H1 [Hr] HB
  unfold lentRest
  iexact Hr

end

end Cert.KernelIdeal.Canon

end
-- ==== Proof.Ideal.Slots.lean ====
/- A tile's copies started, waited for, and the tile they bring loaded. -/
module

public import proofs.«01_k».proof.Proof.Ideal.Logic

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts
open K0.Facts₀ Shapes1.Facts₀ Shapes2.Facts₀

local notation "𝕄" => MT nD τ sig Unit (Elt F) ℕ (Pipeline.UD sig nD τ) ℕ

variable (c : Dev nD)
  (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)
  (W1 : S16384.Idx → Elt F .i32) (W2 : S16384.Idx → Elt F .i32) (Tb : S8192x8192.Idx → Elt F .f32)

/-- A free slot's eight copies started. -/
theorem wp_issueTile (hW : InRange (F := F) W1) (C : BitVec 32 → Prop) (dC : ∀ v, Decidable (C v))
    (hC : ∀ v, C v → ∀ a, (![v.toNat, 0] : Fin 2 → Nat) a + S1x8192.size a ≤ S8192x8192.size a)
    (hCv : ∀ v : BitVec 32, v.toNat < 8192 → C v)
    (m n : Nat) (hm : m + 8 ≤ 16384) (hn : n < 96) (q : PosShare TreeShare) (Q : PUnit → sProp 𝕄) :
    iprop(owns (c : Thread nD τ) arg1 q W1 ∗ freeSlot c arg3 arg6 arg7 Tb n hn
        ∗ (owns (c : Thread nD τ) arg1 q W1 -∗ flight c arg3 arg6 arg7 W1 Tb hW n m hn -∗ Q ⟨⟩))
      ⊢ Wp c (issueTile arg1 arg3 arg6 arg7 C dC hC m n hm hn) Q := by
  unfold freeSlot issueTile
  iintro ⟨H1, ⟨Hf, Hs⟩, Hk⟩
  imod (batch_alloc' (Lvl := ℕ) (countersEmb (U := Pipeline.UD sig nD τ)) (c : Thread nD τ) () (credit arg6)
    (deliv c arg3 arg6 W1 Tb hW n m hn) (sm := cell arg7 n hn) (E := Set.univ)) $$ Hs with HB
  iapply (wp_loop c _ (fun j _ => iprop(owns (c : Thread nD τ) arg1 q W1
    ∗ Batch countersEmb (c : Thread nD τ) (cell arg7 n hn) () (credit arg6) (deliv c arg3 arg6 W1 Tb hW n m hn) j 0
    ∗ bigSep Finset.univ (fun i : Fin 8 => if i.val < j then lentRest c arg3 W1 Tb hW n m i else freeRow c arg3 arg6 Tb n hn i))) ?_ 8 0 rfl _ Q)
  · intro j _ Q'
    iintro ⟨⟨H1, HB, Hf⟩, Hk⟩
    ihave Hf' := (bigSep_step (Φ := fun i : Fin 8 => if i.val < j.val then lentRest c arg3 W1 Tb hW n m i else freeRow c arg3 arg6 Tb n hn i)
      (Ψ := fun i : Fin 8 => if i.val < j.val + 1 then lentRest c arg3 W1 Tb hW n m i else freeRow c arg3 arg6 Tb n hn i) j
      (fun i hi => by
        have : i.val ≠ j.val := fun h => hi (Fin.ext h)
        have e : (i.val < j.val) = (i.val < j.val + 1) := by apply propext; omega
        simp only [e])) $$ Hf
    rw [if_neg (Nat.lt_irrefl _), if_pos (Nat.lt_succ_self _)]
    icases Hf' with ⟨Hr, Hput⟩
    iapply (wp_issueRow c arg1 arg3 arg6 arg7 W1 Tb hW C dC hC hCv m n j _ hn q Q')
    isplitl [H1]; · iexact H1
    isplitl [Hr]; · iexact Hr
    isplitl [HB]; · iexact HB
    iintro H1 Hr HB
    iapply Hk $$ %⟨⟩
    isplitl [H1]; · iexact H1
    isplitl [HB]; · iexact HB
    iapply Hput $$ Hr
  · isplitl [H1 Hf HB]
    · isplitl [H1]; · iexact H1
      isplitl [HB]; · iexact HB
      simp only [Nat.not_lt_zero, if_false]
      iexact Hf
    · iintro %a' ⟨H1, HB, Hr⟩
      iapply Hk $$ H1
      unfold flight
      isplitl [HB]; · iexact HB
      simp only [Fin.is_lt, if_true]
      iexact Hr

/-- A row arrived and the rest of the table's share: the row in the ring, the share whole. -/
theorem arrived (hW : InRange (F := F) W1) (n m : Nat) (hn : n < 96) (j : Fin 8) :
    iprop(deliv c arg3 arg6 W1 Tb hW n m hn j ∗ lentRest c arg3 W1 Tb hW n m j) ⊢ fullRow c arg3 arg6 W1 Tb n m hn j := by
  unfold deliv lentRest fullRow
  iintro ⟨⟨Hd, Hs⟩, ⟨%f, %hf, Hr⟩⟩
  isplitl [Hd]
  · iapply (owns_of_squeeze (c : Thread nD τ) (rowSlice arg6 n j.val hn j.isLt) squeezes_S1x1x8192_S1x8192 fullShare
      (rowBlk Tb (wd W1 (m + j.val))))
    rw [rowVal_of_blk]
    iexact Hd
  · ihave H := (owns_slice_join (c : Thread nD τ) arg3 (tk n j.val)
      (Rect.unit (s := S8192x8192) ![(wd W1 (m + j.val)).toNat, 0] S1x8192.size (inbTab (hW _))) (fun _ => rfl)
      (rowVal Tb (wd W1 (m + j.val))) f) $$ [Hs Hr]
    · isplitl [Hs]; · iexact Hs
      iexact Hr
    subst hf
    rw [← rowVal_of_row (arg3.view.read (Elt F) f) _ (hW _)]
    rw [show Rect.overlay (Rect.unit (s := S8192x8192) ![(wd W1 (m + j.val)).toNat, 0] S1x8192.size (inbTab (hW _))) (arg3.view.read (Elt F) f)
      (fun i => arg3.view.read (Elt F) f ((Rect.unit (s := S8192x8192) ![(wd W1 (m + j.val)).toNat, 0] S1x8192.size (inbTab (hW _))).emb i))
      = arg3.view.read (Elt F) f from funext fun x => by
        by_cases hx : x ∈ (Rect.unit (s := S8192x8192) ![(wd W1 (m + j.val)).toNat, 0] S1x8192.size (inbTab (hW _))).set
        · obtain ⟨i, rfl⟩ := exists_emb_of_mem hx
          exact Rect.overlay_emb _ _ _ i
        · exact Rect.overlay_of_not_mem _ _ _ hx]
    iexact H

/-- A slot in flight waited for. -/
theorem wp_waitTile (hW : InRange (F := F) W1) (m n : Nat) (hn : n < 96) (Q : PUnit → sProp 𝕄) :
    iprop(flight c arg3 arg6 arg7 W1 Tb hW n m hn ∗ owesNone (F := F) c
        ∗ (fullSlot c arg3 arg6 arg7 W1 Tb n m hn -∗ owesNone (F := F) c -∗ Q ⟨⟩))
      ⊢ Wp c (waitTile arg3 arg6 arg7 n hn) Q := by
  unfold flight waitTile
  have hwsrc : (arg3.slice (Rect.unit (s := S8192x8192) ![0, 0] S1x8192.size inb_S8192x8192_S1x8192_0_0) (fun _ => rfl)).view.WordExact :=
    View.wordExact_bits rfl
  have hwdst : ∀ j : Fin 8, (ringRow arg6 n j.val hn j.isLt).view.WordExact := fun j => (View.wordExact_bits rfl).reshape _ _
  iintro ⟨⟨HB, Hr⟩, HW, Hk⟩
  iapply (wp_loop c _ (fun j _ => iprop(owesNone (F := F) c
    ∗ if j < 8 then Batch countersEmb (c : Thread nD τ) (cell arg7 n hn) () (credit arg6) (deliv c arg3 arg6 W1 Tb hW n m hn) 8 (j * credit arg6)
      else iprop(bigSep Finset.univ (deliv c arg3 arg6 W1 Tb hW n m hn) ∗ semVal ((c : Thread nD τ), cell arg7 n hn) 0))) ?_ 8 0 rfl _ Q)
  · intro j _ Q'
    have hpos : 0 < credit arg6 := View.dmaCredit_pos _ (Shape.numel_pos fun a => by fin_cases a <;> decide)
    rw [if_pos j.isLt]
    unfold Wp
    iintro ⟨⟨HW, HB⟩, Hk⟩
    by_cases hj : j.val + 1 < 8
    · rw [if_pos hj]
      iapply (wp_wait_owns Variants.none (c : Thread nD τ) none countersEmb (hsrc := hwsrc) (hdst := hwdst j) () (N := credit arg6) rfl (n := 8)
        (D := deliv c arg3 arg6 W1 Tb hW n m hn) (u := j.val * credit arg6) (by nlinarith))
      isplitl [HB]; · iexact HB
      isplitl [HW]; · unfold owesNone; iexact HW
      iintro HB HW
      iapply (le_wp_ret _ _ _ _ Q')
      iapply Hk $$ %⟨⟩
      isplitl [HW]; · unfold owesNone; iexact HW
      rw [show (j.val + 1) * credit arg6 = j.val * credit arg6 + credit arg6 by ring]
      iexact HB
    · rw [if_neg hj]
      have hj7 : j.val = 7 := by omega
      iapply (wp_waitLast_owns Variants.none (c : Thread nD τ) none countersEmb (hsrc := hwsrc) (hdst := hwdst j) () (N := credit arg6) rfl hpos (n := 8)
        (D := deliv c arg3 arg6 W1 Tb hW n m hn) (u := j.val * credit arg6) (by rw [hj7]; ring))
      isplitl [HB]; · iexact HB
      isplitl [HW]; · unfold owesNone; iexact HW
      iintro HD HS HW
      iapply (le_wp_ret _ _ _ _ Q')
      iapply Hk $$ %⟨⟩
      isplitl [HW]; · unfold owesNone; iexact HW
      isplitl [HD]; · iexact HD
      iexact HS
  · isplitl [HB HW]
    · isplitl [HW]; · iexact HW
      rw [if_pos (by decide), Nat.zero_mul]
      iexact HB
    · simp only [Nat.lt_irrefl, if_false]
      iintro %a' ⟨HW, HD, HS⟩
      iapply Hk $$ [HD HS Hr] HW
      unfold fullSlot
      isplitl [HD Hr]
      · iapply (show iprop(bigSep Finset.univ (deliv c arg3 arg6 W1 Tb hW n m hn) ∗ bigSep Finset.univ (lentRest c arg3 W1 Tb hW n m))
          ⊢ bigSep Finset.univ (fullRow c arg3 arg6 W1 Tb n m hn) from by
            rw [← bigSep_pair]
            exact BI.bigSep_mono fun j _ => arrived c arg3 arg6 W1 Tb hW n m hn j)
        isplitl [HD]; · iexact HD
        iexact Hr
      · iexact HS

/-- A tile as its slot holds it. -/
def blk (m : Nat) : S1x8x8192.Idx → Elt F .f32 := fun i => Tb (ix2 (rowOf (wd W1 (m + (i 1).val))) (i 2))

/-- A function on the whole ring that is the tile on any slot. -/
def ringVal (m : Nat) : S96x8x8192.Idx → Elt F .f32 := fun i => Tb (ix2 (rowOf (wd W1 (m + (i 1).val))) (i 2))

/-- A slot's value on one of its rows. -/
theorem ringVal_row (n m : Nat) (hn : n < 96) (j : Fin 8) :
    (fun i => ringVal W1 Tb m ((rowRect n j.val hn j.isLt).emb i)) = rowBlk Tb (wd W1 (m + j.val)) := by
  funext i
  unfold ringVal rowBlk
  have h1 : (i 1).val = 0 := by have := (i 1).isLt; simp [S1x1x8192] at this; omega
  have e1 : ((rowRect n j.val hn j.isLt).emb i 1).val = j.val := by rw [emb_unit_val]; simp [h1]
  have e2 : ((rowRect n j.val hn j.isLt).emb i 2) = i 2 := by apply Fin.ext; rw [emb_unit_val]; simp
  rw [e1, e2]

/-- Two rows of a slot share no cell. -/
theorem rows_disjoint (n : Nat) (hn : n < 96) (t t' : Fin 8) (h : t ≠ t') :
    Disjoint (rowRect n t.val hn t.isLt).set (rowRect n t'.val hn t'.isLt).set := by
  rw [Finset.disjoint_left]
  intro i hi hi'
  have h1 := Rect.mem_set_unit.mp hi 1
  have h2 := Rect.mem_set_unit.mp hi' 1
  have : t.val ≠ t'.val := fun e => h (Fin.ext e)
  simp [S1x1x8192] at h1 h2
  omega

/-- The rows make up a slot. -/
theorem tile_covered (n : Nat) (hn : n < 96) {i : S96x8x8192.Idx}
    (hi : i ∈ (Rect.unit (s := S96x8x8192) ![n, 0, 0] S1x8x8192.size (inbTile hn)).set) :
    ∃ t : Fin 8, i ∈ (rowRect n t.val hn t.isLt).set := by
  have h := Rect.mem_set_unit.mp hi
  have h0 := h 0
  have h1 := h 1
  have h2 := h 2
  simp [S1x8x8192] at h0 h1 h2
  refine ⟨⟨(i 1).val, by omega⟩, Rect.mem_set_unit.mpr fun a => ?_⟩
  fin_cases a <;> simp [S1x1x8192] <;> omega

/-- A row of the ring at any contents is a row to copy into. -/
theorem row_any (n : Nat) (hn : n < 96) (j : Fin 8) (g : arg6.view.ty.Contents (Elt F)) :
    (arg6.view.loc (c : Thread nD τ) ↦[(arg6.view.slice (rowRect n j.val hn j.isLt)).set]{fullShare} g : sProp 𝕄)
      ⊢ iprop(∃ Y, owns (c : Thread nD τ) (rowSlice arg6 n j.val hn j.isLt) fullShare Y) := by
  iintro H
  iexists _
  iapply (owns_intro (c : Thread nD τ) (rowSlice arg6 n j.val hn j.isLt) fullShare g)
  iexact H

/-- A tile loaded from its slot, the slot's rows then held at anything. -/
theorem wp_loadTile (n m : Nat) (hn : n < 96) {α : Type} {Q : α → sProp 𝕄}
    {hl : arg6.view.LoadsAt (Rect.unit (s := S96x8x8192) ![n, 0, 0] S1x8x8192.size (inbTile hn)).toLoadRect}
    {k : (S1x8x8192.Idx → Elt F .f32) → Prog (TpuEff nD τ sig (Elt F) Λ₀ .tc) α} :
    iprop(bigSep Finset.univ (fullRow c arg3 arg6 W1 Tb n m hn)
        ∗ (bigSep Finset.univ (freeRow c arg3 arg6 Tb n hn) -∗ Wp c (k (blk W1 Tb m)) Q))
      ⊢ Wp c (.op (.load arg6 (Rect.unit (s := S96x8x8192) ![n, 0, 0] S1x8x8192.size (inbTile hn)).toLoadRect hl) k) Q := by
  unfold fullRow freeRow
  rw [bigSep_pair, bigSep_pair]
  iintro ⟨⟨Hr, Ht⟩, Hk⟩
  ihave Hj := (owns_rects_join (c : Thread nD τ) arg6 fullShare (fun t : Fin 8 => rowRect n t.val hn t.isLt) (fun _ _ => rfl)
    (rows_disjoint n hn) (ringVal W1 Tb m) Finset.univ) $$ [Hr]
  · simp only [ringVal_row]
    iexact Hr
  icases Hj with ⟨%g, %hg, H⟩
  iapply (wp_load_raw Variants.none (c : Thread nD τ) none Set.univ (m := arg6)
    (r := Rect.unit (s := S96x8x8192) ![n, 0, 0] S1x8x8192.size (inbTile hn)) (v := blk W1 Tb m) (f := g)
    (S := Finset.univ.biUnion fun t : Fin 8 => (arg6.view.slice (rowRect n t.val hn t.isLt)).set) ?_ ?_)
  · intro x hx
    rw [View.set_slice, Finset.mem_map] at hx
    obtain ⟨i, hi, rfl⟩ := hx
    obtain ⟨t, ht⟩ := tile_covered n hn hi
    exact Finset.mem_biUnion.mpr ⟨t, Finset.mem_univ _, by rw [View.set_slice]; exact Finset.mem_map_of_mem _ ht⟩
  · funext i
    obtain ⟨t, ht⟩ := tile_covered n hn (i := (Rect.unit (s := S96x8x8192) ![n, 0, 0] S1x8x8192.size (inbTile hn)).emb i)
      (by rw [← Rect.map_emb_univ]; exact Finset.mem_map_of_mem _ (Finset.mem_univ i))
    obtain ⟨y, hy⟩ := exists_emb_of_mem ht
    rw [← hy, hg t (Finset.mem_univ _) y, hy]
    unfold ringVal blk
    have e1 : ((Rect.unit (s := S96x8x8192) ![n, 0, 0] S1x8x8192.size (inbTile hn)).emb i 1).val = (i 1).val := by
      rw [emb_unit_val]; simp
    have e2 : ((Rect.unit (s := S96x8x8192) ![n, 0, 0] S1x8x8192.size (inbTile hn)).emb i 2) = i 2 := by
      apply Fin.ext; rw [emb_unit_val]; simp
    rw [e1, e2]
  isplitl [H]; · iexact H
  iintro H
  iapply Hk
  isplitl [H]
  · iapply (show (arg6.view.loc (c : Thread nD τ) ↦[Finset.univ.biUnion fun t : Fin 8 => (arg6.view.slice (rowRect n t.val hn t.isLt)).set]{fullShare} g : sProp 𝕄)
      ⊢ bigSep Finset.univ fun j : Fin 8 => iprop(∃ Y, owns (c : Thread nD τ) (rowSlice arg6 n j.val hn j.isLt) fullShare Y) from by
        rw [pointsTo_biUnion _ _ fun t _ t' _ htt => by
          rw [View.set_slice, View.set_slice]; exact (Finset.disjoint_map _).mpr (rows_disjoint n hn t t' htt)]
        exact BI.bigSep_mono fun j _ => row_any c arg6 n hn j g)
    iexact H
  · iexact Ht

end Cert.KernelIdeal.Canon

end
-- ==== Proof.Ideal.Tiles.lean ====
/- One tile of one step: the copies two steps ahead started, its own waited for, its rows stored and its
   summaries computed; and the state of the ring's slots before each step. -/
module

public import proofs.«01_k».proof.Proof.Ideal.Slots

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts
open K0.Facts₀ Shapes1.Facts₀ Shapes2.Facts₀

local notation "𝕄" => MT nD τ sig Unit (Elt F) ℕ (Pipeline.UD sig nD τ) ℕ

variable (c : Dev nD)
  (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)
  (W1 : S16384.Idx → Elt F .i32) (W2 : S16384.Idx → Elt F .i32) (Tb : S8192x8192.Idx → Elt F .f32)

/-- A finished program, then another. -/
theorem ret_then {E : Type → Type} {α β : Type} (a : α) (k : α → Prog E β) : (Prog.ret a).bind k = k a := rfl

/-- The column of a tile's target words after `k` of them are read. -/
def tcol (W2 : S16384.Idx → Elt F .i32) (m : Nat) : Nat → IVec S8x1 32
  | 0 => broadcast S8x1 0#32
  | k + 1 => putRow k (wd W2 (m + k)) (tcol W2 m k)

/-- A tile, from index word `m` on. -/
def tileX (m : Nat) : FVec F S8x8192 .f32 := shapeCast S8x8192 (blk W1 Tb m) shapeCasts_S1x8x8192_S8x8192

/-- A tile's two summaries. -/
def tileP (m : Nat) : FVec F S8x1 .f32 × FVec F S8x128 .f32 :=
  (expSum (tileX W1 Tb m), picked (tcol W2 m 8) (tileX W1 Tb m))

/-- The block of rows step `s` leaves. -/
def outVal (s : Nat) : S256x8192.Idx → Elt F .f32 := fun i => Tb (ix2 (rowOf (wd W1 (s * 256 + (i 0).val))) (i 1))

/-- A tile's entry is the entry of the row its word names. -/
theorem tileX_apply (m : Nat) (i : S8x8192.Idx) : tileX W1 Tb m i = Tb (ix2 (rowOf (wd W1 (m + (i 0).val))) (i 1)) := by
  unfold tileX
  idx_vars i
  pointwise [blk]

/-- The output block while step `s` fills it: the rows of the first `t` tiles are there. -/
def outPart (s t : Nat) : sProp 𝕄 :=
  iprop(∃ X, owns (c : Thread nD τ) arg4 fullShare X ∗ ⌜∀ i, (i 0).val < 8 * t → X i = outVal W1 Tb s i⌝)

/-- A tile's target words read. -/
theorem wp_readTargets (m : Nat) (hm : m + 8 ≤ 16384) (q : PosShare TreeShare) (Q : IVec S8x1 32 → sProp 𝕄) :
    iprop(owns (c : Thread nD τ) arg2 q W2 ∗ (owns (c : Thread nD τ) arg2 q W2 -∗ Q (tcol W2 m 8)))
      ⊢ Wp c (readTargets arg2 m hm) Q := by
  unfold readTargets
  iintro ⟨H, Hk⟩
  iapply (wp_loop c _ (fun j tv => iprop(owns (c : Thread nD τ) arg2 q W2 ∗ ⌜tv = tcol W2 m j⌝)) ?_ 8 0 rfl _ Q)
  · intro j tv Q'
    unfold Wp
    iintro ⟨⟨H, %htv⟩, Hk⟩
    iapply (wp_word_owns Variants.none (c : Thread nD τ) none Set.univ (m := arg2) (q := q) (X := W2) (w := wd W2 (m + j.val))
      (wd_emb W2 _ (by omega)))
    isplitl [H]; · iexact H
    iintro H
    iapply (le_wp_ret _ _ _ _ Q')
    iapply Hk
    isplitl [H]; · iexact H
    ipureintro
    subst htv
    rfl
  · isplitl [H]
    · isplitl [H]; · iexact H
      ipureintro; rfl
    · iintro %tv ⟨H, %htv⟩
      subst htv
      iapply Hk $$ H

/-- A tile's work: its rows stored, its slot free again, its summaries returned. -/
theorem wp_tileWork (n s t : Nat) (hn : n < 96) (ht : t < 32) (hm : s * 256 + 8 * t + 8 ≤ 16384) (q : PosShare TreeShare)
    (Q : FVec F S8x1 .f32 × FVec F S8x128 .f32 → sProp 𝕄) :
    iprop(fullSlot c arg3 arg6 arg7 W1 Tb n (s * 256 + 8 * t) hn ∗ owns (c : Thread nD τ) arg2 q W2 ∗ outPart c arg4 W1 Tb s t
        ∗ (freeSlot c arg3 arg6 arg7 Tb n hn -∗ owns (c : Thread nD τ) arg2 q W2 -∗ outPart c arg4 W1 Tb s (t + 1)
            -∗ Q (tileP W1 W2 Tb (s * 256 + 8 * t))))
      ⊢ Wp c (tileWork arg2 arg4 arg6 n t (s * 256 + 8 * t) hn ht hm) Q := by
  unfold fullSlot outPart tileWork tileP tileX
  iintro ⟨⟨Hf, Hs⟩, H2, ⟨%X, H4, %hX⟩, Hk⟩
  iapply (wp_loadTile c arg3 arg6 W1 Tb n (s * 256 + 8 * t) hn)
  isplitl [Hf]; · iexact Hf
  iintro Hf
  iapply (wp_load_owns Variants.none (c : Thread nD τ) none Set.univ (m := arg4) (q := fullShare) (X := X))
  isplitl [H4]; · iexact H4
  iintro H4
  iapply (wp_store_owns Variants.none (c : Thread nD τ) none Set.univ (m := arg4) (X := X))
  isplitl [H4]; · iexact H4
  iintro %Y %hY H4
  simp only [ret_then]
  rw [wp_bind]
  iapply (wp_readTargets c arg2 W2 (s * 256 + 8 * t) hm q)
  isplitl [H2]; · iexact H2
  iintro H2
  iapply (le_wp_ret _ _ _ _ Q)
  iapply Hk $$ [Hf Hs] H2 [H4]
  · unfold freeSlot
    isplitl [Hf]; · iexact Hf
    iexact Hs
  · iexists Y
    isplitl [H4]; · iexact H4
    ipureintro
    intro i hi
    by_cases h8 : (i 0).val < 8 * t
    · rw [hY.2 i (fun hm => by have := (Rect.mem_set_unit.mp hm 0).1; simp at this; omega)]
      exact hX i h8
    · have hmem : i ∈ (Rect.unit (s := S256x8192) ![8 * t, 0] S8x8192.size (inbOut ht)).set :=
        Rect.mem_set_unit.mpr fun a => by fin_cases a <;> simp [S8x8192] <;> omega
      obtain ⟨y, rfl⟩ := exists_emb_of_mem hmem
      rw [hY.1 y]
      refine (tileX_apply W1 Tb _ y).trans ?_
      unfold outVal
      have e0 : ((Rect.unit (s := S256x8192) ![8 * t, 0] S8x8192.size (inbOut ht)).emb y 0).val = 8 * t + (y 0).val := by
        rw [emb_unit_val]; simp
      have e1 : (Rect.unit (s := S256x8192) ![8 * t, 0] S8x8192.size (inbOut ht)).emb y 1 = y 1 := by
        apply Fin.ext; rw [emb_unit_val]; simp
      rw [e0, e1, Nat.add_assoc]

/-- Slot `n` before step `q`: in flight with its tile of one of the steps `q`, `q + 1` if there is such a step, or free. -/
def slotSt (hW : InRange (F := F) W1) (q n : Nat) (hn : n < 96) : sProp 𝕄 :=
  if q + ((n / 32 + 3 - q % 3) % 3) < q + 2 ∧ q + ((n / 32 + 3 - q % 3) % 3) < 64 then
    flight c arg3 arg6 arg7 W1 Tb hW n ((q + ((n / 32 + 3 - q % 3) % 3)) * 256 + 8 * (n % 32)) hn
  else freeSlot c arg3 arg6 arg7 Tb n hn

/-- A slot whose copies are under way. -/
theorem slotSt_flight (hW : InRange (F := F) W1) (q n s m : Nat) (hn : n < 96) (hs : s < 64) (hq : q ≤ s) (hq2 : s < q + 2)
    (h3 : s % 3 = n / 32) (hm : m = s * 256 + 8 * (n % 32)) :
    slotSt c arg3 arg6 arg7 W1 Tb hW q n hn = flight c arg3 arg6 arg7 W1 Tb hW n m hn := by
  have e : q + ((n / 32 + 3 - q % 3) % 3) = s := by omega
  unfold slotSt
  rw [e, if_pos ⟨hq2, hs⟩, hm]

/-- A slot no copy is under way to. -/
theorem slotSt_free (hW : InRange (F := F) W1) (q n : Nat) (hn : n < 96)
    (h : ¬(q + ((n / 32 + 3 - q % 3) % 3) < q + 2 ∧ q + ((n / 32 + 3 - q % 3) % 3) < 64)) :
    slotSt c arg3 arg6 arg7 W1 Tb hW q n hn = freeSlot c arg3 arg6 arg7 Tb n hn := by
  unfold slotSt
  rw [if_neg h]

/-- A slot whose copies the next tile starts. -/
theorem slotSt_next (hW : InRange (F := F) W1) (q n : Nat) (hn : n < 96) (h3 : (q + 1) % 3 = n / 32) :
    slotSt c arg3 arg6 arg7 W1 Tb hW q n hn = slotSt c arg3 arg6 arg7 W1 Tb hW (q + 1) n hn := by
  by_cases hs : q + 1 < 64
  · rw [slotSt_flight c arg3 arg6 arg7 W1 Tb hW q n (q + 1) _ hn hs (by omega) (by omega) h3 rfl,
      slotSt_flight c arg3 arg6 arg7 W1 Tb hW (q + 1) n (q + 1) _ hn hs (by omega) (by omega) h3 rfl]
  · rw [slotSt_free c arg3 arg6 arg7 W1 Tb hW q n hn (by omega), slotSt_free c arg3 arg6 arg7 W1 Tb hW (q + 1) n hn (by omega)]

/-- The ring while step `p` works: the slots of the first `t` tiles as before the next step, the others as before this one. -/
def slotsAt (hW : InRange (F := F) W1) (p t : Nat) : sProp 𝕄 :=
  bigSep Finset.univ fun n : Fin 96 => slotSt c arg3 arg6 arg7 W1 Tb hW (if n.val % 32 < t then p + 1 else p) n.val n.isLt

/-- The tile loop's invariant at step `p`. -/
def tileInv (hW : InRange (F := F) W1) (q1 q2 : PosShare TreeShare) (p t : Nat) (f : Nat → FVec F S8x1 .f32 × FVec F S8x128 .f32) : sProp 𝕄 :=
  iprop(owns (c : Thread nD τ) arg1 q1 W1 ∗ owns (c : Thread nD τ) arg2 q2 W2 ∗ slotsAt c arg3 arg6 arg7 W1 Tb hW p t
    ∗ outPart c arg4 W1 Tb p t ∗ owesNone (F := F) c ∗ ⌜∀ s, s < t → f s = tileP W1 W2 Tb (p * 256 + 8 * s)⌝)

/-- The copies two steps ahead started, where there is such a step. -/
theorem wp_ahead (hW : InRange (F := F) W1) (q1 : PosShare TreeShare) (n : Fin 64) (t : Fin 32) {β : Type}
    (K : PUnit → Prog (TpuEff nD τ sig (Elt F) Λ₀ .tc) β) (Q : β → sProp 𝕄) :
    iprop(owns (c : Thread nD τ) arg1 q1 W1
        ∗ slotSt c arg3 arg6 arg7 W1 Tb hW n.val ((n.val + 2) % 3 * 32 + t.val) (by omega)
        ∗ (owns (c : Thread nD τ) arg1 q1 W1 -∗ slotSt c arg3 arg6 arg7 W1 Tb hW (n.val + 1) ((n.val + 2) % 3 * 32 + t.val) (by omega) -∗ Wp c (K ⟨⟩) Q))
      ⊢ Wp c (if h : n.val + 2 < 64 then
            issueTile arg1 arg3 arg6 arg7 (fun v => k0_chk513 (pt n) v) (fun v => k0_chk513.dec (pt n) v)
              (fun v hv => hv (cond2_of n h))
              ((n.val + 2) * 256 + 8 * t.val) ((n.val + 2) % 3 * 32 + t.val) (by omega) (by omega) >>= K
          else K ⟨⟩) Q := by
  rw [slotSt_free c arg3 arg6 arg7 W1 Tb hW n.val _ _ (by omega)]
  by_cases h : n.val + 2 < 64
  · rw [dif_pos h, slotSt_flight c arg3 arg6 arg7 W1 Tb hW (n.val + 1) _ (n.val + 2) ((n.val + 2) * 256 + 8 * t.val) _ h (by omega) (by omega)
      (by omega) (by omega)]
    unfold Wp
    rw [wp_bind]
    exact wp_issueTile c arg1 arg3 arg6 arg7 W1 Tb hW (fun v => k0_chk513 (pt n) v) _ _ (fun v hv _ => inbTab hv) _ _ _ _ q1
      (fun a => Wp c (K a) Q)
  · rw [dif_neg h, slotSt_free c arg3 arg6 arg7 W1 Tb hW (n.val + 1) _ _ (by omega)]
    iintro ⟨H1, Hf, Hk⟩
    iapply Hk $$ H1 Hf

/-- One tile of step `n`. -/
theorem wp_tileStep (hW : InRange (F := F) W1) (q1 q2 : PosShare TreeShare) (n : Fin 64) (t : Fin 32)
    (f : Nat → FVec F S8x1 .f32 × FVec F S8x128 .f32) (Q : (Nat → FVec F S8x1 .f32 × FVec F S8x128 .f32) → sProp 𝕄) :
    iprop(tileInv c arg1 arg2 arg3 arg4 arg6 arg7 W1 W2 Tb hW q1 q2 n.val t.val f
        ∗ (∀ f', tileInv c arg1 arg2 arg3 arg4 arg6 arg7 W1 W2 Tb hW q1 q2 n.val (t.val + 1) f' -∗ Q f'))
      ⊢ Wp c (tileStep arg1 arg2 arg3 arg4 arg6 arg7 n t f) Q := by
  unfold tileInv slotsAt
  iintro ⟨⟨H1, H2, Hr, H4, HW, %hf⟩, Hk⟩
  let n1 : Fin 96 := ⟨(n.val + 2) % 3 * 32 + t.val, by omega⟩
  let n0 : Fin 96 := ⟨n.val % 3 * 32 + t.val, by omega⟩
  let Mid : Fin 96 → sProp 𝕄 := fun i => if i = n1 then slotSt c arg3 arg6 arg7 W1 Tb hW (n.val + 1) i.val i.isLt
    else slotSt c arg3 arg6 arg7 W1 Tb hW (if i.val % 32 < t.val then n.val + 1 else n.val) i.val i.isLt
  have hne : n0 ≠ n1 := fun h => by
    have := congrArg Fin.val h
    simp only [n0, n1] at this
    omega
  have m1 : n1.val % 32 = t.val := by simp only [n1]; omega
  have m0 : n0.val % 32 = t.val := by simp only [n0]; omega
  ihave Hr' := (bigSep_step (Ψ := Mid) n1 (fun i hi => by simp only [Mid, if_neg hi])) $$ Hr
  icases Hr' with ⟨Hn1, Hput1⟩
  unfold tileStep
  iapply (wp_ahead c arg1 arg3 arg6 arg7 W1 Tb hW q1 n t)
  isplitl [H1]; · iexact H1
  isplitl [Hn1]
  · rw [m1, if_neg (Nat.lt_irrefl _)]
    iexact Hn1
  iintro H1 Hn1
  unfold Wp
  ihave Hr := Hput1 $$ [Hn1]
  · simp only [Mid, if_true]
    iexact Hn1
  ihave Hr' := (bigSep_step (Φ := Mid)
    (Ψ := fun i : Fin 96 => slotSt c arg3 arg6 arg7 W1 Tb hW (if i.val % 32 < t.val + 1 then n.val + 1 else n.val) i.val i.isLt) n0
    (fun i hi => by
      have hi' : i.val ≠ n.val % 3 * 32 + t.val := fun h => hi (Fin.ext h)
      by_cases h1 : i = n1
      · subst h1
        simp only [Mid, if_true, m1, Nat.lt_succ_self]
      · have h1' : i.val ≠ (n.val + 2) % 3 * 32 + t.val := fun h => h1 (Fin.ext h)
        simp only [Mid, if_neg h1]
        by_cases ht : i.val % 32 = t.val
        · rw [ht, if_neg (Nat.lt_irrefl _), if_pos (Nat.lt_succ_self _)]
          exact slotSt_next c arg3 arg6 arg7 W1 Tb hW n.val i.val i.isLt (by omega)
        · by_cases hlt : i.val % 32 < t.val
          · rw [if_pos hlt, if_pos (by omega)]
          · rw [if_neg hlt, if_neg (by omega)])) $$ Hr
  icases Hr' with ⟨Hn0, Hput0⟩
  rw [wp_bind]
  iapply (wp_waitTile c arg3 arg6 arg7 W1 Tb hW (n.val * 256 + 8 * t.val) (n.val % 3 * 32 + t.val) _)
  isplitl [Hn0]
  · have e0 : Mid n0 = flight c arg3 arg6 arg7 W1 Tb hW n0.val (n.val * 256 + 8 * t.val) n0.isLt := by
      simp only [Mid, if_neg hne]
      rw [m0, if_neg (Nat.lt_irrefl _), slotSt_flight c arg3 arg6 arg7 W1 Tb hW n.val n0.val n.val (n.val * 256 + 8 * t.val) _ n.isLt
        (by omega) (by omega) (by simp only [n0]; omega) (by omega)]
    ihave Hn0 := (show Mid n0 ⊢ flight c arg3 arg6 arg7 W1 Tb hW n0.val (n.val * 256 + 8 * t.val) n0.isLt from by rw [e0]) $$ Hn0
    iexact Hn0
  isplitl [HW]; · iexact HW
  iintro Hfull HW
  rw [wp_bind]
  iapply (wp_tileWork c arg2 arg3 arg4 arg6 arg7 W1 W2 Tb (n.val % 3 * 32 + t.val) n.val t.val _ t.isLt _ q2)
  isplitl [Hfull]; · iexact Hfull
  isplitl [H2]; · iexact H2
  isplitl [H4]; · iexact H4
  iintro Hn0 H2 H4
  iapply (le_wp_ret _ _ _ _ Q)
  iapply Hk
  isplitl [H1]; · iexact H1
  isplitl [H2]; · iexact H2
  isplitl [Hput0 Hn0]
  · iapply Hput0
    rw [m0, if_pos (Nat.lt_succ_self _), slotSt_free c arg3 arg6 arg7 W1 Tb hW (n.val + 1) n0.val _ (by simp only [n0]; omega)]
    iexact Hn0
  isplitl [H4]; · iexact H4
  isplitl [HW]; · iexact HW
  ipureintro
  intro s hs
  by_cases h : s = t.val
  · subst h
    simp only [if_true]
  · simp only [if_neg h]
    exact hf s (by omega)

end Cert.KernelIdeal.Canon

end
-- ==== Proof.Ideal.Steps.lean ====
/- A whole step of the body: the opening, the loop over its tiles, the accumulators and the closing. -/
module

public import proofs.«01_k».proof.Proof.Ideal.Tiles

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts
open K0.Facts₀ Shapes1.Facts₀ Shapes2.Facts₀

local notation "𝕄" => MT nD τ sig Unit (Elt F) ℕ (Pipeline.UD sig nD τ) ℕ

variable (c : Dev nD)
  (arg1 : Memref sig .tc .smem S16384 .i32) (arg2 : Memref sig .tc .smem S16384 .i32)
  (arg3 : Memref sig .tc .hbm S8192x8192 .f32) (arg4 : Memref sig .tc .vmem S256x8192 .f32)
  (arg5 : Memref sig .tc .vmem S1x1 .f32) (arg6 : Memref sig .tc .vmem S96x8x8192 .f32)
  (arg7 : DmaSems sig S96) (arg8 : Memref sig .tc .vmem S8x32 .f32) (arg9 : Memref sig .tc .vmem S8x128 .f32)
  (W1 : S16384.Idx → Elt F .i32) (W2 : S16384.Idx → Elt F .i32) (Tb : S8192x8192.Idx → Elt F .f32)

/-- The first accumulator before step `n`: the logarithms of the steps' row sums, added up. -/
def acc8 : Nat → FVec F S8x32 .f32
  | 0 => broadcast S8x32 (Scalar.ofBits .f32 0x00000000#32 : F .f32)
  | n + 1 => addf (acc8 n) (log (sums fun s => (tileP W1 W2 Tb (n * 256 + 8 * s)).1))

/-- The second accumulator before step `n`: the steps' picked entries, added up. -/
def acc9 : Nat → FVec F S8x128 .f32
  | 0 => broadcast S8x128 (Scalar.ofBits .f32 0x00000000#32 : F .f32)
  | n + 1 => addf (acc9 n) (pickTree (fun s => (tileP W1 W2 Tb (n * 256 + 8 * s)).2) 31)

/-- A rectangle that is the whole shape. -/
theorem emb_whole2 {n0 n1 : Nat} (inb : ∀ a, (![0, 0] : Fin 2 → Nat) a + (⟨2, ![n0, n1]⟩ : Shape).size a ≤ (⟨2, ![n0, n1]⟩ : Shape).size a)
    (i : (⟨2, ![n0, n1]⟩ : Shape).Idx) :
    (Rect.unit (s := ⟨2, ![n0, n1]⟩) ![0, 0] (⟨2, ![n0, n1]⟩ : Shape).size inb).emb i = i := by
  funext a
  apply Fin.ext
  rw [emb_unit_val]
  fin_cases a <;> simp

/-- A whole array of two axes read through such a rectangle. -/
theorem emb_whole2_fn {n0 n1 : Nat} {α : Type} (inb : ∀ a, (![0, 0] : Fin 2 → Nat) a + (⟨2, ![n0, n1]⟩ : Shape).size a ≤ (⟨2, ![n0, n1]⟩ : Shape).size a)
    (X : (⟨2, ![n0, n1]⟩ : Shape).Idx → α) :
    (fun j => X ((Rect.unit (s := ⟨2, ![n0, n1]⟩) ![0, 0] (⟨2, ![n0, n1]⟩ : Shape).size inb).emb j)) = X :=
  funext fun i => congrArg X (emb_whole2 inb i)

/-- The sums side by side depend on the first thirty-two alone. -/
theorem sums_congr {s s' : Nat → FVec F S8x1 .f32} (h : ∀ k, k < 32 → s k = s' k) : sums s = sums s' := by
  have e (s : Nat → FVec F S8x1 .f32) : sums s = sums (fun k => if k < 32 then s k else s 0) := rfl
  rw [e s, e s']
  refine congrArg sums (funext fun k => ?_)
  by_cases hk : k < 32
  · rw [if_pos hk, if_pos hk, h k hk]
  · rw [if_neg hk, if_neg hk, h 0 (by omega)]

/-- The picked entries' sum depends on the summed ones alone. -/
theorem pickTree_congr {p p' : Nat → FVec F S8x128 .f32} : ∀ k, (∀ s, s ≤ k → p s = p' s) → pickTree p k = pickTree p' k
  | 0, h => h 0 le_rfl
  | k + 1, h => by
    unfold pickTree
    rw [pickTree_congr k fun s hs => h s (by omega), h (k + 1) le_rfl]

/-- The first accumulator stored. -/
theorem wp_putAcc8 (x : FVec F S8x32 .f32) (Q : PUnit → sProp 𝕄) :
    iprop((∃ X, owns (c : Thread nD τ) arg8 fullShare X) ∗ (owns (c : Thread nD τ) arg8 fullShare x -∗ Q ⟨⟩))
      ⊢ Wp c (putAcc8 arg8 x) Q := by
  unfold putAcc8
  iintro ⟨⟨%X, H⟩, Hk⟩
  iapply (wp_load_owns Variants.none (c : Thread nD τ) none Set.univ (m := arg8) (q := fullShare) (X := X))
  isplitl [H]; · iexact H
  iintro H
  iapply (wp_store_owns Variants.none (c : Thread nD τ) none Set.univ (m := arg8) (X := X))
  isplitl [H]; · iexact H
  iintro %Y %hY H
  have e : Y = x := by
    funext i
    have h := hY.1 i
    rw [shapeCast_self] at h
    exact (congrArg Y (emb_whole2 (n0 := 8) (n1 := 32) inb_S8x32_S8x32_0_0 i).symm).trans h
  subst e
  iapply (le_wp_ret _ _ _ _ Q)
  iapply Hk $$ H

/-- The second accumulator stored. -/
theorem wp_putAcc9 (x : FVec F S8x128 .f32) (Q : PUnit → sProp 𝕄) :
    iprop((∃ X, owns (c : Thread nD τ) arg9 fullShare X) ∗ (owns (c : Thread nD τ) arg9 fullShare x -∗ Q ⟨⟩))
      ⊢ Wp c (putAcc9 arg9 x) Q := by
  unfold putAcc9
  iintro ⟨⟨%X, H⟩, Hk⟩
  iapply (wp_load_owns Variants.none (c : Thread nD τ) none Set.univ (m := arg9) (q := fullShare) (X := X))
  isplitl [H]; · iexact H
  iintro H
  iapply (wp_store_owns Variants.none (c : Thread nD τ) none Set.univ (m := arg9) (X := X))
  isplitl [H]; · iexact H
  iintro %Y %hY H
  have e : Y = x := by
    funext i
    have h := hY.1 i
    rw [shapeCast_self] at h
    exact (congrArg Y (emb_whole2 (n0 := 8) (n1 := 128) inb_S8x128_S8x128_0_0 i).symm).trans h
  subst e
  iapply (le_wp_ret _ _ _ _ Q)
  iapply Hk $$ H

/-- The accumulators before step `q`: anything before the first. -/
def accSt (q : Nat) : sProp 𝕄 :=
  if q = 0 then iprop((∃ X, owns (c : Thread nD τ) arg8 fullShare X) ∗ (∃ X, owns (c : Thread nD τ) arg9 fullShare X))
  else iprop(owns (c : Thread nD τ) arg8 fullShare (acc8 W1 W2 Tb q) ∗ owns (c : Thread nD τ) arg9 fullShare (acc9 W1 W2 Tb q))

/-- The ring before step `q`: all free before the first. -/
def ringSt (hW : InRange (F := F) W1) (q : Nat) : sProp 𝕄 :=
  if q = 0 then bigSep Finset.univ fun n : Fin 96 => freeSlot c arg3 arg6 arg7 Tb n.val n.isLt
  else bigSep Finset.univ fun n : Fin 96 => slotSt c arg3 arg6 arg7 W1 Tb hW q n.val n.isLt

/-- Before the first tile of a step. -/
theorem slotsAt_zero (hW : InRange (F := F) W1) (p : Nat) : slotsAt c arg3 arg6 arg7 W1 Tb hW p 0
    = bigSep Finset.univ fun n : Fin 96 => slotSt c arg3 arg6 arg7 W1 Tb hW p n.val n.isLt := by
  unfold slotsAt
  simp only [Nat.not_lt_zero, if_false]

/-- After the last tile of a step. -/
theorem slotsAt_last (hW : InRange (F := F) W1) (p : Nat) : slotsAt c arg3 arg6 arg7 W1 Tb hW p 32
    = bigSep Finset.univ fun n : Fin 96 => slotSt c arg3 arg6 arg7 W1 Tb hW (p + 1) n.val n.isLt := by
  unfold slotsAt
  simp only [Nat.mod_lt _ (by omega : 0 < 32), if_true]

/-- The ring before a step that is not the first. -/
theorem ringSt_pos (hW : InRange (F := F) W1) (p : Nat) (h : ¬p = 0) :
    ringSt c arg3 arg6 arg7 W1 Tb hW p = slotsAt c arg3 arg6 arg7 W1 Tb hW p 0 := by
  rw [slotsAt_zero]
  exact if_neg h

/-- The accumulators before a step that is not the first. -/
theorem accSt_pos (p : Nat) (h : ¬p = 0) : accSt c arg8 arg9 W1 W2 Tb p
    = iprop(owns (c : Thread nD τ) arg8 fullShare (acc8 W1 W2 Tb p) ∗ owns (c : Thread nD τ) arg9 fullShare (acc9 W1 W2 Tb p)) :=
  if_neg h

/-- The ring after a step. -/
theorem ringSt_succ (hW : InRange (F := F) W1) (p : Nat) :
    ringSt c arg3 arg6 arg7 W1 Tb hW (p + 1) = slotsAt c arg3 arg6 arg7 W1 Tb hW p 32 := by
  rw [slotsAt_last]
  exact if_neg (Nat.succ_ne_zero _)

/-- The accumulators after a step. -/
theorem accSt_succ (p : Nat) : accSt c arg8 arg9 W1 W2 Tb (p + 1)
    = iprop(owns (c : Thread nD τ) arg8 fullShare (acc8 W1 W2 Tb (p + 1)) ∗ owns (c : Thread nD τ) arg9 fullShare (acc9 W1 W2 Tb (p + 1))) :=
  if_neg (Nat.succ_ne_zero _)

/-- After the last step every slot is free. -/
theorem ringSt_end (hW : InRange (F := F) W1) : ringSt c arg3 arg6 arg7 W1 Tb hW 64
    = bigSep Finset.univ fun n : Fin 96 => freeSlot c arg3 arg6 arg7 Tb n.val n.isLt := by
  unfold ringSt
  rw [if_neg (by omega)]
  exact congrArg (bigSep Finset.univ) (funext fun n => slotSt_free c arg3 arg6 arg7 W1 Tb hW 64 n.val n.isLt (by omega))

/-- The slots while the opening starts them: the first `t` in flight. -/
def openSt (hW : InRange (F := F) W1) (t : Nat) : sProp 𝕄 :=
  bigSep Finset.univ fun n : Fin 96 => if n.val < t then slotSt c arg3 arg6 arg7 W1 Tb hW 0 n.val n.isLt
    else freeSlot c arg3 arg6 arg7 Tb n.val n.isLt

/-- The opening at step 0. -/
theorem wp_opening (hW : InRange (F := F) W1) (q1 : PosShare TreeShare) (n : Fin 64) (hn : k0_cond1 (pt n) = 1#1) (Q : PUnit → sProp 𝕄) :
    iprop(owns (c : Thread nD τ) arg1 q1 W1 ∗ ringSt c arg3 arg6 arg7 W1 Tb hW 0 ∗ accSt c arg8 arg9 W1 W2 Tb 0
        ∗ (owns (c : Thread nD τ) arg1 q1 W1 -∗ slotsAt c arg3 arg6 arg7 W1 Tb hW 0 0
            -∗ owns (c : Thread nD τ) arg8 fullShare (acc8 W1 W2 Tb 0) -∗ owns (c : Thread nD τ) arg9 fullShare (acc9 W1 W2 Tb 0) -∗ Q ⟨⟩))
      ⊢ Wp c (opening arg1 arg3 arg6 arg7 arg8 arg9 n hn) Q := by
  have e0 : ringSt c arg3 arg6 arg7 W1 Tb hW 0 = openSt c arg3 arg6 arg7 W1 Tb hW 0 := by
    unfold ringSt openSt
    simp only [if_true, Nat.not_lt_zero, if_false]
  have e1 : openSt c arg3 arg6 arg7 W1 Tb hW 64 = slotsAt c arg3 arg6 arg7 W1 Tb hW 0 0 := by
    rw [slotsAt_zero]
    unfold openSt
    refine congrArg (bigSep Finset.univ) (funext fun i => ?_)
    by_cases h : i.val < 64
    · rw [if_pos h]
    · rw [if_neg h, slotSt_free c arg3 arg6 arg7 W1 Tb hW 0 i.val i.isLt (by omega)]
  rw [e0]
  unfold accSt opening acc8 acc9
  rw [if_pos rfl]
  iintro ⟨H1, Hr, ⟨H8, H9⟩, Hk⟩
  unfold Wp
  rw [wp_bind]
  iapply (wp_putAcc8 c arg8)
  isplitl [H8]; · iexact H8
  iintro H8
  rw [wp_bind]
  iapply (wp_putAcc9 c arg9)
  isplitl [H9]; · iexact H9
  iintro H9
  iapply (wp_loop c _ (fun t _ => iprop(owns (c : Thread nD τ) arg1 q1 W1 ∗ openSt c arg3 arg6 arg7 W1 Tb hW t)) ?_ 64 0 rfl _ Q)
  · intro t a Q'
    unfold openSt
    have ht96 : t.val < 96 := by omega
    iintro ⟨⟨H1, Hr⟩, Hk⟩
    ihave Hr' := (bigSep_step (Ψ := fun n : Fin 96 => if n.val < t.val + 1 then slotSt c arg3 arg6 arg7 W1 Tb hW 0 n.val n.isLt
        else freeSlot c arg3 arg6 arg7 Tb n.val n.isLt) (⟨t.val, ht96⟩ : Fin 96) (fun i hi => by
      have hi' : i.val ≠ t.val := fun h => hi (Fin.ext h)
      by_cases h : i.val < t.val
      · simp only [if_pos h, if_pos (show i.val < t.val + 1 by omega)]
      · simp only [if_neg h, if_neg (show ¬ i.val < t.val + 1 by omega)])) $$ Hr
    icases Hr' with ⟨Hn, Hput⟩
    iapply (wp_issueTile c arg1 arg3 arg6 arg7 W1 Tb hW (fun v => k0_chk1 (pt n) v) _ _ (fun v hv _ => inbTab hv) _ _ _ ht96 q1 Q')
    isplitl [H1]; · iexact H1
    isplitl [Hn]
    · simp only [Nat.lt_irrefl, if_false]
      iexact Hn
    iintro H1 Hn
    iapply Hk
    isplitl [H1]; · iexact H1
    iapply Hput
    simp only [Nat.lt_succ_self, if_true]
    rw [slotSt_flight c arg3 arg6 arg7 W1 Tb hW 0 t.val (t.val / 32) (8 * t.val) ht96 (by omega) (by omega) (by omega) (by omega) (by omega)]
    iexact Hn
  · isplitl [H1 Hr]
    · isplitl [H1]; · iexact H1
      iexact Hr
    · iintro %a ⟨H1, Hr⟩
      cases a
      ihave Hr := (Entails.of_eq e1) $$ Hr
      iapply Hk $$ H1 Hr H8 H9

/-- The opening at a step that is the first. -/
theorem wp_opening_of (hW : InRange (F := F) W1) (q1 : PosShare TreeShare) (n : Fin 64) (h : n.val = 0) (Q : PUnit → sProp 𝕄) :
    iprop(owns (c : Thread nD τ) arg1 q1 W1 ∗ ringSt c arg3 arg6 arg7 W1 Tb hW n.val ∗ accSt c arg8 arg9 W1 W2 Tb n.val
        ∗ (owns (c : Thread nD τ) arg1 q1 W1 -∗ slotsAt c arg3 arg6 arg7 W1 Tb hW n.val 0
            -∗ owns (c : Thread nD τ) arg8 fullShare (acc8 W1 W2 Tb n.val) -∗ owns (c : Thread nD τ) arg9 fullShare (acc9 W1 W2 Tb n.val)
            -∗ Q ⟨⟩))
      ⊢ Wp c (opening arg1 arg3 arg6 arg7 arg8 arg9 n (cond1_of n h)) Q := by
  have e := wp_opening c arg1 arg3 arg6 arg7 arg8 arg9 W1 W2 Tb hW q1 n (cond1_of n h) Q
  rw [h]
  exact e

/-- The accumulators' update. -/
theorem wp_accumulate (n : Nat) (f : Nat → FVec F S8x1 .f32 × FVec F S8x128 .f32)
    (hf : ∀ s, s < 32 → f s = tileP W1 W2 Tb (n * 256 + 8 * s)) (Q : PUnit → sProp 𝕄) :
    iprop(owns (c : Thread nD τ) arg8 fullShare (acc8 W1 W2 Tb n) ∗ owns (c : Thread nD τ) arg9 fullShare (acc9 W1 W2 Tb n)
        ∗ (owns (c : Thread nD τ) arg8 fullShare (acc8 W1 W2 Tb (n + 1)) -∗ owns (c : Thread nD τ) arg9 fullShare (acc9 W1 W2 Tb (n + 1)) -∗ Q ⟨⟩))
      ⊢ Wp c (accumulate arg8 arg9 f) Q := by
  have e8 : acc8 W1 W2 Tb (n + 1) = addf (acc8 W1 W2 Tb n) (log (sums fun s => (f s).1)) := by
    show addf (acc8 W1 W2 Tb n) (log (sums fun s => (tileP W1 W2 Tb (n * 256 + 8 * s)).1)) = _
    exact congrArg (fun s => addf (acc8 W1 W2 Tb n) (log s)) (sums_congr fun s hs => by rw [hf s hs])
  have e9 : acc9 W1 W2 Tb (n + 1) = addf (acc9 W1 W2 Tb n) (pickTree (fun s => (f s).2) 31) := by
    exact congrArg (addf (acc9 W1 W2 Tb n)) (pickTree_congr 31 fun s hs => by rw [hf s (by omega)])
  rw [e8, e9]
  unfold accumulate
  iintro ⟨H8, H9, Hk⟩
  iapply (wp_load_owns Variants.none (c : Thread nD τ) none Set.univ (m := arg8) (q := fullShare) (X := acc8 W1 W2 Tb n))
  isplitl [H8]; · iexact H8
  iintro H8
  have w8 := emb_whole2_fn (n0 := 8) (n1 := 32) inb_S8x32_S8x32_0_0 (acc8 W1 W2 Tb n)
  have w9 := emb_whole2_fn (n0 := 8) (n1 := 128) inb_S8x128_S8x128_0_0 (acc9 W1 W2 Tb n)
  simp only [ret_then]
  erw [w8]
  rw [wp_bind]
  iapply (wp_putAcc8 c arg8)
  isplitl [H8]; · iexists _; iexact H8
  iintro H8
  iapply (wp_load_owns Variants.none (c : Thread nD τ) none Set.univ (m := arg9) (q := fullShare) (X := acc9 W1 W2 Tb n))
  isplitl [H9]; · iexact H9
  iintro H9
  simp only [ret_then]
  erw [w9]
  iapply (wp_putAcc9 c arg9)
  isplitl [H9]; · iexists _; iexact H9
  iintro H9
  iapply Hk $$ H8 H9

/-- The closing: the loss stored. -/
theorem wp_closing (a : FVec F S8x32 .f32) (b : FVec F S8x128 .f32) (Q : PUnit → sProp 𝕄) :
    iprop(owns (c : Thread nD τ) arg8 fullShare a ∗ owns (c : Thread nD τ) arg9 fullShare b ∗ (∃ X, owns (c : Thread nD τ) arg5 fullShare X)
        ∗ (owns (c : Thread nD τ) arg8 fullShare a -∗ owns (c : Thread nD τ) arg9 fullShare b
            -∗ owns (c : Thread nD τ) arg5 fullShare (lossOf a b) -∗ Q ⟨⟩))
      ⊢ Wp c (closing arg5 arg8 arg9) Q := by
  unfold closing
  iintro ⟨H8, H9, ⟨%X, H5⟩, Hk⟩
  iapply (wp_load_owns Variants.none (c : Thread nD τ) none Set.univ (m := arg8) (q := fullShare) (X := a))
  isplitl [H8]; · iexact H8
  iintro H8
  iapply (wp_load_owns Variants.none (c : Thread nD τ) none Set.univ (m := arg9) (q := fullShare) (X := b))
  isplitl [H9]; · iexact H9
  iintro H9
  iapply (wp_load_owns Variants.none (c : Thread nD τ) none Set.univ (m := arg5) (q := fullShare) (X := X))
  isplitl [H5]; · iexact H5
  iintro H5
  iapply (wp_store_owns Variants.none (c : Thread nD τ) none Set.univ (m := arg5) (X := X))
  isplitl [H5]; · iexact H5
  iintro %Y %hY H5
  have e : Y = lossOf a b := by
    funext i
    refine (congrArg Y (emb_whole2 (n0 := 1) (n1 := 1) inb_S1x1_S1x1_0_0 i).symm).trans ((hY.1 i).trans ?_)
    exact congrFun (congrArg₂ lossOf (emb_whole2_fn (n0 := 8) (n1 := 32) inb_S8x32_S8x32_0_0 a)
      (emb_whole2_fn (n0 := 8) (n1 := 128) inb_S8x128_S8x128_0_0 b)) i
  subst e
  iapply (le_wp_ret _ _ _ _ Q)
  iapply Hk $$ H8 H9 H5

/-- The body at step `n`, from its opening on. -/
theorem wp_rest (hW : InRange (F := F) W1) (q1 q2 : PosShare TreeShare) (n : Fin 64)
    (f0 : Nat → FVec F S8x1 .f32 × FVec F S8x128 .f32) (Q : PUnit → sProp 𝕄) :
    iprop(owns (c : Thread nD τ) arg1 q1 W1 ∗ owns (c : Thread nD τ) arg2 q2 W2
        ∗ slotsAt c arg3 arg6 arg7 W1 Tb hW n.val 0 ∗ (∃ X, owns (c : Thread nD τ) arg4 fullShare X) ∗ owesNone (F := F) c
        ∗ owns (c : Thread nD τ) arg8 fullShare (acc8 W1 W2 Tb n.val) ∗ owns (c : Thread nD τ) arg9 fullShare (acc9 W1 W2 Tb n.val)
        ∗ (owns (c : Thread nD τ) arg1 q1 W1 -∗ owns (c : Thread nD τ) arg2 q2 W2
            -∗ ringSt c arg3 arg6 arg7 W1 Tb hW (n.val + 1) -∗ owns (c : Thread nD τ) arg4 fullShare (outVal W1 Tb n.val)
            -∗ owesNone (F := F) c -∗ accSt c arg8 arg9 W1 W2 Tb (n.val + 1) -∗ Q ⟨⟩))
      ⊢ Wp c (loopFrom (N := 32) (tileStep arg1 arg2 arg3 arg4 arg6 arg7 n) 32 0 rfl f0 >>= fun f => accumulate arg8 arg9 f) Q := by
  iintro ⟨H1, H2, Hr, ⟨%X, H4⟩, HW, H8, H9, Hk⟩
  unfold Wp
  rw [wp_bind]
  iapply (wp_loop c _ (fun t f => tileInv c arg1 arg2 arg3 arg4 arg6 arg7 W1 W2 Tb hW q1 q2 n.val t f) (fun t f Q' =>
    wp_tileStep c arg1 arg2 arg3 arg4 arg6 arg7 W1 W2 Tb hW q1 q2 n t f Q') 32 0 rfl f0)
  unfold tileInv
  isplitl [H1 H2 Hr H4 HW]
  · isplitl [H1]; · iexact H1
    isplitl [H2]; · iexact H2
    isplitl [Hr]; · iexact Hr
    isplitl [H4]
    · unfold outPart
      iexists X
      isplitl [H4]; · iexact H4
      ipureintro
      intro i hi
      omega
    isplitl [HW]; · iexact HW
    ipureintro
    intro s hs
    omega
  · iintro %f ⟨H1, H2, Hr, H4, HW, %hf⟩
    unfold outPart
    icases H4 with ⟨%Y, H4, %hY⟩
    have e4 : Y = outVal W1 Tb n.val := funext fun i => hY i (by have := (i 0).isLt; simpa using this)
    subst e4
    iapply (wp_accumulate c arg8 arg9 W1 W2 Tb n.val f hf)
    isplitl [H8]; · iexact H8
    isplitl [H9]; · iexact H9
    iintro H8 H9
    iapply Hk $$ H1 H2 [Hr] H4 HW [H8 H9]
    · rw [ringSt_succ]
      iexact Hr
    · rw [accSt_succ]
      isplitl [H8]; · iexact H8
      iexact H9

/-- The loss after the last step. -/
def lossVal : FVec F S1x1 .f32 := lossOf (acc8 W1 W2 Tb 64) (acc9 W1 W2 Tb 64)

/-- The closing where the step is the last, nothing elsewhere. -/
theorem wp_last (n : Fin 64) (a : FVec F S8x32 .f32) (b : FVec F S8x128 .f32) (L : FVec F S1x1 .f32) (Q : PUnit → sProp 𝕄) :
    iprop(owns (c : Thread nD τ) arg8 fullShare a ∗ owns (c : Thread nD τ) arg9 fullShare b ∗ owns (c : Thread nD τ) arg5 fullShare L
        ∗ (owns (c : Thread nD τ) arg8 fullShare a -∗ owns (c : Thread nD τ) arg9 fullShare b
            -∗ owns (c : Thread nD τ) arg5 fullShare (if n.val = 63 then lossOf a b else L) -∗ Q ⟨⟩))
      ⊢ Wp c (if n.val = 63 then closing arg5 arg8 arg9 else pure ⟨⟩) Q := by
  by_cases h : n.val = 63
  · rw [if_pos h, if_pos h]
    iintro ⟨H8, H9, H5, Hk⟩
    iapply (wp_closing c arg5 arg8 arg9)
    isplitl [H8]; · iexact H8
    isplitl [H9]; · iexact H9
    isplitl [H5]; · iexists _; iexact H5
    iexact Hk
  · rw [if_neg h, if_neg h]
    iintro ⟨H8, H9, H5, Hk⟩
    iapply (le_wp_ret _ _ _ _ Q)
    iapply Hk $$ H8 H9 H5

/-- The body at step `n`, after its opening. -/
theorem wp_tail (hW : InRange (F := F) W1) (q1 q2 : PosShare TreeShare) (n : Fin 64) (L : FVec F S1x1 .f32)
    (f0 : Nat → FVec F S8x1 .f32 × FVec F S8x128 .f32) (Q : PUnit → sProp 𝕄) :
    iprop(owns (c : Thread nD τ) arg1 q1 W1 ∗ owns (c : Thread nD τ) arg2 q2 W2
        ∗ slotsAt c arg3 arg6 arg7 W1 Tb hW n.val 0 ∗ (∃ X, owns (c : Thread nD τ) arg4 fullShare X) ∗ owesNone (F := F) c
        ∗ owns (c : Thread nD τ) arg8 fullShare (acc8 W1 W2 Tb n.val) ∗ owns (c : Thread nD τ) arg9 fullShare (acc9 W1 W2 Tb n.val)
        ∗ owns (c : Thread nD τ) arg5 fullShare L
        ∗ (owns (c : Thread nD τ) arg1 q1 W1 -∗ owns (c : Thread nD τ) arg2 q2 W2
            -∗ ringSt c arg3 arg6 arg7 W1 Tb hW (n.val + 1) -∗ owns (c : Thread nD τ) arg4 fullShare (outVal W1 Tb n.val)
            -∗ owesNone (F := F) c -∗ accSt c arg8 arg9 W1 W2 Tb (n.val + 1)
            -∗ owns (c : Thread nD τ) arg5 fullShare (if n.val = 63 then lossOf (acc8 W1 W2 Tb (n.val + 1)) (acc9 W1 W2 Tb (n.val + 1)) else L) -∗ Q ⟨⟩))
      ⊢ Wp c (loopFrom (N := 32) (tileStep arg1 arg2 arg3 arg4 arg6 arg7 n) 32 0 rfl f0 >>= fun f => accumulate arg8 arg9 f >>= fun _ =>
          if n.val = 63 then closing arg5 arg8 arg9 else pure ⟨⟩) Q := by
  have e : ∀ k : PUnit → Prog (TpuEff nD τ sig (Elt F) Λ₀ .tc) PUnit,
      (loopFrom (N := 32) (tileStep arg1 arg2 arg3 arg4 arg6 arg7 n) 32 0 rfl f0 >>= fun f => accumulate arg8 arg9 f >>= k)
        = ((loopFrom (N := 32) (tileStep arg1 arg2 arg3 arg4 arg6 arg7 n) 32 0 rfl f0 >>= fun f => accumulate arg8 arg9 f) >>= k) :=
    fun k => (bind_assoc _ _ _).symm
  rw [e]
  iintro ⟨H1, H2, Hr, H4, HW, H8, H9, H5, Hk⟩
  unfold Wp
  rw [wp_bind]
  iapply (wp_rest c arg1 arg2 arg3 arg4 arg6 arg7 arg8 arg9 W1 W2 Tb hW q1 q2 n f0)
  isplitl [H1]; · iexact H1
  isplitl [H2]; · iexact H2
  isplitl [Hr]; · iexact Hr
  isplitl [H4]; · iexact H4
  isplitl [HW]; · iexact HW
  isplitl [H8]; · iexact H8
  isplitl [H9]; · iexact H9
  iintro H1 H2 Hr H4 HW Ha
  ihave Ha := (Entails.of_eq (accSt_succ c arg8 arg9 W1 W2 Tb n.val)) $$ Ha
  icases Ha with ⟨H8, H9⟩
  iapply (wp_last c arg5 arg8 arg9 n)
  isplitl [H8]; · iexact H8
  isplitl [H9]; · iexact H9
  isplitl [H5]; · iexact H5
  iintro H8 H9 H5
  iapply Hk $$ H1 H2 Hr H4 HW [H8 H9] H5
  rw [accSt_succ]
  isplitl [H8]; · iexact H8
  iexact H9

/-- The body at step `n`. -/
theorem wp_body (hW : InRange (F := F) W1) (q1 q2 : PosShare TreeShare) (n : Fin 64) (L : FVec F S1x1 .f32) (Q : PUnit → sProp 𝕄) :
    iprop(owns (c : Thread nD τ) arg1 q1 W1 ∗ owns (c : Thread nD τ) arg2 q2 W2
        ∗ ringSt c arg3 arg6 arg7 W1 Tb hW n.val ∗ (∃ X, owns (c : Thread nD τ) arg4 fullShare X) ∗ owesNone (F := F) c
        ∗ accSt c arg8 arg9 W1 W2 Tb n.val ∗ owns (c : Thread nD τ) arg5 fullShare L
        ∗ (owns (c : Thread nD τ) arg1 q1 W1 -∗ owns (c : Thread nD τ) arg2 q2 W2
            -∗ ringSt c arg3 arg6 arg7 W1 Tb hW (n.val + 1) -∗ owns (c : Thread nD τ) arg4 fullShare (outVal W1 Tb n.val)
            -∗ owesNone (F := F) c -∗ accSt c arg8 arg9 W1 W2 Tb (n.val + 1)
            -∗ owns (c : Thread nD τ) arg5 fullShare (if n.val = 63 then lossOf (acc8 W1 W2 Tb (n.val + 1)) (acc9 W1 W2 Tb (n.val + 1)) else L) -∗ Q ⟨⟩))
      ⊢ Wp c (body arg1 arg2 arg3 arg4 arg5 arg6 arg7 arg8 arg9 n) Q := by
  unfold body
  by_cases h : n.val = 0
  · rw [dif_pos h]
    iintro ⟨H1, H2, Hr, H4, HW, Ha, H5, Hk⟩
    unfold Wp
    rw [wp_bind]
    iapply (wp_opening_of c arg1 arg3 arg6 arg7 arg8 arg9 W1 W2 Tb hW q1 n h)
    isplitl [H1]; · iexact H1
    isplitl [Hr]; · iexact Hr
    isplitl [Ha]; · iexact Ha
    iintro H1 Hr H8 H9
    iapply (wp_tail c arg1 arg2 arg3 arg4 arg5 arg6 arg7 arg8 arg9 W1 W2 Tb hW q1 q2 n L)
    isplitl [H1]; · iexact H1
    isplitl [H2]; · iexact H2
    isplitl [Hr]; · iexact Hr
    isplitl [H4]; · iexact H4
    isplitl [HW]; · iexact HW
    isplitl [H8]; · iexact H8
    isplitl [H9]; · iexact H9
    isplitl [H5]; · iexact H5
    iexact Hk
  · rw [dif_neg h]
    iintro ⟨H1, H2, Hr, H4, HW, Ha, H5, Hk⟩
    ihave Ha := (Entails.of_eq (accSt_pos c arg8 arg9 W1 W2 Tb n.val h)) $$ Ha
    icases Ha with ⟨H8, H9⟩
    ihave Hr := (Entails.of_eq (ringSt_pos c arg3 arg6 arg7 W1 Tb hW n.val h)) $$ Hr
    iapply (wp_tail c arg1 arg2 arg3 arg4 arg5 arg6 arg7 arg8 arg9 W1 W2 Tb hW q1 q2 n L)
    isplitl [H1]; · iexact H1
    isplitl [H2]; · iexact H2
    isplitl [Hr]; · iexact Hr
    isplitl [H4]; · iexact H4
    isplitl [HW]; · iexact HW
    isplitl [H8]; · iexact H8
    isplitl [H9]; · iexact H9
    isplitl [H5]; · iexact H5
    iexact Hk

end Cert.KernelIdeal.Canon

end
-- ==== Proof.Ideal.Split.lean ====
/- What a launch hands the kernel, split into the ring's slots, and put together again. -/
module

public import proofs.«01_k».proof.Proof.Ideal.Steps
public import Idealize.ShloMosaic.Lib.Pipeline.FrameBody

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable (c : Dev nD) (arg3 : Memref sig .tc .hbm S8192x8192 .f32) (arg6 : Memref sig .tc .vmem S96x8x8192 .f32) (arg7 : DmaSems sig S96)
  (Tb : S8192x8192.Idx → Elt F .f32)

/-- The rows of the ring, by slot and row. -/
abbrev ringRect (t : Fin 96 × Fin 8) : Rect S96x8x8192 := rowRect t.1.val t.2.val t.1.isLt t.2.isLt

/-- Two rows of the ring share no cell. -/
theorem ring_disjoint (t t' : Fin 96 × Fin 8) (h : t ≠ t') : Disjoint (ringRect t).set (ringRect t').set := by
  rw [Finset.disjoint_left]
  intro i hi hi'
  have h0 := Rect.mem_set_unit.mp hi 0
  have h0' := Rect.mem_set_unit.mp hi' 0
  have h1 := Rect.mem_set_unit.mp hi 1
  have h1' := Rect.mem_set_unit.mp hi' 1
  simp [S1x1x8192] at h0 h0' h1 h1'
  exact h (Prod.ext (Fin.ext (by omega)) (Fin.ext (by omega)))

/-- The rows make up the ring. -/
theorem ring_covered : (Finset.univ : Finset (Fin 96 × Fin 8)).biUnion (fun t => (ringRect t).set) = Finset.univ := by
  refine Finset.eq_univ_iff_forall.mpr fun i => Finset.mem_biUnion.mpr ⟨(⟨(i 0).val, (i 0).isLt⟩, ⟨(i 1).val, (i 1).isLt⟩), Finset.mem_univ _, ?_⟩
  refine Rect.mem_set_unit.mpr fun a => ?_
  have h2 := (i 2).isLt
  fin_cases a <;> simp [S1x1x8192] <;> simpa [S96x8x8192] using h2

/-- The ring at anything is its rows at anything. -/
theorem ring_rows : iprop(∃ X, owns (c : Thread nD τ) arg6 fullShare X)
    ⊣⊢ (bigSep Finset.univ fun n : Fin 96 => bigSep Finset.univ fun j : Fin 8 =>
      iprop(∃ Y, owns (c : Thread nD τ) (rowSlice arg6 n.val j.val n.isLt j.isLt) fullShare Y) : sProp 𝕄) := by
  rw [← BI.bigSep_univ_prod fun t : Fin 96 × Fin 8 =>
    (iprop(∃ Y, owns (c : Thread nD τ) (rowSlice arg6 t.1.val t.2.val t.1.isLt t.2.isLt) fullShare Y) : sProp 𝕄)]
  constructor
  · refine (ownsSat_true (c : Thread nD τ) arg6 fullShare).2.trans ?_
    refine BIBase.Entails.trans (ownsSat_mono (Ψ := fun X => Fin 96 × Fin 8 → True) (c : Thread nD τ) arg6 fullShare fun _ _ _ => trivial) ?_
    refine BIBase.Entails.trans (ownsSat_rects (c : Thread nD τ) arg6 fullShare ringRect (fun _ _ => rfl) ring_disjoint ring_covered fun _ _ => True) ?_
    exact BI.bigSep_mono fun t _ => (ownsSat_true (c : Thread nD τ) _ fullShare).1
  · refine BIBase.Entails.trans (BI.bigSep_mono fun t _ => (ownsSat_true (c : Thread nD τ) _ fullShare).2) ?_
    refine BIBase.Entails.trans (ownsSat_of_rects (c : Thread nD τ) arg6 fullShare ringRect (fun _ _ => rfl) ring_disjoint ring_covered fun _ _ => True) ?_
    exact ownsSat_any (c : Thread nD τ) arg6 fullShare

/-- The whole table, dealt into a remainder and a share for each row of the ring. -/
theorem table_shares (f : Buf (Elt F) ((c : Thread nD τ).loc main_arg2)) :
    (((c : Thread nD τ).loc main_arg2) ↦{fullShare} f : sProp 𝕄)
      ⊣⊢ iprop((((c : Thread nD τ).loc main_arg2) ↦{shareDrop fullShare 768} f)
        ∗ bigSep Finset.univ fun n : Fin 96 => bigSep Finset.univ fun j : Fin 8 =>
          owns (c : Thread nD τ) (Memref.whole main_arg2) (tk n.val j.val) f) := by
  have e : (bigSep Finset.univ fun n : Fin 96 => bigSep Finset.univ fun j : Fin 8 =>
          owns (c : Thread nD τ) (Memref.whole main_arg2) (tk n.val j.val) f : sProp 𝕄)
      = bigSep Finset.univ fun i : Fin 768 => (((c : Thread nD τ).loc main_arg2) ↦{shareTok fullShare 768 i} f) := by
    rw [← BI.bigSep_univ_prod fun t : Fin 96 × Fin 8 => (owns (c : Thread nD τ) (Memref.whole main_arg2) (tk t.1.val t.2.val) f : sProp 𝕄),
      BI.bigSep_univ_equiv (finProdFinEquiv : Fin 96 × Fin 8 ≃ Fin 768)]
    refine congrArg (bigSep Finset.univ) (funext fun t => ?_)
    rw [owns_whole]
    have : tk t.1.val t.2.val = shareTok fullShare 768 (finProdFinEquiv t) := by
      unfold tk shareTok
      refine congrArg _ ?_
      simp [finProdFinEquiv]; omega
    rw [this]
  rw [e]
  exact pointsTo_toks fullShare 768

/-- The slots, free, from their rows, their shares of the table and their semaphores; and back. -/
theorem slots_eq : (bigSep Finset.univ fun n : Fin 96 => freeSlot c arg3 arg6 arg7 Tb n.val n.isLt : sProp 𝕄)
    = iprop(((bigSep Finset.univ fun n : Fin 96 => bigSep Finset.univ fun j : Fin 8 =>
          iprop(∃ Y, owns (c : Thread nD τ) (rowSlice arg6 n.val j.val n.isLt j.isLt) fullShare Y))
        ∗ bigSep Finset.univ fun n : Fin 96 => bigSep Finset.univ fun j : Fin 8 => owns (c : Thread nD τ) arg3 (tk n.val j.val) Tb)
      ∗ bigSep Finset.univ fun n : Fin 96 => semVal ((c : Thread nD τ), cell arg7 n.val n.isLt) 0) := by
  have e (n : Fin 96) : (freeSlot c arg3 arg6 arg7 Tb n.val n.isLt : sProp 𝕄)
      = iprop(((bigSep Finset.univ fun j : Fin 8 => iprop(∃ Y, owns (c : Thread nD τ) (rowSlice arg6 n.val j.val n.isLt j.isLt) fullShare Y))
        ∗ bigSep Finset.univ fun j : Fin 8 => owns (c : Thread nD τ) arg3 (tk n.val j.val) Tb)
      ∗ semVal ((c : Thread nD τ), cell arg7 n.val n.isLt) 0) := by
    unfold freeSlot
    exact congrArg (fun P => iprop(P ∗ _)) (bigSep_pair Finset.univ _ _)
  rw [show (fun n : Fin 96 => (freeSlot c arg3 arg6 arg7 Tb n.val n.isLt : sProp 𝕄)) = _ from funext e, bigSep_pair, bigSep_pair]

end Cert.KernelIdeal.Canon

end
-- ==== Proof.Ideal.Region.lean ====
/- The pipelined call: what its windows, its tables and its own buffers hold before each step. -/
module

public import proofs.«01_k».proof.Proof.Ideal.Split
public import proofs.«01_k».proof.Proof.Ideal.BodyEq
public import proofs.«01_k».proof.Proof.Gen.KernelIdeal.Launch
public import Idealize.ShloMosaic.Lib.Pipeline.FrameBody
public import Idealize.ShloMosaic.Lib.Pipeline.FrameSuffixV
public import Idealize.ShloMosaic.Lib.StableHlo.Run

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat Cfg Window BodyObligationLoose)

variable {F : FTy → Type} [FloatOps F]

local notation "𝕄" => MT nD τ sig Unit (Elt F) ℕ (Pipeline.UD sig nD τ) ℕ

variable (m : (ℓ : Loc nD τ sig) → Buf (Elt F) ℓ) (c : Dev nD)

/-- The buffers of device `c` when the call begins: the two word arrays laid flat. -/
abbrev V₀ : Valuation τ sig (Elt F) := StableHlo.after (List.flatten [hostOps0]) fun b => m (c, b)

/-- The row words. -/
def words1 : S16384.Idx → Elt F .i32 := shapeCast S16384 (m ((c : Thread nD τ).loc main_arg0) : S32x512.Idx → Elt F .i32) shapeCasts_S32x512_S16384

/-- The column words. -/
def words2 : S16384.Idx → Elt F .i32 := shapeCast S16384 (m ((c : Thread nD τ).loc main_arg1) : S32x512.Idx → Elt F .i32) shapeCasts_S32x512_S16384

/-- The table. -/
def table : S8192x8192.Idx → Elt F .f32 := m ((c : Thread nD τ).loc main_arg2)

/-- Before the call, the row words are the first argument flattened. -/
theorem V₀_words1 : V₀ m c (Proc.devRef .tc main_v0) = words1 m c := by
  simp only [V₀, hostOps0, List.flatten_cons, List.flatten_nil, List.append_nil]
  after_results
  rfl

/-- Before the call, the column words are the second argument flattened. -/
theorem V₀_words2 : V₀ m c (Proc.devRef .tc main_v1) = words2 m c := by
  simp only [V₀, hostOps0, List.flatten_cons, List.flatten_nil, List.append_nil]
  after_results
  rfl

/-- Before the call, the table is the third argument. -/
theorem V₀_table : V₀ m c (Proc.devRef .tc main_arg2) = table m c := by
  simp only [V₀, hostOps0, List.flatten_cons, List.flatten_nil, List.append_nil]
  after_results
  rfl

/-- The row words, as the body refers to them. -/
abbrev M1 : Memref sig .tc .smem S16384 .i32 := Memref.whole main_v0
/-- The column words. -/
abbrev M2 : Memref sig .tc .smem S16384 .i32 := Memref.whole main_v1
/-- The table. -/
abbrev M3 : Memref sig .tc .hbm S8192x8192 .f32 := Memref.whole main_arg2
/-- The ring of tiles. -/
abbrev M6 : Memref sig .tc .vmem S96x8x8192 .f32 := Memref.whole cc0_scratch0
/-- The first accumulator. -/
abbrev M8 : Memref sig .tc .vmem S8x32 .f32 := Memref.whole cc0_scratch2
/-- The second accumulator. -/
abbrev M9 : Memref sig .tc .vmem S8x128 .f32 := Memref.whole cc0_scratch3

/-- What the two word tables hold when the call begins. -/
def tabs : (p : Fin 1) → (pcfgs (F := F) p).Adm := fun _ => ⟨fun k => V₀ m 0 (Proc.devRef .tc (pre0.ref k)), trivial⟩

/-- The call at these tables. -/
abbrev call : Cfg sig Λ₀ := Pipeline.pin (pcfgs (F := F)) (tabs m) 0

variable (hW : ∀ c, InRange (F := F) (words1 m c))

/-- What the kernel holds of its own before step `p`. -/
def inv (p : Nat) : sProp 𝕄 :=
  iprop(owns (c : Thread nD τ) M1 fullShare.right (words1 m c) ∗ owns (c : Thread nD τ) M2 fullShare.right (words2 m c)
    ∗ ringSt c M3 M6 cc0_scratch1 (words1 m c) (table m c) (hW c) p
    ∗ accSt c M8 M9 (words1 m c) (words2 m c) (table m c) p
    ∗ (((c : Thread nD τ).loc main_arg2) ↦{shareDrop fullShare 768} table m c))

/-- The proof data of the call: its arrays as the launch leaves them, each step's block, and the kernel's own buffers. -/
def dats (p : Fin 1) (c : Dev nD) : Dat τ (Elt F) Unit ℕ (Pipeline.UD sig nD τ) ℕ (Pipeline.pin (pcfgs (F := F)) (tabs m) p) c where
  A w := V₀ m c (Proc.devRef .tc (Pipeline.arrRef spec0 w))
  after w t := match w with
    | ⟨0, _⟩ => outVal (words1 m c) (table m c) t.val
    | ⟨1, _⟩ => lossVal (words1 m c) (words2 m c) (table m c)
  Φ t := inv m c hW t.val
  q _ := fullShare
  owed _ := 0

/-- A point of the grid is its number. -/
theorem coords_eq (t : Fin grid0.N) : grid0.coords t = pt ⟨t.val, t.isLt.trans_eq N_0⟩ := by
  revert t; decide +kernel

/-- The loss is stored at the last step alone. -/
theorem storesLoss (n : Fin 64) : (k0_cond34 (pt n) == 1#1) = decide (n.val = 63) := by
  revert n; decide +kernel

/-- The loss window idles at every step but the last. -/
theorem idle_loss (t : Fin (call m).N) : (call m).idle 1 ((call m).grid.coords t) = !decide (t.val = 63) := by
  show (!(k0_cond34 (grid0.coords t) == 1#1)) = _
  rw [coords_eq, storesLoss]

/-- The loss window is not copied out before the last step. -/
theorem flush_loss (t : Fin (call m).N) (h : ¬t.val = 63) : ((call m).win 1).flush t = false := by
  have hN : grid0.N = 64 := N_0
  unfold Window.flush
  refine Bool.and_eq_false_iff.mpr (.inr (Bool.or_eq_false_iff.mpr ⟨decide_eq_false ?_, decide_eq_false ?_⟩))
  · show ¬t.val + 1 = grid0.N
    omega
  · rintro ⟨h, hne⟩
    exact hne rfl

/-- A staging buffer of the row window, and the loss window's. -/
abbrev st0 (t : Fin (call m).N) : Memref sig .tc .vmem S256x8192 .f32 := ((call m).win 0).stage ((call m).slots t 0)
/-- The loss window's staging buffer at a step. -/
abbrev st1 (t : Fin (call m).N) : Memref sig .tc .vmem S1x1 .f32 := ((call m).win 1).stage ((call m).slots t 1)

/-- A step's body, on the operands the call gives it. -/
theorem row_eq (t : Fin (call m).N) : defs₀ (F := F) .tc (call m).body ((call m).bodyArgs t ((call m).slots t))
    = body M1 M2 M3 (st0 m t) (st1 m t) M6 cc0_scratch1 M8 M9 ⟨t.val, t.isLt.trans_eq N_0⟩ := by
  unfold defs₀
  rw [Defs.onTc_tc]
  show cc0__ce_kernel (grid0.coords t) _ _ _ _ _ _ _ _ _ _ _ _ _ _ _ _ _ = _
  rw [coords_eq]
  exact kernel_eq _ _ _ _ _ _ _ _ _ _ _ _ _ _ _ _ _ _

/-- A step of the call: the invariant carried on, the block of rows stored, the loss at the last step. -/
theorem step_run (t : Fin (call m).N) (L : FVec F S1x1 .f32) :
    iprop((dats m hW 0 c).Φ t.castSucc ∗ (dats m hW 0 c).owesAt () t.castSucc
        ∗ (∃ X, owns (c : Thread nD τ) (st0 m t) fullShare X) ∗ owns (c : Thread nD τ) (st1 m t) fullShare L)
      ⊢ Wp c (body M1 M2 M3 (st0 m t) (st1 m t) M6 cc0_scratch1 M8 M9 ⟨t.val, t.isLt.trans_eq N_0⟩) fun _ =>
        iprop((dats m hW 0 c).Φ t.succ ∗ (dats m hW 0 c).owesAt () t.succ
          ∗ owns (c : Thread nD τ) (st0 m t) fullShare (outVal (words1 m c) (table m c) t.val)
          ∗ owns (c : Thread nD τ) (st1 m t) fullShare (if t.val = 63 then lossOf (acc8 (words1 m c) (words2 m c) (table m c) (t.val + 1))
              (acc9 (words1 m c) (words2 m c) (table m c) (t.val + 1)) else L)) := by
  rw [show (dats m hW 0 c).Φ t.castSucc = inv m c hW t.val from rfl, show (dats m hW 0 c).Φ t.succ = inv m c hW (t.val + 1) from rfl]
  unfold Dat.owesAt Pipeline.owesWithin
  rw [show (dats m hW 0 c).owed t.castSucc = 0 from rfl, show (dats m hW 0 c).owed t.succ = 0 from rfl]
  unfold inv
  iintro ⟨⟨H1, H2, Hr, Ha, Ht⟩, ⟨%W, -, HW⟩, H4, H5⟩
  iapply (wp_body c M1 M2 M3 (st0 m t) (st1 m t) M6 cc0_scratch1 M8 M9 (words1 m c) (words2 m c) (table m c) (hW c)
    fullShare.right fullShare.right ⟨t.val, t.isLt.trans_eq N_0⟩ L)
  isplitl [H1]; · iexact H1
  isplitl [H2]; · iexact H2
  isplitl [Hr]; · iexact Hr
  isplitl [H4]; · iexact H4
  isplitl [HW]; · unfold owesNone; iexists W; iexact HW
  isplitl [Ha]; · iexact Ha
  isplitl [H5]; · iexact H5
  unfold owesNone
  iintro H1 H2 Hr H4 ⟨%W', HW⟩ Ha H5
  isplitl [H1 H2 Hr Ha Ht]
  · isplitl [H1]; · iexact H1
    isplitl [H2]; · iexact H2
    isplitl [Hr]; · iexact Hr
    isplitl [Ha]; · iexact Ha
    iexact Ht
  isplitl [HW]
  · iexists W'; isplitr; · ipureintro; exact fun _ _ => Or.inl trivial
    iexact HW
  isplitl [H4]; · iexact H4
  iexact H5

/-- What a step starts from: the windows' buffers as the pipeline hands them over. -/
def stepPre (t : Fin (call m).N) : sProp 𝕄 :=
  iprop((dats m hW 0 c).Φ t.castSucc ∗ (dats m hW 0 c).owesAt () t.castSucc
    ∗ (∃ d, owns (c : Thread nD τ) (st0 m t) fullShare ((dats m hW 0 c).before 0 t d))
    ∗ (∃ d, owns (c : Thread nD τ) (st1 m t) fullShare ((dats m hW 0 c).before 1 t d)))

/-- What the last step leaves. -/
def lastPost (t : Fin (call m).N) : sProp 𝕄 :=
  iprop((dats m hW 0 c).Φ t.succ ∗ (dats m hW 0 c).owesAt () t.succ
    ∗ owns (c : Thread nD τ) (st0 m t) fullShare ((dats m hW 0 c).after 0 t)
    ∗ owns (c : Thread nD τ) (st1 m t) fullShare ((dats m hW 0 c).after 1 t))

/-- What any other step leaves: the loss window's buffer as it was. -/
def otherPost (t : Fin (call m).N) : sProp 𝕄 :=
  iprop((dats m hW 0 c).Φ t.succ ∗ (dats m hW 0 c).owesAt () t.succ
    ∗ owns (c : Thread nD τ) (st0 m t) fullShare ((dats m hW 0 c).after 0 t)
    ∗ (∃ d, owns (c : Thread nD τ) (st1 m t) fullShare ((dats m hW 0 c).before 1 t d)))

/-- The last step leaves the loss, whatever the loss window's buffer held. -/
theorem run_last (t : Fin (call m).N) (h : t.val = 63) (L : FVec F S1x1 .f32) :
    iprop((dats m hW 0 c).Φ t.succ ∗ (dats m hW 0 c).owesAt () t.succ
          ∗ owns (c : Thread nD τ) (st0 m t) fullShare (outVal (words1 m c) (table m c) t.val)
          ∗ owns (c : Thread nD τ) (st1 m t) fullShare (if t.val = 63 then lossOf (acc8 (words1 m c) (words2 m c) (table m c) (t.val + 1))
              (acc9 (words1 m c) (words2 m c) (table m c) (t.val + 1)) else L)) ⊢ lastPost m c hW t := by
  rw [if_pos h, show t.val + 1 = 64 by omega]
  unfold lastPost
  exact .rfl

/-- Any other step leaves the loss window's buffer alone. -/
theorem run_other (t : Fin (call m).N) (h : ¬t.val = 63) (L : FVec F S1x1 .f32) :
    iprop((dats m hW 0 c).Φ t.succ ∗ (dats m hW 0 c).owesAt () t.succ
          ∗ owns (c : Thread nD τ) (st0 m t) fullShare (outVal (words1 m c) (table m c) t.val)
          ∗ owns (c : Thread nD τ) (st1 m t) fullShare (if t.val = 63 then lossOf (acc8 (words1 m c) (words2 m c) (table m c) (t.val + 1))
              (acc9 (words1 m c) (words2 m c) (table m c) (t.val + 1)) else L))
      ⊢ iprop((dats m hW 0 c).Φ t.succ ∗ (dats m hW 0 c).owesAt () t.succ
          ∗ owns (c : Thread nD τ) (st0 m t) fullShare ((dats m hW 0 c).after 0 t)
          ∗ owns (c : Thread nD τ) (st1 m t) fullShare L) := by
  rw [if_neg h]
  exact .rfl

/-- The last step, from what the call hands it to what it hands back. -/
theorem step_last (t : Fin (call m).N) (h : t.val = 63) : stepPre m c hW t
    ⊢ Wp c (body M1 M2 M3 (st0 m t) (st1 m t) M6 cc0_scratch1 M8 M9 ⟨t.val, t.isLt.trans_eq N_0⟩) fun _ => lastPost m c hW t := by
  unfold stepPre
  iintro ⟨HΦ, Ho, ⟨%d0, H0⟩, ⟨%d1, H1⟩⟩
  iapply (triple_restated (step_run m c hW t ((dats m hW 0 c).before 1 t d1)) rfl .rfl (fun _ => run_last m c hW t h ((dats m hW 0 c).before 1 t d1)))
  isplitl [HΦ]; · iexact HΦ
  isplitl [Ho]; · iexact Ho
  isplitl [H0]; · iexists _; iexact H0
  iexact H1

/-- Any other step, from what the call hands it to what it hands back. -/
theorem step_other (t : Fin (call m).N) (h : ¬t.val = 63) : stepPre m c hW t
    ⊢ Wp c (body M1 M2 M3 (st0 m t) (st1 m t) M6 cc0_scratch1 M8 M9 ⟨t.val, t.isLt.trans_eq N_0⟩) fun _ => otherPost m c hW t := by
  unfold stepPre
  iintro ⟨HΦ, Ho, ⟨%d0, H0⟩, ⟨%d1, H1⟩⟩
  iapply (triple_restated (Q' := fun _ => otherPost m c hW t) (step_run m c hW t ((dats m hW 0 c).before 1 t d1)) rfl .rfl
    (fun _ => BIBase.Entails.trans (run_other m c hW t h ((dats m hW 0 c).before 1 t d1)) (by
      unfold otherPost
      iintro ⟨HΦ, Ho, H0, H1⟩
      isplitl [HΦ]; · iexact HΦ
      isplitl [Ho]; · iexact Ho
      isplitl [H0]; · iexact H0
      iexists d1
      iexact H1)))
  isplitl [HΦ]; · iexact HΦ
  isplitl [Ho]; · iexact Ho
  isplitl [H0]; · iexists _; iexact H0
  iexact H1

set_option backward.isDefEq.respectTransparency.types false in
/-- What the call asks of the body, at every step. -/
theorem body_obligation : BodyObligationLoose (dats m hW 0 c) (defs₀ (F := F)) Variants.none () Set.univ := fun t => by
  rw [bigSep_W0, bigSep_W0]
  by_cases h : t.val = 63
  · refine triple_restated (step_last m c hW t h) (congrArg _ (row_eq m t).symm) .rfl fun _ => ?_
    have e := idle_loss m t
    rw [decide_eq_true h] at e
    erw [e]
    exact .rfl
  · refine triple_restated (step_other m c hW t h) (congrArg _ (row_eq m t).symm) .rfl fun _ => ?_
    have e := idle_loss m t
    rw [decide_eq_false h] at e
    erw [e, flush_loss m t h]
    exact .rfl

end Cert.KernelIdeal.Canon

end
-- ==== Proof.Ideal.Run.lean ====
/- The whole program's run: the kernel's own buffers handed to the call and taken back, and what the memory holds at the end. -/
module

public import proofs.«01_k».proof.Proof.Ideal.Region

@[expose] public section

set_option maxRecDepth 16384

noncomputable section

namespace Cert.KernelIdeal.Canon

open Cert.KernelIdeal Cert.Rules
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat Cfg Window BodyObligationLoose)

variable {F : FTy → Type} [FloatOps F]

local notation "𝕄" => MT nD τ sig Unit (Elt F) ℕ (Pipeline.UD sig nD τ) ℕ

variable (m : (ℓ : Loc nD τ sig) → Buf (Elt F) ℓ) (c : Dev nD) (hW : ∀ c, InRange (F := F) (words1 m c))

/-- The kernel's own semaphores: one for each slot of the ring. -/
abbrev osem : Fin 96 → SemLoc sig := fun n => cell cc0_scratch1 n.val n.isLt

/-- The ring's semaphores are the call's own. -/
theorem ownSemFacts : Pipeline.OwnSemFacts spec0 osem := by decide +kernel

/-- The one buffer the kernel reads by itself: the table. -/
abbrev reads : Finset (Ref sig .tc) := {main_arg2}

/-- What the body reads lies outside the windows. -/
theorem reads_sub : reads ⊆ Pipeline.restRefsP sig pre0 spec0 := by decide

/-- The halves of the two word tables that the kernel reads. -/
theorem tables_eq : (Pipeline.ΦT pre0 (tabs m 0).1 c : sProp 𝕄)
    = iprop(owns (c : Thread nD τ) M1 fullShare.right (words1 m c) ∗ owns (c : Thread nD τ) M2 fullShare.right (words2 m c)) := by
  obtain rfl : c = 0 := Subsingleton.elim _ _
  rw [owns_whole, owns_whole, ← V₀_words1, ← V₀_words2]
  exact bigSep_univ_eq_bigSepL [(0 : Fin 2), (1 : Fin 2)] (by decide) (by decide) _

/-- The kernel's own buffers, its semaphores at zero and the table: what the call lends and takes back. -/
theorem lent_eq : (Pipeline.ΦDRV osem spec0 reads ∅ (fun c b => V₀ m c (Proc.devRef .tc b)) (fun c b => V₀ m c (Proc.devRef .tc b)) c : sProp 𝕄)
    = iprop(((∃ X, owns (c : Thread nD τ) M6 fullShare X) ∗ (∃ X, owns (c : Thread nD τ) M8 fullShare X) ∗ (∃ X, owns (c : Thread nD τ) M9 fullShare X))
        ∗ (bigSep Finset.univ fun n : Fin 96 => semVal ((c : Thread nD τ), cell cc0_scratch1 n.val n.isLt) 0)
        ∗ (((c : Thread nD τ).loc main_arg2) ↦{fullShare} table m c) ∗ BI.emp) := by
  unfold Pipeline.ΦDRV
  rw [scopedRest0_eq, BI.bigSep_singleton, BI.bigSep_empty, ← V₀_table m c]
  simp only [owns_whole]
  rfl

/-- What the call lends the body at its start is the invariant before the first step. -/
theorem lent_in : iprop(Pipeline.ΦDRV osem spec0 reads ∅ (fun c b => V₀ m c (Proc.devRef .tc b)) (fun c b => V₀ m c (Proc.devRef .tc b)) c
      ∗ Pipeline.ΦT pre0 (tabs m 0).1 c) ⊢ (inv m c hW 0 : sProp 𝕄) := by
  rw [lent_eq, tables_eq]
  unfold inv
  rw [show ringSt c M3 M6 cc0_scratch1 (words1 m c) (table m c) (hW c) 0 = _ from if_pos rfl, slots_eq,
    show accSt c M8 M9 (words1 m c) (words2 m c) (table m c) 0 = _ from if_pos rfl]
  iintro ⟨⟨⟨H6, H8, H9⟩, Hs, Ht, -⟩, H1, H2⟩
  ihave Ht := (table_shares c (table m c)).1 $$ Ht
  icases Ht with ⟨Hd, Ht⟩
  ihave H6 := (ring_rows c M6).1 $$ H6
  isplitl [H1]; · iexact H1
  isplitl [H2]; · iexact H2
  isplitl [H6 Ht Hs]
  · isplitl [H6 Ht]
    · isplitl [H6]; · iexact H6
      iexact Ht
    iexact Hs
  isplitl [H8 H9]
  · isplitl [H8]; · iexact H8
    iexact H9
  iexact Hd

/-- The invariant after the last step gives back what the call lent. -/
theorem lent_out : (inv m c hW 64 : sProp 𝕄)
    ⊢ Pipeline.ΦDRV osem spec0 reads ∅ (fun c b => V₀ m c (Proc.devRef .tc b)) (fun c b => V₀ m c (Proc.devRef .tc b)) c := by
  rw [lent_eq]
  unfold inv
  rw [ringSt_end, slots_eq, accSt_pos c M8 M9 _ _ _ 64 (by omega)]
  iintro ⟨-, -, ⟨⟨H6, Ht⟩, Hs⟩, ⟨H8, H9⟩, Hd⟩
  isplitl [H6 H8 H9]
  · isplitl [H6]
    · iapply (ring_rows c M6).2
      iexact H6
    isplitl [H8]
    · iexists _; iexact H8
    iexists _; iexact H9
  isplitl [Hs]; · iexact Hs
  isplitl [Hd Ht]
  · iapply (table_shares c (table m c)).2
    isplitl [Hd]; · iexact Hd
    iexact Ht
  iempintro

/-- The line after the call touches only arrays of the call and buffers that bypass it, and writes no array of the call. -/
theorem tail_sub : ({Proc.devRef .tc main_v2_1, Proc.devRef .tc main_v3} : Finset (DevRef τ sig)) ⊆ Pipeline.tailRefs sig pre0 spec0 := by
  decide

/-- The line after the call writes no window's array. -/
theorem tail_keep (w : Fin 2) : Proc.devRef .tc (Pipeline.arrRef spec0 w) ∉ ({Proc.devRef .tc main_v3} : Finset (DevRef τ sig)) := by
  revert w; decide

/-- What the program's memory holds at the end: the call's arrays, and every other buffer as the lines around the call leave it. -/
def Ends (r : PUnit × MemSt nD τ sig (Elt F)) : Prop :=
  (∀ c : Dev nD, (∀ w, r.2.mem ((spec0 w).arr.view.loc (c.tc : Thread nD τ)) = (dats m hW 0 c).arrAt w (call m).N)
    ∧ ∀ b ∈ Pipeline.restRefsP sig pre0 spec0, r.2.mem ((c.tc : Thread nD τ).loc b)
      = StableHlo.after (List.flatten [hostOps1]) (Pipeline.withArrays spec0 c (V₀ m c) fun w => (dats m hW 0 c).arrAt w (call m).N) (Proc.devRef .tc b))
  ∧ r.2.sem = fun _ => 0

set_option backward.isDefEq.respectTransparency.types false in
/-- The program runs to the end described. -/
theorem runs (g : Dev nD → PrngReg) : θ_run (defs (F := F)) (onTc (τ := τ) (main (F := F))) ⟨m, fun _ => 0, g⟩ (Ends m hW) := by
  refine Pipeline.θ_run_frameP_dmaR_aroundV pcfgs (tabs m) (dats m hW) 0 launch0 osem defs₀ Variants.none ownSemFacts reads ∅
    reads_sub (Finset.empty_subset _) m g main (fun c => body_obligation m c hW) (fun c w => by unfold Dat.share; split <;> rfl) (fun _ _ => rfl) (fun c => V₀ m c) [hostOps1]
    ?_ ?_ ?_ (fun c b => V₀ m c (Proc.devRef .tc b)) ?_ (fun _ _ => rfl) ?_ (fun c => lent_in m c hW) (fun c => lent_out m c hW) (Q' := Ends m hW) ?_
  · simp only [List.mem_singleton, forall_eq]
    exact tail_sub
  · simp only [List.mem_singleton, forall_eq]
    rfl
  · simp only [List.mem_singleton, forall_eq]
    exact tail_keep
  · exact Pipeline.hmainP_around pcfgs 0 defs₀ Variants.none m main [hostOps0] [hostOps1] hostOps0_sub ⟨rfl, rfl⟩ fun c => (main_chain c).trans rfl
  · intro c k
    obtain rfl : c = 0 := Subsingleton.elim _ _
    rfl
  · intro r h
    exact ⟨fun c => ⟨(h.1 c).1, fun b hb => ((h.1 c).2 b hb)⟩, h.2⟩

end Cert.KernelIdeal.Canon

end
-- ==== Proof.Ideal.Ends.lean ====
/- The end of the run: the three arguments as they were, the first result the row window's array, the second the loss window's one element. -/
module

public import proofs.«01_k».proof.Proof.Ideal.Run

@[expose] public section

set_option maxRecDepth 16384

noncomputable section

namespace Cert.KernelIdeal.Canon

open Cert.KernelIdeal Cert.Rules
open Idealize.ShloMosaic Idealize.ShloMosaic.TcCoe
open Idealize.SL.Sem
open Cert.KernelIdeal.Gen

variable {F : FTy → Type} [FloatOps F]

variable (m : (ℓ : Loc nD τ sig) → Buf (Elt F) ℓ) (c : Dev nD) (hW : ∀ c, InRange (F := F) (words1 m c))

/-- The line after the call writes its result and nothing else. -/
theorem after_tail (V : Valuation τ sig (Elt F)) (b : Ref sig .tc) (hb : b ≠ main_v3) :
    StableHlo.after (List.flatten [hostOps1]) V (Proc.devRef .tc b) = V (Proc.devRef .tc b) := by
  simp only [hostOps1, List.flatten_cons, List.flatten_nil, List.append_nil, StableHlo.after_cons, StableHlo.after_nil]
  exact StableHlo.reshape_result_ne _ _ _ _ _ _ _ hb

/-- An argument array ends as it was. -/
theorem arg_kept {r : PUnit × MemSt nD τ sig (Elt F)} (h : Ends m hW r) (b : Ref sig .tc) (hb : b ∈ Pipeline.restRefsP sig pre0 spec0)
    (h3 : b ≠ main_v3) (hw : ∀ w, Pipeline.arrRef spec0 w ≠ b) (h0 : b ≠ main_v0) (h1 : b ≠ main_v1) :
    r.2.mem ((c.tc : Thread nD τ).loc b) = m ((c.tc : Thread nD τ).loc b) := by
  rw [(h.1 c).2 b hb, after_tail _ b h3, Pipeline.withArrays_of_ne _ _ _ _ _ hw]
  simp only [V₀, hostOps0, List.flatten_cons, List.flatten_nil, List.append_nil, StableHlo.after_cons, StableHlo.after_nil]
  rw [StableHlo.reshape_result_ne _ _ _ _ _ _ _ h1, StableHlo.reshape_result_ne _ _ _ _ _ _ _ h0]

/-- The three arguments end as they were. -/
theorem args_kept {r : PUnit × MemSt nD τ sig (Elt F)} (h : Ends m hW r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨arg_kept m c hW h main_arg0 (by decide) (by decide) (by decide) (by decide) (by decide),
    arg_kept m c hW h main_arg1 (by decide) (by decide) (by decide) (by decide) (by decide),
    arg_kept m c hW h main_arg2 (by decide) (by decide) (by decide) (by decide) (by decide)⟩

/-- The second result is the loss window's array, with its two unit axes dropped. -/
theorem loss_end {r : PUnit × MemSt nD τ sig (Elt F)} (h : Ends m hW r) :
    r.2.mem ((c.tc : Thread nD τ).loc main_v3)
      = shapeCast S_ ((dats m hW 0 c).arrAt 1 (call m).N : S1x1.Idx → Elt F .f32) shapeCasts_S1x1_S_ := by
  rw [(h.1 c).2 main_v3 (by decide)]
  simp only [hostOps1, List.flatten_cons, List.flatten_nil, List.append_nil, StableHlo.after_cons, StableHlo.after_nil]
  rw [StableHlo.reshape_result]
  exact congrArg (fun f => shapeCast S_ f shapeCasts_S1x1_S_) (Pipeline.withArrays_arr spec0 winFacts0.arr_inj c (V₀ m c) _ 1)

/-- The words are in range when the first argument's are. -/
theorem inRange_words (h : ∀ (c : Dev nD) i, ((m ((c : Thread nD τ).loc main_arg0) : S32x512.Idx → Elt F .i32) i).toNat < 8192) :
    ∀ c, InRange (F := F) (words1 m c) := fun c n => h c _

/-- The program runs, its arguments end unchanged, and every semaphore ends at zero. -/
theorem frame (g : Dev nD → PrngReg) (h : ∀ (c : Dev nD) i, ((m ((c : Thread nD τ).loc main_arg0) : S32x512.Idx → Elt F .i32) i).toNat < 8192) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun _ e => ⟨fun c => args_kept m c (inRange_words m h) e, e.2⟩) (runs m (inRange_words m h) g)

end Cert.KernelIdeal.Canon

end
-- ==== Proof.Bits.Frame.lean ====
/- The frame of the kernel over machine numbers: its program is, definition by definition, the text of its idealization
   at another reading of the floats, so the frame proved of that text for every reading is the kernel's. -/
module

public import proofs.«01_k».proof.Proof.Bits.Same
public import proofs.«01_k».proof.Proof.Ideal.Ends

@[expose] public section

set_option maxRecDepth 16384

noncomputable section

namespace Cert.Bits

open Idealize.ShloMosaic Idealize.SL.Sem Idealize.ShloMosaic.TcCoe
open Cert.KernelIdeal Cert.KernelIdeal.Canon

variable {F : FTy → Type} [FloatOps F]

set_option backward.isDefEq.respectTransparency.types false in
/-- The two programs' body tables are one. -/
theorem table_eq : (Cert.Kernel.defs₀ (F := F) : Defs nD τ sig (Elt F) Λ₀) = Cert.KernelIdeal.defs₀ (F := F) := by
  unfold Cert.Kernel.defs₀ Cert.KernelIdeal.defs₀
  refine congrArg Defs.onTc ?_
  funext ℓ a
  match ℓ, a with
  | ⟨0, _⟩, (t, s) =>
    show Cert.Kernel.cc0__ce_kernel (F := F) (grid0.coords t) _ _ _ _ _ _ _ _ _ _ _ _ _ _ _ _ _
      = Cert.KernelIdeal.cc0__ce_kernel (F := F) (grid0.coords t) _ _ _ _ _ _ _ _ _ _ _ _ _ _ _ _ _
    rw [coords_eq t]
    exact (Cert.Bits.kernel_eq _ _ _ _ _ _ _ _ _ _ _ _ _ _ _ _ _ _).trans
      (Cert.KernelIdeal.Canon.kernel_eq _ _ _ _ _ _ _ _ _ _ _ _ _ _ _ _ _ _).symm

set_option backward.isDefEq.respectTransparency.types false in
/-- The two programs' tables of calls are one. -/
theorem defs_eq : (Cert.Kernel.defs (F := F) : Defs nD τ sig (Elt F) _) = Cert.KernelIdeal.defs (F := F) :=
  congrArg (Pipeline.defs (Cert.KernelIdeal.pcfgs (F := F))) table_eq

set_option backward.isDefEq.respectTransparency.types false in
/-- The two programs' host lines are one. -/
theorem main_eq : (Cert.Kernel.main (F := F)) = Cert.KernelIdeal.main (F := F) := rfl

set_option backward.isDefEq.respectTransparency.types false in
/-- The kernel runs, its arguments end unchanged, and every semaphore ends at zero. -/
theorem frame (m : (ℓ : Loc Cert.Kernel.nD Cert.Kernel.τ Cert.Kernel.sig) → Buf (Elt F) ℓ) (g : Dev Cert.Kernel.nD → PrngReg)
    (h : ∀ (c : Dev Cert.Kernel.nD) i, ((m ((c : Thread Cert.Kernel.nD Cert.Kernel.τ).loc Cert.Kernel.main_arg0) : S32x512.Idx → Elt F .i32) i).toNat < 8192) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  have e := Cert.KernelIdeal.Canon.frame (F := F) m g h
  rw [← defs_eq] at e
  exact e

end Cert.Bits

end
-- ==== Proof.Ref.lean ====
/- The reference's run: it ends with its arguments unchanged. -/
module

public import proofs.«01_k».proof.Proof.Gen.ReferenceIdeal.Run
public import Idealize.ShloMosaic.Lib.Quiescent
public import Idealize.ShloMosaic.PureOps.Ideal

@[expose] public section

set_option maxRecDepth 16384

noncomputable section

namespace Cert.ReferenceIdeal.Hand

open Cert.ReferenceIdeal
open Idealize.ShloMosaic Idealize.ShloMosaic.TcCoe
open Idealize.SL.Sem

/-- The reference runs, its arguments end unchanged, and every semaphore ends at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems rfl r.2⟩) (Value.run m g)

end Cert.ReferenceIdeal.Hand

end
-- ==== Proof.Ideal.TileSums.lean ====
/- A tile's summaries over the extended reals: the sum of a row's exponentials, and the lanes' share of the picked entry. -/
module

public import proofs.«01_k».proof.Proof.Ideal.Ends
public import Idealize.ShloMosaic.PureOps.Ideal
public import Idealize.ShloMosaic.Lib.Pointwise
public import Idealize.ShloMosaic.Lib.Pipeline.ValueKit

@[expose] public section

set_option maxRecDepth 16384

noncomputable section

namespace Cert.KernelIdeal.Sums

open Cert.KernelIdeal Cert.KernelIdeal.Gen Cert.KernelIdeal.Canon
open Idealize.ShloMosaic

/-- Twice as many terms, summed in pairs half the way apart. -/
theorem halve (n : Nat) (x : Fin (n + n) → EReal) :
    ∑ l : Fin n, (x (Fin.castAdd n l) + x (Fin.natAdd n l)) = ∑ k : Fin (n + n), x k := by
  rw [Fin.sum_univ_add, Finset.sum_add_distrib]

/-- One level of the halving tree keeps each row's sum. -/
theorem halve_row (n N : Nat) (hN : N = n + n) (x : FVec Ideal ⟨2, ![8, N]⟩ .f32)
    (h0 : Shape.Slices ⟨2, ![8, N]⟩ ![0, 0] ⟨2, ![8, n]⟩) (h1 : Shape.Slices ⟨2, ![8, N]⟩ ![0, n] ⟨2, ![8, n]⟩) (r : Fin 8) :
    ∑ l : Fin n, (addf (extractStridedSlice ⟨2, ![8, n]⟩ ![0, 0] x h0) (extractStridedSlice ⟨2, ![8, n]⟩ ![0, n] x h1) (ix2 r l) : EReal)
      = ∑ k : Fin N, (x (ix2 r k) : EReal) := by
  subst hN
  rw [← halve n fun k => x (ix2 r k)]
  refine Finset.sum_congr rfl fun l _ => ?_
  refine congrArg₂ (fun a b : EReal => a + b) (congrArg x (funext fun a => Fin.ext ?_)) (congrArg x (funext fun a => Fin.ext ?_))
  · match a with
    | ⟨0, _⟩ => exact Nat.zero_add _
    | ⟨1, _⟩ => exact Nat.zero_add _
  · match a with
    | ⟨0, _⟩ => exact Nat.zero_add _
    | ⟨1, _⟩ => rfl

/-- The halving tree keeps each row's sum. -/
theorem laneTree_sum (x : FVec Ideal S8x8192 .f32) (r : Fin 8) :
    ∑ l : Fin 128, (laneTree x (ix2 r l) : EReal) = ∑ k : Fin 8192, (x (ix2 r k) : EReal) := by
  unfold laneTree
  exact (halve_row 128 256 rfl _ _ _ r).trans <| (halve_row 256 512 rfl _ _ _ r).trans <|
    (halve_row 512 1024 rfl _ _ _ r).trans <| (halve_row 1024 2048 rfl _ _ _ r).trans <|
    (halve_row 2048 4096 rfl _ _ _ r).trans <| halve_row 4096 8192 rfl _ _ _ r

/-- A tile's sum of exponentials, row by row. -/
theorem expSum_apply (x : FVec Ideal S8x8192 .f32) (r : Fin 8) (z : Fin 1) :
    (expSum x (ix2 r z) : EReal) = ∑ k : Fin 8192, Ideal.exp (x (ix2 r k)) := by
  pointwise [expSum]
  exact laneTree_sum (exp x) r

/-- A choice by the equality of two words. -/
theorem select_cmpi {α : Type} (x y : BitVec 32) (a b : α) :
    Scalar.select (IntOp.cmpi .eq x y) a b = if x = y then a else b := by
  unfold Scalar.select
  exact if_congr IntOp.cmpi_eq rfl rfl

/-- One row of a column overwritten. -/
theorem putRow_apply (j : Nat) (hj : j < 8) (w : BitVec 32) (tv : IVec S8x1 32) (r : Fin 8) (z : Fin 1) :
    putRow j w tv (ix2 r z) = if r.val = j then w else tv (ix2 r z) := by
  pointwise [putRow]
  have e : (BitVec.ofNat 32 r.val = BitVec.ofNat 32 j) ↔ r.val = j := by
    refine ⟨fun h => ?_, fun h => congrArg _ h⟩
    have h' := congrArg BitVec.toNat h
    have hr := r.isLt
    simp only [BitVec.toNat_ofNat] at h'
    omega
  by_cases h : r.val = j
  · rw [if_pos h, select_cmpi, if_pos (e.mpr h)]
  · rw [if_neg h, select_cmpi, if_neg fun q => h (e.mp q)]

/-- The column after `k` of the eight reads: the rows below `k` hold their words. -/
theorem tcol_apply (W2 : S16384.Idx → BitVec 32) (m : Nat) (r : Fin 8) (z : Fin 1) :
    ∀ k, k ≤ 8 → tcol (F := Ideal) W2 m k (ix2 r z) = if r.val < k then wd (F := Ideal) W2 (m + r.val) else 0#32
  | 0, _ => rfl
  | k + 1, hk => by
    rw [tcol, putRow_apply k (by omega), tcol_apply W2 m r z k (by omega)]
    by_cases h : r.val = k
    · rw [if_pos h, if_pos (by omega), h]
    · rw [if_neg h]
      exact if_congr (by omega) rfl rfl

/-- The lanes' share of the picked entry, added up, is the entry at the target lane. -/
theorem picked_sum (tv : IVec S8x1 32) (x : FVec Ideal S8x8192 .f32) (r : Fin 8) (h : (tv (ix2 r 0)).toNat < 8192) :
    ∑ l : Fin 128, (picked tv x (ix2 r l) : EReal) = x (ix2 r (rowOf (tv (ix2 r 0)))) := by
  unfold picked
  rw [laneTree_sum, Finset.sum_eq_single (rowOf (tv (ix2 r 0)))]
  · pointwise
    have e : BitVec.ofNat 32 (rowOf (tv (ix2 r 0))).val = tv (ix2 r 0) := by
      refine (congrArg (BitVec.ofNat 32) (Nat.mod_eq_of_lt h)).trans ?_
      rw [BitVec.ofNat_toNat, BitVec.setWidth_eq]
    rw [e, select_cmpi, if_pos rfl]
  · intro k _ hk
    pointwise
    rw [select_cmpi]
    refine if_neg fun q => hk ?_
    have q' := congrArg BitVec.toNat q
    have hk' := k.isLt
    rw [BitVec.toNat_ofNat, Nat.mod_eq_of_lt (by omega)] at q'
    refine Fin.ext (((Nat.mod_eq_of_lt hk').symm.trans ?_))
    exact congrArg (· % 8192) q'
  · exact fun h => absurd (Finset.mem_univ _) h

/-- A column of the tiles' sums, where the index names the tile and the row. -/
theorem column_eq (s : Nat → FVec Ideal S8x1 .f32) (r : Fin 8) (t : Fin 32) (i : S8x1.Idx) (n : Nat) (h : t.val = n)
    (h0 : (i 0).val = r.val) (h1 : (i 1).val = 0) : s n i = s t.val (ix2 r 0) := by
  subst h
  refine congrArg (s t.val) (funext fun a => Fin.ext ?_)
  match a with
  | ⟨0, _⟩ => exact h0
  | ⟨1, _⟩ => exact h1

/-- The tiles' sums side by side: row and tile. -/
theorem sums_apply (s : Nat → FVec Ideal S8x1 .f32) (r : Fin 8) (t : Fin 32) :
    sums s (ix2 r t) = s t.val (ix2 r 0) := by
  unfold sums
  concat_tiles i h
  all_goals exact column_eq s r t i _ h h0 h1

/-- The loss, from the two accumulators. -/
theorem lossOf_apply (a : FVec Ideal S8x32 .f32) (b : FVec Ideal S8x128 .f32) (i : S1x1.Idx) :
    (lossOf a b i : EReal) = Ideal.div ((∑ r : Fin 8, ∑ t : Fin 32, a (ix2 r t)) - ∑ r : Fin 8, ∑ l : Fin 128, b (ix2 r l)) (Ideal.ofBits .f32 0x46800000#32) := by
  pointwise [lossOf]

end Cert.KernelIdeal.Sums

end
-- ==== Proof.Ideal.LossSum.lean ====
/- The loss over the extended reals, as totals over the rows. -/
module

public import proofs.«01_k».proof.Proof.Ideal.TileSums
public import Idealize.ShloMosaic.PureOps.Ideal
public import Idealize.ShloMosaic.Lib.Pointwise
public import Idealize.ShloMosaic.Lib.Pipeline.ValueKit

@[expose] public section

set_option maxRecDepth 16384

noncomputable section

namespace Cert.KernelIdeal.Sums

open Cert.KernelIdeal Cert.KernelIdeal.Gen Cert.KernelIdeal.Canon
open Idealize.ShloMosaic
open Finset (range)

/-- The 16384 rows, counted by row of a tile, tile and step. -/
theorem regroup (f : Nat → EReal) :
    ∑ r : Fin 8, ∑ t : Fin 32, ∑ j ∈ range 64, f (j * 256 + 8 * t.val + r.val) = ∑ p : Fin 16384, f p.val := by
  calc
    _ = ∑ r : Fin 8, ∑ t ∈ range 32, ∑ j ∈ range 64, f (j * 256 + 8 * t + r.val) :=
      Finset.sum_congr rfl fun r _ => Fin.sum_univ_eq_sum_range (fun t => ∑ j ∈ range 64, f (j * 256 + 8 * t + r.val)) 32
    _ = ∑ r ∈ range 8, ∑ t ∈ range 32, ∑ j ∈ range 64, f (j * 256 + 8 * t + r) :=
      Fin.sum_univ_eq_sum_range (fun r => ∑ t ∈ range 32, ∑ j ∈ range 64, f (j * 256 + 8 * t + r)) 8
    _ = ∑ t ∈ range 32, ∑ r ∈ range 8, ∑ j ∈ range 64, f (j * 256 + 8 * t + r) := Finset.sum_comm
    _ = ∑ t ∈ range 32, ∑ j ∈ range 64, ∑ r ∈ range 8, f (j * 256 + 8 * t + r) :=
      Finset.sum_congr rfl fun t _ => Finset.sum_comm
    _ = ∑ j ∈ range 64, ∑ t ∈ range 32, ∑ r ∈ range 8, f (j * 256 + 8 * t + r) := Finset.sum_comm
    _ = ∑ j ∈ range 64, ∑ q ∈ range (32 * 8), f (j * 256 + q) :=
      Finset.sum_congr rfl fun j _ => by
        rw [← Finset.sum_range_range_mul_add 32 8 fun q => f (j * 256 + q)]
        refine Finset.sum_congr rfl fun t _ => Finset.sum_congr rfl fun r _ => congrArg f ?_
        omega
    _ = ∑ p ∈ range (64 * 256), f p := Finset.sum_range_range_mul_add 64 256 f
    _ = ∑ p : Fin 16384, f p.val := (Fin.sum_univ_eq_sum_range f 16384).symm

section Sums

variable (W1 W2 : S16384.Idx → BitVec 32) (Tb : S8192x8192.Idx → EReal)

/-- The logarithm of the sum of the exponentials of row `p`'s entries. -/
def logz (p : Nat) : EReal :=
  Ideal.log (∑ k : Fin 8192, Ideal.exp (Tb (ix2 (rowOf (wd (F := Ideal) W1 p)) k)))

/-- Row `p`'s entry at its target. -/
def pick (p : Nat) : EReal := Tb (ix2 (rowOf (wd (F := Ideal) W1 p)) (rowOf (wd (F := Ideal) W2 p)))

/-- Adding up the tiles' picks adds them entry by entry. -/
theorem pickTree_apply (p : Nat → FVec Ideal S8x128 .f32) (i : S8x128.Idx) :
    ∀ k, (pickTree p k i : EReal) = ∑ s ∈ range (k + 1), (p s i : EReal)
  | 0 => (Finset.sum_range_one fun s => (p s i : EReal)).symm
  | k + 1 => by
    rw [Finset.sum_range_succ, ← pickTree_apply p i k]
    rfl

/-- A tile's sum of exponentials, row by row. -/
theorem tileP_fst (m : Nat) (r : Fin 8) (z : Fin 1) :
    ((tileP (F := Ideal) W1 W2 Tb m).1 (ix2 r z) : EReal)
      = ∑ k : Fin 8192, Ideal.exp (Tb (ix2 (rowOf (wd (F := Ideal) W1 (m + r.val))) k)) := by
  refine (expSum_apply (tileX (F := Ideal) W1 Tb m) r z).trans ?_
  exact Finset.sum_congr rfl fun k _ => congrArg Ideal.exp (tileX_apply (F := Ideal) W1 Tb m (ix2 r k))

/-- A tile's picks, row by row. -/
theorem tileP_snd (h2 : InRange (F := Ideal) W2) (m : Nat) (r : Fin 8) :
    ∑ l : Fin 128, ((tileP (F := Ideal) W1 W2 Tb m).2 (ix2 r l) : EReal) = pick W1 W2 Tb (m + r.val) := by
  have e : tcol (F := Ideal) W2 m 8 (ix2 r 0) = wd (F := Ideal) W2 (m + r.val) := by
    rw [tcol_apply W2 m r 0 8 le_rfl, if_pos r.isLt]
  refine (picked_sum (tcol (F := Ideal) W2 m 8) (tileX (F := Ideal) W1 Tb m) r (e ▸ h2 _)).trans ?_
  rw [e]
  exact tileX_apply (F := Ideal) W1 Tb m (ix2 r (rowOf (wd (F := Ideal) W2 (m + r.val))))

/-- The first accumulator, entry by entry. -/
theorem acc8_apply (r : Fin 8) (t : Fin 32) :
    ∀ n, (acc8 (F := Ideal) W1 W2 Tb n (ix2 r t) : EReal) = ∑ j ∈ range n, logz W1 Tb (j * 256 + 8 * t.val + r.val)
  | 0 => by
    rw [Finset.sum_range_zero]
    unfold acc8
    pointwise
  | n + 1 => by
    rw [Finset.sum_range_succ, ← acc8_apply r t n]
    refine congrArg (fun a : EReal => acc8 (F := Ideal) W1 W2 Tb n (ix2 r t) + a) ?_
    refine congrArg Ideal.log ?_
    exact (sums_apply _ r t).trans (tileP_fst W1 W2 Tb (n * 256 + 8 * t.val) r 0)

/-- The second accumulator, a row's lanes added up. -/
theorem acc9_sum (h2 : InRange (F := Ideal) W2) (r : Fin 8) :
    ∀ n, ∑ l : Fin 128, (acc9 (F := Ideal) W1 W2 Tb n (ix2 r l) : EReal)
      = ∑ j ∈ range n, ∑ t : Fin 32, pick W1 W2 Tb (j * 256 + 8 * t.val + r.val)
  | 0 => by
    rw [Finset.sum_range_zero]
    refine Finset.sum_eq_zero fun l _ => ?_
    unfold acc9
    pointwise
  | n + 1 => by
    rw [Finset.sum_range_succ, ← acc9_sum h2 r n]
    refine (Finset.sum_add_distrib (s := Finset.univ) (f := fun l : Fin 128 => (acc9 (F := Ideal) W1 W2 Tb n (ix2 r l) : EReal))
      (g := fun l => (pickTree (fun s => (tileP (F := Ideal) W1 W2 Tb (n * 256 + 8 * s)).2) 31 (ix2 r l) : EReal))).trans ?_
    refine congrArg (fun a : EReal => (∑ l : Fin 128, (acc9 (F := Ideal) W1 W2 Tb n (ix2 r l) : EReal)) + a) ?_
    refine (Finset.sum_congr rfl fun l _ => pickTree_apply _ (ix2 r l) 31).trans (Finset.sum_comm.trans ?_)
    refine (Finset.sum_congr rfl fun s _ => tileP_snd W1 W2 Tb h2 (n * 256 + 8 * s) r).trans ?_
    exact (Fin.sum_univ_eq_sum_range (fun s => pick W1 W2 Tb (n * 256 + 8 * s + r.val)) 32).symm

/-- The loss the kernel leaves: the mean, as the difference of the two totals. -/
theorem lossVal_eq (h2 : InRange (F := Ideal) W2) (i : S1x1.Idx) :
    (lossVal (F := Ideal) W1 W2 Tb i : EReal)
      = Ideal.div ((∑ p : Fin 16384, logz W1 Tb p.val) - ∑ p : Fin 16384, pick W1 W2 Tb p.val) (Ideal.ofBits .f32 0x46800000#32) := by
  unfold lossVal
  rw [lossOf_apply]
  refine congrArg₂ (fun a b : EReal => Ideal.div (a - b) (Ideal.ofBits .f32 0x46800000#32)) ?_ ?_
  · refine Eq.trans ?_ (regroup (logz W1 Tb))
    exact Finset.sum_congr rfl fun r _ => Finset.sum_congr rfl fun t _ => acc8_apply W1 W2 Tb r t 64
  · refine Eq.trans ?_ (regroup (pick W1 W2 Tb))
    exact Finset.sum_congr rfl fun r _ => (acc9_sum W1 W2 Tb h2 r 64).trans Finset.sum_comm

end Sums

end Cert.KernelIdeal.Sums

end
-- ==== Proof.Ref.Take.lean ====
/- The reference's rows: where every index names a row of the table, the take reads that row. -/
module

public import proofs.«01_k».proof.Proof.Ref
public import proofs.«01_k».proof.Proof.Ideal.LossSum
public import Idealize.ShloMosaic.PureOps.Ideal
public import Idealize.ShloMosaic.Lib.Pointwise
public import Idealize.ShloMosaic.Lib.ReduceAll

@[expose] public section

set_option maxRecDepth 16384

noncomputable section

namespace Cert.ReferenceIdeal.Hand

open Cert.ReferenceIdeal Cert.ReferenceIdeal.Gen
open Idealize.ShloMosaic

/-- An index counted from the end where it is negative. -/
def wrapRow (a : IVec S32x512 32) : IVec S32x512x1 32 :=
  broadcastInDim S32x512x1 ![0, 1] bcast_S32x512_S32x512x1_0_1
    (select (cmpi .slt a (broadcastInDim S32x512 ![] bcast_S_S32x512 (constantI S_ 32 0#32)))
      (addi a (broadcastInDim S32x512 ![] bcast_S_S32x512 (constantI S_ 32 8192#32))) a)

/-- Whether an index names a row. -/
def okRow (w : IVec S32x512x1 32) : IVec S32x512 1 :=
  Host.reduce IntOp.andi
    (andi (cmpi .sge w (broadcastInDim S32x512x1 ![] bcast_S_S32x512x1 (constantI S_ 32 0#32)))
      (cmpi .sle w (broadcastInDim S32x512x1 ![0, 1, 2] bcast_S1x1x1_S32x512x1_0_1_2
        (broadcastInDim S1x1x1 ![2] bcast_S1_S1x1x1_2 (constantI S1 32 8191#32)))))
    (constantI S_ 1 1#1) reducesTo_S32x512x1_S32x512_d2 h_S_

/-- The rows taken. -/
def rows (a : IVec S32x512 32) (Tb : FVec Ideal S8192x8192 .f32) : FVec Ideal S16384x8192 .f32 :=
  shapeCast _ (select (broadcastInDim S32x512x8192 ![0, 1] bcast_S32x512_S32x512x8192_0_1 (okRow (wrapRow a)))
    (Host.gather gather_S8192x8192_S32x512x1_S32x512x8192_2_0_n_n_0_2_18192 Tb (wrapRow a))
    (broadcastInDim S32x512x8192 ![] bcast_S_S32x512x8192 (constant S_ .f32 0x7FC00000#32)))
    shapeCasts_S32x512x8192_S16384x8192

/-- A small word reads the same signed and unsigned. -/
theorem toInt_small (w : BitVec 32) (h : w.toNat < 8192) : w.toInt = w.toNat :=
  BitVec.toInt_eq_toNat_of_lt (by omega)

/-- A small word is not counted from the end. -/
theorem wrap_small (w v : BitVec 32) (h : w.toNat < 8192) : Scalar.select (IntOp.cmpi .slt w 0#32) v w = w := by
  unfold Scalar.select
  refine if_neg fun q => ?_
  have q' := IntOp.cmpi_slt.mp q
  rw [toInt_small w h] at q'
  exact absurd q' (by simp)

/-- A small word passes both comparisons. -/
theorem ok_small (w : BitVec 32) (h : w.toNat < 8192) :
    IntOp.andi (IntOp.cmpi .sge w 0#32) (IntOp.cmpi .sle w 8191#32) = 1#1 := by
  refine IntOp.andi_eq_one.mpr ⟨IntOp.cmpi_sge.mpr ?_, IntOp.cmpi_sle.mpr ?_⟩
  · rw [toInt_small w h]
    exact Int.natCast_nonneg _
  · rw [toInt_small w h, toInt_small 8191#32 (by decide)]
    exact Int.ofNat_le.mpr (Nat.le_of_lt_succ h)

/-- An index in range is not counted from the end. -/
theorem wrapRow_apply (a : IVec S32x512 32) (h : ∀ i, (a i).toNat < 8192) (p : Fin 32) (q : Fin 512) (z : Fin 1) :
    wrapRow a (ix3 p q z) = a (ix2 p q) := by
  pointwise [wrapRow]
  exact wrap_small _ _ (h _)

/-- Indices in range pass the test. -/
theorem okRow_one (w : IVec S32x512x1 32) (h : ∀ i, (w i).toNat < 8192) (j : S32x512.Idx) : okRow w j = 1#1 := by
  unfold okRow
  refine Host.reduce_andi_one _ _ _ _ _ rfl fun i => ?_
  idx_vars i
  pointwise
  exact ok_small _ (h _)

/-- The start an index word gives. -/
theorem start_small (w : BitVec 32) (h : w.toNat < 8192) : min w.toInt.toNat 8191 = (Cert.KernelIdeal.Canon.rowOf w).val := by
  have e : (Cert.KernelIdeal.Canon.rowOf w).val = w.toNat := Nat.mod_eq_of_lt h
  rw [toInt_small w h, e, Int.toNat_natCast]
  omega

/-- The gather of rows reads the row the index names. -/
theorem take_apply (Tb : FVec Ideal S8192x8192 .f32) (w : IVec S32x512x1 32) (p : Fin 32) (q : Fin 512) (k : Fin 8192)
    (h : (w (ix3 p q 0)).toNat < 8192) :
    Host.gather gather_S8192x8192_S32x512x1_S32x512x8192_2_0_n_n_0_2_18192 Tb w (ix3 p q k)
      = Tb (ix2 (Cert.KernelIdeal.Canon.rowOf (w (ix3 p q 0))) k) := by
  unfold Host.gather
  refine congrArg Tb (funext fun a => Fin.ext ?_)
  match a with
  | ⟨0, _⟩ =>
    refine Eq.trans ?_ (start_small _ h)
    show GatherDims.start _ (ix3 p q k) w 0 + GatherDims.batchCoord _ (ix3 p q k) 0 + GatherDims.offCoord _ (ix3 p q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (0 : Fin 2) ∈ GatherDims.startIndexMap gather_S8192x8192_S32x512x1_S32x512x8192_2_0_n_n_0_2_18192 := List.mem_singleton.mpr rfl
    rw [dif_pos hm]
    refine congrArg (fun i => min (w i).toInt.toNat 8191) (funext fun b => Fin.ext ?_)
    match b with
    | ⟨0, _⟩ => rfl
    | ⟨1, _⟩ => rfl
    | ⟨2, _⟩ => rfl
  | ⟨1, _⟩ =>
    show GatherDims.start _ (ix3 p q k) w 1 + GatherDims.batchCoord _ (ix3 p q k) 1 + GatherDims.offCoord _ (ix3 p q k) 1 = _
    rw [GatherDims.batchCoord_eq_zero _ _ _ List.not_mem_nil]
    unfold GatherDims.start
    have hm : ¬ (1 : Fin 2) ∈ GatherDims.startIndexMap gather_S8192x8192_S32x512x1_S32x512x8192_2_0_n_n_0_2_18192 := fun h => absurd (List.mem_singleton.mp h) (by decide)
    rw [dif_neg hm]
    simp only [Nat.add_zero, Nat.zero_add]
    rfl

/-- Word `p` of the flattened indices. -/
theorem word_apply (a : IVec S32x512 32) (h : S32x512.ShapeCasts S16384) (p : Fin 16384) :
    Cert.KernelIdeal.Canon.wd (F := Ideal) (shapeCast S16384 a h) p.val
      = a (ix2 ⟨p.val / 512, by omega⟩ ⟨p.val % 512, by omega⟩) := by
  have e : Cert.KernelIdeal.Canon.wd (F := Ideal) (shapeCast S16384 a h) p.val = shapeCast S16384 a h (ix1 p) :=
    congrArg (fun q => shapeCast S16384 a h (ix1 q)) (Fin.ext (Nat.mod_eq_of_lt p.isLt))
  rw [e]
  pointwise

/-- The rows taken are the table's rows the flattened indices name. -/
theorem rows_apply (a : IVec S32x512 32) (Tb : FVec Ideal S8192x8192 .f32) (h : ∀ i, (a i).toNat < 8192)
    (hc : S32x512.ShapeCasts S16384) (p : Fin 16384) (k : Fin 8192) :
    rows a Tb (ix2 p k)
      = Tb (ix2 (Cert.KernelIdeal.Canon.rowOf (Cert.KernelIdeal.Canon.wd (F := Ideal) (shapeCast S16384 a hc) p.val)) k) := by
  have hw : ∀ i, (wrapRow a i).toNat < 8192 := fun i => by
    idx_vars i
    rw [wrapRow_apply a h]
    exact h _
  pointwise [rows]
  rw [okRow_one _ hw, take_apply _ _ _ _ _ (hw _), wrapRow_apply a h, word_apply]
  rfl

end Cert.ReferenceIdeal.Hand

end
-- ==== Proof.Ref.Loss.lean ====
/- The reference's loss: each row's entry at its target, and the mean of the logarithms less the entries. -/
module

public import proofs.«01_k».proof.Proof.Ref.Take

@[expose] public section

set_option maxRecDepth 16384

noncomputable section

namespace Cert.ReferenceIdeal.Hand

open Cert.ReferenceIdeal Cert.ReferenceIdeal.Gen
open Idealize.ShloMosaic
open Cert.KernelIdeal.Canon (rowOf)

/-- The targets as a column, one counted from the end where it is negative. -/
def wrapCol (t : IVec S16384 32) : IVec S16384x1x1 32 :=
  shapeCast _ (select (cmpi .slt (broadcastInDim S16384x1 ![0] bcast_S16384_S16384x1_0 t)
      (broadcastInDim S16384x1 ![] bcast_S_S16384x1 (constantI S_ 32 0#32)))
    (addi (broadcastInDim S16384x1 ![0] bcast_S16384_S16384x1_0 t)
      (broadcastInDim S16384x1 ![] bcast_S_S16384x1 (constantI S_ 32 8192#32)))
    (broadcastInDim S16384x1 ![0] bcast_S16384_S16384x1_0 t)) shapeCasts_S16384x1_S16384x1x1

/-- Whether a target names a column. -/
def okCol (w : IVec S16384x1x1 32) : IVec S16384x1 1 :=
  Host.reduce IntOp.andi
    (andi (cmpi .sge w (broadcastInDim S16384x1x1 ![] bcast_S_S16384x1x1 (constantI S_ 32 0#32)))
      (cmpi .sle w (broadcastInDim S16384x1x1 ![0, 1, 2] bcast_S1x1x1_S16384x1x1_0_1_2
        (broadcastInDim S1x1x1 ![2] bcast_S1_S1x1x1_2 (constantI S1 32 8191#32)))))
    (constantI S_ 1 1#1) reducesTo_S16384x1x1_S16384x1_d2 h_S_

/-- Each row's entry at its target. -/
def entries (x : FVec Ideal S16384x8192 .f32) (t : IVec S16384 32) : FVec Ideal S16384 .f32 :=
  shapeCast _ (select (okCol (wrapCol t))
    (Host.gather gather_S16384x8192_S16384x1x1_S16384x1_n_1_0_0_1_2_11 x (wrapCol t))
    (broadcastInDim S16384x1 ![] bcast_S_S16384x1 (constant S_ .f32 0x7FC00000#32))) shapeCasts_S16384x1_S16384

/-- Each row's largest entry. -/
def most (x : FVec Ideal S16384x8192 .f32) : FVec Ideal S16384 .f32 :=
  Host.reduce FloatOps.maximumf x (constant S_ .f32 0xFF800000#32) reducesTo_S16384x8192_S16384_d1 h_S_

/-- A row's shift from its largest entry: the entry, zero where that is not finite. -/
def shiftOf (y : FVec Ideal S16384 .f32) : FVec Ideal S16384 .f32 :=
  select (cmpf .olt (Host.absf y) (broadcastInDim S16384 ![] bcast_S_S16384 (constant S_ .f32 0x7F800000#32)))
    y (broadcastInDim S16384 ![] bcast_S_S16384 (id (constant S_ .f32 0x00000000#32)))

/-- Each row's shift. -/
def shift (x : FVec Ideal S16384x8192 .f32) : FVec Ideal S16384 .f32 := shiftOf (most x)

/-- Each row's logarithm of its sum of exponentials, computed shifted. -/
def logs (x : FVec Ideal S16384x8192 .f32) : FVec Ideal S16384 .f32 :=
  addf (Host.log (Host.reduceAdd (Host.exp (subf x (broadcastInDim S16384x8192 ![0, 1] bcast_S16384x1_S16384x8192_0_1
    (broadcastInDim S16384x1 ![0] bcast_S16384_S16384x1_0 (shift x)))))
    (constant S_ .f32 0x00000000#32) reducesTo_S16384x8192_S16384_d1 h_S_)) (shift x)

/-- The mean of the logarithms less the entries at the targets. -/
def lossOf (x : FVec Ideal S16384x8192 .f32) (t : IVec S16384 32) : FVec Ideal S_ .f32 :=
  Host.divf (Host.reduceAdd (subf (logs x) (entries x t)) (constant S_ .f32 0x00000000#32) reducesTo_S16384_S_d0 h_S_)
    (constant S_ .f32 0x46800000#32)

/-- A target in range is not counted from the end. -/
theorem wrapCol_apply (t : IVec S16384 32) (h : ∀ i, (t i).toNat < 8192) (p : Fin 16384) (z y : Fin 1) :
    wrapCol t (ix3 p z y) = t (ix1 p) := by
  pointwise [wrapCol]
  exact wrap_small _ _ (h _)

/-- Targets in range pass the test. -/
theorem okCol_one (w : IVec S16384x1x1 32) (h : ∀ i, (w i).toNat < 8192) (j : S16384x1.Idx) : okCol w j = 1#1 := by
  unfold okCol
  refine Host.reduce_andi_one _ _ _ _ _ rfl fun i => ?_
  idx_vars i
  pointwise
  exact ok_small _ (h _)

/-- The gather along a row reads the entry at the target. -/
theorem along_apply (x : FVec Ideal S16384x8192 .f32) (w : IVec S16384x1x1 32) (p : Fin 16384) (z : Fin 1)
    (h : (w (ix3 p z 0)).toNat < 8192) :
    Host.gather gather_S16384x8192_S16384x1x1_S16384x1_n_1_0_0_1_2_11 x w (ix2 p z) = x (ix2 p (rowOf (w (ix3 p z 0)))) := by
  unfold Host.gather
  refine congrArg x (funext fun a => Fin.ext ?_)
  match a with
  | ⟨0, _⟩ =>
    show GatherDims.start _ (ix2 p z) w 0 + GatherDims.batchCoord _ (ix2 p z) 0 + GatherDims.offCoord _ (ix2 p z) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    have hm : (0 : Fin 2) ∈ GatherDims.operandBatchingDims gather_S16384x8192_S16384x1x1_S16384x1_n_1_0_0_1_2_11 := List.mem_singleton.mpr rfl
    rw [dif_pos hm]
    rfl
  | ⟨1, _⟩ =>
    refine Eq.trans ?_ (start_small _ h)
    show GatherDims.start _ (ix2 p z) w 1 + GatherDims.batchCoord _ (ix2 p z) 1 + GatherDims.offCoord _ (ix2 p z) 1 = _
    rw [GatherDims.batchCoord_eq_zero _ _ _ (show ¬ (1 : Fin 2) ∈ GatherDims.operandBatchingDims gather_S16384x8192_S16384x1x1_S16384x1_n_1_0_0_1_2_11 from fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    have hm : (1 : Fin 2) ∈ GatherDims.startIndexMap gather_S16384x8192_S16384x1x1_S16384x1_n_1_0_0_1_2_11 := List.mem_singleton.mpr rfl
    rw [dif_pos hm]
    refine congrArg (fun i => min (w i).toInt.toNat 8191) (funext fun b => Fin.ext ?_)
    match b with
    | ⟨0, _⟩ => rfl
    | ⟨1, _⟩ => rfl
    | ⟨2, _⟩ => rfl

/-- A row's entry at its target. -/
theorem entries_apply (x : FVec Ideal S16384x8192 .f32) (t : IVec S16384 32) (h : ∀ i, (t i).toNat < 8192) (p : Fin 16384) :
    entries x t (ix1 p) = x (ix2 p (rowOf (t (ix1 p)))) := by
  have hw : ∀ i, (wrapCol t i).toNat < 8192 := fun i => by
    idx_vars i
    rw [wrapCol_apply t h]
    exact h _
  pointwise [entries]
  rw [okCol_one _ hw, along_apply _ _ _ _ (hw _), wrapCol_apply t h]
  rfl

/-- Each row's largest entry, as a fold. -/
theorem most_apply (x : FVec Ideal S16384x8192 .f32) (p : Fin 16384) :
    (most x (ix1 p) : EReal) = Finset.fold max (Ideal.ofBits .f32 0xFF800000#32) (fun k : Fin 8192 => (x (ix2 p k) : EReal)) Finset.univ := by
  pointwise [most]

/-- A row's shift, from its largest entry. -/
theorem shiftOf_apply (y : FVec Ideal S16384 .f32) (p : Fin 16384) :
    (shiftOf y (ix1 p) : EReal) = if max (y (ix1 p) : EReal) (-(y (ix1 p) : EReal)) < Ideal.ofBits .f32 0x7F800000#32
      then (y (ix1 p) : EReal) else 0 := by
  unfold shiftOf
  rw [id_eq]
  pointwise
  rfl

/-- Each row's logarithm. -/
theorem logs_apply (x : FVec Ideal S16384x8192 .f32) (p : Fin 16384) :
    (logs x (ix1 p) : EReal)
      = Ideal.log (∑ k : Fin 8192, Ideal.exp ((x (ix2 p k) : EReal) - (shift x (ix1 p) : EReal))) + (shift x (ix1 p) : EReal) := by
  pointwise [logs]

/-- The loss. -/
theorem lossOf_apply (x : FVec Ideal S16384x8192 .f32) (t : IVec S16384 32) (i : S_.Idx) :
    (lossOf x t i : EReal)
      = Ideal.div (∑ p : Fin 16384, ((logs x (ix1 p) : EReal) - (entries x t (ix1 p) : EReal))) (Ideal.ofBits .f32 0x46800000#32) := by
  pointwise [lossOf]

end Cert.ReferenceIdeal.Hand

end
-- ==== Proof.Ref.Results.lean ====
/- The reference's run, its results named. -/
module

public import proofs.«01_k».proof.Proof.Ref.Loss

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

/-- The loss the run ends with. -/
theorem loss_res (m : (ℓ : Loc nD τ sig) → Buf (Elt Ideal) ℓ) (c : Dev nD) :
    Value.res_main_v20 (F := Ideal) m c
      = lossOf (rows (m ((c.tc : Thread nD τ).loc main_arg0)) (m ((c.tc : Thread nD τ).loc main_arg2)))
          (shapeCast S16384 (m ((c.tc : Thread nD τ).loc main_arg1)) shapeCasts_S32x512_S16384) := rfl

/-- The reference runs to the rows taken and the loss. -/
theorem results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1)
        = rows (m ((c.tc : Thread nD τ).loc main_arg0)) (m ((c.tc : Thread nD τ).loc main_arg2))
      ∧ r.2.mem ((c.tc : Thread nD τ).loc main_v20)
        = lossOf (rows (m ((c.tc : Thread nD τ).loc main_arg0)) (m ((c.tc : Thread nD τ).loc main_arg2)))
          (shapeCast S16384 (m ((c.tc : Thread nD τ).loc main_arg1)) shapeCasts_S32x512_S16384)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1, (h c).2.1.trans (loss_res m c), (h c).2.2⟩) (Value.run m g)

end Cert.ReferenceIdeal.Hand

end
-- ==== Proof.Ideal.Values.lean ====
/- What the call's two arrays end holding: the table's rows named by the first words, and the loss. -/
module

public import proofs.«01_k».proof.Proof.Ideal.Ends
public import Idealize.ShloMosaic.Lib.Pipeline.ValueKit
public import Idealize.ShloMosaic.Lib.Pipeline.Covers

@[expose] public section

set_option maxRecDepth 16384

noncomputable section

namespace Cert.KernelIdeal.Canon

open Cert.KernelIdeal Cert.KernelIdeal.Gen
open Idealize.ShloMosaic Idealize.ShloMosaic.TcCoe Idealize.ShloMosaic.Pipeline
open Idealize.SL.Sem

variable {F : FTy → Type} [FloatOps F]
variable (m : (ℓ : Loc nD τ sig) → Buf (Elt F) ℓ) (c : Dev nD) (hW : ∀ c, InRange (F := F) (words1 m c))

/-- The rows of the table that the words name, in order. -/
def rowsVal (W1 : S16384.Idx → Elt F .i32) (Tb : S8192x8192.Idx → Elt F .f32) : S16384x8192.Idx → Elt F .f32 :=
  fun i => Tb (ix2 (rowOf (wd W1 (i 0).val)) (i 1))

/-- Step `n`'s block of rows is the `n`-th. -/
theorem map_rows : ∀ n : Fin 64, cc0_transform_1 (pt n) = ![n.val, 0] := by decide +kernel

/-- Every step's loss block is the whole array. -/
theorem map_loss : ∀ n : Fin 64, cc0_transform_2 (pt n) = ![0, 0] := by decide +kernel

/-- The block of rows at a step. -/
theorem index_rows (t : Fin (call m).grid.N) : ((call m).win 0).index t = ![t.val, 0] := by
  show cc0_transform_1 (grid0.coords t) = _
  rw [coords_eq, map_rows]

/-- The block of the loss at a step. -/
theorem index_loss (t : Fin (call m).grid.N) : ((call m).win 1).index t = ![0, 0] := by
  show cc0_transform_2 (grid0.coords t) = _
  rw [coords_eq, map_loss]

/-- A block of rows is not empty. -/
theorem size_pos : ∀ a : Fin 2, 0 < S256x8192.size a := by decide

/-- There are 64 blocks of rows. -/
theorem nblk_rows0 : ((call m).win 0).nblk (0 : Fin 2) = 64 := by
  show (16384 + 256 - 1) / 256 = 64
  decide

/-- A block holds whole rows. -/
theorem nblk_rows1 : ((call m).win 0).nblk (1 : Fin 2) = 1 := by
  show (8192 + 8192 - 1) / 8192 = 1
  decide

/-- The steps write every block of rows. -/
theorem covers_rows : ((call m).win 0).Covers := by
  refine ((call m).win 0).covers_of_indexMap_surj rfl size_pos fun β => ?_
  have h0 : (β (0 : Fin 2)).val < 64 := lt_of_lt_of_eq (β (0 : Fin 2)).isLt (nblk_rows0 m)
  have h1 : (β (1 : Fin 2)).val < 1 := lt_of_lt_of_eq (β (1 : Fin 2)).isLt (nblk_rows1 m)
  refine ⟨pt ⟨(β (0 : Fin 2)).val, h0⟩, fun a => ?_⟩
  show cc0_transform_1 (pt ⟨(β (0 : Fin 2)).val, h0⟩) a = β a
  rw [map_rows]
  match a with
  | ⟨0, _⟩ => rfl
  | ⟨1, _⟩ => exact (Nat.lt_one_iff.mp h1).symm

set_option backward.isDefEq.respectTransparency.types false in
/-- The row window's array. -/
theorem rows_arr : (dats m hW 0 c).arrAt 0 (call m).N = rowsVal (words1 m c) (table m c) := by
  refine (dats m hW 0 c).arrAt_eq_of_covers 0 _ (covers_rows m) fun t hf y => ?_
  have e0 : (((((call m).win 0).blk t).view.emb y) (0 : Fin 2)).val = t.val * 256 + (y (0 : Fin 2)).val := by
    blk_simp
    rw [index_rows m t]
    rfl
  have e1 : (((((call m).win 0).blk t).view.emb y) (1 : Fin 2)).val = (y (1 : Fin 2)).val := by
    blk_simp
    rw [index_rows m t]
    exact (congrArg (· + (y (1 : Fin 2)).val) (Nat.zero_mul 8192)).trans (Nat.zero_add _)
  blk_simp
  show table m c (ix2 (rowOf (wd (words1 m c) (t.val * 256 + (y (0 : Fin 2)).val))) _) = table m c (ix2 (rowOf (wd (words1 m c) _)) _)
  rw [e0]
  refine congrArg (fun k => table m c (ix2 (rowOf (wd (words1 m c) (t.val * 256 + (y (0 : Fin 2)).val))) k)) (Fin.ext ?_)
  exact e1.symm

/-- The last step writes the whole loss array. -/
theorem whole_loss (t₀ : Fin (call m).grid.N) (h : t₀.val = 63) : ((call m).win 1).WholeAt t₀ := by
  have hN : grid0.N = 64 := N_0
  refine ⟨?_, fun t ht => ?_, fun a => ⟨?_, ?_⟩⟩
  · unfold Window.flush
    refine Bool.and_eq_true_iff.mpr ⟨rfl, Bool.or_eq_true_iff.mpr (.inl (decide_eq_true ?_))⟩
    show t₀.val + 1 = grid0.N
    omega
  · by_contra hne
    have h63 : ¬t.val = 63 := fun e => hne (Fin.ext (e.trans h.symm))
    exact absurd ht (by rw [flush_loss m t h63]; exact Bool.false_ne_true)
  · rw [index_loss]
    match a with
    | ⟨0, _⟩ => rfl
    | ⟨1, _⟩ => rfl
  · match a with
    | ⟨0, _⟩ => rfl
    | ⟨1, _⟩ => rfl

/-- The last step. -/
def last : Fin (call m).grid.N := ⟨63, by rw [show (call m).grid.N = 64 from N_0]; decide⟩

set_option backward.isDefEq.respectTransparency.types false in
/-- The loss window's array. -/
theorem loss_arr : (dats m hW 0 c).arrAt 1 (call m).N = lossVal (words1 m c) (words2 m c) (table m c) := by
  refine (dats m hW 0 c).arrAt_eq_of_after_last 1 (last m) (whole_loss m _ rfl) _ fun j => ?_
  blk_simp
  rfl

end Cert.KernelIdeal.Canon

end
-- ==== Proof.LogSum.lean ====
/- Logarithms of sums of exponentials over the extended reals: shifting the exponents shifts the logarithm. -/
module

public import proofs.«01_k».proof.Proof.Ref.Loss

@[expose] public section

set_option maxRecDepth 16384

noncomputable section

namespace Cert.Equal

open Idealize.ShloMosaic

/-- Below the top, the exponential is a real number, and a real shift of the exponent scales it. -/
theorem exp_shift (x : EReal) (hx : x < ⊤) (s : ℝ) :
    ∃ e : ℝ, 0 ≤ e ∧ Ideal.exp x = (e : EReal) ∧ Ideal.exp (x - s) = ((e * Real.exp (-s) : ℝ) : EReal) := by
  induction x with
  | bot => exact ⟨0, le_rfl, rfl, by rw [EReal.bot_sub, zero_mul]; rfl⟩
  | coe r =>
    refine ⟨Real.exp r, (Real.exp_pos r).le, rfl, ?_⟩
    rw [← EReal.coe_sub, Ideal.exp_coe, sub_eq_add_neg, Real.exp_add]
  | top => exact absurd hx (lt_irrefl _)

/-- A sum of reals, among the extended reals. -/
theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- Scaling a real scales the logarithm by a shift. -/
theorem log_scale (a : ℝ) (ha : 0 ≤ a) (s : ℝ) :
    Ideal.log ((a * Real.exp (-s) : ℝ) : EReal) + (s : EReal) = Ideal.log (a : EReal) := by
  rcases ha.eq_or_lt with rfl | h
  · rw [zero_mul, Ideal.log_coe, if_pos le_rfl, EReal.bot_add]
  · have h' := mul_pos h (Real.exp_pos (-s))
    rw [Ideal.log_coe, Ideal.log_coe, if_neg h'.not_ge, if_neg h.not_ge, ← EReal.coe_add,
      Real.log_mul h.ne' (Real.exp_pos _).ne', Real.log_exp, neg_add_cancel_right]

/-- The logarithm of a sum of exponentials, computed with a real shift. -/
theorem logSum_shift {n : Nat} (x : Fin n → EReal) (hx : ∀ k, x k < ⊤) (s : ℝ) :
    Ideal.log (∑ k, Ideal.exp (x k - s)) + (s : EReal) = Ideal.log (∑ k, Ideal.exp (x k)) := by
  choose e h0 h1 h2 using fun k => exp_shift (x k) (hx k) s
  rw [Finset.sum_congr rfl fun k _ => h1 k, Finset.sum_congr rfl fun k _ => h2 k, sum_coe, sum_coe, ← Finset.sum_mul]
  exact log_scale _ (Finset.sum_nonneg fun k _ => h0 k) s

/-- The words of the two infinities. -/
theorem word_top : Ideal.ofBits .f32 0x7F800000#32 = ⊤ := by simp [Ideal.ofBits, Ideal.ieee]
@[inherit_doc word_top]
theorem word_bot : Ideal.ofBits .f32 0xFF800000#32 = ⊥ := by simp [Ideal.ofBits, Ideal.ieee]

/-- Below the top, a largest entry or the zero in its stead is a real number. -/
theorem shift_real (y : EReal) (hy : y < ⊤) : ∃ s : ℝ, (if max y (-y) < ⊤ then y else 0) = (s : EReal) := by
  induction y with
  | bot => exact ⟨0, if_neg (by simp)⟩
  | coe r => exact ⟨r, if_pos (max_lt (EReal.coe_lt_top r) (by rw [← EReal.coe_neg]; exact EReal.coe_lt_top _))⟩
  | top => exact absurd hy (lt_irrefl _)

/-- The largest of numbers below the top lies below the top. -/
theorem fold_max_lt_top {ι : Type} (s : Finset ι) (b : ι → EReal) (hb : ∀ i, b i < ⊤) : Finset.fold max ⊥ b s < ⊤ := by
  classical
  induction s using Finset.induction_on with
  | empty => exact bot_lt_top
  | insert a s ha ih =>
    rw [Finset.fold_insert ha]
    exact max_lt (hb a) ih

/-- A sum of numbers below the top lies below the top. -/
theorem sum_lt_top {ι : Type} (s : Finset ι) (b : ι → EReal) (hb : ∀ i, b i < ⊤) : ∑ i ∈ s, b i < ⊤ := by
  classical
  induction s using Finset.induction_on with
  | empty => exact EReal.zero_lt_top
  | insert a s ha ih =>
    rw [Finset.sum_insert ha]
    exact EReal.add_lt_top (hb a).ne ih.ne

/-- The negative of a sum of numbers below the top is the sum of the negatives. -/
theorem neg_sum {ι : Type} (s : Finset ι) (b : ι → EReal) (hb : ∀ i, b i < ⊤) : -(∑ i ∈ s, b i) = ∑ i ∈ s, -b i := by
  classical
  induction s using Finset.induction_on with
  | empty => simp
  | insert a s ha ih =>
    rw [Finset.sum_insert ha, Finset.sum_insert ha, EReal.neg_add (Or.inr (sum_lt_top s b hb).ne) (Or.inl (hb a).ne),
      sub_eq_add_neg, ih]

/-- A sum of differences, what is taken away lying below the top, is the difference of the sums. -/
theorem sum_sub {ι : Type} (s : Finset ι) (a b : ι → EReal) (hb : ∀ i, b i < ⊤) :
    ∑ i ∈ s, (a i - b i) = (∑ i ∈ s, a i) - ∑ i ∈ s, b i := by
  rw [sub_eq_add_neg, neg_sum s b hb, ← Finset.sum_add_distrib]
  exact Finset.sum_congr rfl fun i _ => sub_eq_add_neg _ _

end Cert.Equal

end
-- ==== Proof.Equal.lean ====
/- The kernel's results are the reference's, over the extended reals, where the indices name rows and columns of the table and the
   table's entries lie below +∞. -/
module

public import proofs.«01_k».proof.Proof.Ideal.Values
public import proofs.«01_k».proof.Proof.LogSum

@[expose] public section

set_option maxRecDepth 16384

noncomputable section

namespace Cert.Equal

open Cert.KernelIdeal Cert.KernelIdeal.Canon Cert.KernelIdeal.Sums
open Cert.ReferenceIdeal.Hand (rows most shift shiftOf logs entries)
open Idealize.ShloMosaic

/-- The rows written are the rows taken. -/
theorem rows_eq (a : IVec S32x512 32) (Tb : FVec Ideal S8192x8192 .f32) (h : ∀ i, (a i).toNat < 8192) (hc : S32x512.ShapeCasts S16384) :
    rows a Tb = rowsVal (F := Ideal) (shapeCast S16384 a hc) Tb := by
  funext i
  idx_vars i
  exact Cert.ReferenceIdeal.Hand.rows_apply a Tb h hc _ _

/-- A word counted below 16384 is the word at that place. -/
theorem wd_apply (W : S16384.Idx → BitVec 32) (p : Fin 16384) : wd (F := Ideal) W p.val = W (ix1 p) :=
  congrArg (fun q => W (ix1 q)) (Fin.ext (Nat.mod_eq_of_lt p.isLt))

/-- A row's shift is a real number where its entries lie below +∞. -/
theorem shift_coe (x : FVec Ideal S16384x8192 .f32) (p : Fin 16384) (hx : ∀ k : Fin 8192, (x (ix2 p k) : EReal) < ⊤) :
    ∃ s : ℝ, (shift x (ix1 p) : EReal) = (s : EReal) := by
  have hm : (most x (ix1 p) : EReal) < ⊤ := by
    rw [Cert.ReferenceIdeal.Hand.most_apply, word_bot]
    exact fold_max_lt_top Finset.univ _ hx
  obtain ⟨s, hs⟩ := shift_real (most x (ix1 p)) hm
  refine ⟨s, (Cert.ReferenceIdeal.Hand.shiftOf_apply (most x) p).trans ?_⟩
  rw [word_top]
  exact hs

/-- A row's logarithm, computed shifted, is the logarithm. -/
theorem logs_eq (x : FVec Ideal S16384x8192 .f32) (p : Fin 16384) (hx : ∀ k : Fin 8192, (x (ix2 p k) : EReal) < ⊤) :
    (logs x (ix1 p) : EReal) = Ideal.log (∑ k : Fin 8192, Ideal.exp (x (ix2 p k))) := by
  obtain ⟨s, hs⟩ := shift_coe x p hx
  rw [Cert.ReferenceIdeal.Hand.logs_apply, hs]
  exact logSum_shift (fun k => (x (ix2 p k) : EReal)) hx s

/-- The loss written is the mean of the logarithms less the entries at the targets. -/
theorem loss_eq (a b : IVec S32x512 32) (Tb : FVec Ideal S8192x8192 .f32) (ha : ∀ i, (a i).toNat < 8192) (hb : ∀ i, (b i).toNat < 8192)
    (ht : ∀ i, (Tb i : EReal) < ⊤) (hc : S32x512.ShapeCasts S16384) (i : S_.Idx) (j : S1x1.Idx) :
    (Cert.ReferenceIdeal.Hand.lossOf (rows a Tb) (shapeCast S16384 b hc) i : EReal)
      = lossVal (F := Ideal) (shapeCast S16384 a hc) (shapeCast S16384 b hc) Tb j := by
  have hr := fun p k => Cert.ReferenceIdeal.Hand.rows_apply a Tb ha hc p k
  have hb' : ∀ i, (shapeCast S16384 b hc i).toNat < 8192 := fun i => hb _
  rw [lossVal_eq (shapeCast S16384 a hc) (shapeCast S16384 b hc) Tb (fun n => hb' _), ← sum_sub Finset.univ (fun p : Fin 16384 => logz (shapeCast S16384 a hc) Tb p.val)
      (fun p => pick (shapeCast S16384 a hc) (shapeCast S16384 b hc) Tb p.val) (fun p => ht _), Cert.ReferenceIdeal.Hand.lossOf_apply]
  refine congrArg (fun s : EReal => Ideal.div s (Ideal.ofBits .f32 0x46800000#32)) (Finset.sum_congr rfl fun p _ => ?_)
  refine congrArg₂ (fun u v : EReal => u - v) ?_ ?_
  · rw [logs_eq _ p fun k => by rw [hr]; exact ht _]
    exact congrArg Ideal.log (Finset.sum_congr rfl fun k _ => congrArg Ideal.exp (hr p k))
  · rw [Cert.ReferenceIdeal.Hand.entries_apply _ _ hb', hr, ← wd_apply (shapeCast S16384 b hc) p]
    rfl

end Cert.Equal

end
-- ==== Proof.lean ====
module

public import proofs.«01_k».proof.Defs
public import proofs.«01_k».proof.Proof.Pre
public import proofs.«01_k».proof.Proof.Bits.Frame
public import proofs.«01_k».proof.Proof.Ref.Results
public import proofs.«01_k».proof.Proof.Equal

@[expose] public section

set_option maxRecDepth 16384

noncomputable section

namespace Cert.Proof

open Idealize.ShloMosaic Idealize.SL.Sem

/-- The kernel's run. -/
theorem kernel_runs : Cert.quiescent_Kernel := fun m g h =>
  Cert.Bits.frame m g fun c => (Cert.Pre.in_range _ _ _ (h c)).1

/-- The idealized kernel's run. -/
theorem ideal_runs : Cert.quiescent_KernelIdeal := fun m g h =>
  Cert.KernelIdeal.Canon.frame m g fun c => (Cert.Pre.in_range _ _ _ (h c)).1

/-- The idealized kernel's run where the table lies below +∞. -/
theorem ideal_runs_below : Cert.quiescent_KernelIdeal_pre_below_inf := fun m g h =>
  Cert.KernelIdeal.Canon.frame m g fun c => (Cert.Pre.below _ _ _ (h c)).1.1

/-- An entry that compares below the word of +∞ lies below +∞. -/
theorem below_top (x : Ideal .f32) (h : FloatOps.cmpf .olt x (FloatOps.ofBits (F := Ideal) .f32 0x7F800000#32) = 1#1) : (x : EReal) < ⊤ := by
  have e : (x : EReal) < Ideal.ofBits .f32 0x7F800000#32 := by
    by_contra hn
    exact absurd h (by
      show ¬ BitVec.ofBool (decide ((x : EReal) < Ideal.ofBits .f32 0x7F800000#32)) = 1#1
      rw [decide_eq_false hn]
      decide)
  rwa [Cert.Equal.word_top] at e

/-- The kernel's rows and loss are the reference's. -/
theorem equal : Cert.algebraic_KernelIdeal_ReferenceIdeal_pre_below_inf := fun m g m' g' h e => by
  have hp := fun c => Cert.Pre.below _ _ _ (h c)
  have hW := Cert.KernelIdeal.Canon.inRange_words m fun c => (hp c).1.1
  refine ⟨fun c => Cert.KernelIdeal.Canon.rowsVal (Cert.KernelIdeal.Canon.words1 m c) (Cert.KernelIdeal.Canon.table m c),
    fun c => shapeCast Cert.KernelIdeal.S_
      (Cert.KernelIdeal.Canon.lossVal (Cert.KernelIdeal.Canon.words1 m c) (Cert.KernelIdeal.Canon.words2 m c) (Cert.KernelIdeal.Canon.table m c))
      Cert.KernelIdeal.Gen.shapeCasts_S1x1_S_, ?_, ?_⟩
  · refine (θ_run _ _ _).mono (fun r hr c => ?_) (Cert.KernelIdeal.Canon.runs m hW g)
    refine ⟨((hr.1 c).1 0).trans (Cert.KernelIdeal.Canon.rows_arr m c hW), ?_, Cert.KernelIdeal.Canon.args_kept m c hW hr⟩
    rw [Cert.KernelIdeal.Canon.loss_end m c hW hr, Cert.KernelIdeal.Canon.loss_arr m c hW]
    rfl
  · refine (θ_run _ _ _).mono (fun r hr c => ?_) (Cert.ReferenceIdeal.Hand.results m' g')
    obtain ⟨h1, h2, h3⟩ := hr c
    obtain ⟨e0, e1, e2⟩ := e c
    rw [e0, e2] at h1
    rw [e0, e1, e2] at h2
    refine ⟨h1.trans (Cert.Equal.rows_eq _ _ (hp c).1.1 _), h2.trans (funext fun i => ?_), h3⟩
    exact Cert.Equal.loss_eq _ _ _ (hp c).1.1 (hp c).1.2 (fun i => below_top _ ((hp c).2 i)) _ i _

/-- All the claims, with the facts that the programs and the preconditions state. -/
theorem claim : Cert.Claim := ⟨Cert.Kernel.Gen.facts, Cert.KernelIdeal.Gen.facts, Cert.ReferenceIdeal.Gen.facts, Cert.Pre_in_range.Gen.facts,
  Cert.Pre.belowFacts, kernel_runs, ideal_runs, ideal_runs_below, fun m g _ => Cert.ReferenceIdeal.Hand.frame m g,
  fun m g _ => Cert.ReferenceIdeal.Hand.frame m g, trivial, equal⟩

end Cert.Proof

end
